-- ==== Defs.lean ====
def Pre_Kernel [hPre_tile_experts : Cert.Pre_tile_experts.Facts] (m : (ℓ : Loc Cert.Kernel.nD Cert.Kernel.τ Cert.Kernel.sig) → Buf (Elt Bits) ℓ) : Prop :=
  ∀ c : Dev Cert.Kernel.nD,
    (Cert.Pre_tile_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_tile_experts : Cert.Pre_tile_experts.Facts] (m : (ℓ : Loc Cert.KernelIdeal.nD Cert.KernelIdeal.τ Cert.KernelIdeal.sig) → Buf (Elt Ideal) ℓ) : Prop :=
  ∀ c : Dev Cert.KernelIdeal.nD,
    (Cert.Pre_tile_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_tiles_filled [hPre_tiles_filled : Cert.Pre_tiles_filled.Facts] (m : (ℓ : Loc Cert.KernelIdeal.nD Cert.KernelIdeal.τ Cert.KernelIdeal.sig) → Buf (Elt Ideal) ℓ) : Prop :=
  ∀ c : Dev Cert.KernelIdeal.nD,
    (Cert.Pre_tiles_filled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tiles_filled [hPre_tiles_filled : Cert.Pre_tiles_filled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tiles_filled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Combine [hPre_segments_named : Cert.Pre_segments_named.Facts] (m : (ℓ : Loc Cert.Combine.nD Cert.Combine.τ Cert.Combine.sig) → Buf (Elt Bits) ℓ) : Prop :=
  ∀ c : Dev Cert.Combine.nD,
    (Cert.Pre_segments_named.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))) = (fun _ => 1#1)

def Pre_CombineIdeal [hPre_segments_named : Cert.Pre_segments_named.Facts] (m : (ℓ : Loc Cert.CombineIdeal.nD Cert.CombineIdeal.τ Cert.CombineIdeal.sig) → Buf (Elt Ideal) ℓ) : Prop :=
  ∀ c : Dev Cert.CombineIdeal.nD,
    (Cert.Pre_segments_named.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_CombineIdeal_places_named [hPre_places_named : Cert.Pre_places_named.Facts] (m : (ℓ : Loc Cert.CombineIdeal.nD Cert.CombineIdeal.τ Cert.CombineIdeal.sig) → Buf (Elt Ideal) ℓ) : Prop :=
  ∀ c : Dev Cert.CombineIdeal.nD,
    (Cert.Pre_places_named.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_places_named [hPre_places_named : Cert.Pre_places_named.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_places_named.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4))) = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Kernel [hKernel : Cert.Kernel.Facts] [hPre_tile_experts : Cert.Pre_tile_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_tile_experts : Cert.Pre_tile_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tiles_filled [hKernelIdeal : Cert.KernelIdeal.Facts] [hPre_tiles_filled : Cert.Pre_tiles_filled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tiles_filled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tiles_filled [hReferenceIdeal : Cert.ReferenceIdeal.Facts] [hPre_tiles_filled : Cert.Pre_tiles_filled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tiles_filled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Combine [hCombine : Cert.Combine.Facts] [hPre_segments_named : Cert.Pre_segments_named.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] [hPre_segments_named : Cert.Pre_segments_named.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineIdeal_pre_places_named [hCombineIdeal : Cert.CombineIdeal.Facts] [hPre_places_named : Cert.Pre_places_named.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_places_named m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_CombineRefIdeal_pre_places_named [hCombineRefIdeal : Cert.CombineRefIdeal.Facts] [hPre_places_named : Cert.Pre_places_named.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_places_named m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6)
      ∧ r.2.mem ((c.tc : Thread Cert.Gmlp.nD Cert.Gmlp.τ).loc Cert.Gmlp.main_arg7) = m ((c.tc : Thread Cert.Gmlp.nD Cert.Gmlp.τ).loc Cert.Gmlp.main_arg7))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
      ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6)
      ∧ r.2.mem ((c.tc : Thread Cert.GmlpRefIdeal.nD Cert.GmlpRefIdeal.τ).loc Cert.GmlpRefIdeal.main_arg7) = m ((c.tc : Thread Cert.GmlpRefIdeal.nD Cert.GmlpRefIdeal.τ).loc Cert.GmlpRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def preserves_Kernel_KernelIdeal : Prop :=
  True

def algebraic_KernelIdeal_ReferenceIdeal_pre_tiles_filled [hKernelIdeal : Cert.KernelIdeal.Facts] [hReferenceIdeal : Cert.ReferenceIdeal.Facts] [hPre_tiles_filled : Cert.Pre_tiles_filled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tiles_filled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v24) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Combine_CombineIdeal : Prop :=
  True

def algebraic_CombineIdeal_CombineRefIdeal_pre_places_named [hCombineIdeal : Cert.CombineIdeal.Facts] [hCombineRefIdeal : Cert.CombineRefIdeal.Facts] [hPre_places_named : Cert.Pre_places_named.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal_places_named m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v75) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)
      ∧ m' ((c.tc : Thread Cert.GmlpRefIdeal.nD Cert.GmlpRefIdeal.τ).loc Cert.GmlpRefIdeal.main_arg6) = m ((c.tc : Thread Cert.GmlpIdeal.nD Cert.GmlpIdeal.τ).loc Cert.GmlpIdeal.main_arg6)
      ∧ m' ((c.tc : Thread Cert.GmlpRefIdeal.nD Cert.GmlpRefIdeal.τ).loc Cert.GmlpRefIdeal.main_arg7) = m ((c.tc : Thread Cert.GmlpIdeal.nD Cert.GmlpIdeal.τ).loc Cert.GmlpIdeal.main_arg7)) →
    ∃ (v0 : (c : Dev Cert.GmlpIdeal.nD) → Buf (Elt Ideal) ((c.tc : Thread Cert.GmlpIdeal.nD Cert.GmlpIdeal.τ).loc Cert.GmlpIdeal.main_v15)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v15) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
          ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v77) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6)
          ∧ r.2.mem ((c.tc : Thread Cert.GmlpRefIdeal.nD Cert.GmlpRefIdeal.τ).loc Cert.GmlpRefIdeal.main_arg7) = m' ((c.tc : Thread Cert.GmlpRefIdeal.nD Cert.GmlpRefIdeal.τ).loc Cert.GmlpRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hCombine : Cert.Combine.Facts) (hCombineIdeal : Cert.CombineIdeal.Facts) (hCombineRefIdeal : Cert.CombineRefIdeal.Facts) (hGmlp : Cert.Gmlp.Facts) (hGmlpIdeal : Cert.GmlpIdeal.Facts) (hGmlpRefIdeal : Cert.GmlpRefIdeal.Facts) (hOutProj : Cert.OutProj.Facts) (hOutProjIdeal : Cert.OutProjIdeal.Facts) (hOutProjRefIdeal : Cert.OutProjRefIdeal.Facts) (hPre_tile_experts : Cert.Pre_tile_experts.Facts) (hPre_tiles_filled : Cert.Pre_tiles_filled.Facts) (hPre_segments_named : Cert.Pre_segments_named.Facts) (hPre_places_named : Cert.Pre_places_named.Facts),
    quiescent_Kernel (hKernel := hKernel) (hPre_tile_experts := hPre_tile_experts)
    ∧ quiescent_KernelIdeal (hKernelIdeal := hKernelIdeal) (hPre_tile_experts := hPre_tile_experts)
    ∧ quiescent_KernelIdeal_pre_tiles_filled (hKernelIdeal := hKernelIdeal) (hPre_tiles_filled := hPre_tiles_filled)
    ∧ quiescent_ReferenceIdeal (hReferenceIdeal := hReferenceIdeal)
    ∧ quiescent_ReferenceIdeal_pre_tiles_filled (hReferenceIdeal := hReferenceIdeal) (hPre_tiles_filled := hPre_tiles_filled)
    ∧ quiescent_Ffn (hFfn := hFfn)
    ∧ quiescent_FfnIdeal (hFfnIdeal := hFfnIdeal)
    ∧ quiescent_FfnRefIdeal (hFfnRefIdeal := hFfnRefIdeal)
    ∧ quiescent_Combine (hCombine := hCombine) (hPre_segments_named := hPre_segments_named)
    ∧ quiescent_CombineIdeal (hCombineIdeal := hCombineIdeal) (hPre_segments_named := hPre_segments_named)
    ∧ quiescent_CombineIdeal_pre_places_named (hCombineIdeal := hCombineIdeal) (hPre_places_named := hPre_places_named)
    ∧ quiescent_CombineRefIdeal (hCombineRefIdeal := hCombineRefIdeal)
    ∧ quiescent_CombineRefIdeal_pre_places_named (hCombineRefIdeal := hCombineRefIdeal) (hPre_places_named := hPre_places_named)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Kernel_KernelIdeal
    ∧ algebraic_KernelIdeal_ReferenceIdeal_pre_tiles_filled (hKernelIdeal := hKernelIdeal) (hReferenceIdeal := hReferenceIdeal) (hPre_tiles_filled := hPre_tiles_filled)
    ∧ preserves_Ffn_FfnIdeal
    ∧ algebraic_FfnIdeal_FfnRefIdeal (hFfnIdeal := hFfnIdeal) (hFfnRefIdeal := hFfnRefIdeal)
    ∧ preserves_Combine_CombineIdeal
    ∧ algebraic_CombineIdeal_CombineRefIdeal_pre_places_named (hCombineIdeal := hCombineIdeal) (hCombineRefIdeal := hCombineRefIdeal) (hPre_places_named := hPre_places_named)
    ∧ preserves_Gmlp_GmlpIdeal
    ∧ algebraic_GmlpIdeal_GmlpRefIdeal (hGmlpIdeal := hGmlpIdeal) (hGmlpRefIdeal := hGmlpRefIdeal)
    ∧ preserves_OutProj_OutProjIdeal
    ∧ algebraic_OutProjIdeal_OutProjRefIdeal (hOutProjIdeal := hOutProjIdeal) (hOutProjRefIdeal := hOutProjRefIdeal)
-- ==== Pre_places_named.lean ====
abbrev S32x24 : Shape := ⟨2, ![32, 24]⟩
abbrev S8x2048x1024 : Shape := ⟨3, ![8, 2048, 1024]⟩
abbrev S8x16384 : Shape := ⟨2, ![8, 16384]⟩
abbrev S44032x1024 : Shape := ⟨2, ![44032, 1024]⟩
abbrev S1024 : Shape := ⟨1, ![1024]⟩
abbrev S32x8 : Shape := ⟨2, ![32, 8]⟩
abbrev S2x16384 : Shape := ⟨2, ![2, 16384]⟩
abbrev S2x32x512 : Shape := ⟨3, ![2, 32, 512]⟩
abbrev S32x1 : Shape := ⟨2, ![32, 1]⟩
abbrev S32 : Shape := ⟨1, ![32]⟩
abbrev S_ : Shape := ⟨0, ![]⟩
abbrev S32x7 : Shape := ⟨2, ![32, 7]⟩
abbrev S2x32x512x8 : Shape := ⟨4, ![2, 32, 512, 8]⟩

class Facts : Prop where
  slices_S32x24_S32x8_0_0 : S32x24.Slices ![0, 0] S32x8
  slices_S32x24_S32x8_0_8 : S32x24.Slices ![0, 8] S32x8
  slices_S8x16384_S2x16384_0_0 : S8x16384.Slices ![0, 0] S2x16384
  shapeCasts_S2x16384_S2x32x512 : S2x16384.ShapeCasts S2x32x512
  slices_S32x8_S32x1_0_7 : S32x8.Slices ![0, 7] S32x1
  shapeCasts_S32x1_S32 : S32x1.ShapeCasts S32
  bcast_S32_S2x32x512_1 : S32.BroadcastsInDim S2x32x512 (![1] : Fin 1 → Fin S2x32x512.rank)
  bcast_S_S2x32x512 : S_.BroadcastsInDim S2x32x512 (![] : Fin 0 → Fin S2x32x512.rank)
  slices_S32x24_S32x8_0_16 : S32x24.Slices ![0, 16] S32x8
  slices_S32x8_S32x7_0_1 : S32x8.Slices ![0, 1] S32x7
  slices_S32x8_S32x7_0_0 : S32x8.Slices ![0, 0] S32x7
  bcast_S_S32x1 : S_.BroadcastsInDim S32x1 (![] : Fin 0 → Fin S32x1.rank)
  concatenates_S32x7_S32x1_S32x8_d1 : Shape.Concatenates [S32x7, S32x1] S32x8 1
  slices_S32x8_S32x1_0_0 : S32x8.Slices ![0, 0] S32x1
  bcast_S_S32x7 : S_.BroadcastsInDim S32x7 (![] : Fin 0 → Fin S32x7.rank)
  concatenates_S32x1_S32x7_S32x8_d1 : Shape.Concatenates [S32x1, S32x7] S32x8 1
  bcast_S_S32x8 : S_.BroadcastsInDim S32x8 (![] : Fin 0 → Fin S32x8.rank)
  bcast_S32x8_S2x32x512x8_1_3 : S32x8.BroadcastsInDim S2x32x512x8 (![1, 3] : Fin 2 → Fin S2x32x512x8.rank)
  bcast_S2x32x512_S2x32x512x8_0_1_2 : S2x32x512.BroadcastsInDim S2x32x512x8 (![0, 1, 2] : Fin 3 → Fin S2x32x512x8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S32x8 32) (arg1 : IVec S_ 32) : IVec S32x8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S32x8 32 := broadcastInDim S32x8 ![] bcast_S_S32x8 v2
  let v4 : IVec S32x8 32 := Host.remsi arg0 v3
  let c_1 : IVec S_ 32 := constantI S_ 32 0#32
  let v5 : IVec S32x8 32 := broadcastInDim S32x8 ![] bcast_S_S32x8 c_1
  let v6 : IVec S32x8 1 := cmpi .ne v4 v5
  let c_2 : IVec S_ 32 := constantI S_ 32 0#32
  let v7 : IVec S32x8 32 := broadcastInDim S32x8 ![] bcast_S_S32x8 c_2
  let v8 : IVec S32x8 1 := cmpi .slt v4 v7
  let c_3 : IVec S_ 32 := constantI S_ 32 0#32
  let v9 : IVec S_ 1 := cmpi .slt v2 c_3
  let v10 : IVec S32x8 1 := broadcastInDim S32x8 ![] bcast_S_S32x8 v9
  let v11 : IVec S32x8 1 := cmpi .ne v8 v10
  let v12 : IVec S32x8 1 := andi v11 v6
  let v13 : IVec S32x8 32 := broadcastInDim S32x8 ![] bcast_S_S32x8 v2
  let v14 : IVec S32x8 32 := addi v4 v13
  let v15 : IVec S32x8 32 := select v12 v14 v4
  v15

def fn_part2 {F : FTy → Type} [FloatOps F] (main_v15 : IVec S2x32x512 1) (main_v17 : IVec S32x8 32) (main_v18 : IVec S32x8 32) (main_v27 : IVec S32x8 1) (main_v34 : IVec S32x8 1) (main_v39 : IVec S32x8 1) (main_v40 : IVec S32x8 32) : IVec S2x32x512x8 1 :=
  let main_v41 : IVec S32x8 1 := cmpi .sge main_v18 main_v40
  let main_c_6 : IVec S_ 32 := constantI S_ 32 44032#32
  let main_v42 : IVec S32x8 32 := broadcastInDim S32x8 ![] bcast_S_S32x8 main_c_6
  let main_v43 : IVec S32x8 32 := subi main_v42 main_v17
  let main_v44 : IVec S32x8 1 := cmpi .sle main_v18 main_v43
  let main_v45 : IVec S32x8 1 := andi main_v41 main_v44
  let main_v46 : IVec S32x8 1 := andi main_v39 main_v45
  let main_c_7 : IVec S_ 32 := constantI S_ 32 16#32
  let main_v47 : IVec S32x8 32 := fn_remainder (F := F) main_v17 main_c_7
  let main_c_8 : IVec S_ 32 := constantI S_ 32 0#32
  let main_v48 : IVec S32x8 32 := broadcastInDim S32x8 ![] bcast_S_S32x8 main_c_8
  let main_v49 : IVec S32x8 1 := cmpi .eq main_v47 main_v48
  let main_c_9 : IVec S_ 32 := constantI S_ 32 16#32
  let main_v50 : IVec S32x8 32 := fn_remainder (F := F) main_v18 main_c_9
  let main_c_10 : IVec S_ 32 := constantI S_ 32 0#32
  let main_v51 : IVec S32x8 32 := broadcastInDim S32x8 ![] bcast_S_S32x8 main_c_10
  let main_v52 : IVec S32x8 1 := cmpi .eq main_v50 main_v51
  let main_v53 : IVec S32x8 1 := andi main_v49 main_v52
  let main_v54 : IVec S32x8 1 := andi main_v46 main_v53
  let main_v55 : IVec S32x8 1 := andi main_v27 main_v34
  let main_v56 : IVec S32x8 1 := andi main_v54 main_v55
  let main_v57 : IVec S2x32x512x8 1 := broadcastInDim S2x32x512x8 ![1, 3] bcast_S32x8_S2x32x512x8_1_3 main_v56
  let main_v58 : IVec S2x32x512x8 1 := broadcastInDim S2x32x512x8 ![0, 1, 2] bcast_S2x32x512_S2x32x512x8_0_1_2 main_v15
  let main_v59 : IVec S2x32x512x8 1 := andi main_v57 main_v58
  main_v59

def fn_part1 {F : FTy → Type} [FloatOps F] (main_v15 : IVec S2x32x512 1) (main_v16 : IVec S32x8 32) (main_v17 : IVec S32x8 32) (main_v18 : IVec S32x8 32) (main_v22 : IVec S32x7 1) : IVec S2x32x512x8 1 :=
  let main_v23 : IVec S32x8 32 := addi main_v16 main_v17
  let main_v24 : IVec S32x1 32 := (extractStridedSlice S32x1 ![0, 7] · slices_S32x8_S32x1_0_7) main_v23
  let main_c_0 : IVec S_ 32 := constantI S_ 32 1152#32
  let main_v25 : IVec S32x1 32 := broadcastInDim S32x1 ![] bcast_S_S32x1 main_c_0
  let main_v26 : IVec S32x1 1 := cmpi .sle main_v24 main_v25
  let main_v27 : IVec S32x8 1 := (fun a b => concatenate S32x8 1 [⟨S32x7, a⟩, ⟨S32x1, b⟩] concatenates_S32x7_S32x1_S32x8_d1) main_v22 main_v26
  let main_v28 : IVec S32x1 32 := (extractStridedSlice S32x1 ![0, 0] · slices_S32x8_S32x1_0_0) main_v16
  let main_c_1 : IVec S_ 32 := constantI S_ 32 0#32
  let main_v29 : IVec S32x1 32 := broadcastInDim S32x1 ![] bcast_S_S32x1 main_c_1
  let main_v30 : IVec S32x1 1 := cmpi .eq main_v28 main_v29
  let main_v31 : IVec S32x7 32 := (extractStridedSlice S32x7 ![0, 1] · slices_S32x8_S32x7_0_1) main_v16
  let main_c_2 : IVec S_ 32 := constantI S_ 32 0#32
  let main_v32 : IVec S32x7 32 := broadcastInDim S32x7 ![] bcast_S_S32x7 main_c_2
  let main_v33 : IVec S32x7 1 := cmpi .sge main_v31 main_v32
  let main_v34 : IVec S32x8 1 := (fun a b => concatenate S32x8 1 [⟨S32x1, a⟩, ⟨S32x7, b⟩] concatenates_S32x1_S32x7_S32x8_d1) main_v30 main_v33
  let main_c_3 : IVec S_ 32 := constantI S_ 32 0#32
  let main_v35 : IVec S32x8 32 := broadcastInDim S32x8 ![] bcast_S_S32x8 main_c_3
  let main_v36 : IVec S32x8 1 := cmpi .sge main_v17 main_v35
  let main_c_4 : IVec S_ 32 := constantI S_ 32 1152#32
  let main_v37 : IVec S32x8 32 := broadcastInDim S32x8 ![] bcast_S_S32x8 main_c_4
  let main_v38 : IVec S32x8 1 := cmpi .sle main_v17 main_v37
  let main_v39 : IVec S32x8 1 := andi main_v36 main_v38
  let main_c_5 : IVec S_ 32 := constantI S_ 32 0#32
  let main_v40 : IVec S32x8 32 := broadcastInDim S32x8 ![] bcast_S_S32x8 main_c_5
  fn_part2 (F := F) main_v15 main_v17 main_v18 main_v27 main_v34 main_v39 main_v40

def fn {F : FTy → Type} [FloatOps F] (main_arg0 : IVec S32x24 32) (main_arg1 : FVec F S8x2048x1024 .f32) (main_arg2 : FVec F S8x16384 .f32) (main_arg3 : FVec F S44032x1024 .bf16) (main_arg4 : FVec F S1024 .f32) : IVec S2x32x512x8 1 :=
  let main_v0 : IVec S32x8 32 := (extractStridedSlice S32x8 ![0, 0] · slices_S32x24_S32x8_0_0) main_arg0
  let main_v1 : IVec S32x8 32 := (extractStridedSlice S32x8 ![0, 8] · slices_S32x24_S32x8_0_8) main_arg0
  let main_v2 : FVec F S2x16384 .f32 := (extractStridedSlice S2x16384 ![0, 0] · slices_S8x16384_S2x16384_0_0) main_arg2
  let main_v3 : FVec F S2x32x512 .f32 := shapeCast S2x32x512 main_v2 shapeCasts_S2x16384_S2x32x512
  let main_v4 : IVec S2x32x512 32 := fptosi 32 main_v3
  let main_v5 : IVec S32x8 32 := addi main_v0 main_v1
  let main_v6 : IVec S32x1 32 := (extractStridedSlice S32x1 ![0, 7] · slices_S32x8_S32x1_0_7) main_v5
  let main_v7 : IVec S32 32 := shapeCast S32 main_v6 shapeCasts_S32x1_S32
  let main_v8 : IVec S2x32x512 32 := broadcastInDim S2x32x512 ![1] bcast_S32_S2x32x512_1 main_v7
  let main_v9 : FVec F S2x32x512 .f32 := sitofp .f32 main_v4
  let main_v10 : IVec S2x32x512 1 := cmpf .oeq main_v9 main_v3
  let main_c : IVec S_ 32 := constantI S_ 32 0#32
  let main_v11 : IVec S2x32x512 32 := broadcastInDim S2x32x512 ![] bcast_S_S2x32x512 main_c
  let main_v12 : IVec S2x32x512 1 := cmpi .sge main_v4 main_v11
  let main_v13 : IVec S2x32x512 1 := cmpi .slt main_v4 main_v8
  let main_v14 : IVec S2x32x512 1 := andi main_v12 main_v13
  let main_v15 : IVec S2x32x512 1 := andi main_v10 main_v14
  let main_v16 : IVec S32x8 32 := (extractStridedSlice S32x8 ![0, 0] · slices_S32x24_S32x8_0_0) main_arg0
  let main_v17 : IVec S32x8 32 := (extractStridedSlice S32x8 ![0, 8] · slices_S32x24_S32x8_0_8) main_arg0
  let main_v18 : IVec S32x8 32 := (extractStridedSlice S32x8 ![0, 16] · slices_S32x24_S32x8_0_16) main_arg0
  let main_v19 : IVec S32x7 32 := (extractStridedSlice S32x7 ![0, 1] · slices_S32x8_S32x7_0_1) main_v16
  let main_v20 : IVec S32x8 32 := addi main_v16 main_v17
  let main_v21 : IVec S32x7 32 := (extractStridedSlice S32x7 ![0, 0] · slices_S32x8_S32x7_0_0) main_v20
  let main_v22 : IVec S32x7 1 := cmpi .eq main_v19 main_v21
  fn_part1 (F := F) main_v15 main_v16 main_v17 main_v18 main_v22
-- ==== Pre_segments_named.lean ====
abbrev S32x24 : Shape := ⟨2, ![32, 24]⟩
abbrev S8x2048x1024 : Shape := ⟨3, ![8, 2048, 1024]⟩
abbrev S8x16384 : Shape := ⟨2, ![8, 16384]⟩
abbrev S44032x1024 : Shape := ⟨2, ![44032, 1024]⟩
abbrev S1024 : Shape := ⟨1, ![1024]⟩
abbrev S32x8 : Shape := ⟨2, ![32, 8]⟩
abbrev S32x7 : Shape := ⟨2, ![32, 7]⟩
abbrev S32x1 : Shape := ⟨2, ![32, 1]⟩
abbrev S_ : Shape := ⟨0, ![]⟩

class Facts : Prop where
  slices_S32x24_S32x8_0_0 : S32x24.Slices ![0, 0] S32x8
  slices_S32x24_S32x8_0_8 : S32x24.Slices ![0, 8] S32x8
  slices_S32x24_S32x8_0_16 : S32x24.Slices ![0, 16] S32x8
  slices_S32x8_S32x7_0_1 : S32x8.Slices ![0, 1] S32x7
  slices_S32x8_S32x7_0_0 : S32x8.Slices ![0, 0] S32x7
  slices_S32x8_S32x1_0_7 : S32x8.Slices ![0, 7] S32x1
  bcast_S_S32x1 : S_.BroadcastsInDim S32x1 (![] : Fin 0 → Fin S32x1.rank)
  concatenates_S32x7_S32x1_S32x8_d1 : Shape.Concatenates [S32x7, S32x1] S32x8 1
  slices_S32x8_S32x1_0_0 : S32x8.Slices ![0, 0] S32x1
  bcast_S_S32x7 : S_.BroadcastsInDim S32x7 (![] : Fin 0 → Fin S32x7.rank)
  concatenates_S32x1_S32x7_S32x8_d1 : Shape.Concatenates [S32x1, S32x7] S32x8 1
  bcast_S_S32x8 : S_.BroadcastsInDim S32x8 (![] : Fin 0 → Fin S32x8.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S32x8 32) (arg1 : IVec S_ 32) : IVec S32x8 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S32x8 32 := broadcastInDim S32x8 ![] bcast_S_S32x8 v2
  let v4 : IVec S32x8 32 := Host.remsi arg0 v3
  let c_1 : IVec S_ 32 := constantI S_ 32 0#32
  let v5 : IVec S32x8 32 := broadcastInDim S32x8 ![] bcast_S_S32x8 c_1
  let v6 : IVec S32x8 1 := cmpi .ne v4 v5
  let c_2 : IVec S_ 32 := constantI S_ 32 0#32
  let v7 : IVec S32x8 32 := broadcastInDim S32x8 ![] bcast_S_S32x8 c_2
  let v8 : IVec S32x8 1 := cmpi .slt v4 v7
  let c_3 : IVec S_ 32 := constantI S_ 32 0#32
  let v9 : IVec S_ 1 := cmpi .slt v2 c_3
  let v10 : IVec S32x8 1 := broadcastInDim S32x8 ![] bcast_S_S32x8 v9
  let v11 : IVec S32x8 1 := cmpi .ne v8 v10
  let v12 : IVec S32x8 1 := andi v11 v6
  let v13 : IVec S32x8 32 := broadcastInDim S32x8 ![] bcast_S_S32x8 v2
  let v14 : IVec S32x8 32 := addi v4 v13
  let v15 : IVec S32x8 32 := select v12 v14 v4
  v15

def fn_part2 {F : FTy → Type} [FloatOps F] (main_v11 : IVec S32x8 1) (main_v18 : IVec S32x8 1) (main_v30 : IVec S32x8 1) (main_v33 : IVec S32x8 1) (main_v36 : IVec S32x8 1) : IVec S32x8 1 :=
  let main_v37 : IVec S32x8 1 := andi main_v33 main_v36
  let main_v38 : IVec S32x8 1 := andi main_v30 main_v37
  let main_v39 : IVec S32x8 1 := andi main_v11 main_v18
  let main_v40 : IVec S32x8 1 := andi main_v38 main_v39
  main_v40

def fn_part1 {F : FTy → Type} [FloatOps F] (main_v1 : IVec S32x8 32) (main_v2 : IVec S32x8 32) (main_v11 : IVec S32x8 1) (main_v18 : IVec S32x8 1) (main_v19 : IVec S32x8 32) : IVec S32x8 1 :=
  let main_v20 : IVec S32x8 1 := cmpi .sge main_v1 main_v19
  let main_c_3 : IVec S_ 32 := constantI S_ 32 1152#32
  let main_v21 : IVec S32x8 32 := broadcastInDim S32x8 ![] bcast_S_S32x8 main_c_3
  let main_v22 : IVec S32x8 1 := cmpi .sle main_v1 main_v21
  let main_v23 : IVec S32x8 1 := andi main_v20 main_v22
  let main_c_4 : IVec S_ 32 := constantI S_ 32 0#32
  let main_v24 : IVec S32x8 32 := broadcastInDim S32x8 ![] bcast_S_S32x8 main_c_4
  let main_v25 : IVec S32x8 1 := cmpi .sge main_v2 main_v24
  let main_c_5 : IVec S_ 32 := constantI S_ 32 44032#32
  let main_v26 : IVec S32x8 32 := broadcastInDim S32x8 ![] bcast_S_S32x8 main_c_5
  let main_v27 : IVec S32x8 32 := subi main_v26 main_v1
  let main_v28 : IVec S32x8 1 := cmpi .sle main_v2 main_v27
  let main_v29 : IVec S32x8 1 := andi main_v25 main_v28
  let main_v30 : IVec S32x8 1 := andi main_v23 main_v29
  let main_c_6 : IVec S_ 32 := constantI S_ 32 16#32
  let main_v31 : IVec S32x8 32 := fn_remainder (F := F) main_v1 main_c_6
  let main_c_7 : IVec S_ 32 := constantI S_ 32 0#32
  let main_v32 : IVec S32x8 32 := broadcastInDim S32x8 ![] bcast_S_S32x8 main_c_7
  let main_v33 : IVec S32x8 1 := cmpi .eq main_v31 main_v32
  let main_c_8 : IVec S_ 32 := constantI S_ 32 16#32
  let main_v34 : IVec S32x8 32 := fn_remainder (F := F) main_v2 main_c_8
  let main_c_9 : IVec S_ 32 := constantI S_ 32 0#32
  let main_v35 : IVec S32x8 32 := broadcastInDim S32x8 ![] bcast_S_S32x8 main_c_9
  let main_v36 : IVec S32x8 1 := cmpi .eq main_v34 main_v35
  fn_part2 (F := F) main_v11 main_v18 main_v30 main_v33 main_v36

def fn {F : FTy → Type} [FloatOps F] (main_arg0 : IVec S32x24 32) (main_arg1 : FVec F S8x2048x1024 .f32) (main_arg2 : FVec F S8x16384 .f32) (main_arg3 : FVec F S44032x1024 .bf16) (main_arg4 : FVec F S1024 .f32) : IVec S32x8 1 :=
  let main_v0 : IVec S32x8 32 := (extractStridedSlice S32x8 ![0, 0] · slices_S32x24_S32x8_0_0) main_arg0
  let main_v1 : IVec S32x8 32 := (extractStridedSlice S32x8 ![0, 8] · slices_S32x24_S32x8_0_8) main_arg0
  let main_v2 : IVec S32x8 32 := (extractStridedSlice S32x8 ![0, 16] · slices_S32x24_S32x8_0_16) main_arg0
  let main_v3 : IVec S32x7 32 := (extractStridedSlice S32x7 ![0, 1] · slices_S32x8_S32x7_0_1) main_v0
  let main_v4 : IVec S32x8 32 := addi main_v0 main_v1
  let main_v5 : IVec S32x7 32 := (extractStridedSlice S32x7 ![0, 0] · slices_S32x8_S32x7_0_0) main_v4
  let main_v6 : IVec S32x7 1 := cmpi .eq main_v3 main_v5
  let main_v7 : IVec S32x8 32 := addi main_v0 main_v1
  let main_v8 : IVec S32x1 32 := (extractStridedSlice S32x1 ![0, 7] · slices_S32x8_S32x1_0_7) main_v7
  let main_c : IVec S_ 32 := constantI S_ 32 1152#32
  let main_v9 : IVec S32x1 32 := broadcastInDim S32x1 ![] bcast_S_S32x1 main_c
  let main_v10 : IVec S32x1 1 := cmpi .sle main_v8 main_v9
  let main_v11 : IVec S32x8 1 := (fun a b => concatenate S32x8 1 [⟨S32x7, a⟩, ⟨S32x1, b⟩] concatenates_S32x7_S32x1_S32x8_d1) main_v6 main_v10
  let main_v12 : IVec S32x1 32 := (extractStridedSlice S32x1 ![0, 0] · slices_S32x8_S32x1_0_0) main_v0
  let main_c_0 : IVec S_ 32 := constantI S_ 32 0#32
  let main_v13 : IVec S32x1 32 := broadcastInDim S32x1 ![] bcast_S_S32x1 main_c_0
  let main_v14 : IVec S32x1 1 := cmpi .eq main_v12 main_v13
  let main_v15 : IVec S32x7 32 := (extractStridedSlice S32x7 ![0, 1] · slices_S32x8_S32x7_0_1) main_v0
  let main_c_1 : IVec S_ 32 := constantI S_ 32 0#32
  let main_v16 : IVec S32x7 32 := broadcastInDim S32x7 ![] bcast_S_S32x7 main_c_1
  let main_v17 : IVec S32x7 1 := cmpi .sge main_v15 main_v16
  let main_v18 : IVec S32x8 1 := (fun a b => concatenate S32x8 1 [⟨S32x1, a⟩, ⟨S32x7, b⟩] concatenates_S32x1_S32x7_S32x8_d1) main_v14 main_v17
  let main_c_2 : IVec S_ 32 := constantI S_ 32 0#32
  let main_v19 : IVec S32x8 32 := broadcastInDim S32x8 ![] bcast_S_S32x8 main_c_2
  fn_part1 (F := F) main_v1 main_v2 main_v11 main_v18 main_v19
-- ==== Pre_tile_experts.lean ====
abbrev S3x43 : Shape := ⟨2, ![3, 43]⟩
abbrev S44032x1024 : Shape := ⟨2, ![44032, 1024]⟩
abbrev S1x8x1024x7168 : Shape := ⟨4, ![1, 8, 1024, 7168]⟩
abbrev S1x8x3584x1024 : Shape := ⟨4, ![1, 8, 3584, 1024]⟩
abbrev S1x43 : Shape := ⟨2, ![1, 43]⟩
abbrev S43 : Shape := ⟨1, ![43]⟩
abbrev S_ : Shape := ⟨0, ![]⟩

class Facts : Prop where
  slices_S3x43_S1x43_0_0 : S3x43.Slices ![0, 0] S1x43
  shapeCasts_S1x43_S43 : S1x43.ShapeCasts S43
  bcast_S_S43 : S_.BroadcastsInDim S43 (![] : Fin 0 → Fin S43.rank)

variable [Facts]

def fn {F : FTy → Type} [FloatOps F] (main_arg0 : IVec S3x43 32) (main_arg1 : FVec F S44032x1024 .bf16) (main_arg2 : FVec F S1x8x1024x7168 .f32) (main_arg3 : FVec F S1x8x3584x1024 .f32) : IVec S43 1 :=
  let main_v0 : IVec S1x43 32 := (extractStridedSlice S1x43 ![0, 0] · slices_S3x43_S1x43_0_0) main_arg0
  let main_v1 : IVec S43 32 := shapeCast S43 main_v0 shapeCasts_S1x43_S43
  let main_c : IVec S_ 32 := constantI S_ 32 0#32
  let main_v2 : IVec S43 32 := broadcastInDim S43 ![] bcast_S_S43 main_c
  let main_v3 : IVec S43 1 := cmpi .sge main_v1 main_v2
  let main_c_0 : IVec S_ 32 := constantI S_ 32 8#32
  let main_v4 : IVec S43 32 := broadcastInDim S43 ![] bcast_S_S43 main_c_0
  let main_v5 : IVec S43 1 := cmpi .slt main_v1 main_v4
  let main_v6 : IVec S43 1 := andi main_v3 main_v5
  main_v6
-- ==== Pre_tiles_filled.lean ====
abbrev S3x43 : Shape := ⟨2, ![3, 43]⟩
abbrev S44032x1024 : Shape := ⟨2, ![44032, 1024]⟩
abbrev S1x8x1024x7168 : Shape := ⟨4, ![1, 8, 1024, 7168]⟩
abbrev S1x8x3584x1024 : Shape := ⟨4, ![1, 8, 3584, 1024]⟩
abbrev S1x43 : Shape := ⟨2, ![1, 43]⟩
abbrev S43 : Shape := ⟨1, ![43]⟩
abbrev S43x1024x1024 : Shape := ⟨3, ![43, 1024, 1024]⟩
abbrev S_ : Shape := ⟨0, ![]⟩

class Facts : Prop where
  slices_S3x43_S1x43_0_0 : S3x43.Slices ![0, 0] S1x43
  shapeCasts_S1x43_S43 : S1x43.ShapeCasts S43
  bcast_S43_S43x1024x1024_0 : S43.BroadcastsInDim S43x1024x1024 (![0] : Fin 1 → Fin S43x1024x1024.rank)
  slices_S3x43_S1x43_2_0 : S3x43.Slices ![2, 0] S1x43
  bitsLt_bf16_f32 : FTy.bits .bf16 < FTy.bits .f32
  shapeCasts_S44032x1024_S43x1024x1024 : S44032x1024.ShapeCasts S43x1024x1024
  bcast_S_S43x1024x1024 : S_.BroadcastsInDim S43x1024x1024 (![] : Fin 0 → Fin S43x1024x1024.rank)

variable [Facts]

def fn {F : FTy → Type} [FloatOps F] (main_arg0 : IVec S3x43 32) (main_arg1 : FVec F S44032x1024 .bf16) (main_arg2 : FVec F S1x8x1024x7168 .f32) (main_arg3 : FVec F S1x8x3584x1024 .f32) : IVec S43x1024x1024 1 :=
  let main_v0 : IVec S1x43 32 := (extractStridedSlice S1x43 ![0, 0] · slices_S3x43_S1x43_0_0) main_arg0
  let main_v1 : IVec S43 32 := shapeCast S43 main_v0 shapeCasts_S1x43_S43
  let main_v2 : IVec S43x1024x1024 32 := broadcastInDim S43x1024x1024 ![0] bcast_S43_S43x1024x1024_0 main_v1
  let main_v3 : IVec S1x43 32 := (extractStridedSlice S1x43 ![2, 0] · slices_S3x43_S1x43_2_0) main_arg0
  let main_v4 : IVec S43 32 := shapeCast S43 main_v3 shapeCasts_S1x43_S43
  let main_v5 : IVec S43x1024x1024 32 := broadcastInDim S43x1024x1024 ![0] bcast_S43_S43x1024x1024_0 main_v4
  let main_v6 : IVec S43x1024x1024 32 := iotaInDim S43x1024x1024 32 1
  let main_v7 : FVec F S44032x1024 .f32 := (extf .f32 · bitsLt_bf16_f32) main_arg1
  let main_v8 : FVec F S43x1024x1024 .f32 := shapeCast S43x1024x1024 main_v7 shapeCasts_S44032x1024_S43x1024x1024
  let main_v9 : IVec S43x1024x1024 1 := cmpi .slt main_v6 main_v5
  let main_cst : FVec F S_ .f32 := constant S_ .f32 0x00000000#32
  let main_v10 : FVec F S43x1024x1024 .f32 := broadcastInDim S43x1024x1024 ![] bcast_S_S43x1024x1024 main_cst
  let main_v11 : IVec S43x1024x1024 1 := cmpf .oeq main_v8 main_v10
  let main_v12 : IVec S43x1024x1024 1 := ori main_v9 main_v11
  let main_c : IVec S_ 32 := constantI S_ 32 0#32
  let main_v13 : IVec S43x1024x1024 32 := broadcastInDim S43x1024x1024 ![] bcast_S_S43x1024x1024 main_c
  let main_v14 : IVec S43x1024x1024 1 := cmpi .sge main_v2 main_v13
  let main_c_0 : IVec S_ 32 := constantI S_ 32 8#32
  let main_v15 : IVec S43x1024x1024 32 := broadcastInDim S43x1024x1024 ![] bcast_S_S43x1024x1024 main_c_0
  let main_v16 : IVec S43x1024x1024 1 := cmpi .slt main_v2 main_v15
  let main_v17 : IVec S43x1024x1024 1 := andi main_v14 main_v16
  let main_v18 : IVec S43x1024x1024 1 := andi main_v17 main_v12
  main_v18
-- ==== Kernel.lean ====
abbrev S3x43 : Shape := ⟨2, ![3, 43]⟩
abbrev S44032x1024 : Shape := ⟨2, ![44032, 1024]⟩
abbrev S1x8x1024x7168 : Shape := ⟨4, ![1, 8, 1024, 7168]⟩
abbrev S1x8x3584x1024 : Shape := ⟨4, ![1, 8, 3584, 1024]⟩
abbrev S8x1024x7168 : Shape := ⟨3, ![8, 1024, 7168]⟩
abbrev S8x3584x1024 : Shape := ⟨3, ![8, 3584, 1024]⟩
abbrev S1024x1024 : Shape := ⟨2, ![1024, 1024]⟩
abbrev S1x1 : Shape := ⟨2, ![1, 1]⟩
abbrev S1x1024x512 : Shape := ⟨3, ![1, 1024, 512]⟩
abbrev S1x512x1024 : Shape := ⟨3, ![1, 512, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 6
  | .vmem => 11
  | .smem => 1
  | _ => 0

abbrev bufTy : (tb : Table) → Fin (tcTables nBuf tb) → BufTy
  | .hbm, ⟨0, _⟩ => ⟨S44032x1024, .bf16⟩
  | .hbm, ⟨1, _⟩ => ⟨S1x8x1024x7168, .f32⟩
  | .hbm, ⟨2, _⟩ => ⟨S1x8x3584x1024, .f32⟩
  | .hbm, ⟨3, _⟩ => ⟨S8x1024x7168, .f32⟩
  | .hbm, ⟨4, _⟩ => ⟨S8x3584x1024, .f32⟩
  | .hbm, ⟨5, _⟩ => ⟨S44032x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .smem, ⟨0, _⟩ => ⟨S3x43, .i32⟩
  | _, _ => ⟨S44032x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![43, 7], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c2 : Index := 2#32
  let arg0 : BitVec 32 := BitVec.ofNat 32 (i 0).val
  let v12 : Index := Scalar.indexCast arg0
  ![2, v12.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let arg1 : BitVec 32 := BitVec.ofNat 32 (i 1).val
  let c0_i32 : BitVec 32 := 0#32
  let v3 : BitVec 1 := Scalar.cmpi .eq arg1 c0_i32
  let v4 : BitVec 1 := Scalar.andi v2 v3
  let v5 : BitVec 32 := Scalar.extui v4
  let c0_i32_0 : BitVec 32 := 0#32
  let v6 : BitVec 1 := Scalar.cmpi .ne v5 c0_i32_0
  v6

def k0_cond2 (i : grid0.Coords) (v0 : BitVec 32) : BitVec 1 :=
  let arg0 : BitVec 32 := BitVec.ofNat 32 (i 0).val
  let v1 : BitVec 1 := Scalar.cmpi .slt arg0 v0
  let v7 : BitVec 32 := Scalar.extui v1
  let c0_i32_1 : BitVec 32 := 0#32
  let v8 : BitVec 1 := Scalar.cmpi .ne v7 c0_i32_1
  v8

def k0_cond6 (i : grid0.Coords) : BitVec 1 :=
  let arg1 : BitVec 32 := BitVec.ofNat 32 (i 1).val
  let c6_i32 : BitVec 32 := 6#32
  let v20 : BitVec 1 := Scalar.cmpi .eq arg1 c6_i32
  let v21 : BitVec 32 := Scalar.extui v20
  let c0_i32_7 : BitVec 32 := 0#32
  let v22 : BitVec 1 := Scalar.cmpi .ne v21 c0_i32_7
  v22

def cc0_transform_0 (inb_S3x43_S1x1_1_0 : ∀ a, (![1, 0] : Fin 2 → Nat) a + S1x1.size a ≤ S3x43.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let c0 : Index := 0#32
  let v0 : BitVec 32 := pf.at 0 (Rect.unit (s := S3x43) ![1, 0] S1x1.size inb_S3x43_S1x1_1_0) numel1_S1x1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1x1.size a ≤ S3x43.size a) (numel1_S1x1 : S1x1.numel = 1) (inb_S3x43_S1x1_1_0 : ∀ a, (![1, 0] : Fin 2 → Nat) a + S1x1.size a ≤ S3x43.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg0
  let v1 : BitVec 32 := pf.at 0 (Rect.unit (s := S3x43) ![0, v0.toNat] S1x1.size (k0_off1_inb i)) numel1_S1x1
  let c1 : Index := 1#32
  let c0_0 : Index := 0#32
  let v2 : BitVec 32 := pf.at 0 (Rect.unit (s := S3x43) ![1, 0] S1x1.size inb_S3x43_S1x1_1_0) numel1_S1x1
  let v3 : BitVec 1 := Scalar.cmpi .slt arg0 v2
  let c6_i32 : BitVec 32 := 6#32
  let v4 : BitVec 32 := Scalar.select v3 arg1 c6_i32
  let c0_i32 : BitVec 32 := 0#32
  let c0_i32_1 : BitVec 32 := 0#32
  ![v1.toNat, c0_i32.toNat, v4.toNat]

def cc0_transform_2 (k0_off1_inb : ∀ i : grid0.Coords, ∀ a, (k0_off1 i) a + S1x1.size a ≤ S3x43.size a) (numel1_S1x1 : S1x1.numel = 1) (inb_S3x43_S1x1_1_0 : ∀ a, (![1, 0] : Fin 2 → Nat) a + S1x1.size a ≤ S3x43.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg0
  let v1 : BitVec 32 := pf.at 0 (Rect.unit (s := S3x43) ![0, v0.toNat] S1x1.size (k0_off1_inb i)) numel1_S1x1
  let c1 : Index := 1#32
  let c0_0 : Index := 0#32
  let v2 : BitVec 32 := pf.at 0 (Rect.unit (s := S3x43) ![1, 0] S1x1.size inb_S3x43_S1x1_1_0) numel1_S1x1
  let v3 : BitVec 1 := Scalar.cmpi .slt arg0 v2
  let c6_i32 : BitVec 32 := 6#32
  let v4 : BitVec 32 := Scalar.select v3 arg1 c6_i32
  let c7_i32 : BitVec 32 := 7#32
  let v5 : BitVec 32 := Scalar.addi v4 c7_i32
  let c0_i32 : BitVec 32 := 0#32
  let c0_i32_1 : BitVec 32 := 0#32
  ![v1.toNat, c0_i32.toNat, v5.toNat]

def cc0_transform_3 (k0_off1_inb : ∀ i : grid0.Coords, ∀ a, (k0_off1 i) a + S1x1.size a ≤ S3x43.size a) (numel1_S1x1 : S1x1.numel = 1) (inb_S3x43_S1x1_1_0 : ∀ a, (![1, 0] : Fin 2 → Nat) a + S1x1.size a ≤ S3x43.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg0
  let v1 : BitVec 32 := pf.at 0 (Rect.unit (s := S3x43) ![0, v0.toNat] S1x1.size (k0_off1_inb i)) numel1_S1x1
  let c1 : Index := 1#32
  let c0_0 : Index := 0#32
  let v2 : BitVec 32 := pf.at 0 (Rect.unit (s := S3x43) ![1, 0] S1x1.size inb_S3x43_S1x1_1_0) numel1_S1x1
  let v3 : BitVec 1 := Scalar.cmpi .slt arg0 v2
  let c6_i32 : BitVec 32 := 6#32
  let v4 : BitVec 32 := Scalar.select v3 arg1 c6_i32
  let c0_i32 : BitVec 32 := 0#32
  let c0_i32_1 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S3x43 : Shape := ⟨2, ![3, 43]⟩
abbrev S44032x1024 : Shape := ⟨2, ![44032, 1024]⟩
abbrev S1x8x1024x7168 : Shape := ⟨4, ![1, 8, 1024, 7168]⟩
abbrev S1x8x3584x1024 : Shape := ⟨4, ![1, 8, 3584, 1024]⟩
abbrev S1x43 : Shape := ⟨2, ![1, 43]⟩
abbrev S43 : Shape := ⟨1, ![43]⟩
abbrev S1x1 : Shape := ⟨2, ![1, 1]⟩
abbrev S_ : Shape := ⟨0, ![]⟩
abbrev S43x1 : Shape := ⟨2, ![43, 1]⟩
abbrev S8 : Shape := ⟨1, ![8]⟩
abbrev S1x8 : Shape := ⟨2, ![1, 8]⟩
abbrev S43x8 : Shape := ⟨2, ![43, 8]⟩
abbrev S43x1024x8 : Shape := ⟨3, ![43, 1024, 8]⟩
abbrev S44032x8 : Shape := ⟨2, ![44032, 8]⟩
abbrev S8x1024x7168 : Shape := ⟨3, ![8, 1024, 7168]⟩
abbrev S8x7168x44032 : Shape := ⟨3, ![8, 7168, 44032]⟩
abbrev S8x44032x7168 : Shape := ⟨3, ![8, 44032, 7168]⟩
abbrev S8x44032x3584 : Shape := ⟨3, ![8, 44032, 3584]⟩
abbrev S8x3584x1024 : Shape := ⟨3, ![8, 3584, 1024]⟩
abbrev S8x44032x1024 : Shape := ⟨3, ![8, 44032, 1024]⟩

abbrev nBuf : Space → Nat
  | .hbm => 43
  | .vmem => 0
  | .smem => 0
  | _ => 0

abbrev bufTy : (tb : Table) → Fin (tcTables nBuf tb) → BufTy
  | .hbm, ⟨0, _⟩ => ⟨S3x43, .i32⟩
  | .hbm, ⟨1, _⟩ => ⟨S44032x1024, .bf16⟩
  | .hbm, ⟨2, _⟩ => ⟨S1x8x1024x7168, .f32⟩
  | .hbm, ⟨3, _⟩ => ⟨S1x8x3584x1024, .f32⟩
  | .hbm, ⟨4, _⟩ => ⟨S1x43, .i32⟩
  | .hbm, ⟨5, _⟩ => ⟨S43, .i32⟩
  | .hbm, ⟨6, _⟩ => ⟨S1x1, .i32⟩
  | .hbm, ⟨7, _⟩ => ⟨S_, .i32⟩
  | .hbm, ⟨8, _⟩ => ⟨S43, .i32⟩
  | .hbm, ⟨9, _⟩ => ⟨S43, .i32⟩
  | .hbm, ⟨10, _⟩ => ⟨S43, .i1⟩
  | .hbm, ⟨11, _⟩ => ⟨S43x1, .i1⟩
  | .hbm, ⟨12, _⟩ => ⟨S43x1, .i32⟩
  | .hbm, ⟨13, _⟩ => ⟨S8, .i32⟩
  | .hbm, ⟨14, _⟩ => ⟨S1x8, .i32⟩
  | .hbm, ⟨15, _⟩ => ⟨S43x8, .i32⟩
  | .hbm, ⟨16, _⟩ => ⟨S43x8, .i32⟩
  | .hbm, ⟨17, _⟩ => ⟨S43x8, .i1⟩
  | .hbm, ⟨18, _⟩ => ⟨S43x8, .i1⟩
  | .hbm, ⟨19, _⟩ => ⟨S43x8, .i1⟩
  | .hbm, ⟨20, _⟩ => ⟨S43x8, .f32⟩
  | .hbm, ⟨21, _⟩ => ⟨S43x1024x8, .f32⟩
  | .hbm, ⟨22, _⟩ => ⟨S44032x8, .f32⟩
  | .hbm, ⟨23, _⟩ => ⟨S44032x1024, .f32⟩
  | .hbm, ⟨24, _⟩ => ⟨S8x1024x7168, .f32⟩
  | .hbm, ⟨25, _⟩ => ⟨S8x7168x44032, .f32⟩
  | .hbm, ⟨26, _⟩ => ⟨S8x44032x7168, .f32⟩
  | .hbm, ⟨27, _⟩ => ⟨S8x44032x3584, .f32⟩
  | .hbm, ⟨28, _⟩ => ⟨S8x44032x3584, .f32⟩
  | .hbm, ⟨29, _⟩ => ⟨S8x44032x3584, .f32⟩
  | .hbm, ⟨30, _⟩ => ⟨S8x44032x3584, .f32⟩
  | .hbm, ⟨31, _⟩ => ⟨S_, .f32⟩
  | .hbm, ⟨32, _⟩ => ⟨S8x44032x3584, .f32⟩
  | .hbm, ⟨33, _⟩ => ⟨S8x44032x3584, .f32⟩
  | .hbm, ⟨34, _⟩ => ⟨S_, .f32⟩
  | .hbm, ⟨35, _⟩ => ⟨S8x44032x3584, .f32⟩
  | .hbm, ⟨36, _⟩ => ⟨S8x44032x3584, .f32⟩
  | .hbm, ⟨37, _⟩ => ⟨S8x44032x3584, .f32⟩
  | .hbm, ⟨38, _⟩ => ⟨S8x44032x3584, .f32⟩
  | .hbm, ⟨39, _⟩ => ⟨S8x3584x1024, .f32⟩
  | .hbm, ⟨40, _⟩ => ⟨S8x44032x1024, .f32⟩
  | .hbm, ⟨41, _⟩ => ⟨S44032x1024, .f32⟩
  | .hbm, ⟨42, _⟩ => ⟨S44032x1024, .bf16⟩
  | _, _ => ⟨S3x43, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Ffn.lean ====
abbrev S8x2048x1024 : Shape := ⟨3, ![8, 2048, 1024]⟩
abbrev S2x1024 : Shape := ⟨2, ![2, 1024]⟩
abbrev S1x1024x7168 : Shape := ⟨3, ![1, 1024, 7168]⟩
abbrev S1x3584x1024 : Shape := ⟨3, ![1, 3584, 1024]⟩
abbrev S16384x1024 : Shape := ⟨2, ![16384, 1024]⟩
abbrev S1x1024 : Shape := ⟨2, ![1, 1024]⟩
abbrev S1024 : Shape := ⟨1, ![1024]⟩
abbrev S1024x7168 : Shape := ⟨2, ![1024, 7168]⟩
abbrev S3584x1024 : Shape := ⟨2, ![3584, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x7168, .f32⟩
  | .hbm, ⟨3, _⟩ => ⟨S1x3584x1024, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x7168, .f32⟩
  | .hbm, ⟨9, _⟩ => ⟨S3584x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v25 : BitVec 1 := Scalar.cmpi .eq arg1 c6_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8x2048x1024 : Shape := ⟨3, ![8, 2048, 1024]⟩
abbrev S2x1024 : Shape := ⟨2, ![2, 1024]⟩
abbrev S1x1024x7168 : Shape := ⟨3, ![1, 1024, 7168]⟩
abbrev S1x3584x1024 : Shape := ⟨3, ![1, 3584, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x7168 : Shape := ⟨2, ![1024, 7168]⟩
abbrev S3584x1024 : Shape := ⟨2, ![3584, 1024]⟩
abbrev S8x2048x7168 : Shape := ⟨3, ![8, 2048, 7168]⟩
abbrev S8x2048x3584 : Shape := ⟨3, ![8, 2048, 3584]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x7168, .f32⟩
  | .hbm, ⟨3, _⟩ => ⟨S1x3584x1024, .f32⟩
  | .hbm, ⟨4, _⟩ => ⟨S1x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x7168, .f32⟩
  | .hbm, ⟨23, _⟩ => ⟨S3584x1024, .f32⟩
  | .hbm, ⟨24, _⟩ => ⟨S8x2048x7168, .f32⟩
  | .hbm, ⟨25, _⟩ => ⟨S8x2048x3584, .f32⟩
  | .hbm, ⟨26, _⟩ => ⟨S8x2048x3584, .f32⟩
  | .hbm, ⟨27, _⟩ => ⟨S8x2048x3584, .f32⟩
  | .hbm, ⟨28, _⟩ => ⟨S8x2048x3584, .f32⟩
  | .hbm, ⟨29, _⟩ => ⟨S_, .f32⟩
  | .hbm, ⟨30, _⟩ => ⟨S8x2048x3584, .f32⟩
  | .hbm, ⟨31, _⟩ => ⟨S8x2048x3584, .f32⟩
  | .hbm, ⟨32, _⟩ => ⟨S_, .f32⟩
  | .hbm, ⟨33, _⟩ => ⟨S8x2048x3584, .f32⟩
  | .hbm, ⟨34, _⟩ => ⟨S8x2048x3584, .f32⟩
  | .hbm, ⟨35, _⟩ => ⟨S8x2048x3584, .f32⟩
  | .hbm, ⟨36, _⟩ => ⟨S8x2048x3584, .f32⟩
  | .hbm, ⟨37, _⟩ => ⟨S8x2048x1024, .f32⟩
  | .hbm, ⟨38, _⟩ => ⟨S8x2048x1024, .f32⟩
  | .hbm, ⟨39, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Combine.lean ====
abbrev S32x24 : Shape := ⟨2, ![32, 24]⟩
abbrev S8x2048x1024 : Shape := ⟨3, ![8, 2048, 1024]⟩
abbrev S8x16384 : Shape := ⟨2, ![8, 16384]⟩
abbrev S44032x1024 : Shape := ⟨2, ![44032, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S8x512 : Shape := ⟨2, ![8, 512]⟩
abbrev S2x1152x1024 : Shape := ⟨3, ![2, 1152, 1024]⟩
abbrev S2 : Shape := ⟨1, ![2]⟩
abbrev S1x1 : Shape := ⟨2, ![1, 1]⟩
abbrev S1 : Shape := ⟨1, ![1]⟩
abbrev S_ : Shape := ⟨0, ![]⟩
abbrev S1x1152x1024 : Shape := ⟨3, ![1, 1152, 1024]⟩
abbrev S1152x1024 : Shape := ⟨2, ![1152, 1024]⟩
abbrev S16x1024 : Shape := ⟨2, ![16, 1024]⟩
abbrev S1x16x1024 : Shape := ⟨3, ![1, 16, 1024]⟩
abbrev S512x8 : Shape := ⟨2, ![512, 8]⟩
abbrev S512x1152 : Shape := ⟨2, ![512, 1152]⟩
abbrev S512x1 : Shape := ⟨2, ![512, 1]⟩
abbrev S512 : Shape := ⟨1, ![512]⟩

abbrev nBuf : Space → Nat
  | .hbm => 7
  | .vmem => 8
  | .smem => 1
  | _ => 0

abbrev bufTy : (tb : Table) → Fin (tcTables nBuf tb) → BufTy
  | .hbm, ⟨0, _⟩ => ⟨S8x2048x1024, .f32⟩
  | .hbm, ⟨1, _⟩ => ⟨S8x16384, .f32⟩
  | .hbm, ⟨2, _⟩ => ⟨S44032x1024, .bf16⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x512, .f32⟩
  | .local _ .vmem, ⟨3, _⟩ => ⟨S8x512, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2x1152x1024, .bf16⟩
  | .local _ .smem, ⟨0, _⟩ => ⟨S32x24, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop (v238 : BitVec 32) : Scf.Loop 32 :=
  let c0_i32_101 : BitVec 32 := 0#32
  let c0_i32_95 : BitVec 32 := 0#32
  let v240 : BitVec 1 := Scalar.cmpi .sgt v238 c0_i32_95
  let v241 : BitVec 32 := Scalar.extui v240
  let c0_i32_96 : BitVec 32 := 0#32
  let v242 : BitVec 1 := Scalar.cmpi .slt v238 c0_i32_96
  let v243 : BitVec 32 := Scalar.extui v242
  let v244 : BitVec 32 := Scalar.subi v241 v243
  let c16_i32_94 : BitVec 32 := 16#32
  let c0_i32_97 : BitVec 32 := 0#32
  let v245 : BitVec 1 := Scalar.cmpi .sgt c16_i32_94 c0_i32_97
  let v246 : BitVec 32 := Scalar.extui v245
  let c0_i32_98 : BitVec 32 := 0#32
  let v247 : BitVec 1 := Scalar.cmpi .slt c16_i32_94 c0_i32_98
  let v248 : BitVec 32 := Scalar.extui v247
  let v249 : BitVec 32 := Scalar.subi v246 v248
  let v250 : BitVec 1 := Scalar.cmpi .ne v244 v249
  let v251 : BitVec 32 := Scalar.remsi v238 c16_i32_94
  let c0_i32_99 : BitVec 32 := 0#32
  let v252 : BitVec 1 := Scalar.cmpi .ne v251 c0_i32_99
  let v253 : BitVec 1 := Scalar.andi v250 v252
  let v239 : BitVec 32 := Scalar.divsi v238 c16_i32_94
  let c1_i32_100 : BitVec 32 := 1#32
  let v254 : BitVec 32 := Scalar.subi v239 c1_i32_100
  let v255 : BitVec 32 := Scalar.select v253 v254 v239
  let v256 : BitVec 32 := Scalar.subi v255 c0_i32_101
  let c1_i32_103 : BitVec 32 := 1#32
  let v258 : BitVec 32 := Scalar.divsi v256 c1_i32_103
  let v259 : BitVec 32 := Scalar.muli v258 c1_i32_103
  let v260 : BitVec 32 := Scalar.addi c0_i32_101 v259
  let c1_i32_104 : BitVec 32 := 1#32
  ⟨c0_i32_101, v260, c1_i32_104⟩

def k0_mult1 (v237 : BitVec 32) (v238 : BitVec 32) (k0_t1 : Fin (k0_t1_loop v238).trips) : BitVec 32 :=
  let c0_i32_101 : BitVec 32 := 0#32
  let c1_i32_104 : BitVec 32 := 1#32
  let arg9 : BitVec 32 := Scf.iv c0_i32_101 c1_i32_104 k0_t1
  let c16_i32_218 : BitVec 32 := 16#32
  let v452 : BitVec 32 := Scalar.muli arg9 c16_i32_218
  let v453 : BitVec 32 := Scalar.addi v237 v452
  v453
def k0_mult2 (v236 : BitVec 32) (v238 : BitVec 32) (k0_t1 : Fin (k0_t1_loop v238).trips) : BitVec 32 :=
  let c0_i32_101 : BitVec 32 := 0#32
  let c1_i32_104 : BitVec 32 := 1#32
  let arg9 : BitVec 32 := Scf.iv c0_i32_101 c1_i32_104 k0_t1
  let c16_i32_219 : BitVec 32 := 16#32
  let v455 : BitVec 32 := Scalar.muli arg9 c16_i32_219
  let v456 : BitVec 32 := Scalar.addi v236 v455
  v456
def k0_off1 (v236 : BitVec 32) (v238 : BitVec 32) (k0_t1 : Fin (k0_t1_loop v238).trips) : Fin 2 → Nat :=
  let c0_i32_101 : BitVec 32 := 0#32
  let c1_i32_104 : BitVec 32 := 1#32
  let arg9 : BitVec 32 := Scf.iv c0_i32_101 c1_i32_104 k0_t1
  let c16_i32_219 : BitVec 32 := 16#32
  let v455 : BitVec 32 := Scalar.muli arg9 c16_i32_219
  let v456 : BitVec 32 := Scalar.addi v236 v455
  let v457 : BitVec 32 := v456
  let c0_i32_224 : BitVec 32 := 0#32
  ![v457.toNat, 0]
def k0_off2 (v237 : BitVec 32) (v238 : BitVec 32) (k0_t1 : Fin (k0_t1_loop v238).trips) : Fin 2 → Nat :=
  let c0_i32_101 : BitVec 32 := 0#32
  let c1_i32_104 : BitVec 32 := 1#32
  let arg9 : BitVec 32 := Scf.iv c0_i32_101 c1_i32_104 k0_t1
  let c16_i32_218 : BitVec 32 := 16#32
  let v452 : BitVec 32 := Scalar.muli arg9 c16_i32_218
  let v453 : BitVec 32 := Scalar.addi v237 v452
  let v454 : BitVec 32 := v453
  let c0_i32_225 : BitVec 32 := 0#32
  ![v454.toNat, 0]
def k0_off3 (v236 : BitVec 32) (v238 : BitVec 32) (k0_t1 : Fin (k0_t1_loop v238).trips) : Fin 3 → Nat :=
  let c0_i32_220 : BitVec 32 := 0#32
  let c0_i32_101 : BitVec 32 := 0#32
  let c1_i32_104 : BitVec 32 := 1#32
  let arg9 : BitVec 32 := Scf.iv c0_i32_101 c1_i32_104 k0_t1
  let c16_i32_219 : BitVec 32 := 16#32
  let v455 : BitVec 32 := Scalar.muli arg9 c16_i32_219
  let v456 : BitVec 32 := Scalar.addi v236 v455
  let v457 : BitVec 32 := v456
  let c0_i32_223 : BitVec 32 := 0#32
  ![0, v457.toNat, 0]
@[reducible] def k0_t2_loop (v238 : BitVec 32) : Scf.Loop 32 :=
  let c0_i32_101 : BitVec 32 := 0#32
  let c0_i32_95 : BitVec 32 := 0#32
  let v240 : BitVec 1 := Scalar.cmpi .sgt v238 c0_i32_95
  let v241 : BitVec 32 := Scalar.extui v240
  let c0_i32_96 : BitVec 32 := 0#32
  let v242 : BitVec 1 := Scalar.cmpi .slt v238 c0_i32_96
  let v243 : BitVec 32 := Scalar.extui v242
  let v244 : BitVec 32 := Scalar.subi v241 v243
  let c16_i32_94 : BitVec 32 := 16#32
  let c0_i32_97 : BitVec 32 := 0#32
  let v245 : BitVec 1 := Scalar.cmpi .sgt c16_i32_94 c0_i32_97
  let v246 : BitVec 32 := Scalar.extui v245
  let c0_i32_98 : BitVec 32 := 0#32
  let v247 : BitVec 1 := Scalar.cmpi .slt c16_i32_94 c0_i32_98
  let v248 : BitVec 32 := Scalar.extui v247
  let v249 : BitVec 32 := Scalar.subi v246 v248
  let v250 : BitVec 1 := Scalar.cmpi .ne v244 v249
  let v251 : BitVec 32 := Scalar.remsi v238 c16_i32_94
  let c0_i32_99 : BitVec 32 := 0#32
  let v252 : BitVec 1 := Scalar.cmpi .ne v251 c0_i32_99
  let v253 : BitVec 1 := Scalar.andi v250 v252
  let v239 : BitVec 32 := Scalar.divsi v238 c16_i32_94
  let c1_i32_100 : BitVec 32 := 1#32
  let v254 : BitVec 32 := Scalar.subi v239 c1_i32_100
  let v255 : BitVec 32 := Scalar.select v253 v254 v239
  let v256 : BitVec 32 := Scalar.subi v255 c0_i32_101
  let c1_i32_103 : BitVec 32 := 1#32
  let v258 : BitVec 32 := Scalar.divsi v256 c1_i32_103
  let v259 : BitVec 32 := Scalar.muli v258 c1_i32_103
  let v260 : BitVec 32 := Scalar.addi c0_i32_101 v259
  let v257 : BitVec 32 := Scalar.addi c0_i32_101 v256
  let c1_i32_105 : BitVec 32 := 1#32
  ⟨v260, v257, c1_i32_105⟩
def k0_mult3 (v237 : BitVec 32) (v238 : BitVec 32) (k0_t2 : Fin (k0_t2_loop v238).trips) : BitVec 32 :=
  let c0_i32_101 : BitVec 32 := 0#32
  let c0_i32_95 : BitVec 32 := 0#32
  let v240 : BitVec 1 := Scalar.cmpi .sgt v238 c0_i32_95
  let v241 : BitVec 32 := Scalar.extui v240
  let c0_i32_96 : BitVec 32 := 0#32
  let v242 : BitVec 1 := Scalar.cmpi .slt v238 c0_i32_96
  let v243 : BitVec 32 := Scalar.extui v242
  let v244 : BitVec 32 := Scalar.subi v241 v243
  let c16_i32_94 : BitVec 32 := 16#32
  let c0_i32_97 : BitVec 32 := 0#32
  let v245 : BitVec 1 := Scalar.cmpi .sgt c16_i32_94 c0_i32_97
  let v246 : BitVec 32 := Scalar.extui v245
  let c0_i32_98 : BitVec 32 := 0#32
  let v247 : BitVec 1 := Scalar.cmpi .slt c16_i32_94 c0_i32_98
  let v248 : BitVec 32 := Scalar.extui v247
  let v249 : BitVec 32 := Scalar.subi v246 v248
  let v250 : BitVec 1 := Scalar.cmpi .ne v244 v249
  let v251 : BitVec 32 := Scalar.remsi v238 c16_i32_94
  let c0_i32_99 : BitVec 32 := 0#32
  let v252 : BitVec 1 := Scalar.cmpi .ne v251 c0_i32_99
  let v253 : BitVec 1 := Scalar.andi v250 v252
  let v239 : BitVec 32 := Scalar.divsi v238 c16_i32_94
  let c1_i32_100 : BitVec 32 := 1#32
  let v254 : BitVec 32 := Scalar.subi v239 c1_i32_100
  let v255 : BitVec 32 := Scalar.select v253 v254 v239
  let v256 : BitVec 32 := Scalar.subi v255 c0_i32_101
  let c1_i32_103 : BitVec 32 := 1#32
  let v258 : BitVec 32 := Scalar.divsi v256 c1_i32_103
  let v259 : BitVec 32 := Scalar.muli v258 c1_i32_103
  let v260 : BitVec 32 := Scalar.addi c0_i32_101 v259
  let c1_i32_105 : BitVec 32 := 1#32
  let arg9 : BitVec 32 := Scf.iv v260 c1_i32_105 k0_t2
  let c16_i32_218 : BitVec 32 := 16#32
  let v452 : BitVec 32 := Scalar.muli arg9 c16_i32_218
  let v453 : BitVec 32 := Scalar.addi v237 v452
  v453
def k0_mult4 (v236 : BitVec 32) (v238 : BitVec 32) (k0_t2 : Fin (k0_t2_loop v238).trips) : BitVec 32 :=
  let c0_i32_101 : BitVec 32 := 0#32
  let c0_i32_95 : BitVec 32 := 0#32
  let v240 : BitVec 1 := Scalar.cmpi .sgt v238 c0_i32_95
  let v241 : BitVec 32 := Scalar.extui v240
  let c0_i32_96 : BitVec 32 := 0#32
  let v242 : BitVec 1 := Scalar.cmpi .slt v238 c0_i32_96
  let v243 : BitVec 32 := Scalar.extui v242
  let v244 : BitVec 32 := Scalar.subi v241 v243
  let c16_i32_94 : BitVec 32 := 16#32
  let c0_i32_97 : BitVec 32 := 0#32
  let v245 : BitVec 1 := Scalar.cmpi .sgt c16_i32_94 c0_i32_97
  let v246 : BitVec 32 := Scalar.extui v245
  let c0_i32_98 : BitVec 32 := 0#32
  let v247 : BitVec 1 := Scalar.cmpi .slt c16_i32_94 c0_i32_98
  let v248 : BitVec 32 := Scalar.extui v247
  let v249 : BitVec 32 := Scalar.subi v246 v248
  let v250 : BitVec 1 := Scalar.cmpi .ne v244 v249
  let v251 : BitVec 32 := Scalar.remsi v238 c16_i32_94
  let c0_i32_99 : BitVec 32 := 0#32
  let v252 : BitVec 1 := Scalar.cmpi .ne v251 c0_i32_99
  let v253 : BitVec 1 := Scalar.andi v250 v252
  let v239 : BitVec 32 := Scalar.divsi v238 c16_i32_94
  let c1_i32_100 : BitVec 32 := 1#32
  let v254 : BitVec 32 := Scalar.subi v239 c1_i32_100
  let v255 : BitVec 32 := Scalar.select v253 v254 v239
  let v256 : BitVec 32 := Scalar.subi v255 c0_i32_101
  let c1_i32_103 : BitVec 32 := 1#32
  let v258 : BitVec 32 := Scalar.divsi v256 c1_i32_103
  let v259 : BitVec 32 := Scalar.muli v258 c1_i32_103
  let v260 : BitVec 32 := Scalar.addi c0_i32_101 v259
  let c1_i32_105 : BitVec 32 := 1#32
  let arg9 : BitVec 32 := Scf.iv v260 c1_i32_105 k0_t2
  let c16_i32_219 : BitVec 32 := 16#32
  let v455 : BitVec 32 := Scalar.muli arg9 c16_i32_219
  let v456 : BitVec 32 := Scalar.addi v236 v455
  v456
def k0_off4 (v236 : BitVec 32) (v238 : BitVec 32) (k0_t2 : Fin (k0_t2_loop v238).trips) : Fin 2 → Nat :=
  let c0_i32_101 : BitVec 32 := 0#32
  let c0_i32_95 : BitVec 32 := 0#32
  let v240 : BitVec 1 := Scalar.cmpi .sgt v238 c0_i32_95
  let v241 : BitVec 32 := Scalar.extui v240
  let c0_i32_96 : BitVec 32 := 0#32
  let v242 : BitVec 1 := Scalar.cmpi .slt v238 c0_i32_96
  let v243 : BitVec 32 := Scalar.extui v242
  let v244 : BitVec 32 := Scalar.subi v241 v243
  let c16_i32_94 : BitVec 32 := 16#32
  let c0_i32_97 : BitVec 32 := 0#32
  let v245 : BitVec 1 := Scalar.cmpi .sgt c16_i32_94 c0_i32_97
  let v246 : BitVec 32 := Scalar.extui v245
  let c0_i32_98 : BitVec 32 := 0#32
  let v247 : BitVec 1 := Scalar.cmpi .slt c16_i32_94 c0_i32_98
  let v248 : BitVec 32 := Scalar.extui v247
  let v249 : BitVec 32 := Scalar.subi v246 v248
  let v250 : BitVec 1 := Scalar.cmpi .ne v244 v249
  let v251 : BitVec 32 := Scalar.remsi v238 c16_i32_94
  let c0_i32_99 : BitVec 32 := 0#32
  let v252 : BitVec 1 := Scalar.cmpi .ne v251 c0_i32_99
  let v253 : BitVec 1 := Scalar.andi v250 v252
  let v239 : BitVec 32 := Scalar.divsi v238 c16_i32_94
  let c1_i32_100 : BitVec 32 := 1#32
  let v254 : BitVec 32 := Scalar.subi v239 c1_i32_100
  let v255 : BitVec 32 := Scalar.select v253 v254 v239
  let v256 : BitVec 32 := Scalar.subi v255 c0_i32_101
  let c1_i32_103 : BitVec 32 := 1#32
  let v258 : BitVec 32 := Scalar.divsi v256 c1_i32_103
  let v259 : BitVec 32 := Scalar.muli v258 c1_i32_103
  let v260 : BitVec 32 := Scalar.addi c0_i32_101 v259
  let c1_i32_105 : BitVec 32 := 1#32
  let arg9 : BitVec 32 := Scf.iv v260 c1_i32_105 k0_t2
  let c16_i32_219 : BitVec 32 := 16#32
  let v455 : BitVec 32 := Scalar.muli arg9 c16_i32_219
  let v456 : BitVec 32 := Scalar.addi v236 v455
  let v457 : BitVec 32 := v456
  let c0_i32_224 : BitVec 32 := 0#32
  ![v457.toNat, 0]
def k0_off5 (v237 : BitVec 32) (v238 : BitVec 32) (k0_t2 : Fin (k0_t2_loop v238).trips) : Fin 2 → Nat :=
  let c0_i32_101 : BitVec 32 := 0#32
  let c0_i32_95 : BitVec 32 := 0#32
  let v240 : BitVec 1 := Scalar.cmpi .sgt v238 c0_i32_95
  let v241 : BitVec 32 := Scalar.extui v240
  let c0_i32_96 : BitVec 32 := 0#32
  let v242 : BitVec 1 := Scalar.cmpi .slt v238 c0_i32_96
  let v243 : BitVec 32 := Scalar.extui v242
  let v244 : BitVec 32 := Scalar.subi v241 v243
  let c16_i32_94 : BitVec 32 := 16#32
  let c0_i32_97 : BitVec 32 := 0#32
  let v245 : BitVec 1 := Scalar.cmpi .sgt c16_i32_94 c0_i32_97
  let v246 : BitVec 32 := Scalar.extui v245
  let c0_i32_98 : BitVec 32 := 0#32
  let v247 : BitVec 1 := Scalar.cmpi .slt c16_i32_94 c0_i32_98
  let v248 : BitVec 32 := Scalar.extui v247
  let v249 : BitVec 32 := Scalar.subi v246 v248
  let v250 : BitVec 1 := Scalar.cmpi .ne v244 v249
  let v251 : BitVec 32 := Scalar.remsi v238 c16_i32_94
  let c0_i32_99 : BitVec 32 := 0#32
  let v252 : BitVec 1 := Scalar.cmpi .ne v251 c0_i32_99
  let v253 : BitVec 1 := Scalar.andi v250 v252
  let v239 : BitVec 32 := Scalar.divsi v238 c16_i32_94
  let c1_i32_100 : BitVec 32 := 1#32
  let v254 : BitVec 32 := Scalar.subi v239 c1_i32_100
  let v255 : BitVec 32 := Scalar.select v253 v254 v239
  let v256 : BitVec 32 := Scalar.subi v255 c0_i32_101
  let c1_i32_103 : BitVec 32 := 1#32
  let v258 : BitVec 32 := Scalar.divsi v256 c1_i32_103
  let v259 : BitVec 32 := Scalar.muli v258 c1_i32_103
  let v260 : BitVec 32 := Scalar.addi c0_i32_101 v259
  let c1_i32_105 : BitVec 32 := 1#32
  let arg9 : BitVec 32 := Scf.iv v260 c1_i32_105 k0_t2
  let c16_i32_218 : BitVec 32 := 16#32
  let v452 : BitVec 32 := Scalar.muli arg9 c16_i32_218
  let v453 : BitVec 32 := Scalar.addi v237 v452
  let v454 : BitVec 32 := v453
  let c0_i32_225 : BitVec 32 := 0#32
  ![v454.toNat, 0]
def k0_off6 (v236 : BitVec 32) (v238 : BitVec 32) (k0_t2 : Fin (k0_t2_loop v238).trips) : Fin 3 → Nat :=
  let c0_i32_220 : BitVec 32 := 0#32
  let c0_i32_101 : BitVec 32 := 0#32
  let c0_i32_95 : BitVec 32 := 0#32
  let v240 : BitVec 1 := Scalar.cmpi .sgt v238 c0_i32_95
  let v241 : BitVec 32 := Scalar.extui v240
  let c0_i32_96 : BitVec 32 := 0#32
  let v242 : BitVec 1 := Scalar.cmpi .slt v238 c0_i32_96
  let v243 : BitVec 32 := Scalar.extui v242
  let v244 : BitVec 32 := Scalar.subi v241 v243
  let c16_i32_94 : BitVec 32 := 16#32
  let c0_i32_97 : BitVec 32 := 0#32
  let v245 : BitVec 1 := Scalar.cmpi .sgt c16_i32_94 c0_i32_97
  let v246 : BitVec 32 := Scalar.extui v245
  let c0_i32_98 : BitVec 32 := 0#32
  let v247 : BitVec 1 := Scalar.cmpi .slt c16_i32_94 c0_i32_98
  let v248 : BitVec 32 := Scalar.extui v247
  let v249 : BitVec 32 := Scalar.subi v246 v248
  let v250 : BitVec 1 := Scalar.cmpi .ne v244 v249
  let v251 : BitVec 32 := Scalar.remsi v238 c16_i32_94
  let c0_i32_99 : BitVec 32 := 0#32
  let v252 : BitVec 1 := Scalar.cmpi .ne v251 c0_i32_99
  let v253 : BitVec 1 := Scalar.andi v250 v252
  let v239 : BitVec 32 := Scalar.divsi v238 c16_i32_94
  let c1_i32_100 : BitVec 32 := 1#32
  let v254 : BitVec 32 := Scalar.subi v239 c1_i32_100
  let v255 : BitVec 32 := Scalar.select v253 v254 v239
  let v256 : BitVec 32 := Scalar.subi v255 c0_i32_101
  let c1_i32_103 : BitVec 32 := 1#32
  let v258 : BitVec 32 := Scalar.divsi v256 c1_i32_103
  let v259 : BitVec 32 := Scalar.muli v258 c1_i32_103
  let v260 : BitVec 32 := Scalar.addi c0_i32_101 v259
  let c1_i32_105 : BitVec 32 := 1#32
  let arg9 : BitVec 32 := Scf.iv v260 c1_i32_105 k0_t2
  let c16_i32_219 : BitVec 32 := 16#32
  let v455 : BitVec 32 := Scalar.muli arg9 c16_i32_219
  let v456 : BitVec 32 := Scalar.addi v236 v455
  let v457 : BitVec 32 := v456
  let c0_i32_223 : BitVec 32 := 0#32
  ![0, v457.toNat, 0]

def k0_chk1 (i : grid0.Coords) (v236 : BitVec 32) (v237 : BitVec 32) (v238 : BitVec 32) : Prop :=
  (∀ (k0_h1 : k0_cond1 i = 1#1), (k0_t1_loop v238).OK) ∧
  (∀ k0_t1 : Fin (k0_t1_loop v238).trips, ∀ (k0_h1 : k0_cond1 i = 1#1), 16 ∣ (k0_mult1 v237 v238 k0_t1).toNat) ∧
  (∀ k0_t1 : Fin (k0_t1_loop v238).trips, ∀ (k0_h1 : k0_cond1 i = 1#1), 16 ∣ (k0_mult2 v236 v238 k0_t1).toNat) ∧
  (∀ k0_t1 : Fin (k0_t1_loop v238).trips, ∀ (k0_h1 : k0_cond1 i = 1#1), ∀ a, (k0_off1 v236 v238 k0_t1) a + S16x1024.size a ≤ S1152x1024.size a) ∧
  (∀ k0_t1 : Fin (k0_t1_loop v238).trips, ∀ (k0_h1 : k0_cond1 i = 1#1), ∀ a, (k0_off2 v237 v238 k0_t1) a + S16x1024.size a ≤ S44032x1024.size a) ∧
  (∀ k0_t1 : Fin (k0_t1_loop v238).trips, ∀ (k0_h1 : k0_cond1 i = 1#1), ∀ (hinb : ∀ a, (k0_off2 v237 v238 k0_t1) a + S16x1024.size a ≤ S44032x1024.size a), (Rect.unit (s := S44032x1024) (k0_off2 v237 v238 k0_t1) S16x1024.size hinb).WholeWords (EltTy.packing .bf16)) ∧
  (∀ k0_t1 : Fin (k0_t1_loop v238).trips, ∀ (k0_h1 : k0_cond1 i = 1#1), ∀ a, (k0_off3 v236 v238 k0_t1) a + S1x16x1024.size a ≤ S2x1152x1024.size a) ∧
  (∀ k0_t1 : Fin (k0_t1_loop v238).trips, ∀ (k0_h1 : k0_cond1 i = 1#1), ∀ (hinb : ∀ a, (k0_off3 v236 v238 k0_t1) a + S1x16x1024.size a ≤ S2x1152x1024.size a), (Rect.unit (s := S2x1152x1024) (k0_off3 v236 v238 k0_t1) S1x16x1024.size hinb).WholeWords (EltTy.packing .bf16)) ∧
  (∀ (k0_h1 : k0_cond1 i = 1#1), (k0_t2_loop v238).OK) ∧
  (∀ k0_t2 : Fin (k0_t2_loop v238).trips, ∀ (k0_h1 : k0_cond1 i = 1#1), 16 ∣ (k0_mult3 v237 v238 k0_t2).toNat) ∧
  (∀ k0_t2 : Fin (k0_t2_loop v238).trips, ∀ (k0_h1 : k0_cond1 i = 1#1), 16 ∣ (k0_mult4 v236 v238 k0_t2).toNat) ∧
  (∀ k0_t2 : Fin (k0_t2_loop v238).trips, ∀ (k0_h1 : k0_cond1 i = 1#1), ∀ a, (k0_off4 v236 v238 k0_t2) a + S16x1024.size a ≤ S1152x1024.size a) ∧
  (∀ k0_t2 : Fin (k0_t2_loop v238).trips, ∀ (k0_h1 : k0_cond1 i = 1#1), ∀ a, (k0_off5 v237 v238 k0_t2) a + S16x1024.size a ≤ S44032x1024.size a) ∧
  (∀ k0_t2 : Fin (k0_t2_loop v238).trips, ∀ (k0_h1 : k0_cond1 i = 1#1), ∀ (hinb : ∀ a, (k0_off5 v237 v238 k0_t2) a + S16x1024.size a ≤ S44032x1024.size a), (Rect.unit (s := S44032x1024) (k0_off5 v237 v238 k0_t2) S16x1024.size hinb).WholeWords (EltTy.packing .bf16)) ∧
  (∀ k0_t2 : Fin (k0_t2_loop v238).trips, ∀ (k0_h1 : k0_cond1 i = 1#1), ∀ a, (k0_off6 v236 v238 k0_t2) a + S1x16x1024.size a ≤ S2x1152x1024.size a) ∧
  (∀ k0_t2 : Fin (k0_t2_loop v238).trips, ∀ (k0_h1 : k0_cond1 i = 1#1), ∀ (hinb : ∀ a, (k0_off6 v236 v238 k0_t2) a + S1x16x1024.size a ≤ S2x1152x1024.size a), (Rect.unit (s := S2x1152x1024) (k0_off6 v236 v238 k0_t2) S1x16x1024.size hinb).WholeWords (EltTy.packing .bf16))
theorem k0_t1_ok : ∀ (i : grid0.Coords) (v236 : BitVec 32) (v237 : BitVec 32) (v238 : BitVec 32) (k0_hw1 : k0_chk1 i v236 v237 v238), ∀ (k0_h1 : k0_cond1 i = 1#1), (k0_t1_loop v238).OK := fun i v236 v237 v238 k0_hw1 k0_h1 => k0_hw1.1 k0_h1
theorem k0_mult1_dvd : ∀ (i : grid0.Coords) (v236 : BitVec 32) (v237 : BitVec 32) (v238 : BitVec 32) (k0_hw1 : k0_chk1 i v236 v237 v238) (k0_t1 : Fin (k0_t1_loop v238).trips), ∀ (k0_h1 : k0_cond1 i = 1#1), 16 ∣ (k0_mult1 v237 v238 k0_t1).toNat := fun i v236 v237 v238 k0_hw1 k0_t1 k0_h1 => k0_hw1.2.1 k0_t1 k0_h1
theorem k0_mult2_dvd : ∀ (i : grid0.Coords) (v236 : BitVec 32) (v237 : BitVec 32) (v238 : BitVec 32) (k0_hw1 : k0_chk1 i v236 v237 v238) (k0_t1 : Fin (k0_t1_loop v238).trips), ∀ (k0_h1 : k0_cond1 i = 1#1), 16 ∣ (k0_mult2 v236 v238 k0_t1).toNat := fun i v236 v237 v238 k0_hw1 k0_t1 k0_h1 => k0_hw1.2.2.1 k0_t1 k0_h1
theorem k0_off1_inb : ∀ (i : grid0.Coords) (v236 : BitVec 32) (v237 : BitVec 32) (v238 : BitVec 32) (k0_hw1 : k0_chk1 i v236 v237 v238) (k0_t1 : Fin (k0_t1_loop v238).trips), ∀ (k0_h1 : k0_cond1 i = 1#1), ∀ a, (k0_off1 v236 v238 k0_t1) a + S16x1024.size a ≤ S1152x1024.size a := fun i v236 v237 v238 k0_hw1 k0_t1 k0_h1 => k0_hw1.2.2.2.1 k0_t1 k0_h1
theorem k0_off2_inb : ∀ (i : grid0.Coords) (v236 : BitVec 32) (v237 : BitVec 32) (v238 : BitVec 32) (k0_hw1 : k0_chk1 i v236 v237 v238) (k0_t1 : Fin (k0_t1_loop v238).trips), ∀ (k0_h1 : k0_cond1 i = 1#1), ∀ a, (k0_off2 v237 v238 k0_t1) a + S16x1024.size a ≤ S44032x1024.size a := fun i v236 v237 v238 k0_hw1 k0_t1 k0_h1 => k0_hw1.2.2.2.2.1 k0_t1 k0_h1
theorem k0_off2_wordsbf16 : ∀ (i : grid0.Coords) (v236 : BitVec 32) (v237 : BitVec 32) (v238 : BitVec 32) (k0_hw1 : k0_chk1 i v236 v237 v238) (k0_t1 : Fin (k0_t1_loop v238).trips), ∀ (k0_h1 : k0_cond1 i = 1#1), (Rect.unit (s := S44032x1024) (k0_off2 v237 v238 k0_t1) S16x1024.size (k0_off2_inb i v236 v237 v238 k0_hw1 k0_t1 k0_h1)).WholeWords (EltTy.packing .bf16) := fun i v236 v237 v238 k0_hw1 k0_t1 k0_h1 => k0_hw1.2.2.2.2.2.1 k0_t1 k0_h1 (k0_off2_inb i v236 v237 v238 k0_hw1 k0_t1 k0_h1)
theorem k0_off3_inb : ∀ (i : grid0.Coords) (v236 : BitVec 32) (v237 : BitVec 32) (v238 : BitVec 32) (k0_hw1 : k0_chk1 i v236 v237 v238) (k0_t1 : Fin (k0_t1_loop v238).trips), ∀ (k0_h1 : k0_cond1 i = 1#1), ∀ a, (k0_off3 v236 v238 k0_t1) a + S1x16x1024.size a ≤ S2x1152x1024.size a := fun i v236 v237 v238 k0_hw1 k0_t1 k0_h1 => k0_hw1.2.2.2.2.2.2.1 k0_t1 k0_h1
theorem k0_off3_wordsbf16 : ∀ (i : grid0.Coords) (v236 : BitVec 32) (v237 : BitVec 32) (v238 : BitVec 32) (k0_hw1 : k0_chk1 i v236 v237 v238) (k0_t1 : Fin (k0_t1_loop v238).trips), ∀ (k0_h1 : k0_cond1 i = 1#1), (Rect.unit (s := S2x1152x1024) (k0_off3 v236 v238 k0_t1) S1x16x1024.size (k0_off3_inb i v236 v237 v238 k0_hw1 k0_t1 k0_h1)).WholeWords (EltTy.packing .bf16) := fun i v236 v237 v238 k0_hw1 k0_t1 k0_h1 => k0_hw1.2.2.2.2.2.2.2.1 k0_t1 k0_h1 (k0_off3_inb i v236 v237 v238 k0_hw1 k0_t1 k0_h1)
theorem k0_t2_ok : ∀ (i : grid0.Coords) (v236 : BitVec 32) (v237 : BitVec 32) (v238 : BitVec 32) (k0_hw1 : k0_chk1 i v236 v237 v238), ∀ (k0_h1 : k0_cond1 i = 1#1), (k0_t2_loop v238).OK := fun i v236 v237 v238 k0_hw1 k0_h1 => k0_hw1.2.2.2.2.2.2.2.2.1 k0_h1
theorem k0_mult3_dvd : ∀ (i : grid0.Coords) (v236 : BitVec 32) (v237 : BitVec 32) (v238 : BitVec 32) (k0_hw1 : k0_chk1 i v236 v237 v238) (k0_t2 : Fin (k0_t2_loop v238).trips), ∀ (k0_h1 : k0_cond1 i = 1#1), 16 ∣ (k0_mult3 v237 v238 k0_t2).toNat := fun i v236 v237 v238 k0_hw1 k0_t2 k0_h1 => k0_hw1.2.2.2.2.2.2.2.2.2.1 k0_t2 k0_h1
theorem k0_mult4_dvd : ∀ (i : grid0.Coords) (v236 : BitVec 32) (v237 : BitVec 32) (v238 : BitVec 32) (k0_hw1 : k0_chk1 i v236 v237 v238) (k0_t2 : Fin (k0_t2_loop v238).trips), ∀ (k0_h1 : k0_cond1 i = 1#1), 16 ∣ (k0_mult4 v236 v238 k0_t2).toNat := fun i v236 v237 v238 k0_hw1 k0_t2 k0_h1 => k0_hw1.2.2.2.2.2.2.2.2.2.2.1 k0_t2 k0_h1
theorem k0_off4_inb : ∀ (i : grid0.Coords) (v236 : BitVec 32) (v237 : BitVec 32) (v238 : BitVec 32) (k0_hw1 : k0_chk1 i v236 v237 v238) (k0_t2 : Fin (k0_t2_loop v238).trips), ∀ (k0_h1 : k0_cond1 i = 1#1), ∀ a, (k0_off4 v236 v238 k0_t2) a + S16x1024.size a ≤ S1152x1024.size a := fun i v236 v237 v238 k0_hw1 k0_t2 k0_h1 => k0_hw1.2.2.2.2.2.2.2.2.2.2.2.1 k0_t2 k0_h1
theorem k0_off5_inb : ∀ (i : grid0.Coords) (v236 : BitVec 32) (v237 : BitVec 32) (v238 : BitVec 32) (k0_hw1 : k0_chk1 i v236 v237 v238) (k0_t2 : Fin (k0_t2_loop v238).trips), ∀ (k0_h1 : k0_cond1 i = 1#1), ∀ a, (k0_off5 v237 v238 k0_t2) a + S16x1024.size a ≤ S44032x1024.size a := fun i v236 v237 v238 k0_hw1 k0_t2 k0_h1 => k0_hw1.2.2.2.2.2.2.2.2.2.2.2.2.1 k0_t2 k0_h1
theorem k0_off5_wordsbf16 : ∀ (i : grid0.Coords) (v236 : BitVec 32) (v237 : BitVec 32) (v238 : BitVec 32) (k0_hw1 : k0_chk1 i v236 v237 v238) (k0_t2 : Fin (k0_t2_loop v238).trips), ∀ (k0_h1 : k0_cond1 i = 1#1), (Rect.unit (s := S44032x1024) (k0_off5 v237 v238 k0_t2) S16x1024.size (k0_off5_inb i v236 v237 v238 k0_hw1 k0_t2 k0_h1)).WholeWords (EltTy.packing .bf16) := fun i v236 v237 v238 k0_hw1 k0_t2 k0_h1 => k0_hw1.2.2.2.2.2.2.2.2.2.2.2.2.2.1 k0_t2 k0_h1 (k0_off5_inb i v236 v237 v238 k0_hw1 k0_t2 k0_h1)
theorem k0_off6_inb : ∀ (i : grid0.Coords) (v236 : BitVec 32) (v237 : BitVec 32) (v238 : BitVec 32) (k0_hw1 : k0_chk1 i v236 v237 v238) (k0_t2 : Fin (k0_t2_loop v238).trips), ∀ (k0_h1 : k0_cond1 i = 1#1), ∀ a, (k0_off6 v236 v238 k0_t2) a + S1x16x1024.size a ≤ S2x1152x1024.size a := fun i v236 v237 v238 k0_hw1 k0_t2 k0_h1 => k0_hw1.2.2.2.2.2.2.2.2.2.2.2.2.2.2.1 k0_t2 k0_h1
theorem k0_off6_wordsbf16 : ∀ (i : grid0.Coords) (v236 : BitVec 32) (v237 : BitVec 32) (v238 : BitVec 32) (k0_hw1 : k0_chk1 i v236 v237 v238) (k0_t2 : Fin (k0_t2_loop v238).trips), ∀ (k0_h1 : k0_cond1 i = 1#1), (Rect.unit (s := S2x1152x1024) (k0_off6 v236 v238 k0_t2) S1x16x1024.size (k0_off6_inb i v236 v237 v238 k0_hw1 k0_t2 k0_h1)).WholeWords (EltTy.packing .bf16) := fun i v236 v237 v238 k0_hw1 k0_t2 k0_h1 => k0_hw1.2.2.2.2.2.2.2.2.2.2.2.2.2.2.2 k0_t2 k0_h1 (k0_off6_inb i v236 v237 v238 k0_hw1 k0_t2 k0_h1)

@[reducible] def k0_t3_loop (v265 : BitVec 32) : Scf.Loop 32 :=
  let c0_i32_117 : BitVec 32 := 0#32
  let c0_i32_111 : BitVec 32 := 0#32
  let v267 : BitVec 1 := Scalar.cmpi .sgt v265 c0_i32_111
  let v268 : BitVec 32 := Scalar.extui v267
  let c0_i32_112 : BitVec 32 := 0#32
  let v269 : BitVec 1 := Scalar.cmpi .slt v265 c0_i32_112
  let v270 : BitVec 32 := Scalar.extui v269
  let v271 : BitVec 32 := Scalar.subi v268 v270
  let c16_i32_110 : BitVec 32 := 16#32
  let c0_i32_113 : BitVec 32 := 0#32
  let v272 : BitVec 1 := Scalar.cmpi .sgt c16_i32_110 c0_i32_113
  let v273 : BitVec 32 := Scalar.extui v272
  let c0_i32_114 : BitVec 32 := 0#32
  let v274 : BitVec 1 := Scalar.cmpi .slt c16_i32_110 c0_i32_114
  let v275 : BitVec 32 := Scalar.extui v274
  let v276 : BitVec 32 := Scalar.subi v273 v275
  let v277 : BitVec 1 := Scalar.cmpi .ne v271 v276
  let v278 : BitVec 32 := Scalar.remsi v265 c16_i32_110
  let c0_i32_115 : BitVec 32 := 0#32
  let v279 : BitVec 1 := Scalar.cmpi .ne v278 c0_i32_115
  let v280 : BitVec 1 := Scalar.andi v277 v279
  let v266 : BitVec 32 := Scalar.divsi v265 c16_i32_110
  let c1_i32_116 : BitVec 32 := 1#32
  let v281 : BitVec 32 := Scalar.subi v266 c1_i32_116
  let v282 : BitVec 32 := Scalar.select v280 v281 v266
  let v283 : BitVec 32 := Scalar.subi v282 c0_i32_117
  let c1_i32_119 : BitVec 32 := 1#32
  let v285 : BitVec 32 := Scalar.divsi v283 c1_i32_119
  let v286 : BitVec 32 := Scalar.muli v285 c1_i32_119
  let v287 : BitVec 32 := Scalar.addi c0_i32_117 v286
  let c1_i32_120 : BitVec 32 := 1#32
  ⟨c0_i32_117, v287, c1_i32_120⟩

def k0_mult5 (v264 : BitVec 32) (v265 : BitVec 32) (k0_t3 : Fin (k0_t3_loop v265).trips) : BitVec 32 :=
  let c0_i32_117 : BitVec 32 := 0#32
  let c1_i32_120 : BitVec 32 := 1#32
  let arg9 : BitVec 32 := Scf.iv c0_i32_117 c1_i32_120 k0_t3
  let c16_i32_218 : BitVec 32 := 16#32
  let v452 : BitVec 32 := Scalar.muli arg9 c16_i32_218
  let v453 : BitVec 32 := Scalar.addi v264 v452
  v453
def k0_mult6 (v263 : BitVec 32) (v265 : BitVec 32) (k0_t3 : Fin (k0_t3_loop v265).trips) : BitVec 32 :=
  let c0_i32_117 : BitVec 32 := 0#32
  let c1_i32_120 : BitVec 32 := 1#32
  let arg9 : BitVec 32 := Scf.iv c0_i32_117 c1_i32_120 k0_t3
  let c16_i32_219 : BitVec 32 := 16#32
  let v455 : BitVec 32 := Scalar.muli arg9 c16_i32_219
  let v456 : BitVec 32 := Scalar.addi v263 v455
  v456
def k0_off7 (v263 : BitVec 32) (v265 : BitVec 32) (k0_t3 : Fin (k0_t3_loop v265).trips) : Fin 2 → Nat :=
  let c0_i32_117 : BitVec 32 := 0#32
  let c1_i32_120 : BitVec 32 := 1#32
  let arg9 : BitVec 32 := Scf.iv c0_i32_117 c1_i32_120 k0_t3
  let c16_i32_219 : BitVec 32 := 16#32
  let v455 : BitVec 32 := Scalar.muli arg9 c16_i32_219
  let v456 : BitVec 32 := Scalar.addi v263 v455
  let v457 : BitVec 32 := v456
  let c0_i32_224 : BitVec 32 := 0#32
  ![v457.toNat, 0]
def k0_off8 (v264 : BitVec 32) (v265 : BitVec 32) (k0_t3 : Fin (k0_t3_loop v265).trips) : Fin 2 → Nat :=
  let c0_i32_117 : BitVec 32 := 0#32
  let c1_i32_120 : BitVec 32 := 1#32
  let arg9 : BitVec 32 := Scf.iv c0_i32_117 c1_i32_120 k0_t3
  let c16_i32_218 : BitVec 32 := 16#32
  let v452 : BitVec 32 := Scalar.muli arg9 c16_i32_218
  let v453 : BitVec 32 := Scalar.addi v264 v452
  let v454 : BitVec 32 := v453
  let c0_i32_225 : BitVec 32 := 0#32
  ![v454.toNat, 0]
def k0_off9 (v263 : BitVec 32) (v265 : BitVec 32) (k0_t3 : Fin (k0_t3_loop v265).trips) : Fin 3 → Nat :=
  let c0_i32_220 : BitVec 32 := 0#32
  let c0_i32_117 : BitVec 32 := 0#32
  let c1_i32_120 : BitVec 32 := 1#32
  let arg9 : BitVec 32 := Scf.iv c0_i32_117 c1_i32_120 k0_t3
  let c16_i32_219 : BitVec 32 := 16#32
  let v455 : BitVec 32 := Scalar.muli arg9 c16_i32_219
  let v456 : BitVec 32 := Scalar.addi v263 v455
  let v457 : BitVec 32 := v456
  let c0_i32_223 : BitVec 32 := 0#32
  ![0, v457.toNat, 0]
@[reducible] def k0_t4_loop (v265 : BitVec 32) : Scf.Loop 32 :=
  let c0_i32_117 : BitVec 32 := 0#32
  let c0_i32_111 : BitVec 32 := 0#32
  let v267 : BitVec 1 := Scalar.cmpi .sgt v265 c0_i32_111
  let v268 : BitVec 32 := Scalar.extui v267
  let c0_i32_112 : BitVec 32 := 0#32
  let v269 : BitVec 1 := Scalar.cmpi .slt v265 c0_i32_112
  let v270 : BitVec 32 := Scalar.extui v269
  let v271 : BitVec 32 := Scalar.subi v268 v270
  let c16_i32_110 : BitVec 32 := 16#32
  let c0_i32_113 : BitVec 32 := 0#32
  let v272 : BitVec 1 := Scalar.cmpi .sgt c16_i32_110 c0_i32_113
  let v273 : BitVec 32 := Scalar.extui v272
  let c0_i32_114 : BitVec 32 := 0#32
  let v274 : BitVec 1 := Scalar.cmpi .slt c16_i32_110 c0_i32_114
  let v275 : BitVec 32 := Scalar.extui v274
  let v276 : BitVec 32 := Scalar.subi v273 v275
  let v277 : BitVec 1 := Scalar.cmpi .ne v271 v276
  let v278 : BitVec 32 := Scalar.remsi v265 c16_i32_110
  let c0_i32_115 : BitVec 32 := 0#32
  let v279 : BitVec 1 := Scalar.cmpi .ne v278 c0_i32_115
  let v280 : BitVec 1 := Scalar.andi v277 v279
  let v266 : BitVec 32 := Scalar.divsi v265 c16_i32_110
  let c1_i32_116 : BitVec 32 := 1#32
  let v281 : BitVec 32 := Scalar.subi v266 c1_i32_116
  let v282 : BitVec 32 := Scalar.select v280 v281 v266
  let v283 : BitVec 32 := Scalar.subi v282 c0_i32_117
  let c1_i32_119 : BitVec 32 := 1#32
  let v285 : BitVec 32 := Scalar.divsi v283 c1_i32_119
  let v286 : BitVec 32 := Scalar.muli v285 c1_i32_119
  let v287 : BitVec 32 := Scalar.addi c0_i32_117 v286
  let v284 : BitVec 32 := Scalar.addi c0_i32_117 v283
  let c1_i32_121 : BitVec 32 := 1#32
  ⟨v287, v284, c1_i32_121⟩
def k0_mult7 (v264 : BitVec 32) (v265 : BitVec 32) (k0_t4 : Fin (k0_t4_loop v265).trips) : BitVec 32 :=
  let c0_i32_117 : BitVec 32 := 0#32
  let c0_i32_111 : BitVec 32 := 0#32
  let v267 : BitVec 1 := Scalar.cmpi .sgt v265 c0_i32_111
  let v268 : BitVec 32 := Scalar.extui v267
  let c0_i32_112 : BitVec 32 := 0#32
  let v269 : BitVec 1 := Scalar.cmpi .slt v265 c0_i32_112
  let v270 : BitVec 32 := Scalar.extui v269
  let v271 : BitVec 32 := Scalar.subi v268 v270
  let c16_i32_110 : BitVec 32 := 16#32
  let c0_i32_113 : BitVec 32 := 0#32
  let v272 : BitVec 1 := Scalar.cmpi .sgt c16_i32_110 c0_i32_113
  let v273 : BitVec 32 := Scalar.extui v272
  let c0_i32_114 : BitVec 32 := 0#32
  let v274 : BitVec 1 := Scalar.cmpi .slt c16_i32_110 c0_i32_114
  let v275 : BitVec 32 := Scalar.extui v274
  let v276 : BitVec 32 := Scalar.subi v273 v275
  let v277 : BitVec 1 := Scalar.cmpi .ne v271 v276
  let v278 : BitVec 32 := Scalar.remsi v265 c16_i32_110
  let c0_i32_115 : BitVec 32 := 0#32
  let v279 : BitVec 1 := Scalar.cmpi .ne v278 c0_i32_115
  let v280 : BitVec 1 := Scalar.andi v277 v279
  let v266 : BitVec 32 := Scalar.divsi v265 c16_i32_110
  let c1_i32_116 : BitVec 32 := 1#32
  let v281 : BitVec 32 := Scalar.subi v266 c1_i32_116
  let v282 : BitVec 32 := Scalar.select v280 v281 v266
  let v283 : BitVec 32 := Scalar.subi v282 c0_i32_117
  let c1_i32_119 : BitVec 32 := 1#32
  let v285 : BitVec 32 := Scalar.divsi v283 c1_i32_119
  let v286 : BitVec 32 := Scalar.muli v285 c1_i32_119
  let v287 : BitVec 32 := Scalar.addi c0_i32_117 v286
  let c1_i32_121 : BitVec 32 := 1#32
  let arg9 : BitVec 32 := Scf.iv v287 c1_i32_121 k0_t4
  let c16_i32_218 : BitVec 32 := 16#32
  let v452 : BitVec 32 := Scalar.muli arg9 c16_i32_218
  let v453 : BitVec 32 := Scalar.addi v264 v452
  v453
def k0_mult8 (v263 : BitVec 32) (v265 : BitVec 32) (k0_t4 : Fin (k0_t4_loop v265).trips) : BitVec 32 :=
  let c0_i32_117 : BitVec 32 := 0#32
  let c0_i32_111 : BitVec 32 := 0#32
  let v267 : BitVec 1 := Scalar.cmpi .sgt v265 c0_i32_111
  let v268 : BitVec 32 := Scalar.extui v267
  let c0_i32_112 : BitVec 32 := 0#32
  let v269 : BitVec 1 := Scalar.cmpi .slt v265 c0_i32_112
  let v270 : BitVec 32 := Scalar.extui v269
  let v271 : BitVec 32 := Scalar.subi v268 v270
  let c16_i32_110 : BitVec 32 := 16#32
  let c0_i32_113 : BitVec 32 := 0#32
  let v272 : BitVec 1 := Scalar.cmpi .sgt c16_i32_110 c0_i32_113
  let v273 : BitVec 32 := Scalar.extui v272
  let c0_i32_114 : BitVec 32 := 0#32
  let v274 : BitVec 1 := Scalar.cmpi .slt c16_i32_110 c0_i32_114
  let v275 : BitVec 32 := Scalar.extui v274
  let v276 : BitVec 32 := Scalar.subi v273 v275
  let v277 : BitVec 1 := Scalar.cmpi .ne v271 v276
  let v278 : BitVec 32 := Scalar.remsi v265 c16_i32_110
  let c0_i32_115 : BitVec 32 := 0#32
  let v279 : BitVec 1 := Scalar.cmpi .ne v278 c0_i32_115
  let v280 : BitVec 1 := Scalar.andi v277 v279
  let v266 : BitVec 32 := Scalar.divsi v265 c16_i32_110
  let c1_i32_116 : BitVec 32 := 1#32
  let v281 : BitVec 32 := Scalar.subi v266 c1_i32_116
  let v282 : BitVec 32 := Scalar.select v280 v281 v266
  let v283 : BitVec 32 := Scalar.subi v282 c0_i32_117
  let c1_i32_119 : BitVec 32 := 1#32
  let v285 : BitVec 32 := Scalar.divsi v283 c1_i32_119
  let v286 : BitVec 32 := Scalar.muli v285 c1_i32_119
  let v287 : BitVec 32 := Scalar.addi c0_i32_117 v286
  let c1_i32_121 : BitVec 32 := 1#32
  let arg9 : BitVec 32 := Scf.iv v287 c1_i32_121 k0_t4
  let c16_i32_219 : BitVec 32 := 16#32
  let v455 : BitVec 32 := Scalar.muli arg9 c16_i32_219
  let v456 : BitVec 32 := Scalar.addi v263 v455
  v456
def k0_off10 (v263 : BitVec 32) (v265 : BitVec 32) (k0_t4 : Fin (k0_t4_loop v265).trips) : Fin 2 → Nat :=
  let c0_i32_117 : BitVec 32 := 0#32
  let c0_i32_111 : BitVec 32 := 0#32
  let v267 : BitVec 1 := Scalar.cmpi .sgt v265 c0_i32_111
  let v268 : BitVec 32 := Scalar.extui v267
  let c0_i32_112 : BitVec 32 := 0#32
  let v269 : BitVec 1 := Scalar.cmpi .slt v265 c0_i32_112
  let v270 : BitVec 32 := Scalar.extui v269
  let v271 : BitVec 32 := Scalar.subi v268 v270
  let c16_i32_110 : BitVec 32 := 16#32
  let c0_i32_113 : BitVec 32 := 0#32
  let v272 : BitVec 1 := Scalar.cmpi .sgt c16_i32_110 c0_i32_113
  let v273 : BitVec 32 := Scalar.extui v272
  let c0_i32_114 : BitVec 32 := 0#32
  let v274 : BitVec 1 := Scalar.cmpi .slt c16_i32_110 c0_i32_114
  let v275 : BitVec 32 := Scalar.extui v274
  let v276 : BitVec 32 := Scalar.subi v273 v275
  let v277 : BitVec 1 := Scalar.cmpi .ne v271 v276
  let v278 : BitVec 32 := Scalar.remsi v265 c16_i32_110
  let c0_i32_115 : BitVec 32 := 0#32
  let v279 : BitVec 1 := Scalar.cmpi .ne v278 c0_i32_115
  let v280 : BitVec 1 := Scalar.andi v277 v279
  let v266 : BitVec 32 := Scalar.divsi v265 c16_i32_110
  let c1_i32_116 : BitVec 32 := 1#32
  let v281 : BitVec 32 := Scalar.subi v266 c1_i32_116
  let v282 : BitVec 32 := Scalar.select v280 v281 v266
  let v283 : BitVec 32 := Scalar.subi v282 c0_i32_117
  let c1_i32_119 : BitVec 32 := 1#32
  let v285 : BitVec 32 := Scalar.divsi v283 c1_i32_119
  let v286 : BitVec 32 := Scalar.muli v285 c1_i32_119
  let v287 : BitVec 32 := Scalar.addi c0_i32_117 v286
  let c1_i32_121 : BitVec 32 := 1#32
  let arg9 : BitVec 32 := Scf.iv v287 c1_i32_121 k0_t4
  let c16_i32_219 : BitVec 32 := 16#32
  let v455 : BitVec 32 := Scalar.muli arg9 c16_i32_219
  let v456 : BitVec 32 := Scalar.addi v263 v455
  let v457 : BitVec 32 := v456
  let c0_i32_224 : BitVec 32 := 0#32
  ![v457.toNat, 0]
def k0_off11 (v264 : BitVec 32) (v265 : BitVec 32) (k0_t4 : Fin (k0_t4_loop v265).trips) : Fin 2 → Nat :=
  let c0_i32_117 : BitVec 32 := 0#32
  let c0_i32_111 : BitVec 32 := 0#32
  let v267 : BitVec 1 := Scalar.cmpi .sgt v265 c0_i32_111
  let v268 : BitVec 32 := Scalar.extui v267
  let c0_i32_112 : BitVec 32 := 0#32
  let v269 : BitVec 1 := Scalar.cmpi .slt v265 c0_i32_112
  let v270 : BitVec 32 := Scalar.extui v269
  let v271 : BitVec 32 := Scalar.subi v268 v270
  let c16_i32_110 : BitVec 32 := 16#32
  let c0_i32_113 : BitVec 32 := 0#32
  let v272 : BitVec 1 := Scalar.cmpi .sgt c16_i32_110 c0_i32_113
  let v273 : BitVec 32 := Scalar.extui v272
  let c0_i32_114 : BitVec 32 := 0#32
  let v274 : BitVec 1 := Scalar.cmpi .slt c16_i32_110 c0_i32_114
  let v275 : BitVec 32 := Scalar.extui v274
  let v276 : BitVec 32 := Scalar.subi v273 v275
  let v277 : BitVec 1 := Scalar.cmpi .ne v271 v276
  let v278 : BitVec 32 := Scalar.remsi v265 c16_i32_110
  let c0_i32_115 : BitVec 32 := 0#32
  let v279 : BitVec 1 := Scalar.cmpi .ne v278 c0_i32_115
  let v280 : BitVec 1 := Scalar.andi v277 v279
  let v266 : BitVec 32 := Scalar.divsi v265 c16_i32_110
  let c1_i32_116 : BitVec 32 := 1#32
  let v281 : BitVec 32 := Scalar.subi v266 c1_i32_116
  let v282 : BitVec 32 := Scalar.select v280 v281 v266
  let v283 : BitVec 32 := Scalar.subi v282 c0_i32_117
  let c1_i32_119 : BitVec 32 := 1#32
  let v285 : BitVec 32 := Scalar.divsi v283 c1_i32_119
  let v286 : BitVec 32 := Scalar.muli v285 c1_i32_119
  let v287 : BitVec 32 := Scalar.addi c0_i32_117 v286
  let c1_i32_121 : BitVec 32 := 1#32
  let arg9 : BitVec 32 := Scf.iv v287 c1_i32_121 k0_t4
  let c16_i32_218 : BitVec 32 := 16#32
  let v452 : BitVec 32 := Scalar.muli arg9 c16_i32_218
  let v453 : BitVec 32 := Scalar.addi v264 v452
  let v454 : BitVec 32 := v453
  let c0_i32_225 : BitVec 32 := 0#32
  ![v454.toNat, 0]
def k0_off12 (v263 : BitVec 32) (v265 : BitVec 32) (k0_t4 : Fin (k0_t4_loop v265).trips) : Fin 3 → Nat :=
  let c0_i32_220 : BitVec 32 := 0#32
  let c0_i32_117 : BitVec 32 := 0#32
  let c0_i32_111 : BitVec 32 := 0#32
  let v267 : BitVec 1 := Scalar.cmpi .sgt v265 c0_i32_111
  let v268 : BitVec 32 := Scalar.extui v267
  let c0_i32_112 : BitVec 32 := 0#32
  let v269 : BitVec 1 := Scalar.cmpi .slt v265 c0_i32_112
  let v270 : BitVec 32 := Scalar.extui v269
  let v271 : BitVec 32 := Scalar.subi v268 v270
  let c16_i32_110 : BitVec 32 := 16#32
  let c0_i32_113 : BitVec 32 := 0#32
  let v272 : BitVec 1 := Scalar.cmpi .sgt c16_i32_110 c0_i32_113
  let v273 : BitVec 32 := Scalar.extui v272
  let c0_i32_114 : BitVec 32 := 0#32
  let v274 : BitVec 1 := Scalar.cmpi .slt c16_i32_110 c0_i32_114
  let v275 : BitVec 32 := Scalar.extui v274
  let v276 : BitVec 32 := Scalar.subi v273 v275
  let v277 : BitVec 1 := Scalar.cmpi .ne v271 v276
  let v278 : BitVec 32 := Scalar.remsi v265 c16_i32_110
  let c0_i32_115 : BitVec 32 := 0#32
  let v279 : BitVec 1 := Scalar.cmpi .ne v278 c0_i32_115
  let v280 : BitVec 1 := Scalar.andi v277 v279
  let v266 : BitVec 32 := Scalar.divsi v265 c16_i32_110
  let c1_i32_116 : BitVec 32 := 1#32
  let v281 : BitVec 32 := Scalar.subi v266 c1_i32_116
  let v282 : BitVec 32 := Scalar.select v280 v281 v266
  let v283 : BitVec 32 := Scalar.subi v282 c0_i32_117
  let c1_i32_119 : BitVec 32 := 1#32
  let v285 : BitVec 32 := Scalar.divsi v283 c1_i32_119
  let v286 : BitVec 32 := Scalar.muli v285 c1_i32_119
  let v287 : BitVec 32 := Scalar.addi c0_i32_117 v286
  let c1_i32_121 : BitVec 32 := 1#32
  let arg9 : BitVec 32 := Scf.iv v287 c1_i32_121 k0_t4
  let c16_i32_219 : BitVec 32 := 16#32
  let v455 : BitVec 32 := Scalar.muli arg9 c16_i32_219
  let v456 : BitVec 32 := Scalar.addi v263 v455
  let v457 : BitVec 32 := v456
  let c0_i32_223 : BitVec 32 := 0#32
  ![0, v457.toNat, 0]

def k0_chk2 (i : grid0.Coords) (v263 : BitVec 32) (v264 : BitVec 32) (v265 : BitVec 32) : Prop :=
  (∀ (k0_h1 : k0_cond1 i = 1#1), (k0_t3_loop v265).OK) ∧
  (∀ k0_t3 : Fin (k0_t3_loop v265).trips, ∀ (k0_h1 : k0_cond1 i = 1#1), 16 ∣ (k0_mult5 v264 v265 k0_t3).toNat) ∧
  (∀ k0_t3 : Fin (k0_t3_loop v265).trips, ∀ (k0_h1 : k0_cond1 i = 1#1), 16 ∣ (k0_mult6 v263 v265 k0_t3).toNat) ∧
  (∀ k0_t3 : Fin (k0_t3_loop v265).trips, ∀ (k0_h1 : k0_cond1 i = 1#1), ∀ a, (k0_off7 v263 v265 k0_t3) a + S16x1024.size a ≤ S1152x1024.size a) ∧
  (∀ k0_t3 : Fin (k0_t3_loop v265).trips, ∀ (k0_h1 : k0_cond1 i = 1#1), ∀ a, (k0_off8 v264 v265 k0_t3) a + S16x1024.size a ≤ S44032x1024.size a) ∧
  (∀ k0_t3 : Fin (k0_t3_loop v265).trips, ∀ (k0_h1 : k0_cond1 i = 1#1), ∀ (hinb : ∀ a, (k0_off8 v264 v265 k0_t3) a + S16x1024.size a ≤ S44032x1024.size a), (Rect.unit (s := S44032x1024) (k0_off8 v264 v265 k0_t3) S16x1024.size hinb).WholeWords (EltTy.packing .bf16)) ∧
  (∀ k0_t3 : Fin (k0_t3_loop v265).trips, ∀ (k0_h1 : k0_cond1 i = 1#1), ∀ a, (k0_off9 v263 v265 k0_t3) a + S1x16x1024.size a ≤ S2x1152x1024.size a) ∧
  (∀ k0_t3 : Fin (k0_t3_loop v265).trips, ∀ (k0_h1 : k0_cond1 i = 1#1), ∀ (hinb : ∀ a, (k0_off9 v263 v265 k0_t3) a + S1x16x1024.size a ≤ S2x1152x1024.size a), (Rect.unit (s := S2x1152x1024) (k0_off9 v263 v265 k0_t3) S1x16x1024.size hinb).WholeWords (EltTy.packing .bf16)) ∧
  (∀ (k0_h1 : k0_cond1 i = 1#1), (k0_t4_loop v265).OK) ∧
  (∀ k0_t4 : Fin (k0_t4_loop v265).trips, ∀ (k0_h1 : k0_cond1 i = 1#1), 16 ∣ (k0_mult7 v264 v265 k0_t4).toNat) ∧
  (∀ k0_t4 : Fin (k0_t4_loop v265).trips, ∀ (k0_h1 : k0_cond1 i = 1#1), 16 ∣ (k0_mult8 v263 v265 k0_t4).toNat) ∧
  (∀ k0_t4 : Fin (k0_t4_loop v265).trips, ∀ (k0_h1 : k0_cond1 i = 1#1), ∀ a, (k0_off10 v263 v265 k0_t4) a + S16x1024.size a ≤ S1152x1024.size a) ∧
  (∀ k0_t4 : Fin (k0_t4_loop v265).trips, ∀ (k0_h1 : k0_cond1 i = 1#1), ∀ a, (k0_off11 v264 v265 k0_t4) a + S16x1024.size a ≤ S44032x1024.size a) ∧
  (∀ k0_t4 : Fin (k0_t4_loop v265).trips, ∀ (k0_h1 : k0_cond1 i = 1#1), ∀ (hinb : ∀ a, (k0_off11 v264 v265 k0_t4) a + S16x1024.size a ≤ S44032x1024.size a), (Rect.unit (s := S44032x1024) (k0_off11 v264 v265 k0_t4) S16x1024.size hinb).WholeWords (EltTy.packing .bf16)) ∧
  (∀ k0_t4 : Fin (k0_t4_loop v265).trips, ∀ (k0_h1 : k0_cond1 i = 1#1), ∀ a, (k0_off12 v263 v265 k0_t4) a + S1x16x1024.size a ≤ S2x1152x1024.size a) ∧
  (∀ k0_t4 : Fin (k0_t4_loop v265).trips, ∀ (k0_h1 : k0_cond1 i = 1#1), ∀ (hinb : ∀ a, (k0_off12 v263 v265 k0_t4) a + S1x16x1024.size a ≤ S2x1152x1024.size a), (Rect.unit (s := S2x1152x1024) (k0_off12 v263 v265 k0_t4) S1x16x1024.size hinb).WholeWords (EltTy.packing .bf16))
theorem k0_t3_ok : ∀ (i : grid0.Coords) (v263 : BitVec 32) (v264 : BitVec 32) (v265 : BitVec 32) (k0_hw2 : k0_chk2 i v263 v264 v265), ∀ (k0_h1 : k0_cond1 i = 1#1), (k0_t3_loop v265).OK := fun i v263 v264 v265 k0_hw2 k0_h1 => k0_hw2.1 k0_h1
theorem k0_mult5_dvd : ∀ (i : grid0.Coords) (v263 : BitVec 32) (v264 : BitVec 32) (v265 : BitVec 32) (k0_hw2 : k0_chk2 i v263 v264 v265) (k0_t3 : Fin (k0_t3_loop v265).trips), ∀ (k0_h1 : k0_cond1 i = 1#1), 16 ∣ (k0_mult5 v264 v265 k0_t3).toNat := fun i v263 v264 v265 k0_hw2 k0_t3 k0_h1 => k0_hw2.2.1 k0_t3 k0_h1
theorem k0_mult6_dvd : ∀ (i : grid0.Coords) (v263 : BitVec 32) (v264 : BitVec 32) (v265 : BitVec 32) (k0_hw2 : k0_chk2 i v263 v264 v265) (k0_t3 : Fin (k0_t3_loop v265).trips), ∀ (k0_h1 : k0_cond1 i = 1#1), 16 ∣ (k0_mult6 v263 v265 k0_t3).toNat := fun i v263 v264 v265 k0_hw2 k0_t3 k0_h1 => k0_hw2.2.2.1 k0_t3 k0_h1
theorem k0_off7_inb : ∀ (i : grid0.Coords) (v263 : BitVec 32) (v264 : BitVec 32) (v265 : BitVec 32) (k0_hw2 : k0_chk2 i v263 v264 v265) (k0_t3 : Fin (k0_t3_loop v265).trips), ∀ (k0_h1 : k0_cond1 i = 1#1), ∀ a, (k0_off7 v263 v265 k0_t3) a + S16x1024.size a ≤ S1152x1024.size a := fun i v263 v264 v265 k0_hw2 k0_t3 k0_h1 => k0_hw2.2.2.2.1 k0_t3 k0_h1
theorem k0_off8_inb : ∀ (i : grid0.Coords) (v263 : BitVec 32) (v264 : BitVec 32) (v265 : BitVec 32) (k0_hw2 : k0_chk2 i v263 v264 v265) (k0_t3 : Fin (k0_t3_loop v265).trips), ∀ (k0_h1 : k0_cond1 i = 1#1), ∀ a, (k0_off8 v264 v265 k0_t3) a + S16x1024.size a ≤ S44032x1024.size a := fun i v263 v264 v265 k0_hw2 k0_t3 k0_h1 => k0_hw2.2.2.2.2.1 k0_t3 k0_h1
theorem k0_off8_wordsbf16 : ∀ (i : grid0.Coords) (v263 : BitVec 32) (v264 : BitVec 32) (v265 : BitVec 32) (k0_hw2 : k0_chk2 i v263 v264 v265) (k0_t3 : Fin (k0_t3_loop v265).trips), ∀ (k0_h1 : k0_cond1 i = 1#1), (Rect.unit (s := S44032x1024) (k0_off8 v264 v265 k0_t3) S16x1024.size (k0_off8_inb i v263 v264 v265 k0_hw2 k0_t3 k0_h1)).WholeWords (EltTy.packing .bf16) := fun i v263 v264 v265 k0_hw2 k0_t3 k0_h1 => k0_hw2.2.2.2.2.2.1 k0_t3 k0_h1 (k0_off8_inb i v263 v264 v265 k0_hw2 k0_t3 k0_h1)
theorem k0_off9_inb : ∀ (i : grid0.Coords) (v263 : BitVec 32) (v264 : BitVec 32) (v265 : BitVec 32) (k0_hw2 : k0_chk2 i v263 v264 v265) (k0_t3 : Fin (k0_t3_loop v265).trips), ∀ (k0_h1 : k0_cond1 i = 1#1), ∀ a, (k0_off9 v263 v265 k0_t3) a + S1x16x1024.size a ≤ S2x1152x1024.size a := fun i v263 v264 v265 k0_hw2 k0_t3 k0_h1 => k0_hw2.2.2.2.2.2.2.1 k0_t3 k0_h1
theorem k0_off9_wordsbf16 : ∀ (i : grid0.Coords) (v263 : BitVec 32) (v264 : BitVec 32) (v265 : BitVec 32) (k0_hw2 : k0_chk2 i v263 v264 v265) (k0_t3 : Fin (k0_t3_loop v265).trips), ∀ (k0_h1 : k0_cond1 i = 1#1), (Rect.unit (s := S2x1152x1024) (k0_off9 v263 v265 k0_t3) S1x16x1024.size (k0_off9_inb i v263 v264 v265 k0_hw2 k0_t3 k0_h1)).WholeWords (EltTy.packing .bf16) := fun i v263 v264 v265 k0_hw2 k0_t3 k0_h1 => k0_hw2.2.2.2.2.2.2.2.1 k0_t3 k0_h1 (k0_off9_inb i v263 v264 v265 k0_hw2 k0_t3 k0_h1)
theorem k0_t4_ok : ∀ (i : grid0.Coords) (v263 : BitVec 32) (v264 : BitVec 32) (v265 : BitVec 32) (k0_hw2 : k0_chk2 i v263 v264 v265), ∀ (k0_h1 : k0_cond1 i = 1#1), (k0_t4_loop v265).OK := fun i v263 v264 v265 k0_hw2 k0_h1 => k0_hw2.2.2.2.2.2.2.2.2.1 k0_h1
theorem k0_mult7_dvd : ∀ (i : grid0.Coords) (v263 : BitVec 32) (v264 : BitVec 32) (v265 : BitVec 32) (k0_hw2 : k0_chk2 i v263 v264 v265) (k0_t4 : Fin (k0_t4_loop v265).trips), ∀ (k0_h1 : k0_cond1 i = 1#1), 16 ∣ (k0_mult7 v264 v265 k0_t4).toNat := fun i v263 v264 v265 k0_hw2 k0_t4 k0_h1 => k0_hw2.2.2.2.2.2.2.2.2.2.1 k0_t4 k0_h1
theorem k0_mult8_dvd : ∀ (i : grid0.Coords) (v263 : BitVec 32) (v264 : BitVec 32) (v265 : BitVec 32) (k0_hw2 : k0_chk2 i v263 v264 v265) (k0_t4 : Fin (k0_t4_loop v265).trips), ∀ (k0_h1 : k0_cond1 i = 1#1), 16 ∣ (k0_mult8 v263 v265 k0_t4).toNat := fun i v263 v264 v265 k0_hw2 k0_t4 k0_h1 => k0_hw2.2.2.2.2.2.2.2.2.2.2.1 k0_t4 k0_h1
theorem k0_off10_inb : ∀ (i : grid0.Coords) (v263 : BitVec 32) (v264 : BitVec 32) (v265 : BitVec 32) (k0_hw2 : k0_chk2 i v263 v264 v265) (k0_t4 : Fin (k0_t4_loop v265).trips), ∀ (k0_h1 : k0_cond1 i = 1#1), ∀ a, (k0_off10 v263 v265 k0_t4) a + S16x1024.size a ≤ S1152x1024.size a := fun i v263 v264 v265 k0_hw2 k0_t4 k0_h1 => k0_hw2.2.2.2.2.2.2.2.2.2.2.2.1 k0_t4 k0_h1
theorem k0_off11_inb : ∀ (i : grid0.Coords) (v263 : BitVec 32) (v264 : BitVec 32) (v265 : BitVec 32) (k0_hw2 : k0_chk2 i v263 v264 v265) (k0_t4 : Fin (k0_t4_loop v265).trips), ∀ (k0_h1 : k0_cond1 i = 1#1), ∀ a, (k0_off11 v264 v265 k0_t4) a + S16x1024.size a ≤ S44032x1024.size a := fun i v263 v264 v265 k0_hw2 k0_t4 k0_h1 => k0_hw2.2.2.2.2.2.2.2.2.2.2.2.2.1 k0_t4 k0_h1
theorem k0_off11_wordsbf16 : ∀ (i : grid0.Coords) (v263 : BitVec 32) (v264 : BitVec 32) (v265 : BitVec 32) (k0_hw2 : k0_chk2 i v263 v264 v265) (k0_t4 : Fin (k0_t4_loop v265).trips), ∀ (k0_h1 : k0_cond1 i = 1#1), (Rect.unit (s := S44032x1024) (k0_off11 v264 v265 k0_t4) S16x1024.size (k0_off11_inb i v263 v264 v265 k0_hw2 k0_t4 k0_h1)).WholeWords (EltTy.packing .bf16) := fun i v263 v264 v265 k0_hw2 k0_t4 k0_h1 => k0_hw2.2.2.2.2.2.2.2.2.2.2.2.2.2.1 k0_t4 k0_h1 (k0_off11_inb i v263 v264 v265 k0_hw2 k0_t4 k0_h1)
theorem k0_off12_inb : ∀ (i : grid0.Coords) (v263 : BitVec 32) (v264 : BitVec 32) (v265 : BitVec 32) (k0_hw2 : k0_chk2 i v263 v264 v265) (k0_t4 : Fin (k0_t4_loop v265).trips), ∀ (k0_h1 : k0_cond1 i = 1#1), ∀ a, (k0_off12 v263 v265 k0_t4) a + S1x16x1024.size a ≤ S2x1152x1024.size a := fun i v263 v264 v265 k0_hw2 k0_t4 k0_h1 => k0_hw2.2.2.2.2.2.2.2.2.2.2.2.2.2.2.1 k0_t4 k0_h1
theorem k0_off12_wordsbf16 : ∀ (i : grid0.Coords) (v263 : BitVec 32) (v264 : BitVec 32) (v265 : BitVec 32) (k0_hw2 : k0_chk2 i v263 v264 v265) (k0_t4 : Fin (k0_t4_loop v265).trips), ∀ (k0_h1 : k0_cond1 i = 1#1), (Rect.unit (s := S2x1152x1024) (k0_off12 v263 v265 k0_t4) S1x16x1024.size (k0_off12_inb i v263 v264 v265 k0_hw2 k0_t4 k0_h1)).WholeWords (EltTy.packing .bf16) := fun i v263 v264 v265 k0_hw2 k0_t4 k0_h1 => k0_hw2.2.2.2.2.2.2.2.2.2.2.2.2.2.2.2 k0_t4 k0_h1 (k0_off12_inb i v263 v264 v265 k0_hw2 k0_t4 k0_h1)

@[reducible] def k0_t5_loop (v292 : BitVec 32) : Scf.Loop 32 :=
  let c0_i32_133 : BitVec 32 := 0#32
  let c0_i32_127 : BitVec 32 := 0#32
  let v294 : BitVec 1 := Scalar.cmpi .sgt v292 c0_i32_127
  let v295 : BitVec 32 := Scalar.extui v294
  let c0_i32_128 : BitVec 32 := 0#32
  let v296 : BitVec 1 := Scalar.cmpi .slt v292 c0_i32_128
  let v297 : BitVec 32 := Scalar.extui v296
  let v298 : BitVec 32 := Scalar.subi v295 v297
  let c16_i32_126 : BitVec 32 := 16#32
  let c0_i32_129 : BitVec 32 := 0#32
  let v299 : BitVec 1 := Scalar.cmpi .sgt c16_i32_126 c0_i32_129
  let v300 : BitVec 32 := Scalar.extui v299
  let c0_i32_130 : BitVec 32 := 0#32
  let v301 : BitVec 1 := Scalar.cmpi .slt c16_i32_126 c0_i32_130
  let v302 : BitVec 32 := Scalar.extui v301
  let v303 : BitVec 32 := Scalar.subi v300 v302
  let v304 : BitVec 1 := Scalar.cmpi .ne v298 v303
  let v305 : BitVec 32 := Scalar.remsi v292 c16_i32_126
  let c0_i32_131 : BitVec 32 := 0#32
  let v306 : BitVec 1 := Scalar.cmpi .ne v305 c0_i32_131
  let v307 : BitVec 1 := Scalar.andi v304 v306
  let v293 : BitVec 32 := Scalar.divsi v292 c16_i32_126
  let c1_i32_132 : BitVec 32 := 1#32
  let v308 : BitVec 32 := Scalar.subi v293 c1_i32_132
  let v309 : BitVec 32 := Scalar.select v307 v308 v293
  let v310 : BitVec 32 := Scalar.subi v309 c0_i32_133
  let c1_i32_135 : BitVec 32 := 1#32
  let v312 : BitVec 32 := Scalar.divsi v310 c1_i32_135
  let v313 : BitVec 32 := Scalar.muli v312 c1_i32_135
  let v314 : BitVec 32 := Scalar.addi c0_i32_133 v313
  let c1_i32_136 : BitVec 32 := 1#32
  ⟨c0_i32_133, v314, c1_i32_136⟩

def k0_mult9 (v291 : BitVec 32) (v292 : BitVec 32) (k0_t5 : Fin (k0_t5_loop v292).trips) : BitVec 32 :=
  let c0_i32_133 : BitVec 32 := 0#32
  let c1_i32_136 : BitVec 32 := 1#32
  let arg9 : BitVec 32 := Scf.iv c0_i32_133 c1_i32_136 k0_t5
  let c16_i32_218 : BitVec 32 := 16#32
  let v452 : BitVec 32 := Scalar.muli arg9 c16_i32_218
  let v453 : BitVec 32 := Scalar.addi v291 v452
  v453
def k0_mult10 (v290 : BitVec 32) (v292 : BitVec 32) (k0_t5 : Fin (k0_t5_loop v292).trips) : BitVec 32 :=
  let c0_i32_133 : BitVec 32 := 0#32
  let c1_i32_136 : BitVec 32 := 1#32
  let arg9 : BitVec 32 := Scf.iv c0_i32_133 c1_i32_136 k0_t5
  let c16_i32_219 : BitVec 32 := 16#32
  let v455 : BitVec 32 := Scalar.muli arg9 c16_i32_219
  let v456 : BitVec 32 := Scalar.addi v290 v455
  v456
def k0_off13 (v290 : BitVec 32) (v292 : BitVec 32) (k0_t5 : Fin (k0_t5_loop v292).trips) : Fin 2 → Nat :=
  let c0_i32_133 : BitVec 32 := 0#32
  let c1_i32_136 : BitVec 32 := 1#32
  let arg9 : BitVec 32 := Scf.iv c0_i32_133 c1_i32_136 k0_t5
  let c16_i32_219 : BitVec 32 := 16#32
  let v455 : BitVec 32 := Scalar.muli arg9 c16_i32_219
  let v456 : BitVec 32 := Scalar.addi v290 v455
  let v457 : BitVec 32 := v456
  let c0_i32_224 : BitVec 32 := 0#32
  ![v457.toNat, 0]
def k0_off14 (v291 : BitVec 32) (v292 : BitVec 32) (k0_t5 : Fin (k0_t5_loop v292).trips) : Fin 2 → Nat :=
  let c0_i32_133 : BitVec 32 := 0#32
  let c1_i32_136 : BitVec 32 := 1#32
  let arg9 : BitVec 32 := Scf.iv c0_i32_133 c1_i32_136 k0_t5
  let c16_i32_218 : BitVec 32 := 16#32
  let v452 : BitVec 32 := Scalar.muli arg9 c16_i32_218
  let v453 : BitVec 32 := Scalar.addi v291 v452
  let v454 : BitVec 32 := v453
  let c0_i32_225 : BitVec 32 := 0#32
  ![v454.toNat, 0]
def k0_off15 (v290 : BitVec 32) (v292 : BitVec 32) (k0_t5 : Fin (k0_t5_loop v292).trips) : Fin 3 → Nat :=
  let c0_i32_220 : BitVec 32 := 0#32
  let c0_i32_133 : BitVec 32 := 0#32
  let c1_i32_136 : BitVec 32 := 1#32
  let arg9 : BitVec 32 := Scf.iv c0_i32_133 c1_i32_136 k0_t5
  let c16_i32_219 : BitVec 32 := 16#32
  let v455 : BitVec 32 := Scalar.muli arg9 c16_i32_219
  let v456 : BitVec 32 := Scalar.addi v290 v455
  let v457 : BitVec 32 := v456
  let c0_i32_223 : BitVec 32 := 0#32
  ![0, v457.toNat, 0]
@[reducible] def k0_t6_loop (v292 : BitVec 32) : Scf.Loop 32 :=
  let c0_i32_133 : BitVec 32 := 0#32
  let c0_i32_127 : BitVec 32 := 0#32
  let v294 : BitVec 1 := Scalar.cmpi .sgt v292 c0_i32_127
  let v295 : BitVec 32 := Scalar.extui v294
  let c0_i32_128 : BitVec 32 := 0#32
  let v296 : BitVec 1 := Scalar.cmpi .slt v292 c0_i32_128
  let v297 : BitVec 32 := Scalar.extui v296
  let v298 : BitVec 32 := Scalar.subi v295 v297
  let c16_i32_126 : BitVec 32 := 16#32
  let c0_i32_129 : BitVec 32 := 0#32
  let v299 : BitVec 1 := Scalar.cmpi .sgt c16_i32_126 c0_i32_129
  let v300 : BitVec 32 := Scalar.extui v299
  let c0_i32_130 : BitVec 32 := 0#32
  let v301 : BitVec 1 := Scalar.cmpi .slt c16_i32_126 c0_i32_130
  let v302 : BitVec 32 := Scalar.extui v301
  let v303 : BitVec 32 := Scalar.subi v300 v302
  let v304 : BitVec 1 := Scalar.cmpi .ne v298 v303
  let v305 : BitVec 32 := Scalar.remsi v292 c16_i32_126
  let c0_i32_131 : BitVec 32 := 0#32
  let v306 : BitVec 1 := Scalar.cmpi .ne v305 c0_i32_131
  let v307 : BitVec 1 := Scalar.andi v304 v306
  let v293 : BitVec 32 := Scalar.divsi v292 c16_i32_126
  let c1_i32_132 : BitVec 32 := 1#32
  let v308 : BitVec 32 := Scalar.subi v293 c1_i32_132
  let v309 : BitVec 32 := Scalar.select v307 v308 v293
  let v310 : BitVec 32 := Scalar.subi v309 c0_i32_133
  let c1_i32_135 : BitVec 32 := 1#32
  let v312 : BitVec 32 := Scalar.divsi v310 c1_i32_135
  let v313 : BitVec 32 := Scalar.muli v312 c1_i32_135
  let v314 : BitVec 32 := Scalar.addi c0_i32_133 v313
  let v311 : BitVec 32 := Scalar.addi c0_i32_133 v310
  let c1_i32_137 : BitVec 32 := 1#32
  ⟨v314, v311, c1_i32_137⟩
def k0_mult11 (v291 : BitVec 32) (v292 : BitVec 32) (k0_t6 : Fin (k0_t6_loop v292).trips) : BitVec 32 :=
  let c0_i32_133 : BitVec 32 := 0#32
  let c0_i32_127 : BitVec 32 := 0#32
  let v294 : BitVec 1 := Scalar.cmpi .sgt v292 c0_i32_127
  let v295 : BitVec 32 := Scalar.extui v294
  let c0_i32_128 : BitVec 32 := 0#32
  let v296 : BitVec 1 := Scalar.cmpi .slt v292 c0_i32_128
  let v297 : BitVec 32 := Scalar.extui v296
  let v298 : BitVec 32 := Scalar.subi v295 v297
  let c16_i32_126 : BitVec 32 := 16#32
  let c0_i32_129 : BitVec 32 := 0#32
  let v299 : BitVec 1 := Scalar.cmpi .sgt c16_i32_126 c0_i32_129
  let v300 : BitVec 32 := Scalar.extui v299
  let c0_i32_130 : BitVec 32 := 0#32
  let v301 : BitVec 1 := Scalar.cmpi .slt c16_i32_126 c0_i32_130
  let v302 : BitVec 32 := Scalar.extui v301
  let v303 : BitVec 32 := Scalar.subi v300 v302
  let v304 : BitVec 1 := Scalar.cmpi .ne v298 v303
  let v305 : BitVec 32 := Scalar.remsi v292 c16_i32_126
  let c0_i32_131 : BitVec 32 := 0#32
  let v306 : BitVec 1 := Scalar.cmpi .ne v305 c0_i32_131
  let v307 : BitVec 1 := Scalar.andi v304 v306
  let v293 : BitVec 32 := Scalar.divsi v292 c16_i32_126
  let c1_i32_132 : BitVec 32 := 1#32
  let v308 : BitVec 32 := Scalar.subi v293 c1_i32_132
  let v309 : BitVec 32 := Scalar.select v307 v308 v293
  let v310 : BitVec 32 := Scalar.subi v309 c0_i32_133
  let c1_i32_135 : BitVec 32 := 1#32
  let v312 : BitVec 32 := Scalar.divsi v310 c1_i32_135
  let v313 : BitVec 32 := Scalar.muli v312 c1_i32_135
  let v314 : BitVec 32 := Scalar.addi c0_i32_133 v313
  let c1_i32_137 : BitVec 32 := 1#32
  let arg9 : BitVec 32 := Scf.iv v314 c1_i32_137 k0_t6
  let c16_i32_218 : BitVec 32 := 16#32
  let v452 : BitVec 32 := Scalar.muli arg9 c16_i32_218
  let v453 : BitVec 32 := Scalar.addi v291 v452
  v453
def k0_mult12 (v290 : BitVec 32) (v292 : BitVec 32) (k0_t6 : Fin (k0_t6_loop v292).trips) : BitVec 32 :=
  let c0_i32_133 : BitVec 32 := 0#32
  let c0_i32_127 : BitVec 32 := 0#32
  let v294 : BitVec 1 := Scalar.cmpi .sgt v292 c0_i32_127
  let v295 : BitVec 32 := Scalar.extui v294
  let c0_i32_128 : BitVec 32 := 0#32
  let v296 : BitVec 1 := Scalar.cmpi .slt v292 c0_i32_128
  let v297 : BitVec 32 := Scalar.extui v296
  let v298 : BitVec 32 := Scalar.subi v295 v297
  let c16_i32_126 : BitVec 32 := 16#32
  let c0_i32_129 : BitVec 32 := 0#32
  let v299 : BitVec 1 := Scalar.cmpi .sgt c16_i32_126 c0_i32_129
  let v300 : BitVec 32 := Scalar.extui v299
  let c0_i32_130 : BitVec 32 := 0#32
  let v301 : BitVec 1 := Scalar.cmpi .slt c16_i32_126 c0_i32_130
  let v302 : BitVec 32 := Scalar.extui v301
  let v303 : BitVec 32 := Scalar.subi v300 v302
  let v304 : BitVec 1 := Scalar.cmpi .ne v298 v303
  let v305 : BitVec 32 := Scalar.remsi v292 c16_i32_126
  let c0_i32_131 : BitVec 32 := 0#32
  let v306 : BitVec 1 := Scalar.cmpi .ne v305 c0_i32_131
  let v307 : BitVec 1 := Scalar.andi v304 v306
  let v293 : BitVec 32 := Scalar.divsi v292 c16_i32_126
  let c1_i32_132 : BitVec 32 := 1#32
  let v308 : BitVec 32 := Scalar.subi v293 c1_i32_132
  let v309 : BitVec 32 := Scalar.select v307 v308 v293
  let v310 : BitVec 32 := Scalar.subi v309 c0_i32_133
  let c1_i32_135 : BitVec 32 := 1#32
  let v312 : BitVec 32 := Scalar.divsi v310 c1_i32_135
  let v313 : BitVec 32 := Scalar.muli v312 c1_i32_135
  let v314 : BitVec 32 := Scalar.addi c0_i32_133 v313
  let c1_i32_137 : BitVec 32 := 1#32
  let arg9 : BitVec 32 := Scf.iv v314 c1_i32_137 k0_t6
  let c16_i32_219 : BitVec 32 := 16#32
  let v455 : BitVec 32 := Scalar.muli arg9 c16_i32_219
  let v456 : BitVec 32 := Scalar.addi v290 v455
  v456
def k0_off16 (v290 : BitVec 32) (v292 : BitVec 32) (k0_t6 : Fin (k0_t6_loop v292).trips) : Fin 2 → Nat :=
  let c0_i32_133 : BitVec 32 := 0#32
  let c0_i32_127 : BitVec 32 := 0#32
  let v294 : BitVec 1 := Scalar.cmpi .sgt v292 c0_i32_127
  let v295 : BitVec 32 := Scalar.extui v294
  let c0_i32_128 : BitVec 32 := 0#32
  let v296 : BitVec 1 := Scalar.cmpi .slt v292 c0_i32_128
  let v297 : BitVec 32 := Scalar.extui v296
  let v298 : BitVec 32 := Scalar.subi v295 v297
  let c16_i32_126 : BitVec 32 := 16#32
  let c0_i32_129 : BitVec 32 := 0#32
  let v299 : BitVec 1 := Scalar.cmpi .sgt c16_i32_126 c0_i32_129
  let v300 : BitVec 32 := Scalar.extui v299
  let c0_i32_130 : BitVec 32 := 0#32
  let v301 : BitVec 1 := Scalar.cmpi .slt c16_i32_126 c0_i32_130
  let v302 : BitVec 32 := Scalar.extui v301
  let v303 : BitVec 32 := Scalar.subi v300 v302
  let v304 : BitVec 1 := Scalar.cmpi .ne v298 v303
  let v305 : BitVec 32 := Scalar.remsi v292 c16_i32_126
  let c0_i32_131 : BitVec 32 := 0#32
  let v306 : BitVec 1 := Scalar.cmpi .ne v305 c0_i32_131
  let v307 : BitVec 1 := Scalar.andi v304 v306
  let v293 : BitVec 32 := Scalar.divsi v292 c16_i32_126
  let c1_i32_132 : BitVec 32 := 1#32
  let v308 : BitVec 32 := Scalar.subi v293 c1_i32_132
  let v309 : BitVec 32 := Scalar.select v307 v308 v293
  let v310 : BitVec 32 := Scalar.subi v309 c0_i32_133
  let c1_i32_135 : BitVec 32 := 1#32
  let v312 : BitVec 32 := Scalar.divsi v310 c1_i32_135
  let v313 : BitVec 32 := Scalar.muli v312 c1_i32_135
  let v314 : BitVec 32 := Scalar.addi c0_i32_133 v313
  let c1_i32_137 : BitVec 32 := 1#32
  let arg9 : BitVec 32 := Scf.iv v314 c1_i32_137 k0_t6
  let c16_i32_219 : BitVec 32 := 16#32
  let v455 : BitVec 32 := Scalar.muli arg9 c16_i32_219
  let v456 : BitVec 32 := Scalar.addi v290 v455
  let v457 : BitVec 32 := v456
  let c0_i32_224 : BitVec 32 := 0#32
  ![v457.toNat, 0]
def k0_off17 (v291 : BitVec 32) (v292 : BitVec 32) (k0_t6 : Fin (k0_t6_loop v292).trips) : Fin 2 → Nat :=
  let c0_i32_133 : BitVec 32 := 0#32
  let c0_i32_127 : BitVec 32 := 0#32
  let v294 : BitVec 1 := Scalar.cmpi .sgt v292 c0_i32_127
  let v295 : BitVec 32 := Scalar.extui v294
  let c0_i32_128 : BitVec 32 := 0#32
  let v296 : BitVec 1 := Scalar.cmpi .slt v292 c0_i32_128
  let v297 : BitVec 32 := Scalar.extui v296
  let v298 : BitVec 32 := Scalar.subi v295 v297
  let c16_i32_126 : BitVec 32 := 16#32
  let c0_i32_129 : BitVec 32 := 0#32
  let v299 : BitVec 1 := Scalar.cmpi .sgt c16_i32_126 c0_i32_129
  let v300 : BitVec 32 := Scalar.extui v299
  let c0_i32_130 : BitVec 32 := 0#32
  let v301 : BitVec 1 := Scalar.cmpi .slt c16_i32_126 c0_i32_130
  let v302 : BitVec 32 := Scalar.extui v301
  let v303 : BitVec 32 := Scalar.subi v300 v302
  let v304 : BitVec 1 := Scalar.cmpi .ne v298 v303
  let v305 : BitVec 32 := Scalar.remsi v292 c16_i32_126
  let c0_i32_131 : BitVec 32 := 0#32
  let v306 : BitVec 1 := Scalar.cmpi .ne v305 c0_i32_131
  let v307 : BitVec 1 := Scalar.andi v304 v306
  let v293 : BitVec 32 := Scalar.divsi v292 c16_i32_126
  let c1_i32_132 : BitVec 32 := 1#32
  let v308 : BitVec 32 := Scalar.subi v293 c1_i32_132
  let v309 : BitVec 32 := Scalar.select v307 v308 v293
  let v310 : BitVec 32 := Scalar.subi v309 c0_i32_133
  let c1_i32_135 : BitVec 32 := 1#32
  let v312 : BitVec 32 := Scalar.divsi v310 c1_i32_135
  let v313 : BitVec 32 := Scalar.muli v312 c1_i32_135
  let v314 : BitVec 32 := Scalar.addi c0_i32_133 v313
  let c1_i32_137 : BitVec 32 := 1#32
  let arg9 : BitVec 32 := Scf.iv v314 c1_i32_137 k0_t6
  let c16_i32_218 : BitVec 32 := 16#32
  let v452 : BitVec 32 := Scalar.muli arg9 c16_i32_218
  let v453 : BitVec 32 := Scalar.addi v291 v452
  let v454 : BitVec 32 := v453
  let c0_i32_225 : BitVec 32 := 0#32
  ![v454.toNat, 0]
def k0_off18 (v290 : BitVec 32) (v292 : BitVec 32) (k0_t6 : Fin (k0_t6_loop v292).trips) : Fin 3 → Nat :=
  let c0_i32_220 : BitVec 32 := 0#32
  let c0_i32_133 : BitVec 32 := 0#32
  let c0_i32_127 : BitVec 32 := 0#32
  let v294 : BitVec 1 := Scalar.cmpi .sgt v292 c0_i32_127
  let v295 : BitVec 32 := Scalar.extui v294
  let c0_i32_128 : BitVec 32 := 0#32
  let v296 : BitVec 1 := Scalar.cmpi .slt v292 c0_i32_128
  let v297 : BitVec 32 := Scalar.extui v296
  let v298 : BitVec 32 := Scalar.subi v295 v297
  let c16_i32_126 : BitVec 32 := 16#32
  let c0_i32_129 : BitVec 32 := 0#32
  let v299 : BitVec 1 := Scalar.cmpi .sgt c16_i32_126 c0_i32_129
  let v300 : BitVec 32 := Scalar.extui v299
  let c0_i32_130 : BitVec 32 := 0#32
  let v301 : BitVec 1 := Scalar.cmpi .slt c16_i32_126 c0_i32_130
  let v302 : BitVec 32 := Scalar.extui v301
  let v303 : BitVec 32 := Scalar.subi v300 v302
  let v304 : BitVec 1 := Scalar.cmpi .ne v298 v303
  let v305 : BitVec 32 := Scalar.remsi v292 c16_i32_126
  let c0_i32_131 : BitVec 32 := 0#32
  let v306 : BitVec 1 := Scalar.cmpi .ne v305 c0_i32_131
  let v307 : BitVec 1 := Scalar.andi v304 v306
  let v293 : BitVec 32 := Scalar.divsi v292 c16_i32_126
  let c1_i32_132 : BitVec 32 := 1#32
  let v308 : BitVec 32 := Scalar.subi v293 c1_i32_132
  let v309 : BitVec 32 := Scalar.select v307 v308 v293
  let v310 : BitVec 32 := Scalar.subi v309 c0_i32_133
  let c1_i32_135 : BitVec 32 := 1#32
  let v312 : BitVec 32 := Scalar.divsi v310 c1_i32_135
  let v313 : BitVec 32 := Scalar.muli v312 c1_i32_135
  let v314 : BitVec 32 := Scalar.addi c0_i32_133 v313
  let c1_i32_137 : BitVec 32 := 1#32
  let arg9 : BitVec 32 := Scf.iv v314 c1_i32_137 k0_t6
  let c16_i32_219 : BitVec 32 := 16#32
  let v455 : BitVec 32 := Scalar.muli arg9 c16_i32_219
  let v456 : BitVec 32 := Scalar.addi v290 v455
  let v457 : BitVec 32 := v456
  let c0_i32_223 : BitVec 32 := 0#32
  ![0, v457.toNat, 0]

def k0_chk3 (i : grid0.Coords) (v290 : BitVec 32) (v291 : BitVec 32) (v292 : BitVec 32) : Prop :=
  (∀ (k0_h1 : k0_cond1 i = 1#1), (k0_t5_loop v292).OK) ∧
  (∀ k0_t5 : Fin (k0_t5_loop v292).trips, ∀ (k0_h1 : k0_cond1 i = 1#1), 16 ∣ (k0_mult9 v291 v292 k0_t5).toNat) ∧
  (∀ k0_t5 : Fin (k0_t5_loop v292).trips, ∀ (k0_h1 : k0_cond1 i = 1#1), 16 ∣ (k0_mult10 v290 v292 k0_t5).toNat) ∧
  (∀ k0_t5 : Fin (k0_t5_loop v292).trips, ∀ (k0_h1 : k0_cond1 i = 1#1), ∀ a, (k0_off13 v290 v292 k0_t5) a + S16x1024.size a ≤ S1152x1024.size a) ∧
  (∀ k0_t5 : Fin (k0_t5_loop v292).trips, ∀ (k0_h1 : k0_cond1 i = 1#1), ∀ a, (k0_off14 v291 v292 k0_t5) a + S16x1024.size a ≤ S44032x1024.size a) ∧
  (∀ k0_t5 : Fin (k0_t5_loop v292).trips, ∀ (k0_h1 : k0_cond1 i = 1#1), ∀ (hinb : ∀ a, (k0_off14 v291 v292 k0_t5) a + S16x1024.size a ≤ S44032x1024.size a), (Rect.unit (s := S44032x1024) (k0_off14 v291 v292 k0_t5) S16x1024.size hinb).WholeWords (EltTy.packing .bf16)) ∧
  (∀ k0_t5 : Fin (k0_t5_loop v292).trips, ∀ (k0_h1 : k0_cond1 i = 1#1), ∀ a, (k0_off15 v290 v292 k0_t5) a + S1x16x1024.size a ≤ S2x1152x1024.size a) ∧
  (∀ k0_t5 : Fin (k0_t5_loop v292).trips, ∀ (k0_h1 : k0_cond1 i = 1#1), ∀ (hinb : ∀ a, (k0_off15 v290 v292 k0_t5) a + S1x16x1024.size a ≤ S2x1152x1024.size a), (Rect.unit (s := S2x1152x1024) (k0_off15 v290 v292 k0_t5) S1x16x1024.size hinb).WholeWords (EltTy.packing .bf16)) ∧
  (∀ (k0_h1 : k0_cond1 i = 1#1), (k0_t6_loop v292).OK) ∧
  (∀ k0_t6 : Fin (k0_t6_loop v292).trips, ∀ (k0_h1 : k0_cond1 i = 1#1), 16 ∣ (k0_mult11 v291 v292 k0_t6).toNat) ∧
  (∀ k0_t6 : Fin (k0_t6_loop v292).trips, ∀ (k0_h1 : k0_cond1 i = 1#1), 16 ∣ (k0_mult12 v290 v292 k0_t6).toNat) ∧
  (∀ k0_t6 : Fin (k0_t6_loop v292).trips, ∀ (k0_h1 : k0_cond1 i = 1#1), ∀ a, (k0_off16 v290 v292 k0_t6) a + S16x1024.size a ≤ S1152x1024.size a) ∧
  (∀ k0_t6 : Fin (k0_t6_loop v292).trips, ∀ (k0_h1 : k0_cond1 i = 1#1), ∀ a, (k0_off17 v291 v292 k0_t6) a + S16x1024.size a ≤ S44032x1024.size a) ∧
  (∀ k0_t6 : Fin (k0_t6_loop v292).trips, ∀ (k0_h1 : k0_cond1 i = 1#1), ∀ (hinb : ∀ a, (k0_off17 v291 v292 k0_t6) a + S16x1024.size a ≤ S44032x1024.size a), (Rect.unit (s := S44032x1024) (k0_off17 v291 v292 k0_t6) S16x1024.size hinb).WholeWords (EltTy.packing .bf16)) ∧
  (∀ k0_t6 : Fin (k0_t6_loop v292).trips, ∀ (k0_h1 : k0_cond1 i = 1#1), ∀ a, (k0_off18 v290 v292 k0_t6) a + S1x16x1024.size a ≤ S2x1152x1024.size a) ∧
  (∀ k0_t6 : Fin (k0_t6_loop v292).trips, ∀ (k0_h1 : k0_cond1 i = 1#1), ∀ (hinb : ∀ a, (k0_off18 v290 v292 k0_t6) a + S1x16x1024.size a ≤ S2x1152x1024.size a), (Rect.unit (s := S2x1152x1024) (k0_off18 v290 v292 k0_t6) S1x16x1024.size hinb).WholeWords (EltTy.packing .bf16))
theorem k0_t5_ok : ∀ (i : grid0.Coords) (v290 : BitVec 32) (v291 : BitVec 32) (v292 : BitVec 32) (k0_hw3 : k0_chk3 i v290 v291 v292), ∀ (k0_h1 : k0_cond1 i = 1#1), (k0_t5_loop v292).OK := fun i v290 v291 v292 k0_hw3 k0_h1 => k0_hw3.1 k0_h1
theorem k0_mult9_dvd : ∀ (i : grid0.Coords) (v290 : BitVec 32) (v291 : BitVec 32) (v292 : BitVec 32) (k0_hw3 : k0_chk3 i v290 v291 v292) (k0_t5 : Fin (k0_t5_loop v292).trips), ∀ (k0_h1 : k0_cond1 i = 1#1), 16 ∣ (k0_mult9 v291 v292 k0_t5).toNat := fun i v290 v291 v292 k0_hw3 k0_t5 k0_h1 => k0_hw3.2.1 k0_t5 k0_h1
theorem k0_mult10_dvd : ∀ (i : grid0.Coords) (v290 : BitVec 32) (v291 : BitVec 32) (v292 : BitVec 32) (k0_hw3 : k0_chk3 i v290 v291 v292) (k0_t5 : Fin (k0_t5_loop v292).trips), ∀ (k0_h1 : k0_cond1 i = 1#1), 16 ∣ (k0_mult10 v290 v292 k0_t5).toNat := fun i v290 v291 v292 k0_hw3 k0_t5 k0_h1 => k0_hw3.2.2.1 k0_t5 k0_h1
theorem k0_off13_inb : ∀ (i : grid0.Coords) (v290 : BitVec 32) (v291 : BitVec 32) (v292 : BitVec 32) (k0_hw3 : k0_chk3 i v290 v291 v292) (k0_t5 : Fin (k0_t5_loop v292).trips), ∀ (k0_h1 : k0_cond1 i = 1#1), ∀ a, (k0_off13 v290 v292 k0_t5) a + S16x1024.size a ≤ S1152x1024.size a := fun i v290 v291 v292 k0_hw3 k0_t5 k0_h1 => k0_hw3.2.2.2.1 k0_t5 k0_h1
theorem k0_off14_inb : ∀ (i : grid0.Coords) (v290 : BitVec 32) (v291 : BitVec 32) (v292 : BitVec 32) (k0_hw3 : k0_chk3 i v290 v291 v292) (k0_t5 : Fin (k0_t5_loop v292).trips), ∀ (k0_h1 : k0_cond1 i = 1#1), ∀ a, (k0_off14 v291 v292 k0_t5) a + S16x1024.size a ≤ S44032x1024.size a := fun i v290 v291 v292 k0_hw3 k0_t5 k0_h1 => k0_hw3.2.2.2.2.1 k0_t5 k0_h1
theorem k0_off14_wordsbf16 : ∀ (i : grid0.Coords) (v290 : BitVec 32) (v291 : BitVec 32) (v292 : BitVec 32) (k0_hw3 : k0_chk3 i v290 v291 v292) (k0_t5 : Fin (k0_t5_loop v292).trips), ∀ (k0_h1 : k0_cond1 i = 1#1), (Rect.unit (s := S44032x1024) (k0_off14 v291 v292 k0_t5) S16x1024.size (k0_off14_inb i v290 v291 v292 k0_hw3 k0_t5 k0_h1)).WholeWords (EltTy.packing .bf16) := fun i v290 v291 v292 k0_hw3 k0_t5 k0_h1 => k0_hw3.2.2.2.2.2.1 k0_t5 k0_h1 (k0_off14_inb i v290 v291 v292 k0_hw3 k0_t5 k0_h1)
theorem k0_off15_inb : ∀ (i : grid0.Coords) (v290 : BitVec 32) (v291 : BitVec 32) (v292 : BitVec 32) (k0_hw3 : k0_chk3 i v290 v291 v292) (k0_t5 : Fin (k0_t5_loop v292).trips), ∀ (k0_h1 : k0_cond1 i = 1#1), ∀ a, (k0_off15 v290 v292 k0_t5) a + S1x16x1024.size a ≤ S2x1152x1024.size a := fun i v290 v291 v292 k0_hw3 k0_t5 k0_h1 => k0_hw3.2.2.2.2.2.2.1 k0_t5 k0_h1
theorem k0_off15_wordsbf16 : ∀ (i : grid0.Coords) (v290 : BitVec 32) (v291 : BitVec 32) (v292 : BitVec 32) (k0_hw3 : k0_chk3 i v290 v291 v292) (k0_t5 : Fin (k0_t5_loop v292).trips), ∀ (k0_h1 : k0_cond1 i = 1#1), (Rect.unit (s := S2x1152x1024) (k0_off15 v290 v292 k0_t5) S1x16x1024.size (k0_off15_inb i v290 v291 v292 k0_hw3 k0_t5 k0_h1)).WholeWords (EltTy.packing .bf16) := fun i v290 v291 v292 k0_hw3 k0_t5 k0_h1 => k0_hw3.2.2.2.2.2.2.2.1 k0_t5 k0_h1 (k0_off15_inb i v290 v291 v292 k0_hw3 k0_t5 k0_h1)
theorem k0_t6_ok : ∀ (i : grid0.Coords) (v290 : BitVec 32) (v291 : BitVec 32) (v292 : BitVec 32) (k0_hw3 : k0_chk3 i v290 v291 v292), ∀ (k0_h1 : k0_cond1 i = 1#1), (k0_t6_loop v292).OK := fun i v290 v291 v292 k0_hw3 k0_h1 => k0_hw3.2.2.2.2.2.2.2.2.1 k0_h1
theorem k0_mult11_dvd : ∀ (i : grid0.Coords) (v290 : BitVec 32) (v291 : BitVec 32) (v292 : BitVec 32) (k0_hw3 : k0_chk3 i v290 v291 v292) (k0_t6 : Fin (k0_t6_loop v292).trips), ∀ (k0_h1 : k0_cond1 i = 1#1), 16 ∣ (k0_mult11 v291 v292 k0_t6).toNat := fun i v290 v291 v292 k0_hw3 k0_t6 k0_h1 => k0_hw3.2.2.2.2.2.2.2.2.2.1 k0_t6 k0_h1
theorem k0_mult12_dvd : ∀ (i : grid0.Coords) (v290 : BitVec 32) (v291 : BitVec 32) (v292 : BitVec 32) (k0_hw3 : k0_chk3 i v290 v291 v292) (k0_t6 : Fin (k0_t6_loop v292).trips), ∀ (k0_h1 : k0_cond1 i = 1#1), 16 ∣ (k0_mult12 v290 v292 k0_t6).toNat := fun i v290 v291 v292 k0_hw3 k0_t6 k0_h1 => k0_hw3.2.2.2.2.2.2.2.2.2.2.1 k0_t6 k0_h1
theorem k0_off16_inb : ∀ (i : grid0.Coords) (v290 : BitVec 32) (v291 : BitVec 32) (v292 : BitVec 32) (k0_hw3 : k0_chk3 i v290 v291 v292) (k0_t6 : Fin (k0_t6_loop v292).trips), ∀ (k0_h1 : k0_cond1 i = 1#1), ∀ a, (k0_off16 v290 v292 k0_t6) a + S16x1024.size a ≤ S1152x1024.size a := fun i v290 v291 v292 k0_hw3 k0_t6 k0_h1 => k0_hw3.2.2.2.2.2.2.2.2.2.2.2.1 k0_t6 k0_h1
theorem k0_off17_inb : ∀ (i : grid0.Coords) (v290 : BitVec 32) (v291 : BitVec 32) (v292 : BitVec 32) (k0_hw3 : k0_chk3 i v290 v291 v292) (k0_t6 : Fin (k0_t6_loop v292).trips), ∀ (k0_h1 : k0_cond1 i = 1#1), ∀ a, (k0_off17 v291 v292 k0_t6) a + S16x1024.size a ≤ S44032x1024.size a := fun i v290 v291 v292 k0_hw3 k0_t6 k0_h1 => k0_hw3.2.2.2.2.2.2.2.2.2.2.2.2.1 k0_t6 k0_h1
theorem k0_off17_wordsbf16 : ∀ (i : grid0.Coords) (v290 : BitVec 32) (v291 : BitVec 32) (v292 : BitVec 32) (k0_hw3 : k0_chk3 i v290 v291 v292) (k0_t6 : Fin (k0_t6_loop v292).trips), ∀ (k0_h1 : k0_cond1 i = 1#1), (Rect.unit (s := S44032x1024) (k0_off17 v291 v292 k0_t6) S16x1024.size (k0_off17_inb i v290 v291 v292 k0_hw3 k0_t6 k0_h1)).WholeWords (EltTy.packing .bf16) := fun i v290 v291 v292 k0_hw3 k0_t6 k0_h1 => k0_hw3.2.2.2.2.2.2.2.2.2.2.2.2.2.1 k0_t6 k0_h1 (k0_off17_inb i v290 v291 v292 k0_hw3 k0_t6 k0_h1)
theorem k0_off18_inb : ∀ (i : grid0.Coords) (v290 : BitVec 32) (v291 : BitVec 32) (v292 : BitVec 32) (k0_hw3 : k0_chk3 i v290 v291 v292) (k0_t6 : Fin (k0_t6_loop v292).trips), ∀ (k0_h1 : k0_cond1 i = 1#1), ∀ a, (k0_off18 v290 v292 k0_t6) a + S1x16x1024.size a ≤ S2x1152x1024.size a := fun i v290 v291 v292 k0_hw3 k0_t6 k0_h1 => k0_hw3.2.2.2.2.2.2.2.2.2.2.2.2.2.2.1 k0_t6 k0_h1
theorem k0_off18_wordsbf16 : ∀ (i : grid0.Coords) (v290 : BitVec 32) (v291 : BitVec 32) (v292 : BitVec 32) (k0_hw3 : k0_chk3 i v290 v291 v292) (k0_t6 : Fin (k0_t6_loop v292).trips), ∀ (k0_h1 : k0_cond1 i = 1#1), (Rect.unit (s := S2x1152x1024) (k0_off18 v290 v292 k0_t6) S1x16x1024.size (k0_off18_inb i v290 v291 v292 k0_hw3 k0_t6 k0_h1)).WholeWords (EltTy.packing .bf16) := fun i v290 v291 v292 k0_hw3 k0_t6 k0_h1 => k0_hw3.2.2.2.2.2.2.2.2.2.2.2.2.2.2.2 k0_t6 k0_h1 (k0_off18_inb i v290 v291 v292 k0_hw3 k0_t6 k0_h1)

@[reducible] def k0_t7_loop (v319 : BitVec 32) : Scf.Loop 32 :=
  let c0_i32_149 : BitVec 32 := 0#32
  let c0_i32_143 : BitVec 32 := 0#32
  let v321 : BitVec 1 := Scalar.cmpi .sgt v319 c0_i32_143
  let v322 : BitVec 32 := Scalar.extui v321
  let c0_i32_144 : BitVec 32 := 0#32
  let v323 : BitVec 1 := Scalar.cmpi .slt v319 c0_i32_144
  let v324 : BitVec 32 := Scalar.extui v323
  let v325 : BitVec 32 := Scalar.subi v322 v324
  let c16_i32_142 : BitVec 32 := 16#32
  let c0_i32_145 : BitVec 32 := 0#32
  let v326 : BitVec 1 := Scalar.cmpi .sgt c16_i32_142 c0_i32_145
  let v327 : BitVec 32 := Scalar.extui v326
  let c0_i32_146 : BitVec 32 := 0#32
  let v328 : BitVec 1 := Scalar.cmpi .slt c16_i32_142 c0_i32_146
  let v329 : BitVec 32 := Scalar.extui v328
  let v330 : BitVec 32 := Scalar.subi v327 v329
  let v331 : BitVec 1 := Scalar.cmpi .ne v325 v330
  let v332 : BitVec 32 := Scalar.remsi v319 c16_i32_142
  let c0_i32_147 : BitVec 32 := 0#32
  let v333 : BitVec 1 := Scalar.cmpi .ne v332 c0_i32_147
  let v334 : BitVec 1 := Scalar.andi v331 v333
  let v320 : BitVec 32 := Scalar.divsi v319 c16_i32_142
  let c1_i32_148 : BitVec 32 := 1#32
  let v335 : BitVec 32 := Scalar.subi v320 c1_i32_148
  let v336 : BitVec 32 := Scalar.select v334 v335 v320
  let v337 : BitVec 32 := Scalar.subi v336 c0_i32_149
  let c1_i32_151 : BitVec 32 := 1#32
  let v339 : BitVec 32 := Scalar.divsi v337 c1_i32_151
  let v340 : BitVec 32 := Scalar.muli v339 c1_i32_151
  let v341 : BitVec 32 := Scalar.addi c0_i32_149 v340
  let c1_i32_152 : BitVec 32 := 1#32
  ⟨c0_i32_149, v341, c1_i32_152⟩

def k0_mult13 (v318 : BitVec 32) (v319 : BitVec 32) (k0_t7 : Fin (k0_t7_loop v319).trips) : BitVec 32 :=
  let c0_i32_149 : BitVec 32 := 0#32
  let c1_i32_152 : BitVec 32 := 1#32
  let arg9 : BitVec 32 := Scf.iv c0_i32_149 c1_i32_152 k0_t7
  let c16_i32_218 : BitVec 32 := 16#32
  let v452 : BitVec 32 := Scalar.muli arg9 c16_i32_218
  let v453 : BitVec 32 := Scalar.addi v318 v452
  v453
def k0_mult14 (v317 : BitVec 32) (v319 : BitVec 32) (k0_t7 : Fin (k0_t7_loop v319).trips) : BitVec 32 :=
  let c0_i32_149 : BitVec 32 := 0#32
  let c1_i32_152 : BitVec 32 := 1#32
  let arg9 : BitVec 32 := Scf.iv c0_i32_149 c1_i32_152 k0_t7
  let c16_i32_219 : BitVec 32 := 16#32
  let v455 : BitVec 32 := Scalar.muli arg9 c16_i32_219
  let v456 : BitVec 32 := Scalar.addi v317 v455
  v456
def k0_off19 (v317 : BitVec 32) (v319 : BitVec 32) (k0_t7 : Fin (k0_t7_loop v319).trips) : Fin 2 → Nat :=
  let c0_i32_149 : BitVec 32 := 0#32
  let c1_i32_152 : BitVec 32 := 1#32
  let arg9 : BitVec 32 := Scf.iv c0_i32_149 c1_i32_152 k0_t7
  let c16_i32_219 : BitVec 32 := 16#32
  let v455 : BitVec 32 := Scalar.muli arg9 c16_i32_219
  let v456 : BitVec 32 := Scalar.addi v317 v455
  let v457 : BitVec 32 := v456
  let c0_i32_224 : BitVec 32 := 0#32
  ![v457.toNat, 0]
def k0_off20 (v318 : BitVec 32) (v319 : BitVec 32) (k0_t7 : Fin (k0_t7_loop v319).trips) : Fin 2 → Nat :=
  let c0_i32_149 : BitVec 32 := 0#32
  let c1_i32_152 : BitVec 32 := 1#32
  let arg9 : BitVec 32 := Scf.iv c0_i32_149 c1_i32_152 k0_t7
  let c16_i32_218 : BitVec 32 := 16#32
  let v452 : BitVec 32 := Scalar.muli arg9 c16_i32_218
  let v453 : BitVec 32 := Scalar.addi v318 v452
  let v454 : BitVec 32 := v453
  let c0_i32_225 : BitVec 32 := 0#32
  ![v454.toNat, 0]
def k0_off21 (v317 : BitVec 32) (v319 : BitVec 32) (k0_t7 : Fin (k0_t7_loop v319).trips) : Fin 3 → Nat :=
  let c0_i32_220 : BitVec 32 := 0#32
  let c0_i32_149 : BitVec 32 := 0#32
  let c1_i32_152 : BitVec 32 := 1#32
  let arg9 : BitVec 32 := Scf.iv c0_i32_149 c1_i32_152 k0_t7
  let c16_i32_219 : BitVec 32 := 16#32
  let v455 : BitVec 32 := Scalar.muli arg9 c16_i32_219
  let v456 : BitVec 32 := Scalar.addi v317 v455
  let v457 : BitVec 32 := v456
  let c0_i32_223 : BitVec 32 := 0#32
  ![0, v457.toNat, 0]
@[reducible] def k0_t8_loop (v319 : BitVec 32) : Scf.Loop 32 :=
  let c0_i32_149 : BitVec 32 := 0#32
  let c0_i32_143 : BitVec 32 := 0#32
  let v321 : BitVec 1 := Scalar.cmpi .sgt v319 c0_i32_143
  let v322 : BitVec 32 := Scalar.extui v321
  let c0_i32_144 : BitVec 32 := 0#32
  let v323 : BitVec 1 := Scalar.cmpi .slt v319 c0_i32_144
  let v324 : BitVec 32 := Scalar.extui v323
  let v325 : BitVec 32 := Scalar.subi v322 v324
  let c16_i32_142 : BitVec 32 := 16#32
  let c0_i32_145 : BitVec 32 := 0#32
  let v326 : BitVec 1 := Scalar.cmpi .sgt c16_i32_142 c0_i32_145
  let v327 : BitVec 32 := Scalar.extui v326
  let c0_i32_146 : BitVec 32 := 0#32
  let v328 : BitVec 1 := Scalar.cmpi .slt c16_i32_142 c0_i32_146
  let v329 : BitVec 32 := Scalar.extui v328
  let v330 : BitVec 32 := Scalar.subi v327 v329
  let v331 : BitVec 1 := Scalar.cmpi .ne v325 v330
  let v332 : BitVec 32 := Scalar.remsi v319 c16_i32_142
  let c0_i32_147 : BitVec 32 := 0#32
  let v333 : BitVec 1 := Scalar.cmpi .ne v332 c0_i32_147
  let v334 : BitVec 1 := Scalar.andi v331 v333
  let v320 : BitVec 32 := Scalar.divsi v319 c16_i32_142
  let c1_i32_148 : BitVec 32 := 1#32
  let v335 : BitVec 32 := Scalar.subi v320 c1_i32_148
  let v336 : BitVec 32 := Scalar.select v334 v335 v320
  let v337 : BitVec 32 := Scalar.subi v336 c0_i32_149
  let c1_i32_151 : BitVec 32 := 1#32
  let v339 : BitVec 32 := Scalar.divsi v337 c1_i32_151
  let v340 : BitVec 32 := Scalar.muli v339 c1_i32_151
  let v341 : BitVec 32 := Scalar.addi c0_i32_149 v340
  let v338 : BitVec 32 := Scalar.addi c0_i32_149 v337
  let c1_i32_153 : BitVec 32 := 1#32
  ⟨v341, v338, c1_i32_153⟩
def k0_mult15 (v318 : BitVec 32) (v319 : BitVec 32) (k0_t8 : Fin (k0_t8_loop v319).trips) : BitVec 32 :=
  let c0_i32_149 : BitVec 32 := 0#32
  let c0_i32_143 : BitVec 32 := 0#32
  let v321 : BitVec 1 := Scalar.cmpi .sgt v319 c0_i32_143
  let v322 : BitVec 32 := Scalar.extui v321
  let c0_i32_144 : BitVec 32 := 0#32
  let v323 : BitVec 1 := Scalar.cmpi .slt v319 c0_i32_144
  let v324 : BitVec 32 := Scalar.extui v323
  let v325 : BitVec 32 := Scalar.subi v322 v324
  let c16_i32_142 : BitVec 32 := 16#32
  let c0_i32_145 : BitVec 32 := 0#32
  let v326 : BitVec 1 := Scalar.cmpi .sgt c16_i32_142 c0_i32_145
  let v327 : BitVec 32 := Scalar.extui v326
  let c0_i32_146 : BitVec 32 := 0#32
  let v328 : BitVec 1 := Scalar.cmpi .slt c16_i32_142 c0_i32_146
  let v329 : BitVec 32 := Scalar.extui v328
  let v330 : BitVec 32 := Scalar.subi v327 v329
  let v331 : BitVec 1 := Scalar.cmpi .ne v325 v330
  let v332 : BitVec 32 := Scalar.remsi v319 c16_i32_142
  let c0_i32_147 : BitVec 32 := 0#32
  let v333 : BitVec 1 := Scalar.cmpi .ne v332 c0_i32_147
  let v334 : BitVec 1 := Scalar.andi v331 v333
  let v320 : BitVec 32 := Scalar.divsi v319 c16_i32_142
  let c1_i32_148 : BitVec 32 := 1#32
  let v335 : BitVec 32 := Scalar.subi v320 c1_i32_148
  let v336 : BitVec 32 := Scalar.select v334 v335 v320
  let v337 : BitVec 32 := Scalar.subi v336 c0_i32_149
  let c1_i32_151 : BitVec 32 := 1#32
  let v339 : BitVec 32 := Scalar.divsi v337 c1_i32_151
  let v340 : BitVec 32 := Scalar.muli v339 c1_i32_151
  let v341 : BitVec 32 := Scalar.addi c0_i32_149 v340
  let c1_i32_153 : BitVec 32 := 1#32
  let arg9 : BitVec 32 := Scf.iv v341 c1_i32_153 k0_t8
  let c16_i32_218 : BitVec 32 := 16#32
  let v452 : BitVec 32 := Scalar.muli arg9 c16_i32_218
  let v453 : BitVec 32 := Scalar.addi v318 v452
  v453
def k0_mult16 (v317 : BitVec 32) (v319 : BitVec 32) (k0_t8 : Fin (k0_t8_loop v319).trips) : BitVec 32 :=
  let c0_i32_149 : BitVec 32 := 0#32
  let c0_i32_143 : BitVec 32 := 0#32
  let v321 : BitVec 1 := Scalar.cmpi .sgt v319 c0_i32_143
  let v322 : BitVec 32 := Scalar.extui v321
  let c0_i32_144 : BitVec 32 := 0#32
  let v323 : BitVec 1 := Scalar.cmpi .slt v319 c0_i32_144
  let v324 : BitVec 32 := Scalar.extui v323
  let v325 : BitVec 32 := Scalar.subi v322 v324
  let c16_i32_142 : BitVec 32 := 16#32
  let c0_i32_145 : BitVec 32 := 0#32
  let v326 : BitVec 1 := Scalar.cmpi .sgt c16_i32_142 c0_i32_145
  let v327 : BitVec 32 := Scalar.extui v326
  let c0_i32_146 : BitVec 32 := 0#32
  let v328 : BitVec 1 := Scalar.cmpi .slt c16_i32_142 c0_i32_146
  let v329 : BitVec 32 := Scalar.extui v328
  let v330 : BitVec 32 := Scalar.subi v327 v329
  let v331 : BitVec 1 := Scalar.cmpi .ne v325 v330
  let v332 : BitVec 32 := Scalar.remsi v319 c16_i32_142
  let c0_i32_147 : BitVec 32 := 0#32
  let v333 : BitVec 1 := Scalar.cmpi .ne v332 c0_i32_147
  let v334 : BitVec 1 := Scalar.andi v331 v333
  let v320 : BitVec 32 := Scalar.divsi v319 c16_i32_142
  let c1_i32_148 : BitVec 32 := 1#32
  let v335 : BitVec 32 := Scalar.subi v320 c1_i32_148
  let v336 : BitVec 32 := Scalar.select v334 v335 v320
  let v337 : BitVec 32 := Scalar.subi v336 c0_i32_149
  let c1_i32_151 : BitVec 32 := 1#32
  let v339 : BitVec 32 := Scalar.divsi v337 c1_i32_151
  let v340 : BitVec 32 := Scalar.muli v339 c1_i32_151
  let v341 : BitVec 32 := Scalar.addi c0_i32_149 v340
  let c1_i32_153 : BitVec 32 := 1#32
  let arg9 : BitVec 32 := Scf.iv v341 c1_i32_153 k0_t8
  let c16_i32_219 : BitVec 32 := 16#32
  let v455 : BitVec 32 := Scalar.muli arg9 c16_i32_219
  let v456 : BitVec 32 := Scalar.addi v317 v455
  v456
def k0_off22 (v317 : BitVec 32) (v319 : BitVec 32) (k0_t8 : Fin (k0_t8_loop v319).trips) : Fin 2 → Nat :=
  let c0_i32_149 : BitVec 32 := 0#32
  let c0_i32_143 : BitVec 32 := 0#32
  let v321 : BitVec 1 := Scalar.cmpi .sgt v319 c0_i32_143
  let v322 : BitVec 32 := Scalar.extui v321
  let c0_i32_144 : BitVec 32 := 0#32
  let v323 : BitVec 1 := Scalar.cmpi .slt v319 c0_i32_144
  let v324 : BitVec 32 := Scalar.extui v323
  let v325 : BitVec 32 := Scalar.subi v322 v324
  let c16_i32_142 : BitVec 32 := 16#32
  let c0_i32_145 : BitVec 32 := 0#32
  let v326 : BitVec 1 := Scalar.cmpi .sgt c16_i32_142 c0_i32_145
  let v327 : BitVec 32 := Scalar.extui v326
  let c0_i32_146 : BitVec 32 := 0#32
  let v328 : BitVec 1 := Scalar.cmpi .slt c16_i32_142 c0_i32_146
  let v329 : BitVec 32 := Scalar.extui v328
  let v330 : BitVec 32 := Scalar.subi v327 v329
  let v331 : BitVec 1 := Scalar.cmpi .ne v325 v330
  let v332 : BitVec 32 := Scalar.remsi v319 c16_i32_142
  let c0_i32_147 : BitVec 32 := 0#32
  let v333 : BitVec 1 := Scalar.cmpi .ne v332 c0_i32_147
  let v334 : BitVec 1 := Scalar.andi v331 v333
  let v320 : BitVec 32 := Scalar.divsi v319 c16_i32_142
  let c1_i32_148 : BitVec 32 := 1#32
  let v335 : BitVec 32 := Scalar.subi v320 c1_i32_148
  let v336 : BitVec 32 := Scalar.select v334 v335 v320
  let v337 : BitVec 32 := Scalar.subi v336 c0_i32_149
  let c1_i32_151 : BitVec 32 := 1#32
  let v339 : BitVec 32 := Scalar.divsi v337 c1_i32_151
  let v340 : BitVec 32 := Scalar.muli v339 c1_i32_151
  let v341 : BitVec 32 := Scalar.addi c0_i32_149 v340
  let c1_i32_153 : BitVec 32 := 1#32
  let arg9 : BitVec 32 := Scf.iv v341 c1_i32_153 k0_t8
  let c16_i32_219 : BitVec 32 := 16#32
  let v455 : BitVec 32 := Scalar.muli arg9 c16_i32_219
  let v456 : BitVec 32 := Scalar.addi v317 v455
  let v457 : BitVec 32 := v456
  let c0_i32_224 : BitVec 32 := 0#32
  ![v457.toNat, 0]
def k0_off23 (v318 : BitVec 32) (v319 : BitVec 32) (k0_t8 : Fin (k0_t8_loop v319).trips) : Fin 2 → Nat :=
  let c0_i32_149 : BitVec 32 := 0#32
  let c0_i32_143 : BitVec 32 := 0#32
  let v321 : BitVec 1 := Scalar.cmpi .sgt v319 c0_i32_143
  let v322 : BitVec 32 := Scalar.extui v321
  let c0_i32_144 : BitVec 32 := 0#32
  let v323 : BitVec 1 := Scalar.cmpi .slt v319 c0_i32_144
  let v324 : BitVec 32 := Scalar.extui v323
  let v325 : BitVec 32 := Scalar.subi v322 v324
  let c16_i32_142 : BitVec 32 := 16#32
  let c0_i32_145 : BitVec 32 := 0#32
  let v326 : BitVec 1 := Scalar.cmpi .sgt c16_i32_142 c0_i32_145
  let v327 : BitVec 32 := Scalar.extui v326
  let c0_i32_146 : BitVec 32 := 0#32
  let v328 : BitVec 1 := Scalar.cmpi .slt c16_i32_142 c0_i32_146
  let v329 : BitVec 32 := Scalar.extui v328
  let v330 : BitVec 32 := Scalar.subi v327 v329
  let v331 : BitVec 1 := Scalar.cmpi .ne v325 v330
  let v332 : BitVec 32 := Scalar.remsi v319 c16_i32_142
  let c0_i32_147 : BitVec 32 := 0#32
  let v333 : BitVec 1 := Scalar.cmpi .ne v332 c0_i32_147
  let v334 : BitVec 1 := Scalar.andi v331 v333
  let v320 : BitVec 32 := Scalar.divsi v319 c16_i32_142
  let c1_i32_148 : BitVec 32 := 1#32
  let v335 : BitVec 32 := Scalar.subi v320 c1_i32_148
  let v336 : BitVec 32 := Scalar.select v334 v335 v320
  let v337 : BitVec 32 := Scalar.subi v336 c0_i32_149
  let c1_i32_151 : BitVec 32 := 1#32
  let v339 : BitVec 32 := Scalar.divsi v337 c1_i32_151
  let v340 : BitVec 32 := Scalar.muli v339 c1_i32_151
  let v341 : BitVec 32 := Scalar.addi c0_i32_149 v340
  let c1_i32_153 : BitVec 32 := 1#32
  let arg9 : BitVec 32 := Scf.iv v341 c1_i32_153 k0_t8
  let c16_i32_218 : BitVec 32 := 16#32
  let v452 : BitVec 32 := Scalar.muli arg9 c16_i32_218
  let v453 : BitVec 32 := Scalar.addi v318 v452
  let v454 : BitVec 32 := v453
  let c0_i32_225 : BitVec 32 := 0#32
  ![v454.toNat, 0]
def k0_off24 (v317 : BitVec 32) (v319 : BitVec 32) (k0_t8 : Fin (k0_t8_loop v319).trips) : Fin 3 → Nat :=
  let c0_i32_220 : BitVec 32 := 0#32
  let c0_i32_149 : BitVec 32 := 0#32
  let c0_i32_143 : BitVec 32 := 0#32
  let v321 : BitVec 1 := Scalar.cmpi .sgt v319 c0_i32_143
  let v322 : BitVec 32 := Scalar.extui v321
  let c0_i32_144 : BitVec 32 := 0#32
  let v323 : BitVec 1 := Scalar.cmpi .slt v319 c0_i32_144
  let v324 : BitVec 32 := Scalar.extui v323
  let v325 : BitVec 32 := Scalar.subi v322 v324
  let c16_i32_142 : BitVec 32 := 16#32
  let c0_i32_145 : BitVec 32 := 0#32
  let v326 : BitVec 1 := Scalar.cmpi .sgt c16_i32_142 c0_i32_145
  let v327 : BitVec 32 := Scalar.extui v326
  let c0_i32_146 : BitVec 32 := 0#32
  let v328 : BitVec 1 := Scalar.cmpi .slt c16_i32_142 c0_i32_146
  let v329 : BitVec 32 := Scalar.extui v328
  let v330 : BitVec 32 := Scalar.subi v327 v329
  let v331 : BitVec 1 := Scalar.cmpi .ne v325 v330
  let v332 : BitVec 32 := Scalar.remsi v319 c16_i32_142
  let c0_i32_147 : BitVec 32 := 0#32
  let v333 : BitVec 1 := Scalar.cmpi .ne v332 c0_i32_147
  let v334 : BitVec 1 := Scalar.andi v331 v333
  let v320 : BitVec 32 := Scalar.divsi v319 c16_i32_142
  let c1_i32_148 : BitVec 32 := 1#32
  let v335 : BitVec 32 := Scalar.subi v320 c1_i32_148
  let v336 : BitVec 32 := Scalar.select v334 v335 v320
  let v337 : BitVec 32 := Scalar.subi v336 c0_i32_149
  let c1_i32_151 : BitVec 32 := 1#32
  let v339 : BitVec 32 := Scalar.divsi v337 c1_i32_151
  let v340 : BitVec 32 := Scalar.muli v339 c1_i32_151
  let v341 : BitVec 32 := Scalar.addi c0_i32_149 v340
  let c1_i32_153 : BitVec 32 := 1#32
  let arg9 : BitVec 32 := Scf.iv v341 c1_i32_153 k0_t8
  let c16_i32_219 : BitVec 32 := 16#32
  let v455 : BitVec 32 := Scalar.muli arg9 c16_i32_219
  let v456 : BitVec 32 := Scalar.addi v317 v455
  let v457 : BitVec 32 := v456
  let c0_i32_223 : BitVec 32 := 0#32
  ![0, v457.toNat, 0]

def k0_chk4 (i : grid0.Coords) (v317 : BitVec 32) (v318 : BitVec 32) (v319 : BitVec 32) : Prop :=
  (∀ (k0_h1 : k0_cond1 i = 1#1), (k0_t7_loop v319).OK) ∧
  (∀ k0_t7 : Fin (k0_t7_loop v319).trips, ∀ (k0_h1 : k0_cond1 i = 1#1), 16 ∣ (k0_mult13 v318 v319 k0_t7).toNat) ∧
  (∀ k0_t7 : Fin (k0_t7_loop v319).trips, ∀ (k0_h1 : k0_cond1 i = 1#1), 16 ∣ (k0_mult14 v317 v319 k0_t7).toNat) ∧
  (∀ k0_t7 : Fin (k0_t7_loop v319).trips, ∀ (k0_h1 : k0_cond1 i = 1#1), ∀ a, (k0_off19 v317 v319 k0_t7) a + S16x1024.size a ≤ S1152x1024.size a) ∧
  (∀ k0_t7 : Fin (k0_t7_loop v319).trips, ∀ (k0_h1 : k0_cond1 i = 1#1), ∀ a, (k0_off20 v318 v319 k0_t7) a + S16x1024.size a ≤ S44032x1024.size a) ∧
  (∀ k0_t7 : Fin (k0_t7_loop v319).trips, ∀ (k0_h1 : k0_cond1 i = 1#1), ∀ (hinb : ∀ a, (k0_off20 v318 v319 k0_t7) a + S16x1024.size a ≤ S44032x1024.size a), (Rect.unit (s := S44032x1024) (k0_off20 v318 v319 k0_t7) S16x1024.size hinb).WholeWords (EltTy.packing .bf16)) ∧
  (∀ k0_t7 : Fin (k0_t7_loop v319).trips, ∀ (k0_h1 : k0_cond1 i = 1#1), ∀ a, (k0_off21 v317 v319 k0_t7) a + S1x16x1024.size a ≤ S2x1152x1024.size a) ∧
  (∀ k0_t7 : Fin (k0_t7_loop v319).trips, ∀ (k0_h1 : k0_cond1 i = 1#1), ∀ (hinb : ∀ a, (k0_off21 v317 v319 k0_t7) a + S1x16x1024.size a ≤ S2x1152x1024.size a), (Rect.unit (s := S2x1152x1024) (k0_off21 v317 v319 k0_t7) S1x16x1024.size hinb).WholeWords (EltTy.packing .bf16)) ∧
  (∀ (k0_h1 : k0_cond1 i = 1#1), (k0_t8_loop v319).OK) ∧
  (∀ k0_t8 : Fin (k0_t8_loop v319).trips, ∀ (k0_h1 : k0_cond1 i = 1#1), 16 ∣ (k0_mult15 v318 v319 k0_t8).toNat) ∧
  (∀ k0_t8 : Fin (k0_t8_loop v319).trips, ∀ (k0_h1 : k0_cond1 i = 1#1), 16 ∣ (k0_mult16 v317 v319 k0_t8).toNat) ∧
  (∀ k0_t8 : Fin (k0_t8_loop v319).trips, ∀ (k0_h1 : k0_cond1 i = 1#1), ∀ a, (k0_off22 v317 v319 k0_t8) a + S16x1024.size a ≤ S1152x1024.size a) ∧
  (∀ k0_t8 : Fin (k0_t8_loop v319).trips, ∀ (k0_h1 : k0_cond1 i = 1#1), ∀ a, (k0_off23 v318 v319 k0_t8) a + S16x1024.size a ≤ S44032x1024.size a) ∧
  (∀ k0_t8 : Fin (k0_t8_loop v319).trips, ∀ (k0_h1 : k0_cond1 i = 1#1), ∀ (hinb : ∀ a, (k0_off23 v318 v319 k0_t8) a + S16x1024.size a ≤ S44032x1024.size a), (Rect.unit (s := S44032x1024) (k0_off23 v318 v319 k0_t8) S16x1024.size hinb).WholeWords (EltTy.packing .bf16)) ∧
  (∀ k0_t8 : Fin (k0_t8_loop v319).trips, ∀ (k0_h1 : k0_cond1 i = 1#1), ∀ a, (k0_off24 v317 v319 k0_t8) a + S1x16x1024.size a ≤ S2x1152x1024.size a) ∧
  (∀ k0_t8 : Fin (k0_t8_loop v319).trips, ∀ (k0_h1 : k0_cond1 i = 1#1), ∀ (hinb : ∀ a, (k0_off24 v317 v319 k0_t8) a + S1x16x1024.size a ≤ S2x1152x1024.size a), (Rect.unit (s := S2x1152x1024) (k0_off24 v317 v319 k0_t8) S1x16x1024.size hinb).WholeWords (EltTy.packing .bf16))
theorem k0_t7_ok : ∀ (i : grid0.Coords) (v317 : BitVec 32) (v318 : BitVec 32) (v319 : BitVec 32) (k0_hw4 : k0_chk4 i v317 v318 v319), ∀ (k0_h1 : k0_cond1 i = 1#1), (k0_t7_loop v319).OK := fun i v317 v318 v319 k0_hw4 k0_h1 => k0_hw4.1 k0_h1
theorem k0_mult13_dvd : ∀ (i : grid0.Coords) (v317 : BitVec 32) (v318 : BitVec 32) (v319 : BitVec 32) (k0_hw4 : k0_chk4 i v317 v318 v319) (k0_t7 : Fin (k0_t7_loop v319).trips), ∀ (k0_h1 : k0_cond1 i = 1#1), 16 ∣ (k0_mult13 v318 v319 k0_t7).toNat := fun i v317 v318 v319 k0_hw4 k0_t7 k0_h1 => k0_hw4.2.1 k0_t7 k0_h1
theorem k0_mult14_dvd : ∀ (i : grid0.Coords) (v317 : BitVec 32) (v318 : BitVec 32) (v319 : BitVec 32) (k0_hw4 : k0_chk4 i v317 v318 v319) (k0_t7 : Fin (k0_t7_loop v319).trips), ∀ (k0_h1 : k0_cond1 i = 1#1), 16 ∣ (k0_mult14 v317 v319 k0_t7).toNat := fun i v317 v318 v319 k0_hw4 k0_t7 k0_h1 => k0_hw4.2.2.1 k0_t7 k0_h1
theorem k0_off19_inb : ∀ (i : grid0.Coords) (v317 : BitVec 32) (v318 : BitVec 32) (v319 : BitVec 32) (k0_hw4 : k0_chk4 i v317 v318 v319) (k0_t7 : Fin (k0_t7_loop v319).trips), ∀ (k0_h1 : k0_cond1 i = 1#1), ∀ a, (k0_off19 v317 v319 k0_t7) a + S16x1024.size a ≤ S1152x1024.size a := fun i v317 v318 v319 k0_hw4 k0_t7 k0_h1 => k0_hw4.2.2.2.1 k0_t7 k0_h1
theorem k0_off20_inb : ∀ (i : grid0.Coords) (v317 : BitVec 32) (v318 : BitVec 32) (v319 : BitVec 32) (k0_hw4 : k0_chk4 i v317 v318 v319) (k0_t7 : Fin (k0_t7_loop v319).trips), ∀ (k0_h1 : k0_cond1 i = 1#1), ∀ a, (k0_off20 v318 v319 k0_t7) a + S16x1024.size a ≤ S44032x1024.size a := fun i v317 v318 v319 k0_hw4 k0_t7 k0_h1 => k0_hw4.2.2.2.2.1 k0_t7 k0_h1
theorem k0_off20_wordsbf16 : ∀ (i : grid0.Coords) (v317 : BitVec 32) (v318 : BitVec 32) (v319 : BitVec 32) (k0_hw4 : k0_chk4 i v317 v318 v319) (k0_t7 : Fin (k0_t7_loop v319).trips), ∀ (k0_h1 : k0_cond1 i = 1#1), (Rect.unit (s := S44032x1024) (k0_off20 v318 v319 k0_t7) S16x1024.size (k0_off20_inb i v317 v318 v319 k0_hw4 k0_t7 k0_h1)).WholeWords (EltTy.packing .bf16) := fun i v317 v318 v319 k0_hw4 k0_t7 k0_h1 => k0_hw4.2.2.2.2.2.1 k0_t7 k0_h1 (k0_off20_inb i v317 v318 v319 k0_hw4 k0_t7 k0_h1)
theorem k0_off21_inb : ∀ (i : grid0.Coords) (v317 : BitVec 32) (v318 : BitVec 32) (v319 : BitVec 32) (k0_hw4 : k0_chk4 i v317 v318 v319) (k0_t7 : Fin (k0_t7_loop v319).trips), ∀ (k0_h1 : k0_cond1 i = 1#1), ∀ a, (k0_off21 v317 v319 k0_t7) a + S1x16x1024.size a ≤ S2x1152x1024.size a := fun i v317 v318 v319 k0_hw4 k0_t7 k0_h1 => k0_hw4.2.2.2.2.2.2.1 k0_t7 k0_h1
theorem k0_off21_wordsbf16 : ∀ (i : grid0.Coords) (v317 : BitVec 32) (v318 : BitVec 32) (v319 : BitVec 32) (k0_hw4 : k0_chk4 i v317 v318 v319) (k0_t7 : Fin (k0_t7_loop v319).trips), ∀ (k0_h1 : k0_cond1 i = 1#1), (Rect.unit (s := S2x1152x1024) (k0_off21 v317 v319 k0_t7) S1x16x1024.size (k0_off21_inb i v317 v318 v319 k0_hw4 k0_t7 k0_h1)).WholeWords (EltTy.packing .bf16) := fun i v317 v318 v319 k0_hw4 k0_t7 k0_h1 => k0_hw4.2.2.2.2.2.2.2.1 k0_t7 k0_h1 (k0_off21_inb i v317 v318 v319 k0_hw4 k0_t7 k0_h1)
theorem k0_t8_ok : ∀ (i : grid0.Coords) (v317 : BitVec 32) (v318 : BitVec 32) (v319 : BitVec 32) (k0_hw4 : k0_chk4 i v317 v318 v319), ∀ (k0_h1 : k0_cond1 i = 1#1), (k0_t8_loop v319).OK := fun i v317 v318 v319 k0_hw4 k0_h1 => k0_hw4.2.2.2.2.2.2.2.2.1 k0_h1
theorem k0_mult15_dvd : ∀ (i : grid0.Coords) (v317 : BitVec 32) (v318 : BitVec 32) (v319 : BitVec 32) (k0_hw4 : k0_chk4 i v317 v318 v319) (k0_t8 : Fin (k0_t8_loop v319).trips), ∀ (k0_h1 : k0_cond1 i = 1#1), 16 ∣ (k0_mult15 v318 v319 k0_t8).toNat := fun i v317 v318 v319 k0_hw4 k0_t8 k0_h1 => k0_hw4.2.2.2.2.2.2.2.2.2.1 k0_t8 k0_h1
theorem k0_mult16_dvd : ∀ (i : grid0.Coords) (v317 : BitVec 32) (v318 : BitVec 32) (v319 : BitVec 32) (k0_hw4 : k0_chk4 i v317 v318 v319) (k0_t8 : Fin (k0_t8_loop v319).trips), ∀ (k0_h1 : k0_cond1 i = 1#1), 16 ∣ (k0_mult16 v317 v319 k0_t8).toNat := fun i v317 v318 v319 k0_hw4 k0_t8 k0_h1 => k0_hw4.2.2.2.2.2.2.2.2.2.2.1 k0_t8 k0_h1
theorem k0_off22_inb : ∀ (i : grid0.Coords) (v317 : BitVec 32) (v318 : BitVec 32) (v319 : BitVec 32) (k0_hw4 : k0_chk4 i v317 v318 v319) (k0_t8 : Fin (k0_t8_loop v319).trips), ∀ (k0_h1 : k0_cond1 i = 1#1), ∀ a, (k0_off22 v317 v319 k0_t8) a + S16x1024.size a ≤ S1152x1024.size a := fun i v317 v318 v319 k0_hw4 k0_t8 k0_h1 => k0_hw4.2.2.2.2.2.2.2.2.2.2.2.1 k0_t8 k0_h1
theorem k0_off23_inb : ∀ (i : grid0.Coords) (v317 : BitVec 32) (v318 : BitVec 32) (v319 : BitVec 32) (k0_hw4 : k0_chk4 i v317 v318 v319) (k0_t8 : Fin (k0_t8_loop v319).trips), ∀ (k0_h1 : k0_cond1 i = 1#1), ∀ a, (k0_off23 v318 v319 k0_t8) a + S16x1024.size a ≤ S44032x1024.size a := fun i v317 v318 v319 k0_hw4 k0_t8 k0_h1 => k0_hw4.2.2.2.2.2.2.2.2.2.2.2.2.1 k0_t8 k0_h1
theorem k0_off23_wordsbf16 : ∀ (i : grid0.Coords) (v317 : BitVec 32) (v318 : BitVec 32) (v319 : BitVec 32) (k0_hw4 : k0_chk4 i v317 v318 v319) (k0_t8 : Fin (k0_t8_loop v319).trips), ∀ (k0_h1 : k0_cond1 i = 1#1), (Rect.unit (s := S44032x1024) (k0_off23 v318 v319 k0_t8) S16x1024.size (k0_off23_inb i v317 v318 v319 k0_hw4 k0_t8 k0_h1)).WholeWords (EltTy.packing .bf16) := fun i v317 v318 v319 k0_hw4 k0_t8 k0_h1 => k0_hw4.2.2.2.2.2.2.2.2.2.2.2.2.2.1 k0_t8 k0_h1 (k0_off23_inb i v317 v318 v319 k0_hw4 k0_t8 k0_h1)
theorem k0_off24_inb : ∀ (i : grid0.Coords) (v317 : BitVec 32) (v318 : BitVec 32) (v319 : BitVec 32) (k0_hw4 : k0_chk4 i v317 v318 v319) (k0_t8 : Fin (k0_t8_loop v319).trips), ∀ (k0_h1 : k0_cond1 i = 1#1), ∀ a, (k0_off24 v317 v319 k0_t8) a + S1x16x1024.size a ≤ S2x1152x1024.size a := fun i v317 v318 v319 k0_hw4 k0_t8 k0_h1 => k0_hw4.2.2.2.2.2.2.2.2.2.2.2.2.2.2.1 k0_t8 k0_h1
theorem k0_off24_wordsbf16 : ∀ (i : grid0.Coords) (v317 : BitVec 32) (v318 : BitVec 32) (v319 : BitVec 32) (k0_hw4 : k0_chk4 i v317 v318 v319) (k0_t8 : Fin (k0_t8_loop v319).trips), ∀ (k0_h1 : k0_cond1 i = 1#1), (Rect.unit (s := S2x1152x1024) (k0_off24 v317 v319 k0_t8) S1x16x1024.size (k0_off24_inb i v317 v318 v319 k0_hw4 k0_t8 k0_h1)).WholeWords (EltTy.packing .bf16) := fun i v317 v318 v319 k0_hw4 k0_t8 k0_h1 => k0_hw4.2.2.2.2.2.2.2.2.2.2.2.2.2.2.2 k0_t8 k0_h1 (k0_off24_inb i v317 v318 v319 k0_hw4 k0_t8 k0_h1)

@[reducible] def k0_t9_loop (v346 : BitVec 32) : Scf.Loop 32 :=
  let c0_i32_165 : BitVec 32 := 0#32
  let c0_i32_159 : BitVec 32 := 0#32
  let v348 : BitVec 1 := Scalar.cmpi .sgt v346 c0_i32_159
  let v349 : BitVec 32 := Scalar.extui v348
  let c0_i32_160 : BitVec 32 := 0#32
  let v350 : BitVec 1 := Scalar.cmpi .slt v346 c0_i32_160
  let v351 : BitVec 32 := Scalar.extui v350
  let v352 : BitVec 32 := Scalar.subi v349 v351
  let c16_i32_158 : BitVec 32 := 16#32
  let c0_i32_161 : BitVec 32 := 0#32
  let v353 : BitVec 1 := Scalar.cmpi .sgt c16_i32_158 c0_i32_161
  let v354 : BitVec 32 := Scalar.extui v353
  let c0_i32_162 : BitVec 32 := 0#32
  let v355 : BitVec 1 := Scalar.cmpi .slt c16_i32_158 c0_i32_162
  let v356 : BitVec 32 := Scalar.extui v355
  let v357 : BitVec 32 := Scalar.subi v354 v356
  let v358 : BitVec 1 := Scalar.cmpi .ne v352 v357
  let v359 : BitVec 32 := Scalar.remsi v346 c16_i32_158
  let c0_i32_163 : BitVec 32 := 0#32
  let v360 : BitVec 1 := Scalar.cmpi .ne v359 c0_i32_163
  let v361 : BitVec 1 := Scalar.andi v358 v360
  let v347 : BitVec 32 := Scalar.divsi v346 c16_i32_158
  let c1_i32_164 : BitVec 32 := 1#32
  let v362 : BitVec 32 := Scalar.subi v347 c1_i32_164
  let v363 : BitVec 32 := Scalar.select v361 v362 v347
  let v364 : BitVec 32 := Scalar.subi v363 c0_i32_165
  let c1_i32_167 : BitVec 32 := 1#32
  let v366 : BitVec 32 := Scalar.divsi v364 c1_i32_167
  let v367 : BitVec 32 := Scalar.muli v366 c1_i32_167
  let v368 : BitVec 32 := Scalar.addi c0_i32_165 v367
  let c1_i32_168 : BitVec 32 := 1#32
  ⟨c0_i32_165, v368, c1_i32_168⟩

def k0_mult17 (v345 : BitVec 32) (v346 : BitVec 32) (k0_t9 : Fin (k0_t9_loop v346).trips) : BitVec 32 :=
  let c0_i32_165 : BitVec 32 := 0#32
  let c1_i32_168 : BitVec 32 := 1#32
  let arg9 : BitVec 32 := Scf.iv c0_i32_165 c1_i32_168 k0_t9
  let c16_i32_218 : BitVec 32 := 16#32
  let v452 : BitVec 32 := Scalar.muli arg9 c16_i32_218
  let v453 : BitVec 32 := Scalar.addi v345 v452
  v453
def k0_mult18 (v344 : BitVec 32) (v346 : BitVec 32) (k0_t9 : Fin (k0_t9_loop v346).trips) : BitVec 32 :=
  let c0_i32_165 : BitVec 32 := 0#32
  let c1_i32_168 : BitVec 32 := 1#32
  let arg9 : BitVec 32 := Scf.iv c0_i32_165 c1_i32_168 k0_t9
  let c16_i32_219 : BitVec 32 := 16#32
  let v455 : BitVec 32 := Scalar.muli arg9 c16_i32_219
  let v456 : BitVec 32 := Scalar.addi v344 v455
  v456
def k0_off25 (v344 : BitVec 32) (v346 : BitVec 32) (k0_t9 : Fin (k0_t9_loop v346).trips) : Fin 2 → Nat :=
  let c0_i32_165 : BitVec 32 := 0#32
  let c1_i32_168 : BitVec 32 := 1#32
  let arg9 : BitVec 32 := Scf.iv c0_i32_165 c1_i32_168 k0_t9
  let c16_i32_219 : BitVec 32 := 16#32
  let v455 : BitVec 32 := Scalar.muli arg9 c16_i32_219
  let v456 : BitVec 32 := Scalar.addi v344 v455
  let v457 : BitVec 32 := v456
  let c0_i32_224 : BitVec 32 := 0#32
  ![v457.toNat, 0]
def k0_off26 (v345 : BitVec 32) (v346 : BitVec 32) (k0_t9 : Fin (k0_t9_loop v346).trips) : Fin 2 → Nat :=
  let c0_i32_165 : BitVec 32 := 0#32
  let c1_i32_168 : BitVec 32 := 1#32
  let arg9 : BitVec 32 := Scf.iv c0_i32_165 c1_i32_168 k0_t9
  let c16_i32_218 : BitVec 32 := 16#32
  let v452 : BitVec 32 := Scalar.muli arg9 c16_i32_218
  let v453 : BitVec 32 := Scalar.addi v345 v452
  let v454 : BitVec 32 := v453
  let c0_i32_225 : BitVec 32 := 0#32
  ![v454.toNat, 0]
def k0_off27 (v344 : BitVec 32) (v346 : BitVec 32) (k0_t9 : Fin (k0_t9_loop v346).trips) : Fin 3 → Nat :=
  let c0_i32_220 : BitVec 32 := 0#32
  let c0_i32_165 : BitVec 32 := 0#32
  let c1_i32_168 : BitVec 32 := 1#32
  let arg9 : BitVec 32 := Scf.iv c0_i32_165 c1_i32_168 k0_t9
  let c16_i32_219 : BitVec 32 := 16#32
  let v455 : BitVec 32 := Scalar.muli arg9 c16_i32_219
  let v456 : BitVec 32 := Scalar.addi v344 v455
  let v457 : BitVec 32 := v456
  let c0_i32_223 : BitVec 32 := 0#32
  ![0, v457.toNat, 0]
@[reducible] def k0_t10_loop (v346 : BitVec 32) : Scf.Loop 32 :=
  let c0_i32_165 : BitVec 32 := 0#32
  let c0_i32_159 : BitVec 32 := 0#32
  let v348 : BitVec 1 := Scalar.cmpi .sgt v346 c0_i32_159
  let v349 : BitVec 32 := Scalar.extui v348
  let c0_i32_160 : BitVec 32 := 0#32
  let v350 : BitVec 1 := Scalar.cmpi .slt v346 c0_i32_160
  let v351 : BitVec 32 := Scalar.extui v350
  let v352 : BitVec 32 := Scalar.subi v349 v351
  let c16_i32_158 : BitVec 32 := 16#32
  let c0_i32_161 : BitVec 32 := 0#32
  let v353 : BitVec 1 := Scalar.cmpi .sgt c16_i32_158 c0_i32_161
  let v354 : BitVec 32 := Scalar.extui v353
  let c0_i32_162 : BitVec 32 := 0#32
  let v355 : BitVec 1 := Scalar.cmpi .slt c16_i32_158 c0_i32_162
  let v356 : BitVec 32 := Scalar.extui v355
  let v357 : BitVec 32 := Scalar.subi v354 v356
  let v358 : BitVec 1 := Scalar.cmpi .ne v352 v357
  let v359 : BitVec 32 := Scalar.remsi v346 c16_i32_158
  let c0_i32_163 : BitVec 32 := 0#32
  let v360 : BitVec 1 := Scalar.cmpi .ne v359 c0_i32_163
  let v361 : BitVec 1 := Scalar.andi v358 v360
  let v347 : BitVec 32 := Scalar.divsi v346 c16_i32_158
  let c1_i32_164 : BitVec 32 := 1#32
  let v362 : BitVec 32 := Scalar.subi v347 c1_i32_164
  let v363 : BitVec 32 := Scalar.select v361 v362 v347
  let v364 : BitVec 32 := Scalar.subi v363 c0_i32_165
  let c1_i32_167 : BitVec 32 := 1#32
  let v366 : BitVec 32 := Scalar.divsi v364 c1_i32_167
  let v367 : BitVec 32 := Scalar.muli v366 c1_i32_167
  let v368 : BitVec 32 := Scalar.addi c0_i32_165 v367
  let v365 : BitVec 32 := Scalar.addi c0_i32_165 v364
  let c1_i32_169 : BitVec 32 := 1#32
  ⟨v368, v365, c1_i32_169⟩
def k0_mult19 (v345 : BitVec 32) (v346 : BitVec 32) (k0_t10 : Fin (k0_t10_loop v346).trips) : BitVec 32 :=
  let c0_i32_165 : BitVec 32 := 0#32
  let c0_i32_159 : BitVec 32 := 0#32
  let v348 : BitVec 1 := Scalar.cmpi .sgt v346 c0_i32_159
  let v349 : BitVec 32 := Scalar.extui v348
  let c0_i32_160 : BitVec 32 := 0#32
  let v350 : BitVec 1 := Scalar.cmpi .slt v346 c0_i32_160
  let v351 : BitVec 32 := Scalar.extui v350
  let v352 : BitVec 32 := Scalar.subi v349 v351
  let c16_i32_158 : BitVec 32 := 16#32
  let c0_i32_161 : BitVec 32 := 0#32
  let v353 : BitVec 1 := Scalar.cmpi .sgt c16_i32_158 c0_i32_161
  let v354 : BitVec 32 := Scalar.extui v353
  let c0_i32_162 : BitVec 32 := 0#32
  let v355 : BitVec 1 := Scalar.cmpi .slt c16_i32_158 c0_i32_162
  let v356 : BitVec 32 := Scalar.extui v355
  let v357 : BitVec 32 := Scalar.subi v354 v356
  let v358 : BitVec 1 := Scalar.cmpi .ne v352 v357
  let v359 : BitVec 32 := Scalar.remsi v346 c16_i32_158
  let c0_i32_163 : BitVec 32 := 0#32
  let v360 : BitVec 1 := Scalar.cmpi .ne v359 c0_i32_163
  let v361 : BitVec 1 := Scalar.andi v358 v360
  let v347 : BitVec 32 := Scalar.divsi v346 c16_i32_158
  let c1_i32_164 : BitVec 32 := 1#32
  let v362 : BitVec 32 := Scalar.subi v347 c1_i32_164
  let v363 : BitVec 32 := Scalar.select v361 v362 v347
  let v364 : BitVec 32 := Scalar.subi v363 c0_i32_165
  let c1_i32_167 : BitVec 32 := 1#32
  let v366 : BitVec 32 := Scalar.divsi v364 c1_i32_167
  let v367 : BitVec 32 := Scalar.muli v366 c1_i32_167
  let v368 : BitVec 32 := Scalar.addi c0_i32_165 v367
  let c1_i32_169 : BitVec 32 := 1#32
  let arg9 : BitVec 32 := Scf.iv v368 c1_i32_169 k0_t10
  let c16_i32_218 : BitVec 32 := 16#32
  let v452 : BitVec 32 := Scalar.muli arg9 c16_i32_218
  let v453 : BitVec 32 := Scalar.addi v345 v452
  v453
def k0_mult20 (v344 : BitVec 32) (v346 : BitVec 32) (k0_t10 : Fin (k0_t10_loop v346).trips) : BitVec 32 :=
  let c0_i32_165 : BitVec 32 := 0#32
  let c0_i32_159 : BitVec 32 := 0#32
  let v348 : BitVec 1 := Scalar.cmpi .sgt v346 c0_i32_159
  let v349 : BitVec 32 := Scalar.extui v348
  let c0_i32_160 : BitVec 32 := 0#32
  let v350 : BitVec 1 := Scalar.cmpi .slt v346 c0_i32_160
  let v351 : BitVec 32 := Scalar.extui v350
  let v352 : BitVec 32 := Scalar.subi v349 v351
  let c16_i32_158 : BitVec 32 := 16#32
  let c0_i32_161 : BitVec 32 := 0#32
  let v353 : BitVec 1 := Scalar.cmpi .sgt c16_i32_158 c0_i32_161
  let v354 : BitVec 32 := Scalar.extui v353
  let c0_i32_162 : BitVec 32 := 0#32
  let v355 : BitVec 1 := Scalar.cmpi .slt c16_i32_158 c0_i32_162
  let v356 : BitVec 32 := Scalar.extui v355
  let v357 : BitVec 32 := Scalar.subi v354 v356
  let v358 : BitVec 1 := Scalar.cmpi .ne v352 v357
  let v359 : BitVec 32 := Scalar.remsi v346 c16_i32_158
  let c0_i32_163 : BitVec 32 := 0#32
  let v360 : BitVec 1 := Scalar.cmpi .ne v359 c0_i32_163
  let v361 : BitVec 1 := Scalar.andi v358 v360
  let v347 : BitVec 32 := Scalar.divsi v346 c16_i32_158
  let c1_i32_164 : BitVec 32 := 1#32
  let v362 : BitVec 32 := Scalar.subi v347 c1_i32_164
  let v363 : BitVec 32 := Scalar.select v361 v362 v347
  let v364 : BitVec 32 := Scalar.subi v363 c0_i32_165
  let c1_i32_167 : BitVec 32 := 1#32
  let v366 : BitVec 32 := Scalar.divsi v364 c1_i32_167
  let v367 : BitVec 32 := Scalar.muli v366 c1_i32_167
  let v368 : BitVec 32 := Scalar.addi c0_i32_165 v367
  let c1_i32_169 : BitVec 32 := 1#32
  let arg9 : BitVec 32 := Scf.iv v368 c1_i32_169 k0_t10
  let c16_i32_219 : BitVec 32 := 16#32
  let v455 : BitVec 32 := Scalar.muli arg9 c16_i32_219
  let v456 : BitVec 32 := Scalar.addi v344 v455
  v456
def k0_off28 (v344 : BitVec 32) (v346 : BitVec 32) (k0_t10 : Fin (k0_t10_loop v346).trips) : Fin 2 → Nat :=
  let c0_i32_165 : BitVec 32 := 0#32
  let c0_i32_159 : BitVec 32 := 0#32
  let v348 : BitVec 1 := Scalar.cmpi .sgt v346 c0_i32_159
  let v349 : BitVec 32 := Scalar.extui v348
  let c0_i32_160 : BitVec 32 := 0#32
  let v350 : BitVec 1 := Scalar.cmpi .slt v346 c0_i32_160
  let v351 : BitVec 32 := Scalar.extui v350
  let v352 : BitVec 32 := Scalar.subi v349 v351
  let c16_i32_158 : BitVec 32 := 16#32
  let c0_i32_161 : BitVec 32 := 0#32
  let v353 : BitVec 1 := Scalar.cmpi .sgt c16_i32_158 c0_i32_161
  let v354 : BitVec 32 := Scalar.extui v353
  let c0_i32_162 : BitVec 32 := 0#32
  let v355 : BitVec 1 := Scalar.cmpi .slt c16_i32_158 c0_i32_162
  let v356 : BitVec 32 := Scalar.extui v355
  let v357 : BitVec 32 := Scalar.subi v354 v356
  let v358 : BitVec 1 := Scalar.cmpi .ne v352 v357
  let v359 : BitVec 32 := Scalar.remsi v346 c16_i32_158
  let c0_i32_163 : BitVec 32 := 0#32
  let v360 : BitVec 1 := Scalar.cmpi .ne v359 c0_i32_163
  let v361 : BitVec 1 := Scalar.andi v358 v360
  let v347 : BitVec 32 := Scalar.divsi v346 c16_i32_158
  let c1_i32_164 : BitVec 32 := 1#32
  let v362 : BitVec 32 := Scalar.subi v347 c1_i32_164
  let v363 : BitVec 32 := Scalar.select v361 v362 v347
  let v364 : BitVec 32 := Scalar.subi v363 c0_i32_165
  let c1_i32_167 : BitVec 32 := 1#32
  let v366 : BitVec 32 := Scalar.divsi v364 c1_i32_167
  let v367 : BitVec 32 := Scalar.muli v366 c1_i32_167
  let v368 : BitVec 32 := Scalar.addi c0_i32_165 v367
  let c1_i32_169 : BitVec 32 := 1#32
  let arg9 : BitVec 32 := Scf.iv v368 c1_i32_169 k0_t10
  let c16_i32_219 : BitVec 32 := 16#32
  let v455 : BitVec 32 := Scalar.muli arg9 c16_i32_219
  let v456 : BitVec 32 := Scalar.addi v344 v455
  let v457 : BitVec 32 := v456
  let c0_i32_224 : BitVec 32 := 0#32
  ![v457.toNat, 0]
def k0_off29 (v345 : BitVec 32) (v346 : BitVec 32) (k0_t10 : Fin (k0_t10_loop v346).trips) : Fin 2 → Nat :=
  let c0_i32_165 : BitVec 32 := 0#32
  let c0_i32_159 : BitVec 32 := 0#32
  let v348 : BitVec 1 := Scalar.cmpi .sgt v346 c0_i32_159
  let v349 : BitVec 32 := Scalar.extui v348
  let c0_i32_160 : BitVec 32 := 0#32
  let v350 : BitVec 1 := Scalar.cmpi .slt v346 c0_i32_160
  let v351 : BitVec 32 := Scalar.extui v350
  let v352 : BitVec 32 := Scalar.subi v349 v351
  let c16_i32_158 : BitVec 32 := 16#32
  let c0_i32_161 : BitVec 32 := 0#32
  let v353 : BitVec 1 := Scalar.cmpi .sgt c16_i32_158 c0_i32_161
  let v354 : BitVec 32 := Scalar.extui v353
  let c0_i32_162 : BitVec 32 := 0#32
  let v355 : BitVec 1 := Scalar.cmpi .slt c16_i32_158 c0_i32_162
  let v356 : BitVec 32 := Scalar.extui v355
  let v357 : BitVec 32 := Scalar.subi v354 v356
  let v358 : BitVec 1 := Scalar.cmpi .ne v352 v357
  let v359 : BitVec 32 := Scalar.remsi v346 c16_i32_158
  let c0_i32_163 : BitVec 32 := 0#32
  let v360 : BitVec 1 := Scalar.cmpi .ne v359 c0_i32_163
  let v361 : BitVec 1 := Scalar.andi v358 v360
  let v347 : BitVec 32 := Scalar.divsi v346 c16_i32_158
  let c1_i32_164 : BitVec 32 := 1#32
  let v362 : BitVec 32 := Scalar.subi v347 c1_i32_164
  let v363 : BitVec 32 := Scalar.select v361 v362 v347
  let v364 : BitVec 32 := Scalar.subi v363 c0_i32_165
  let c1_i32_167 : BitVec 32 := 1#32
  let v366 : BitVec 32 := Scalar.divsi v364 c1_i32_167
  let v367 : BitVec 32 := Scalar.muli v366 c1_i32_167
  let v368 : BitVec 32 := Scalar.addi c0_i32_165 v367
  let c1_i32_169 : BitVec 32 := 1#32
  let arg9 : BitVec 32 := Scf.iv v368 c1_i32_169 k0_t10
  let c16_i32_218 : BitVec 32 := 16#32
  let v452 : BitVec 32 := Scalar.muli arg9 c16_i32_218
  let v453 : BitVec 32 := Scalar.addi v345 v452
  let v454 : BitVec 32 := v453
  let c0_i32_225 : BitVec 32 := 0#32
  ![v454.toNat, 0]
def k0_off30 (v344 : BitVec 32) (v346 : BitVec 32) (k0_t10 : Fin (k0_t10_loop v346).trips) : Fin 3 → Nat :=
  let c0_i32_220 : BitVec 32 := 0#32
  let c0_i32_165 : BitVec 32 := 0#32
  let c0_i32_159 : BitVec 32 := 0#32
  let v348 : BitVec 1 := Scalar.cmpi .sgt v346 c0_i32_159
  let v349 : BitVec 32 := Scalar.extui v348
  let c0_i32_160 : BitVec 32 := 0#32
  let v350 : BitVec 1 := Scalar.cmpi .slt v346 c0_i32_160
  let v351 : BitVec 32 := Scalar.extui v350
  let v352 : BitVec 32 := Scalar.subi v349 v351
  let c16_i32_158 : BitVec 32 := 16#32
  let c0_i32_161 : BitVec 32 := 0#32
  let v353 : BitVec 1 := Scalar.cmpi .sgt c16_i32_158 c0_i32_161
  let v354 : BitVec 32 := Scalar.extui v353
  let c0_i32_162 : BitVec 32 := 0#32
  let v355 : BitVec 1 := Scalar.cmpi .slt c16_i32_158 c0_i32_162
  let v356 : BitVec 32 := Scalar.extui v355
  let v357 : BitVec 32 := Scalar.subi v354 v356
  let v358 : BitVec 1 := Scalar.cmpi .ne v352 v357
  let v359 : BitVec 32 := Scalar.remsi v346 c16_i32_158
  let c0_i32_163 : BitVec 32 := 0#32
  let v360 : BitVec 1 := Scalar.cmpi .ne v359 c0_i32_163
  let v361 : BitVec 1 := Scalar.andi v358 v360
  let v347 : BitVec 32 := Scalar.divsi v346 c16_i32_158
  let c1_i32_164 : BitVec 32 := 1#32
  let v362 : BitVec 32 := Scalar.subi v347 c1_i32_164
  let v363 : BitVec 32 := Scalar.select v361 v362 v347
  let v364 : BitVec 32 := Scalar.subi v363 c0_i32_165
  let c1_i32_167 : BitVec 32 := 1#32
  let v366 : BitVec 32 := Scalar.divsi v364 c1_i32_167
  let v367 : BitVec 32 := Scalar.muli v366 c1_i32_167
  let v368 : BitVec 32 := Scalar.addi c0_i32_165 v367
  let c1_i32_169 : BitVec 32 := 1#32
  let arg9 : BitVec 32 := Scf.iv v368 c1_i32_169 k0_t10
  let c16_i32_219 : BitVec 32 := 16#32
  let v455 : BitVec 32 := Scalar.muli arg9 c16_i32_219
  let v456 : BitVec 32 := Scalar.addi v344 v455
  let v457 : BitVec 32 := v456
  let c0_i32_223 : BitVec 32 := 0#32
  ![0, v457.toNat, 0]

def k0_chk5 (i : grid0.Coords) (v344 : BitVec 32) (v345 : BitVec 32) (v346 : BitVec 32) : Prop :=
  (∀ (k0_h1 : k0_cond1 i = 1#1), (k0_t9_loop v346).OK) ∧
  (∀ k0_t9 : Fin (k0_t9_loop v346).trips, ∀ (k0_h1 : k0_cond1 i = 1#1), 16 ∣ (k0_mult17 v345 v346 k0_t9).toNat) ∧
  (∀ k0_t9 : Fin (k0_t9_loop v346).trips, ∀ (k0_h1 : k0_cond1 i = 1#1), 16 ∣ (k0_mult18 v344 v346 k0_t9).toNat) ∧
  (∀ k0_t9 : Fin (k0_t9_loop v346).trips, ∀ (k0_h1 : k0_cond1 i = 1#1), ∀ a, (k0_off25 v344 v346 k0_t9) a + S16x1024.size a ≤ S1152x1024.size a) ∧
  (∀ k0_t9 : Fin (k0_t9_loop v346).trips, ∀ (k0_h1 : k0_cond1 i = 1#1), ∀ a, (k0_off26 v345 v346 k0_t9) a + S16x1024.size a ≤ S44032x1024.size a) ∧
  (∀ k0_t9 : Fin (k0_t9_loop v346).trips, ∀ (k0_h1 : k0_cond1 i = 1#1), ∀ (hinb : ∀ a, (k0_off26 v345 v346 k0_t9) a + S16x1024.size a ≤ S44032x1024.size a), (Rect.unit (s := S44032x1024) (k0_off26 v345 v346 k0_t9) S16x1024.size hinb).WholeWords (EltTy.packing .bf16)) ∧
  (∀ k0_t9 : Fin (k0_t9_loop v346).trips, ∀ (k0_h1 : k0_cond1 i = 1#1), ∀ a, (k0_off27 v344 v346 k0_t9) a + S1x16x1024.size a ≤ S2x1152x1024.size a) ∧
  (∀ k0_t9 : Fin (k0_t9_loop v346).trips, ∀ (k0_h1 : k0_cond1 i = 1#1), ∀ (hinb : ∀ a, (k0_off27 v344 v346 k0_t9) a + S1x16x1024.size a ≤ S2x1152x1024.size a), (Rect.unit (s := S2x1152x1024) (k0_off27 v344 v346 k0_t9) S1x16x1024.size hinb).WholeWords (EltTy.packing .bf16)) ∧
  (∀ (k0_h1 : k0_cond1 i = 1#1), (k0_t10_loop v346).OK) ∧
  (∀ k0_t10 : Fin (k0_t10_loop v346).trips, ∀ (k0_h1 : k0_cond1 i = 1#1), 16 ∣ (k0_mult19 v345 v346 k0_t10).toNat) ∧
  (∀ k0_t10 : Fin (k0_t10_loop v346).trips, ∀ (k0_h1 : k0_cond1 i = 1#1), 16 ∣ (k0_mult20 v344 v346 k0_t10).toNat) ∧
  (∀ k0_t10 : Fin (k0_t10_loop v346).trips, ∀ (k0_h1 : k0_cond1 i = 1#1), ∀ a, (k0_off28 v344 v346 k0_t10) a + S16x1024.size a ≤ S1152x1024.size a) ∧
  (∀ k0_t10 : Fin (k0_t10_loop v346).trips, ∀ (k0_h1 : k0_cond1 i = 1#1), ∀ a, (k0_off29 v345 v346 k0_t10) a + S16x1024.size a ≤ S44032x1024.size a) ∧
  (∀ k0_t10 : Fin (k0_t10_loop v346).trips, ∀ (k0_h1 : k0_cond1 i = 1#1), ∀ (hinb : ∀ a, (k0_off29 v345 v346 k0_t10) a + S16x1024.size a ≤ S44032x1024.size a), (Rect.unit (s := S44032x1024) (k0_off29 v345 v346 k0_t10) S16x1024.size hinb).WholeWords (EltTy.packing .bf16)) ∧
  (∀ k0_t10 : Fin (k0_t10_loop v346).trips, ∀ (k0_h1 : k0_cond1 i = 1#1), ∀ a, (k0_off30 v344 v346 k0_t10) a + S1x16x1024.size a ≤ S2x1152x1024.size a) ∧
  (∀ k0_t10 : Fin (k0_t10_loop v346).trips, ∀ (k0_h1 : k0_cond1 i = 1#1), ∀ (hinb : ∀ a, (k0_off30 v344 v346 k0_t10) a + S1x16x1024.size a ≤ S2x1152x1024.size a), (Rect.unit (s := S2x1152x1024) (k0_off30 v344 v346 k0_t10) S1x16x1024.size hinb).WholeWords (EltTy.packing .bf16))
theorem k0_t9_ok : ∀ (i : grid0.Coords) (v344 : BitVec 32) (v345 : BitVec 32) (v346 : BitVec 32) (k0_hw5 : k0_chk5 i v344 v345 v346), ∀ (k0_h1 : k0_cond1 i = 1#1), (k0_t9_loop v346).OK := fun i v344 v345 v346 k0_hw5 k0_h1 => k0_hw5.1 k0_h1
theorem k0_mult17_dvd : ∀ (i : grid0.Coords) (v344 : BitVec 32) (v345 : BitVec 32) (v346 : BitVec 32) (k0_hw5 : k0_chk5 i v344 v345 v346) (k0_t9 : Fin (k0_t9_loop v346).trips), ∀ (k0_h1 : k0_cond1 i = 1#1), 16 ∣ (k0_mult17 v345 v346 k0_t9).toNat := fun i v344 v345 v346 k0_hw5 k0_t9 k0_h1 => k0_hw5.2.1 k0_t9 k0_h1
theorem k0_mult18_dvd : ∀ (i : grid0.Coords) (v344 : BitVec 32) (v345 : BitVec 32) (v346 : BitVec 32) (k0_hw5 : k0_chk5 i v344 v345 v346) (k0_t9 : Fin (k0_t9_loop v346).trips), ∀ (k0_h1 : k0_cond1 i = 1#1), 16 ∣ (k0_mult18 v344 v346 k0_t9).toNat := fun i v344 v345 v346 k0_hw5 k0_t9 k0_h1 => k0_hw5.2.2.1 k0_t9 k0_h1
theorem k0_off25_inb : ∀ (i : grid0.Coords) (v344 : BitVec 32) (v345 : BitVec 32) (v346 : BitVec 32) (k0_hw5 : k0_chk5 i v344 v345 v346) (k0_t9 : Fin (k0_t9_loop v346).trips), ∀ (k0_h1 : k0_cond1 i = 1#1), ∀ a, (k0_off25 v344 v346 k0_t9) a + S16x1024.size a ≤ S1152x1024.size a := fun i v344 v345 v346 k0_hw5 k0_t9 k0_h1 => k0_hw5.2.2.2.1 k0_t9 k0_h1
theorem k0_off26_inb : ∀ (i : grid0.Coords) (v344 : BitVec 32) (v345 : BitVec 32) (v346 : BitVec 32) (k0_hw5 : k0_chk5 i v344 v345 v346) (k0_t9 : Fin (k0_t9_loop v346).trips), ∀ (k0_h1 : k0_cond1 i = 1#1), ∀ a, (k0_off26 v345 v346 k0_t9) a + S16x1024.size a ≤ S44032x1024.size a := fun i v344 v345 v346 k0_hw5 k0_t9 k0_h1 => k0_hw5.2.2.2.2.1 k0_t9 k0_h1
theorem k0_off26_wordsbf16 : ∀ (i : grid0.Coords) (v344 : BitVec 32) (v345 : BitVec 32) (v346 : BitVec 32) (k0_hw5 : k0_chk5 i v344 v345 v346) (k0_t9 : Fin (k0_t9_loop v346).trips), ∀ (k0_h1 : k0_cond1 i = 1#1), (Rect.unit (s := S44032x1024) (k0_off26 v345 v346 k0_t9) S16x1024.size (k0_off26_inb i v344 v345 v346 k0_hw5 k0_t9 k0_h1)).WholeWords (EltTy.packing .bf16) := fun i v344 v345 v346 k0_hw5 k0_t9 k0_h1 => k0_hw5.2.2.2.2.2.1 k0_t9 k0_h1 (k0_off26_inb i v344 v345 v346 k0_hw5 k0_t9 k0_h1)
theorem k0_off27_inb : ∀ (i : grid0.Coords) (v344 : BitVec 32) (v345 : BitVec 32) (v346 : BitVec 32) (k0_hw5 : k0_chk5 i v344 v345 v346) (k0_t9 : Fin (k0_t9_loop v346).trips), ∀ (k0_h1 : k0_cond1 i = 1#1), ∀ a, (k0_off27 v344 v346 k0_t9) a + S1x16x1024.size a ≤ S2x1152x1024.size a := fun i v344 v345 v346 k0_hw5 k0_t9 k0_h1 => k0_hw5.2.2.2.2.2.2.1 k0_t9 k0_h1
theorem k0_off27_wordsbf16 : ∀ (i : grid0.Coords) (v344 : BitVec 32) (v345 : BitVec 32) (v346 : BitVec 32) (k0_hw5 : k0_chk5 i v344 v345 v346) (k0_t9 : Fin (k0_t9_loop v346).trips), ∀ (k0_h1 : k0_cond1 i = 1#1), (Rect.unit (s := S2x1152x1024) (k0_off27 v344 v346 k0_t9) S1x16x1024.size (k0_off27_inb i v344 v345 v346 k0_hw5 k0_t9 k0_h1)).WholeWords (EltTy.packing .bf16) := fun i v344 v345 v346 k0_hw5 k0_t9 k0_h1 => k0_hw5.2.2.2.2.2.2.2.1 k0_t9 k0_h1 (k0_off27_inb i v344 v345 v346 k0_hw5 k0_t9 k0_h1)
theorem k0_t10_ok : ∀ (i : grid0.Coords) (v344 : BitVec 32) (v345 : BitVec 32) (v346 : BitVec 32) (k0_hw5 : k0_chk5 i v344 v345 v346), ∀ (k0_h1 : k0_cond1 i = 1#1), (k0_t10_loop v346).OK := fun i v344 v345 v346 k0_hw5 k0_h1 => k0_hw5.2.2.2.2.2.2.2.2.1 k0_h1
theorem k0_mult19_dvd : ∀ (i : grid0.Coords) (v344 : BitVec 32) (v345 : BitVec 32) (v346 : BitVec 32) (k0_hw5 : k0_chk5 i v344 v345 v346) (k0_t10 : Fin (k0_t10_loop v346).trips), ∀ (k0_h1 : k0_cond1 i = 1#1), 16 ∣ (k0_mult19 v345 v346 k0_t10).toNat := fun i v344 v345 v346 k0_hw5 k0_t10 k0_h1 => k0_hw5.2.2.2.2.2.2.2.2.2.1 k0_t10 k0_h1
theorem k0_mult20_dvd : ∀ (i : grid0.Coords) (v344 : BitVec 32) (v345 : BitVec 32) (v346 : BitVec 32) (k0_hw5 : k0_chk5 i v344 v345 v346) (k0_t10 : Fin (k0_t10_loop v346).trips), ∀ (k0_h1 : k0_cond1 i = 1#1), 16 ∣ (k0_mult20 v344 v346 k0_t10).toNat := fun i v344 v345 v346 k0_hw5 k0_t10 k0_h1 => k0_hw5.2.2.2.2.2.2.2.2.2.2.1 k0_t10 k0_h1
theorem k0_off28_inb : ∀ (i : grid0.Coords) (v344 : BitVec 32) (v345 : BitVec 32) (v346 : BitVec 32) (k0_hw5 : k0_chk5 i v344 v345 v346) (k0_t10 : Fin (k0_t10_loop v346).trips), ∀ (k0_h1 : k0_cond1 i = 1#1), ∀ a, (k0_off28 v344 v346 k0_t10) a + S16x1024.size a ≤ S1152x1024.size a := fun i v344 v345 v346 k0_hw5 k0_t10 k0_h1 => k0_hw5.2.2.2.2.2.2.2.2.2.2.2.1 k0_t10 k0_h1
theorem k0_off29_inb : ∀ (i : grid0.Coords) (v344 : BitVec 32) (v345 : BitVec 32) (v346 : BitVec 32) (k0_hw5 : k0_chk5 i v344 v345 v346) (k0_t10 : Fin (k0_t10_loop v346).trips), ∀ (k0_h1 : k0_cond1 i = 1#1), ∀ a, (k0_off29 v345 v346 k0_t10) a + S16x1024.size a ≤ S44032x1024.size a := fun i v344 v345 v346 k0_hw5 k0_t10 k0_h1 => k0_hw5.2.2.2.2.2.2.2.2.2.2.2.2.1 k0_t10 k0_h1
theorem k0_off29_wordsbf16 : ∀ (i : grid0.Coords) (v344 : BitVec 32) (v345 : BitVec 32) (v346 : BitVec 32) (k0_hw5 : k0_chk5 i v344 v345 v346) (k0_t10 : Fin (k0_t10_loop v346).trips), ∀ (k0_h1 : k0_cond1 i = 1#1), (Rect.unit (s := S44032x1024) (k0_off29 v345 v346 k0_t10) S16x1024.size (k0_off29_inb i v344 v345 v346 k0_hw5 k0_t10 k0_h1)).WholeWords (EltTy.packing .bf16) := fun i v344 v345 v346 k0_hw5 k0_t10 k0_h1 => k0_hw5.2.2.2.2.2.2.2.2.2.2.2.2.2.1 k0_t10 k0_h1 (k0_off29_inb i v344 v345 v346 k0_hw5 k0_t10 k0_h1)
theorem k0_off30_inb : ∀ (i : grid0.Coords) (v344 : BitVec 32) (v345 : BitVec 32) (v346 : BitVec 32) (k0_hw5 : k0_chk5 i v344 v345 v346) (k0_t10 : Fin (k0_t10_loop v346).trips), ∀ (k0_h1 : k0_cond1 i = 1#1), ∀ a, (k0_off30 v344 v346 k0_t10) a + S1x16x1024.size a ≤ S2x1152x1024.size a := fun i v344 v345 v346 k0_hw5 k0_t10 k0_h1 => k0_hw5.2.2.2.2.2.2.2.2.2.2.2.2.2.2.1 k0_t10 k0_h1
theorem k0_off30_wordsbf16 : ∀ (i : grid0.Coords) (v344 : BitVec 32) (v345 : BitVec 32) (v346 : BitVec 32) (k0_hw5 : k0_chk5 i v344 v345 v346) (k0_t10 : Fin (k0_t10_loop v346).trips), ∀ (k0_h1 : k0_cond1 i = 1#1), (Rect.unit (s := S2x1152x1024) (k0_off30 v344 v346 k0_t10) S1x16x1024.size (k0_off30_inb i v344 v345 v346 k0_hw5 k0_t10 k0_h1)).WholeWords (EltTy.packing .bf16) := fun i v344 v345 v346 k0_hw5 k0_t10 k0_h1 => k0_hw5.2.2.2.2.2.2.2.2.2.2.2.2.2.2.2 k0_t10 k0_h1 (k0_off30_inb i v344 v345 v346 k0_hw5 k0_t10 k0_h1)

@[reducible] def k0_t11_loop (v373 : BitVec 32) : Scf.Loop 32 :=
  let c0_i32_181 : BitVec 32 := 0#32
  let c0_i32_175 : BitVec 32 := 0#32
  let v375 : BitVec 1 := Scalar.cmpi .sgt v373 c0_i32_175
  let v376 : BitVec 32 := Scalar.extui v375
  let c0_i32_176 : BitVec 32 := 0#32
  let v377 : BitVec 1 := Scalar.cmpi .slt v373 c0_i32_176
  let v378 : BitVec 32 := Scalar.extui v377
  let v379 : BitVec 32 := Scalar.subi v376 v378
  let c16_i32_174 : BitVec 32 := 16#32
  let c0_i32_177 : BitVec 32 := 0#32
  let v380 : BitVec 1 := Scalar.cmpi .sgt c16_i32_174 c0_i32_177
  let v381 : BitVec 32 := Scalar.extui v380
  let c0_i32_178 : BitVec 32 := 0#32
  let v382 : BitVec 1 := Scalar.cmpi .slt c16_i32_174 c0_i32_178
  let v383 : BitVec 32 := Scalar.extui v382
  let v384 : BitVec 32 := Scalar.subi v381 v383
  let v385 : BitVec 1 := Scalar.cmpi .ne v379 v384
  let v386 : BitVec 32 := Scalar.remsi v373 c16_i32_174
  let c0_i32_179 : BitVec 32 := 0#32
  let v387 : BitVec 1 := Scalar.cmpi .ne v386 c0_i32_179
  let v388 : BitVec 1 := Scalar.andi v385 v387
  let v374 : BitVec 32 := Scalar.divsi v373 c16_i32_174
  let c1_i32_180 : BitVec 32 := 1#32
  let v389 : BitVec 32 := Scalar.subi v374 c1_i32_180
  let v390 : BitVec 32 := Scalar.select v388 v389 v374
  let v391 : BitVec 32 := Scalar.subi v390 c0_i32_181
  let c1_i32_183 : BitVec 32 := 1#32
  let v393 : BitVec 32 := Scalar.divsi v391 c1_i32_183
  let v394 : BitVec 32 := Scalar.muli v393 c1_i32_183
  let v395 : BitVec 32 := Scalar.addi c0_i32_181 v394
  let c1_i32_184 : BitVec 32 := 1#32
  ⟨c0_i32_181, v395, c1_i32_184⟩

def k0_mult21 (v372 : BitVec 32) (v373 : BitVec 32) (k0_t11 : Fin (k0_t11_loop v373).trips) : BitVec 32 :=
  let c0_i32_181 : BitVec 32 := 0#32
  let c1_i32_184 : BitVec 32 := 1#32
  let arg9 : BitVec 32 := Scf.iv c0_i32_181 c1_i32_184 k0_t11
  let c16_i32_218 : BitVec 32 := 16#32
  let v452 : BitVec 32 := Scalar.muli arg9 c16_i32_218
  let v453 : BitVec 32 := Scalar.addi v372 v452
  v453
def k0_mult22 (v371 : BitVec 32) (v373 : BitVec 32) (k0_t11 : Fin (k0_t11_loop v373).trips) : BitVec 32 :=
  let c0_i32_181 : BitVec 32 := 0#32
  let c1_i32_184 : BitVec 32 := 1#32
  let arg9 : BitVec 32 := Scf.iv c0_i32_181 c1_i32_184 k0_t11
  let c16_i32_219 : BitVec 32 := 16#32
  let v455 : BitVec 32 := Scalar.muli arg9 c16_i32_219
  let v456 : BitVec 32 := Scalar.addi v371 v455
  v456
def k0_off31 (v371 : BitVec 32) (v373 : BitVec 32) (k0_t11 : Fin (k0_t11_loop v373).trips) : Fin 2 → Nat :=
  let c0_i32_181 : BitVec 32 := 0#32
  let c1_i32_184 : BitVec 32 := 1#32
  let arg9 : BitVec 32 := Scf.iv c0_i32_181 c1_i32_184 k0_t11
  let c16_i32_219 : BitVec 32 := 16#32
  let v455 : BitVec 32 := Scalar.muli arg9 c16_i32_219
  let v456 : BitVec 32 := Scalar.addi v371 v455
  let v457 : BitVec 32 := v456
  let c0_i32_224 : BitVec 32 := 0#32
  ![v457.toNat, 0]
def k0_off32 (v372 : BitVec 32) (v373 : BitVec 32) (k0_t11 : Fin (k0_t11_loop v373).trips) : Fin 2 → Nat :=
  let c0_i32_181 : BitVec 32 := 0#32
  let c1_i32_184 : BitVec 32 := 1#32
  let arg9 : BitVec 32 := Scf.iv c0_i32_181 c1_i32_184 k0_t11
  let c16_i32_218 : BitVec 32 := 16#32
  let v452 : BitVec 32 := Scalar.muli arg9 c16_i32_218
  let v453 : BitVec 32 := Scalar.addi v372 v452
  let v454 : BitVec 32 := v453
  let c0_i32_225 : BitVec 32 := 0#32
  ![v454.toNat, 0]
def k0_off33 (v371 : BitVec 32) (v373 : BitVec 32) (k0_t11 : Fin (k0_t11_loop v373).trips) : Fin 3 → Nat :=
  let c0_i32_220 : BitVec 32 := 0#32
  let c0_i32_181 : BitVec 32 := 0#32
  let c1_i32_184 : BitVec 32 := 1#32
  let arg9 : BitVec 32 := Scf.iv c0_i32_181 c1_i32_184 k0_t11
  let c16_i32_219 : BitVec 32 := 16#32
  let v455 : BitVec 32 := Scalar.muli arg9 c16_i32_219
  let v456 : BitVec 32 := Scalar.addi v371 v455
  let v457 : BitVec 32 := v456
  let c0_i32_223 : BitVec 32 := 0#32
  ![0, v457.toNat, 0]
@[reducible] def k0_t12_loop (v373 : BitVec 32) : Scf.Loop 32 :=
  let c0_i32_181 : BitVec 32 := 0#32
  let c0_i32_175 : BitVec 32 := 0#32
  let v375 : BitVec 1 := Scalar.cmpi .sgt v373 c0_i32_175
  let v376 : BitVec 32 := Scalar.extui v375
  let c0_i32_176 : BitVec 32 := 0#32
  let v377 : BitVec 1 := Scalar.cmpi .slt v373 c0_i32_176
  let v378 : BitVec 32 := Scalar.extui v377
  let v379 : BitVec 32 := Scalar.subi v376 v378
  let c16_i32_174 : BitVec 32 := 16#32
  let c0_i32_177 : BitVec 32 := 0#32
  let v380 : BitVec 1 := Scalar.cmpi .sgt c16_i32_174 c0_i32_177
  let v381 : BitVec 32 := Scalar.extui v380
  let c0_i32_178 : BitVec 32 := 0#32
  let v382 : BitVec 1 := Scalar.cmpi .slt c16_i32_174 c0_i32_178
  let v383 : BitVec 32 := Scalar.extui v382
  let v384 : BitVec 32 := Scalar.subi v381 v383
  let v385 : BitVec 1 := Scalar.cmpi .ne v379 v384
  let v386 : BitVec 32 := Scalar.remsi v373 c16_i32_174
  let c0_i32_179 : BitVec 32 := 0#32
  let v387 : BitVec 1 := Scalar.cmpi .ne v386 c0_i32_179
  let v388 : BitVec 1 := Scalar.andi v385 v387
  let v374 : BitVec 32 := Scalar.divsi v373 c16_i32_174
  let c1_i32_180 : BitVec 32 := 1#32
  let v389 : BitVec 32 := Scalar.subi v374 c1_i32_180
  let v390 : BitVec 32 := Scalar.select v388 v389 v374
  let v391 : BitVec 32 := Scalar.subi v390 c0_i32_181
  let c1_i32_183 : BitVec 32 := 1#32
  let v393 : BitVec 32 := Scalar.divsi v391 c1_i32_183
  let v394 : BitVec 32 := Scalar.muli v393 c1_i32_183
  let v395 : BitVec 32 := Scalar.addi c0_i32_181 v394
  let v392 : BitVec 32 := Scalar.addi c0_i32_181 v391
  let c1_i32_185 : BitVec 32 := 1#32
  ⟨v395, v392, c1_i32_185⟩
def k0_mult23 (v372 : BitVec 32) (v373 : BitVec 32) (k0_t12 : Fin (k0_t12_loop v373).trips) : BitVec 32 :=
  let c0_i32_181 : BitVec 32 := 0#32
  let c0_i32_175 : BitVec 32 := 0#32
  let v375 : BitVec 1 := Scalar.cmpi .sgt v373 c0_i32_175
  let v376 : BitVec 32 := Scalar.extui v375
  let c0_i32_176 : BitVec 32 := 0#32
  let v377 : BitVec 1 := Scalar.cmpi .slt v373 c0_i32_176
  let v378 : BitVec 32 := Scalar.extui v377
  let v379 : BitVec 32 := Scalar.subi v376 v378
  let c16_i32_174 : BitVec 32 := 16#32
  let c0_i32_177 : BitVec 32 := 0#32
  let v380 : BitVec 1 := Scalar.cmpi .sgt c16_i32_174 c0_i32_177
  let v381 : BitVec 32 := Scalar.extui v380
  let c0_i32_178 : BitVec 32 := 0#32
  let v382 : BitVec 1 := Scalar.cmpi .slt c16_i32_174 c0_i32_178
  let v383 : BitVec 32 := Scalar.extui v382
  let v384 : BitVec 32 := Scalar.subi v381 v383
  let v385 : BitVec 1 := Scalar.cmpi .ne v379 v384
  let v386 : BitVec 32 := Scalar.remsi v373 c16_i32_174
  let c0_i32_179 : BitVec 32 := 0#32
  let v387 : BitVec 1 := Scalar.cmpi .ne v386 c0_i32_179
  let v388 : BitVec 1 := Scalar.andi v385 v387
  let v374 : BitVec 32 := Scalar.divsi v373 c16_i32_174
  let c1_i32_180 : BitVec 32 := 1#32
  let v389 : BitVec 32 := Scalar.subi v374 c1_i32_180
  let v390 : BitVec 32 := Scalar.select v388 v389 v374
  let v391 : BitVec 32 := Scalar.subi v390 c0_i32_181
  let c1_i32_183 : BitVec 32 := 1#32
  let v393 : BitVec 32 := Scalar.divsi v391 c1_i32_183
  let v394 : BitVec 32 := Scalar.muli v393 c1_i32_183
  let v395 : BitVec 32 := Scalar.addi c0_i32_181 v394
  let c1_i32_185 : BitVec 32 := 1#32
  let arg9 : BitVec 32 := Scf.iv v395 c1_i32_185 k0_t12
  let c16_i32_218 : BitVec 32 := 16#32
  let v452 : BitVec 32 := Scalar.muli arg9 c16_i32_218
  let v453 : BitVec 32 := Scalar.addi v372 v452
  v453
def k0_mult24 (v371 : BitVec 32) (v373 : BitVec 32) (k0_t12 : Fin (k0_t12_loop v373).trips) : BitVec 32 :=
  let c0_i32_181 : BitVec 32 := 0#32
  let c0_i32_175 : BitVec 32 := 0#32
  let v375 : BitVec 1 := Scalar.cmpi .sgt v373 c0_i32_175
  let v376 : BitVec 32 := Scalar.extui v375
  let c0_i32_176 : BitVec 32 := 0#32
  let v377 : BitVec 1 := Scalar.cmpi .slt v373 c0_i32_176
  let v378 : BitVec 32 := Scalar.extui v377
  let v379 : BitVec 32 := Scalar.subi v376 v378
  let c16_i32_174 : BitVec 32 := 16#32
  let c0_i32_177 : BitVec 32 := 0#32
  let v380 : BitVec 1 := Scalar.cmpi .sgt c16_i32_174 c0_i32_177
  let v381 : BitVec 32 := Scalar.extui v380
  let c0_i32_178 : BitVec 32 := 0#32
  let v382 : BitVec 1 := Scalar.cmpi .slt c16_i32_174 c0_i32_178
  let v383 : BitVec 32 := Scalar.extui v382
  let v384 : BitVec 32 := Scalar.subi v381 v383
  let v385 : BitVec 1 := Scalar.cmpi .ne v379 v384
  let v386 : BitVec 32 := Scalar.remsi v373 c16_i32_174
  let c0_i32_179 : BitVec 32 := 0#32
  let v387 : BitVec 1 := Scalar.cmpi .ne v386 c0_i32_179
  let v388 : BitVec 1 := Scalar.andi v385 v387
  let v374 : BitVec 32 := Scalar.divsi v373 c16_i32_174
  let c1_i32_180 : BitVec 32 := 1#32
  let v389 : BitVec 32 := Scalar.subi v374 c1_i32_180
  let v390 : BitVec 32 := Scalar.select v388 v389 v374
  let v391 : BitVec 32 := Scalar.subi v390 c0_i32_181
  let c1_i32_183 : BitVec 32 := 1#32
  let v393 : BitVec 32 := Scalar.divsi v391 c1_i32_183
  let v394 : BitVec 32 := Scalar.muli v393 c1_i32_183
  let v395 : BitVec 32 := Scalar.addi c0_i32_181 v394
  let c1_i32_185 : BitVec 32 := 1#32
  let arg9 : BitVec 32 := Scf.iv v395 c1_i32_185 k0_t12
  let c16_i32_219 : BitVec 32 := 16#32
  let v455 : BitVec 32 := Scalar.muli arg9 c16_i32_219
  let v456 : BitVec 32 := Scalar.addi v371 v455
  v456
def k0_off34 (v371 : BitVec 32) (v373 : BitVec 32) (k0_t12 : Fin (k0_t12_loop v373).trips) : Fin 2 → Nat :=
  let c0_i32_181 : BitVec 32 := 0#32
  let c0_i32_175 : BitVec 32 := 0#32
  let v375 : BitVec 1 := Scalar.cmpi .sgt v373 c0_i32_175
  let v376 : BitVec 32 := Scalar.extui v375
  let c0_i32_176 : BitVec 32 := 0#32
  let v377 : BitVec 1 := Scalar.cmpi .slt v373 c0_i32_176
  let v378 : BitVec 32 := Scalar.extui v377
  let v379 : BitVec 32 := Scalar.subi v376 v378
  let c16_i32_174 : BitVec 32 := 16#32
  let c0_i32_177 : BitVec 32 := 0#32
  let v380 : BitVec 1 := Scalar.cmpi .sgt c16_i32_174 c0_i32_177
  let v381 : BitVec 32 := Scalar.extui v380
  let c0_i32_178 : BitVec 32 := 0#32
  let v382 : BitVec 1 := Scalar.cmpi .slt c16_i32_174 c0_i32_178
  let v383 : BitVec 32 := Scalar.extui v382
  let v384 : BitVec 32 := Scalar.subi v381 v383
  let v385 : BitVec 1 := Scalar.cmpi .ne v379 v384
  let v386 : BitVec 32 := Scalar.remsi v373 c16_i32_174
  let c0_i32_179 : BitVec 32 := 0#32
  let v387 : BitVec 1 := Scalar.cmpi .ne v386 c0_i32_179
  let v388 : BitVec 1 := Scalar.andi v385 v387
  let v374 : BitVec 32 := Scalar.divsi v373 c16_i32_174
  let c1_i32_180 : BitVec 32 := 1#32
  let v389 : BitVec 32 := Scalar.subi v374 c1_i32_180
  let v390 : BitVec 32 := Scalar.select v388 v389 v374
  let v391 : BitVec 32 := Scalar.subi v390 c0_i32_181
  let c1_i32_183 : BitVec 32 := 1#32
  let v393 : BitVec 32 := Scalar.divsi v391 c1_i32_183
  let v394 : BitVec 32 := Scalar.muli v393 c1_i32_183
  let v395 : BitVec 32 := Scalar.addi c0_i32_181 v394
  let c1_i32_185 : BitVec 32 := 1#32
  let arg9 : BitVec 32 := Scf.iv v395 c1_i32_185 k0_t12
  let c16_i32_219 : BitVec 32 := 16#32
  let v455 : BitVec 32 := Scalar.muli arg9 c16_i32_219
  let v456 : BitVec 32 := Scalar.addi v371 v455
  let v457 : BitVec 32 := v456
  let c0_i32_224 : BitVec 32 := 0#32
  ![v457.toNat, 0]
def k0_off35 (v372 : BitVec 32) (v373 : BitVec 32) (k0_t12 : Fin (k0_t12_loop v373).trips) : Fin 2 → Nat :=
  let c0_i32_181 : BitVec 32 := 0#32
  let c0_i32_175 : BitVec 32 := 0#32
  let v375 : BitVec 1 := Scalar.cmpi .sgt v373 c0_i32_175
  let v376 : BitVec 32 := Scalar.extui v375
  let c0_i32_176 : BitVec 32 := 0#32
  let v377 : BitVec 1 := Scalar.cmpi .slt v373 c0_i32_176
  let v378 : BitVec 32 := Scalar.extui v377
  let v379 : BitVec 32 := Scalar.subi v376 v378
  let c16_i32_174 : BitVec 32 := 16#32
  let c0_i32_177 : BitVec 32 := 0#32
  let v380 : BitVec 1 := Scalar.cmpi .sgt c16_i32_174 c0_i32_177
  let v381 : BitVec 32 := Scalar.extui v380
  let c0_i32_178 : BitVec 32 := 0#32
  let v382 : BitVec 1 := Scalar.cmpi .slt c16_i32_174 c0_i32_178
  let v383 : BitVec 32 := Scalar.extui v382
  let v384 : BitVec 32 := Scalar.subi v381 v383
  let v385 : BitVec 1 := Scalar.cmpi .ne v379 v384
  let v386 : BitVec 32 := Scalar.remsi v373 c16_i32_174
  let c0_i32_179 : BitVec 32 := 0#32
  let v387 : BitVec 1 := Scalar.cmpi .ne v386 c0_i32_179
  let v388 : BitVec 1 := Scalar.andi v385 v387
  let v374 : BitVec 32 := Scalar.divsi v373 c16_i32_174
  let c1_i32_180 : BitVec 32 := 1#32
  let v389 : BitVec 32 := Scalar.subi v374 c1_i32_180
  let v390 : BitVec 32 := Scalar.select v388 v389 v374
  let v391 : BitVec 32 := Scalar.subi v390 c0_i32_181
  let c1_i32_183 : BitVec 32 := 1#32
  let v393 : BitVec 32 := Scalar.divsi v391 c1_i32_183
  let v394 : BitVec 32 := Scalar.muli v393 c1_i32_183
  let v395 : BitVec 32 := Scalar.addi c0_i32_181 v394
  let c1_i32_185 : BitVec 32 := 1#32
  let arg9 : BitVec 32 := Scf.iv v395 c1_i32_185 k0_t12
  let c16_i32_218 : BitVec 32 := 16#32
  let v452 : BitVec 32 := Scalar.muli arg9 c16_i32_218
  let v453 : BitVec 32 := Scalar.addi v372 v452
  let v454 : BitVec 32 := v453
  let c0_i32_225 : BitVec 32 := 0#32
  ![v454.toNat, 0]
def k0_off36 (v371 : BitVec 32) (v373 : BitVec 32) (k0_t12 : Fin (k0_t12_loop v373).trips) : Fin 3 → Nat :=
  let c0_i32_220 : BitVec 32 := 0#32
  let c0_i32_181 : BitVec 32 := 0#32
  let c0_i32_175 : BitVec 32 := 0#32
  let v375 : BitVec 1 := Scalar.cmpi .sgt v373 c0_i32_175
  let v376 : BitVec 32 := Scalar.extui v375
  let c0_i32_176 : BitVec 32 := 0#32
  let v377 : BitVec 1 := Scalar.cmpi .slt v373 c0_i32_176
  let v378 : BitVec 32 := Scalar.extui v377
  let v379 : BitVec 32 := Scalar.subi v376 v378
  let c16_i32_174 : BitVec 32 := 16#32
  let c0_i32_177 : BitVec 32 := 0#32
  let v380 : BitVec 1 := Scalar.cmpi .sgt c16_i32_174 c0_i32_177
  let v381 : BitVec 32 := Scalar.extui v380
  let c0_i32_178 : BitVec 32 := 0#32
  let v382 : BitVec 1 := Scalar.cmpi .slt c16_i32_174 c0_i32_178
  let v383 : BitVec 32 := Scalar.extui v382
  let v384 : BitVec 32 := Scalar.subi v381 v383
  let v385 : BitVec 1 := Scalar.cmpi .ne v379 v384
  let v386 : BitVec 32 := Scalar.remsi v373 c16_i32_174
  let c0_i32_179 : BitVec 32 := 0#32
  let v387 : BitVec 1 := Scalar.cmpi .ne v386 c0_i32_179
  let v388 : BitVec 1 := Scalar.andi v385 v387
  let v374 : BitVec 32 := Scalar.divsi v373 c16_i32_174
  let c1_i32_180 : BitVec 32 := 1#32
  let v389 : BitVec 32 := Scalar.subi v374 c1_i32_180
  let v390 : BitVec 32 := Scalar.select v388 v389 v374
  let v391 : BitVec 32 := Scalar.subi v390 c0_i32_181
  let c1_i32_183 : BitVec 32 := 1#32
  let v393 : BitVec 32 := Scalar.divsi v391 c1_i32_183
  let v394 : BitVec 32 := Scalar.muli v393 c1_i32_183
  let v395 : BitVec 32 := Scalar.addi c0_i32_181 v394
  let c1_i32_185 : BitVec 32 := 1#32
  let arg9 : BitVec 32 := Scf.iv v395 c1_i32_185 k0_t12
  let c16_i32_219 : BitVec 32 := 16#32
  let v455 : BitVec 32 := Scalar.muli arg9 c16_i32_219
  let v456 : BitVec 32 := Scalar.addi v371 v455
  let v457 : BitVec 32 := v456
  let c0_i32_223 : BitVec 32 := 0#32
  ![0, v457.toNat, 0]

def k0_chk6 (i : grid0.Coords) (v371 : BitVec 32) (v372 : BitVec 32) (v373 : BitVec 32) : Prop :=
  (∀ (k0_h1 : k0_cond1 i = 1#1), (k0_t11_loop v373).OK) ∧
  (∀ k0_t11 : Fin (k0_t11_loop v373).trips, ∀ (k0_h1 : k0_cond1 i = 1#1), 16 ∣ (k0_mult21 v372 v373 k0_t11).toNat) ∧
  (∀ k0_t11 : Fin (k0_t11_loop v373).trips, ∀ (k0_h1 : k0_cond1 i = 1#1), 16 ∣ (k0_mult22 v371 v373 k0_t11).toNat) ∧
  (∀ k0_t11 : Fin (k0_t11_loop v373).trips, ∀ (k0_h1 : k0_cond1 i = 1#1), ∀ a, (k0_off31 v371 v373 k0_t11) a + S16x1024.size a ≤ S1152x1024.size a) ∧
  (∀ k0_t11 : Fin (k0_t11_loop v373).trips, ∀ (k0_h1 : k0_cond1 i = 1#1), ∀ a, (k0_off32 v372 v373 k0_t11) a + S16x1024.size a ≤ S44032x1024.size a) ∧
  (∀ k0_t11 : Fin (k0_t11_loop v373).trips, ∀ (k0_h1 : k0_cond1 i = 1#1), ∀ (hinb : ∀ a, (k0_off32 v372 v373 k0_t11) a + S16x1024.size a ≤ S44032x1024.size a), (Rect.unit (s := S44032x1024) (k0_off32 v372 v373 k0_t11) S16x1024.size hinb).WholeWords (EltTy.packing .bf16)) ∧
  (∀ k0_t11 : Fin (k0_t11_loop v373).trips, ∀ (k0_h1 : k0_cond1 i = 1#1), ∀ a, (k0_off33 v371 v373 k0_t11) a + S1x16x1024.size a ≤ S2x1152x1024.size a) ∧
  (∀ k0_t11 : Fin (k0_t11_loop v373).trips, ∀ (k0_h1 : k0_cond1 i = 1#1), ∀ (hinb : ∀ a, (k0_off33 v371 v373 k0_t11) a + S1x16x1024.size a ≤ S2x1152x1024.size a), (Rect.unit (s := S2x1152x1024) (k0_off33 v371 v373 k0_t11) S1x16x1024.size hinb).WholeWords (EltTy.packing .bf16)) ∧
  (∀ (k0_h1 : k0_cond1 i = 1#1), (k0_t12_loop v373).OK) ∧
  (∀ k0_t12 : Fin (k0_t12_loop v373).trips, ∀ (k0_h1 : k0_cond1 i = 1#1), 16 ∣ (k0_mult23 v372 v373 k0_t12).toNat) ∧
  (∀ k0_t12 : Fin (k0_t12_loop v373).trips, ∀ (k0_h1 : k0_cond1 i = 1#1), 16 ∣ (k0_mult24 v371 v373 k0_t12).toNat) ∧
  (∀ k0_t12 : Fin (k0_t12_loop v373).trips, ∀ (k0_h1 : k0_cond1 i = 1#1), ∀ a, (k0_off34 v371 v373 k0_t12) a + S16x1024.size a ≤ S1152x1024.size a) ∧
  (∀ k0_t12 : Fin (k0_t12_loop v373).trips, ∀ (k0_h1 : k0_cond1 i = 1#1), ∀ a, (k0_off35 v372 v373 k0_t12) a + S16x1024.size a ≤ S44032x1024.size a) ∧
  (∀ k0_t12 : Fin (k0_t12_loop v373).trips, ∀ (k0_h1 : k0_cond1 i = 1#1), ∀ (hinb : ∀ a, (k0_off35 v372 v373 k0_t12) a + S16x1024.size a ≤ S44032x1024.size a), (Rect.unit (s := S44032x1024) (k0_off35 v372 v373 k0_t12) S16x1024.size hinb).WholeWords (EltTy.packing .bf16)) ∧
  (∀ k0_t12 : Fin (k0_t12_loop v373).trips, ∀ (k0_h1 : k0_cond1 i = 1#1), ∀ a, (k0_off36 v371 v373 k0_t12) a + S1x16x1024.size a ≤ S2x1152x1024.size a) ∧
  (∀ k0_t12 : Fin (k0_t12_loop v373).trips, ∀ (k0_h1 : k0_cond1 i = 1#1), ∀ (hinb : ∀ a, (k0_off36 v371 v373 k0_t12) a + S1x16x1024.size a ≤ S2x1152x1024.size a), (Rect.unit (s := S2x1152x1024) (k0_off36 v371 v373 k0_t12) S1x16x1024.size hinb).WholeWords (EltTy.packing .bf16))
theorem k0_t11_ok : ∀ (i : grid0.Coords) (v371 : BitVec 32) (v372 : BitVec 32) (v373 : BitVec 32) (k0_hw6 : k0_chk6 i v371 v372 v373), ∀ (k0_h1 : k0_cond1 i = 1#1), (k0_t11_loop v373).OK := fun i v371 v372 v373 k0_hw6 k0_h1 => k0_hw6.1 k0_h1
theorem k0_mult21_dvd : ∀ (i : grid0.Coords) (v371 : BitVec 32) (v372 : BitVec 32) (v373 : BitVec 32) (k0_hw6 : k0_chk6 i v371 v372 v373) (k0_t11 : Fin (k0_t11_loop v373).trips), ∀ (k0_h1 : k0_cond1 i = 1#1), 16 ∣ (k0_mult21 v372 v373 k0_t11).toNat := fun i v371 v372 v373 k0_hw6 k0_t11 k0_h1 => k0_hw6.2.1 k0_t11 k0_h1
theorem k0_mult22_dvd : ∀ (i : grid0.Coords) (v371 : BitVec 32) (v372 : BitVec 32) (v373 : BitVec 32) (k0_hw6 : k0_chk6 i v371 v372 v373) (k0_t11 : Fin (k0_t11_loop v373).trips), ∀ (k0_h1 : k0_cond1 i = 1#1), 16 ∣ (k0_mult22 v371 v373 k0_t11).toNat := fun i v371 v372 v373 k0_hw6 k0_t11 k0_h1 => k0_hw6.2.2.1 k0_t11 k0_h1
theorem k0_off31_inb : ∀ (i : grid0.Coords) (v371 : BitVec 32) (v372 : BitVec 32) (v373 : BitVec 32) (k0_hw6 : k0_chk6 i v371 v372 v373) (k0_t11 : Fin (k0_t11_loop v373).trips), ∀ (k0_h1 : k0_cond1 i = 1#1), ∀ a, (k0_off31 v371 v373 k0_t11) a + S16x1024.size a ≤ S1152x1024.size a := fun i v371 v372 v373 k0_hw6 k0_t11 k0_h1 => k0_hw6.2.2.2.1 k0_t11 k0_h1
theorem k0_off32_inb : ∀ (i : grid0.Coords) (v371 : BitVec 32) (v372 : BitVec 32) (v373 : BitVec 32) (k0_hw6 : k0_chk6 i v371 v372 v373) (k0_t11 : Fin (k0_t11_loop v373).trips), ∀ (k0_h1 : k0_cond1 i = 1#1), ∀ a, (k0_off32 v372 v373 k0_t11) a + S16x1024.size a ≤ S44032x1024.size a := fun i v371 v372 v373 k0_hw6 k0_t11 k0_h1 => k0_hw6.2.2.2.2.1 k0_t11 k0_h1
theorem k0_off32_wordsbf16 : ∀ (i : grid0.Coords) (v371 : BitVec 32) (v372 : BitVec 32) (v373 : BitVec 32) (k0_hw6 : k0_chk6 i v371 v372 v373) (k0_t11 : Fin (k0_t11_loop v373).trips), ∀ (k0_h1 : k0_cond1 i = 1#1), (Rect.unit (s := S44032x1024) (k0_off32 v372 v373 k0_t11) S16x1024.size (k0_off32_inb i v371 v372 v373 k0_hw6 k0_t11 k0_h1)).WholeWords (EltTy.packing .bf16) := fun i v371 v372 v373 k0_hw6 k0_t11 k0_h1 => k0_hw6.2.2.2.2.2.1 k0_t11 k0_h1 (k0_off32_inb i v371 v372 v373 k0_hw6 k0_t11 k0_h1)
theorem k0_off33_inb : ∀ (i : grid0.Coords) (v371 : BitVec 32) (v372 : BitVec 32) (v373 : BitVec 32) (k0_hw6 : k0_chk6 i v371 v372 v373) (k0_t11 : Fin (k0_t11_loop v373).trips), ∀ (k0_h1 : k0_cond1 i = 1#1), ∀ a, (k0_off33 v371 v373 k0_t11) a + S1x16x1024.size a ≤ S2x1152x1024.size a := fun i v371 v372 v373 k0_hw6 k0_t11 k0_h1 => k0_hw6.2.2.2.2.2.2.1 k0_t11 k0_h1
theorem k0_off33_wordsbf16 : ∀ (i : grid0.Coords) (v371 : BitVec 32) (v372 : BitVec 32) (v373 : BitVec 32) (k0_hw6 : k0_chk6 i v371 v372 v373) (k0_t11 : Fin (k0_t11_loop v373).trips), ∀ (k0_h1 : k0_cond1 i = 1#1), (Rect.unit (s := S2x1152x1024) (k0_off33 v371 v373 k0_t11) S1x16x1024.size (k0_off33_inb i v371 v372 v373 k0_hw6 k0_t11 k0_h1)).WholeWords (EltTy.packing .bf16) := fun i v371 v372 v373 k0_hw6 k0_t11 k0_h1 => k0_hw6.2.2.2.2.2.2.2.1 k0_t11 k0_h1 (k0_off33_inb i v371 v372 v373 k0_hw6 k0_t11 k0_h1)
theorem k0_t12_ok : ∀ (i : grid0.Coords) (v371 : BitVec 32) (v372 : BitVec 32) (v373 : BitVec 32) (k0_hw6 : k0_chk6 i v371 v372 v373), ∀ (k0_h1 : k0_cond1 i = 1#1), (k0_t12_loop v373).OK := fun i v371 v372 v373 k0_hw6 k0_h1 => k0_hw6.2.2.2.2.2.2.2.2.1 k0_h1
theorem k0_mult23_dvd : ∀ (i : grid0.Coords) (v371 : BitVec 32) (v372 : BitVec 32) (v373 : BitVec 32) (k0_hw6 : k0_chk6 i v371 v372 v373) (k0_t12 : Fin (k0_t12_loop v373).trips), ∀ (k0_h1 : k0_cond1 i = 1#1), 16 ∣ (k0_mult23 v372 v373 k0_t12).toNat := fun i v371 v372 v373 k0_hw6 k0_t12 k0_h1 => k0_hw6.2.2.2.2.2.2.2.2.2.1 k0_t12 k0_h1
theorem k0_mult24_dvd : ∀ (i : grid0.Coords) (v371 : BitVec 32) (v372 : BitVec 32) (v373 : BitVec 32) (k0_hw6 : k0_chk6 i v371 v372 v373) (k0_t12 : Fin (k0_t12_loop v373).trips), ∀ (k0_h1 : k0_cond1 i = 1#1), 16 ∣ (k0_mult24 v371 v373 k0_t12).toNat := fun i v371 v372 v373 k0_hw6 k0_t12 k0_h1 => k0_hw6.2.2.2.2.2.2.2.2.2.2.1 k0_t12 k0_h1
theorem k0_off34_inb : ∀ (i : grid0.Coords) (v371 : BitVec 32) (v372 : BitVec 32) (v373 : BitVec 32) (k0_hw6 : k0_chk6 i v371 v372 v373) (k0_t12 : Fin (k0_t12_loop v373).trips), ∀ (k0_h1 : k0_cond1 i = 1#1), ∀ a, (k0_off34 v371 v373 k0_t12) a + S16x1024.size a ≤ S1152x1024.size a := fun i v371 v372 v373 k0_hw6 k0_t12 k0_h1 => k0_hw6.2.2.2.2.2.2.2.2.2.2.2.1 k0_t12 k0_h1
theorem k0_off35_inb : ∀ (i : grid0.Coords) (v371 : BitVec 32) (v372 : BitVec 32) (v373 : BitVec 32) (k0_hw6 : k0_chk6 i v371 v372 v373) (k0_t12 : Fin (k0_t12_loop v373).trips), ∀ (k0_h1 : k0_cond1 i = 1#1), ∀ a, (k0_off35 v372 v373 k0_t12) a + S16x1024.size a ≤ S44032x1024.size a := fun i v371 v372 v373 k0_hw6 k0_t12 k0_h1 => k0_hw6.2.2.2.2.2.2.2.2.2.2.2.2.1 k0_t12 k0_h1
theorem k0_off35_wordsbf16 : ∀ (i : grid0.Coords) (v371 : BitVec 32) (v372 : BitVec 32) (v373 : BitVec 32) (k0_hw6 : k0_chk6 i v371 v372 v373) (k0_t12 : Fin (k0_t12_loop v373).trips), ∀ (k0_h1 : k0_cond1 i = 1#1), (Rect.unit (s := S44032x1024) (k0_off35 v372 v373 k0_t12) S16x1024.size (k0_off35_inb i v371 v372 v373 k0_hw6 k0_t12 k0_h1)).WholeWords (EltTy.packing .bf16) := fun i v371 v372 v373 k0_hw6 k0_t12 k0_h1 => k0_hw6.2.2.2.2.2.2.2.2.2.2.2.2.2.1 k0_t12 k0_h1 (k0_off35_inb i v371 v372 v373 k0_hw6 k0_t12 k0_h1)
theorem k0_off36_inb : ∀ (i : grid0.Coords) (v371 : BitVec 32) (v372 : BitVec 32) (v373 : BitVec 32) (k0_hw6 : k0_chk6 i v371 v372 v373) (k0_t12 : Fin (k0_t12_loop v373).trips), ∀ (k0_h1 : k0_cond1 i = 1#1), ∀ a, (k0_off36 v371 v373 k0_t12) a + S1x16x1024.size a ≤ S2x1152x1024.size a := fun i v371 v372 v373 k0_hw6 k0_t12 k0_h1 => k0_hw6.2.2.2.2.2.2.2.2.2.2.2.2.2.2.1 k0_t12 k0_h1
theorem k0_off36_wordsbf16 : ∀ (i : grid0.Coords) (v371 : BitVec 32) (v372 : BitVec 32) (v373 : BitVec 32) (k0_hw6 : k0_chk6 i v371 v372 v373) (k0_t12 : Fin (k0_t12_loop v373).trips), ∀ (k0_h1 : k0_cond1 i = 1#1), (Rect.unit (s := S2x1152x1024) (k0_off36 v371 v373 k0_t12) S1x16x1024.size (k0_off36_inb i v371 v372 v373 k0_hw6 k0_t12 k0_h1)).WholeWords (EltTy.packing .bf16) := fun i v371 v372 v373 k0_hw6 k0_t12 k0_h1 => k0_hw6.2.2.2.2.2.2.2.2.2.2.2.2.2.2.2 k0_t12 k0_h1 (k0_off36_inb i v371 v372 v373 k0_hw6 k0_t12 k0_h1)

@[reducible] def k0_t13_loop (v400 : BitVec 32) : Scf.Loop 32 :=
  let c0_i32_197 : BitVec 32 := 0#32
  let c0_i32_191 : BitVec 32 := 0#32
  let v402 : BitVec 1 := Scalar.cmpi .sgt v400 c0_i32_191
  let v403 : BitVec 32 := Scalar.extui v402
  let c0_i32_192 : BitVec 32 := 0#32
  let v404 : BitVec 1 := Scalar.cmpi .slt v400 c0_i32_192
  let v405 : BitVec 32 := Scalar.extui v404
  let v406 : BitVec 32 := Scalar.subi v403 v405
  let c16_i32_190 : BitVec 32 := 16#32
  let c0_i32_193 : BitVec 32 := 0#32
  let v407 : BitVec 1 := Scalar.cmpi .sgt c16_i32_190 c0_i32_193
  let v408 : BitVec 32 := Scalar.extui v407
  let c0_i32_194 : BitVec 32 := 0#32
  let v409 : BitVec 1 := Scalar.cmpi .slt c16_i32_190 c0_i32_194
  let v410 : BitVec 32 := Scalar.extui v409
  let v411 : BitVec 32 := Scalar.subi v408 v410
  let v412 : BitVec 1 := Scalar.cmpi .ne v406 v411
  let v413 : BitVec 32 := Scalar.remsi v400 c16_i32_190
  let c0_i32_195 : BitVec 32 := 0#32
  let v414 : BitVec 1 := Scalar.cmpi .ne v413 c0_i32_195
  let v415 : BitVec 1 := Scalar.andi v412 v414
  let v401 : BitVec 32 := Scalar.divsi v400 c16_i32_190
  let c1_i32_196 : BitVec 32 := 1#32
  let v416 : BitVec 32 := Scalar.subi v401 c1_i32_196
  let v417 : BitVec 32 := Scalar.select v415 v416 v401
  let v418 : BitVec 32 := Scalar.subi v417 c0_i32_197
  let c1_i32_199 : BitVec 32 := 1#32
  let v420 : BitVec 32 := Scalar.divsi v418 c1_i32_199
  let v421 : BitVec 32 := Scalar.muli v420 c1_i32_199
  let v422 : BitVec 32 := Scalar.addi c0_i32_197 v421
  let c1_i32_200 : BitVec 32 := 1#32
  ⟨c0_i32_197, v422, c1_i32_200⟩

def k0_mult25 (v399 : BitVec 32) (v400 : BitVec 32) (k0_t13 : Fin (k0_t13_loop v400).trips) : BitVec 32 :=
  let c0_i32_197 : BitVec 32 := 0#32
  let c1_i32_200 : BitVec 32 := 1#32
  let arg9 : BitVec 32 := Scf.iv c0_i32_197 c1_i32_200 k0_t13
  let c16_i32_218 : BitVec 32 := 16#32
  let v452 : BitVec 32 := Scalar.muli arg9 c16_i32_218
  let v453 : BitVec 32 := Scalar.addi v399 v452
  v453
def k0_mult26 (v398 : BitVec 32) (v400 : BitVec 32) (k0_t13 : Fin (k0_t13_loop v400).trips) : BitVec 32 :=
  let c0_i32_197 : BitVec 32 := 0#32
  let c1_i32_200 : BitVec 32 := 1#32
  let arg9 : BitVec 32 := Scf.iv c0_i32_197 c1_i32_200 k0_t13
  let c16_i32_219 : BitVec 32 := 16#32
  let v455 : BitVec 32 := Scalar.muli arg9 c16_i32_219
  let v456 : BitVec 32 := Scalar.addi v398 v455
  v456
def k0_off37 (v398 : BitVec 32) (v400 : BitVec 32) (k0_t13 : Fin (k0_t13_loop v400).trips) : Fin 2 → Nat :=
  let c0_i32_197 : BitVec 32 := 0#32
  let c1_i32_200 : BitVec 32 := 1#32
  let arg9 : BitVec 32 := Scf.iv c0_i32_197 c1_i32_200 k0_t13
  let c16_i32_219 : BitVec 32 := 16#32
  let v455 : BitVec 32 := Scalar.muli arg9 c16_i32_219
  let v456 : BitVec 32 := Scalar.addi v398 v455
  let v457 : BitVec 32 := v456
  let c0_i32_224 : BitVec 32 := 0#32
  ![v457.toNat, 0]
def k0_off38 (v399 : BitVec 32) (v400 : BitVec 32) (k0_t13 : Fin (k0_t13_loop v400).trips) : Fin 2 → Nat :=
  let c0_i32_197 : BitVec 32 := 0#32
  let c1_i32_200 : BitVec 32 := 1#32
  let arg9 : BitVec 32 := Scf.iv c0_i32_197 c1_i32_200 k0_t13
  let c16_i32_218 : BitVec 32 := 16#32
  let v452 : BitVec 32 := Scalar.muli arg9 c16_i32_218
  let v453 : BitVec 32 := Scalar.addi v399 v452
  let v454 : BitVec 32 := v453
  let c0_i32_225 : BitVec 32 := 0#32
  ![v454.toNat, 0]
def k0_off39 (v398 : BitVec 32) (v400 : BitVec 32) (k0_t13 : Fin (k0_t13_loop v400).trips) : Fin 3 → Nat :=
  let c0_i32_220 : BitVec 32 := 0#32
  let c0_i32_197 : BitVec 32 := 0#32
  let c1_i32_200 : BitVec 32 := 1#32
  let arg9 : BitVec 32 := Scf.iv c0_i32_197 c1_i32_200 k0_t13
  let c16_i32_219 : BitVec 32 := 16#32
  let v455 : BitVec 32 := Scalar.muli arg9 c16_i32_219
  let v456 : BitVec 32 := Scalar.addi v398 v455
  let v457 : BitVec 32 := v456
  let c0_i32_223 : BitVec 32 := 0#32
  ![0, v457.toNat, 0]
@[reducible] def k0_t14_loop (v400 : BitVec 32) : Scf.Loop 32 :=
  let c0_i32_197 : BitVec 32 := 0#32
  let c0_i32_191 : BitVec 32 := 0#32
  let v402 : BitVec 1 := Scalar.cmpi .sgt v400 c0_i32_191
  let v403 : BitVec 32 := Scalar.extui v402
  let c0_i32_192 : BitVec 32 := 0#32
  let v404 : BitVec 1 := Scalar.cmpi .slt v400 c0_i32_192
  let v405 : BitVec 32 := Scalar.extui v404
  let v406 : BitVec 32 := Scalar.subi v403 v405
  let c16_i32_190 : BitVec 32 := 16#32
  let c0_i32_193 : BitVec 32 := 0#32
  let v407 : BitVec 1 := Scalar.cmpi .sgt c16_i32_190 c0_i32_193
  let v408 : BitVec 32 := Scalar.extui v407
  let c0_i32_194 : BitVec 32 := 0#32
  let v409 : BitVec 1 := Scalar.cmpi .slt c16_i32_190 c0_i32_194
  let v410 : BitVec 32 := Scalar.extui v409
  let v411 : BitVec 32 := Scalar.subi v408 v410
  let v412 : BitVec 1 := Scalar.cmpi .ne v406 v411
  let v413 : BitVec 32 := Scalar.remsi v400 c16_i32_190
  let c0_i32_195 : BitVec 32 := 0#32
  let v414 : BitVec 1 := Scalar.cmpi .ne v413 c0_i32_195
  let v415 : BitVec 1 := Scalar.andi v412 v414
  let v401 : BitVec 32 := Scalar.divsi v400 c16_i32_190
  let c1_i32_196 : BitVec 32 := 1#32
  let v416 : BitVec 32 := Scalar.subi v401 c1_i32_196
  let v417 : BitVec 32 := Scalar.select v415 v416 v401
  let v418 : BitVec 32 := Scalar.subi v417 c0_i32_197
  let c1_i32_199 : BitVec 32 := 1#32
  let v420 : BitVec 32 := Scalar.divsi v418 c1_i32_199
  let v421 : BitVec 32 := Scalar.muli v420 c1_i32_199
  let v422 : BitVec 32 := Scalar.addi c0_i32_197 v421
  let v419 : BitVec 32 := Scalar.addi c0_i32_197 v418
  let c1_i32_201 : BitVec 32 := 1#32
  ⟨v422, v419, c1_i32_201⟩
def k0_mult27 (v399 : BitVec 32) (v400 : BitVec 32) (k0_t14 : Fin (k0_t14_loop v400).trips) : BitVec 32 :=
  let c0_i32_197 : BitVec 32 := 0#32
  let c0_i32_191 : BitVec 32 := 0#32
  let v402 : BitVec 1 := Scalar.cmpi .sgt v400 c0_i32_191
  let v403 : BitVec 32 := Scalar.extui v402
  let c0_i32_192 : BitVec 32 := 0#32
  let v404 : BitVec 1 := Scalar.cmpi .slt v400 c0_i32_192
  let v405 : BitVec 32 := Scalar.extui v404
  let v406 : BitVec 32 := Scalar.subi v403 v405
  let c16_i32_190 : BitVec 32 := 16#32
  let c0_i32_193 : BitVec 32 := 0#32
  let v407 : BitVec 1 := Scalar.cmpi .sgt c16_i32_190 c0_i32_193
  let v408 : BitVec 32 := Scalar.extui v407
  let c0_i32_194 : BitVec 32 := 0#32
  let v409 : BitVec 1 := Scalar.cmpi .slt c16_i32_190 c0_i32_194
  let v410 : BitVec 32 := Scalar.extui v409
  let v411 : BitVec 32 := Scalar.subi v408 v410
  let v412 : BitVec 1 := Scalar.cmpi .ne v406 v411
  let v413 : BitVec 32 := Scalar.remsi v400 c16_i32_190
  let c0_i32_195 : BitVec 32 := 0#32
  let v414 : BitVec 1 := Scalar.cmpi .ne v413 c0_i32_195
  let v415 : BitVec 1 := Scalar.andi v412 v414
  let v401 : BitVec 32 := Scalar.divsi v400 c16_i32_190
  let c1_i32_196 : BitVec 32 := 1#32
  let v416 : BitVec 32 := Scalar.subi v401 c1_i32_196
  let v417 : BitVec 32 := Scalar.select v415 v416 v401
  let v418 : BitVec 32 := Scalar.subi v417 c0_i32_197
  let c1_i32_199 : BitVec 32 := 1#32
  let v420 : BitVec 32 := Scalar.divsi v418 c1_i32_199
  let v421 : BitVec 32 := Scalar.muli v420 c1_i32_199
  let v422 : BitVec 32 := Scalar.addi c0_i32_197 v421
  let c1_i32_201 : BitVec 32 := 1#32
  let arg9 : BitVec 32 := Scf.iv v422 c1_i32_201 k0_t14
  let c16_i32_218 : BitVec 32 := 16#32
  let v452 : BitVec 32 := Scalar.muli arg9 c16_i32_218
  let v453 : BitVec 32 := Scalar.addi v399 v452
  v453
def k0_mult28 (v398 : BitVec 32) (v400 : BitVec 32) (k0_t14 : Fin (k0_t14_loop v400).trips) : BitVec 32 :=
  let c0_i32_197 : BitVec 32 := 0#32
  let c0_i32_191 : BitVec 32 := 0#32
  let v402 : BitVec 1 := Scalar.cmpi .sgt v400 c0_i32_191
  let v403 : BitVec 32 := Scalar.extui v402
  let c0_i32_192 : BitVec 32 := 0#32
  let v404 : BitVec 1 := Scalar.cmpi .slt v400 c0_i32_192
  let v405 : BitVec 32 := Scalar.extui v404
  let v406 : BitVec 32 := Scalar.subi v403 v405
  let c16_i32_190 : BitVec 32 := 16#32
  let c0_i32_193 : BitVec 32 := 0#32
  let v407 : BitVec 1 := Scalar.cmpi .sgt c16_i32_190 c0_i32_193
  let v408 : BitVec 32 := Scalar.extui v407
  let c0_i32_194 : BitVec 32 := 0#32
  let v409 : BitVec 1 := Scalar.cmpi .slt c16_i32_190 c0_i32_194
  let v410 : BitVec 32 := Scalar.extui v409
  let v411 : BitVec 32 := Scalar.subi v408 v410
  let v412 : BitVec 1 := Scalar.cmpi .ne v406 v411
  let v413 : BitVec 32 := Scalar.remsi v400 c16_i32_190
  let c0_i32_195 : BitVec 32 := 0#32
  let v414 : BitVec 1 := Scalar.cmpi .ne v413 c0_i32_195
  let v415 : BitVec 1 := Scalar.andi v412 v414
  let v401 : BitVec 32 := Scalar.divsi v400 c16_i32_190
  let c1_i32_196 : BitVec 32 := 1#32
  let v416 : BitVec 32 := Scalar.subi v401 c1_i32_196
  let v417 : BitVec 32 := Scalar.select v415 v416 v401
  let v418 : BitVec 32 := Scalar.subi v417 c0_i32_197
  let c1_i32_199 : BitVec 32 := 1#32
  let v420 : BitVec 32 := Scalar.divsi v418 c1_i32_199
  let v421 : BitVec 32 := Scalar.muli v420 c1_i32_199
  let v422 : BitVec 32 := Scalar.addi c0_i32_197 v421
  let c1_i32_201 : BitVec 32 := 1#32
  let arg9 : BitVec 32 := Scf.iv v422 c1_i32_201 k0_t14
  let c16_i32_219 : BitVec 32 := 16#32
  let v455 : BitVec 32 := Scalar.muli arg9 c16_i32_219
  let v456 : BitVec 32 := Scalar.addi v398 v455
  v456
def k0_off40 (v398 : BitVec 32) (v400 : BitVec 32) (k0_t14 : Fin (k0_t14_loop v400).trips) : Fin 2 → Nat :=
  let c0_i32_197 : BitVec 32 := 0#32
  let c0_i32_191 : BitVec 32 := 0#32
  let v402 : BitVec 1 := Scalar.cmpi .sgt v400 c0_i32_191
  let v403 : BitVec 32 := Scalar.extui v402
  let c0_i32_192 : BitVec 32 := 0#32
  let v404 : BitVec 1 := Scalar.cmpi .slt v400 c0_i32_192
  let v405 : BitVec 32 := Scalar.extui v404
  let v406 : BitVec 32 := Scalar.subi v403 v405
  let c16_i32_190 : BitVec 32 := 16#32
  let c0_i32_193 : BitVec 32 := 0#32
  let v407 : BitVec 1 := Scalar.cmpi .sgt c16_i32_190 c0_i32_193
  let v408 : BitVec 32 := Scalar.extui v407
  let c0_i32_194 : BitVec 32 := 0#32
  let v409 : BitVec 1 := Scalar.cmpi .slt c16_i32_190 c0_i32_194
  let v410 : BitVec 32 := Scalar.extui v409
  let v411 : BitVec 32 := Scalar.subi v408 v410
  let v412 : BitVec 1 := Scalar.cmpi .ne v406 v411
  let v413 : BitVec 32 := Scalar.remsi v400 c16_i32_190
  let c0_i32_195 : BitVec 32 := 0#32
  let v414 : BitVec 1 := Scalar.cmpi .ne v413 c0_i32_195
  let v415 : BitVec 1 := Scalar.andi v412 v414
  let v401 : BitVec 32 := Scalar.divsi v400 c16_i32_190
  let c1_i32_196 : BitVec 32 := 1#32
  let v416 : BitVec 32 := Scalar.subi v401 c1_i32_196
  let v417 : BitVec 32 := Scalar.select v415 v416 v401
  let v418 : BitVec 32 := Scalar.subi v417 c0_i32_197
  let c1_i32_199 : BitVec 32 := 1#32
  let v420 : BitVec 32 := Scalar.divsi v418 c1_i32_199
  let v421 : BitVec 32 := Scalar.muli v420 c1_i32_199
  let v422 : BitVec 32 := Scalar.addi c0_i32_197 v421
  let c1_i32_201 : BitVec 32 := 1#32
  let arg9 : BitVec 32 := Scf.iv v422 c1_i32_201 k0_t14
  let c16_i32_219 : BitVec 32 := 16#32
  let v455 : BitVec 32 := Scalar.muli arg9 c16_i32_219
  let v456 : BitVec 32 := Scalar.addi v398 v455
  let v457 : BitVec 32 := v456
  let c0_i32_224 : BitVec 32 := 0#32
  ![v457.toNat, 0]
def k0_off41 (v399 : BitVec 32) (v400 : BitVec 32) (k0_t14 : Fin (k0_t14_loop v400).trips) : Fin 2 → Nat :=
  let c0_i32_197 : BitVec 32 := 0#32
  let c0_i32_191 : BitVec 32 := 0#32
  let v402 : BitVec 1 := Scalar.cmpi .sgt v400 c0_i32_191
  let v403 : BitVec 32 := Scalar.extui v402
  let c0_i32_192 : BitVec 32 := 0#32
  let v404 : BitVec 1 := Scalar.cmpi .slt v400 c0_i32_192
  let v405 : BitVec 32 := Scalar.extui v404
  let v406 : BitVec 32 := Scalar.subi v403 v405
  let c16_i32_190 : BitVec 32 := 16#32
  let c0_i32_193 : BitVec 32 := 0#32
  let v407 : BitVec 1 := Scalar.cmpi .sgt c16_i32_190 c0_i32_193
  let v408 : BitVec 32 := Scalar.extui v407
  let c0_i32_194 : BitVec 32 := 0#32
  let v409 : BitVec 1 := Scalar.cmpi .slt c16_i32_190 c0_i32_194
  let v410 : BitVec 32 := Scalar.extui v409
  let v411 : BitVec 32 := Scalar.subi v408 v410
  let v412 : BitVec 1 := Scalar.cmpi .ne v406 v411
  let v413 : BitVec 32 := Scalar.remsi v400 c16_i32_190
  let c0_i32_195 : BitVec 32 := 0#32
  let v414 : BitVec 1 := Scalar.cmpi .ne v413 c0_i32_195
  let v415 : BitVec 1 := Scalar.andi v412 v414
  let v401 : BitVec 32 := Scalar.divsi v400 c16_i32_190
  let c1_i32_196 : BitVec 32 := 1#32
  let v416 : BitVec 32 := Scalar.subi v401 c1_i32_196
  let v417 : BitVec 32 := Scalar.select v415 v416 v401
  let v418 : BitVec 32 := Scalar.subi v417 c0_i32_197
  let c1_i32_199 : BitVec 32 := 1#32
  let v420 : BitVec 32 := Scalar.divsi v418 c1_i32_199
  let v421 : BitVec 32 := Scalar.muli v420 c1_i32_199
  let v422 : BitVec 32 := Scalar.addi c0_i32_197 v421
  let c1_i32_201 : BitVec 32 := 1#32
  let arg9 : BitVec 32 := Scf.iv v422 c1_i32_201 k0_t14
  let c16_i32_218 : BitVec 32 := 16#32
  let v452 : BitVec 32 := Scalar.muli arg9 c16_i32_218
  let v453 : BitVec 32 := Scalar.addi v399 v452
  let v454 : BitVec 32 := v453
  let c0_i32_225 : BitVec 32 := 0#32
  ![v454.toNat, 0]
def k0_off42 (v398 : BitVec 32) (v400 : BitVec 32) (k0_t14 : Fin (k0_t14_loop v400).trips) : Fin 3 → Nat :=
  let c0_i32_220 : BitVec 32 := 0#32
  let c0_i32_197 : BitVec 32 := 0#32
  let c0_i32_191 : BitVec 32 := 0#32
  let v402 : BitVec 1 := Scalar.cmpi .sgt v400 c0_i32_191
  let v403 : BitVec 32 := Scalar.extui v402
  let c0_i32_192 : BitVec 32 := 0#32
  let v404 : BitVec 1 := Scalar.cmpi .slt v400 c0_i32_192
  let v405 : BitVec 32 := Scalar.extui v404
  let v406 : BitVec 32 := Scalar.subi v403 v405
  let c16_i32_190 : BitVec 32 := 16#32
  let c0_i32_193 : BitVec 32 := 0#32
  let v407 : BitVec 1 := Scalar.cmpi .sgt c16_i32_190 c0_i32_193
  let v408 : BitVec 32 := Scalar.extui v407
  let c0_i32_194 : BitVec 32 := 0#32
  let v409 : BitVec 1 := Scalar.cmpi .slt c16_i32_190 c0_i32_194
  let v410 : BitVec 32 := Scalar.extui v409
  let v411 : BitVec 32 := Scalar.subi v408 v410
  let v412 : BitVec 1 := Scalar.cmpi .ne v406 v411
  let v413 : BitVec 32 := Scalar.remsi v400 c16_i32_190
  let c0_i32_195 : BitVec 32 := 0#32
  let v414 : BitVec 1 := Scalar.cmpi .ne v413 c0_i32_195
  let v415 : BitVec 1 := Scalar.andi v412 v414
  let v401 : BitVec 32 := Scalar.divsi v400 c16_i32_190
  let c1_i32_196 : BitVec 32 := 1#32
  let v416 : BitVec 32 := Scalar.subi v401 c1_i32_196
  let v417 : BitVec 32 := Scalar.select v415 v416 v401
  let v418 : BitVec 32 := Scalar.subi v417 c0_i32_197
  let c1_i32_199 : BitVec 32 := 1#32
  let v420 : BitVec 32 := Scalar.divsi v418 c1_i32_199
  let v421 : BitVec 32 := Scalar.muli v420 c1_i32_199
  let v422 : BitVec 32 := Scalar.addi c0_i32_197 v421
  let c1_i32_201 : BitVec 32 := 1#32
  let arg9 : BitVec 32 := Scf.iv v422 c1_i32_201 k0_t14
  let c16_i32_219 : BitVec 32 := 16#32
  let v455 : BitVec 32 := Scalar.muli arg9 c16_i32_219
  let v456 : BitVec 32 := Scalar.addi v398 v455
  let v457 : BitVec 32 := v456
  let c0_i32_223 : BitVec 32 := 0#32
  ![0, v457.toNat, 0]

def k0_chk7 (i : grid0.Coords) (v398 : BitVec 32) (v399 : BitVec 32) (v400 : BitVec 32) : Prop :=
  (∀ (k0_h1 : k0_cond1 i = 1#1), (k0_t13_loop v400).OK) ∧
  (∀ k0_t13 : Fin (k0_t13_loop v400).trips, ∀ (k0_h1 : k0_cond1 i = 1#1), 16 ∣ (k0_mult25 v399 v400 k0_t13).toNat) ∧
  (∀ k0_t13 : Fin (k0_t13_loop v400).trips, ∀ (k0_h1 : k0_cond1 i = 1#1), 16 ∣ (k0_mult26 v398 v400 k0_t13).toNat) ∧
  (∀ k0_t13 : Fin (k0_t13_loop v400).trips, ∀ (k0_h1 : k0_cond1 i = 1#1), ∀ a, (k0_off37 v398 v400 k0_t13) a + S16x1024.size a ≤ S1152x1024.size a) ∧
  (∀ k0_t13 : Fin (k0_t13_loop v400).trips, ∀ (k0_h1 : k0_cond1 i = 1#1), ∀ a, (k0_off38 v399 v400 k0_t13) a + S16x1024.size a ≤ S44032x1024.size a) ∧
  (∀ k0_t13 : Fin (k0_t13_loop v400).trips, ∀ (k0_h1 : k0_cond1 i = 1#1), ∀ (hinb : ∀ a, (k0_off38 v399 v400 k0_t13) a + S16x1024.size a ≤ S44032x1024.size a), (Rect.unit (s := S44032x1024) (k0_off38 v399 v400 k0_t13) S16x1024.size hinb).WholeWords (EltTy.packing .bf16)) ∧
  (∀ k0_t13 : Fin (k0_t13_loop v400).trips, ∀ (k0_h1 : k0_cond1 i = 1#1), ∀ a, (k0_off39 v398 v400 k0_t13) a + S1x16x1024.size a ≤ S2x1152x1024.size a) ∧
  (∀ k0_t13 : Fin (k0_t13_loop v400).trips, ∀ (k0_h1 : k0_cond1 i = 1#1), ∀ (hinb : ∀ a, (k0_off39 v398 v400 k0_t13) a + S1x16x1024.size a ≤ S2x1152x1024.size a), (Rect.unit (s := S2x1152x1024) (k0_off39 v398 v400 k0_t13) S1x16x1024.size hinb).WholeWords (EltTy.packing .bf16)) ∧
  (∀ (k0_h1 : k0_cond1 i = 1#1), (k0_t14_loop v400).OK) ∧
  (∀ k0_t14 : Fin (k0_t14_loop v400).trips, ∀ (k0_h1 : k0_cond1 i = 1#1), 16 ∣ (k0_mult27 v399 v400 k0_t14).toNat) ∧
  (∀ k0_t14 : Fin (k0_t14_loop v400).trips, ∀ (k0_h1 : k0_cond1 i = 1#1), 16 ∣ (k0_mult28 v398 v400 k0_t14).toNat) ∧
  (∀ k0_t14 : Fin (k0_t14_loop v400).trips, ∀ (k0_h1 : k0_cond1 i = 1#1), ∀ a, (k0_off40 v398 v400 k0_t14) a + S16x1024.size a ≤ S1152x1024.size a) ∧
  (∀ k0_t14 : Fin (k0_t14_loop v400).trips, ∀ (k0_h1 : k0_cond1 i = 1#1), ∀ a, (k0_off41 v399 v400 k0_t14) a + S16x1024.size a ≤ S44032x1024.size a) ∧
  (∀ k0_t14 : Fin (k0_t14_loop v400).trips, ∀ (k0_h1 : k0_cond1 i = 1#1), ∀ (hinb : ∀ a, (k0_off41 v399 v400 k0_t14) a + S16x1024.size a ≤ S44032x1024.size a), (Rect.unit (s := S44032x1024) (k0_off41 v399 v400 k0_t14) S16x1024.size hinb).WholeWords (EltTy.packing .bf16)) ∧
  (∀ k0_t14 : Fin (k0_t14_loop v400).trips, ∀ (k0_h1 : k0_cond1 i = 1#1), ∀ a, (k0_off42 v398 v400 k0_t14) a + S1x16x1024.size a ≤ S2x1152x1024.size a) ∧
  (∀ k0_t14 : Fin (k0_t14_loop v400).trips, ∀ (k0_h1 : k0_cond1 i = 1#1), ∀ (hinb : ∀ a, (k0_off42 v398 v400 k0_t14) a + S1x16x1024.size a ≤ S2x1152x1024.size a), (Rect.unit (s := S2x1152x1024) (k0_off42 v398 v400 k0_t14) S1x16x1024.size hinb).WholeWords (EltTy.packing .bf16))
theorem k0_t13_ok : ∀ (i : grid0.Coords) (v398 : BitVec 32) (v399 : BitVec 32) (v400 : BitVec 32) (k0_hw7 : k0_chk7 i v398 v399 v400), ∀ (k0_h1 : k0_cond1 i = 1#1), (k0_t13_loop v400).OK := fun i v398 v399 v400 k0_hw7 k0_h1 => k0_hw7.1 k0_h1
theorem k0_mult25_dvd : ∀ (i : grid0.Coords) (v398 : BitVec 32) (v399 : BitVec 32) (v400 : BitVec 32) (k0_hw7 : k0_chk7 i v398 v399 v400) (k0_t13 : Fin (k0_t13_loop v400).trips), ∀ (k0_h1 : k0_cond1 i = 1#1), 16 ∣ (k0_mult25 v399 v400 k0_t13).toNat := fun i v398 v399 v400 k0_hw7 k0_t13 k0_h1 => k0_hw7.2.1 k0_t13 k0_h1
theorem k0_mult26_dvd : ∀ (i : grid0.Coords) (v398 : BitVec 32) (v399 : BitVec 32) (v400 : BitVec 32) (k0_hw7 : k0_chk7 i v398 v399 v400) (k0_t13 : Fin (k0_t13_loop v400).trips), ∀ (k0_h1 : k0_cond1 i = 1#1), 16 ∣ (k0_mult26 v398 v400 k0_t13).toNat := fun i v398 v399 v400 k0_hw7 k0_t13 k0_h1 => k0_hw7.2.2.1 k0_t13 k0_h1
theorem k0_off37_inb : ∀ (i : grid0.Coords) (v398 : BitVec 32) (v399 : BitVec 32) (v400 : BitVec 32) (k0_hw7 : k0_chk7 i v398 v399 v400) (k0_t13 : Fin (k0_t13_loop v400).trips), ∀ (k0_h1 : k0_cond1 i = 1#1), ∀ a, (k0_off37 v398 v400 k0_t13) a + S16x1024.size a ≤ S1152x1024.size a := fun i v398 v399 v400 k0_hw7 k0_t13 k0_h1 => k0_hw7.2.2.2.1 k0_t13 k0_h1
theorem k0_off38_inb : ∀ (i : grid0.Coords) (v398 : BitVec 32) (v399 : BitVec 32) (v400 : BitVec 32) (k0_hw7 : k0_chk7 i v398 v399 v400) (k0_t13 : Fin (k0_t13_loop v400).trips), ∀ (k0_h1 : k0_cond1 i = 1#1), ∀ a, (k0_off38 v399 v400 k0_t13) a + S16x1024.size a ≤ S44032x1024.size a := fun i v398 v399 v400 k0_hw7 k0_t13 k0_h1 => k0_hw7.2.2.2.2.1 k0_t13 k0_h1
theorem k0_off38_wordsbf16 : ∀ (i : grid0.Coords) (v398 : BitVec 32) (v399 : BitVec 32) (v400 : BitVec 32) (k0_hw7 : k0_chk7 i v398 v399 v400) (k0_t13 : Fin (k0_t13_loop v400).trips), ∀ (k0_h1 : k0_cond1 i = 1#1), (Rect.unit (s := S44032x1024) (k0_off38 v399 v400 k0_t13) S16x1024.size (k0_off38_inb i v398 v399 v400 k0_hw7 k0_t13 k0_h1)).WholeWords (EltTy.packing .bf16) := fun i v398 v399 v400 k0_hw7 k0_t13 k0_h1 => k0_hw7.2.2.2.2.2.1 k0_t13 k0_h1 (k0_off38_inb i v398 v399 v400 k0_hw7 k0_t13 k0_h1)
theorem k0_off39_inb : ∀ (i : grid0.Coords) (v398 : BitVec 32) (v399 : BitVec 32) (v400 : BitVec 32) (k0_hw7 : k0_chk7 i v398 v399 v400) (k0_t13 : Fin (k0_t13_loop v400).trips), ∀ (k0_h1 : k0_cond1 i = 1#1), ∀ a, (k0_off39 v398 v400 k0_t13) a + S1x16x1024.size a ≤ S2x1152x1024.size a := fun i v398 v399 v400 k0_hw7 k0_t13 k0_h1 => k0_hw7.2.2.2.2.2.2.1 k0_t13 k0_h1
theorem k0_off39_wordsbf16 : ∀ (i : grid0.Coords) (v398 : BitVec 32) (v399 : BitVec 32) (v400 : BitVec 32) (k0_hw7 : k0_chk7 i v398 v399 v400) (k0_t13 : Fin (k0_t13_loop v400).trips), ∀ (k0_h1 : k0_cond1 i = 1#1), (Rect.unit (s := S2x1152x1024) (k0_off39 v398 v400 k0_t13) S1x16x1024.size (k0_off39_inb i v398 v399 v400 k0_hw7 k0_t13 k0_h1)).WholeWords (EltTy.packing .bf16) := fun i v398 v399 v400 k0_hw7 k0_t13 k0_h1 => k0_hw7.2.2.2.2.2.2.2.1 k0_t13 k0_h1 (k0_off39_inb i v398 v399 v400 k0_hw7 k0_t13 k0_h1)
theorem k0_t14_ok : ∀ (i : grid0.Coords) (v398 : BitVec 32) (v399 : BitVec 32) (v400 : BitVec 32) (k0_hw7 : k0_chk7 i v398 v399 v400), ∀ (k0_h1 : k0_cond1 i = 1#1), (k0_t14_loop v400).OK := fun i v398 v399 v400 k0_hw7 k0_h1 => k0_hw7.2.2.2.2.2.2.2.2.1 k0_h1
theorem k0_mult27_dvd : ∀ (i : grid0.Coords) (v398 : BitVec 32) (v399 : BitVec 32) (v400 : BitVec 32) (k0_hw7 : k0_chk7 i v398 v399 v400) (k0_t14 : Fin (k0_t14_loop v400).trips), ∀ (k0_h1 : k0_cond1 i = 1#1), 16 ∣ (k0_mult27 v399 v400 k0_t14).toNat := fun i v398 v399 v400 k0_hw7 k0_t14 k0_h1 => k0_hw7.2.2.2.2.2.2.2.2.2.1 k0_t14 k0_h1
theorem k0_mult28_dvd : ∀ (i : grid0.Coords) (v398 : BitVec 32) (v399 : BitVec 32) (v400 : BitVec 32) (k0_hw7 : k0_chk7 i v398 v399 v400) (k0_t14 : Fin (k0_t14_loop v400).trips), ∀ (k0_h1 : k0_cond1 i = 1#1), 16 ∣ (k0_mult28 v398 v400 k0_t14).toNat := fun i v398 v399 v400 k0_hw7 k0_t14 k0_h1 => k0_hw7.2.2.2.2.2.2.2.2.2.2.1 k0_t14 k0_h1
theorem k0_off40_inb : ∀ (i : grid0.Coords) (v398 : BitVec 32) (v399 : BitVec 32) (v400 : BitVec 32) (k0_hw7 : k0_chk7 i v398 v399 v400) (k0_t14 : Fin (k0_t14_loop v400).trips), ∀ (k0_h1 : k0_cond1 i = 1#1), ∀ a, (k0_off40 v398 v400 k0_t14) a + S16x1024.size a ≤ S1152x1024.size a := fun i v398 v399 v400 k0_hw7 k0_t14 k0_h1 => k0_hw7.2.2.2.2.2.2.2.2.2.2.2.1 k0_t14 k0_h1
theorem k0_off41_inb : ∀ (i : grid0.Coords) (v398 : BitVec 32) (v399 : BitVec 32) (v400 : BitVec 32) (k0_hw7 : k0_chk7 i v398 v399 v400) (k0_t14 : Fin (k0_t14_loop v400).trips), ∀ (k0_h1 : k0_cond1 i = 1#1), ∀ a, (k0_off41 v399 v400 k0_t14) a + S16x1024.size a ≤ S44032x1024.size a := fun i v398 v399 v400 k0_hw7 k0_t14 k0_h1 => k0_hw7.2.2.2.2.2.2.2.2.2.2.2.2.1 k0_t14 k0_h1
theorem k0_off41_wordsbf16 : ∀ (i : grid0.Coords) (v398 : BitVec 32) (v399 : BitVec 32) (v400 : BitVec 32) (k0_hw7 : k0_chk7 i v398 v399 v400) (k0_t14 : Fin (k0_t14_loop v400).trips), ∀ (k0_h1 : k0_cond1 i = 1#1), (Rect.unit (s := S44032x1024) (k0_off41 v399 v400 k0_t14) S16x1024.size (k0_off41_inb i v398 v399 v400 k0_hw7 k0_t14 k0_h1)).WholeWords (EltTy.packing .bf16) := fun i v398 v399 v400 k0_hw7 k0_t14 k0_h1 => k0_hw7.2.2.2.2.2.2.2.2.2.2.2.2.2.1 k0_t14 k0_h1 (k0_off41_inb i v398 v399 v400 k0_hw7 k0_t14 k0_h1)
theorem k0_off42_inb : ∀ (i : grid0.Coords) (v398 : BitVec 32) (v399 : BitVec 32) (v400 : BitVec 32) (k0_hw7 : k0_chk7 i v398 v399 v400) (k0_t14 : Fin (k0_t14_loop v400).trips), ∀ (k0_h1 : k0_cond1 i = 1#1), ∀ a, (k0_off42 v398 v400 k0_t14) a + S1x16x1024.size a ≤ S2x1152x1024.size a := fun i v398 v399 v400 k0_hw7 k0_t14 k0_h1 => k0_hw7.2.2.2.2.2.2.2.2.2.2.2.2.2.2.1 k0_t14 k0_h1
theorem k0_off42_wordsbf16 : ∀ (i : grid0.Coords) (v398 : BitVec 32) (v399 : BitVec 32) (v400 : BitVec 32) (k0_hw7 : k0_chk7 i v398 v399 v400) (k0_t14 : Fin (k0_t14_loop v400).trips), ∀ (k0_h1 : k0_cond1 i = 1#1), (Rect.unit (s := S2x1152x1024) (k0_off42 v398 v400 k0_t14) S1x16x1024.size (k0_off42_inb i v398 v399 v400 k0_hw7 k0_t14 k0_h1)).WholeWords (EltTy.packing .bf16) := fun i v398 v399 v400 k0_hw7 k0_t14 k0_h1 => k0_hw7.2.2.2.2.2.2.2.2.2.2.2.2.2.2.2 k0_t14 k0_h1 (k0_off42_inb i v398 v399 v400 k0_hw7 k0_t14 k0_h1)

@[reducible] def k0_t15_loop (v427 : BitVec 32) : Scf.Loop 32 :=
  let c0_i32_213 : BitVec 32 := 0#32
  let c0_i32_207 : BitVec 32 := 0#32
  let v429 : BitVec 1 := Scalar.cmpi .sgt v427 c0_i32_207
  let v430 : BitVec 32 := Scalar.extui v429
  let c0_i32_208 : BitVec 32 := 0#32
  let v431 : BitVec 1 := Scalar.cmpi .slt v427 c0_i32_208
  let v432 : BitVec 32 := Scalar.extui v431
  let v433 : BitVec 32 := Scalar.subi v430 v432
  let c16_i32_206 : BitVec 32 := 16#32
  let c0_i32_209 : BitVec 32 := 0#32
  let v434 : BitVec 1 := Scalar.cmpi .sgt c16_i32_206 c0_i32_209
  let v435 : BitVec 32 := Scalar.extui v434
  let c0_i32_210 : BitVec 32 := 0#32
  let v436 : BitVec 1 := Scalar.cmpi .slt c16_i32_206 c0_i32_210
  let v437 : BitVec 32 := Scalar.extui v436
  let v438 : BitVec 32 := Scalar.subi v435 v437
  let v439 : BitVec 1 := Scalar.cmpi .ne v433 v438
  let v440 : BitVec 32 := Scalar.remsi v427 c16_i32_206
  let c0_i32_211 : BitVec 32 := 0#32
  let v441 : BitVec 1 := Scalar.cmpi .ne v440 c0_i32_211
  let v442 : BitVec 1 := Scalar.andi v439 v441
  let v428 : BitVec 32 := Scalar.divsi v427 c16_i32_206
  let c1_i32_212 : BitVec 32 := 1#32
  let v443 : BitVec 32 := Scalar.subi v428 c1_i32_212
  let v444 : BitVec 32 := Scalar.select v442 v443 v428
  let v445 : BitVec 32 := Scalar.subi v444 c0_i32_213
  let c1_i32_215 : BitVec 32 := 1#32
  let v447 : BitVec 32 := Scalar.divsi v445 c1_i32_215
  let v448 : BitVec 32 := Scalar.muli v447 c1_i32_215
  let v449 : BitVec 32 := Scalar.addi c0_i32_213 v448
  let c1_i32_216 : BitVec 32 := 1#32
  ⟨c0_i32_213, v449, c1_i32_216⟩

def k0_mult29 (v426 : BitVec 32) (v427 : BitVec 32) (k0_t15 : Fin (k0_t15_loop v427).trips) : BitVec 32 :=
  let c0_i32_213 : BitVec 32 := 0#32
  let c1_i32_216 : BitVec 32 := 1#32
  let arg9 : BitVec 32 := Scf.iv c0_i32_213 c1_i32_216 k0_t15
  let c16_i32_218 : BitVec 32 := 16#32
  let v452 : BitVec 32 := Scalar.muli arg9 c16_i32_218
  let v453 : BitVec 32 := Scalar.addi v426 v452
  v453
def k0_mult30 (v425 : BitVec 32) (v427 : BitVec 32) (k0_t15 : Fin (k0_t15_loop v427).trips) : BitVec 32 :=
  let c0_i32_213 : BitVec 32 := 0#32
  let c1_i32_216 : BitVec 32 := 1#32
  let arg9 : BitVec 32 := Scf.iv c0_i32_213 c1_i32_216 k0_t15
  let c16_i32_219 : BitVec 32 := 16#32
  let v455 : BitVec 32 := Scalar.muli arg9 c16_i32_219
  let v456 : BitVec 32 := Scalar.addi v425 v455
  v456
def k0_off43 (v425 : BitVec 32) (v427 : BitVec 32) (k0_t15 : Fin (k0_t15_loop v427).trips) : Fin 2 → Nat :=
  let c0_i32_213 : BitVec 32 := 0#32
  let c1_i32_216 : BitVec 32 := 1#32
  let arg9 : BitVec 32 := Scf.iv c0_i32_213 c1_i32_216 k0_t15
  let c16_i32_219 : BitVec 32 := 16#32
  let v455 : BitVec 32 := Scalar.muli arg9 c16_i32_219
  let v456 : BitVec 32 := Scalar.addi v425 v455
  let v457 : BitVec 32 := v456
  let c0_i32_224 : BitVec 32 := 0#32
  ![v457.toNat, 0]
def k0_off44 (v426 : BitVec 32) (v427 : BitVec 32) (k0_t15 : Fin (k0_t15_loop v427).trips) : Fin 2 → Nat :=
  let c0_i32_213 : BitVec 32 := 0#32
  let c1_i32_216 : BitVec 32 := 1#32
  let arg9 : BitVec 32 := Scf.iv c0_i32_213 c1_i32_216 k0_t15
  let c16_i32_218 : BitVec 32 := 16#32
  let v452 : BitVec 32 := Scalar.muli arg9 c16_i32_218
  let v453 : BitVec 32 := Scalar.addi v426 v452
  let v454 : BitVec 32 := v453
  let c0_i32_225 : BitVec 32 := 0#32
  ![v454.toNat, 0]
def k0_off45 (v425 : BitVec 32) (v427 : BitVec 32) (k0_t15 : Fin (k0_t15_loop v427).trips) : Fin 3 → Nat :=
  let c0_i32_220 : BitVec 32 := 0#32
  let c0_i32_213 : BitVec 32 := 0#32
  let c1_i32_216 : BitVec 32 := 1#32
  let arg9 : BitVec 32 := Scf.iv c0_i32_213 c1_i32_216 k0_t15
  let c16_i32_219 : BitVec 32 := 16#32
  let v455 : BitVec 32 := Scalar.muli arg9 c16_i32_219
  let v456 : BitVec 32 := Scalar.addi v425 v455
  let v457 : BitVec 32 := v456
  let c0_i32_223 : BitVec 32 := 0#32
  ![0, v457.toNat, 0]
@[reducible] def k0_t16_loop (v427 : BitVec 32) : Scf.Loop 32 :=
  let c0_i32_213 : BitVec 32 := 0#32
  let c0_i32_207 : BitVec 32 := 0#32
  let v429 : BitVec 1 := Scalar.cmpi .sgt v427 c0_i32_207
  let v430 : BitVec 32 := Scalar.extui v429
  let c0_i32_208 : BitVec 32 := 0#32
  let v431 : BitVec 1 := Scalar.cmpi .slt v427 c0_i32_208
  let v432 : BitVec 32 := Scalar.extui v431
  let v433 : BitVec 32 := Scalar.subi v430 v432
  let c16_i32_206 : BitVec 32 := 16#32
  let c0_i32_209 : BitVec 32 := 0#32
  let v434 : BitVec 1 := Scalar.cmpi .sgt c16_i32_206 c0_i32_209
  let v435 : BitVec 32 := Scalar.extui v434
  let c0_i32_210 : BitVec 32 := 0#32
  let v436 : BitVec 1 := Scalar.cmpi .slt c16_i32_206 c0_i32_210
  let v437 : BitVec 32 := Scalar.extui v436
  let v438 : BitVec 32 := Scalar.subi v435 v437
  let v439 : BitVec 1 := Scalar.cmpi .ne v433 v438
  let v440 : BitVec 32 := Scalar.remsi v427 c16_i32_206
  let c0_i32_211 : BitVec 32 := 0#32
  let v441 : BitVec 1 := Scalar.cmpi .ne v440 c0_i32_211
  let v442 : BitVec 1 := Scalar.andi v439 v441
  let v428 : BitVec 32 := Scalar.divsi v427 c16_i32_206
  let c1_i32_212 : BitVec 32 := 1#32
  let v443 : BitVec 32 := Scalar.subi v428 c1_i32_212
  let v444 : BitVec 32 := Scalar.select v442 v443 v428
  let v445 : BitVec 32 := Scalar.subi v444 c0_i32_213
  let c1_i32_215 : BitVec 32 := 1#32
  let v447 : BitVec 32 := Scalar.divsi v445 c1_i32_215
  let v448 : BitVec 32 := Scalar.muli v447 c1_i32_215
  let v449 : BitVec 32 := Scalar.addi c0_i32_213 v448
  let v446 : BitVec 32 := Scalar.addi c0_i32_213 v445
  let c1_i32_217 : BitVec 32 := 1#32
  ⟨v449, v446, c1_i32_217⟩
def k0_mult31 (v426 : BitVec 32) (v427 : BitVec 32) (k0_t16 : Fin (k0_t16_loop v427).trips) : BitVec 32 :=
  let c0_i32_213 : BitVec 32 := 0#32
  let c0_i32_207 : BitVec 32 := 0#32
  let v429 : BitVec 1 := Scalar.cmpi .sgt v427 c0_i32_207
  let v430 : BitVec 32 := Scalar.extui v429
  let c0_i32_208 : BitVec 32 := 0#32
  let v431 : BitVec 1 := Scalar.cmpi .slt v427 c0_i32_208
  let v432 : BitVec 32 := Scalar.extui v431
  let v433 : BitVec 32 := Scalar.subi v430 v432
  let c16_i32_206 : BitVec 32 := 16#32
  let c0_i32_209 : BitVec 32 := 0#32
  let v434 : BitVec 1 := Scalar.cmpi .sgt c16_i32_206 c0_i32_209
  let v435 : BitVec 32 := Scalar.extui v434
  let c0_i32_210 : BitVec 32 := 0#32
  let v436 : BitVec 1 := Scalar.cmpi .slt c16_i32_206 c0_i32_210
  let v437 : BitVec 32 := Scalar.extui v436
  let v438 : BitVec 32 := Scalar.subi v435 v437
  let v439 : BitVec 1 := Scalar.cmpi .ne v433 v438
  let v440 : BitVec 32 := Scalar.remsi v427 c16_i32_206
  let c0_i32_211 : BitVec 32 := 0#32
  let v441 : BitVec 1 := Scalar.cmpi .ne v440 c0_i32_211
  let v442 : BitVec 1 := Scalar.andi v439 v441
  let v428 : BitVec 32 := Scalar.divsi v427 c16_i32_206
  let c1_i32_212 : BitVec 32 := 1#32
  let v443 : BitVec 32 := Scalar.subi v428 c1_i32_212
  let v444 : BitVec 32 := Scalar.select v442 v443 v428
  let v445 : BitVec 32 := Scalar.subi v444 c0_i32_213
  let c1_i32_215 : BitVec 32 := 1#32
  let v447 : BitVec 32 := Scalar.divsi v445 c1_i32_215
  let v448 : BitVec 32 := Scalar.muli v447 c1_i32_215
  let v449 : BitVec 32 := Scalar.addi c0_i32_213 v448
  let c1_i32_217 : BitVec 32 := 1#32
  let arg9 : BitVec 32 := Scf.iv v449 c1_i32_217 k0_t16
  let c16_i32_218 : BitVec 32 := 16#32
  let v452 : BitVec 32 := Scalar.muli arg9 c16_i32_218
  let v453 : BitVec 32 := Scalar.addi v426 v452
  v453
def k0_mult32 (v425 : BitVec 32) (v427 : BitVec 32) (k0_t16 : Fin (k0_t16_loop v427).trips) : BitVec 32 :=
  let c0_i32_213 : BitVec 32 := 0#32
  let c0_i32_207 : BitVec 32 := 0#32
  let v429 : BitVec 1 := Scalar.cmpi .sgt v427 c0_i32_207
  let v430 : BitVec 32 := Scalar.extui v429
  let c0_i32_208 : BitVec 32 := 0#32
  let v431 : BitVec 1 := Scalar.cmpi .slt v427 c0_i32_208
  let v432 : BitVec 32 := Scalar.extui v431
  let v433 : BitVec 32 := Scalar.subi v430 v432
  let c16_i32_206 : BitVec 32 := 16#32
  let c0_i32_209 : BitVec 32 := 0#32
  let v434 : BitVec 1 := Scalar.cmpi .sgt c16_i32_206 c0_i32_209
  let v435 : BitVec 32 := Scalar.extui v434
  let c0_i32_210 : BitVec 32 := 0#32
  let v436 : BitVec 1 := Scalar.cmpi .slt c16_i32_206 c0_i32_210
  let v437 : BitVec 32 := Scalar.extui v436
  let v438 : BitVec 32 := Scalar.subi v435 v437
  let v439 : BitVec 1 := Scalar.cmpi .ne v433 v438
  let v440 : BitVec 32 := Scalar.remsi v427 c16_i32_206
  let c0_i32_211 : BitVec 32 := 0#32
  let v441 : BitVec 1 := Scalar.cmpi .ne v440 c0_i32_211
  let v442 : BitVec 1 := Scalar.andi v439 v441
  let v428 : BitVec 32 := Scalar.divsi v427 c16_i32_206
  let c1_i32_212 : BitVec 32 := 1#32
  let v443 : BitVec 32 := Scalar.subi v428 c1_i32_212
  let v444 : BitVec 32 := Scalar.select v442 v443 v428
  let v445 : BitVec 32 := Scalar.subi v444 c0_i32_213
  let c1_i32_215 : BitVec 32 := 1#32
  let v447 : BitVec 32 := Scalar.divsi v445 c1_i32_215
  let v448 : BitVec 32 := Scalar.muli v447 c1_i32_215
  let v449 : BitVec 32 := Scalar.addi c0_i32_213 v448
  let c1_i32_217 : BitVec 32 := 1#32
  let arg9 : BitVec 32 := Scf.iv v449 c1_i32_217 k0_t16
  let c16_i32_219 : BitVec 32 := 16#32
  let v455 : BitVec 32 := Scalar.muli arg9 c16_i32_219
  let v456 : BitVec 32 := Scalar.addi v425 v455
  v456
def k0_off46 (v425 : BitVec 32) (v427 : BitVec 32) (k0_t16 : Fin (k0_t16_loop v427).trips) : Fin 2 → Nat :=
  let c0_i32_213 : BitVec 32 := 0#32
  let c0_i32_207 : BitVec 32 := 0#32
  let v429 : BitVec 1 := Scalar.cmpi .sgt v427 c0_i32_207
  let v430 : BitVec 32 := Scalar.extui v429
  let c0_i32_208 : BitVec 32 := 0#32
  let v431 : BitVec 1 := Scalar.cmpi .slt v427 c0_i32_208
  let v432 : BitVec 32 := Scalar.extui v431
  let v433 : BitVec 32 := Scalar.subi v430 v432
  let c16_i32_206 : BitVec 32 := 16#32
  let c0_i32_209 : BitVec 32 := 0#32
  let v434 : BitVec 1 := Scalar.cmpi .sgt c16_i32_206 c0_i32_209
  let v435 : BitVec 32 := Scalar.extui v434
  let c0_i32_210 : BitVec 32 := 0#32
  let v436 : BitVec 1 := Scalar.cmpi .slt c16_i32_206 c0_i32_210
  let v437 : BitVec 32 := Scalar.extui v436
  let v438 : BitVec 32 := Scalar.subi v435 v437
  let v439 : BitVec 1 := Scalar.cmpi .ne v433 v438
  let v440 : BitVec 32 := Scalar.remsi v427 c16_i32_206
  let c0_i32_211 : BitVec 32 := 0#32
  let v441 : BitVec 1 := Scalar.cmpi .ne v440 c0_i32_211
  let v442 : BitVec 1 := Scalar.andi v439 v441
  let v428 : BitVec 32 := Scalar.divsi v427 c16_i32_206
  let c1_i32_212 : BitVec 32 := 1#32
  let v443 : BitVec 32 := Scalar.subi v428 c1_i32_212
  let v444 : BitVec 32 := Scalar.select v442 v443 v428
  let v445 : BitVec 32 := Scalar.subi v444 c0_i32_213
  let c1_i32_215 : BitVec 32 := 1#32
  let v447 : BitVec 32 := Scalar.divsi v445 c1_i32_215
  let v448 : BitVec 32 := Scalar.muli v447 c1_i32_215
  let v449 : BitVec 32 := Scalar.addi c0_i32_213 v448
  let c1_i32_217 : BitVec 32 := 1#32
  let arg9 : BitVec 32 := Scf.iv v449 c1_i32_217 k0_t16
  let c16_i32_219 : BitVec 32 := 16#32
  let v455 : BitVec 32 := Scalar.muli arg9 c16_i32_219
  let v456 : BitVec 32 := Scalar.addi v425 v455
  let v457 : BitVec 32 := v456
  let c0_i32_224 : BitVec 32 := 0#32
  ![v457.toNat, 0]
def k0_off47 (v426 : BitVec 32) (v427 : BitVec 32) (k0_t16 : Fin (k0_t16_loop v427).trips) : Fin 2 → Nat :=
  let c0_i32_213 : BitVec 32 := 0#32
  let c0_i32_207 : BitVec 32 := 0#32
  let v429 : BitVec 1 := Scalar.cmpi .sgt v427 c0_i32_207
  let v430 : BitVec 32 := Scalar.extui v429
  let c0_i32_208 : BitVec 32 := 0#32
  let v431 : BitVec 1 := Scalar.cmpi .slt v427 c0_i32_208
  let v432 : BitVec 32 := Scalar.extui v431
  let v433 : BitVec 32 := Scalar.subi v430 v432
  let c16_i32_206 : BitVec 32 := 16#32
  let c0_i32_209 : BitVec 32 := 0#32
  let v434 : BitVec 1 := Scalar.cmpi .sgt c16_i32_206 c0_i32_209
  let v435 : BitVec 32 := Scalar.extui v434
  let c0_i32_210 : BitVec 32 := 0#32
  let v436 : BitVec 1 := Scalar.cmpi .slt c16_i32_206 c0_i32_210
  let v437 : BitVec 32 := Scalar.extui v436
  let v438 : BitVec 32 := Scalar.subi v435 v437
  let v439 : BitVec 1 := Scalar.cmpi .ne v433 v438
  let v440 : BitVec 32 := Scalar.remsi v427 c16_i32_206
  let c0_i32_211 : BitVec 32 := 0#32
  let v441 : BitVec 1 := Scalar.cmpi .ne v440 c0_i32_211
  let v442 : BitVec 1 := Scalar.andi v439 v441
  let v428 : BitVec 32 := Scalar.divsi v427 c16_i32_206
  let c1_i32_212 : BitVec 32 := 1#32
  let v443 : BitVec 32 := Scalar.subi v428 c1_i32_212
  let v444 : BitVec 32 := Scalar.select v442 v443 v428
  let v445 : BitVec 32 := Scalar.subi v444 c0_i32_213
  let c1_i32_215 : BitVec 32 := 1#32
  let v447 : BitVec 32 := Scalar.divsi v445 c1_i32_215
  let v448 : BitVec 32 := Scalar.muli v447 c1_i32_215
  let v449 : BitVec 32 := Scalar.addi c0_i32_213 v448
  let c1_i32_217 : BitVec 32 := 1#32
  let arg9 : BitVec 32 := Scf.iv v449 c1_i32_217 k0_t16
  let c16_i32_218 : BitVec 32 := 16#32
  let v452 : BitVec 32 := Scalar.muli arg9 c16_i32_218
  let v453 : BitVec 32 := Scalar.addi v426 v452
  let v454 : BitVec 32 := v453
  let c0_i32_225 : BitVec 32 := 0#32
  ![v454.toNat, 0]
def k0_off48 (v425 : BitVec 32) (v427 : BitVec 32) (k0_t16 : Fin (k0_t16_loop v427).trips) : Fin 3 → Nat :=
  let c0_i32_220 : BitVec 32 := 0#32
  let c0_i32_213 : BitVec 32 := 0#32
  let c0_i32_207 : BitVec 32 := 0#32
  let v429 : BitVec 1 := Scalar.cmpi .sgt v427 c0_i32_207
  let v430 : BitVec 32 := Scalar.extui v429
  let c0_i32_208 : BitVec 32 := 0#32
  let v431 : BitVec 1 := Scalar.cmpi .slt v427 c0_i32_208
  let v432 : BitVec 32 := Scalar.extui v431
  let v433 : BitVec 32 := Scalar.subi v430 v432
  let c16_i32_206 : BitVec 32 := 16#32
  let c0_i32_209 : BitVec 32 := 0#32
  let v434 : BitVec 1 := Scalar.cmpi .sgt c16_i32_206 c0_i32_209
  let v435 : BitVec 32 := Scalar.extui v434
  let c0_i32_210 : BitVec 32 := 0#32
  let v436 : BitVec 1 := Scalar.cmpi .slt c16_i32_206 c0_i32_210
  let v437 : BitVec 32 := Scalar.extui v436
  let v438 : BitVec 32 := Scalar.subi v435 v437
  let v439 : BitVec 1 := Scalar.cmpi .ne v433 v438
  let v440 : BitVec 32 := Scalar.remsi v427 c16_i32_206
  let c0_i32_211 : BitVec 32 := 0#32
  let v441 : BitVec 1 := Scalar.cmpi .ne v440 c0_i32_211
  let v442 : BitVec 1 := Scalar.andi v439 v441
  let v428 : BitVec 32 := Scalar.divsi v427 c16_i32_206
  let c1_i32_212 : BitVec 32 := 1#32
  let v443 : BitVec 32 := Scalar.subi v428 c1_i32_212
  let v444 : BitVec 32 := Scalar.select v442 v443 v428
  let v445 : BitVec 32 := Scalar.subi v444 c0_i32_213
  let c1_i32_215 : BitVec 32 := 1#32
  let v447 : BitVec 32 := Scalar.divsi v445 c1_i32_215
  let v448 : BitVec 32 := Scalar.muli v447 c1_i32_215
  let v449 : BitVec 32 := Scalar.addi c0_i32_213 v448
  let c1_i32_217 : BitVec 32 := 1#32
  let arg9 : BitVec 32 := Scf.iv v449 c1_i32_217 k0_t16
  let c16_i32_219 : BitVec 32 := 16#32
  let v455 : BitVec 32 := Scalar.muli arg9 c16_i32_219
  let v456 : BitVec 32 := Scalar.addi v425 v455
  let v457 : BitVec 32 := v456
  let c0_i32_223 : BitVec 32 := 0#32
  ![0, v457.toNat, 0]

def k0_chk8 (i : grid0.Coords) (v425 : BitVec 32) (v426 : BitVec 32) (v427 : BitVec 32) : Prop :=
  (∀ (k0_h1 : k0_cond1 i = 1#1), (k0_t15_loop v427).OK) ∧
  (∀ k0_t15 : Fin (k0_t15_loop v427).trips, ∀ (k0_h1 : k0_cond1 i = 1#1), 16 ∣ (k0_mult29 v426 v427 k0_t15).toNat) ∧
  (∀ k0_t15 : Fin (k0_t15_loop v427).trips, ∀ (k0_h1 : k0_cond1 i = 1#1), 16 ∣ (k0_mult30 v425 v427 k0_t15).toNat) ∧
  (∀ k0_t15 : Fin (k0_t15_loop v427).trips, ∀ (k0_h1 : k0_cond1 i = 1#1), ∀ a, (k0_off43 v425 v427 k0_t15) a + S16x1024.size a ≤ S1152x1024.size a) ∧
  (∀ k0_t15 : Fin (k0_t15_loop v427).trips, ∀ (k0_h1 : k0_cond1 i = 1#1), ∀ a, (k0_off44 v426 v427 k0_t15) a + S16x1024.size a ≤ S44032x1024.size a) ∧
  (∀ k0_t15 : Fin (k0_t15_loop v427).trips, ∀ (k0_h1 : k0_cond1 i = 1#1), ∀ (hinb : ∀ a, (k0_off44 v426 v427 k0_t15) a + S16x1024.size a ≤ S44032x1024.size a), (Rect.unit (s := S44032x1024) (k0_off44 v426 v427 k0_t15) S16x1024.size hinb).WholeWords (EltTy.packing .bf16)) ∧
  (∀ k0_t15 : Fin (k0_t15_loop v427).trips, ∀ (k0_h1 : k0_cond1 i = 1#1), ∀ a, (k0_off45 v425 v427 k0_t15) a + S1x16x1024.size a ≤ S2x1152x1024.size a) ∧
  (∀ k0_t15 : Fin (k0_t15_loop v427).trips, ∀ (k0_h1 : k0_cond1 i = 1#1), ∀ (hinb : ∀ a, (k0_off45 v425 v427 k0_t15) a + S1x16x1024.size a ≤ S2x1152x1024.size a), (Rect.unit (s := S2x1152x1024) (k0_off45 v425 v427 k0_t15) S1x16x1024.size hinb).WholeWords (EltTy.packing .bf16)) ∧
  (∀ (k0_h1 : k0_cond1 i = 1#1), (k0_t16_loop v427).OK) ∧
  (∀ k0_t16 : Fin (k0_t16_loop v427).trips, ∀ (k0_h1 : k0_cond1 i = 1#1), 16 ∣ (k0_mult31 v426 v427 k0_t16).toNat) ∧
  (∀ k0_t16 : Fin (k0_t16_loop v427).trips, ∀ (k0_h1 : k0_cond1 i = 1#1), 16 ∣ (k0_mult32 v425 v427 k0_t16).toNat) ∧
  (∀ k0_t16 : Fin (k0_t16_loop v427).trips, ∀ (k0_h1 : k0_cond1 i = 1#1), ∀ a, (k0_off46 v425 v427 k0_t16) a + S16x1024.size a ≤ S1152x1024.size a) ∧
  (∀ k0_t16 : Fin (k0_t16_loop v427).trips, ∀ (k0_h1 : k0_cond1 i = 1#1), ∀ a, (k0_off47 v426 v427 k0_t16) a + S16x1024.size a ≤ S44032x1024.size a) ∧
  (∀ k0_t16 : Fin (k0_t16_loop v427).trips, ∀ (k0_h1 : k0_cond1 i = 1#1), ∀ (hinb : ∀ a, (k0_off47 v426 v427 k0_t16) a + S16x1024.size a ≤ S44032x1024.size a), (Rect.unit (s := S44032x1024) (k0_off47 v426 v427 k0_t16) S16x1024.size hinb).WholeWords (EltTy.packing .bf16)) ∧
  (∀ k0_t16 : Fin (k0_t16_loop v427).trips, ∀ (k0_h1 : k0_cond1 i = 1#1), ∀ a, (k0_off48 v425 v427 k0_t16) a + S1x16x1024.size a ≤ S2x1152x1024.size a) ∧
  (∀ k0_t16 : Fin (k0_t16_loop v427).trips, ∀ (k0_h1 : k0_cond1 i = 1#1), ∀ (hinb : ∀ a, (k0_off48 v425 v427 k0_t16) a + S1x16x1024.size a ≤ S2x1152x1024.size a), (Rect.unit (s := S2x1152x1024) (k0_off48 v425 v427 k0_t16) S1x16x1024.size hinb).WholeWords (EltTy.packing .bf16))
theorem k0_t15_ok : ∀ (i : grid0.Coords) (v425 : BitVec 32) (v426 : BitVec 32) (v427 : BitVec 32) (k0_hw8 : k0_chk8 i v425 v426 v427), ∀ (k0_h1 : k0_cond1 i = 1#1), (k0_t15_loop v427).OK := fun i v425 v426 v427 k0_hw8 k0_h1 => k0_hw8.1 k0_h1
theorem k0_mult29_dvd : ∀ (i : grid0.Coords) (v425 : BitVec 32) (v426 : BitVec 32) (v427 : BitVec 32) (k0_hw8 : k0_chk8 i v425 v426 v427) (k0_t15 : Fin (k0_t15_loop v427).trips), ∀ (k0_h1 : k0_cond1 i = 1#1), 16 ∣ (k0_mult29 v426 v427 k0_t15).toNat := fun i v425 v426 v427 k0_hw8 k0_t15 k0_h1 => k0_hw8.2.1 k0_t15 k0_h1
theorem k0_mult30_dvd : ∀ (i : grid0.Coords) (v425 : BitVec 32) (v426 : BitVec 32) (v427 : BitVec 32) (k0_hw8 : k0_chk8 i v425 v426 v427) (k0_t15 : Fin (k0_t15_loop v427).trips), ∀ (k0_h1 : k0_cond1 i = 1#1), 16 ∣ (k0_mult30 v425 v427 k0_t15).toNat := fun i v425 v426 v427 k0_hw8 k0_t15 k0_h1 => k0_hw8.2.2.1 k0_t15 k0_h1
theorem k0_off43_inb : ∀ (i : grid0.Coords) (v425 : BitVec 32) (v426 : BitVec 32) (v427 : BitVec 32) (k0_hw8 : k0_chk8 i v425 v426 v427) (k0_t15 : Fin (k0_t15_loop v427).trips), ∀ (k0_h1 : k0_cond1 i = 1#1), ∀ a, (k0_off43 v425 v427 k0_t15) a + S16x1024.size a ≤ S1152x1024.size a := fun i v425 v426 v427 k0_hw8 k0_t15 k0_h1 => k0_hw8.2.2.2.1 k0_t15 k0_h1
theorem k0_off44_inb : ∀ (i : grid0.Coords) (v425 : BitVec 32) (v426 : BitVec 32) (v427 : BitVec 32) (k0_hw8 : k0_chk8 i v425 v426 v427) (k0_t15 : Fin (k0_t15_loop v427).trips), ∀ (k0_h1 : k0_cond1 i = 1#1), ∀ a, (k0_off44 v426 v427 k0_t15) a + S16x1024.size a ≤ S44032x1024.size a := fun i v425 v426 v427 k0_hw8 k0_t15 k0_h1 => k0_hw8.2.2.2.2.1 k0_t15 k0_h1
theorem k0_off44_wordsbf16 : ∀ (i : grid0.Coords) (v425 : BitVec 32) (v426 : BitVec 32) (v427 : BitVec 32) (k0_hw8 : k0_chk8 i v425 v426 v427) (k0_t15 : Fin (k0_t15_loop v427).trips), ∀ (k0_h1 : k0_cond1 i = 1#1), (Rect.unit (s := S44032x1024) (k0_off44 v426 v427 k0_t15) S16x1024.size (k0_off44_inb i v425 v426 v427 k0_hw8 k0_t15 k0_h1)).WholeWords (EltTy.packing .bf16) := fun i v425 v426 v427 k0_hw8 k0_t15 k0_h1 => k0_hw8.2.2.2.2.2.1 k0_t15 k0_h1 (k0_off44_inb i v425 v426 v427 k0_hw8 k0_t15 k0_h1)
theorem k0_off45_inb : ∀ (i : grid0.Coords) (v425 : BitVec 32) (v426 : BitVec 32) (v427 : BitVec 32) (k0_hw8 : k0_chk8 i v425 v426 v427) (k0_t15 : Fin (k0_t15_loop v427).trips), ∀ (k0_h1 : k0_cond1 i = 1#1), ∀ a, (k0_off45 v425 v427 k0_t15) a + S1x16x1024.size a ≤ S2x1152x1024.size a := fun i v425 v426 v427 k0_hw8 k0_t15 k0_h1 => k0_hw8.2.2.2.2.2.2.1 k0_t15 k0_h1
theorem k0_off45_wordsbf16 : ∀ (i : grid0.Coords) (v425 : BitVec 32) (v426 : BitVec 32) (v427 : BitVec 32) (k0_hw8 : k0_chk8 i v425 v426 v427) (k0_t15 : Fin (k0_t15_loop v427).trips), ∀ (k0_h1 : k0_cond1 i = 1#1), (Rect.unit (s := S2x1152x1024) (k0_off45 v425 v427 k0_t15) S1x16x1024.size (k0_off45_inb i v425 v426 v427 k0_hw8 k0_t15 k0_h1)).WholeWords (EltTy.packing .bf16) := fun i v425 v426 v427 k0_hw8 k0_t15 k0_h1 => k0_hw8.2.2.2.2.2.2.2.1 k0_t15 k0_h1 (k0_off45_inb i v425 v426 v427 k0_hw8 k0_t15 k0_h1)
theorem k0_t16_ok : ∀ (i : grid0.Coords) (v425 : BitVec 32) (v426 : BitVec 32) (v427 : BitVec 32) (k0_hw8 : k0_chk8 i v425 v426 v427), ∀ (k0_h1 : k0_cond1 i = 1#1), (k0_t16_loop v427).OK := fun i v425 v426 v427 k0_hw8 k0_h1 => k0_hw8.2.2.2.2.2.2.2.2.1 k0_h1
theorem k0_mult31_dvd : ∀ (i : grid0.Coords) (v425 : BitVec 32) (v426 : BitVec 32) (v427 : BitVec 32) (k0_hw8 : k0_chk8 i v425 v426 v427) (k0_t16 : Fin (k0_t16_loop v427).trips), ∀ (k0_h1 : k0_cond1 i = 1#1), 16 ∣ (k0_mult31 v426 v427 k0_t16).toNat := fun i v425 v426 v427 k0_hw8 k0_t16 k0_h1 => k0_hw8.2.2.2.2.2.2.2.2.2.1 k0_t16 k0_h1
theorem k0_mult32_dvd : ∀ (i : grid0.Coords) (v425 : BitVec 32) (v426 : BitVec 32) (v427 : BitVec 32) (k0_hw8 : k0_chk8 i v425 v426 v427) (k0_t16 : Fin (k0_t16_loop v427).trips), ∀ (k0_h1 : k0_cond1 i = 1#1), 16 ∣ (k0_mult32 v425 v427 k0_t16).toNat := fun i v425 v426 v427 k0_hw8 k0_t16 k0_h1 => k0_hw8.2.2.2.2.2.2.2.2.2.2.1 k0_t16 k0_h1
theorem k0_off46_inb : ∀ (i : grid0.Coords) (v425 : BitVec 32) (v426 : BitVec 32) (v427 : BitVec 32) (k0_hw8 : k0_chk8 i v425 v426 v427) (k0_t16 : Fin (k0_t16_loop v427).trips), ∀ (k0_h1 : k0_cond1 i = 1#1), ∀ a, (k0_off46 v425 v427 k0_t16) a + S16x1024.size a ≤ S1152x1024.size a := fun i v425 v426 v427 k0_hw8 k0_t16 k0_h1 => k0_hw8.2.2.2.2.2.2.2.2.2.2.2.1 k0_t16 k0_h1
theorem k0_off47_inb : ∀ (i : grid0.Coords) (v425 : BitVec 32) (v426 : BitVec 32) (v427 : BitVec 32) (k0_hw8 : k0_chk8 i v425 v426 v427) (k0_t16 : Fin (k0_t16_loop v427).trips), ∀ (k0_h1 : k0_cond1 i = 1#1), ∀ a, (k0_off47 v426 v427 k0_t16) a + S16x1024.size a ≤ S44032x1024.size a := fun i v425 v426 v427 k0_hw8 k0_t16 k0_h1 => k0_hw8.2.2.2.2.2.2.2.2.2.2.2.2.1 k0_t16 k0_h1
theorem k0_off47_wordsbf16 : ∀ (i : grid0.Coords) (v425 : BitVec 32) (v426 : BitVec 32) (v427 : BitVec 32) (k0_hw8 : k0_chk8 i v425 v426 v427) (k0_t16 : Fin (k0_t16_loop v427).trips), ∀ (k0_h1 : k0_cond1 i = 1#1), (Rect.unit (s := S44032x1024) (k0_off47 v426 v427 k0_t16) S16x1024.size (k0_off47_inb i v425 v426 v427 k0_hw8 k0_t16 k0_h1)).WholeWords (EltTy.packing .bf16) := fun i v425 v426 v427 k0_hw8 k0_t16 k0_h1 => k0_hw8.2.2.2.2.2.2.2.2.2.2.2.2.2.1 k0_t16 k0_h1 (k0_off47_inb i v425 v426 v427 k0_hw8 k0_t16 k0_h1)
theorem k0_off48_inb : ∀ (i : grid0.Coords) (v425 : BitVec 32) (v426 : BitVec 32) (v427 : BitVec 32) (k0_hw8 : k0_chk8 i v425 v426 v427) (k0_t16 : Fin (k0_t16_loop v427).trips), ∀ (k0_h1 : k0_cond1 i = 1#1), ∀ a, (k0_off48 v425 v427 k0_t16) a + S1x16x1024.size a ≤ S2x1152x1024.size a := fun i v425 v426 v427 k0_hw8 k0_t16 k0_h1 => k0_hw8.2.2.2.2.2.2.2.2.2.2.2.2.2.2.1 k0_t16 k0_h1
theorem k0_off48_wordsbf16 : ∀ (i : grid0.Coords) (v425 : BitVec 32) (v426 : BitVec 32) (v427 : BitVec 32) (k0_hw8 : k0_chk8 i v425 v426 v427) (k0_t16 : Fin (k0_t16_loop v427).trips), ∀ (k0_h1 : k0_cond1 i = 1#1), (Rect.unit (s := S2x1152x1024) (k0_off48 v425 v427 k0_t16) S1x16x1024.size (k0_off48_inb i v425 v426 v427 k0_hw8 k0_t16 k0_h1)).WholeWords (EltTy.packing .bf16) := fun i v425 v426 v427 k0_hw8 k0_t16 k0_h1 => k0_hw8.2.2.2.2.2.2.2.2.2.2.2.2.2.2.2 k0_t16 k0_h1 (k0_off48_inb i v425 v426 v427 k0_hw8 k0_t16 k0_h1)

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c32_i32 : BitVec 32 := 32#32
  let v14 : BitVec 1 := Scalar.cmpi .slt v13 c32_i32
  let v15 : BitVec 32 := Scalar.extui v14
  let c0_i32_6 : BitVec 32 := 0#32
  let v16 : BitVec 1 := Scalar.cmpi .ne v15 c0_i32_6
  v16

def k0_off49 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v235 : Index := Scalar.indexCast v233
  let c0_87 : Index := 0#32
  ![v235.toNat, 0]
def k0_off50 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v237 : Index := Scalar.indexCast v233
  let c16 : Index := 16#32
  ![v237.toNat, 16]
def k0_off51 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v239 : Index := Scalar.indexCast v233
  let c8_88 : Index := 8#32
  ![v239.toNat, 8]
@[reducible] def k0_t17_loop (v240 : BitVec 32) : Scf.Loop 32 :=
  let c0_i32_96 : BitVec 32 := 0#32
  let c0_i32_90 : BitVec 32 := 0#32
  let v242 : BitVec 1 := Scalar.cmpi .sgt v240 c0_i32_90
  let v243 : BitVec 32 := Scalar.extui v242
  let c0_i32_91 : BitVec 32 := 0#32
  let v244 : BitVec 1 := Scalar.cmpi .slt v240 c0_i32_91
  let v245 : BitVec 32 := Scalar.extui v244
  let v246 : BitVec 32 := Scalar.subi v243 v245
  let c16_i32_89 : BitVec 32 := 16#32
  let c0_i32_92 : BitVec 32 := 0#32
  let v247 : BitVec 1 := Scalar.cmpi .sgt c16_i32_89 c0_i32_92
  let v248 : BitVec 32 := Scalar.extui v247
  let c0_i32_93 : BitVec 32 := 0#32
  let v249 : BitVec 1 := Scalar.cmpi .slt c16_i32_89 c0_i32_93
  let v250 : BitVec 32 := Scalar.extui v249
  let v251 : BitVec 32 := Scalar.subi v248 v250
  let v252 : BitVec 1 := Scalar.cmpi .ne v246 v251
  let v253 : BitVec 32 := Scalar.remsi v240 c16_i32_89
  let c0_i32_94 : BitVec 32 := 0#32
  let v254 : BitVec 1 := Scalar.cmpi .ne v253 c0_i32_94
  let v255 : BitVec 1 := Scalar.andi v252 v254
  let v241 : BitVec 32 := Scalar.divsi v240 c16_i32_89
  let c1_i32_95 : BitVec 32 := 1#32
  let v256 : BitVec 32 := Scalar.subi v241 c1_i32_95
  let v257 : BitVec 32 := Scalar.select v255 v256 v241
  let v258 : BitVec 32 := Scalar.subi v257 c0_i32_96
  let c1_i32_98 : BitVec 32 := 1#32
  let v260 : BitVec 32 := Scalar.divsi v258 c1_i32_98
  let v261 : BitVec 32 := Scalar.muli v260 c1_i32_98
  let v262 : BitVec 32 := Scalar.addi c0_i32_96 v261
  let c1_i32_99 : BitVec 32 := 1#32
  ⟨c0_i32_96, v262, c1_i32_99⟩

def k0_mult33 (v238 : BitVec 32) (v240 : BitVec 32) (k0_t17 : Fin (k0_t17_loop v240).trips) : BitVec 32 :=
  let c0_i32_96 : BitVec 32 := 0#32
  let c1_i32_99 : BitVec 32 := 1#32
  let arg9 : BitVec 32 := Scf.iv c0_i32_96 c1_i32_99 k0_t17
  let c16_i32_192 : BitVec 32 := 16#32
  let v475 : BitVec 32 := Scalar.muli arg9 c16_i32_192
  let v476 : BitVec 32 := Scalar.addi v238 v475
  v476
def k0_mult34 (v236 : BitVec 32) (v240 : BitVec 32) (k0_t17 : Fin (k0_t17_loop v240).trips) : BitVec 32 :=
  let c0_i32_96 : BitVec 32 := 0#32
  let c1_i32_99 : BitVec 32 := 1#32
  let arg9 : BitVec 32 := Scf.iv c0_i32_96 c1_i32_99 k0_t17
  let c16_i32_193 : BitVec 32 := 16#32
  let v478 : BitVec 32 := Scalar.muli arg9 c16_i32_193
  let v479 : BitVec 32 := Scalar.addi v236 v478
  v479
def k0_off52 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off53 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off54 (v236 : BitVec 32) (v240 : BitVec 32) (k0_t17 : Fin (k0_t17_loop v240).trips) : Fin 2 → Nat :=
  let c0_i32_96 : BitVec 32 := 0#32
  let c1_i32_99 : BitVec 32 := 1#32
  let arg9 : BitVec 32 := Scf.iv c0_i32_96 c1_i32_99 k0_t17
  let c16_i32_193 : BitVec 32 := 16#32
  let v478 : BitVec 32 := Scalar.muli arg9 c16_i32_193
  let v479 : BitVec 32 := Scalar.addi v236 v478
  let v480 : BitVec 32 := v479
  let c0_i32_196 : BitVec 32 := 0#32
  ![v480.toNat, 0]
def k0_off55 (v238 : BitVec 32) (v240 : BitVec 32) (k0_t17 : Fin (k0_t17_loop v240).trips) : Fin 2 → Nat :=
  let c0_i32_96 : BitVec 32 := 0#32
  let c1_i32_99 : BitVec 32 := 1#32
  let arg9 : BitVec 32 := Scf.iv c0_i32_96 c1_i32_99 k0_t17
  let c16_i32_192 : BitVec 32 := 16#32
  let v475 : BitVec 32 := Scalar.muli arg9 c16_i32_192
  let v476 : BitVec 32 := Scalar.addi v238 v475
  let v477 : BitVec 32 := v476
  let c0_i32_197 : BitVec 32 := 0#32
  ![v477.toNat, 0]
def k0_off56 (i : grid0.Coords) (v236 : BitVec 32) (v240 : BitVec 32) (k0_t17 : Fin (k0_t17_loop v240).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_96 : BitVec 32 := 0#32
  let c1_i32_99 : BitVec 32 := 1#32
  let arg9 : BitVec 32 := Scf.iv c0_i32_96 c1_i32_99 k0_t17
  let c16_i32_193 : BitVec 32 := 16#32
  let v478 : BitVec 32 := Scalar.muli arg9 c16_i32_193
  let v479 : BitVec 32 := Scalar.addi v236 v478
  let v480 : BitVec 32 := v479
  let c0_i32_195 : BitVec 32 := 0#32
  ![v234.toNat, v480.toNat, 0]
@[reducible] def k0_t18_loop (v240 : BitVec 32) : Scf.Loop 32 :=
  let c0_i32_96 : BitVec 32 := 0#32
  let c0_i32_90 : BitVec 32 := 0#32
  let v242 : BitVec 1 := Scalar.cmpi .sgt v240 c0_i32_90
  let v243 : BitVec 32 := Scalar.extui v242
  let c0_i32_91 : BitVec 32 := 0#32
  let v244 : BitVec 1 := Scalar.cmpi .slt v240 c0_i32_91
  let v245 : BitVec 32 := Scalar.extui v244
  let v246 : BitVec 32 := Scalar.subi v243 v245
  let c16_i32_89 : BitVec 32 := 16#32
  let c0_i32_92 : BitVec 32 := 0#32
  let v247 : BitVec 1 := Scalar.cmpi .sgt c16_i32_89 c0_i32_92
  let v248 : BitVec 32 := Scalar.extui v247
  let c0_i32_93 : BitVec 32 := 0#32
  let v249 : BitVec 1 := Scalar.cmpi .slt c16_i32_89 c0_i32_93
  let v250 : BitVec 32 := Scalar.extui v249
  let v251 : BitVec 32 := Scalar.subi v248 v250
  let v252 : BitVec 1 := Scalar.cmpi .ne v246 v251
  let v253 : BitVec 32 := Scalar.remsi v240 c16_i32_89
  let c0_i32_94 : BitVec 32 := 0#32
  let v254 : BitVec 1 := Scalar.cmpi .ne v253 c0_i32_94
  let v255 : BitVec 1 := Scalar.andi v252 v254
  let v241 : BitVec 32 := Scalar.divsi v240 c16_i32_89
  let c1_i32_95 : BitVec 32 := 1#32
  let v256 : BitVec 32 := Scalar.subi v241 c1_i32_95
  let v257 : BitVec 32 := Scalar.select v255 v256 v241
  let v258 : BitVec 32 := Scalar.subi v257 c0_i32_96
  let c1_i32_98 : BitVec 32 := 1#32
  let v260 : BitVec 32 := Scalar.divsi v258 c1_i32_98
  let v261 : BitVec 32 := Scalar.muli v260 c1_i32_98
  let v262 : BitVec 32 := Scalar.addi c0_i32_96 v261
  let v259 : BitVec 32 := Scalar.addi c0_i32_96 v258
  let c1_i32_100 : BitVec 32 := 1#32
  ⟨v262, v259, c1_i32_100⟩
def k0_mult35 (v238 : BitVec 32) (v240 : BitVec 32) (k0_t18 : Fin (k0_t18_loop v240).trips) : BitVec 32 :=
  let c0_i32_96 : BitVec 32 := 0#32
  let c0_i32_90 : BitVec 32 := 0#32
  let v242 : BitVec 1 := Scalar.cmpi .sgt v240 c0_i32_90
  let v243 : BitVec 32 := Scalar.extui v242
  let c0_i32_91 : BitVec 32 := 0#32
  let v244 : BitVec 1 := Scalar.cmpi .slt v240 c0_i32_91
  let v245 : BitVec 32 := Scalar.extui v244
  let v246 : BitVec 32 := Scalar.subi v243 v245
  let c16_i32_89 : BitVec 32 := 16#32
  let c0_i32_92 : BitVec 32 := 0#32
  let v247 : BitVec 1 := Scalar.cmpi .sgt c16_i32_89 c0_i32_92
  let v248 : BitVec 32 := Scalar.extui v247
  let c0_i32_93 : BitVec 32 := 0#32
  let v249 : BitVec 1 := Scalar.cmpi .slt c16_i32_89 c0_i32_93
  let v250 : BitVec 32 := Scalar.extui v249
  let v251 : BitVec 32 := Scalar.subi v248 v250
  let v252 : BitVec 1 := Scalar.cmpi .ne v246 v251
  let v253 : BitVec 32 := Scalar.remsi v240 c16_i32_89
  let c0_i32_94 : BitVec 32 := 0#32
  let v254 : BitVec 1 := Scalar.cmpi .ne v253 c0_i32_94
  let v255 : BitVec 1 := Scalar.andi v252 v254
  let v241 : BitVec 32 := Scalar.divsi v240 c16_i32_89
  let c1_i32_95 : BitVec 32 := 1#32
  let v256 : BitVec 32 := Scalar.subi v241 c1_i32_95
  let v257 : BitVec 32 := Scalar.select v255 v256 v241
  let v258 : BitVec 32 := Scalar.subi v257 c0_i32_96
  let c1_i32_98 : BitVec 32 := 1#32
  let v260 : BitVec 32 := Scalar.divsi v258 c1_i32_98
  let v261 : BitVec 32 := Scalar.muli v260 c1_i32_98
  let v262 : BitVec 32 := Scalar.addi c0_i32_96 v261
  let c1_i32_100 : BitVec 32 := 1#32
  let arg9 : BitVec 32 := Scf.iv v262 c1_i32_100 k0_t18
  let c16_i32_192 : BitVec 32 := 16#32
  let v475 : BitVec 32 := Scalar.muli arg9 c16_i32_192
  let v476 : BitVec 32 := Scalar.addi v238 v475
  v476
def k0_mult36 (v236 : BitVec 32) (v240 : BitVec 32) (k0_t18 : Fin (k0_t18_loop v240).trips) : BitVec 32 :=
  let c0_i32_96 : BitVec 32 := 0#32
  let c0_i32_90 : BitVec 32 := 0#32
  let v242 : BitVec 1 := Scalar.cmpi .sgt v240 c0_i32_90
  let v243 : BitVec 32 := Scalar.extui v242
  let c0_i32_91 : BitVec 32 := 0#32
  let v244 : BitVec 1 := Scalar.cmpi .slt v240 c0_i32_91
  let v245 : BitVec 32 := Scalar.extui v244
  let v246 : BitVec 32 := Scalar.subi v243 v245
  let c16_i32_89 : BitVec 32 := 16#32
  let c0_i32_92 : BitVec 32 := 0#32
  let v247 : BitVec 1 := Scalar.cmpi .sgt c16_i32_89 c0_i32_92
  let v248 : BitVec 32 := Scalar.extui v247
  let c0_i32_93 : BitVec 32 := 0#32
  let v249 : BitVec 1 := Scalar.cmpi .slt c16_i32_89 c0_i32_93
  let v250 : BitVec 32 := Scalar.extui v249
  let v251 : BitVec 32 := Scalar.subi v248 v250
  let v252 : BitVec 1 := Scalar.cmpi .ne v246 v251
  let v253 : BitVec 32 := Scalar.remsi v240 c16_i32_89
  let c0_i32_94 : BitVec 32 := 0#32
  let v254 : BitVec 1 := Scalar.cmpi .ne v253 c0_i32_94
  let v255 : BitVec 1 := Scalar.andi v252 v254
  let v241 : BitVec 32 := Scalar.divsi v240 c16_i32_89
  let c1_i32_95 : BitVec 32 := 1#32
  let v256 : BitVec 32 := Scalar.subi v241 c1_i32_95
  let v257 : BitVec 32 := Scalar.select v255 v256 v241
  let v258 : BitVec 32 := Scalar.subi v257 c0_i32_96
  let c1_i32_98 : BitVec 32 := 1#32
  let v260 : BitVec 32 := Scalar.divsi v258 c1_i32_98
  let v261 : BitVec 32 := Scalar.muli v260 c1_i32_98
  let v262 : BitVec 32 := Scalar.addi c0_i32_96 v261
  let c1_i32_100 : BitVec 32 := 1#32
  let arg9 : BitVec 32 := Scf.iv v262 c1_i32_100 k0_t18
  let c16_i32_193 : BitVec 32 := 16#32
  let v478 : BitVec 32 := Scalar.muli arg9 c16_i32_193
  let v479 : BitVec 32 := Scalar.addi v236 v478
  v479
def k0_off57 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off58 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off59 (v236 : BitVec 32) (v240 : BitVec 32) (k0_t18 : Fin (k0_t18_loop v240).trips) : Fin 2 → Nat :=
  let c0_i32_96 : BitVec 32 := 0#32
  let c0_i32_90 : BitVec 32 := 0#32
  let v242 : BitVec 1 := Scalar.cmpi .sgt v240 c0_i32_90
  let v243 : BitVec 32 := Scalar.extui v242
  let c0_i32_91 : BitVec 32 := 0#32
  let v244 : BitVec 1 := Scalar.cmpi .slt v240 c0_i32_91
  let v245 : BitVec 32 := Scalar.extui v244
  let v246 : BitVec 32 := Scalar.subi v243 v245
  let c16_i32_89 : BitVec 32 := 16#32
  let c0_i32_92 : BitVec 32 := 0#32
  let v247 : BitVec 1 := Scalar.cmpi .sgt c16_i32_89 c0_i32_92
  let v248 : BitVec 32 := Scalar.extui v247
  let c0_i32_93 : BitVec 32 := 0#32
  let v249 : BitVec 1 := Scalar.cmpi .slt c16_i32_89 c0_i32_93
  let v250 : BitVec 32 := Scalar.extui v249
  let v251 : BitVec 32 := Scalar.subi v248 v250
  let v252 : BitVec 1 := Scalar.cmpi .ne v246 v251
  let v253 : BitVec 32 := Scalar.remsi v240 c16_i32_89
  let c0_i32_94 : BitVec 32 := 0#32
  let v254 : BitVec 1 := Scalar.cmpi .ne v253 c0_i32_94
  let v255 : BitVec 1 := Scalar.andi v252 v254
  let v241 : BitVec 32 := Scalar.divsi v240 c16_i32_89
  let c1_i32_95 : BitVec 32 := 1#32
  let v256 : BitVec 32 := Scalar.subi v241 c1_i32_95
  let v257 : BitVec 32 := Scalar.select v255 v256 v241
  let v258 : BitVec 32 := Scalar.subi v257 c0_i32_96
  let c1_i32_98 : BitVec 32 := 1#32
  let v260 : BitVec 32 := Scalar.divsi v258 c1_i32_98
  let v261 : BitVec 32 := Scalar.muli v260 c1_i32_98
  let v262 : BitVec 32 := Scalar.addi c0_i32_96 v261
  let c1_i32_100 : BitVec 32 := 1#32
  let arg9 : BitVec 32 := Scf.iv v262 c1_i32_100 k0_t18
  let c16_i32_193 : BitVec 32 := 16#32
  let v478 : BitVec 32 := Scalar.muli arg9 c16_i32_193
  let v479 : BitVec 32 := Scalar.addi v236 v478
  let v480 : BitVec 32 := v479
  let c0_i32_196 : BitVec 32 := 0#32
  ![v480.toNat, 0]
def k0_off60 (v238 : BitVec 32) (v240 : BitVec 32) (k0_t18 : Fin (k0_t18_loop v240).trips) : Fin 2 → Nat :=
  let c0_i32_96 : BitVec 32 := 0#32
  let c0_i32_90 : BitVec 32 := 0#32
  let v242 : BitVec 1 := Scalar.cmpi .sgt v240 c0_i32_90
  let v243 : BitVec 32 := Scalar.extui v242
  let c0_i32_91 : BitVec 32 := 0#32
  let v244 : BitVec 1 := Scalar.cmpi .slt v240 c0_i32_91
  let v245 : BitVec 32 := Scalar.extui v244
  let v246 : BitVec 32 := Scalar.subi v243 v245
  let c16_i32_89 : BitVec 32 := 16#32
  let c0_i32_92 : BitVec 32 := 0#32
  let v247 : BitVec 1 := Scalar.cmpi .sgt c16_i32_89 c0_i32_92
  let v248 : BitVec 32 := Scalar.extui v247
  let c0_i32_93 : BitVec 32 := 0#32
  let v249 : BitVec 1 := Scalar.cmpi .slt c16_i32_89 c0_i32_93
  let v250 : BitVec 32 := Scalar.extui v249
  let v251 : BitVec 32 := Scalar.subi v248 v250
  let v252 : BitVec 1 := Scalar.cmpi .ne v246 v251
  let v253 : BitVec 32 := Scalar.remsi v240 c16_i32_89
  let c0_i32_94 : BitVec 32 := 0#32
  let v254 : BitVec 1 := Scalar.cmpi .ne v253 c0_i32_94
  let v255 : BitVec 1 := Scalar.andi v252 v254
  let v241 : BitVec 32 := Scalar.divsi v240 c16_i32_89
  let c1_i32_95 : BitVec 32 := 1#32
  let v256 : BitVec 32 := Scalar.subi v241 c1_i32_95
  let v257 : BitVec 32 := Scalar.select v255 v256 v241
  let v258 : BitVec 32 := Scalar.subi v257 c0_i32_96
  let c1_i32_98 : BitVec 32 := 1#32
  let v260 : BitVec 32 := Scalar.divsi v258 c1_i32_98
  let v261 : BitVec 32 := Scalar.muli v260 c1_i32_98
  let v262 : BitVec 32 := Scalar.addi c0_i32_96 v261
  let c1_i32_100 : BitVec 32 := 1#32
  let arg9 : BitVec 32 := Scf.iv v262 c1_i32_100 k0_t18
  let c16_i32_192 : BitVec 32 := 16#32
  let v475 : BitVec 32 := Scalar.muli arg9 c16_i32_192
  let v476 : BitVec 32 := Scalar.addi v238 v475
  let v477 : BitVec 32 := v476
  let c0_i32_197 : BitVec 32 := 0#32
  ![v477.toNat, 0]
def k0_off61 (i : grid0.Coords) (v236 : BitVec 32) (v240 : BitVec 32) (k0_t18 : Fin (k0_t18_loop v240).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_96 : BitVec 32 := 0#32
  let c0_i32_90 : BitVec 32 := 0#32
  let v242 : BitVec 1 := Scalar.cmpi .sgt v240 c0_i32_90
  let v243 : BitVec 32 := Scalar.extui v242
  let c0_i32_91 : BitVec 32 := 0#32
  let v244 : BitVec 1 := Scalar.cmpi .slt v240 c0_i32_91
  let v245 : BitVec 32 := Scalar.extui v244
  let v246 : BitVec 32 := Scalar.subi v243 v245
  let c16_i32_89 : BitVec 32 := 16#32
  let c0_i32_92 : BitVec 32 := 0#32
  let v247 : BitVec 1 := Scalar.cmpi .sgt c16_i32_89 c0_i32_92
  let v248 : BitVec 32 := Scalar.extui v247
  let c0_i32_93 : BitVec 32 := 0#32
  let v249 : BitVec 1 := Scalar.cmpi .slt c16_i32_89 c0_i32_93
  let v250 : BitVec 32 := Scalar.extui v249
  let v251 : BitVec 32 := Scalar.subi v248 v250
  let v252 : BitVec 1 := Scalar.cmpi .ne v246 v251
  let v253 : BitVec 32 := Scalar.remsi v240 c16_i32_89
  let c0_i32_94 : BitVec 32 := 0#32
  let v254 : BitVec 1 := Scalar.cmpi .ne v253 c0_i32_94
  let v255 : BitVec 1 := Scalar.andi v252 v254
  let v241 : BitVec 32 := Scalar.divsi v240 c16_i32_89
  let c1_i32_95 : BitVec 32 := 1#32
  let v256 : BitVec 32 := Scalar.subi v241 c1_i32_95
  let v257 : BitVec 32 := Scalar.select v255 v256 v241
  let v258 : BitVec 32 := Scalar.subi v257 c0_i32_96
  let c1_i32_98 : BitVec 32 := 1#32
  let v260 : BitVec 32 := Scalar.divsi v258 c1_i32_98
  let v261 : BitVec 32 := Scalar.muli v260 c1_i32_98
  let v262 : BitVec 32 := Scalar.addi c0_i32_96 v261
  let c1_i32_100 : BitVec 32 := 1#32
  let arg9 : BitVec 32 := Scf.iv v262 c1_i32_100 k0_t18
  let c16_i32_193 : BitVec 32 := 16#32
  let v478 : BitVec 32 := Scalar.muli arg9 c16_i32_193
  let v479 : BitVec 32 := Scalar.addi v236 v478
  let v480 : BitVec 32 := v479
  let c0_i32_195 : BitVec 32 := 0#32
  ![v234.toNat, v480.toNat, 0]

def k0_chk9 (i : grid0.Coords) (v236 : BitVec 32) (v238 : BitVec 32) (v240 : BitVec 32) : Prop :=
  (∀ (k0_h2 : k0_cond2 i = 1#1), (k0_t17_loop v240).OK) ∧
  (∀ k0_t17 : Fin (k0_t17_loop v240).trips, ∀ (k0_h2 : k0_cond2 i = 1#1), 16 ∣ (k0_mult33 v238 v240 k0_t17).toNat) ∧
  (∀ k0_t17 : Fin (k0_t17_loop v240).trips, ∀ (k0_h2 : k0_cond2 i = 1#1), 16 ∣ (k0_mult34 v236 v240 k0_t17).toNat) ∧
  (∀ k0_t17 : Fin (k0_t17_loop v240).trips, ∀ (k0_h2 : k0_cond2 i = 1#1), ∀ a, (k0_off54 v236 v240 k0_t17) a + S16x1024.size a ≤ S1152x1024.size a) ∧
  (∀ k0_t17 : Fin (k0_t17_loop v240).trips, ∀ (k0_h2 : k0_cond2 i = 1#1), ∀ a, (k0_off55 v238 v240 k0_t17) a + S16x1024.size a ≤ S44032x1024.size a) ∧
  (∀ k0_t17 : Fin (k0_t17_loop v240).trips, ∀ (k0_h2 : k0_cond2 i = 1#1), ∀ (hinb : ∀ a, (k0_off55 v238 v240 k0_t17) a + S16x1024.size a ≤ S44032x1024.size a), (Rect.unit (s := S44032x1024) (k0_off55 v238 v240 k0_t17) S16x1024.size hinb).WholeWords (EltTy.packing .bf16)) ∧
  (∀ k0_t17 : Fin (k0_t17_loop v240).trips, ∀ (k0_h2 : k0_cond2 i = 1#1), ∀ a, (k0_off56 i v236 v240 k0_t17) a + S1x16x1024.size a ≤ S2x1152x1024.size a) ∧
  (∀ k0_t17 : Fin (k0_t17_loop v240).trips, ∀ (k0_h2 : k0_cond2 i = 1#1), ∀ (hinb : ∀ a, (k0_off56 i v236 v240 k0_t17) a + S1x16x1024.size a ≤ S2x1152x1024.size a), (Rect.unit (s := S2x1152x1024) (k0_off56 i v236 v240 k0_t17) S1x16x1024.size hinb).WholeWords (EltTy.packing .bf16)) ∧
  (∀ (k0_h2 : k0_cond2 i = 1#1), (k0_t18_loop v240).OK) ∧
  (∀ k0_t18 : Fin (k0_t18_loop v240).trips, ∀ (k0_h2 : k0_cond2 i = 1#1), 16 ∣ (k0_mult35 v238 v240 k0_t18).toNat) ∧
  (∀ k0_t18 : Fin (k0_t18_loop v240).trips, ∀ (k0_h2 : k0_cond2 i = 1#1), 16 ∣ (k0_mult36 v236 v240 k0_t18).toNat) ∧
  (∀ k0_t18 : Fin (k0_t18_loop v240).trips, ∀ (k0_h2 : k0_cond2 i = 1#1), ∀ a, (k0_off59 v236 v240 k0_t18) a + S16x1024.size a ≤ S1152x1024.size a) ∧
  (∀ k0_t18 : Fin (k0_t18_loop v240).trips, ∀ (k0_h2 : k0_cond2 i = 1#1), ∀ a, (k0_off60 v238 v240 k0_t18) a + S16x1024.size a ≤ S44032x1024.size a) ∧
  (∀ k0_t18 : Fin (k0_t18_loop v240).trips, ∀ (k0_h2 : k0_cond2 i = 1#1), ∀ (hinb : ∀ a, (k0_off60 v238 v240 k0_t18) a + S16x1024.size a ≤ S44032x1024.size a), (Rect.unit (s := S44032x1024) (k0_off60 v238 v240 k0_t18) S16x1024.size hinb).WholeWords (EltTy.packing .bf16)) ∧
  (∀ k0_t18 : Fin (k0_t18_loop v240).trips, ∀ (k0_h2 : k0_cond2 i = 1#1), ∀ a, (k0_off61 i v236 v240 k0_t18) a + S1x16x1024.size a ≤ S2x1152x1024.size a) ∧
  (∀ k0_t18 : Fin (k0_t18_loop v240).trips, ∀ (k0_h2 : k0_cond2 i = 1#1), ∀ (hinb : ∀ a, (k0_off61 i v236 v240 k0_t18) a + S1x16x1024.size a ≤ S2x1152x1024.size a), (Rect.unit (s := S2x1152x1024) (k0_off61 i v236 v240 k0_t18) S1x16x1024.size hinb).WholeWords (EltTy.packing .bf16))
theorem k0_t17_ok : ∀ (i : grid0.Coords) (v236 : BitVec 32) (v238 : BitVec 32) (v240 : BitVec 32) (k0_hw9 : k0_chk9 i v236 v238 v240), ∀ (k0_h2 : k0_cond2 i = 1#1), (k0_t17_loop v240).OK := fun i v236 v238 v240 k0_hw9 k0_h2 => k0_hw9.1 k0_h2
theorem k0_mult33_dvd : ∀ (i : grid0.Coords) (v236 : BitVec 32) (v238 : BitVec 32) (v240 : BitVec 32) (k0_hw9 : k0_chk9 i v236 v238 v240) (k0_t17 : Fin (k0_t17_loop v240).trips), ∀ (k0_h2 : k0_cond2 i = 1#1), 16 ∣ (k0_mult33 v238 v240 k0_t17).toNat := fun i v236 v238 v240 k0_hw9 k0_t17 k0_h2 => k0_hw9.2.1 k0_t17 k0_h2
theorem k0_mult34_dvd : ∀ (i : grid0.Coords) (v236 : BitVec 32) (v238 : BitVec 32) (v240 : BitVec 32) (k0_hw9 : k0_chk9 i v236 v238 v240) (k0_t17 : Fin (k0_t17_loop v240).trips), ∀ (k0_h2 : k0_cond2 i = 1#1), 16 ∣ (k0_mult34 v236 v240 k0_t17).toNat := fun i v236 v238 v240 k0_hw9 k0_t17 k0_h2 => k0_hw9.2.2.1 k0_t17 k0_h2
theorem k0_off54_inb : ∀ (i : grid0.Coords) (v236 : BitVec 32) (v238 : BitVec 32) (v240 : BitVec 32) (k0_hw9 : k0_chk9 i v236 v238 v240) (k0_t17 : Fin (k0_t17_loop v240).trips), ∀ (k0_h2 : k0_cond2 i = 1#1), ∀ a, (k0_off54 v236 v240 k0_t17) a + S16x1024.size a ≤ S1152x1024.size a := fun i v236 v238 v240 k0_hw9 k0_t17 k0_h2 => k0_hw9.2.2.2.1 k0_t17 k0_h2
theorem k0_off55_inb : ∀ (i : grid0.Coords) (v236 : BitVec 32) (v238 : BitVec 32) (v240 : BitVec 32) (k0_hw9 : k0_chk9 i v236 v238 v240) (k0_t17 : Fin (k0_t17_loop v240).trips), ∀ (k0_h2 : k0_cond2 i = 1#1), ∀ a, (k0_off55 v238 v240 k0_t17) a + S16x1024.size a ≤ S44032x1024.size a := fun i v236 v238 v240 k0_hw9 k0_t17 k0_h2 => k0_hw9.2.2.2.2.1 k0_t17 k0_h2
theorem k0_off55_wordsbf16 : ∀ (i : grid0.Coords) (v236 : BitVec 32) (v238 : BitVec 32) (v240 : BitVec 32) (k0_hw9 : k0_chk9 i v236 v238 v240) (k0_t17 : Fin (k0_t17_loop v240).trips), ∀ (k0_h2 : k0_cond2 i = 1#1), (Rect.unit (s := S44032x1024) (k0_off55 v238 v240 k0_t17) S16x1024.size (k0_off55_inb i v236 v238 v240 k0_hw9 k0_t17 k0_h2)).WholeWords (EltTy.packing .bf16) := fun i v236 v238 v240 k0_hw9 k0_t17 k0_h2 => k0_hw9.2.2.2.2.2.1 k0_t17 k0_h2 (k0_off55_inb i v236 v238 v240 k0_hw9 k0_t17 k0_h2)
theorem k0_off56_inb : ∀ (i : grid0.Coords) (v236 : BitVec 32) (v238 : BitVec 32) (v240 : BitVec 32) (k0_hw9 : k0_chk9 i v236 v238 v240) (k0_t17 : Fin (k0_t17_loop v240).trips), ∀ (k0_h2 : k0_cond2 i = 1#1), ∀ a, (k0_off56 i v236 v240 k0_t17) a + S1x16x1024.size a ≤ S2x1152x1024.size a := fun i v236 v238 v240 k0_hw9 k0_t17 k0_h2 => k0_hw9.2.2.2.2.2.2.1 k0_t17 k0_h2
theorem k0_off56_wordsbf16 : ∀ (i : grid0.Coords) (v236 : BitVec 32) (v238 : BitVec 32) (v240 : BitVec 32) (k0_hw9 : k0_chk9 i v236 v238 v240) (k0_t17 : Fin (k0_t17_loop v240).trips), ∀ (k0_h2 : k0_cond2 i = 1#1), (Rect.unit (s := S2x1152x1024) (k0_off56 i v236 v240 k0_t17) S1x16x1024.size (k0_off56_inb i v236 v238 v240 k0_hw9 k0_t17 k0_h2)).WholeWords (EltTy.packing .bf16) := fun i v236 v238 v240 k0_hw9 k0_t17 k0_h2 => k0_hw9.2.2.2.2.2.2.2.1 k0_t17 k0_h2 (k0_off56_inb i v236 v238 v240 k0_hw9 k0_t17 k0_h2)
theorem k0_t18_ok : ∀ (i : grid0.Coords) (v236 : BitVec 32) (v238 : BitVec 32) (v240 : BitVec 32) (k0_hw9 : k0_chk9 i v236 v238 v240), ∀ (k0_h2 : k0_cond2 i = 1#1), (k0_t18_loop v240).OK := fun i v236 v238 v240 k0_hw9 k0_h2 => k0_hw9.2.2.2.2.2.2.2.2.1 k0_h2
theorem k0_mult35_dvd : ∀ (i : grid0.Coords) (v236 : BitVec 32) (v238 : BitVec 32) (v240 : BitVec 32) (k0_hw9 : k0_chk9 i v236 v238 v240) (k0_t18 : Fin (k0_t18_loop v240).trips), ∀ (k0_h2 : k0_cond2 i = 1#1), 16 ∣ (k0_mult35 v238 v240 k0_t18).toNat := fun i v236 v238 v240 k0_hw9 k0_t18 k0_h2 => k0_hw9.2.2.2.2.2.2.2.2.2.1 k0_t18 k0_h2
theorem k0_mult36_dvd : ∀ (i : grid0.Coords) (v236 : BitVec 32) (v238 : BitVec 32) (v240 : BitVec 32) (k0_hw9 : k0_chk9 i v236 v238 v240) (k0_t18 : Fin (k0_t18_loop v240).trips), ∀ (k0_h2 : k0_cond2 i = 1#1), 16 ∣ (k0_mult36 v236 v240 k0_t18).toNat := fun i v236 v238 v240 k0_hw9 k0_t18 k0_h2 => k0_hw9.2.2.2.2.2.2.2.2.2.2.1 k0_t18 k0_h2
theorem k0_off59_inb : ∀ (i : grid0.Coords) (v236 : BitVec 32) (v238 : BitVec 32) (v240 : BitVec 32) (k0_hw9 : k0_chk9 i v236 v238 v240) (k0_t18 : Fin (k0_t18_loop v240).trips), ∀ (k0_h2 : k0_cond2 i = 1#1), ∀ a, (k0_off59 v236 v240 k0_t18) a + S16x1024.size a ≤ S1152x1024.size a := fun i v236 v238 v240 k0_hw9 k0_t18 k0_h2 => k0_hw9.2.2.2.2.2.2.2.2.2.2.2.1 k0_t18 k0_h2
theorem k0_off60_inb : ∀ (i : grid0.Coords) (v236 : BitVec 32) (v238 : BitVec 32) (v240 : BitVec 32) (k0_hw9 : k0_chk9 i v236 v238 v240) (k0_t18 : Fin (k0_t18_loop v240).trips), ∀ (k0_h2 : k0_cond2 i = 1#1), ∀ a, (k0_off60 v238 v240 k0_t18) a + S16x1024.size a ≤ S44032x1024.size a := fun i v236 v238 v240 k0_hw9 k0_t18 k0_h2 => k0_hw9.2.2.2.2.2.2.2.2.2.2.2.2.1 k0_t18 k0_h2
theorem k0_off60_wordsbf16 : ∀ (i : grid0.Coords) (v236 : BitVec 32) (v238 : BitVec 32) (v240 : BitVec 32) (k0_hw9 : k0_chk9 i v236 v238 v240) (k0_t18 : Fin (k0_t18_loop v240).trips), ∀ (k0_h2 : k0_cond2 i = 1#1), (Rect.unit (s := S44032x1024) (k0_off60 v238 v240 k0_t18) S16x1024.size (k0_off60_inb i v236 v238 v240 k0_hw9 k0_t18 k0_h2)).WholeWords (EltTy.packing .bf16) := fun i v236 v238 v240 k0_hw9 k0_t18 k0_h2 => k0_hw9.2.2.2.2.2.2.2.2.2.2.2.2.2.1 k0_t18 k0_h2 (k0_off60_inb i v236 v238 v240 k0_hw9 k0_t18 k0_h2)
theorem k0_off61_inb : ∀ (i : grid0.Coords) (v236 : BitVec 32) (v238 : BitVec 32) (v240 : BitVec 32) (k0_hw9 : k0_chk9 i v236 v238 v240) (k0_t18 : Fin (k0_t18_loop v240).trips), ∀ (k0_h2 : k0_cond2 i = 1#1), ∀ a, (k0_off61 i v236 v240 k0_t18) a + S1x16x1024.size a ≤ S2x1152x1024.size a := fun i v236 v238 v240 k0_hw9 k0_t18 k0_h2 => k0_hw9.2.2.2.2.2.2.2.2.2.2.2.2.2.2.1 k0_t18 k0_h2
theorem k0_off61_wordsbf16 : ∀ (i : grid0.Coords) (v236 : BitVec 32) (v238 : BitVec 32) (v240 : BitVec 32) (k0_hw9 : k0_chk9 i v236 v238 v240) (k0_t18 : Fin (k0_t18_loop v240).trips), ∀ (k0_h2 : k0_cond2 i = 1#1), (Rect.unit (s := S2x1152x1024) (k0_off61 i v236 v240 k0_t18) S1x16x1024.size (k0_off61_inb i v236 v238 v240 k0_hw9 k0_t18 k0_h2)).WholeWords (EltTy.packing .bf16) := fun i v236 v238 v240 k0_hw9 k0_t18 k0_h2 => k0_hw9.2.2.2.2.2.2.2.2.2.2.2.2.2.2.2 k0_t18 k0_h2 (k0_off61_inb i v236 v238 v240 k0_hw9 k0_t18 k0_h2)

def k0_off62 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v265 : Index := Scalar.indexCast v233
  let c1 : Index := 1#32
  ![v265.toNat, 1]
def k0_off63 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v267 : Index := Scalar.indexCast v233
  let c17 : Index := 17#32
  ![v267.toNat, 17]
def k0_off64 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v269 : Index := Scalar.indexCast v233
  let c9_101 : Index := 9#32
  ![v269.toNat, 9]
@[reducible] def k0_t19_loop (v270 : BitVec 32) : Scf.Loop 32 :=
  let c0_i32_109 : BitVec 32 := 0#32
  let c0_i32_103 : BitVec 32 := 0#32
  let v272 : BitVec 1 := Scalar.cmpi .sgt v270 c0_i32_103
  let v273 : BitVec 32 := Scalar.extui v272
  let c0_i32_104 : BitVec 32 := 0#32
  let v274 : BitVec 1 := Scalar.cmpi .slt v270 c0_i32_104
  let v275 : BitVec 32 := Scalar.extui v274
  let v276 : BitVec 32 := Scalar.subi v273 v275
  let c16_i32_102 : BitVec 32 := 16#32
  let c0_i32_105 : BitVec 32 := 0#32
  let v277 : BitVec 1 := Scalar.cmpi .sgt c16_i32_102 c0_i32_105
  let v278 : BitVec 32 := Scalar.extui v277
  let c0_i32_106 : BitVec 32 := 0#32
  let v279 : BitVec 1 := Scalar.cmpi .slt c16_i32_102 c0_i32_106
  let v280 : BitVec 32 := Scalar.extui v279
  let v281 : BitVec 32 := Scalar.subi v278 v280
  let v282 : BitVec 1 := Scalar.cmpi .ne v276 v281
  let v283 : BitVec 32 := Scalar.remsi v270 c16_i32_102
  let c0_i32_107 : BitVec 32 := 0#32
  let v284 : BitVec 1 := Scalar.cmpi .ne v283 c0_i32_107
  let v285 : BitVec 1 := Scalar.andi v282 v284
  let v271 : BitVec 32 := Scalar.divsi v270 c16_i32_102
  let c1_i32_108 : BitVec 32 := 1#32
  let v286 : BitVec 32 := Scalar.subi v271 c1_i32_108
  let v287 : BitVec 32 := Scalar.select v285 v286 v271
  let v288 : BitVec 32 := Scalar.subi v287 c0_i32_109
  let c1_i32_111 : BitVec 32 := 1#32
  let v290 : BitVec 32 := Scalar.divsi v288 c1_i32_111
  let v291 : BitVec 32 := Scalar.muli v290 c1_i32_111
  let v292 : BitVec 32 := Scalar.addi c0_i32_109 v291
  let c1_i32_112 : BitVec 32 := 1#32
  ⟨c0_i32_109, v292, c1_i32_112⟩

def k0_mult37 (v268 : BitVec 32) (v270 : BitVec 32) (k0_t19 : Fin (k0_t19_loop v270).trips) : BitVec 32 :=
  let c0_i32_109 : BitVec 32 := 0#32
  let c1_i32_112 : BitVec 32 := 1#32
  let arg9 : BitVec 32 := Scf.iv c0_i32_109 c1_i32_112 k0_t19
  let c16_i32_192 : BitVec 32 := 16#32
  let v475 : BitVec 32 := Scalar.muli arg9 c16_i32_192
  let v476 : BitVec 32 := Scalar.addi v268 v475
  v476
def k0_mult38 (v266 : BitVec 32) (v270 : BitVec 32) (k0_t19 : Fin (k0_t19_loop v270).trips) : BitVec 32 :=
  let c0_i32_109 : BitVec 32 := 0#32
  let c1_i32_112 : BitVec 32 := 1#32
  let arg9 : BitVec 32 := Scf.iv c0_i32_109 c1_i32_112 k0_t19
  let c16_i32_193 : BitVec 32 := 16#32
  let v478 : BitVec 32 := Scalar.muli arg9 c16_i32_193
  let v479 : BitVec 32 := Scalar.addi v266 v478
  v479
def k0_off65 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off66 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off67 (v266 : BitVec 32) (v270 : BitVec 32) (k0_t19 : Fin (k0_t19_loop v270).trips) : Fin 2 → Nat :=
  let c0_i32_109 : BitVec 32 := 0#32
  let c1_i32_112 : BitVec 32 := 1#32
  let arg9 : BitVec 32 := Scf.iv c0_i32_109 c1_i32_112 k0_t19
  let c16_i32_193 : BitVec 32 := 16#32
  let v478 : BitVec 32 := Scalar.muli arg9 c16_i32_193
  let v479 : BitVec 32 := Scalar.addi v266 v478
  let v480 : BitVec 32 := v479
  let c0_i32_196 : BitVec 32 := 0#32
  ![v480.toNat, 0]
def k0_off68 (v268 : BitVec 32) (v270 : BitVec 32) (k0_t19 : Fin (k0_t19_loop v270).trips) : Fin 2 → Nat :=
  let c0_i32_109 : BitVec 32 := 0#32
  let c1_i32_112 : BitVec 32 := 1#32
  let arg9 : BitVec 32 := Scf.iv c0_i32_109 c1_i32_112 k0_t19
  let c16_i32_192 : BitVec 32 := 16#32
  let v475 : BitVec 32 := Scalar.muli arg9 c16_i32_192
  let v476 : BitVec 32 := Scalar.addi v268 v475
  let v477 : BitVec 32 := v476
  let c0_i32_197 : BitVec 32 := 0#32
  ![v477.toNat, 0]
def k0_off69 (i : grid0.Coords) (v266 : BitVec 32) (v270 : BitVec 32) (k0_t19 : Fin (k0_t19_loop v270).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_109 : BitVec 32 := 0#32
  let c1_i32_112 : BitVec 32 := 1#32
  let arg9 : BitVec 32 := Scf.iv c0_i32_109 c1_i32_112 k0_t19
  let c16_i32_193 : BitVec 32 := 16#32
  let v478 : BitVec 32 := Scalar.muli arg9 c16_i32_193
  let v479 : BitVec 32 := Scalar.addi v266 v478
  let v480 : BitVec 32 := v479
  let c0_i32_195 : BitVec 32 := 0#32
  ![v234.toNat, v480.toNat, 0]
@[reducible] def k0_t20_loop (v270 : BitVec 32) : Scf.Loop 32 :=
  let c0_i32_109 : BitVec 32 := 0#32
  let c0_i32_103 : BitVec 32 := 0#32
  let v272 : BitVec 1 := Scalar.cmpi .sgt v270 c0_i32_103
  let v273 : BitVec 32 := Scalar.extui v272
  let c0_i32_104 : BitVec 32 := 0#32
  let v274 : BitVec 1 := Scalar.cmpi .slt v270 c0_i32_104
  let v275 : BitVec 32 := Scalar.extui v274
  let v276 : BitVec 32 := Scalar.subi v273 v275
  let c16_i32_102 : BitVec 32 := 16#32
  let c0_i32_105 : BitVec 32 := 0#32
  let v277 : BitVec 1 := Scalar.cmpi .sgt c16_i32_102 c0_i32_105
  let v278 : BitVec 32 := Scalar.extui v277
  let c0_i32_106 : BitVec 32 := 0#32
  let v279 : BitVec 1 := Scalar.cmpi .slt c16_i32_102 c0_i32_106
  let v280 : BitVec 32 := Scalar.extui v279
  let v281 : BitVec 32 := Scalar.subi v278 v280
  let v282 : BitVec 1 := Scalar.cmpi .ne v276 v281
  let v283 : BitVec 32 := Scalar.remsi v270 c16_i32_102
  let c0_i32_107 : BitVec 32 := 0#32
  let v284 : BitVec 1 := Scalar.cmpi .ne v283 c0_i32_107
  let v285 : BitVec 1 := Scalar.andi v282 v284
  let v271 : BitVec 32 := Scalar.divsi v270 c16_i32_102
  let c1_i32_108 : BitVec 32 := 1#32
  let v286 : BitVec 32 := Scalar.subi v271 c1_i32_108
  let v287 : BitVec 32 := Scalar.select v285 v286 v271
  let v288 : BitVec 32 := Scalar.subi v287 c0_i32_109
  let c1_i32_111 : BitVec 32 := 1#32
  let v290 : BitVec 32 := Scalar.divsi v288 c1_i32_111
  let v291 : BitVec 32 := Scalar.muli v290 c1_i32_111
  let v292 : BitVec 32 := Scalar.addi c0_i32_109 v291
  let v289 : BitVec 32 := Scalar.addi c0_i32_109 v288
  let c1_i32_113 : BitVec 32 := 1#32
  ⟨v292, v289, c1_i32_113⟩
def k0_mult39 (v268 : BitVec 32) (v270 : BitVec 32) (k0_t20 : Fin (k0_t20_loop v270).trips) : BitVec 32 :=
  let c0_i32_109 : BitVec 32 := 0#32
  let c0_i32_103 : BitVec 32 := 0#32
  let v272 : BitVec 1 := Scalar.cmpi .sgt v270 c0_i32_103
  let v273 : BitVec 32 := Scalar.extui v272
  let c0_i32_104 : BitVec 32 := 0#32
  let v274 : BitVec 1 := Scalar.cmpi .slt v270 c0_i32_104
  let v275 : BitVec 32 := Scalar.extui v274
  let v276 : BitVec 32 := Scalar.subi v273 v275
  let c16_i32_102 : BitVec 32 := 16#32
  let c0_i32_105 : BitVec 32 := 0#32
  let v277 : BitVec 1 := Scalar.cmpi .sgt c16_i32_102 c0_i32_105
  let v278 : BitVec 32 := Scalar.extui v277
  let c0_i32_106 : BitVec 32 := 0#32
  let v279 : BitVec 1 := Scalar.cmpi .slt c16_i32_102 c0_i32_106
  let v280 : BitVec 32 := Scalar.extui v279
  let v281 : BitVec 32 := Scalar.subi v278 v280
  let v282 : BitVec 1 := Scalar.cmpi .ne v276 v281
  let v283 : BitVec 32 := Scalar.remsi v270 c16_i32_102
  let c0_i32_107 : BitVec 32 := 0#32
  let v284 : BitVec 1 := Scalar.cmpi .ne v283 c0_i32_107
  let v285 : BitVec 1 := Scalar.andi v282 v284
  let v271 : BitVec 32 := Scalar.divsi v270 c16_i32_102
  let c1_i32_108 : BitVec 32 := 1#32
  let v286 : BitVec 32 := Scalar.subi v271 c1_i32_108
  let v287 : BitVec 32 := Scalar.select v285 v286 v271
  let v288 : BitVec 32 := Scalar.subi v287 c0_i32_109
  let c1_i32_111 : BitVec 32 := 1#32
  let v290 : BitVec 32 := Scalar.divsi v288 c1_i32_111
  let v291 : BitVec 32 := Scalar.muli v290 c1_i32_111
  let v292 : BitVec 32 := Scalar.addi c0_i32_109 v291
  let c1_i32_113 : BitVec 32 := 1#32
  let arg9 : BitVec 32 := Scf.iv v292 c1_i32_113 k0_t20
  let c16_i32_192 : BitVec 32 := 16#32
  let v475 : BitVec 32 := Scalar.muli arg9 c16_i32_192
  let v476 : BitVec 32 := Scalar.addi v268 v475
  v476
def k0_mult40 (v266 : BitVec 32) (v270 : BitVec 32) (k0_t20 : Fin (k0_t20_loop v270).trips) : BitVec 32 :=
  let c0_i32_109 : BitVec 32 := 0#32
  let c0_i32_103 : BitVec 32 := 0#32
  let v272 : BitVec 1 := Scalar.cmpi .sgt v270 c0_i32_103
  let v273 : BitVec 32 := Scalar.extui v272
  let c0_i32_104 : BitVec 32 := 0#32
  let v274 : BitVec 1 := Scalar.cmpi .slt v270 c0_i32_104
  let v275 : BitVec 32 := Scalar.extui v274
  let v276 : BitVec 32 := Scalar.subi v273 v275
  let c16_i32_102 : BitVec 32 := 16#32
  let c0_i32_105 : BitVec 32 := 0#32
  let v277 : BitVec 1 := Scalar.cmpi .sgt c16_i32_102 c0_i32_105
  let v278 : BitVec 32 := Scalar.extui v277
  let c0_i32_106 : BitVec 32 := 0#32
  let v279 : BitVec 1 := Scalar.cmpi .slt c16_i32_102 c0_i32_106
  let v280 : BitVec 32 := Scalar.extui v279
  let v281 : BitVec 32 := Scalar.subi v278 v280
  let v282 : BitVec 1 := Scalar.cmpi .ne v276 v281
  let v283 : BitVec 32 := Scalar.remsi v270 c16_i32_102
  let c0_i32_107 : BitVec 32 := 0#32
  let v284 : BitVec 1 := Scalar.cmpi .ne v283 c0_i32_107
  let v285 : BitVec 1 := Scalar.andi v282 v284
  let v271 : BitVec 32 := Scalar.divsi v270 c16_i32_102
  let c1_i32_108 : BitVec 32 := 1#32
  let v286 : BitVec 32 := Scalar.subi v271 c1_i32_108
  let v287 : BitVec 32 := Scalar.select v285 v286 v271
  let v288 : BitVec 32 := Scalar.subi v287 c0_i32_109
  let c1_i32_111 : BitVec 32 := 1#32
  let v290 : BitVec 32 := Scalar.divsi v288 c1_i32_111
  let v291 : BitVec 32 := Scalar.muli v290 c1_i32_111
  let v292 : BitVec 32 := Scalar.addi c0_i32_109 v291
  let c1_i32_113 : BitVec 32 := 1#32
  let arg9 : BitVec 32 := Scf.iv v292 c1_i32_113 k0_t20
  let c16_i32_193 : BitVec 32 := 16#32
  let v478 : BitVec 32 := Scalar.muli arg9 c16_i32_193
  let v479 : BitVec 32 := Scalar.addi v266 v478
  v479
def k0_off70 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off71 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off72 (v266 : BitVec 32) (v270 : BitVec 32) (k0_t20 : Fin (k0_t20_loop v270).trips) : Fin 2 → Nat :=
  let c0_i32_109 : BitVec 32 := 0#32
  let c0_i32_103 : BitVec 32 := 0#32
  let v272 : BitVec 1 := Scalar.cmpi .sgt v270 c0_i32_103
  let v273 : BitVec 32 := Scalar.extui v272
  let c0_i32_104 : BitVec 32 := 0#32
  let v274 : BitVec 1 := Scalar.cmpi .slt v270 c0_i32_104
  let v275 : BitVec 32 := Scalar.extui v274
  let v276 : BitVec 32 := Scalar.subi v273 v275
  let c16_i32_102 : BitVec 32 := 16#32
  let c0_i32_105 : BitVec 32 := 0#32
  let v277 : BitVec 1 := Scalar.cmpi .sgt c16_i32_102 c0_i32_105
  let v278 : BitVec 32 := Scalar.extui v277
  let c0_i32_106 : BitVec 32 := 0#32
  let v279 : BitVec 1 := Scalar.cmpi .slt c16_i32_102 c0_i32_106
  let v280 : BitVec 32 := Scalar.extui v279
  let v281 : BitVec 32 := Scalar.subi v278 v280
  let v282 : BitVec 1 := Scalar.cmpi .ne v276 v281
  let v283 : BitVec 32 := Scalar.remsi v270 c16_i32_102
  let c0_i32_107 : BitVec 32 := 0#32
  let v284 : BitVec 1 := Scalar.cmpi .ne v283 c0_i32_107
  let v285 : BitVec 1 := Scalar.andi v282 v284
  let v271 : BitVec 32 := Scalar.divsi v270 c16_i32_102
  let c1_i32_108 : BitVec 32 := 1#32
  let v286 : BitVec 32 := Scalar.subi v271 c1_i32_108
  let v287 : BitVec 32 := Scalar.select v285 v286 v271
  let v288 : BitVec 32 := Scalar.subi v287 c0_i32_109
  let c1_i32_111 : BitVec 32 := 1#32
  let v290 : BitVec 32 := Scalar.divsi v288 c1_i32_111
  let v291 : BitVec 32 := Scalar.muli v290 c1_i32_111
  let v292 : BitVec 32 := Scalar.addi c0_i32_109 v291
  let c1_i32_113 : BitVec 32 := 1#32
  let arg9 : BitVec 32 := Scf.iv v292 c1_i32_113 k0_t20
  let c16_i32_193 : BitVec 32 := 16#32
  let v478 : BitVec 32 := Scalar.muli arg9 c16_i32_193
  let v479 : BitVec 32 := Scalar.addi v266 v478
  let v480 : BitVec 32 := v479
  let c0_i32_196 : BitVec 32 := 0#32
  ![v480.toNat, 0]
def k0_off73 (v268 : BitVec 32) (v270 : BitVec 32) (k0_t20 : Fin (k0_t20_loop v270).trips) : Fin 2 → Nat :=
  let c0_i32_109 : BitVec 32 := 0#32
  let c0_i32_103 : BitVec 32 := 0#32
  let v272 : BitVec 1 := Scalar.cmpi .sgt v270 c0_i32_103
  let v273 : BitVec 32 := Scalar.extui v272
  let c0_i32_104 : BitVec 32 := 0#32
  let v274 : BitVec 1 := Scalar.cmpi .slt v270 c0_i32_104
  let v275 : BitVec 32 := Scalar.extui v274
  let v276 : BitVec 32 := Scalar.subi v273 v275
  let c16_i32_102 : BitVec 32 := 16#32
  let c0_i32_105 : BitVec 32 := 0#32
  let v277 : BitVec 1 := Scalar.cmpi .sgt c16_i32_102 c0_i32_105
  let v278 : BitVec 32 := Scalar.extui v277
  let c0_i32_106 : BitVec 32 := 0#32
  let v279 : BitVec 1 := Scalar.cmpi .slt c16_i32_102 c0_i32_106
  let v280 : BitVec 32 := Scalar.extui v279
  let v281 : BitVec 32 := Scalar.subi v278 v280
  let v282 : BitVec 1 := Scalar.cmpi .ne v276 v281
  let v283 : BitVec 32 := Scalar.remsi v270 c16_i32_102
  let c0_i32_107 : BitVec 32 := 0#32
  let v284 : BitVec 1 := Scalar.cmpi .ne v283 c0_i32_107
  let v285 : BitVec 1 := Scalar.andi v282 v284
  let v271 : BitVec 32 := Scalar.divsi v270 c16_i32_102
  let c1_i32_108 : BitVec 32 := 1#32
  let v286 : BitVec 32 := Scalar.subi v271 c1_i32_108
  let v287 : BitVec 32 := Scalar.select v285 v286 v271
  let v288 : BitVec 32 := Scalar.subi v287 c0_i32_109
  let c1_i32_111 : BitVec 32 := 1#32
  let v290 : BitVec 32 := Scalar.divsi v288 c1_i32_111
  let v291 : BitVec 32 := Scalar.muli v290 c1_i32_111
  let v292 : BitVec 32 := Scalar.addi c0_i32_109 v291
  let c1_i32_113 : BitVec 32 := 1#32
  let arg9 : BitVec 32 := Scf.iv v292 c1_i32_113 k0_t20
  let c16_i32_192 : BitVec 32 := 16#32
  let v475 : BitVec 32 := Scalar.muli arg9 c16_i32_192
  let v476 : BitVec 32 := Scalar.addi v268 v475
  let v477 : BitVec 32 := v476
  let c0_i32_197 : BitVec 32 := 0#32
  ![v477.toNat, 0]
def k0_off74 (i : grid0.Coords) (v266 : BitVec 32) (v270 : BitVec 32) (k0_t20 : Fin (k0_t20_loop v270).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_109 : BitVec 32 := 0#32
  let c0_i32_103 : BitVec 32 := 0#32
  let v272 : BitVec 1 := Scalar.cmpi .sgt v270 c0_i32_103
  let v273 : BitVec 32 := Scalar.extui v272
  let c0_i32_104 : BitVec 32 := 0#32
  let v274 : BitVec 1 := Scalar.cmpi .slt v270 c0_i32_104
  let v275 : BitVec 32 := Scalar.extui v274
  let v276 : BitVec 32 := Scalar.subi v273 v275
  let c16_i32_102 : BitVec 32 := 16#32
  let c0_i32_105 : BitVec 32 := 0#32
  let v277 : BitVec 1 := Scalar.cmpi .sgt c16_i32_102 c0_i32_105
  let v278 : BitVec 32 := Scalar.extui v277
  let c0_i32_106 : BitVec 32 := 0#32
  let v279 : BitVec 1 := Scalar.cmpi .slt c16_i32_102 c0_i32_106
  let v280 : BitVec 32 := Scalar.extui v279
  let v281 : BitVec 32 := Scalar.subi v278 v280
  let v282 : BitVec 1 := Scalar.cmpi .ne v276 v281
  let v283 : BitVec 32 := Scalar.remsi v270 c16_i32_102
  let c0_i32_107 : BitVec 32 := 0#32
  let v284 : BitVec 1 := Scalar.cmpi .ne v283 c0_i32_107
  let v285 : BitVec 1 := Scalar.andi v282 v284
  let v271 : BitVec 32 := Scalar.divsi v270 c16_i32_102
  let c1_i32_108 : BitVec 32 := 1#32
  let v286 : BitVec 32 := Scalar.subi v271 c1_i32_108
  let v287 : BitVec 32 := Scalar.select v285 v286 v271
  let v288 : BitVec 32 := Scalar.subi v287 c0_i32_109
  let c1_i32_111 : BitVec 32 := 1#32
  let v290 : BitVec 32 := Scalar.divsi v288 c1_i32_111
  let v291 : BitVec 32 := Scalar.muli v290 c1_i32_111
  let v292 : BitVec 32 := Scalar.addi c0_i32_109 v291
  let c1_i32_113 : BitVec 32 := 1#32
  let arg9 : BitVec 32 := Scf.iv v292 c1_i32_113 k0_t20
  let c16_i32_193 : BitVec 32 := 16#32
  let v478 : BitVec 32 := Scalar.muli arg9 c16_i32_193
  let v479 : BitVec 32 := Scalar.addi v266 v478
  let v480 : BitVec 32 := v479
  let c0_i32_195 : BitVec 32 := 0#32
  ![v234.toNat, v480.toNat, 0]

def k0_chk10 (i : grid0.Coords) (v266 : BitVec 32) (v268 : BitVec 32) (v270 : BitVec 32) : Prop :=
  (∀ (k0_h2 : k0_cond2 i = 1#1), (k0_t19_loop v270).OK) ∧
  (∀ k0_t19 : Fin (k0_t19_loop v270).trips, ∀ (k0_h2 : k0_cond2 i = 1#1), 16 ∣ (k0_mult37 v268 v270 k0_t19).toNat) ∧
  (∀ k0_t19 : Fin (k0_t19_loop v270).trips, ∀ (k0_h2 : k0_cond2 i = 1#1), 16 ∣ (k0_mult38 v266 v270 k0_t19).toNat) ∧
  (∀ k0_t19 : Fin (k0_t19_loop v270).trips, ∀ (k0_h2 : k0_cond2 i = 1#1), ∀ a, (k0_off67 v266 v270 k0_t19) a + S16x1024.size a ≤ S1152x1024.size a) ∧
  (∀ k0_t19 : Fin (k0_t19_loop v270).trips, ∀ (k0_h2 : k0_cond2 i = 1#1), ∀ a, (k0_off68 v268 v270 k0_t19) a + S16x1024.size a ≤ S44032x1024.size a) ∧
  (∀ k0_t19 : Fin (k0_t19_loop v270).trips, ∀ (k0_h2 : k0_cond2 i = 1#1), ∀ (hinb : ∀ a, (k0_off68 v268 v270 k0_t19) a + S16x1024.size a ≤ S44032x1024.size a), (Rect.unit (s := S44032x1024) (k0_off68 v268 v270 k0_t19) S16x1024.size hinb).WholeWords (EltTy.packing .bf16)) ∧
  (∀ k0_t19 : Fin (k0_t19_loop v270).trips, ∀ (k0_h2 : k0_cond2 i = 1#1), ∀ a, (k0_off69 i v266 v270 k0_t19) a + S1x16x1024.size a ≤ S2x1152x1024.size a) ∧
  (∀ k0_t19 : Fin (k0_t19_loop v270).trips, ∀ (k0_h2 : k0_cond2 i = 1#1), ∀ (hinb : ∀ a, (k0_off69 i v266 v270 k0_t19) a + S1x16x1024.size a ≤ S2x1152x1024.size a), (Rect.unit (s := S2x1152x1024) (k0_off69 i v266 v270 k0_t19) S1x16x1024.size hinb).WholeWords (EltTy.packing .bf16)) ∧
  (∀ (k0_h2 : k0_cond2 i = 1#1), (k0_t20_loop v270).OK) ∧
  (∀ k0_t20 : Fin (k0_t20_loop v270).trips, ∀ (k0_h2 : k0_cond2 i = 1#1), 16 ∣ (k0_mult39 v268 v270 k0_t20).toNat) ∧
  (∀ k0_t20 : Fin (k0_t20_loop v270).trips, ∀ (k0_h2 : k0_cond2 i = 1#1), 16 ∣ (k0_mult40 v266 v270 k0_t20).toNat) ∧
  (∀ k0_t20 : Fin (k0_t20_loop v270).trips, ∀ (k0_h2 : k0_cond2 i = 1#1), ∀ a, (k0_off72 v266 v270 k0_t20) a + S16x1024.size a ≤ S1152x1024.size a) ∧
  (∀ k0_t20 : Fin (k0_t20_loop v270).trips, ∀ (k0_h2 : k0_cond2 i = 1#1), ∀ a, (k0_off73 v268 v270 k0_t20) a + S16x1024.size a ≤ S44032x1024.size a) ∧
  (∀ k0_t20 : Fin (k0_t20_loop v270).trips, ∀ (k0_h2 : k0_cond2 i = 1#1), ∀ (hinb : ∀ a, (k0_off73 v268 v270 k0_t20) a + S16x1024.size a ≤ S44032x1024.size a), (Rect.unit (s := S44032x1024) (k0_off73 v268 v270 k0_t20) S16x1024.size hinb).WholeWords (EltTy.packing .bf16)) ∧
  (∀ k0_t20 : Fin (k0_t20_loop v270).trips, ∀ (k0_h2 : k0_cond2 i = 1#1), ∀ a, (k0_off74 i v266 v270 k0_t20) a + S1x16x1024.size a ≤ S2x1152x1024.size a) ∧
  (∀ k0_t20 : Fin (k0_t20_loop v270).trips, ∀ (k0_h2 : k0_cond2 i = 1#1), ∀ (hinb : ∀ a, (k0_off74 i v266 v270 k0_t20) a + S1x16x1024.size a ≤ S2x1152x1024.size a), (Rect.unit (s := S2x1152x1024) (k0_off74 i v266 v270 k0_t20) S1x16x1024.size hinb).WholeWords (EltTy.packing .bf16))
theorem k0_t19_ok : ∀ (i : grid0.Coords) (v266 : BitVec 32) (v268 : BitVec 32) (v270 : BitVec 32) (k0_hw10 : k0_chk10 i v266 v268 v270), ∀ (k0_h2 : k0_cond2 i = 1#1), (k0_t19_loop v270).OK := fun i v266 v268 v270 k0_hw10 k0_h2 => k0_hw10.1 k0_h2
theorem k0_mult37_dvd : ∀ (i : grid0.Coords) (v266 : BitVec 32) (v268 : BitVec 32) (v270 : BitVec 32) (k0_hw10 : k0_chk10 i v266 v268 v270) (k0_t19 : Fin (k0_t19_loop v270).trips), ∀ (k0_h2 : k0_cond2 i = 1#1), 16 ∣ (k0_mult37 v268 v270 k0_t19).toNat := fun i v266 v268 v270 k0_hw10 k0_t19 k0_h2 => k0_hw10.2.1 k0_t19 k0_h2
theorem k0_mult38_dvd : ∀ (i : grid0.Coords) (v266 : BitVec 32) (v268 : BitVec 32) (v270 : BitVec 32) (k0_hw10 : k0_chk10 i v266 v268 v270) (k0_t19 : Fin (k0_t19_loop v270).trips), ∀ (k0_h2 : k0_cond2 i = 1#1), 16 ∣ (k0_mult38 v266 v270 k0_t19).toNat := fun i v266 v268 v270 k0_hw10 k0_t19 k0_h2 => k0_hw10.2.2.1 k0_t19 k0_h2
theorem k0_off67_inb : ∀ (i : grid0.Coords) (v266 : BitVec 32) (v268 : BitVec 32) (v270 : BitVec 32) (k0_hw10 : k0_chk10 i v266 v268 v270) (k0_t19 : Fin (k0_t19_loop v270).trips), ∀ (k0_h2 : k0_cond2 i = 1#1), ∀ a, (k0_off67 v266 v270 k0_t19) a + S16x1024.size a ≤ S1152x1024.size a := fun i v266 v268 v270 k0_hw10 k0_t19 k0_h2 => k0_hw10.2.2.2.1 k0_t19 k0_h2
theorem k0_off68_inb : ∀ (i : grid0.Coords) (v266 : BitVec 32) (v268 : BitVec 32) (v270 : BitVec 32) (k0_hw10 : k0_chk10 i v266 v268 v270) (k0_t19 : Fin (k0_t19_loop v270).trips), ∀ (k0_h2 : k0_cond2 i = 1#1), ∀ a, (k0_off68 v268 v270 k0_t19) a + S16x1024.size a ≤ S44032x1024.size a := fun i v266 v268 v270 k0_hw10 k0_t19 k0_h2 => k0_hw10.2.2.2.2.1 k0_t19 k0_h2
theorem k0_off68_wordsbf16 : ∀ (i : grid0.Coords) (v266 : BitVec 32) (v268 : BitVec 32) (v270 : BitVec 32) (k0_hw10 : k0_chk10 i v266 v268 v270) (k0_t19 : Fin (k0_t19_loop v270).trips), ∀ (k0_h2 : k0_cond2 i = 1#1), (Rect.unit (s := S44032x1024) (k0_off68 v268 v270 k0_t19) S16x1024.size (k0_off68_inb i v266 v268 v270 k0_hw10 k0_t19 k0_h2)).WholeWords (EltTy.packing .bf16) := fun i v266 v268 v270 k0_hw10 k0_t19 k0_h2 => k0_hw10.2.2.2.2.2.1 k0_t19 k0_h2 (k0_off68_inb i v266 v268 v270 k0_hw10 k0_t19 k0_h2)
theorem k0_off69_inb : ∀ (i : grid0.Coords) (v266 : BitVec 32) (v268 : BitVec 32) (v270 : BitVec 32) (k0_hw10 : k0_chk10 i v266 v268 v270) (k0_t19 : Fin (k0_t19_loop v270).trips), ∀ (k0_h2 : k0_cond2 i = 1#1), ∀ a, (k0_off69 i v266 v270 k0_t19) a + S1x16x1024.size a ≤ S2x1152x1024.size a := fun i v266 v268 v270 k0_hw10 k0_t19 k0_h2 => k0_hw10.2.2.2.2.2.2.1 k0_t19 k0_h2
theorem k0_off69_wordsbf16 : ∀ (i : grid0.Coords) (v266 : BitVec 32) (v268 : BitVec 32) (v270 : BitVec 32) (k0_hw10 : k0_chk10 i v266 v268 v270) (k0_t19 : Fin (k0_t19_loop v270).trips), ∀ (k0_h2 : k0_cond2 i = 1#1), (Rect.unit (s := S2x1152x1024) (k0_off69 i v266 v270 k0_t19) S1x16x1024.size (k0_off69_inb i v266 v268 v270 k0_hw10 k0_t19 k0_h2)).WholeWords (EltTy.packing .bf16) := fun i v266 v268 v270 k0_hw10 k0_t19 k0_h2 => k0_hw10.2.2.2.2.2.2.2.1 k0_t19 k0_h2 (k0_off69_inb i v266 v268 v270 k0_hw10 k0_t19 k0_h2)
theorem k0_t20_ok : ∀ (i : grid0.Coords) (v266 : BitVec 32) (v268 : BitVec 32) (v270 : BitVec 32) (k0_hw10 : k0_chk10 i v266 v268 v270), ∀ (k0_h2 : k0_cond2 i = 1#1), (k0_t20_loop v270).OK := fun i v266 v268 v270 k0_hw10 k0_h2 => k0_hw10.2.2.2.2.2.2.2.2.1 k0_h2
theorem k0_mult39_dvd : ∀ (i : grid0.Coords) (v266 : BitVec 32) (v268 : BitVec 32) (v270 : BitVec 32) (k0_hw10 : k0_chk10 i v266 v268 v270) (k0_t20 : Fin (k0_t20_loop v270).trips), ∀ (k0_h2 : k0_cond2 i = 1#1), 16 ∣ (k0_mult39 v268 v270 k0_t20).toNat := fun i v266 v268 v270 k0_hw10 k0_t20 k0_h2 => k0_hw10.2.2.2.2.2.2.2.2.2.1 k0_t20 k0_h2
theorem k0_mult40_dvd : ∀ (i : grid0.Coords) (v266 : BitVec 32) (v268 : BitVec 32) (v270 : BitVec 32) (k0_hw10 : k0_chk10 i v266 v268 v270) (k0_t20 : Fin (k0_t20_loop v270).trips), ∀ (k0_h2 : k0_cond2 i = 1#1), 16 ∣ (k0_mult40 v266 v270 k0_t20).toNat := fun i v266 v268 v270 k0_hw10 k0_t20 k0_h2 => k0_hw10.2.2.2.2.2.2.2.2.2.2.1 k0_t20 k0_h2
theorem k0_off72_inb : ∀ (i : grid0.Coords) (v266 : BitVec 32) (v268 : BitVec 32) (v270 : BitVec 32) (k0_hw10 : k0_chk10 i v266 v268 v270) (k0_t20 : Fin (k0_t20_loop v270).trips), ∀ (k0_h2 : k0_cond2 i = 1#1), ∀ a, (k0_off72 v266 v270 k0_t20) a + S16x1024.size a ≤ S1152x1024.size a := fun i v266 v268 v270 k0_hw10 k0_t20 k0_h2 => k0_hw10.2.2.2.2.2.2.2.2.2.2.2.1 k0_t20 k0_h2
theorem k0_off73_inb : ∀ (i : grid0.Coords) (v266 : BitVec 32) (v268 : BitVec 32) (v270 : BitVec 32) (k0_hw10 : k0_chk10 i v266 v268 v270) (k0_t20 : Fin (k0_t20_loop v270).trips), ∀ (k0_h2 : k0_cond2 i = 1#1), ∀ a, (k0_off73 v268 v270 k0_t20) a + S16x1024.size a ≤ S44032x1024.size a := fun i v266 v268 v270 k0_hw10 k0_t20 k0_h2 => k0_hw10.2.2.2.2.2.2.2.2.2.2.2.2.1 k0_t20 k0_h2
theorem k0_off73_wordsbf16 : ∀ (i : grid0.Coords) (v266 : BitVec 32) (v268 : BitVec 32) (v270 : BitVec 32) (k0_hw10 : k0_chk10 i v266 v268 v270) (k0_t20 : Fin (k0_t20_loop v270).trips), ∀ (k0_h2 : k0_cond2 i = 1#1), (Rect.unit (s := S44032x1024) (k0_off73 v268 v270 k0_t20) S16x1024.size (k0_off73_inb i v266 v268 v270 k0_hw10 k0_t20 k0_h2)).WholeWords (EltTy.packing .bf16) := fun i v266 v268 v270 k0_hw10 k0_t20 k0_h2 => k0_hw10.2.2.2.2.2.2.2.2.2.2.2.2.2.1 k0_t20 k0_h2 (k0_off73_inb i v266 v268 v270 k0_hw10 k0_t20 k0_h2)
theorem k0_off74_inb : ∀ (i : grid0.Coords) (v266 : BitVec 32) (v268 : BitVec 32) (v270 : BitVec 32) (k0_hw10 : k0_chk10 i v266 v268 v270) (k0_t20 : Fin (k0_t20_loop v270).trips), ∀ (k0_h2 : k0_cond2 i = 1#1), ∀ a, (k0_off74 i v266 v270 k0_t20) a + S1x16x1024.size a ≤ S2x1152x1024.size a := fun i v266 v268 v270 k0_hw10 k0_t20 k0_h2 => k0_hw10.2.2.2.2.2.2.2.2.2.2.2.2.2.2.1 k0_t20 k0_h2
theorem k0_off74_wordsbf16 : ∀ (i : grid0.Coords) (v266 : BitVec 32) (v268 : BitVec 32) (v270 : BitVec 32) (k0_hw10 : k0_chk10 i v266 v268 v270) (k0_t20 : Fin (k0_t20_loop v270).trips), ∀ (k0_h2 : k0_cond2 i = 1#1), (Rect.unit (s := S2x1152x1024) (k0_off74 i v266 v270 k0_t20) S1x16x1024.size (k0_off74_inb i v266 v268 v270 k0_hw10 k0_t20 k0_h2)).WholeWords (EltTy.packing .bf16) := fun i v266 v268 v270 k0_hw10 k0_t20 k0_h2 => k0_hw10.2.2.2.2.2.2.2.2.2.2.2.2.2.2.2 k0_t20 k0_h2 (k0_off74_inb i v266 v268 v270 k0_hw10 k0_t20 k0_h2)

def k0_off75 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v295 : Index := Scalar.indexCast v233
  let c2 : Index := 2#32
  ![v295.toNat, 2]
def k0_off76 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v297 : Index := Scalar.indexCast v233
  let c18 : Index := 18#32
  ![v297.toNat, 18]
def k0_off77 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v299 : Index := Scalar.indexCast v233
  let c10_114 : Index := 10#32
  ![v299.toNat, 10]
@[reducible] def k0_t21_loop (v300 : BitVec 32) : Scf.Loop 32 :=
  let c0_i32_122 : BitVec 32 := 0#32
  let c0_i32_116 : BitVec 32 := 0#32
  let v302 : BitVec 1 := Scalar.cmpi .sgt v300 c0_i32_116
  let v303 : BitVec 32 := Scalar.extui v302
  let c0_i32_117 : BitVec 32 := 0#32
  let v304 : BitVec 1 := Scalar.cmpi .slt v300 c0_i32_117
  let v305 : BitVec 32 := Scalar.extui v304
  let v306 : BitVec 32 := Scalar.subi v303 v305
  let c16_i32_115 : BitVec 32 := 16#32
  let c0_i32_118 : BitVec 32 := 0#32
  let v307 : BitVec 1 := Scalar.cmpi .sgt c16_i32_115 c0_i32_118
  let v308 : BitVec 32 := Scalar.extui v307
  let c0_i32_119 : BitVec 32 := 0#32
  let v309 : BitVec 1 := Scalar.cmpi .slt c16_i32_115 c0_i32_119
  let v310 : BitVec 32 := Scalar.extui v309
  let v311 : BitVec 32 := Scalar.subi v308 v310
  let v312 : BitVec 1 := Scalar.cmpi .ne v306 v311
  let v313 : BitVec 32 := Scalar.remsi v300 c16_i32_115
  let c0_i32_120 : BitVec 32 := 0#32
  let v314 : BitVec 1 := Scalar.cmpi .ne v313 c0_i32_120
  let v315 : BitVec 1 := Scalar.andi v312 v314
  let v301 : BitVec 32 := Scalar.divsi v300 c16_i32_115
  let c1_i32_121 : BitVec 32 := 1#32
  let v316 : BitVec 32 := Scalar.subi v301 c1_i32_121
  let v317 : BitVec 32 := Scalar.select v315 v316 v301
  let v318 : BitVec 32 := Scalar.subi v317 c0_i32_122
  let c1_i32_124 : BitVec 32 := 1#32
  let v320 : BitVec 32 := Scalar.divsi v318 c1_i32_124
  let v321 : BitVec 32 := Scalar.muli v320 c1_i32_124
  let v322 : BitVec 32 := Scalar.addi c0_i32_122 v321
  let c1_i32_125 : BitVec 32 := 1#32
  ⟨c0_i32_122, v322, c1_i32_125⟩

def k0_mult41 (v298 : BitVec 32) (v300 : BitVec 32) (k0_t21 : Fin (k0_t21_loop v300).trips) : BitVec 32 :=
  let c0_i32_122 : BitVec 32 := 0#32
  let c1_i32_125 : BitVec 32 := 1#32
  let arg9 : BitVec 32 := Scf.iv c0_i32_122 c1_i32_125 k0_t21
  let c16_i32_192 : BitVec 32 := 16#32
  let v475 : BitVec 32 := Scalar.muli arg9 c16_i32_192
  let v476 : BitVec 32 := Scalar.addi v298 v475
  v476
def k0_mult42 (v296 : BitVec 32) (v300 : BitVec 32) (k0_t21 : Fin (k0_t21_loop v300).trips) : BitVec 32 :=
  let c0_i32_122 : BitVec 32 := 0#32
  let c1_i32_125 : BitVec 32 := 1#32
  let arg9 : BitVec 32 := Scf.iv c0_i32_122 c1_i32_125 k0_t21
  let c16_i32_193 : BitVec 32 := 16#32
  let v478 : BitVec 32 := Scalar.muli arg9 c16_i32_193
  let v479 : BitVec 32 := Scalar.addi v296 v478
  v479
def k0_off78 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off79 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off80 (v296 : BitVec 32) (v300 : BitVec 32) (k0_t21 : Fin (k0_t21_loop v300).trips) : Fin 2 → Nat :=
  let c0_i32_122 : BitVec 32 := 0#32
  let c1_i32_125 : BitVec 32 := 1#32
  let arg9 : BitVec 32 := Scf.iv c0_i32_122 c1_i32_125 k0_t21
  let c16_i32_193 : BitVec 32 := 16#32
  let v478 : BitVec 32 := Scalar.muli arg9 c16_i32_193
  let v479 : BitVec 32 := Scalar.addi v296 v478
  let v480 : BitVec 32 := v479
  let c0_i32_196 : BitVec 32 := 0#32
  ![v480.toNat, 0]
def k0_off81 (v298 : BitVec 32) (v300 : BitVec 32) (k0_t21 : Fin (k0_t21_loop v300).trips) : Fin 2 → Nat :=
  let c0_i32_122 : BitVec 32 := 0#32
  let c1_i32_125 : BitVec 32 := 1#32
  let arg9 : BitVec 32 := Scf.iv c0_i32_122 c1_i32_125 k0_t21
  let c16_i32_192 : BitVec 32 := 16#32
  let v475 : BitVec 32 := Scalar.muli arg9 c16_i32_192
  let v476 : BitVec 32 := Scalar.addi v298 v475
  let v477 : BitVec 32 := v476
  let c0_i32_197 : BitVec 32 := 0#32
  ![v477.toNat, 0]
def k0_off82 (i : grid0.Coords) (v296 : BitVec 32) (v300 : BitVec 32) (k0_t21 : Fin (k0_t21_loop v300).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_122 : BitVec 32 := 0#32
  let c1_i32_125 : BitVec 32 := 1#32
  let arg9 : BitVec 32 := Scf.iv c0_i32_122 c1_i32_125 k0_t21
  let c16_i32_193 : BitVec 32 := 16#32
  let v478 : BitVec 32 := Scalar.muli arg9 c16_i32_193
  let v479 : BitVec 32 := Scalar.addi v296 v478
  let v480 : BitVec 32 := v479
  let c0_i32_195 : BitVec 32 := 0#32
  ![v234.toNat, v480.toNat, 0]
@[reducible] def k0_t22_loop (v300 : BitVec 32) : Scf.Loop 32 :=
  let c0_i32_122 : BitVec 32 := 0#32
  let c0_i32_116 : BitVec 32 := 0#32
  let v302 : BitVec 1 := Scalar.cmpi .sgt v300 c0_i32_116
  let v303 : BitVec 32 := Scalar.extui v302
  let c0_i32_117 : BitVec 32 := 0#32
  let v304 : BitVec 1 := Scalar.cmpi .slt v300 c0_i32_117
  let v305 : BitVec 32 := Scalar.extui v304
  let v306 : BitVec 32 := Scalar.subi v303 v305
  let c16_i32_115 : BitVec 32 := 16#32
  let c0_i32_118 : BitVec 32 := 0#32
  let v307 : BitVec 1 := Scalar.cmpi .sgt c16_i32_115 c0_i32_118
  let v308 : BitVec 32 := Scalar.extui v307
  let c0_i32_119 : BitVec 32 := 0#32
  let v309 : BitVec 1 := Scalar.cmpi .slt c16_i32_115 c0_i32_119
  let v310 : BitVec 32 := Scalar.extui v309
  let v311 : BitVec 32 := Scalar.subi v308 v310
  let v312 : BitVec 1 := Scalar.cmpi .ne v306 v311
  let v313 : BitVec 32 := Scalar.remsi v300 c16_i32_115
  let c0_i32_120 : BitVec 32 := 0#32
  let v314 : BitVec 1 := Scalar.cmpi .ne v313 c0_i32_120
  let v315 : BitVec 1 := Scalar.andi v312 v314
  let v301 : BitVec 32 := Scalar.divsi v300 c16_i32_115
  let c1_i32_121 : BitVec 32 := 1#32
  let v316 : BitVec 32 := Scalar.subi v301 c1_i32_121
  let v317 : BitVec 32 := Scalar.select v315 v316 v301
  let v318 : BitVec 32 := Scalar.subi v317 c0_i32_122
  let c1_i32_124 : BitVec 32 := 1#32
  let v320 : BitVec 32 := Scalar.divsi v318 c1_i32_124
  let v321 : BitVec 32 := Scalar.muli v320 c1_i32_124
  let v322 : BitVec 32 := Scalar.addi c0_i32_122 v321
  let v319 : BitVec 32 := Scalar.addi c0_i32_122 v318
  let c1_i32_126 : BitVec 32 := 1#32
  ⟨v322, v319, c1_i32_126⟩
def k0_mult43 (v298 : BitVec 32) (v300 : BitVec 32) (k0_t22 : Fin (k0_t22_loop v300).trips) : BitVec 32 :=
  let c0_i32_122 : BitVec 32 := 0#32
  let c0_i32_116 : BitVec 32 := 0#32
  let v302 : BitVec 1 := Scalar.cmpi .sgt v300 c0_i32_116
  let v303 : BitVec 32 := Scalar.extui v302
  let c0_i32_117 : BitVec 32 := 0#32
  let v304 : BitVec 1 := Scalar.cmpi .slt v300 c0_i32_117
  let v305 : BitVec 32 := Scalar.extui v304
  let v306 : BitVec 32 := Scalar.subi v303 v305
  let c16_i32_115 : BitVec 32 := 16#32
  let c0_i32_118 : BitVec 32 := 0#32
  let v307 : BitVec 1 := Scalar.cmpi .sgt c16_i32_115 c0_i32_118
  let v308 : BitVec 32 := Scalar.extui v307
  let c0_i32_119 : BitVec 32 := 0#32
  let v309 : BitVec 1 := Scalar.cmpi .slt c16_i32_115 c0_i32_119
  let v310 : BitVec 32 := Scalar.extui v309
  let v311 : BitVec 32 := Scalar.subi v308 v310
  let v312 : BitVec 1 := Scalar.cmpi .ne v306 v311
  let v313 : BitVec 32 := Scalar.remsi v300 c16_i32_115
  let c0_i32_120 : BitVec 32 := 0#32
  let v314 : BitVec 1 := Scalar.cmpi .ne v313 c0_i32_120
  let v315 : BitVec 1 := Scalar.andi v312 v314
  let v301 : BitVec 32 := Scalar.divsi v300 c16_i32_115
  let c1_i32_121 : BitVec 32 := 1#32
  let v316 : BitVec 32 := Scalar.subi v301 c1_i32_121
  let v317 : BitVec 32 := Scalar.select v315 v316 v301
  let v318 : BitVec 32 := Scalar.subi v317 c0_i32_122
  let c1_i32_124 : BitVec 32 := 1#32
  let v320 : BitVec 32 := Scalar.divsi v318 c1_i32_124
  let v321 : BitVec 32 := Scalar.muli v320 c1_i32_124
  let v322 : BitVec 32 := Scalar.addi c0_i32_122 v321
  let c1_i32_126 : BitVec 32 := 1#32
  let arg9 : BitVec 32 := Scf.iv v322 c1_i32_126 k0_t22
  let c16_i32_192 : BitVec 32 := 16#32
  let v475 : BitVec 32 := Scalar.muli arg9 c16_i32_192
  let v476 : BitVec 32 := Scalar.addi v298 v475
  v476
def k0_mult44 (v296 : BitVec 32) (v300 : BitVec 32) (k0_t22 : Fin (k0_t22_loop v300).trips) : BitVec 32 :=
  let c0_i32_122 : BitVec 32 := 0#32
  let c0_i32_116 : BitVec 32 := 0#32
  let v302 : BitVec 1 := Scalar.cmpi .sgt v300 c0_i32_116
  let v303 : BitVec 32 := Scalar.extui v302
  let c0_i32_117 : BitVec 32 := 0#32
  let v304 : BitVec 1 := Scalar.cmpi .slt v300 c0_i32_117
  let v305 : BitVec 32 := Scalar.extui v304
  let v306 : BitVec 32 := Scalar.subi v303 v305
  let c16_i32_115 : BitVec 32 := 16#32
  let c0_i32_118 : BitVec 32 := 0#32
  let v307 : BitVec 1 := Scalar.cmpi .sgt c16_i32_115 c0_i32_118
  let v308 : BitVec 32 := Scalar.extui v307
  let c0_i32_119 : BitVec 32 := 0#32
  let v309 : BitVec 1 := Scalar.cmpi .slt c16_i32_115 c0_i32_119
  let v310 : BitVec 32 := Scalar.extui v309
  let v311 : BitVec 32 := Scalar.subi v308 v310
  let v312 : BitVec 1 := Scalar.cmpi .ne v306 v311
  let v313 : BitVec 32 := Scalar.remsi v300 c16_i32_115
  let c0_i32_120 : BitVec 32 := 0#32
  let v314 : BitVec 1 := Scalar.cmpi .ne v313 c0_i32_120
  let v315 : BitVec 1 := Scalar.andi v312 v314
  let v301 : BitVec 32 := Scalar.divsi v300 c16_i32_115
  let c1_i32_121 : BitVec 32 := 1#32
  let v316 : BitVec 32 := Scalar.subi v301 c1_i32_121
  let v317 : BitVec 32 := Scalar.select v315 v316 v301
  let v318 : BitVec 32 := Scalar.subi v317 c0_i32_122
  let c1_i32_124 : BitVec 32 := 1#32
  let v320 : BitVec 32 := Scalar.divsi v318 c1_i32_124
  let v321 : BitVec 32 := Scalar.muli v320 c1_i32_124
  let v322 : BitVec 32 := Scalar.addi c0_i32_122 v321
  let c1_i32_126 : BitVec 32 := 1#32
  let arg9 : BitVec 32 := Scf.iv v322 c1_i32_126 k0_t22
  let c16_i32_193 : BitVec 32 := 16#32
  let v478 : BitVec 32 := Scalar.muli arg9 c16_i32_193
  let v479 : BitVec 32 := Scalar.addi v296 v478
  v479
def k0_off83 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off84 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off85 (v296 : BitVec 32) (v300 : BitVec 32) (k0_t22 : Fin (k0_t22_loop v300).trips) : Fin 2 → Nat :=
  let c0_i32_122 : BitVec 32 := 0#32
  let c0_i32_116 : BitVec 32 := 0#32
  let v302 : BitVec 1 := Scalar.cmpi .sgt v300 c0_i32_116
  let v303 : BitVec 32 := Scalar.extui v302
  let c0_i32_117 : BitVec 32 := 0#32
  let v304 : BitVec 1 := Scalar.cmpi .slt v300 c0_i32_117
  let v305 : BitVec 32 := Scalar.extui v304
  let v306 : BitVec 32 := Scalar.subi v303 v305
  let c16_i32_115 : BitVec 32 := 16#32
  let c0_i32_118 : BitVec 32 := 0#32
  let v307 : BitVec 1 := Scalar.cmpi .sgt c16_i32_115 c0_i32_118
  let v308 : BitVec 32 := Scalar.extui v307
  let c0_i32_119 : BitVec 32 := 0#32
  let v309 : BitVec 1 := Scalar.cmpi .slt c16_i32_115 c0_i32_119
  let v310 : BitVec 32 := Scalar.extui v309
  let v311 : BitVec 32 := Scalar.subi v308 v310
  let v312 : BitVec 1 := Scalar.cmpi .ne v306 v311
  let v313 : BitVec 32 := Scalar.remsi v300 c16_i32_115
  let c0_i32_120 : BitVec 32 := 0#32
  let v314 : BitVec 1 := Scalar.cmpi .ne v313 c0_i32_120
  let v315 : BitVec 1 := Scalar.andi v312 v314
  let v301 : BitVec 32 := Scalar.divsi v300 c16_i32_115
  let c1_i32_121 : BitVec 32 := 1#32
  let v316 : BitVec 32 := Scalar.subi v301 c1_i32_121
  let v317 : BitVec 32 := Scalar.select v315 v316 v301
  let v318 : BitVec 32 := Scalar.subi v317 c0_i32_122
  let c1_i32_124 : BitVec 32 := 1#32
  let v320 : BitVec 32 := Scalar.divsi v318 c1_i32_124
  let v321 : BitVec 32 := Scalar.muli v320 c1_i32_124
  let v322 : BitVec 32 := Scalar.addi c0_i32_122 v321
  let c1_i32_126 : BitVec 32 := 1#32
  let arg9 : BitVec 32 := Scf.iv v322 c1_i32_126 k0_t22
  let c16_i32_193 : BitVec 32 := 16#32
  let v478 : BitVec 32 := Scalar.muli arg9 c16_i32_193
  let v479 : BitVec 32 := Scalar.addi v296 v478
  let v480 : BitVec 32 := v479
  let c0_i32_196 : BitVec 32 := 0#32
  ![v480.toNat, 0]
def k0_off86 (v298 : BitVec 32) (v300 : BitVec 32) (k0_t22 : Fin (k0_t22_loop v300).trips) : Fin 2 → Nat :=
  let c0_i32_122 : BitVec 32 := 0#32
  let c0_i32_116 : BitVec 32 := 0#32
  let v302 : BitVec 1 := Scalar.cmpi .sgt v300 c0_i32_116
  let v303 : BitVec 32 := Scalar.extui v302
  let c0_i32_117 : BitVec 32 := 0#32
  let v304 : BitVec 1 := Scalar.cmpi .slt v300 c0_i32_117
  let v305 : BitVec 32 := Scalar.extui v304
  let v306 : BitVec 32 := Scalar.subi v303 v305
  let c16_i32_115 : BitVec 32 := 16#32
  let c0_i32_118 : BitVec 32 := 0#32
  let v307 : BitVec 1 := Scalar.cmpi .sgt c16_i32_115 c0_i32_118
  let v308 : BitVec 32 := Scalar.extui v307
  let c0_i32_119 : BitVec 32 := 0#32
  let v309 : BitVec 1 := Scalar.cmpi .slt c16_i32_115 c0_i32_119
  let v310 : BitVec 32 := Scalar.extui v309
  let v311 : BitVec 32 := Scalar.subi v308 v310
  let v312 : BitVec 1 := Scalar.cmpi .ne v306 v311
  let v313 : BitVec 32 := Scalar.remsi v300 c16_i32_115
  let c0_i32_120 : BitVec 32 := 0#32
  let v314 : BitVec 1 := Scalar.cmpi .ne v313 c0_i32_120
  let v315 : BitVec 1 := Scalar.andi v312 v314
  let v301 : BitVec 32 := Scalar.divsi v300 c16_i32_115
  let c1_i32_121 : BitVec 32 := 1#32
  let v316 : BitVec 32 := Scalar.subi v301 c1_i32_121
  let v317 : BitVec 32 := Scalar.select v315 v316 v301
  let v318 : BitVec 32 := Scalar.subi v317 c0_i32_122
  let c1_i32_124 : BitVec 32 := 1#32
  let v320 : BitVec 32 := Scalar.divsi v318 c1_i32_124
  let v321 : BitVec 32 := Scalar.muli v320 c1_i32_124
  let v322 : BitVec 32 := Scalar.addi c0_i32_122 v321
  let c1_i32_126 : BitVec 32 := 1#32
  let arg9 : BitVec 32 := Scf.iv v322 c1_i32_126 k0_t22
  let c16_i32_192 : BitVec 32 := 16#32
  let v475 : BitVec 32 := Scalar.muli arg9 c16_i32_192
  let v476 : BitVec 32 := Scalar.addi v298 v475
  let v477 : BitVec 32 := v476
  let c0_i32_197 : BitVec 32 := 0#32
  ![v477.toNat, 0]
def k0_off87 (i : grid0.Coords) (v296 : BitVec 32) (v300 : BitVec 32) (k0_t22 : Fin (k0_t22_loop v300).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_122 : BitVec 32 := 0#32
  let c0_i32_116 : BitVec 32 := 0#32
  let v302 : BitVec 1 := Scalar.cmpi .sgt v300 c0_i32_116
  let v303 : BitVec 32 := Scalar.extui v302
  let c0_i32_117 : BitVec 32 := 0#32
  let v304 : BitVec 1 := Scalar.cmpi .slt v300 c0_i32_117
  let v305 : BitVec 32 := Scalar.extui v304
  let v306 : BitVec 32 := Scalar.subi v303 v305
  let c16_i32_115 : BitVec 32 := 16#32
  let c0_i32_118 : BitVec 32 := 0#32
  let v307 : BitVec 1 := Scalar.cmpi .sgt c16_i32_115 c0_i32_118
  let v308 : BitVec 32 := Scalar.extui v307
  let c0_i32_119 : BitVec 32 := 0#32
  let v309 : BitVec 1 := Scalar.cmpi .slt c16_i32_115 c0_i32_119
  let v310 : BitVec 32 := Scalar.extui v309
  let v311 : BitVec 32 := Scalar.subi v308 v310
  let v312 : BitVec 1 := Scalar.cmpi .ne v306 v311
  let v313 : BitVec 32 := Scalar.remsi v300 c16_i32_115
  let c0_i32_120 : BitVec 32 := 0#32
  let v314 : BitVec 1 := Scalar.cmpi .ne v313 c0_i32_120
  let v315 : BitVec 1 := Scalar.andi v312 v314
  let v301 : BitVec 32 := Scalar.divsi v300 c16_i32_115
  let c1_i32_121 : BitVec 32 := 1#32
  let v316 : BitVec 32 := Scalar.subi v301 c1_i32_121
  let v317 : BitVec 32 := Scalar.select v315 v316 v301
  let v318 : BitVec 32 := Scalar.subi v317 c0_i32_122
  let c1_i32_124 : BitVec 32 := 1#32
  let v320 : BitVec 32 := Scalar.divsi v318 c1_i32_124
  let v321 : BitVec 32 := Scalar.muli v320 c1_i32_124
  let v322 : BitVec 32 := Scalar.addi c0_i32_122 v321
  let c1_i32_126 : BitVec 32 := 1#32
  let arg9 : BitVec 32 := Scf.iv v322 c1_i32_126 k0_t22
  let c16_i32_193 : BitVec 32 := 16#32
  let v478 : BitVec 32 := Scalar.muli arg9 c16_i32_193
  let v479 : BitVec 32 := Scalar.addi v296 v478
  let v480 : BitVec 32 := v479
  let c0_i32_195 : BitVec 32 := 0#32
  ![v234.toNat, v480.toNat, 0]

def k0_chk11 (i : grid0.Coords) (v296 : BitVec 32) (v298 : BitVec 32) (v300 : BitVec 32) : Prop :=
  (∀ (k0_h2 : k0_cond2 i = 1#1), (k0_t21_loop v300).OK) ∧
  (∀ k0_t21 : Fin (k0_t21_loop v300).trips, ∀ (k0_h2 : k0_cond2 i = 1#1), 16 ∣ (k0_mult41 v298 v300 k0_t21).toNat) ∧
  (∀ k0_t21 : Fin (k0_t21_loop v300).trips, ∀ (k0_h2 : k0_cond2 i = 1#1), 16 ∣ (k0_mult42 v296 v300 k0_t21).toNat) ∧
  (∀ k0_t21 : Fin (k0_t21_loop v300).trips, ∀ (k0_h2 : k0_cond2 i = 1#1), ∀ a, (k0_off80 v296 v300 k0_t21) a + S16x1024.size a ≤ S1152x1024.size a) ∧
  (∀ k0_t21 : Fin (k0_t21_loop v300).trips, ∀ (k0_h2 : k0_cond2 i = 1#1), ∀ a, (k0_off81 v298 v300 k0_t21) a + S16x1024.size a ≤ S44032x1024.size a) ∧
  (∀ k0_t21 : Fin (k0_t21_loop v300).trips, ∀ (k0_h2 : k0_cond2 i = 1#1), ∀ (hinb : ∀ a, (k0_off81 v298 v300 k0_t21) a + S16x1024.size a ≤ S44032x1024.size a), (Rect.unit (s := S44032x1024) (k0_off81 v298 v300 k0_t21) S16x1024.size hinb).WholeWords (EltTy.packing .bf16)) ∧
  (∀ k0_t21 : Fin (k0_t21_loop v300).trips, ∀ (k0_h2 : k0_cond2 i = 1#1), ∀ a, (k0_off82 i v296 v300 k0_t21) a + S1x16x1024.size a ≤ S2x1152x1024.size a) ∧
  (∀ k0_t21 : Fin (k0_t21_loop v300).trips, ∀ (k0_h2 : k0_cond2 i = 1#1), ∀ (hinb : ∀ a, (k0_off82 i v296 v300 k0_t21) a + S1x16x1024.size a ≤ S2x1152x1024.size a), (Rect.unit (s := S2x1152x1024) (k0_off82 i v296 v300 k0_t21) S1x16x1024.size hinb).WholeWords (EltTy.packing .bf16)) ∧
  (∀ (k0_h2 : k0_cond2 i = 1#1), (k0_t22_loop v300).OK) ∧
  (∀ k0_t22 : Fin (k0_t22_loop v300).trips, ∀ (k0_h2 : k0_cond2 i = 1#1), 16 ∣ (k0_mult43 v298 v300 k0_t22).toNat) ∧
  (∀ k0_t22 : Fin (k0_t22_loop v300).trips, ∀ (k0_h2 : k0_cond2 i = 1#1), 16 ∣ (k0_mult44 v296 v300 k0_t22).toNat) ∧
  (∀ k0_t22 : Fin (k0_t22_loop v300).trips, ∀ (k0_h2 : k0_cond2 i = 1#1), ∀ a, (k0_off85 v296 v300 k0_t22) a + S16x1024.size a ≤ S1152x1024.size a) ∧
  (∀ k0_t22 : Fin (k0_t22_loop v300).trips, ∀ (k0_h2 : k0_cond2 i = 1#1), ∀ a, (k0_off86 v298 v300 k0_t22) a + S16x1024.size a ≤ S44032x1024.size a) ∧
  (∀ k0_t22 : Fin (k0_t22_loop v300).trips, ∀ (k0_h2 : k0_cond2 i = 1#1), ∀ (hinb : ∀ a, (k0_off86 v298 v300 k0_t22) a + S16x1024.size a ≤ S44032x1024.size a), (Rect.unit (s := S44032x1024) (k0_off86 v298 v300 k0_t22) S16x1024.size hinb).WholeWords (EltTy.packing .bf16)) ∧
  (∀ k0_t22 : Fin (k0_t22_loop v300).trips, ∀ (k0_h2 : k0_cond2 i = 1#1), ∀ a, (k0_off87 i v296 v300 k0_t22) a + S1x16x1024.size a ≤ S2x1152x1024.size a) ∧
  (∀ k0_t22 : Fin (k0_t22_loop v300).trips, ∀ (k0_h2 : k0_cond2 i = 1#1), ∀ (hinb : ∀ a, (k0_off87 i v296 v300 k0_t22) a + S1x16x1024.size a ≤ S2x1152x1024.size a), (Rect.unit (s := S2x1152x1024) (k0_off87 i v296 v300 k0_t22) S1x16x1024.size hinb).WholeWords (EltTy.packing .bf16))
theorem k0_t21_ok : ∀ (i : grid0.Coords) (v296 : BitVec 32) (v298 : BitVec 32) (v300 : BitVec 32) (k0_hw11 : k0_chk11 i v296 v298 v300), ∀ (k0_h2 : k0_cond2 i = 1#1), (k0_t21_loop v300).OK := fun i v296 v298 v300 k0_hw11 k0_h2 => k0_hw11.1 k0_h2
theorem k0_mult41_dvd : ∀ (i : grid0.Coords) (v296 : BitVec 32) (v298 : BitVec 32) (v300 : BitVec 32) (k0_hw11 : k0_chk11 i v296 v298 v300) (k0_t21 : Fin (k0_t21_loop v300).trips), ∀ (k0_h2 : k0_cond2 i = 1#1), 16 ∣ (k0_mult41 v298 v300 k0_t21).toNat := fun i v296 v298 v300 k0_hw11 k0_t21 k0_h2 => k0_hw11.2.1 k0_t21 k0_h2
theorem k0_mult42_dvd : ∀ (i : grid0.Coords) (v296 : BitVec 32) (v298 : BitVec 32) (v300 : BitVec 32) (k0_hw11 : k0_chk11 i v296 v298 v300) (k0_t21 : Fin (k0_t21_loop v300).trips), ∀ (k0_h2 : k0_cond2 i = 1#1), 16 ∣ (k0_mult42 v296 v300 k0_t21).toNat := fun i v296 v298 v300 k0_hw11 k0_t21 k0_h2 => k0_hw11.2.2.1 k0_t21 k0_h2
theorem k0_off80_inb : ∀ (i : grid0.Coords) (v296 : BitVec 32) (v298 : BitVec 32) (v300 : BitVec 32) (k0_hw11 : k0_chk11 i v296 v298 v300) (k0_t21 : Fin (k0_t21_loop v300).trips), ∀ (k0_h2 : k0_cond2 i = 1#1), ∀ a, (k0_off80 v296 v300 k0_t21) a + S16x1024.size a ≤ S1152x1024.size a := fun i v296 v298 v300 k0_hw11 k0_t21 k0_h2 => k0_hw11.2.2.2.1 k0_t21 k0_h2
theorem k0_off81_inb : ∀ (i : grid0.Coords) (v296 : BitVec 32) (v298 : BitVec 32) (v300 : BitVec 32) (k0_hw11 : k0_chk11 i v296 v298 v300) (k0_t21 : Fin (k0_t21_loop v300).trips), ∀ (k0_h2 : k0_cond2 i = 1#1), ∀ a, (k0_off81 v298 v300 k0_t21) a + S16x1024.size a ≤ S44032x1024.size a := fun i v296 v298 v300 k0_hw11 k0_t21 k0_h2 => k0_hw11.2.2.2.2.1 k0_t21 k0_h2
theorem k0_off81_wordsbf16 : ∀ (i : grid0.Coords) (v296 : BitVec 32) (v298 : BitVec 32) (v300 : BitVec 32) (k0_hw11 : k0_chk11 i v296 v298 v300) (k0_t21 : Fin (k0_t21_loop v300).trips), ∀ (k0_h2 : k0_cond2 i = 1#1), (Rect.unit (s := S44032x1024) (k0_off81 v298 v300 k0_t21) S16x1024.size (k0_off81_inb i v296 v298 v300 k0_hw11 k0_t21 k0_h2)).WholeWords (EltTy.packing .bf16) := fun i v296 v298 v300 k0_hw11 k0_t21 k0_h2 => k0_hw11.2.2.2.2.2.1 k0_t21 k0_h2 (k0_off81_inb i v296 v298 v300 k0_hw11 k0_t21 k0_h2)
theorem k0_off82_inb : ∀ (i : grid0.Coords) (v296 : BitVec 32) (v298 : BitVec 32) (v300 : BitVec 32) (k0_hw11 : k0_chk11 i v296 v298 v300) (k0_t21 : Fin (k0_t21_loop v300).trips), ∀ (k0_h2 : k0_cond2 i = 1#1), ∀ a, (k0_off82 i v296 v300 k0_t21) a + S1x16x1024.size a ≤ S2x1152x1024.size a := fun i v296 v298 v300 k0_hw11 k0_t21 k0_h2 => k0_hw11.2.2.2.2.2.2.1 k0_t21 k0_h2
theorem k0_off82_wordsbf16 : ∀ (i : grid0.Coords) (v296 : BitVec 32) (v298 : BitVec 32) (v300 : BitVec 32) (k0_hw11 : k0_chk11 i v296 v298 v300) (k0_t21 : Fin (k0_t21_loop v300).trips), ∀ (k0_h2 : k0_cond2 i = 1#1), (Rect.unit (s := S2x1152x1024) (k0_off82 i v296 v300 k0_t21) S1x16x1024.size (k0_off82_inb i v296 v298 v300 k0_hw11 k0_t21 k0_h2)).WholeWords (EltTy.packing .bf16) := fun i v296 v298 v300 k0_hw11 k0_t21 k0_h2 => k0_hw11.2.2.2.2.2.2.2.1 k0_t21 k0_h2 (k0_off82_inb i v296 v298 v300 k0_hw11 k0_t21 k0_h2)
theorem k0_t22_ok : ∀ (i : grid0.Coords) (v296 : BitVec 32) (v298 : BitVec 32) (v300 : BitVec 32) (k0_hw11 : k0_chk11 i v296 v298 v300), ∀ (k0_h2 : k0_cond2 i = 1#1), (k0_t22_loop v300).OK := fun i v296 v298 v300 k0_hw11 k0_h2 => k0_hw11.2.2.2.2.2.2.2.2.1 k0_h2
theorem k0_mult43_dvd : ∀ (i : grid0.Coords) (v296 : BitVec 32) (v298 : BitVec 32) (v300 : BitVec 32) (k0_hw11 : k0_chk11 i v296 v298 v300) (k0_t22 : Fin (k0_t22_loop v300).trips), ∀ (k0_h2 : k0_cond2 i = 1#1), 16 ∣ (k0_mult43 v298 v300 k0_t22).toNat := fun i v296 v298 v300 k0_hw11 k0_t22 k0_h2 => k0_hw11.2.2.2.2.2.2.2.2.2.1 k0_t22 k0_h2
theorem k0_mult44_dvd : ∀ (i : grid0.Coords) (v296 : BitVec 32) (v298 : BitVec 32) (v300 : BitVec 32) (k0_hw11 : k0_chk11 i v296 v298 v300) (k0_t22 : Fin (k0_t22_loop v300).trips), ∀ (k0_h2 : k0_cond2 i = 1#1), 16 ∣ (k0_mult44 v296 v300 k0_t22).toNat := fun i v296 v298 v300 k0_hw11 k0_t22 k0_h2 => k0_hw11.2.2.2.2.2.2.2.2.2.2.1 k0_t22 k0_h2
theorem k0_off85_inb : ∀ (i : grid0.Coords) (v296 : BitVec 32) (v298 : BitVec 32) (v300 : BitVec 32) (k0_hw11 : k0_chk11 i v296 v298 v300) (k0_t22 : Fin (k0_t22_loop v300).trips), ∀ (k0_h2 : k0_cond2 i = 1#1), ∀ a, (k0_off85 v296 v300 k0_t22) a + S16x1024.size a ≤ S1152x1024.size a := fun i v296 v298 v300 k0_hw11 k0_t22 k0_h2 => k0_hw11.2.2.2.2.2.2.2.2.2.2.2.1 k0_t22 k0_h2
theorem k0_off86_inb : ∀ (i : grid0.Coords) (v296 : BitVec 32) (v298 : BitVec 32) (v300 : BitVec 32) (k0_hw11 : k0_chk11 i v296 v298 v300) (k0_t22 : Fin (k0_t22_loop v300).trips), ∀ (k0_h2 : k0_cond2 i = 1#1), ∀ a, (k0_off86 v298 v300 k0_t22) a + S16x1024.size a ≤ S44032x1024.size a := fun i v296 v298 v300 k0_hw11 k0_t22 k0_h2 => k0_hw11.2.2.2.2.2.2.2.2.2.2.2.2.1 k0_t22 k0_h2
theorem k0_off86_wordsbf16 : ∀ (i : grid0.Coords) (v296 : BitVec 32) (v298 : BitVec 32) (v300 : BitVec 32) (k0_hw11 : k0_chk11 i v296 v298 v300) (k0_t22 : Fin (k0_t22_loop v300).trips), ∀ (k0_h2 : k0_cond2 i = 1#1), (Rect.unit (s := S44032x1024) (k0_off86 v298 v300 k0_t22) S16x1024.size (k0_off86_inb i v296 v298 v300 k0_hw11 k0_t22 k0_h2)).WholeWords (EltTy.packing .bf16) := fun i v296 v298 v300 k0_hw11 k0_t22 k0_h2 => k0_hw11.2.2.2.2.2.2.2.2.2.2.2.2.2.1 k0_t22 k0_h2 (k0_off86_inb i v296 v298 v300 k0_hw11 k0_t22 k0_h2)
theorem k0_off87_inb : ∀ (i : grid0.Coords) (v296 : BitVec 32) (v298 : BitVec 32) (v300 : BitVec 32) (k0_hw11 : k0_chk11 i v296 v298 v300) (k0_t22 : Fin (k0_t22_loop v300).trips), ∀ (k0_h2 : k0_cond2 i = 1#1), ∀ a, (k0_off87 i v296 v300 k0_t22) a + S1x16x1024.size a ≤ S2x1152x1024.size a := fun i v296 v298 v300 k0_hw11 k0_t22 k0_h2 => k0_hw11.2.2.2.2.2.2.2.2.2.2.2.2.2.2.1 k0_t22 k0_h2
theorem k0_off87_wordsbf16 : ∀ (i : grid0.Coords) (v296 : BitVec 32) (v298 : BitVec 32) (v300 : BitVec 32) (k0_hw11 : k0_chk11 i v296 v298 v300) (k0_t22 : Fin (k0_t22_loop v300).trips), ∀ (k0_h2 : k0_cond2 i = 1#1), (Rect.unit (s := S2x1152x1024) (k0_off87 i v296 v300 k0_t22) S1x16x1024.size (k0_off87_inb i v296 v298 v300 k0_hw11 k0_t22 k0_h2)).WholeWords (EltTy.packing .bf16) := fun i v296 v298 v300 k0_hw11 k0_t22 k0_h2 => k0_hw11.2.2.2.2.2.2.2.2.2.2.2.2.2.2.2 k0_t22 k0_h2 (k0_off87_inb i v296 v298 v300 k0_hw11 k0_t22 k0_h2)

def k0_off88 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v325 : Index := Scalar.indexCast v233
  let c3 : Index := 3#32
  ![v325.toNat, 3]
def k0_off89 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v327 : Index := Scalar.indexCast v233
  let c19 : Index := 19#32
  ![v327.toNat, 19]
def k0_off90 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v329 : Index := Scalar.indexCast v233
  let c11_127 : Index := 11#32
  ![v329.toNat, 11]
@[reducible] def k0_t23_loop (v330 : BitVec 32) : Scf.Loop 32 :=
  let c0_i32_135 : BitVec 32 := 0#32
  let c0_i32_129 : BitVec 32 := 0#32
  let v332 : BitVec 1 := Scalar.cmpi .sgt v330 c0_i32_129
  let v333 : BitVec 32 := Scalar.extui v332
  let c0_i32_130 : BitVec 32 := 0#32
  let v334 : BitVec 1 := Scalar.cmpi .slt v330 c0_i32_130
  let v335 : BitVec 32 := Scalar.extui v334
  let v336 : BitVec 32 := Scalar.subi v333 v335
  let c16_i32_128 : BitVec 32 := 16#32
  let c0_i32_131 : BitVec 32 := 0#32
  let v337 : BitVec 1 := Scalar.cmpi .sgt c16_i32_128 c0_i32_131
  let v338 : BitVec 32 := Scalar.extui v337
  let c0_i32_132 : BitVec 32 := 0#32
  let v339 : BitVec 1 := Scalar.cmpi .slt c16_i32_128 c0_i32_132
  let v340 : BitVec 32 := Scalar.extui v339
  let v341 : BitVec 32 := Scalar.subi v338 v340
  let v342 : BitVec 1 := Scalar.cmpi .ne v336 v341
  let v343 : BitVec 32 := Scalar.remsi v330 c16_i32_128
  let c0_i32_133 : BitVec 32 := 0#32
  let v344 : BitVec 1 := Scalar.cmpi .ne v343 c0_i32_133
  let v345 : BitVec 1 := Scalar.andi v342 v344
  let v331 : BitVec 32 := Scalar.divsi v330 c16_i32_128
  let c1_i32_134 : BitVec 32 := 1#32
  let v346 : BitVec 32 := Scalar.subi v331 c1_i32_134
  let v347 : BitVec 32 := Scalar.select v345 v346 v331
  let v348 : BitVec 32 := Scalar.subi v347 c0_i32_135
  let c1_i32_137 : BitVec 32 := 1#32
  let v350 : BitVec 32 := Scalar.divsi v348 c1_i32_137
  let v351 : BitVec 32 := Scalar.muli v350 c1_i32_137
  let v352 : BitVec 32 := Scalar.addi c0_i32_135 v351
  let c1_i32_138 : BitVec 32 := 1#32
  ⟨c0_i32_135, v352, c1_i32_138⟩

def k0_mult45 (v328 : BitVec 32) (v330 : BitVec 32) (k0_t23 : Fin (k0_t23_loop v330).trips) : BitVec 32 :=
  let c0_i32_135 : BitVec 32 := 0#32
  let c1_i32_138 : BitVec 32 := 1#32
  let arg9 : BitVec 32 := Scf.iv c0_i32_135 c1_i32_138 k0_t23
  let c16_i32_192 : BitVec 32 := 16#32
  let v475 : BitVec 32 := Scalar.muli arg9 c16_i32_192
  let v476 : BitVec 32 := Scalar.addi v328 v475
  v476
def k0_mult46 (v326 : BitVec 32) (v330 : BitVec 32) (k0_t23 : Fin (k0_t23_loop v330).trips) : BitVec 32 :=
  let c0_i32_135 : BitVec 32 := 0#32
  let c1_i32_138 : BitVec 32 := 1#32
  let arg9 : BitVec 32 := Scf.iv c0_i32_135 c1_i32_138 k0_t23
  let c16_i32_193 : BitVec 32 := 16#32
  let v478 : BitVec 32 := Scalar.muli arg9 c16_i32_193
  let v479 : BitVec 32 := Scalar.addi v326 v478
  v479
def k0_off91 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off92 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off93 (v326 : BitVec 32) (v330 : BitVec 32) (k0_t23 : Fin (k0_t23_loop v330).trips) : Fin 2 → Nat :=
  let c0_i32_135 : BitVec 32 := 0#32
  let c1_i32_138 : BitVec 32 := 1#32
  let arg9 : BitVec 32 := Scf.iv c0_i32_135 c1_i32_138 k0_t23
  let c16_i32_193 : BitVec 32 := 16#32
  let v478 : BitVec 32 := Scalar.muli arg9 c16_i32_193
  let v479 : BitVec 32 := Scalar.addi v326 v478
  let v480 : BitVec 32 := v479
  let c0_i32_196 : BitVec 32 := 0#32
  ![v480.toNat, 0]
def k0_off94 (v328 : BitVec 32) (v330 : BitVec 32) (k0_t23 : Fin (k0_t23_loop v330).trips) : Fin 2 → Nat :=
  let c0_i32_135 : BitVec 32 := 0#32
  let c1_i32_138 : BitVec 32 := 1#32
  let arg9 : BitVec 32 := Scf.iv c0_i32_135 c1_i32_138 k0_t23
  let c16_i32_192 : BitVec 32 := 16#32
  let v475 : BitVec 32 := Scalar.muli arg9 c16_i32_192
  let v476 : BitVec 32 := Scalar.addi v328 v475
  let v477 : BitVec 32 := v476
  let c0_i32_197 : BitVec 32 := 0#32
  ![v477.toNat, 0]
def k0_off95 (i : grid0.Coords) (v326 : BitVec 32) (v330 : BitVec 32) (k0_t23 : Fin (k0_t23_loop v330).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_135 : BitVec 32 := 0#32
  let c1_i32_138 : BitVec 32 := 1#32
  let arg9 : BitVec 32 := Scf.iv c0_i32_135 c1_i32_138 k0_t23
  let c16_i32_193 : BitVec 32 := 16#32
  let v478 : BitVec 32 := Scalar.muli arg9 c16_i32_193
  let v479 : BitVec 32 := Scalar.addi v326 v478
  let v480 : BitVec 32 := v479
  let c0_i32_195 : BitVec 32 := 0#32
  ![v234.toNat, v480.toNat, 0]
@[reducible] def k0_t24_loop (v330 : BitVec 32) : Scf.Loop 32 :=
  let c0_i32_135 : BitVec 32 := 0#32
  let c0_i32_129 : BitVec 32 := 0#32
  let v332 : BitVec 1 := Scalar.cmpi .sgt v330 c0_i32_129
  let v333 : BitVec 32 := Scalar.extui v332
  let c0_i32_130 : BitVec 32 := 0#32
  let v334 : BitVec 1 := Scalar.cmpi .slt v330 c0_i32_130
  let v335 : BitVec 32 := Scalar.extui v334
  let v336 : BitVec 32 := Scalar.subi v333 v335
  let c16_i32_128 : BitVec 32 := 16#32
  let c0_i32_131 : BitVec 32 := 0#32
  let v337 : BitVec 1 := Scalar.cmpi .sgt c16_i32_128 c0_i32_131
  let v338 : BitVec 32 := Scalar.extui v337
  let c0_i32_132 : BitVec 32 := 0#32
  let v339 : BitVec 1 := Scalar.cmpi .slt c16_i32_128 c0_i32_132
  let v340 : BitVec 32 := Scalar.extui v339
  let v341 : BitVec 32 := Scalar.subi v338 v340
  let v342 : BitVec 1 := Scalar.cmpi .ne v336 v341
  let v343 : BitVec 32 := Scalar.remsi v330 c16_i32_128
  let c0_i32_133 : BitVec 32 := 0#32
  let v344 : BitVec 1 := Scalar.cmpi .ne v343 c0_i32_133
  let v345 : BitVec 1 := Scalar.andi v342 v344
  let v331 : BitVec 32 := Scalar.divsi v330 c16_i32_128
  let c1_i32_134 : BitVec 32 := 1#32
  let v346 : BitVec 32 := Scalar.subi v331 c1_i32_134
  let v347 : BitVec 32 := Scalar.select v345 v346 v331
  let v348 : BitVec 32 := Scalar.subi v347 c0_i32_135
  let c1_i32_137 : BitVec 32 := 1#32
  let v350 : BitVec 32 := Scalar.divsi v348 c1_i32_137
  let v351 : BitVec 32 := Scalar.muli v350 c1_i32_137
  let v352 : BitVec 32 := Scalar.addi c0_i32_135 v351
  let v349 : BitVec 32 := Scalar.addi c0_i32_135 v348
  let c1_i32_139 : BitVec 32 := 1#32
  ⟨v352, v349, c1_i32_139⟩
def k0_mult47 (v328 : BitVec 32) (v330 : BitVec 32) (k0_t24 : Fin (k0_t24_loop v330).trips) : BitVec 32 :=
  let c0_i32_135 : BitVec 32 := 0#32
  let c0_i32_129 : BitVec 32 := 0#32
  let v332 : BitVec 1 := Scalar.cmpi .sgt v330 c0_i32_129
  let v333 : BitVec 32 := Scalar.extui v332
  let c0_i32_130 : BitVec 32 := 0#32
  let v334 : BitVec 1 := Scalar.cmpi .slt v330 c0_i32_130
  let v335 : BitVec 32 := Scalar.extui v334
  let v336 : BitVec 32 := Scalar.subi v333 v335
  let c16_i32_128 : BitVec 32 := 16#32
  let c0_i32_131 : BitVec 32 := 0#32
  let v337 : BitVec 1 := Scalar.cmpi .sgt c16_i32_128 c0_i32_131
  let v338 : BitVec 32 := Scalar.extui v337
  let c0_i32_132 : BitVec 32 := 0#32
  let v339 : BitVec 1 := Scalar.cmpi .slt c16_i32_128 c0_i32_132
  let v340 : BitVec 32 := Scalar.extui v339
  let v341 : BitVec 32 := Scalar.subi v338 v340
  let v342 : BitVec 1 := Scalar.cmpi .ne v336 v341
  let v343 : BitVec 32 := Scalar.remsi v330 c16_i32_128
  let c0_i32_133 : BitVec 32 := 0#32
  let v344 : BitVec 1 := Scalar.cmpi .ne v343 c0_i32_133
  let v345 : BitVec 1 := Scalar.andi v342 v344
  let v331 : BitVec 32 := Scalar.divsi v330 c16_i32_128
  let c1_i32_134 : BitVec 32 := 1#32
  let v346 : BitVec 32 := Scalar.subi v331 c1_i32_134
  let v347 : BitVec 32 := Scalar.select v345 v346 v331
  let v348 : BitVec 32 := Scalar.subi v347 c0_i32_135
  let c1_i32_137 : BitVec 32 := 1#32
  let v350 : BitVec 32 := Scalar.divsi v348 c1_i32_137
  let v351 : BitVec 32 := Scalar.muli v350 c1_i32_137
  let v352 : BitVec 32 := Scalar.addi c0_i32_135 v351
  let c1_i32_139 : BitVec 32 := 1#32
  let arg9 : BitVec 32 := Scf.iv v352 c1_i32_139 k0_t24
  let c16_i32_192 : BitVec 32 := 16#32
  let v475 : BitVec 32 := Scalar.muli arg9 c16_i32_192
  let v476 : BitVec 32 := Scalar.addi v328 v475
  v476
def k0_mult48 (v326 : BitVec 32) (v330 : BitVec 32) (k0_t24 : Fin (k0_t24_loop v330).trips) : BitVec 32 :=
  let c0_i32_135 : BitVec 32 := 0#32
  let c0_i32_129 : BitVec 32 := 0#32
  let v332 : BitVec 1 := Scalar.cmpi .sgt v330 c0_i32_129
  let v333 : BitVec 32 := Scalar.extui v332
  let c0_i32_130 : BitVec 32 := 0#32
  let v334 : BitVec 1 := Scalar.cmpi .slt v330 c0_i32_130
  let v335 : BitVec 32 := Scalar.extui v334
  let v336 : BitVec 32 := Scalar.subi v333 v335
  let c16_i32_128 : BitVec 32 := 16#32
  let c0_i32_131 : BitVec 32 := 0#32
  let v337 : BitVec 1 := Scalar.cmpi .sgt c16_i32_128 c0_i32_131
  let v338 : BitVec 32 := Scalar.extui v337
  let c0_i32_132 : BitVec 32 := 0#32
  let v339 : BitVec 1 := Scalar.cmpi .slt c16_i32_128 c0_i32_132
  let v340 : BitVec 32 := Scalar.extui v339
  let v341 : BitVec 32 := Scalar.subi v338 v340
  let v342 : BitVec 1 := Scalar.cmpi .ne v336 v341
  let v343 : BitVec 32 := Scalar.remsi v330 c16_i32_128
  let c0_i32_133 : BitVec 32 := 0#32
  let v344 : BitVec 1 := Scalar.cmpi .ne v343 c0_i32_133
  let v345 : BitVec 1 := Scalar.andi v342 v344
  let v331 : BitVec 32 := Scalar.divsi v330 c16_i32_128
  let c1_i32_134 : BitVec 32 := 1#32
  let v346 : BitVec 32 := Scalar.subi v331 c1_i32_134
  let v347 : BitVec 32 := Scalar.select v345 v346 v331
  let v348 : BitVec 32 := Scalar.subi v347 c0_i32_135
  let c1_i32_137 : BitVec 32 := 1#32
  let v350 : BitVec 32 := Scalar.divsi v348 c1_i32_137
  let v351 : BitVec 32 := Scalar.muli v350 c1_i32_137
  let v352 : BitVec 32 := Scalar.addi c0_i32_135 v351
  let c1_i32_139 : BitVec 32 := 1#32
  let arg9 : BitVec 32 := Scf.iv v352 c1_i32_139 k0_t24
  let c16_i32_193 : BitVec 32 := 16#32
  let v478 : BitVec 32 := Scalar.muli arg9 c16_i32_193
  let v479 : BitVec 32 := Scalar.addi v326 v478
  v479
def k0_off96 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off97 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off98 (v326 : BitVec 32) (v330 : BitVec 32) (k0_t24 : Fin (k0_t24_loop v330).trips) : Fin 2 → Nat :=
  let c0_i32_135 : BitVec 32 := 0#32
  let c0_i32_129 : BitVec 32 := 0#32
  let v332 : BitVec 1 := Scalar.cmpi .sgt v330 c0_i32_129
  let v333 : BitVec 32 := Scalar.extui v332
  let c0_i32_130 : BitVec 32 := 0#32
  let v334 : BitVec 1 := Scalar.cmpi .slt v330 c0_i32_130
  let v335 : BitVec 32 := Scalar.extui v334
  let v336 : BitVec 32 := Scalar.subi v333 v335
  let c16_i32_128 : BitVec 32 := 16#32
  let c0_i32_131 : BitVec 32 := 0#32
  let v337 : BitVec 1 := Scalar.cmpi .sgt c16_i32_128 c0_i32_131
  let v338 : BitVec 32 := Scalar.extui v337
  let c0_i32_132 : BitVec 32 := 0#32
  let v339 : BitVec 1 := Scalar.cmpi .slt c16_i32_128 c0_i32_132
  let v340 : BitVec 32 := Scalar.extui v339
  let v341 : BitVec 32 := Scalar.subi v338 v340
  let v342 : BitVec 1 := Scalar.cmpi .ne v336 v341
  let v343 : BitVec 32 := Scalar.remsi v330 c16_i32_128
  let c0_i32_133 : BitVec 32 := 0#32
  let v344 : BitVec 1 := Scalar.cmpi .ne v343 c0_i32_133
  let v345 : BitVec 1 := Scalar.andi v342 v344
  let v331 : BitVec 32 := Scalar.divsi v330 c16_i32_128
  let c1_i32_134 : BitVec 32 := 1#32
  let v346 : BitVec 32 := Scalar.subi v331 c1_i32_134
  let v347 : BitVec 32 := Scalar.select v345 v346 v331
  let v348 : BitVec 32 := Scalar.subi v347 c0_i32_135
  let c1_i32_137 : BitVec 32 := 1#32
  let v350 : BitVec 32 := Scalar.divsi v348 c1_i32_137
  let v351 : BitVec 32 := Scalar.muli v350 c1_i32_137
  let v352 : BitVec 32 := Scalar.addi c0_i32_135 v351
  let c1_i32_139 : BitVec 32 := 1#32
  let arg9 : BitVec 32 := Scf.iv v352 c1_i32_139 k0_t24
  let c16_i32_193 : BitVec 32 := 16#32
  let v478 : BitVec 32 := Scalar.muli arg9 c16_i32_193
  let v479 : BitVec 32 := Scalar.addi v326 v478
  let v480 : BitVec 32 := v479
  let c0_i32_196 : BitVec 32 := 0#32
  ![v480.toNat, 0]
def k0_off99 (v328 : BitVec 32) (v330 : BitVec 32) (k0_t24 : Fin (k0_t24_loop v330).trips) : Fin 2 → Nat :=
  let c0_i32_135 : BitVec 32 := 0#32
  let c0_i32_129 : BitVec 32 := 0#32
  let v332 : BitVec 1 := Scalar.cmpi .sgt v330 c0_i32_129
  let v333 : BitVec 32 := Scalar.extui v332
  let c0_i32_130 : BitVec 32 := 0#32
  let v334 : BitVec 1 := Scalar.cmpi .slt v330 c0_i32_130
  let v335 : BitVec 32 := Scalar.extui v334
  let v336 : BitVec 32 := Scalar.subi v333 v335
  let c16_i32_128 : BitVec 32 := 16#32
  let c0_i32_131 : BitVec 32 := 0#32
  let v337 : BitVec 1 := Scalar.cmpi .sgt c16_i32_128 c0_i32_131
  let v338 : BitVec 32 := Scalar.extui v337
  let c0_i32_132 : BitVec 32 := 0#32
  let v339 : BitVec 1 := Scalar.cmpi .slt c16_i32_128 c0_i32_132
  let v340 : BitVec 32 := Scalar.extui v339
  let v341 : BitVec 32 := Scalar.subi v338 v340
  let v342 : BitVec 1 := Scalar.cmpi .ne v336 v341
  let v343 : BitVec 32 := Scalar.remsi v330 c16_i32_128
  let c0_i32_133 : BitVec 32 := 0#32
  let v344 : BitVec 1 := Scalar.cmpi .ne v343 c0_i32_133
  let v345 : BitVec 1 := Scalar.andi v342 v344
  let v331 : BitVec 32 := Scalar.divsi v330 c16_i32_128
  let c1_i32_134 : BitVec 32 := 1#32
  let v346 : BitVec 32 := Scalar.subi v331 c1_i32_134
  let v347 : BitVec 32 := Scalar.select v345 v346 v331
  let v348 : BitVec 32 := Scalar.subi v347 c0_i32_135
  let c1_i32_137 : BitVec 32 := 1#32
  let v350 : BitVec 32 := Scalar.divsi v348 c1_i32_137
  let v351 : BitVec 32 := Scalar.muli v350 c1_i32_137
  let v352 : BitVec 32 := Scalar.addi c0_i32_135 v351
  let c1_i32_139 : BitVec 32 := 1#32
  let arg9 : BitVec 32 := Scf.iv v352 c1_i32_139 k0_t24
  let c16_i32_192 : BitVec 32 := 16#32
  let v475 : BitVec 32 := Scalar.muli arg9 c16_i32_192
  let v476 : BitVec 32 := Scalar.addi v328 v475
  let v477 : BitVec 32 := v476
  let c0_i32_197 : BitVec 32 := 0#32
  ![v477.toNat, 0]
def k0_off100 (i : grid0.Coords) (v326 : BitVec 32) (v330 : BitVec 32) (k0_t24 : Fin (k0_t24_loop v330).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_135 : BitVec 32 := 0#32
  let c0_i32_129 : BitVec 32 := 0#32
  let v332 : BitVec 1 := Scalar.cmpi .sgt v330 c0_i32_129
  let v333 : BitVec 32 := Scalar.extui v332
  let c0_i32_130 : BitVec 32 := 0#32
  let v334 : BitVec 1 := Scalar.cmpi .slt v330 c0_i32_130
  let v335 : BitVec 32 := Scalar.extui v334
  let v336 : BitVec 32 := Scalar.subi v333 v335
  let c16_i32_128 : BitVec 32 := 16#32
  let c0_i32_131 : BitVec 32 := 0#32
  let v337 : BitVec 1 := Scalar.cmpi .sgt c16_i32_128 c0_i32_131
  let v338 : BitVec 32 := Scalar.extui v337
  let c0_i32_132 : BitVec 32 := 0#32
  let v339 : BitVec 1 := Scalar.cmpi .slt c16_i32_128 c0_i32_132
  let v340 : BitVec 32 := Scalar.extui v339
  let v341 : BitVec 32 := Scalar.subi v338 v340
  let v342 : BitVec 1 := Scalar.cmpi .ne v336 v341
  let v343 : BitVec 32 := Scalar.remsi v330 c16_i32_128
  let c0_i32_133 : BitVec 32 := 0#32
  let v344 : BitVec 1 := Scalar.cmpi .ne v343 c0_i32_133
  let v345 : BitVec 1 := Scalar.andi v342 v344
  let v331 : BitVec 32 := Scalar.divsi v330 c16_i32_128
  let c1_i32_134 : BitVec 32 := 1#32
  let v346 : BitVec 32 := Scalar.subi v331 c1_i32_134
  let v347 : BitVec 32 := Scalar.select v345 v346 v331
  let v348 : BitVec 32 := Scalar.subi v347 c0_i32_135
  let c1_i32_137 : BitVec 32 := 1#32
  let v350 : BitVec 32 := Scalar.divsi v348 c1_i32_137
  let v351 : BitVec 32 := Scalar.muli v350 c1_i32_137
  let v352 : BitVec 32 := Scalar.addi c0_i32_135 v351
  let c1_i32_139 : BitVec 32 := 1#32
  let arg9 : BitVec 32 := Scf.iv v352 c1_i32_139 k0_t24
  let c16_i32_193 : BitVec 32 := 16#32
  let v478 : BitVec 32 := Scalar.muli arg9 c16_i32_193
  let v479 : BitVec 32 := Scalar.addi v326 v478
  let v480 : BitVec 32 := v479
  let c0_i32_195 : BitVec 32 := 0#32
  ![v234.toNat, v480.toNat, 0]

def k0_chk12 (i : grid0.Coords) (v326 : BitVec 32) (v328 : BitVec 32) (v330 : BitVec 32) : Prop :=
  (∀ (k0_h2 : k0_cond2 i = 1#1), (k0_t23_loop v330).OK) ∧
  (∀ k0_t23 : Fin (k0_t23_loop v330).trips, ∀ (k0_h2 : k0_cond2 i = 1#1), 16 ∣ (k0_mult45 v328 v330 k0_t23).toNat) ∧
  (∀ k0_t23 : Fin (k0_t23_loop v330).trips, ∀ (k0_h2 : k0_cond2 i = 1#1), 16 ∣ (k0_mult46 v326 v330 k0_t23).toNat) ∧
  (∀ k0_t23 : Fin (k0_t23_loop v330).trips, ∀ (k0_h2 : k0_cond2 i = 1#1), ∀ a, (k0_off93 v326 v330 k0_t23) a + S16x1024.size a ≤ S1152x1024.size a) ∧
  (∀ k0_t23 : Fin (k0_t23_loop v330).trips, ∀ (k0_h2 : k0_cond2 i = 1#1), ∀ a, (k0_off94 v328 v330 k0_t23) a + S16x1024.size a ≤ S44032x1024.size a) ∧
  (∀ k0_t23 : Fin (k0_t23_loop v330).trips, ∀ (k0_h2 : k0_cond2 i = 1#1), ∀ (hinb : ∀ a, (k0_off94 v328 v330 k0_t23) a + S16x1024.size a ≤ S44032x1024.size a), (Rect.unit (s := S44032x1024) (k0_off94 v328 v330 k0_t23) S16x1024.size hinb).WholeWords (EltTy.packing .bf16)) ∧
  (∀ k0_t23 : Fin (k0_t23_loop v330).trips, ∀ (k0_h2 : k0_cond2 i = 1#1), ∀ a, (k0_off95 i v326 v330 k0_t23) a + S1x16x1024.size a ≤ S2x1152x1024.size a) ∧
  (∀ k0_t23 : Fin (k0_t23_loop v330).trips, ∀ (k0_h2 : k0_cond2 i = 1#1), ∀ (hinb : ∀ a, (k0_off95 i v326 v330 k0_t23) a + S1x16x1024.size a ≤ S2x1152x1024.size a), (Rect.unit (s := S2x1152x1024) (k0_off95 i v326 v330 k0_t23) S1x16x1024.size hinb).WholeWords (EltTy.packing .bf16)) ∧
  (∀ (k0_h2 : k0_cond2 i = 1#1), (k0_t24_loop v330).OK) ∧
  (∀ k0_t24 : Fin (k0_t24_loop v330).trips, ∀ (k0_h2 : k0_cond2 i = 1#1), 16 ∣ (k0_mult47 v328 v330 k0_t24).toNat) ∧
  (∀ k0_t24 : Fin (k0_t24_loop v330).trips, ∀ (k0_h2 : k0_cond2 i = 1#1), 16 ∣ (k0_mult48 v326 v330 k0_t24).toNat) ∧
  (∀ k0_t24 : Fin (k0_t24_loop v330).trips, ∀ (k0_h2 : k0_cond2 i = 1#1), ∀ a, (k0_off98 v326 v330 k0_t24) a + S16x1024.size a ≤ S1152x1024.size a) ∧
  (∀ k0_t24 : Fin (k0_t24_loop v330).trips, ∀ (k0_h2 : k0_cond2 i = 1#1), ∀ a, (k0_off99 v328 v330 k0_t24) a + S16x1024.size a ≤ S44032x1024.size a) ∧
  (∀ k0_t24 : Fin (k0_t24_loop v330).trips, ∀ (k0_h2 : k0_cond2 i = 1#1), ∀ (hinb : ∀ a, (k0_off99 v328 v330 k0_t24) a + S16x1024.size a ≤ S44032x1024.size a), (Rect.unit (s := S44032x1024) (k0_off99 v328 v330 k0_t24) S16x1024.size hinb).WholeWords (EltTy.packing .bf16)) ∧
  (∀ k0_t24 : Fin (k0_t24_loop v330).trips, ∀ (k0_h2 : k0_cond2 i = 1#1), ∀ a, (k0_off100 i v326 v330 k0_t24) a + S1x16x1024.size a ≤ S2x1152x1024.size a) ∧
  (∀ k0_t24 : Fin (k0_t24_loop v330).trips, ∀ (k0_h2 : k0_cond2 i = 1#1), ∀ (hinb : ∀ a, (k0_off100 i v326 v330 k0_t24) a + S1x16x1024.size a ≤ S2x1152x1024.size a), (Rect.unit (s := S2x1152x1024) (k0_off100 i v326 v330 k0_t24) S1x16x1024.size hinb).WholeWords (EltTy.packing .bf16))
theorem k0_t23_ok : ∀ (i : grid0.Coords) (v326 : BitVec 32) (v328 : BitVec 32) (v330 : BitVec 32) (k0_hw12 : k0_chk12 i v326 v328 v330), ∀ (k0_h2 : k0_cond2 i = 1#1), (k0_t23_loop v330).OK := fun i v326 v328 v330 k0_hw12 k0_h2 => k0_hw12.1 k0_h2
theorem k0_mult45_dvd : ∀ (i : grid0.Coords) (v326 : BitVec 32) (v328 : BitVec 32) (v330 : BitVec 32) (k0_hw12 : k0_chk12 i v326 v328 v330) (k0_t23 : Fin (k0_t23_loop v330).trips), ∀ (k0_h2 : k0_cond2 i = 1#1), 16 ∣ (k0_mult45 v328 v330 k0_t23).toNat := fun i v326 v328 v330 k0_hw12 k0_t23 k0_h2 => k0_hw12.2.1 k0_t23 k0_h2
theorem k0_mult46_dvd : ∀ (i : grid0.Coords) (v326 : BitVec 32) (v328 : BitVec 32) (v330 : BitVec 32) (k0_hw12 : k0_chk12 i v326 v328 v330) (k0_t23 : Fin (k0_t23_loop v330).trips), ∀ (k0_h2 : k0_cond2 i = 1#1), 16 ∣ (k0_mult46 v326 v330 k0_t23).toNat := fun i v326 v328 v330 k0_hw12 k0_t23 k0_h2 => k0_hw12.2.2.1 k0_t23 k0_h2
theorem k0_off93_inb : ∀ (i : grid0.Coords) (v326 : BitVec 32) (v328 : BitVec 32) (v330 : BitVec 32) (k0_hw12 : k0_chk12 i v326 v328 v330) (k0_t23 : Fin (k0_t23_loop v330).trips), ∀ (k0_h2 : k0_cond2 i = 1#1), ∀ a, (k0_off93 v326 v330 k0_t23) a + S16x1024.size a ≤ S1152x1024.size a := fun i v326 v328 v330 k0_hw12 k0_t23 k0_h2 => k0_hw12.2.2.2.1 k0_t23 k0_h2
theorem k0_off94_inb : ∀ (i : grid0.Coords) (v326 : BitVec 32) (v328 : BitVec 32) (v330 : BitVec 32) (k0_hw12 : k0_chk12 i v326 v328 v330) (k0_t23 : Fin (k0_t23_loop v330).trips), ∀ (k0_h2 : k0_cond2 i = 1#1), ∀ a, (k0_off94 v328 v330 k0_t23) a + S16x1024.size a ≤ S44032x1024.size a := fun i v326 v328 v330 k0_hw12 k0_t23 k0_h2 => k0_hw12.2.2.2.2.1 k0_t23 k0_h2
theorem k0_off94_wordsbf16 : ∀ (i : grid0.Coords) (v326 : BitVec 32) (v328 : BitVec 32) (v330 : BitVec 32) (k0_hw12 : k0_chk12 i v326 v328 v330) (k0_t23 : Fin (k0_t23_loop v330).trips), ∀ (k0_h2 : k0_cond2 i = 1#1), (Rect.unit (s := S44032x1024) (k0_off94 v328 v330 k0_t23) S16x1024.size (k0_off94_inb i v326 v328 v330 k0_hw12 k0_t23 k0_h2)).WholeWords (EltTy.packing .bf16) := fun i v326 v328 v330 k0_hw12 k0_t23 k0_h2 => k0_hw12.2.2.2.2.2.1 k0_t23 k0_h2 (k0_off94_inb i v326 v328 v330 k0_hw12 k0_t23 k0_h2)
theorem k0_off95_inb : ∀ (i : grid0.Coords) (v326 : BitVec 32) (v328 : BitVec 32) (v330 : BitVec 32) (k0_hw12 : k0_chk12 i v326 v328 v330) (k0_t23 : Fin (k0_t23_loop v330).trips), ∀ (k0_h2 : k0_cond2 i = 1#1), ∀ a, (k0_off95 i v326 v330 k0_t23) a + S1x16x1024.size a ≤ S2x1152x1024.size a := fun i v326 v328 v330 k0_hw12 k0_t23 k0_h2 => k0_hw12.2.2.2.2.2.2.1 k0_t23 k0_h2
theorem k0_off95_wordsbf16 : ∀ (i : grid0.Coords) (v326 : BitVec 32) (v328 : BitVec 32) (v330 : BitVec 32) (k0_hw12 : k0_chk12 i v326 v328 v330) (k0_t23 : Fin (k0_t23_loop v330).trips), ∀ (k0_h2 : k0_cond2 i = 1#1), (Rect.unit (s := S2x1152x1024) (k0_off95 i v326 v330 k0_t23) S1x16x1024.size (k0_off95_inb i v326 v328 v330 k0_hw12 k0_t23 k0_h2)).WholeWords (EltTy.packing .bf16) := fun i v326 v328 v330 k0_hw12 k0_t23 k0_h2 => k0_hw12.2.2.2.2.2.2.2.1 k0_t23 k0_h2 (k0_off95_inb i v326 v328 v330 k0_hw12 k0_t23 k0_h2)
theorem k0_t24_ok : ∀ (i : grid0.Coords) (v326 : BitVec 32) (v328 : BitVec 32) (v330 : BitVec 32) (k0_hw12 : k0_chk12 i v326 v328 v330), ∀ (k0_h2 : k0_cond2 i = 1#1), (k0_t24_loop v330).OK := fun i v326 v328 v330 k0_hw12 k0_h2 => k0_hw12.2.2.2.2.2.2.2.2.1 k0_h2
theorem k0_mult47_dvd : ∀ (i : grid0.Coords) (v326 : BitVec 32) (v328 : BitVec 32) (v330 : BitVec 32) (k0_hw12 : k0_chk12 i v326 v328 v330) (k0_t24 : Fin (k0_t24_loop v330).trips), ∀ (k0_h2 : k0_cond2 i = 1#1), 16 ∣ (k0_mult47 v328 v330 k0_t24).toNat := fun i v326 v328 v330 k0_hw12 k0_t24 k0_h2 => k0_hw12.2.2.2.2.2.2.2.2.2.1 k0_t24 k0_h2
theorem k0_mult48_dvd : ∀ (i : grid0.Coords) (v326 : BitVec 32) (v328 : BitVec 32) (v330 : BitVec 32) (k0_hw12 : k0_chk12 i v326 v328 v330) (k0_t24 : Fin (k0_t24_loop v330).trips), ∀ (k0_h2 : k0_cond2 i = 1#1), 16 ∣ (k0_mult48 v326 v330 k0_t24).toNat := fun i v326 v328 v330 k0_hw12 k0_t24 k0_h2 => k0_hw12.2.2.2.2.2.2.2.2.2.2.1 k0_t24 k0_h2
theorem k0_off98_inb : ∀ (i : grid0.Coords) (v326 : BitVec 32) (v328 : BitVec 32) (v330 : BitVec 32) (k0_hw12 : k0_chk12 i v326 v328 v330) (k0_t24 : Fin (k0_t24_loop v330).trips), ∀ (k0_h2 : k0_cond2 i = 1#1), ∀ a, (k0_off98 v326 v330 k0_t24) a + S16x1024.size a ≤ S1152x1024.size a := fun i v326 v328 v330 k0_hw12 k0_t24 k0_h2 => k0_hw12.2.2.2.2.2.2.2.2.2.2.2.1 k0_t24 k0_h2
theorem k0_off99_inb : ∀ (i : grid0.Coords) (v326 : BitVec 32) (v328 : BitVec 32) (v330 : BitVec 32) (k0_hw12 : k0_chk12 i v326 v328 v330) (k0_t24 : Fin (k0_t24_loop v330).trips), ∀ (k0_h2 : k0_cond2 i = 1#1), ∀ a, (k0_off99 v328 v330 k0_t24) a + S16x1024.size a ≤ S44032x1024.size a := fun i v326 v328 v330 k0_hw12 k0_t24 k0_h2 => k0_hw12.2.2.2.2.2.2.2.2.2.2.2.2.1 k0_t24 k0_h2
theorem k0_off99_wordsbf16 : ∀ (i : grid0.Coords) (v326 : BitVec 32) (v328 : BitVec 32) (v330 : BitVec 32) (k0_hw12 : k0_chk12 i v326 v328 v330) (k0_t24 : Fin (k0_t24_loop v330).trips), ∀ (k0_h2 : k0_cond2 i = 1#1), (Rect.unit (s := S44032x1024) (k0_off99 v328 v330 k0_t24) S16x1024.size (k0_off99_inb i v326 v328 v330 k0_hw12 k0_t24 k0_h2)).WholeWords (EltTy.packing .bf16) := fun i v326 v328 v330 k0_hw12 k0_t24 k0_h2 => k0_hw12.2.2.2.2.2.2.2.2.2.2.2.2.2.1 k0_t24 k0_h2 (k0_off99_inb i v326 v328 v330 k0_hw12 k0_t24 k0_h2)
theorem k0_off100_inb : ∀ (i : grid0.Coords) (v326 : BitVec 32) (v328 : BitVec 32) (v330 : BitVec 32) (k0_hw12 : k0_chk12 i v326 v328 v330) (k0_t24 : Fin (k0_t24_loop v330).trips), ∀ (k0_h2 : k0_cond2 i = 1#1), ∀ a, (k0_off100 i v326 v330 k0_t24) a + S1x16x1024.size a ≤ S2x1152x1024.size a := fun i v326 v328 v330 k0_hw12 k0_t24 k0_h2 => k0_hw12.2.2.2.2.2.2.2.2.2.2.2.2.2.2.1 k0_t24 k0_h2
theorem k0_off100_wordsbf16 : ∀ (i : grid0.Coords) (v326 : BitVec 32) (v328 : BitVec 32) (v330 : BitVec 32) (k0_hw12 : k0_chk12 i v326 v328 v330) (k0_t24 : Fin (k0_t24_loop v330).trips), ∀ (k0_h2 : k0_cond2 i = 1#1), (Rect.unit (s := S2x1152x1024) (k0_off100 i v326 v330 k0_t24) S1x16x1024.size (k0_off100_inb i v326 v328 v330 k0_hw12 k0_t24 k0_h2)).WholeWords (EltTy.packing .bf16) := fun i v326 v328 v330 k0_hw12 k0_t24 k0_h2 => k0_hw12.2.2.2.2.2.2.2.2.2.2.2.2.2.2.2 k0_t24 k0_h2 (k0_off100_inb i v326 v328 v330 k0_hw12 k0_t24 k0_h2)

def k0_off101 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v355 : Index := Scalar.indexCast v233
  let c4 : Index := 4#32
  ![v355.toNat, 4]
def k0_off102 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v357 : Index := Scalar.indexCast v233
  let c20 : Index := 20#32
  ![v357.toNat, 20]
def k0_off103 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v359 : Index := Scalar.indexCast v233
  let c12_140 : Index := 12#32
  ![v359.toNat, 12]
@[reducible] def k0_t25_loop (v360 : BitVec 32) : Scf.Loop 32 :=
  let c0_i32_148 : BitVec 32 := 0#32
  let c0_i32_142 : BitVec 32 := 0#32
  let v362 : BitVec 1 := Scalar.cmpi .sgt v360 c0_i32_142
  let v363 : BitVec 32 := Scalar.extui v362
  let c0_i32_143 : BitVec 32 := 0#32
  let v364 : BitVec 1 := Scalar.cmpi .slt v360 c0_i32_143
  let v365 : BitVec 32 := Scalar.extui v364
  let v366 : BitVec 32 := Scalar.subi v363 v365
  let c16_i32_141 : BitVec 32 := 16#32
  let c0_i32_144 : BitVec 32 := 0#32
  let v367 : BitVec 1 := Scalar.cmpi .sgt c16_i32_141 c0_i32_144
  let v368 : BitVec 32 := Scalar.extui v367
  let c0_i32_145 : BitVec 32 := 0#32
  let v369 : BitVec 1 := Scalar.cmpi .slt c16_i32_141 c0_i32_145
  let v370 : BitVec 32 := Scalar.extui v369
  let v371 : BitVec 32 := Scalar.subi v368 v370
  let v372 : BitVec 1 := Scalar.cmpi .ne v366 v371
  let v373 : BitVec 32 := Scalar.remsi v360 c16_i32_141
  let c0_i32_146 : BitVec 32 := 0#32
  let v374 : BitVec 1 := Scalar.cmpi .ne v373 c0_i32_146
  let v375 : BitVec 1 := Scalar.andi v372 v374
  let v361 : BitVec 32 := Scalar.divsi v360 c16_i32_141
  let c1_i32_147 : BitVec 32 := 1#32
  let v376 : BitVec 32 := Scalar.subi v361 c1_i32_147
  let v377 : BitVec 32 := Scalar.select v375 v376 v361
  let v378 : BitVec 32 := Scalar.subi v377 c0_i32_148
  let c1_i32_150 : BitVec 32 := 1#32
  let v380 : BitVec 32 := Scalar.divsi v378 c1_i32_150
  let v381 : BitVec 32 := Scalar.muli v380 c1_i32_150
  let v382 : BitVec 32 := Scalar.addi c0_i32_148 v381
  let c1_i32_151 : BitVec 32 := 1#32
  ⟨c0_i32_148, v382, c1_i32_151⟩

def k0_mult49 (v358 : BitVec 32) (v360 : BitVec 32) (k0_t25 : Fin (k0_t25_loop v360).trips) : BitVec 32 :=
  let c0_i32_148 : BitVec 32 := 0#32
  let c1_i32_151 : BitVec 32 := 1#32
  let arg9 : BitVec 32 := Scf.iv c0_i32_148 c1_i32_151 k0_t25
  let c16_i32_192 : BitVec 32 := 16#32
  let v475 : BitVec 32 := Scalar.muli arg9 c16_i32_192
  let v476 : BitVec 32 := Scalar.addi v358 v475
  v476
def k0_mult50 (v356 : BitVec 32) (v360 : BitVec 32) (k0_t25 : Fin (k0_t25_loop v360).trips) : BitVec 32 :=
  let c0_i32_148 : BitVec 32 := 0#32
  let c1_i32_151 : BitVec 32 := 1#32
  let arg9 : BitVec 32 := Scf.iv c0_i32_148 c1_i32_151 k0_t25
  let c16_i32_193 : BitVec 32 := 16#32
  let v478 : BitVec 32 := Scalar.muli arg9 c16_i32_193
  let v479 : BitVec 32 := Scalar.addi v356 v478
  v479
def k0_off104 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off105 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off106 (v356 : BitVec 32) (v360 : BitVec 32) (k0_t25 : Fin (k0_t25_loop v360).trips) : Fin 2 → Nat :=
  let c0_i32_148 : BitVec 32 := 0#32
  let c1_i32_151 : BitVec 32 := 1#32
  let arg9 : BitVec 32 := Scf.iv c0_i32_148 c1_i32_151 k0_t25
  let c16_i32_193 : BitVec 32 := 16#32
  let v478 : BitVec 32 := Scalar.muli arg9 c16_i32_193
  let v479 : BitVec 32 := Scalar.addi v356 v478
  let v480 : BitVec 32 := v479
  let c0_i32_196 : BitVec 32 := 0#32
  ![v480.toNat, 0]
def k0_off107 (v358 : BitVec 32) (v360 : BitVec 32) (k0_t25 : Fin (k0_t25_loop v360).trips) : Fin 2 → Nat :=
  let c0_i32_148 : BitVec 32 := 0#32
  let c1_i32_151 : BitVec 32 := 1#32
  let arg9 : BitVec 32 := Scf.iv c0_i32_148 c1_i32_151 k0_t25
  let c16_i32_192 : BitVec 32 := 16#32
  let v475 : BitVec 32 := Scalar.muli arg9 c16_i32_192
  let v476 : BitVec 32 := Scalar.addi v358 v475
  let v477 : BitVec 32 := v476
  let c0_i32_197 : BitVec 32 := 0#32
  ![v477.toNat, 0]
def k0_off108 (i : grid0.Coords) (v356 : BitVec 32) (v360 : BitVec 32) (k0_t25 : Fin (k0_t25_loop v360).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_148 : BitVec 32 := 0#32
  let c1_i32_151 : BitVec 32 := 1#32
  let arg9 : BitVec 32 := Scf.iv c0_i32_148 c1_i32_151 k0_t25
  let c16_i32_193 : BitVec 32 := 16#32
  let v478 : BitVec 32 := Scalar.muli arg9 c16_i32_193
  let v479 : BitVec 32 := Scalar.addi v356 v478
  let v480 : BitVec 32 := v479
  let c0_i32_195 : BitVec 32 := 0#32
  ![v234.toNat, v480.toNat, 0]
@[reducible] def k0_t26_loop (v360 : BitVec 32) : Scf.Loop 32 :=
  let c0_i32_148 : BitVec 32 := 0#32
  let c0_i32_142 : BitVec 32 := 0#32
  let v362 : BitVec 1 := Scalar.cmpi .sgt v360 c0_i32_142
  let v363 : BitVec 32 := Scalar.extui v362
  let c0_i32_143 : BitVec 32 := 0#32
  let v364 : BitVec 1 := Scalar.cmpi .slt v360 c0_i32_143
  let v365 : BitVec 32 := Scalar.extui v364
  let v366 : BitVec 32 := Scalar.subi v363 v365
  let c16_i32_141 : BitVec 32 := 16#32
  let c0_i32_144 : BitVec 32 := 0#32
  let v367 : BitVec 1 := Scalar.cmpi .sgt c16_i32_141 c0_i32_144
  let v368 : BitVec 32 := Scalar.extui v367
  let c0_i32_145 : BitVec 32 := 0#32
  let v369 : BitVec 1 := Scalar.cmpi .slt c16_i32_141 c0_i32_145
  let v370 : BitVec 32 := Scalar.extui v369
  let v371 : BitVec 32 := Scalar.subi v368 v370
  let v372 : BitVec 1 := Scalar.cmpi .ne v366 v371
  let v373 : BitVec 32 := Scalar.remsi v360 c16_i32_141
  let c0_i32_146 : BitVec 32 := 0#32
  let v374 : BitVec 1 := Scalar.cmpi .ne v373 c0_i32_146
  let v375 : BitVec 1 := Scalar.andi v372 v374
  let v361 : BitVec 32 := Scalar.divsi v360 c16_i32_141
  let c1_i32_147 : BitVec 32 := 1#32
  let v376 : BitVec 32 := Scalar.subi v361 c1_i32_147
  let v377 : BitVec 32 := Scalar.select v375 v376 v361
  let v378 : BitVec 32 := Scalar.subi v377 c0_i32_148
  let c1_i32_150 : BitVec 32 := 1#32
  let v380 : BitVec 32 := Scalar.divsi v378 c1_i32_150
  let v381 : BitVec 32 := Scalar.muli v380 c1_i32_150
  let v382 : BitVec 32 := Scalar.addi c0_i32_148 v381
  let v379 : BitVec 32 := Scalar.addi c0_i32_148 v378
  let c1_i32_152 : BitVec 32 := 1#32
  ⟨v382, v379, c1_i32_152⟩
def k0_mult51 (v358 : BitVec 32) (v360 : BitVec 32) (k0_t26 : Fin (k0_t26_loop v360).trips) : BitVec 32 :=
  let c0_i32_148 : BitVec 32 := 0#32
  let c0_i32_142 : BitVec 32 := 0#32
  let v362 : BitVec 1 := Scalar.cmpi .sgt v360 c0_i32_142
  let v363 : BitVec 32 := Scalar.extui v362
  let c0_i32_143 : BitVec 32 := 0#32
  let v364 : BitVec 1 := Scalar.cmpi .slt v360 c0_i32_143
  let v365 : BitVec 32 := Scalar.extui v364
  let v366 : BitVec 32 := Scalar.subi v363 v365
  let c16_i32_141 : BitVec 32 := 16#32
  let c0_i32_144 : BitVec 32 := 0#32
  let v367 : BitVec 1 := Scalar.cmpi .sgt c16_i32_141 c0_i32_144
  let v368 : BitVec 32 := Scalar.extui v367
  let c0_i32_145 : BitVec 32 := 0#32
  let v369 : BitVec 1 := Scalar.cmpi .slt c16_i32_141 c0_i32_145
  let v370 : BitVec 32 := Scalar.extui v369
  let v371 : BitVec 32 := Scalar.subi v368 v370
  let v372 : BitVec 1 := Scalar.cmpi .ne v366 v371
  let v373 : BitVec 32 := Scalar.remsi v360 c16_i32_141
  let c0_i32_146 : BitVec 32 := 0#32
  let v374 : BitVec 1 := Scalar.cmpi .ne v373 c0_i32_146
  let v375 : BitVec 1 := Scalar.andi v372 v374
  let v361 : BitVec 32 := Scalar.divsi v360 c16_i32_141
  let c1_i32_147 : BitVec 32 := 1#32
  let v376 : BitVec 32 := Scalar.subi v361 c1_i32_147
  let v377 : BitVec 32 := Scalar.select v375 v376 v361
  let v378 : BitVec 32 := Scalar.subi v377 c0_i32_148
  let c1_i32_150 : BitVec 32 := 1#32
  let v380 : BitVec 32 := Scalar.divsi v378 c1_i32_150
  let v381 : BitVec 32 := Scalar.muli v380 c1_i32_150
  let v382 : BitVec 32 := Scalar.addi c0_i32_148 v381
  let c1_i32_152 : BitVec 32 := 1#32
  let arg9 : BitVec 32 := Scf.iv v382 c1_i32_152 k0_t26
  let c16_i32_192 : BitVec 32 := 16#32
  let v475 : BitVec 32 := Scalar.muli arg9 c16_i32_192
  let v476 : BitVec 32 := Scalar.addi v358 v475
  v476
def k0_mult52 (v356 : BitVec 32) (v360 : BitVec 32) (k0_t26 : Fin (k0_t26_loop v360).trips) : BitVec 32 :=
  let c0_i32_148 : BitVec 32 := 0#32
  let c0_i32_142 : BitVec 32 := 0#32
  let v362 : BitVec 1 := Scalar.cmpi .sgt v360 c0_i32_142
  let v363 : BitVec 32 := Scalar.extui v362
  let c0_i32_143 : BitVec 32 := 0#32
  let v364 : BitVec 1 := Scalar.cmpi .slt v360 c0_i32_143
  let v365 : BitVec 32 := Scalar.extui v364
  let v366 : BitVec 32 := Scalar.subi v363 v365
  let c16_i32_141 : BitVec 32 := 16#32
  let c0_i32_144 : BitVec 32 := 0#32
  let v367 : BitVec 1 := Scalar.cmpi .sgt c16_i32_141 c0_i32_144
  let v368 : BitVec 32 := Scalar.extui v367
  let c0_i32_145 : BitVec 32 := 0#32
  let v369 : BitVec 1 := Scalar.cmpi .slt c16_i32_141 c0_i32_145
  let v370 : BitVec 32 := Scalar.extui v369
  let v371 : BitVec 32 := Scalar.subi v368 v370
  let v372 : BitVec 1 := Scalar.cmpi .ne v366 v371
  let v373 : BitVec 32 := Scalar.remsi v360 c16_i32_141
  let c0_i32_146 : BitVec 32 := 0#32
  let v374 : BitVec 1 := Scalar.cmpi .ne v373 c0_i32_146
  let v375 : BitVec 1 := Scalar.andi v372 v374
  let v361 : BitVec 32 := Scalar.divsi v360 c16_i32_141
  let c1_i32_147 : BitVec 32 := 1#32
  let v376 : BitVec 32 := Scalar.subi v361 c1_i32_147
  let v377 : BitVec 32 := Scalar.select v375 v376 v361
  let v378 : BitVec 32 := Scalar.subi v377 c0_i32_148
  let c1_i32_150 : BitVec 32 := 1#32
  let v380 : BitVec 32 := Scalar.divsi v378 c1_i32_150
  let v381 : BitVec 32 := Scalar.muli v380 c1_i32_150
  let v382 : BitVec 32 := Scalar.addi c0_i32_148 v381
  let c1_i32_152 : BitVec 32 := 1#32
  let arg9 : BitVec 32 := Scf.iv v382 c1_i32_152 k0_t26
  let c16_i32_193 : BitVec 32 := 16#32
  let v478 : BitVec 32 := Scalar.muli arg9 c16_i32_193
  let v479 : BitVec 32 := Scalar.addi v356 v478
  v479
def k0_off109 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off110 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off111 (v356 : BitVec 32) (v360 : BitVec 32) (k0_t26 : Fin (k0_t26_loop v360).trips) : Fin 2 → Nat :=
  let c0_i32_148 : BitVec 32 := 0#32
  let c0_i32_142 : BitVec 32 := 0#32
  let v362 : BitVec 1 := Scalar.cmpi .sgt v360 c0_i32_142
  let v363 : BitVec 32 := Scalar.extui v362
  let c0_i32_143 : BitVec 32 := 0#32
  let v364 : BitVec 1 := Scalar.cmpi .slt v360 c0_i32_143
  let v365 : BitVec 32 := Scalar.extui v364
  let v366 : BitVec 32 := Scalar.subi v363 v365
  let c16_i32_141 : BitVec 32 := 16#32
  let c0_i32_144 : BitVec 32 := 0#32
  let v367 : BitVec 1 := Scalar.cmpi .sgt c16_i32_141 c0_i32_144
  let v368 : BitVec 32 := Scalar.extui v367
  let c0_i32_145 : BitVec 32 := 0#32
  let v369 : BitVec 1 := Scalar.cmpi .slt c16_i32_141 c0_i32_145
  let v370 : BitVec 32 := Scalar.extui v369
  let v371 : BitVec 32 := Scalar.subi v368 v370
  let v372 : BitVec 1 := Scalar.cmpi .ne v366 v371
  let v373 : BitVec 32 := Scalar.remsi v360 c16_i32_141
  let c0_i32_146 : BitVec 32 := 0#32
  let v374 : BitVec 1 := Scalar.cmpi .ne v373 c0_i32_146
  let v375 : BitVec 1 := Scalar.andi v372 v374
  let v361 : BitVec 32 := Scalar.divsi v360 c16_i32_141
  let c1_i32_147 : BitVec 32 := 1#32
  let v376 : BitVec 32 := Scalar.subi v361 c1_i32_147
  let v377 : BitVec 32 := Scalar.select v375 v376 v361
  let v378 : BitVec 32 := Scalar.subi v377 c0_i32_148
  let c1_i32_150 : BitVec 32 := 1#32
  let v380 : BitVec 32 := Scalar.divsi v378 c1_i32_150
  let v381 : BitVec 32 := Scalar.muli v380 c1_i32_150
  let v382 : BitVec 32 := Scalar.addi c0_i32_148 v381
  let c1_i32_152 : BitVec 32 := 1#32
  let arg9 : BitVec 32 := Scf.iv v382 c1_i32_152 k0_t26
  let c16_i32_193 : BitVec 32 := 16#32
  let v478 : BitVec 32 := Scalar.muli arg9 c16_i32_193
  let v479 : BitVec 32 := Scalar.addi v356 v478
  let v480 : BitVec 32 := v479
  let c0_i32_196 : BitVec 32 := 0#32
  ![v480.toNat, 0]
def k0_off112 (v358 : BitVec 32) (v360 : BitVec 32) (k0_t26 : Fin (k0_t26_loop v360).trips) : Fin 2 → Nat :=
  let c0_i32_148 : BitVec 32 := 0#32
  let c0_i32_142 : BitVec 32 := 0#32
  let v362 : BitVec 1 := Scalar.cmpi .sgt v360 c0_i32_142
  let v363 : BitVec 32 := Scalar.extui v362
  let c0_i32_143 : BitVec 32 := 0#32
  let v364 : BitVec 1 := Scalar.cmpi .slt v360 c0_i32_143
  let v365 : BitVec 32 := Scalar.extui v364
  let v366 : BitVec 32 := Scalar.subi v363 v365
  let c16_i32_141 : BitVec 32 := 16#32
  let c0_i32_144 : BitVec 32 := 0#32
  let v367 : BitVec 1 := Scalar.cmpi .sgt c16_i32_141 c0_i32_144
  let v368 : BitVec 32 := Scalar.extui v367
  let c0_i32_145 : BitVec 32 := 0#32
  let v369 : BitVec 1 := Scalar.cmpi .slt c16_i32_141 c0_i32_145
  let v370 : BitVec 32 := Scalar.extui v369
  let v371 : BitVec 32 := Scalar.subi v368 v370
  let v372 : BitVec 1 := Scalar.cmpi .ne v366 v371
  let v373 : BitVec 32 := Scalar.remsi v360 c16_i32_141
  let c0_i32_146 : BitVec 32 := 0#32
  let v374 : BitVec 1 := Scalar.cmpi .ne v373 c0_i32_146
  let v375 : BitVec 1 := Scalar.andi v372 v374
  let v361 : BitVec 32 := Scalar.divsi v360 c16_i32_141
  let c1_i32_147 : BitVec 32 := 1#32
  let v376 : BitVec 32 := Scalar.subi v361 c1_i32_147
  let v377 : BitVec 32 := Scalar.select v375 v376 v361
  let v378 : BitVec 32 := Scalar.subi v377 c0_i32_148
  let c1_i32_150 : BitVec 32 := 1#32
  let v380 : BitVec 32 := Scalar.divsi v378 c1_i32_150
  let v381 : BitVec 32 := Scalar.muli v380 c1_i32_150
  let v382 : BitVec 32 := Scalar.addi c0_i32_148 v381
  let c1_i32_152 : BitVec 32 := 1#32
  let arg9 : BitVec 32 := Scf.iv v382 c1_i32_152 k0_t26
  let c16_i32_192 : BitVec 32 := 16#32
  let v475 : BitVec 32 := Scalar.muli arg9 c16_i32_192
  let v476 : BitVec 32 := Scalar.addi v358 v475
  let v477 : BitVec 32 := v476
  let c0_i32_197 : BitVec 32 := 0#32
  ![v477.toNat, 0]
def k0_off113 (i : grid0.Coords) (v356 : BitVec 32) (v360 : BitVec 32) (k0_t26 : Fin (k0_t26_loop v360).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_148 : BitVec 32 := 0#32
  let c0_i32_142 : BitVec 32 := 0#32
  let v362 : BitVec 1 := Scalar.cmpi .sgt v360 c0_i32_142
  let v363 : BitVec 32 := Scalar.extui v362
  let c0_i32_143 : BitVec 32 := 0#32
  let v364 : BitVec 1 := Scalar.cmpi .slt v360 c0_i32_143
  let v365 : BitVec 32 := Scalar.extui v364
  let v366 : BitVec 32 := Scalar.subi v363 v365
  let c16_i32_141 : BitVec 32 := 16#32
  let c0_i32_144 : BitVec 32 := 0#32
  let v367 : BitVec 1 := Scalar.cmpi .sgt c16_i32_141 c0_i32_144
  let v368 : BitVec 32 := Scalar.extui v367
  let c0_i32_145 : BitVec 32 := 0#32
  let v369 : BitVec 1 := Scalar.cmpi .slt c16_i32_141 c0_i32_145
  let v370 : BitVec 32 := Scalar.extui v369
  let v371 : BitVec 32 := Scalar.subi v368 v370
  let v372 : BitVec 1 := Scalar.cmpi .ne v366 v371
  let v373 : BitVec 32 := Scalar.remsi v360 c16_i32_141
  let c0_i32_146 : BitVec 32 := 0#32
  let v374 : BitVec 1 := Scalar.cmpi .ne v373 c0_i32_146
  let v375 : BitVec 1 := Scalar.andi v372 v374
  let v361 : BitVec 32 := Scalar.divsi v360 c16_i32_141
  let c1_i32_147 : BitVec 32 := 1#32
  let v376 : BitVec 32 := Scalar.subi v361 c1_i32_147
  let v377 : BitVec 32 := Scalar.select v375 v376 v361
  let v378 : BitVec 32 := Scalar.subi v377 c0_i32_148
  let c1_i32_150 : BitVec 32 := 1#32
  let v380 : BitVec 32 := Scalar.divsi v378 c1_i32_150
  let v381 : BitVec 32 := Scalar.muli v380 c1_i32_150
  let v382 : BitVec 32 := Scalar.addi c0_i32_148 v381
  let c1_i32_152 : BitVec 32 := 1#32
  let arg9 : BitVec 32 := Scf.iv v382 c1_i32_152 k0_t26
  let c16_i32_193 : BitVec 32 := 16#32
  let v478 : BitVec 32 := Scalar.muli arg9 c16_i32_193
  let v479 : BitVec 32 := Scalar.addi v356 v478
  let v480 : BitVec 32 := v479
  let c0_i32_195 : BitVec 32 := 0#32
  ![v234.toNat, v480.toNat, 0]

def k0_chk13 (i : grid0.Coords) (v356 : BitVec 32) (v358 : BitVec 32) (v360 : BitVec 32) : Prop :=
  (∀ (k0_h2 : k0_cond2 i = 1#1), (k0_t25_loop v360).OK) ∧
  (∀ k0_t25 : Fin (k0_t25_loop v360).trips, ∀ (k0_h2 : k0_cond2 i = 1#1), 16 ∣ (k0_mult49 v358 v360 k0_t25).toNat) ∧
  (∀ k0_t25 : Fin (k0_t25_loop v360).trips, ∀ (k0_h2 : k0_cond2 i = 1#1), 16 ∣ (k0_mult50 v356 v360 k0_t25).toNat) ∧
  (∀ k0_t25 : Fin (k0_t25_loop v360).trips, ∀ (k0_h2 : k0_cond2 i = 1#1), ∀ a, (k0_off106 v356 v360 k0_t25) a + S16x1024.size a ≤ S1152x1024.size a) ∧
  (∀ k0_t25 : Fin (k0_t25_loop v360).trips, ∀ (k0_h2 : k0_cond2 i = 1#1), ∀ a, (k0_off107 v358 v360 k0_t25) a + S16x1024.size a ≤ S44032x1024.size a) ∧
  (∀ k0_t25 : Fin (k0_t25_loop v360).trips, ∀ (k0_h2 : k0_cond2 i = 1#1), ∀ (hinb : ∀ a, (k0_off107 v358 v360 k0_t25) a + S16x1024.size a ≤ S44032x1024.size a), (Rect.unit (s := S44032x1024) (k0_off107 v358 v360 k0_t25) S16x1024.size hinb).WholeWords (EltTy.packing .bf16)) ∧
  (∀ k0_t25 : Fin (k0_t25_loop v360).trips, ∀ (k0_h2 : k0_cond2 i = 1#1), ∀ a, (k0_off108 i v356 v360 k0_t25) a + S1x16x1024.size a ≤ S2x1152x1024.size a) ∧
  (∀ k0_t25 : Fin (k0_t25_loop v360).trips, ∀ (k0_h2 : k0_cond2 i = 1#1), ∀ (hinb : ∀ a, (k0_off108 i v356 v360 k0_t25) a + S1x16x1024.size a ≤ S2x1152x1024.size a), (Rect.unit (s := S2x1152x1024) (k0_off108 i v356 v360 k0_t25) S1x16x1024.size hinb).WholeWords (EltTy.packing .bf16)) ∧
  (∀ (k0_h2 : k0_cond2 i = 1#1), (k0_t26_loop v360).OK) ∧
  (∀ k0_t26 : Fin (k0_t26_loop v360).trips, ∀ (k0_h2 : k0_cond2 i = 1#1), 16 ∣ (k0_mult51 v358 v360 k0_t26).toNat) ∧
  (∀ k0_t26 : Fin (k0_t26_loop v360).trips, ∀ (k0_h2 : k0_cond2 i = 1#1), 16 ∣ (k0_mult52 v356 v360 k0_t26).toNat) ∧
  (∀ k0_t26 : Fin (k0_t26_loop v360).trips, ∀ (k0_h2 : k0_cond2 i = 1#1), ∀ a, (k0_off111 v356 v360 k0_t26) a + S16x1024.size a ≤ S1152x1024.size a) ∧
  (∀ k0_t26 : Fin (k0_t26_loop v360).trips, ∀ (k0_h2 : k0_cond2 i = 1#1), ∀ a, (k0_off112 v358 v360 k0_t26) a + S16x1024.size a ≤ S44032x1024.size a) ∧
  (∀ k0_t26 : Fin (k0_t26_loop v360).trips, ∀ (k0_h2 : k0_cond2 i = 1#1), ∀ (hinb : ∀ a, (k0_off112 v358 v360 k0_t26) a + S16x1024.size a ≤ S44032x1024.size a), (Rect.unit (s := S44032x1024) (k0_off112 v358 v360 k0_t26) S16x1024.size hinb).WholeWords (EltTy.packing .bf16)) ∧
  (∀ k0_t26 : Fin (k0_t26_loop v360).trips, ∀ (k0_h2 : k0_cond2 i = 1#1), ∀ a, (k0_off113 i v356 v360 k0_t26) a + S1x16x1024.size a ≤ S2x1152x1024.size a) ∧
  (∀ k0_t26 : Fin (k0_t26_loop v360).trips, ∀ (k0_h2 : k0_cond2 i = 1#1), ∀ (hinb : ∀ a, (k0_off113 i v356 v360 k0_t26) a + S1x16x1024.size a ≤ S2x1152x1024.size a), (Rect.unit (s := S2x1152x1024) (k0_off113 i v356 v360 k0_t26) S1x16x1024.size hinb).WholeWords (EltTy.packing .bf16))
theorem k0_t25_ok : ∀ (i : grid0.Coords) (v356 : BitVec 32) (v358 : BitVec 32) (v360 : BitVec 32) (k0_hw13 : k0_chk13 i v356 v358 v360), ∀ (k0_h2 : k0_cond2 i = 1#1), (k0_t25_loop v360).OK := fun i v356 v358 v360 k0_hw13 k0_h2 => k0_hw13.1 k0_h2
theorem k0_mult49_dvd : ∀ (i : grid0.Coords) (v356 : BitVec 32) (v358 : BitVec 32) (v360 : BitVec 32) (k0_hw13 : k0_chk13 i v356 v358 v360) (k0_t25 : Fin (k0_t25_loop v360).trips), ∀ (k0_h2 : k0_cond2 i = 1#1), 16 ∣ (k0_mult49 v358 v360 k0_t25).toNat := fun i v356 v358 v360 k0_hw13 k0_t25 k0_h2 => k0_hw13.2.1 k0_t25 k0_h2
theorem k0_mult50_dvd : ∀ (i : grid0.Coords) (v356 : BitVec 32) (v358 : BitVec 32) (v360 : BitVec 32) (k0_hw13 : k0_chk13 i v356 v358 v360) (k0_t25 : Fin (k0_t25_loop v360).trips), ∀ (k0_h2 : k0_cond2 i = 1#1), 16 ∣ (k0_mult50 v356 v360 k0_t25).toNat := fun i v356 v358 v360 k0_hw13 k0_t25 k0_h2 => k0_hw13.2.2.1 k0_t25 k0_h2
theorem k0_off106_inb : ∀ (i : grid0.Coords) (v356 : BitVec 32) (v358 : BitVec 32) (v360 : BitVec 32) (k0_hw13 : k0_chk13 i v356 v358 v360) (k0_t25 : Fin (k0_t25_loop v360).trips), ∀ (k0_h2 : k0_cond2 i = 1#1), ∀ a, (k0_off106 v356 v360 k0_t25) a + S16x1024.size a ≤ S1152x1024.size a := fun i v356 v358 v360 k0_hw13 k0_t25 k0_h2 => k0_hw13.2.2.2.1 k0_t25 k0_h2
theorem k0_off107_inb : ∀ (i : grid0.Coords) (v356 : BitVec 32) (v358 : BitVec 32) (v360 : BitVec 32) (k0_hw13 : k0_chk13 i v356 v358 v360) (k0_t25 : Fin (k0_t25_loop v360).trips), ∀ (k0_h2 : k0_cond2 i = 1#1), ∀ a, (k0_off107 v358 v360 k0_t25) a + S16x1024.size a ≤ S44032x1024.size a := fun i v356 v358 v360 k0_hw13 k0_t25 k0_h2 => k0_hw13.2.2.2.2.1 k0_t25 k0_h2
theorem k0_off107_wordsbf16 : ∀ (i : grid0.Coords) (v356 : BitVec 32) (v358 : BitVec 32) (v360 : BitVec 32) (k0_hw13 : k0_chk13 i v356 v358 v360) (k0_t25 : Fin (k0_t25_loop v360).trips), ∀ (k0_h2 : k0_cond2 i = 1#1), (Rect.unit (s := S44032x1024) (k0_off107 v358 v360 k0_t25) S16x1024.size (k0_off107_inb i v356 v358 v360 k0_hw13 k0_t25 k0_h2)).WholeWords (EltTy.packing .bf16) := fun i v356 v358 v360 k0_hw13 k0_t25 k0_h2 => k0_hw13.2.2.2.2.2.1 k0_t25 k0_h2 (k0_off107_inb i v356 v358 v360 k0_hw13 k0_t25 k0_h2)
theorem k0_off108_inb : ∀ (i : grid0.Coords) (v356 : BitVec 32) (v358 : BitVec 32) (v360 : BitVec 32) (k0_hw13 : k0_chk13 i v356 v358 v360) (k0_t25 : Fin (k0_t25_loop v360).trips), ∀ (k0_h2 : k0_cond2 i = 1#1), ∀ a, (k0_off108 i v356 v360 k0_t25) a + S1x16x1024.size a ≤ S2x1152x1024.size a := fun i v356 v358 v360 k0_hw13 k0_t25 k0_h2 => k0_hw13.2.2.2.2.2.2.1 k0_t25 k0_h2
theorem k0_off108_wordsbf16 : ∀ (i : grid0.Coords) (v356 : BitVec 32) (v358 : BitVec 32) (v360 : BitVec 32) (k0_hw13 : k0_chk13 i v356 v358 v360) (k0_t25 : Fin (k0_t25_loop v360).trips), ∀ (k0_h2 : k0_cond2 i = 1#1), (Rect.unit (s := S2x1152x1024) (k0_off108 i v356 v360 k0_t25) S1x16x1024.size (k0_off108_inb i v356 v358 v360 k0_hw13 k0_t25 k0_h2)).WholeWords (EltTy.packing .bf16) := fun i v356 v358 v360 k0_hw13 k0_t25 k0_h2 => k0_hw13.2.2.2.2.2.2.2.1 k0_t25 k0_h2 (k0_off108_inb i v356 v358 v360 k0_hw13 k0_t25 k0_h2)
theorem k0_t26_ok : ∀ (i : grid0.Coords) (v356 : BitVec 32) (v358 : BitVec 32) (v360 : BitVec 32) (k0_hw13 : k0_chk13 i v356 v358 v360), ∀ (k0_h2 : k0_cond2 i = 1#1), (k0_t26_loop v360).OK := fun i v356 v358 v360 k0_hw13 k0_h2 => k0_hw13.2.2.2.2.2.2.2.2.1 k0_h2
theorem k0_mult51_dvd : ∀ (i : grid0.Coords) (v356 : BitVec 32) (v358 : BitVec 32) (v360 : BitVec 32) (k0_hw13 : k0_chk13 i v356 v358 v360) (k0_t26 : Fin (k0_t26_loop v360).trips), ∀ (k0_h2 : k0_cond2 i = 1#1), 16 ∣ (k0_mult51 v358 v360 k0_t26).toNat := fun i v356 v358 v360 k0_hw13 k0_t26 k0_h2 => k0_hw13.2.2.2.2.2.2.2.2.2.1 k0_t26 k0_h2
theorem k0_mult52_dvd : ∀ (i : grid0.Coords) (v356 : BitVec 32) (v358 : BitVec 32) (v360 : BitVec 32) (k0_hw13 : k0_chk13 i v356 v358 v360) (k0_t26 : Fin (k0_t26_loop v360).trips), ∀ (k0_h2 : k0_cond2 i = 1#1), 16 ∣ (k0_mult52 v356 v360 k0_t26).toNat := fun i v356 v358 v360 k0_hw13 k0_t26 k0_h2 => k0_hw13.2.2.2.2.2.2.2.2.2.2.1 k0_t26 k0_h2
theorem k0_off111_inb : ∀ (i : grid0.Coords) (v356 : BitVec 32) (v358 : BitVec 32) (v360 : BitVec 32) (k0_hw13 : k0_chk13 i v356 v358 v360) (k0_t26 : Fin (k0_t26_loop v360).trips), ∀ (k0_h2 : k0_cond2 i = 1#1), ∀ a, (k0_off111 v356 v360 k0_t26) a + S16x1024.size a ≤ S1152x1024.size a := fun i v356 v358 v360 k0_hw13 k0_t26 k0_h2 => k0_hw13.2.2.2.2.2.2.2.2.2.2.2.1 k0_t26 k0_h2
theorem k0_off112_inb : ∀ (i : grid0.Coords) (v356 : BitVec 32) (v358 : BitVec 32) (v360 : BitVec 32) (k0_hw13 : k0_chk13 i v356 v358 v360) (k0_t26 : Fin (k0_t26_loop v360).trips), ∀ (k0_h2 : k0_cond2 i = 1#1), ∀ a, (k0_off112 v358 v360 k0_t26) a + S16x1024.size a ≤ S44032x1024.size a := fun i v356 v358 v360 k0_hw13 k0_t26 k0_h2 => k0_hw13.2.2.2.2.2.2.2.2.2.2.2.2.1 k0_t26 k0_h2
theorem k0_off112_wordsbf16 : ∀ (i : grid0.Coords) (v356 : BitVec 32) (v358 : BitVec 32) (v360 : BitVec 32) (k0_hw13 : k0_chk13 i v356 v358 v360) (k0_t26 : Fin (k0_t26_loop v360).trips), ∀ (k0_h2 : k0_cond2 i = 1#1), (Rect.unit (s := S44032x1024) (k0_off112 v358 v360 k0_t26) S16x1024.size (k0_off112_inb i v356 v358 v360 k0_hw13 k0_t26 k0_h2)).WholeWords (EltTy.packing .bf16) := fun i v356 v358 v360 k0_hw13 k0_t26 k0_h2 => k0_hw13.2.2.2.2.2.2.2.2.2.2.2.2.2.1 k0_t26 k0_h2 (k0_off112_inb i v356 v358 v360 k0_hw13 k0_t26 k0_h2)
theorem k0_off113_inb : ∀ (i : grid0.Coords) (v356 : BitVec 32) (v358 : BitVec 32) (v360 : BitVec 32) (k0_hw13 : k0_chk13 i v356 v358 v360) (k0_t26 : Fin (k0_t26_loop v360).trips), ∀ (k0_h2 : k0_cond2 i = 1#1), ∀ a, (k0_off113 i v356 v360 k0_t26) a + S1x16x1024.size a ≤ S2x1152x1024.size a := fun i v356 v358 v360 k0_hw13 k0_t26 k0_h2 => k0_hw13.2.2.2.2.2.2.2.2.2.2.2.2.2.2.1 k0_t26 k0_h2
theorem k0_off113_wordsbf16 : ∀ (i : grid0.Coords) (v356 : BitVec 32) (v358 : BitVec 32) (v360 : BitVec 32) (k0_hw13 : k0_chk13 i v356 v358 v360) (k0_t26 : Fin (k0_t26_loop v360).trips), ∀ (k0_h2 : k0_cond2 i = 1#1), (Rect.unit (s := S2x1152x1024) (k0_off113 i v356 v360 k0_t26) S1x16x1024.size (k0_off113_inb i v356 v358 v360 k0_hw13 k0_t26 k0_h2)).WholeWords (EltTy.packing .bf16) := fun i v356 v358 v360 k0_hw13 k0_t26 k0_h2 => k0_hw13.2.2.2.2.2.2.2.2.2.2.2.2.2.2.2 k0_t26 k0_h2 (k0_off113_inb i v356 v358 v360 k0_hw13 k0_t26 k0_h2)

def k0_off114 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v385 : Index := Scalar.indexCast v233
  let c5 : Index := 5#32
  ![v385.toNat, 5]
def k0_off115 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v387 : Index := Scalar.indexCast v233
  let c21 : Index := 21#32
  ![v387.toNat, 21]
def k0_off116 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v389 : Index := Scalar.indexCast v233
  let c13_153 : Index := 13#32
  ![v389.toNat, 13]
@[reducible] def k0_t27_loop (v390 : BitVec 32) : Scf.Loop 32 :=
  let c0_i32_161 : BitVec 32 := 0#32
  let c0_i32_155 : BitVec 32 := 0#32
  let v392 : BitVec 1 := Scalar.cmpi .sgt v390 c0_i32_155
  let v393 : BitVec 32 := Scalar.extui v392
  let c0_i32_156 : BitVec 32 := 0#32
  let v394 : BitVec 1 := Scalar.cmpi .slt v390 c0_i32_156
  let v395 : BitVec 32 := Scalar.extui v394
  let v396 : BitVec 32 := Scalar.subi v393 v395
  let c16_i32_154 : BitVec 32 := 16#32
  let c0_i32_157 : BitVec 32 := 0#32
  let v397 : BitVec 1 := Scalar.cmpi .sgt c16_i32_154 c0_i32_157
  let v398 : BitVec 32 := Scalar.extui v397
  let c0_i32_158 : BitVec 32 := 0#32
  let v399 : BitVec 1 := Scalar.cmpi .slt c16_i32_154 c0_i32_158
  let v400 : BitVec 32 := Scalar.extui v399
  let v401 : BitVec 32 := Scalar.subi v398 v400
  let v402 : BitVec 1 := Scalar.cmpi .ne v396 v401
  let v403 : BitVec 32 := Scalar.remsi v390 c16_i32_154
  let c0_i32_159 : BitVec 32 := 0#32
  let v404 : BitVec 1 := Scalar.cmpi .ne v403 c0_i32_159
  let v405 : BitVec 1 := Scalar.andi v402 v404
  let v391 : BitVec 32 := Scalar.divsi v390 c16_i32_154
  let c1_i32_160 : BitVec 32 := 1#32
  let v406 : BitVec 32 := Scalar.subi v391 c1_i32_160
  let v407 : BitVec 32 := Scalar.select v405 v406 v391
  let v408 : BitVec 32 := Scalar.subi v407 c0_i32_161
  let c1_i32_163 : BitVec 32 := 1#32
  let v410 : BitVec 32 := Scalar.divsi v408 c1_i32_163
  let v411 : BitVec 32 := Scalar.muli v410 c1_i32_163
  let v412 : BitVec 32 := Scalar.addi c0_i32_161 v411
  let c1_i32_164 : BitVec 32 := 1#32
  ⟨c0_i32_161, v412, c1_i32_164⟩

def k0_mult53 (v388 : BitVec 32) (v390 : BitVec 32) (k0_t27 : Fin (k0_t27_loop v390).trips) : BitVec 32 :=
  let c0_i32_161 : BitVec 32 := 0#32
  let c1_i32_164 : BitVec 32 := 1#32
  let arg9 : BitVec 32 := Scf.iv c0_i32_161 c1_i32_164 k0_t27
  let c16_i32_192 : BitVec 32 := 16#32
  let v475 : BitVec 32 := Scalar.muli arg9 c16_i32_192
  let v476 : BitVec 32 := Scalar.addi v388 v475
  v476
def k0_mult54 (v386 : BitVec 32) (v390 : BitVec 32) (k0_t27 : Fin (k0_t27_loop v390).trips) : BitVec 32 :=
  let c0_i32_161 : BitVec 32 := 0#32
  let c1_i32_164 : BitVec 32 := 1#32
  let arg9 : BitVec 32 := Scf.iv c0_i32_161 c1_i32_164 k0_t27
  let c16_i32_193 : BitVec 32 := 16#32
  let v478 : BitVec 32 := Scalar.muli arg9 c16_i32_193
  let v479 : BitVec 32 := Scalar.addi v386 v478
  v479
def k0_off117 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off118 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off119 (v386 : BitVec 32) (v390 : BitVec 32) (k0_t27 : Fin (k0_t27_loop v390).trips) : Fin 2 → Nat :=
  let c0_i32_161 : BitVec 32 := 0#32
  let c1_i32_164 : BitVec 32 := 1#32
  let arg9 : BitVec 32 := Scf.iv c0_i32_161 c1_i32_164 k0_t27
  let c16_i32_193 : BitVec 32 := 16#32
  let v478 : BitVec 32 := Scalar.muli arg9 c16_i32_193
  let v479 : BitVec 32 := Scalar.addi v386 v478
  let v480 : BitVec 32 := v479
  let c0_i32_196 : BitVec 32 := 0#32
  ![v480.toNat, 0]
def k0_off120 (v388 : BitVec 32) (v390 : BitVec 32) (k0_t27 : Fin (k0_t27_loop v390).trips) : Fin 2 → Nat :=
  let c0_i32_161 : BitVec 32 := 0#32
  let c1_i32_164 : BitVec 32 := 1#32
  let arg9 : BitVec 32 := Scf.iv c0_i32_161 c1_i32_164 k0_t27
  let c16_i32_192 : BitVec 32 := 16#32
  let v475 : BitVec 32 := Scalar.muli arg9 c16_i32_192
  let v476 : BitVec 32 := Scalar.addi v388 v475
  let v477 : BitVec 32 := v476
  let c0_i32_197 : BitVec 32 := 0#32
  ![v477.toNat, 0]
def k0_off121 (i : grid0.Coords) (v386 : BitVec 32) (v390 : BitVec 32) (k0_t27 : Fin (k0_t27_loop v390).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_161 : BitVec 32 := 0#32
  let c1_i32_164 : BitVec 32 := 1#32
  let arg9 : BitVec 32 := Scf.iv c0_i32_161 c1_i32_164 k0_t27
  let c16_i32_193 : BitVec 32 := 16#32
  let v478 : BitVec 32 := Scalar.muli arg9 c16_i32_193
  let v479 : BitVec 32 := Scalar.addi v386 v478
  let v480 : BitVec 32 := v479
  let c0_i32_195 : BitVec 32 := 0#32
  ![v234.toNat, v480.toNat, 0]
@[reducible] def k0_t28_loop (v390 : BitVec 32) : Scf.Loop 32 :=
  let c0_i32_161 : BitVec 32 := 0#32
  let c0_i32_155 : BitVec 32 := 0#32
  let v392 : BitVec 1 := Scalar.cmpi .sgt v390 c0_i32_155
  let v393 : BitVec 32 := Scalar.extui v392
  let c0_i32_156 : BitVec 32 := 0#32
  let v394 : BitVec 1 := Scalar.cmpi .slt v390 c0_i32_156
  let v395 : BitVec 32 := Scalar.extui v394
  let v396 : BitVec 32 := Scalar.subi v393 v395
  let c16_i32_154 : BitVec 32 := 16#32
  let c0_i32_157 : BitVec 32 := 0#32
  let v397 : BitVec 1 := Scalar.cmpi .sgt c16_i32_154 c0_i32_157
  let v398 : BitVec 32 := Scalar.extui v397
  let c0_i32_158 : BitVec 32 := 0#32
  let v399 : BitVec 1 := Scalar.cmpi .slt c16_i32_154 c0_i32_158
  let v400 : BitVec 32 := Scalar.extui v399
  let v401 : BitVec 32 := Scalar.subi v398 v400
  let v402 : BitVec 1 := Scalar.cmpi .ne v396 v401
  let v403 : BitVec 32 := Scalar.remsi v390 c16_i32_154
  let c0_i32_159 : BitVec 32 := 0#32
  let v404 : BitVec 1 := Scalar.cmpi .ne v403 c0_i32_159
  let v405 : BitVec 1 := Scalar.andi v402 v404
  let v391 : BitVec 32 := Scalar.divsi v390 c16_i32_154
  let c1_i32_160 : BitVec 32 := 1#32
  let v406 : BitVec 32 := Scalar.subi v391 c1_i32_160
  let v407 : BitVec 32 := Scalar.select v405 v406 v391
  let v408 : BitVec 32 := Scalar.subi v407 c0_i32_161
  let c1_i32_163 : BitVec 32 := 1#32
  let v410 : BitVec 32 := Scalar.divsi v408 c1_i32_163
  let v411 : BitVec 32 := Scalar.muli v410 c1_i32_163
  let v412 : BitVec 32 := Scalar.addi c0_i32_161 v411
  let v409 : BitVec 32 := Scalar.addi c0_i32_161 v408
  let c1_i32_165 : BitVec 32 := 1#32
  ⟨v412, v409, c1_i32_165⟩
def k0_mult55 (v388 : BitVec 32) (v390 : BitVec 32) (k0_t28 : Fin (k0_t28_loop v390).trips) : BitVec 32 :=
  let c0_i32_161 : BitVec 32 := 0#32
  let c0_i32_155 : BitVec 32 := 0#32
  let v392 : BitVec 1 := Scalar.cmpi .sgt v390 c0_i32_155
  let v393 : BitVec 32 := Scalar.extui v392
  let c0_i32_156 : BitVec 32 := 0#32
  let v394 : BitVec 1 := Scalar.cmpi .slt v390 c0_i32_156
  let v395 : BitVec 32 := Scalar.extui v394
  let v396 : BitVec 32 := Scalar.subi v393 v395
  let c16_i32_154 : BitVec 32 := 16#32
  let c0_i32_157 : BitVec 32 := 0#32
  let v397 : BitVec 1 := Scalar.cmpi .sgt c16_i32_154 c0_i32_157
  let v398 : BitVec 32 := Scalar.extui v397
  let c0_i32_158 : BitVec 32 := 0#32
  let v399 : BitVec 1 := Scalar.cmpi .slt c16_i32_154 c0_i32_158
  let v400 : BitVec 32 := Scalar.extui v399
  let v401 : BitVec 32 := Scalar.subi v398 v400
  let v402 : BitVec 1 := Scalar.cmpi .ne v396 v401
  let v403 : BitVec 32 := Scalar.remsi v390 c16_i32_154
  let c0_i32_159 : BitVec 32 := 0#32
  let v404 : BitVec 1 := Scalar.cmpi .ne v403 c0_i32_159
  let v405 : BitVec 1 := Scalar.andi v402 v404
  let v391 : BitVec 32 := Scalar.divsi v390 c16_i32_154
  let c1_i32_160 : BitVec 32 := 1#32
  let v406 : BitVec 32 := Scalar.subi v391 c1_i32_160
  let v407 : BitVec 32 := Scalar.select v405 v406 v391
  let v408 : BitVec 32 := Scalar.subi v407 c0_i32_161
  let c1_i32_163 : BitVec 32 := 1#32
  let v410 : BitVec 32 := Scalar.divsi v408 c1_i32_163
  let v411 : BitVec 32 := Scalar.muli v410 c1_i32_163
  let v412 : BitVec 32 := Scalar.addi c0_i32_161 v411
  let c1_i32_165 : BitVec 32 := 1#32
  let arg9 : BitVec 32 := Scf.iv v412 c1_i32_165 k0_t28
  let c16_i32_192 : BitVec 32 := 16#32
  let v475 : BitVec 32 := Scalar.muli arg9 c16_i32_192
  let v476 : BitVec 32 := Scalar.addi v388 v475
  v476
def k0_mult56 (v386 : BitVec 32) (v390 : BitVec 32) (k0_t28 : Fin (k0_t28_loop v390).trips) : BitVec 32 :=
  let c0_i32_161 : BitVec 32 := 0#32
  let c0_i32_155 : BitVec 32 := 0#32
  let v392 : BitVec 1 := Scalar.cmpi .sgt v390 c0_i32_155
  let v393 : BitVec 32 := Scalar.extui v392
  let c0_i32_156 : BitVec 32 := 0#32
  let v394 : BitVec 1 := Scalar.cmpi .slt v390 c0_i32_156
  let v395 : BitVec 32 := Scalar.extui v394
  let v396 : BitVec 32 := Scalar.subi v393 v395
  let c16_i32_154 : BitVec 32 := 16#32
  let c0_i32_157 : BitVec 32 := 0#32
  let v397 : BitVec 1 := Scalar.cmpi .sgt c16_i32_154 c0_i32_157
  let v398 : BitVec 32 := Scalar.extui v397
  let c0_i32_158 : BitVec 32 := 0#32
  let v399 : BitVec 1 := Scalar.cmpi .slt c16_i32_154 c0_i32_158
  let v400 : BitVec 32 := Scalar.extui v399
  let v401 : BitVec 32 := Scalar.subi v398 v400
  let v402 : BitVec 1 := Scalar.cmpi .ne v396 v401
  let v403 : BitVec 32 := Scalar.remsi v390 c16_i32_154
  let c0_i32_159 : BitVec 32 := 0#32
  let v404 : BitVec 1 := Scalar.cmpi .ne v403 c0_i32_159
  let v405 : BitVec 1 := Scalar.andi v402 v404
  let v391 : BitVec 32 := Scalar.divsi v390 c16_i32_154
  let c1_i32_160 : BitVec 32 := 1#32
  let v406 : BitVec 32 := Scalar.subi v391 c1_i32_160
  let v407 : BitVec 32 := Scalar.select v405 v406 v391
  let v408 : BitVec 32 := Scalar.subi v407 c0_i32_161
  let c1_i32_163 : BitVec 32 := 1#32
  let v410 : BitVec 32 := Scalar.divsi v408 c1_i32_163
  let v411 : BitVec 32 := Scalar.muli v410 c1_i32_163
  let v412 : BitVec 32 := Scalar.addi c0_i32_161 v411
  let c1_i32_165 : BitVec 32 := 1#32
  let arg9 : BitVec 32 := Scf.iv v412 c1_i32_165 k0_t28
  let c16_i32_193 : BitVec 32 := 16#32
  let v478 : BitVec 32 := Scalar.muli arg9 c16_i32_193
  let v479 : BitVec 32 := Scalar.addi v386 v478
  v479
def k0_off122 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off123 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off124 (v386 : BitVec 32) (v390 : BitVec 32) (k0_t28 : Fin (k0_t28_loop v390).trips) : Fin 2 → Nat :=
  let c0_i32_161 : BitVec 32 := 0#32
  let c0_i32_155 : BitVec 32 := 0#32
  let v392 : BitVec 1 := Scalar.cmpi .sgt v390 c0_i32_155
  let v393 : BitVec 32 := Scalar.extui v392
  let c0_i32_156 : BitVec 32 := 0#32
  let v394 : BitVec 1 := Scalar.cmpi .slt v390 c0_i32_156
  let v395 : BitVec 32 := Scalar.extui v394
  let v396 : BitVec 32 := Scalar.subi v393 v395
  let c16_i32_154 : BitVec 32 := 16#32
  let c0_i32_157 : BitVec 32 := 0#32
  let v397 : BitVec 1 := Scalar.cmpi .sgt c16_i32_154 c0_i32_157
  let v398 : BitVec 32 := Scalar.extui v397
  let c0_i32_158 : BitVec 32 := 0#32
  let v399 : BitVec 1 := Scalar.cmpi .slt c16_i32_154 c0_i32_158
  let v400 : BitVec 32 := Scalar.extui v399
  let v401 : BitVec 32 := Scalar.subi v398 v400
  let v402 : BitVec 1 := Scalar.cmpi .ne v396 v401
  let v403 : BitVec 32 := Scalar.remsi v390 c16_i32_154
  let c0_i32_159 : BitVec 32 := 0#32
  let v404 : BitVec 1 := Scalar.cmpi .ne v403 c0_i32_159
  let v405 : BitVec 1 := Scalar.andi v402 v404
  let v391 : BitVec 32 := Scalar.divsi v390 c16_i32_154
  let c1_i32_160 : BitVec 32 := 1#32
  let v406 : BitVec 32 := Scalar.subi v391 c1_i32_160
  let v407 : BitVec 32 := Scalar.select v405 v406 v391
  let v408 : BitVec 32 := Scalar.subi v407 c0_i32_161
  let c1_i32_163 : BitVec 32 := 1#32
  let v410 : BitVec 32 := Scalar.divsi v408 c1_i32_163
  let v411 : BitVec 32 := Scalar.muli v410 c1_i32_163
  let v412 : BitVec 32 := Scalar.addi c0_i32_161 v411
  let c1_i32_165 : BitVec 32 := 1#32
  let arg9 : BitVec 32 := Scf.iv v412 c1_i32_165 k0_t28
  let c16_i32_193 : BitVec 32 := 16#32
  let v478 : BitVec 32 := Scalar.muli arg9 c16_i32_193
  let v479 : BitVec 32 := Scalar.addi v386 v478
  let v480 : BitVec 32 := v479
  let c0_i32_196 : BitVec 32 := 0#32
  ![v480.toNat, 0]
def k0_off125 (v388 : BitVec 32) (v390 : BitVec 32) (k0_t28 : Fin (k0_t28_loop v390).trips) : Fin 2 → Nat :=
  let c0_i32_161 : BitVec 32 := 0#32
  let c0_i32_155 : BitVec 32 := 0#32
  let v392 : BitVec 1 := Scalar.cmpi .sgt v390 c0_i32_155
  let v393 : BitVec 32 := Scalar.extui v392
  let c0_i32_156 : BitVec 32 := 0#32
  let v394 : BitVec 1 := Scalar.cmpi .slt v390 c0_i32_156
  let v395 : BitVec 32 := Scalar.extui v394
  let v396 : BitVec 32 := Scalar.subi v393 v395
  let c16_i32_154 : BitVec 32 := 16#32
  let c0_i32_157 : BitVec 32 := 0#32
  let v397 : BitVec 1 := Scalar.cmpi .sgt c16_i32_154 c0_i32_157
  let v398 : BitVec 32 := Scalar.extui v397
  let c0_i32_158 : BitVec 32 := 0#32
  let v399 : BitVec 1 := Scalar.cmpi .slt c16_i32_154 c0_i32_158
  let v400 : BitVec 32 := Scalar.extui v399
  let v401 : BitVec 32 := Scalar.subi v398 v400
  let v402 : BitVec 1 := Scalar.cmpi .ne v396 v401
  let v403 : BitVec 32 := Scalar.remsi v390 c16_i32_154
  let c0_i32_159 : BitVec 32 := 0#32
  let v404 : BitVec 1 := Scalar.cmpi .ne v403 c0_i32_159
  let v405 : BitVec 1 := Scalar.andi v402 v404
  let v391 : BitVec 32 := Scalar.divsi v390 c16_i32_154
  let c1_i32_160 : BitVec 32 := 1#32
  let v406 : BitVec 32 := Scalar.subi v391 c1_i32_160
  let v407 : BitVec 32 := Scalar.select v405 v406 v391
  let v408 : BitVec 32 := Scalar.subi v407 c0_i32_161
  let c1_i32_163 : BitVec 32 := 1#32
  let v410 : BitVec 32 := Scalar.divsi v408 c1_i32_163
  let v411 : BitVec 32 := Scalar.muli v410 c1_i32_163
  let v412 : BitVec 32 := Scalar.addi c0_i32_161 v411
  let c1_i32_165 : BitVec 32 := 1#32
  let arg9 : BitVec 32 := Scf.iv v412 c1_i32_165 k0_t28
  let c16_i32_192 : BitVec 32 := 16#32
  let v475 : BitVec 32 := Scalar.muli arg9 c16_i32_192
  let v476 : BitVec 32 := Scalar.addi v388 v475
  let v477 : BitVec 32 := v476
  let c0_i32_197 : BitVec 32 := 0#32
  ![v477.toNat, 0]
def k0_off126 (i : grid0.Coords) (v386 : BitVec 32) (v390 : BitVec 32) (k0_t28 : Fin (k0_t28_loop v390).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_161 : BitVec 32 := 0#32
  let c0_i32_155 : BitVec 32 := 0#32
  let v392 : BitVec 1 := Scalar.cmpi .sgt v390 c0_i32_155
  let v393 : BitVec 32 := Scalar.extui v392
  let c0_i32_156 : BitVec 32 := 0#32
  let v394 : BitVec 1 := Scalar.cmpi .slt v390 c0_i32_156
  let v395 : BitVec 32 := Scalar.extui v394
  let v396 : BitVec 32 := Scalar.subi v393 v395
  let c16_i32_154 : BitVec 32 := 16#32
  let c0_i32_157 : BitVec 32 := 0#32
  let v397 : BitVec 1 := Scalar.cmpi .sgt c16_i32_154 c0_i32_157
  let v398 : BitVec 32 := Scalar.extui v397
  let c0_i32_158 : BitVec 32 := 0#32
  let v399 : BitVec 1 := Scalar.cmpi .slt c16_i32_154 c0_i32_158
  let v400 : BitVec 32 := Scalar.extui v399
  let v401 : BitVec 32 := Scalar.subi v398 v400
  let v402 : BitVec 1 := Scalar.cmpi .ne v396 v401
  let v403 : BitVec 32 := Scalar.remsi v390 c16_i32_154
  let c0_i32_159 : BitVec 32 := 0#32
  let v404 : BitVec 1 := Scalar.cmpi .ne v403 c0_i32_159
  let v405 : BitVec 1 := Scalar.andi v402 v404
  let v391 : BitVec 32 := Scalar.divsi v390 c16_i32_154
  let c1_i32_160 : BitVec 32 := 1#32
  let v406 : BitVec 32 := Scalar.subi v391 c1_i32_160
  let v407 : BitVec 32 := Scalar.select v405 v406 v391
  let v408 : BitVec 32 := Scalar.subi v407 c0_i32_161
  let c1_i32_163 : BitVec 32 := 1#32
  let v410 : BitVec 32 := Scalar.divsi v408 c1_i32_163
  let v411 : BitVec 32 := Scalar.muli v410 c1_i32_163
  let v412 : BitVec 32 := Scalar.addi c0_i32_161 v411
  let c1_i32_165 : BitVec 32 := 1#32
  let arg9 : BitVec 32 := Scf.iv v412 c1_i32_165 k0_t28
  let c16_i32_193 : BitVec 32 := 16#32
  let v478 : BitVec 32 := Scalar.muli arg9 c16_i32_193
  let v479 : BitVec 32 := Scalar.addi v386 v478
  let v480 : BitVec 32 := v479
  let c0_i32_195 : BitVec 32 := 0#32
  ![v234.toNat, v480.toNat, 0]

def k0_chk14 (i : grid0.Coords) (v386 : BitVec 32) (v388 : BitVec 32) (v390 : BitVec 32) : Prop :=
  (∀ (k0_h2 : k0_cond2 i = 1#1), (k0_t27_loop v390).OK) ∧
  (∀ k0_t27 : Fin (k0_t27_loop v390).trips, ∀ (k0_h2 : k0_cond2 i = 1#1), 16 ∣ (k0_mult53 v388 v390 k0_t27).toNat) ∧
  (∀ k0_t27 : Fin (k0_t27_loop v390).trips, ∀ (k0_h2 : k0_cond2 i = 1#1), 16 ∣ (k0_mult54 v386 v390 k0_t27).toNat) ∧
  (∀ k0_t27 : Fin (k0_t27_loop v390).trips, ∀ (k0_h2 : k0_cond2 i = 1#1), ∀ a, (k0_off119 v386 v390 k0_t27) a + S16x1024.size a ≤ S1152x1024.size a) ∧
  (∀ k0_t27 : Fin (k0_t27_loop v390).trips, ∀ (k0_h2 : k0_cond2 i = 1#1), ∀ a, (k0_off120 v388 v390 k0_t27) a + S16x1024.size a ≤ S44032x1024.size a) ∧
  (∀ k0_t27 : Fin (k0_t27_loop v390).trips, ∀ (k0_h2 : k0_cond2 i = 1#1), ∀ (hinb : ∀ a, (k0_off120 v388 v390 k0_t27) a + S16x1024.size a ≤ S44032x1024.size a), (Rect.unit (s := S44032x1024) (k0_off120 v388 v390 k0_t27) S16x1024.size hinb).WholeWords (EltTy.packing .bf16)) ∧
  (∀ k0_t27 : Fin (k0_t27_loop v390).trips, ∀ (k0_h2 : k0_cond2 i = 1#1), ∀ a, (k0_off121 i v386 v390 k0_t27) a + S1x16x1024.size a ≤ S2x1152x1024.size a) ∧
  (∀ k0_t27 : Fin (k0_t27_loop v390).trips, ∀ (k0_h2 : k0_cond2 i = 1#1), ∀ (hinb : ∀ a, (k0_off121 i v386 v390 k0_t27) a + S1x16x1024.size a ≤ S2x1152x1024.size a), (Rect.unit (s := S2x1152x1024) (k0_off121 i v386 v390 k0_t27) S1x16x1024.size hinb).WholeWords (EltTy.packing .bf16)) ∧
  (∀ (k0_h2 : k0_cond2 i = 1#1), (k0_t28_loop v390).OK) ∧
  (∀ k0_t28 : Fin (k0_t28_loop v390).trips, ∀ (k0_h2 : k0_cond2 i = 1#1), 16 ∣ (k0_mult55 v388 v390 k0_t28).toNat) ∧
  (∀ k0_t28 : Fin (k0_t28_loop v390).trips, ∀ (k0_h2 : k0_cond2 i = 1#1), 16 ∣ (k0_mult56 v386 v390 k0_t28).toNat) ∧
  (∀ k0_t28 : Fin (k0_t28_loop v390).trips, ∀ (k0_h2 : k0_cond2 i = 1#1), ∀ a, (k0_off124 v386 v390 k0_t28) a + S16x1024.size a ≤ S1152x1024.size a) ∧
  (∀ k0_t28 : Fin (k0_t28_loop v390).trips, ∀ (k0_h2 : k0_cond2 i = 1#1), ∀ a, (k0_off125 v388 v390 k0_t28) a + S16x1024.size a ≤ S44032x1024.size a) ∧
  (∀ k0_t28 : Fin (k0_t28_loop v390).trips, ∀ (k0_h2 : k0_cond2 i = 1#1), ∀ (hinb : ∀ a, (k0_off125 v388 v390 k0_t28) a + S16x1024.size a ≤ S44032x1024.size a), (Rect.unit (s := S44032x1024) (k0_off125 v388 v390 k0_t28) S16x1024.size hinb).WholeWords (EltTy.packing .bf16)) ∧
  (∀ k0_t28 : Fin (k0_t28_loop v390).trips, ∀ (k0_h2 : k0_cond2 i = 1#1), ∀ a, (k0_off126 i v386 v390 k0_t28) a + S1x16x1024.size a ≤ S2x1152x1024.size a) ∧
  (∀ k0_t28 : Fin (k0_t28_loop v390).trips, ∀ (k0_h2 : k0_cond2 i = 1#1), ∀ (hinb : ∀ a, (k0_off126 i v386 v390 k0_t28) a + S1x16x1024.size a ≤ S2x1152x1024.size a), (Rect.unit (s := S2x1152x1024) (k0_off126 i v386 v390 k0_t28) S1x16x1024.size hinb).WholeWords (EltTy.packing .bf16))
theorem k0_t27_ok : ∀ (i : grid0.Coords) (v386 : BitVec 32) (v388 : BitVec 32) (v390 : BitVec 32) (k0_hw14 : k0_chk14 i v386 v388 v390), ∀ (k0_h2 : k0_cond2 i = 1#1), (k0_t27_loop v390).OK := fun i v386 v388 v390 k0_hw14 k0_h2 => k0_hw14.1 k0_h2
theorem k0_mult53_dvd : ∀ (i : grid0.Coords) (v386 : BitVec 32) (v388 : BitVec 32) (v390 : BitVec 32) (k0_hw14 : k0_chk14 i v386 v388 v390) (k0_t27 : Fin (k0_t27_loop v390).trips), ∀ (k0_h2 : k0_cond2 i = 1#1), 16 ∣ (k0_mult53 v388 v390 k0_t27).toNat := fun i v386 v388 v390 k0_hw14 k0_t27 k0_h2 => k0_hw14.2.1 k0_t27 k0_h2
theorem k0_mult54_dvd : ∀ (i : grid0.Coords) (v386 : BitVec 32) (v388 : BitVec 32) (v390 : BitVec 32) (k0_hw14 : k0_chk14 i v386 v388 v390) (k0_t27 : Fin (k0_t27_loop v390).trips), ∀ (k0_h2 : k0_cond2 i = 1#1), 16 ∣ (k0_mult54 v386 v390 k0_t27).toNat := fun i v386 v388 v390 k0_hw14 k0_t27 k0_h2 => k0_hw14.2.2.1 k0_t27 k0_h2
theorem k0_off119_inb : ∀ (i : grid0.Coords) (v386 : BitVec 32) (v388 : BitVec 32) (v390 : BitVec 32) (k0_hw14 : k0_chk14 i v386 v388 v390) (k0_t27 : Fin (k0_t27_loop v390).trips), ∀ (k0_h2 : k0_cond2 i = 1#1), ∀ a, (k0_off119 v386 v390 k0_t27) a + S16x1024.size a ≤ S1152x1024.size a := fun i v386 v388 v390 k0_hw14 k0_t27 k0_h2 => k0_hw14.2.2.2.1 k0_t27 k0_h2
theorem k0_off120_inb : ∀ (i : grid0.Coords) (v386 : BitVec 32) (v388 : BitVec 32) (v390 : BitVec 32) (k0_hw14 : k0_chk14 i v386 v388 v390) (k0_t27 : Fin (k0_t27_loop v390).trips), ∀ (k0_h2 : k0_cond2 i = 1#1), ∀ a, (k0_off120 v388 v390 k0_t27) a + S16x1024.size a ≤ S44032x1024.size a := fun i v386 v388 v390 k0_hw14 k0_t27 k0_h2 => k0_hw14.2.2.2.2.1 k0_t27 k0_h2
theorem k0_off120_wordsbf16 : ∀ (i : grid0.Coords) (v386 : BitVec 32) (v388 : BitVec 32) (v390 : BitVec 32) (k0_hw14 : k0_chk14 i v386 v388 v390) (k0_t27 : Fin (k0_t27_loop v390).trips), ∀ (k0_h2 : k0_cond2 i = 1#1), (Rect.unit (s := S44032x1024) (k0_off120 v388 v390 k0_t27) S16x1024.size (k0_off120_inb i v386 v388 v390 k0_hw14 k0_t27 k0_h2)).WholeWords (EltTy.packing .bf16) := fun i v386 v388 v390 k0_hw14 k0_t27 k0_h2 => k0_hw14.2.2.2.2.2.1 k0_t27 k0_h2 (k0_off120_inb i v386 v388 v390 k0_hw14 k0_t27 k0_h2)
theorem k0_off121_inb : ∀ (i : grid0.Coords) (v386 : BitVec 32) (v388 : BitVec 32) (v390 : BitVec 32) (k0_hw14 : k0_chk14 i v386 v388 v390) (k0_t27 : Fin (k0_t27_loop v390).trips), ∀ (k0_h2 : k0_cond2 i = 1#1), ∀ a, (k0_off121 i v386 v390 k0_t27) a + S1x16x1024.size a ≤ S2x1152x1024.size a := fun i v386 v388 v390 k0_hw14 k0_t27 k0_h2 => k0_hw14.2.2.2.2.2.2.1 k0_t27 k0_h2
theorem k0_off121_wordsbf16 : ∀ (i : grid0.Coords) (v386 : BitVec 32) (v388 : BitVec 32) (v390 : BitVec 32) (k0_hw14 : k0_chk14 i v386 v388 v390) (k0_t27 : Fin (k0_t27_loop v390).trips), ∀ (k0_h2 : k0_cond2 i = 1#1), (Rect.unit (s := S2x1152x1024) (k0_off121 i v386 v390 k0_t27) S1x16x1024.size (k0_off121_inb i v386 v388 v390 k0_hw14 k0_t27 k0_h2)).WholeWords (EltTy.packing .bf16) := fun i v386 v388 v390 k0_hw14 k0_t27 k0_h2 => k0_hw14.2.2.2.2.2.2.2.1 k0_t27 k0_h2 (k0_off121_inb i v386 v388 v390 k0_hw14 k0_t27 k0_h2)
theorem k0_t28_ok : ∀ (i : grid0.Coords) (v386 : BitVec 32) (v388 : BitVec 32) (v390 : BitVec 32) (k0_hw14 : k0_chk14 i v386 v388 v390), ∀ (k0_h2 : k0_cond2 i = 1#1), (k0_t28_loop v390).OK := fun i v386 v388 v390 k0_hw14 k0_h2 => k0_hw14.2.2.2.2.2.2.2.2.1 k0_h2
theorem k0_mult55_dvd : ∀ (i : grid0.Coords) (v386 : BitVec 32) (v388 : BitVec 32) (v390 : BitVec 32) (k0_hw14 : k0_chk14 i v386 v388 v390) (k0_t28 : Fin (k0_t28_loop v390).trips), ∀ (k0_h2 : k0_cond2 i = 1#1), 16 ∣ (k0_mult55 v388 v390 k0_t28).toNat := fun i v386 v388 v390 k0_hw14 k0_t28 k0_h2 => k0_hw14.2.2.2.2.2.2.2.2.2.1 k0_t28 k0_h2
theorem k0_mult56_dvd : ∀ (i : grid0.Coords) (v386 : BitVec 32) (v388 : BitVec 32) (v390 : BitVec 32) (k0_hw14 : k0_chk14 i v386 v388 v390) (k0_t28 : Fin (k0_t28_loop v390).trips), ∀ (k0_h2 : k0_cond2 i = 1#1), 16 ∣ (k0_mult56 v386 v390 k0_t28).toNat := fun i v386 v388 v390 k0_hw14 k0_t28 k0_h2 => k0_hw14.2.2.2.2.2.2.2.2.2.2.1 k0_t28 k0_h2
theorem k0_off124_inb : ∀ (i : grid0.Coords) (v386 : BitVec 32) (v388 : BitVec 32) (v390 : BitVec 32) (k0_hw14 : k0_chk14 i v386 v388 v390) (k0_t28 : Fin (k0_t28_loop v390).trips), ∀ (k0_h2 : k0_cond2 i = 1#1), ∀ a, (k0_off124 v386 v390 k0_t28) a + S16x1024.size a ≤ S1152x1024.size a := fun i v386 v388 v390 k0_hw14 k0_t28 k0_h2 => k0_hw14.2.2.2.2.2.2.2.2.2.2.2.1 k0_t28 k0_h2
theorem k0_off125_inb : ∀ (i : grid0.Coords) (v386 : BitVec 32) (v388 : BitVec 32) (v390 : BitVec 32) (k0_hw14 : k0_chk14 i v386 v388 v390) (k0_t28 : Fin (k0_t28_loop v390).trips), ∀ (k0_h2 : k0_cond2 i = 1#1), ∀ a, (k0_off125 v388 v390 k0_t28) a + S16x1024.size a ≤ S44032x1024.size a := fun i v386 v388 v390 k0_hw14 k0_t28 k0_h2 => k0_hw14.2.2.2.2.2.2.2.2.2.2.2.2.1 k0_t28 k0_h2
theorem k0_off125_wordsbf16 : ∀ (i : grid0.Coords) (v386 : BitVec 32) (v388 : BitVec 32) (v390 : BitVec 32) (k0_hw14 : k0_chk14 i v386 v388 v390) (k0_t28 : Fin (k0_t28_loop v390).trips), ∀ (k0_h2 : k0_cond2 i = 1#1), (Rect.unit (s := S44032x1024) (k0_off125 v388 v390 k0_t28) S16x1024.size (k0_off125_inb i v386 v388 v390 k0_hw14 k0_t28 k0_h2)).WholeWords (EltTy.packing .bf16) := fun i v386 v388 v390 k0_hw14 k0_t28 k0_h2 => k0_hw14.2.2.2.2.2.2.2.2.2.2.2.2.2.1 k0_t28 k0_h2 (k0_off125_inb i v386 v388 v390 k0_hw14 k0_t28 k0_h2)
theorem k0_off126_inb : ∀ (i : grid0.Coords) (v386 : BitVec 32) (v388 : BitVec 32) (v390 : BitVec 32) (k0_hw14 : k0_chk14 i v386 v388 v390) (k0_t28 : Fin (k0_t28_loop v390).trips), ∀ (k0_h2 : k0_cond2 i = 1#1), ∀ a, (k0_off126 i v386 v390 k0_t28) a + S1x16x1024.size a ≤ S2x1152x1024.size a := fun i v386 v388 v390 k0_hw14 k0_t28 k0_h2 => k0_hw14.2.2.2.2.2.2.2.2.2.2.2.2.2.2.1 k0_t28 k0_h2
theorem k0_off126_wordsbf16 : ∀ (i : grid0.Coords) (v386 : BitVec 32) (v388 : BitVec 32) (v390 : BitVec 32) (k0_hw14 : k0_chk14 i v386 v388 v390) (k0_t28 : Fin (k0_t28_loop v390).trips), ∀ (k0_h2 : k0_cond2 i = 1#1), (Rect.unit (s := S2x1152x1024) (k0_off126 i v386 v390 k0_t28) S1x16x1024.size (k0_off126_inb i v386 v388 v390 k0_hw14 k0_t28 k0_h2)).WholeWords (EltTy.packing .bf16) := fun i v386 v388 v390 k0_hw14 k0_t28 k0_h2 => k0_hw14.2.2.2.2.2.2.2.2.2.2.2.2.2.2.2 k0_t28 k0_h2 (k0_off126_inb i v386 v388 v390 k0_hw14 k0_t28 k0_h2)

def k0_off127 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v415 : Index := Scalar.indexCast v233
  let c6 : Index := 6#32
  ![v415.toNat, 6]
def k0_off128 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v417 : Index := Scalar.indexCast v233
  let c22 : Index := 22#32
  ![v417.toNat, 22]
def k0_off129 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v419 : Index := Scalar.indexCast v233
  let c14_166 : Index := 14#32
  ![v419.toNat, 14]
@[reducible] def k0_t29_loop (v420 : BitVec 32) : Scf.Loop 32 :=
  let c0_i32_174 : BitVec 32 := 0#32
  let c0_i32_168 : BitVec 32 := 0#32
  let v422 : BitVec 1 := Scalar.cmpi .sgt v420 c0_i32_168
  let v423 : BitVec 32 := Scalar.extui v422
  let c0_i32_169 : BitVec 32 := 0#32
  let v424 : BitVec 1 := Scalar.cmpi .slt v420 c0_i32_169
  let v425 : BitVec 32 := Scalar.extui v424
  let v426 : BitVec 32 := Scalar.subi v423 v425
  let c16_i32_167 : BitVec 32 := 16#32
  let c0_i32_170 : BitVec 32 := 0#32
  let v427 : BitVec 1 := Scalar.cmpi .sgt c16_i32_167 c0_i32_170
  let v428 : BitVec 32 := Scalar.extui v427
  let c0_i32_171 : BitVec 32 := 0#32
  let v429 : BitVec 1 := Scalar.cmpi .slt c16_i32_167 c0_i32_171
  let v430 : BitVec 32 := Scalar.extui v429
  let v431 : BitVec 32 := Scalar.subi v428 v430
  let v432 : BitVec 1 := Scalar.cmpi .ne v426 v431
  let v433 : BitVec 32 := Scalar.remsi v420 c16_i32_167
  let c0_i32_172 : BitVec 32 := 0#32
  let v434 : BitVec 1 := Scalar.cmpi .ne v433 c0_i32_172
  let v435 : BitVec 1 := Scalar.andi v432 v434
  let v421 : BitVec 32 := Scalar.divsi v420 c16_i32_167
  let c1_i32_173 : BitVec 32 := 1#32
  let v436 : BitVec 32 := Scalar.subi v421 c1_i32_173
  let v437 : BitVec 32 := Scalar.select v435 v436 v421
  let v438 : BitVec 32 := Scalar.subi v437 c0_i32_174
  let c1_i32_176 : BitVec 32 := 1#32
  let v440 : BitVec 32 := Scalar.divsi v438 c1_i32_176
  let v441 : BitVec 32 := Scalar.muli v440 c1_i32_176
  let v442 : BitVec 32 := Scalar.addi c0_i32_174 v441
  let c1_i32_177 : BitVec 32 := 1#32
  ⟨c0_i32_174, v442, c1_i32_177⟩

def k0_mult57 (v418 : BitVec 32) (v420 : BitVec 32) (k0_t29 : Fin (k0_t29_loop v420).trips) : BitVec 32 :=
  let c0_i32_174 : BitVec 32 := 0#32
  let c1_i32_177 : BitVec 32 := 1#32
  let arg9 : BitVec 32 := Scf.iv c0_i32_174 c1_i32_177 k0_t29
  let c16_i32_192 : BitVec 32 := 16#32
  let v475 : BitVec 32 := Scalar.muli arg9 c16_i32_192
  let v476 : BitVec 32 := Scalar.addi v418 v475
  v476
def k0_mult58 (v416 : BitVec 32) (v420 : BitVec 32) (k0_t29 : Fin (k0_t29_loop v420).trips) : BitVec 32 :=
  let c0_i32_174 : BitVec 32 := 0#32
  let c1_i32_177 : BitVec 32 := 1#32
  let arg9 : BitVec 32 := Scf.iv c0_i32_174 c1_i32_177 k0_t29
  let c16_i32_193 : BitVec 32 := 16#32
  let v478 : BitVec 32 := Scalar.muli arg9 c16_i32_193
  let v479 : BitVec 32 := Scalar.addi v416 v478
  v479
def k0_off130 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off131 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off132 (v416 : BitVec 32) (v420 : BitVec 32) (k0_t29 : Fin (k0_t29_loop v420).trips) : Fin 2 → Nat :=
  let c0_i32_174 : BitVec 32 := 0#32
  let c1_i32_177 : BitVec 32 := 1#32
  let arg9 : BitVec 32 := Scf.iv c0_i32_174 c1_i32_177 k0_t29
  let c16_i32_193 : BitVec 32 := 16#32
  let v478 : BitVec 32 := Scalar.muli arg9 c16_i32_193
  let v479 : BitVec 32 := Scalar.addi v416 v478
  let v480 : BitVec 32 := v479
  let c0_i32_196 : BitVec 32 := 0#32
  ![v480.toNat, 0]
def k0_off133 (v418 : BitVec 32) (v420 : BitVec 32) (k0_t29 : Fin (k0_t29_loop v420).trips) : Fin 2 → Nat :=
  let c0_i32_174 : BitVec 32 := 0#32
  let c1_i32_177 : BitVec 32 := 1#32
  let arg9 : BitVec 32 := Scf.iv c0_i32_174 c1_i32_177 k0_t29
  let c16_i32_192 : BitVec 32 := 16#32
  let v475 : BitVec 32 := Scalar.muli arg9 c16_i32_192
  let v476 : BitVec 32 := Scalar.addi v418 v475
  let v477 : BitVec 32 := v476
  let c0_i32_197 : BitVec 32 := 0#32
  ![v477.toNat, 0]
def k0_off134 (i : grid0.Coords) (v416 : BitVec 32) (v420 : BitVec 32) (k0_t29 : Fin (k0_t29_loop v420).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_174 : BitVec 32 := 0#32
  let c1_i32_177 : BitVec 32 := 1#32
  let arg9 : BitVec 32 := Scf.iv c0_i32_174 c1_i32_177 k0_t29
  let c16_i32_193 : BitVec 32 := 16#32
  let v478 : BitVec 32 := Scalar.muli arg9 c16_i32_193
  let v479 : BitVec 32 := Scalar.addi v416 v478
  let v480 : BitVec 32 := v479
  let c0_i32_195 : BitVec 32 := 0#32
  ![v234.toNat, v480.toNat, 0]
@[reducible] def k0_t30_loop (v420 : BitVec 32) : Scf.Loop 32 :=
  let c0_i32_174 : BitVec 32 := 0#32
  let c0_i32_168 : BitVec 32 := 0#32
  let v422 : BitVec 1 := Scalar.cmpi .sgt v420 c0_i32_168
  let v423 : BitVec 32 := Scalar.extui v422
  let c0_i32_169 : BitVec 32 := 0#32
  let v424 : BitVec 1 := Scalar.cmpi .slt v420 c0_i32_169
  let v425 : BitVec 32 := Scalar.extui v424
  let v426 : BitVec 32 := Scalar.subi v423 v425
  let c16_i32_167 : BitVec 32 := 16#32
  let c0_i32_170 : BitVec 32 := 0#32
  let v427 : BitVec 1 := Scalar.cmpi .sgt c16_i32_167 c0_i32_170
  let v428 : BitVec 32 := Scalar.extui v427
  let c0_i32_171 : BitVec 32 := 0#32
  let v429 : BitVec 1 := Scalar.cmpi .slt c16_i32_167 c0_i32_171
  let v430 : BitVec 32 := Scalar.extui v429
  let v431 : BitVec 32 := Scalar.subi v428 v430
  let v432 : BitVec 1 := Scalar.cmpi .ne v426 v431
  let v433 : BitVec 32 := Scalar.remsi v420 c16_i32_167
  let c0_i32_172 : BitVec 32 := 0#32
  let v434 : BitVec 1 := Scalar.cmpi .ne v433 c0_i32_172
  let v435 : BitVec 1 := Scalar.andi v432 v434
  let v421 : BitVec 32 := Scalar.divsi v420 c16_i32_167
  let c1_i32_173 : BitVec 32 := 1#32
  let v436 : BitVec 32 := Scalar.subi v421 c1_i32_173
  let v437 : BitVec 32 := Scalar.select v435 v436 v421
  let v438 : BitVec 32 := Scalar.subi v437 c0_i32_174
  let c1_i32_176 : BitVec 32 := 1#32
  let v440 : BitVec 32 := Scalar.divsi v438 c1_i32_176
  let v441 : BitVec 32 := Scalar.muli v440 c1_i32_176
  let v442 : BitVec 32 := Scalar.addi c0_i32_174 v441
  let v439 : BitVec 32 := Scalar.addi c0_i32_174 v438
  let c1_i32_178 : BitVec 32 := 1#32
  ⟨v442, v439, c1_i32_178⟩
def k0_mult59 (v418 : BitVec 32) (v420 : BitVec 32) (k0_t30 : Fin (k0_t30_loop v420).trips) : BitVec 32 :=
  let c0_i32_174 : BitVec 32 := 0#32
  let c0_i32_168 : BitVec 32 := 0#32
  let v422 : BitVec 1 := Scalar.cmpi .sgt v420 c0_i32_168
  let v423 : BitVec 32 := Scalar.extui v422
  let c0_i32_169 : BitVec 32 := 0#32
  let v424 : BitVec 1 := Scalar.cmpi .slt v420 c0_i32_169
  let v425 : BitVec 32 := Scalar.extui v424
  let v426 : BitVec 32 := Scalar.subi v423 v425
  let c16_i32_167 : BitVec 32 := 16#32
  let c0_i32_170 : BitVec 32 := 0#32
  let v427 : BitVec 1 := Scalar.cmpi .sgt c16_i32_167 c0_i32_170
  let v428 : BitVec 32 := Scalar.extui v427
  let c0_i32_171 : BitVec 32 := 0#32
  let v429 : BitVec 1 := Scalar.cmpi .slt c16_i32_167 c0_i32_171
  let v430 : BitVec 32 := Scalar.extui v429
  let v431 : BitVec 32 := Scalar.subi v428 v430
  let v432 : BitVec 1 := Scalar.cmpi .ne v426 v431
  let v433 : BitVec 32 := Scalar.remsi v420 c16_i32_167
  let c0_i32_172 : BitVec 32 := 0#32
  let v434 : BitVec 1 := Scalar.cmpi .ne v433 c0_i32_172
  let v435 : BitVec 1 := Scalar.andi v432 v434
  let v421 : BitVec 32 := Scalar.divsi v420 c16_i32_167
  let c1_i32_173 : BitVec 32 := 1#32
  let v436 : BitVec 32 := Scalar.subi v421 c1_i32_173
  let v437 : BitVec 32 := Scalar.select v435 v436 v421
  let v438 : BitVec 32 := Scalar.subi v437 c0_i32_174
  let c1_i32_176 : BitVec 32 := 1#32
  let v440 : BitVec 32 := Scalar.divsi v438 c1_i32_176
  let v441 : BitVec 32 := Scalar.muli v440 c1_i32_176
  let v442 : BitVec 32 := Scalar.addi c0_i32_174 v441
  let c1_i32_178 : BitVec 32 := 1#32
  let arg9 : BitVec 32 := Scf.iv v442 c1_i32_178 k0_t30
  let c16_i32_192 : BitVec 32 := 16#32
  let v475 : BitVec 32 := Scalar.muli arg9 c16_i32_192
  let v476 : BitVec 32 := Scalar.addi v418 v475
  v476
def k0_mult60 (v416 : BitVec 32) (v420 : BitVec 32) (k0_t30 : Fin (k0_t30_loop v420).trips) : BitVec 32 :=
  let c0_i32_174 : BitVec 32 := 0#32
  let c0_i32_168 : BitVec 32 := 0#32
  let v422 : BitVec 1 := Scalar.cmpi .sgt v420 c0_i32_168
  let v423 : BitVec 32 := Scalar.extui v422
  let c0_i32_169 : BitVec 32 := 0#32
  let v424 : BitVec 1 := Scalar.cmpi .slt v420 c0_i32_169
  let v425 : BitVec 32 := Scalar.extui v424
  let v426 : BitVec 32 := Scalar.subi v423 v425
  let c16_i32_167 : BitVec 32 := 16#32
  let c0_i32_170 : BitVec 32 := 0#32
  let v427 : BitVec 1 := Scalar.cmpi .sgt c16_i32_167 c0_i32_170
  let v428 : BitVec 32 := Scalar.extui v427
  let c0_i32_171 : BitVec 32 := 0#32
  let v429 : BitVec 1 := Scalar.cmpi .slt c16_i32_167 c0_i32_171
  let v430 : BitVec 32 := Scalar.extui v429
  let v431 : BitVec 32 := Scalar.subi v428 v430
  let v432 : BitVec 1 := Scalar.cmpi .ne v426 v431
  let v433 : BitVec 32 := Scalar.remsi v420 c16_i32_167
  let c0_i32_172 : BitVec 32 := 0#32
  let v434 : BitVec 1 := Scalar.cmpi .ne v433 c0_i32_172
  let v435 : BitVec 1 := Scalar.andi v432 v434
  let v421 : BitVec 32 := Scalar.divsi v420 c16_i32_167
  let c1_i32_173 : BitVec 32 := 1#32
  let v436 : BitVec 32 := Scalar.subi v421 c1_i32_173
  let v437 : BitVec 32 := Scalar.select v435 v436 v421
  let v438 : BitVec 32 := Scalar.subi v437 c0_i32_174
  let c1_i32_176 : BitVec 32 := 1#32
  let v440 : BitVec 32 := Scalar.divsi v438 c1_i32_176
  let v441 : BitVec 32 := Scalar.muli v440 c1_i32_176
  let v442 : BitVec 32 := Scalar.addi c0_i32_174 v441
  let c1_i32_178 : BitVec 32 := 1#32
  let arg9 : BitVec 32 := Scf.iv v442 c1_i32_178 k0_t30
  let c16_i32_193 : BitVec 32 := 16#32
  let v478 : BitVec 32 := Scalar.muli arg9 c16_i32_193
  let v479 : BitVec 32 := Scalar.addi v416 v478
  v479
def k0_off135 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off136 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off137 (v416 : BitVec 32) (v420 : BitVec 32) (k0_t30 : Fin (k0_t30_loop v420).trips) : Fin 2 → Nat :=
  let c0_i32_174 : BitVec 32 := 0#32
  let c0_i32_168 : BitVec 32 := 0#32
  let v422 : BitVec 1 := Scalar.cmpi .sgt v420 c0_i32_168
  let v423 : BitVec 32 := Scalar.extui v422
  let c0_i32_169 : BitVec 32 := 0#32
  let v424 : BitVec 1 := Scalar.cmpi .slt v420 c0_i32_169
  let v425 : BitVec 32 := Scalar.extui v424
  let v426 : BitVec 32 := Scalar.subi v423 v425
  let c16_i32_167 : BitVec 32 := 16#32
  let c0_i32_170 : BitVec 32 := 0#32
  let v427 : BitVec 1 := Scalar.cmpi .sgt c16_i32_167 c0_i32_170
  let v428 : BitVec 32 := Scalar.extui v427
  let c0_i32_171 : BitVec 32 := 0#32
  let v429 : BitVec 1 := Scalar.cmpi .slt c16_i32_167 c0_i32_171
  let v430 : BitVec 32 := Scalar.extui v429
  let v431 : BitVec 32 := Scalar.subi v428 v430
  let v432 : BitVec 1 := Scalar.cmpi .ne v426 v431
  let v433 : BitVec 32 := Scalar.remsi v420 c16_i32_167
  let c0_i32_172 : BitVec 32 := 0#32
  let v434 : BitVec 1 := Scalar.cmpi .ne v433 c0_i32_172
  let v435 : BitVec 1 := Scalar.andi v432 v434
  let v421 : BitVec 32 := Scalar.divsi v420 c16_i32_167
  let c1_i32_173 : BitVec 32 := 1#32
  let v436 : BitVec 32 := Scalar.subi v421 c1_i32_173
  let v437 : BitVec 32 := Scalar.select v435 v436 v421
  let v438 : BitVec 32 := Scalar.subi v437 c0_i32_174
  let c1_i32_176 : BitVec 32 := 1#32
  let v440 : BitVec 32 := Scalar.divsi v438 c1_i32_176
  let v441 : BitVec 32 := Scalar.muli v440 c1_i32_176
  let v442 : BitVec 32 := Scalar.addi c0_i32_174 v441
  let c1_i32_178 : BitVec 32 := 1#32
  let arg9 : BitVec 32 := Scf.iv v442 c1_i32_178 k0_t30
  let c16_i32_193 : BitVec 32 := 16#32
  let v478 : BitVec 32 := Scalar.muli arg9 c16_i32_193
  let v479 : BitVec 32 := Scalar.addi v416 v478
  let v480 : BitVec 32 := v479
  let c0_i32_196 : BitVec 32 := 0#32
  ![v480.toNat, 0]
def k0_off138 (v418 : BitVec 32) (v420 : BitVec 32) (k0_t30 : Fin (k0_t30_loop v420).trips) : Fin 2 → Nat :=
  let c0_i32_174 : BitVec 32 := 0#32
  let c0_i32_168 : BitVec 32 := 0#32
  let v422 : BitVec 1 := Scalar.cmpi .sgt v420 c0_i32_168
  let v423 : BitVec 32 := Scalar.extui v422
  let c0_i32_169 : BitVec 32 := 0#32
  let v424 : BitVec 1 := Scalar.cmpi .slt v420 c0_i32_169
  let v425 : BitVec 32 := Scalar.extui v424
  let v426 : BitVec 32 := Scalar.subi v423 v425
  let c16_i32_167 : BitVec 32 := 16#32
  let c0_i32_170 : BitVec 32 := 0#32
  let v427 : BitVec 1 := Scalar.cmpi .sgt c16_i32_167 c0_i32_170
  let v428 : BitVec 32 := Scalar.extui v427
  let c0_i32_171 : BitVec 32 := 0#32
  let v429 : BitVec 1 := Scalar.cmpi .slt c16_i32_167 c0_i32_171
  let v430 : BitVec 32 := Scalar.extui v429
  let v431 : BitVec 32 := Scalar.subi v428 v430
  let v432 : BitVec 1 := Scalar.cmpi .ne v426 v431
  let v433 : BitVec 32 := Scalar.remsi v420 c16_i32_167
  let c0_i32_172 : BitVec 32 := 0#32
  let v434 : BitVec 1 := Scalar.cmpi .ne v433 c0_i32_172
  let v435 : BitVec 1 := Scalar.andi v432 v434
  let v421 : BitVec 32 := Scalar.divsi v420 c16_i32_167
  let c1_i32_173 : BitVec 32 := 1#32
  let v436 : BitVec 32 := Scalar.subi v421 c1_i32_173
  let v437 : BitVec 32 := Scalar.select v435 v436 v421
  let v438 : BitVec 32 := Scalar.subi v437 c0_i32_174
  let c1_i32_176 : BitVec 32 := 1#32
  let v440 : BitVec 32 := Scalar.divsi v438 c1_i32_176
  let v441 : BitVec 32 := Scalar.muli v440 c1_i32_176
  let v442 : BitVec 32 := Scalar.addi c0_i32_174 v441
  let c1_i32_178 : BitVec 32 := 1#32
  let arg9 : BitVec 32 := Scf.iv v442 c1_i32_178 k0_t30
  let c16_i32_192 : BitVec 32 := 16#32
  let v475 : BitVec 32 := Scalar.muli arg9 c16_i32_192
  let v476 : BitVec 32 := Scalar.addi v418 v475
  let v477 : BitVec 32 := v476
  let c0_i32_197 : BitVec 32 := 0#32
  ![v477.toNat, 0]
def k0_off139 (i : grid0.Coords) (v416 : BitVec 32) (v420 : BitVec 32) (k0_t30 : Fin (k0_t30_loop v420).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_174 : BitVec 32 := 0#32
  let c0_i32_168 : BitVec 32 := 0#32
  let v422 : BitVec 1 := Scalar.cmpi .sgt v420 c0_i32_168
  let v423 : BitVec 32 := Scalar.extui v422
  let c0_i32_169 : BitVec 32 := 0#32
  let v424 : BitVec 1 := Scalar.cmpi .slt v420 c0_i32_169
  let v425 : BitVec 32 := Scalar.extui v424
  let v426 : BitVec 32 := Scalar.subi v423 v425
  let c16_i32_167 : BitVec 32 := 16#32
  let c0_i32_170 : BitVec 32 := 0#32
  let v427 : BitVec 1 := Scalar.cmpi .sgt c16_i32_167 c0_i32_170
  let v428 : BitVec 32 := Scalar.extui v427
  let c0_i32_171 : BitVec 32 := 0#32
  let v429 : BitVec 1 := Scalar.cmpi .slt c16_i32_167 c0_i32_171
  let v430 : BitVec 32 := Scalar.extui v429
  let v431 : BitVec 32 := Scalar.subi v428 v430
  let v432 : BitVec 1 := Scalar.cmpi .ne v426 v431
  let v433 : BitVec 32 := Scalar.remsi v420 c16_i32_167
  let c0_i32_172 : BitVec 32 := 0#32
  let v434 : BitVec 1 := Scalar.cmpi .ne v433 c0_i32_172
  let v435 : BitVec 1 := Scalar.andi v432 v434
  let v421 : BitVec 32 := Scalar.divsi v420 c16_i32_167
  let c1_i32_173 : BitVec 32 := 1#32
  let v436 : BitVec 32 := Scalar.subi v421 c1_i32_173
  let v437 : BitVec 32 := Scalar.select v435 v436 v421
  let v438 : BitVec 32 := Scalar.subi v437 c0_i32_174
  let c1_i32_176 : BitVec 32 := 1#32
  let v440 : BitVec 32 := Scalar.divsi v438 c1_i32_176
  let v441 : BitVec 32 := Scalar.muli v440 c1_i32_176
  let v442 : BitVec 32 := Scalar.addi c0_i32_174 v441
  let c1_i32_178 : BitVec 32 := 1#32
  let arg9 : BitVec 32 := Scf.iv v442 c1_i32_178 k0_t30
  let c16_i32_193 : BitVec 32 := 16#32
  let v478 : BitVec 32 := Scalar.muli arg9 c16_i32_193
  let v479 : BitVec 32 := Scalar.addi v416 v478
  let v480 : BitVec 32 := v479
  let c0_i32_195 : BitVec 32 := 0#32
  ![v234.toNat, v480.toNat, 0]

def k0_chk15 (i : grid0.Coords) (v416 : BitVec 32) (v418 : BitVec 32) (v420 : BitVec 32) : Prop :=
  (∀ (k0_h2 : k0_cond2 i = 1#1), (k0_t29_loop v420).OK) ∧
  (∀ k0_t29 : Fin (k0_t29_loop v420).trips, ∀ (k0_h2 : k0_cond2 i = 1#1), 16 ∣ (k0_mult57 v418 v420 k0_t29).toNat) ∧
  (∀ k0_t29 : Fin (k0_t29_loop v420).trips, ∀ (k0_h2 : k0_cond2 i = 1#1), 16 ∣ (k0_mult58 v416 v420 k0_t29).toNat) ∧
  (∀ k0_t29 : Fin (k0_t29_loop v420).trips, ∀ (k0_h2 : k0_cond2 i = 1#1), ∀ a, (k0_off132 v416 v420 k0_t29) a + S16x1024.size a ≤ S1152x1024.size a) ∧
  (∀ k0_t29 : Fin (k0_t29_loop v420).trips, ∀ (k0_h2 : k0_cond2 i = 1#1), ∀ a, (k0_off133 v418 v420 k0_t29) a + S16x1024.size a ≤ S44032x1024.size a) ∧
  (∀ k0_t29 : Fin (k0_t29_loop v420).trips, ∀ (k0_h2 : k0_cond2 i = 1#1), ∀ (hinb : ∀ a, (k0_off133 v418 v420 k0_t29) a + S16x1024.size a ≤ S44032x1024.size a), (Rect.unit (s := S44032x1024) (k0_off133 v418 v420 k0_t29) S16x1024.size hinb).WholeWords (EltTy.packing .bf16)) ∧
  (∀ k0_t29 : Fin (k0_t29_loop v420).trips, ∀ (k0_h2 : k0_cond2 i = 1#1), ∀ a, (k0_off134 i v416 v420 k0_t29) a + S1x16x1024.size a ≤ S2x1152x1024.size a) ∧
  (∀ k0_t29 : Fin (k0_t29_loop v420).trips, ∀ (k0_h2 : k0_cond2 i = 1#1), ∀ (hinb : ∀ a, (k0_off134 i v416 v420 k0_t29) a + S1x16x1024.size a ≤ S2x1152x1024.size a), (Rect.unit (s := S2x1152x1024) (k0_off134 i v416 v420 k0_t29) S1x16x1024.size hinb).WholeWords (EltTy.packing .bf16)) ∧
  (∀ (k0_h2 : k0_cond2 i = 1#1), (k0_t30_loop v420).OK) ∧
  (∀ k0_t30 : Fin (k0_t30_loop v420).trips, ∀ (k0_h2 : k0_cond2 i = 1#1), 16 ∣ (k0_mult59 v418 v420 k0_t30).toNat) ∧
  (∀ k0_t30 : Fin (k0_t30_loop v420).trips, ∀ (k0_h2 : k0_cond2 i = 1#1), 16 ∣ (k0_mult60 v416 v420 k0_t30).toNat) ∧
  (∀ k0_t30 : Fin (k0_t30_loop v420).trips, ∀ (k0_h2 : k0_cond2 i = 1#1), ∀ a, (k0_off137 v416 v420 k0_t30) a + S16x1024.size a ≤ S1152x1024.size a) ∧
  (∀ k0_t30 : Fin (k0_t30_loop v420).trips, ∀ (k0_h2 : k0_cond2 i = 1#1), ∀ a, (k0_off138 v418 v420 k0_t30) a + S16x1024.size a ≤ S44032x1024.size a) ∧
  (∀ k0_t30 : Fin (k0_t30_loop v420).trips, ∀ (k0_h2 : k0_cond2 i = 1#1), ∀ (hinb : ∀ a, (k0_off138 v418 v420 k0_t30) a + S16x1024.size a ≤ S44032x1024.size a), (Rect.unit (s := S44032x1024) (k0_off138 v418 v420 k0_t30) S16x1024.size hinb).WholeWords (EltTy.packing .bf16)) ∧
  (∀ k0_t30 : Fin (k0_t30_loop v420).trips, ∀ (k0_h2 : k0_cond2 i = 1#1), ∀ a, (k0_off139 i v416 v420 k0_t30) a + S1x16x1024.size a ≤ S2x1152x1024.size a) ∧
  (∀ k0_t30 : Fin (k0_t30_loop v420).trips, ∀ (k0_h2 : k0_cond2 i = 1#1), ∀ (hinb : ∀ a, (k0_off139 i v416 v420 k0_t30) a + S1x16x1024.size a ≤ S2x1152x1024.size a), (Rect.unit (s := S2x1152x1024) (k0_off139 i v416 v420 k0_t30) S1x16x1024.size hinb).WholeWords (EltTy.packing .bf16))
theorem k0_t29_ok : ∀ (i : grid0.Coords) (v416 : BitVec 32) (v418 : BitVec 32) (v420 : BitVec 32) (k0_hw15 : k0_chk15 i v416 v418 v420), ∀ (k0_h2 : k0_cond2 i = 1#1), (k0_t29_loop v420).OK := fun i v416 v418 v420 k0_hw15 k0_h2 => k0_hw15.1 k0_h2
theorem k0_mult57_dvd : ∀ (i : grid0.Coords) (v416 : BitVec 32) (v418 : BitVec 32) (v420 : BitVec 32) (k0_hw15 : k0_chk15 i v416 v418 v420) (k0_t29 : Fin (k0_t29_loop v420).trips), ∀ (k0_h2 : k0_cond2 i = 1#1), 16 ∣ (k0_mult57 v418 v420 k0_t29).toNat := fun i v416 v418 v420 k0_hw15 k0_t29 k0_h2 => k0_hw15.2.1 k0_t29 k0_h2
theorem k0_mult58_dvd : ∀ (i : grid0.Coords) (v416 : BitVec 32) (v418 : BitVec 32) (v420 : BitVec 32) (k0_hw15 : k0_chk15 i v416 v418 v420) (k0_t29 : Fin (k0_t29_loop v420).trips), ∀ (k0_h2 : k0_cond2 i = 1#1), 16 ∣ (k0_mult58 v416 v420 k0_t29).toNat := fun i v416 v418 v420 k0_hw15 k0_t29 k0_h2 => k0_hw15.2.2.1 k0_t29 k0_h2
theorem k0_off132_inb : ∀ (i : grid0.Coords) (v416 : BitVec 32) (v418 : BitVec 32) (v420 : BitVec 32) (k0_hw15 : k0_chk15 i v416 v418 v420) (k0_t29 : Fin (k0_t29_loop v420).trips), ∀ (k0_h2 : k0_cond2 i = 1#1), ∀ a, (k0_off132 v416 v420 k0_t29) a + S16x1024.size a ≤ S1152x1024.size a := fun i v416 v418 v420 k0_hw15 k0_t29 k0_h2 => k0_hw15.2.2.2.1 k0_t29 k0_h2
theorem k0_off133_inb : ∀ (i : grid0.Coords) (v416 : BitVec 32) (v418 : BitVec 32) (v420 : BitVec 32) (k0_hw15 : k0_chk15 i v416 v418 v420) (k0_t29 : Fin (k0_t29_loop v420).trips), ∀ (k0_h2 : k0_cond2 i = 1#1), ∀ a, (k0_off133 v418 v420 k0_t29) a + S16x1024.size a ≤ S44032x1024.size a := fun i v416 v418 v420 k0_hw15 k0_t29 k0_h2 => k0_hw15.2.2.2.2.1 k0_t29 k0_h2
theorem k0_off133_wordsbf16 : ∀ (i : grid0.Coords) (v416 : BitVec 32) (v418 : BitVec 32) (v420 : BitVec 32) (k0_hw15 : k0_chk15 i v416 v418 v420) (k0_t29 : Fin (k0_t29_loop v420).trips), ∀ (k0_h2 : k0_cond2 i = 1#1), (Rect.unit (s := S44032x1024) (k0_off133 v418 v420 k0_t29) S16x1024.size (k0_off133_inb i v416 v418 v420 k0_hw15 k0_t29 k0_h2)).WholeWords (EltTy.packing .bf16) := fun i v416 v418 v420 k0_hw15 k0_t29 k0_h2 => k0_hw15.2.2.2.2.2.1 k0_t29 k0_h2 (k0_off133_inb i v416 v418 v420 k0_hw15 k0_t29 k0_h2)
theorem k0_off134_inb : ∀ (i : grid0.Coords) (v416 : BitVec 32) (v418 : BitVec 32) (v420 : BitVec 32) (k0_hw15 : k0_chk15 i v416 v418 v420) (k0_t29 : Fin (k0_t29_loop v420).trips), ∀ (k0_h2 : k0_cond2 i = 1#1), ∀ a, (k0_off134 i v416 v420 k0_t29) a + S1x16x1024.size a ≤ S2x1152x1024.size a := fun i v416 v418 v420 k0_hw15 k0_t29 k0_h2 => k0_hw15.2.2.2.2.2.2.1 k0_t29 k0_h2
theorem k0_off134_wordsbf16 : ∀ (i : grid0.Coords) (v416 : BitVec 32) (v418 : BitVec 32) (v420 : BitVec 32) (k0_hw15 : k0_chk15 i v416 v418 v420) (k0_t29 : Fin (k0_t29_loop v420).trips), ∀ (k0_h2 : k0_cond2 i = 1#1), (Rect.unit (s := S2x1152x1024) (k0_off134 i v416 v420 k0_t29) S1x16x1024.size (k0_off134_inb i v416 v418 v420 k0_hw15 k0_t29 k0_h2)).WholeWords (EltTy.packing .bf16) := fun i v416 v418 v420 k0_hw15 k0_t29 k0_h2 => k0_hw15.2.2.2.2.2.2.2.1 k0_t29 k0_h2 (k0_off134_inb i v416 v418 v420 k0_hw15 k0_t29 k0_h2)
theorem k0_t30_ok : ∀ (i : grid0.Coords) (v416 : BitVec 32) (v418 : BitVec 32) (v420 : BitVec 32) (k0_hw15 : k0_chk15 i v416 v418 v420), ∀ (k0_h2 : k0_cond2 i = 1#1), (k0_t30_loop v420).OK := fun i v416 v418 v420 k0_hw15 k0_h2 => k0_hw15.2.2.2.2.2.2.2.2.1 k0_h2
theorem k0_mult59_dvd : ∀ (i : grid0.Coords) (v416 : BitVec 32) (v418 : BitVec 32) (v420 : BitVec 32) (k0_hw15 : k0_chk15 i v416 v418 v420) (k0_t30 : Fin (k0_t30_loop v420).trips), ∀ (k0_h2 : k0_cond2 i = 1#1), 16 ∣ (k0_mult59 v418 v420 k0_t30).toNat := fun i v416 v418 v420 k0_hw15 k0_t30 k0_h2 => k0_hw15.2.2.2.2.2.2.2.2.2.1 k0_t30 k0_h2
theorem k0_mult60_dvd : ∀ (i : grid0.Coords) (v416 : BitVec 32) (v418 : BitVec 32) (v420 : BitVec 32) (k0_hw15 : k0_chk15 i v416 v418 v420) (k0_t30 : Fin (k0_t30_loop v420).trips), ∀ (k0_h2 : k0_cond2 i = 1#1), 16 ∣ (k0_mult60 v416 v420 k0_t30).toNat := fun i v416 v418 v420 k0_hw15 k0_t30 k0_h2 => k0_hw15.2.2.2.2.2.2.2.2.2.2.1 k0_t30 k0_h2
theorem k0_off137_inb : ∀ (i : grid0.Coords) (v416 : BitVec 32) (v418 : BitVec 32) (v420 : BitVec 32) (k0_hw15 : k0_chk15 i v416 v418 v420) (k0_t30 : Fin (k0_t30_loop v420).trips), ∀ (k0_h2 : k0_cond2 i = 1#1), ∀ a, (k0_off137 v416 v420 k0_t30) a + S16x1024.size a ≤ S1152x1024.size a := fun i v416 v418 v420 k0_hw15 k0_t30 k0_h2 => k0_hw15.2.2.2.2.2.2.2.2.2.2.2.1 k0_t30 k0_h2
theorem k0_off138_inb : ∀ (i : grid0.Coords) (v416 : BitVec 32) (v418 : BitVec 32) (v420 : BitVec 32) (k0_hw15 : k0_chk15 i v416 v418 v420) (k0_t30 : Fin (k0_t30_loop v420).trips), ∀ (k0_h2 : k0_cond2 i = 1#1), ∀ a, (k0_off138 v418 v420 k0_t30) a + S16x1024.size a ≤ S44032x1024.size a := fun i v416 v418 v420 k0_hw15 k0_t30 k0_h2 => k0_hw15.2.2.2.2.2.2.2.2.2.2.2.2.1 k0_t30 k0_h2
theorem k0_off138_wordsbf16 : ∀ (i : grid0.Coords) (v416 : BitVec 32) (v418 : BitVec 32) (v420 : BitVec 32) (k0_hw15 : k0_chk15 i v416 v418 v420) (k0_t30 : Fin (k0_t30_loop v420).trips), ∀ (k0_h2 : k0_cond2 i = 1#1), (Rect.unit (s := S44032x1024) (k0_off138 v418 v420 k0_t30) S16x1024.size (k0_off138_inb i v416 v418 v420 k0_hw15 k0_t30 k0_h2)).WholeWords (EltTy.packing .bf16) := fun i v416 v418 v420 k0_hw15 k0_t30 k0_h2 => k0_hw15.2.2.2.2.2.2.2.2.2.2.2.2.2.1 k0_t30 k0_h2 (k0_off138_inb i v416 v418 v420 k0_hw15 k0_t30 k0_h2)
theorem k0_off139_inb : ∀ (i : grid0.Coords) (v416 : BitVec 32) (v418 : BitVec 32) (v420 : BitVec 32) (k0_hw15 : k0_chk15 i v416 v418 v420) (k0_t30 : Fin (k0_t30_loop v420).trips), ∀ (k0_h2 : k0_cond2 i = 1#1), ∀ a, (k0_off139 i v416 v420 k0_t30) a + S1x16x1024.size a ≤ S2x1152x1024.size a := fun i v416 v418 v420 k0_hw15 k0_t30 k0_h2 => k0_hw15.2.2.2.2.2.2.2.2.2.2.2.2.2.2.1 k0_t30 k0_h2
theorem k0_off139_wordsbf16 : ∀ (i : grid0.Coords) (v416 : BitVec 32) (v418 : BitVec 32) (v420 : BitVec 32) (k0_hw15 : k0_chk15 i v416 v418 v420) (k0_t30 : Fin (k0_t30_loop v420).trips), ∀ (k0_h2 : k0_cond2 i = 1#1), (Rect.unit (s := S2x1152x1024) (k0_off139 i v416 v420 k0_t30) S1x16x1024.size (k0_off139_inb i v416 v418 v420 k0_hw15 k0_t30 k0_h2)).WholeWords (EltTy.packing .bf16) := fun i v416 v418 v420 k0_hw15 k0_t30 k0_h2 => k0_hw15.2.2.2.2.2.2.2.2.2.2.2.2.2.2.2 k0_t30 k0_h2 (k0_off139_inb i v416 v418 v420 k0_hw15 k0_t30 k0_h2)

def k0_off140 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v445 : Index := Scalar.indexCast v233
  let c7 : Index := 7#32
  ![v445.toNat, 7]
def k0_off141 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v447 : Index := Scalar.indexCast v233
  let c23 : Index := 23#32
  ![v447.toNat, 23]
def k0_off142 (i : grid0.Coords) : Fin 2 → Nat :=
  let arg0 : BitVec 32 := BitVec.ofNat 32 (i 0).val
  let c1_i32_85 : BitVec 32 := 1#32
  let v232 : BitVec 32 := Scalar.addi arg0 c1_i32_85
  let c31_i32 : BitVec 32 := 31#32
  let v233 : BitVec 32 := Scalar.minsi v232 c31_i32
  let v449 : Index := Scalar.indexCast v233
  let c15_179 : Index := 15#32
  ![v449.toNat, 15]
@[reducible] def k0_t31_loop (v450 : BitVec 32) : Scf.Loop 32 :=
  let c0_i32_187 : BitVec 32 := 0#32
  let c0_i32_181 : BitVec 32 := 0#32
  let v452 : BitVec 1 := Scalar.cmpi .sgt v450 c0_i32_181
  let v453 : BitVec 32 := Scalar.extui v452
  let c0_i32_182 : BitVec 32 := 0#32
  let v454 : BitVec 1 := Scalar.cmpi .slt v450 c0_i32_182
  let v455 : BitVec 32 := Scalar.extui v454
  let v456 : BitVec 32 := Scalar.subi v453 v455
  let c16_i32_180 : BitVec 32 := 16#32
  let c0_i32_183 : BitVec 32 := 0#32
  let v457 : BitVec 1 := Scalar.cmpi .sgt c16_i32_180 c0_i32_183
  let v458 : BitVec 32 := Scalar.extui v457
  let c0_i32_184 : BitVec 32 := 0#32
  let v459 : BitVec 1 := Scalar.cmpi .slt c16_i32_180 c0_i32_184
  let v460 : BitVec 32 := Scalar.extui v459
  let v461 : BitVec 32 := Scalar.subi v458 v460
  let v462 : BitVec 1 := Scalar.cmpi .ne v456 v461
  let v463 : BitVec 32 := Scalar.remsi v450 c16_i32_180
  let c0_i32_185 : BitVec 32 := 0#32
  let v464 : BitVec 1 := Scalar.cmpi .ne v463 c0_i32_185
  let v465 : BitVec 1 := Scalar.andi v462 v464
  let v451 : BitVec 32 := Scalar.divsi v450 c16_i32_180
  let c1_i32_186 : BitVec 32 := 1#32
  let v466 : BitVec 32 := Scalar.subi v451 c1_i32_186
  let v467 : BitVec 32 := Scalar.select v465 v466 v451
  let v468 : BitVec 32 := Scalar.subi v467 c0_i32_187
  let c1_i32_189 : BitVec 32 := 1#32
  let v470 : BitVec 32 := Scalar.divsi v468 c1_i32_189
  let v471 : BitVec 32 := Scalar.muli v470 c1_i32_189
  let v472 : BitVec 32 := Scalar.addi c0_i32_187 v471
  let c1_i32_190 : BitVec 32 := 1#32
  ⟨c0_i32_187, v472, c1_i32_190⟩

def k0_mult61 (v448 : BitVec 32) (v450 : BitVec 32) (k0_t31 : Fin (k0_t31_loop v450).trips) : BitVec 32 :=
  let c0_i32_187 : BitVec 32 := 0#32
  let c1_i32_190 : BitVec 32 := 1#32
  let arg9 : BitVec 32 := Scf.iv c0_i32_187 c1_i32_190 k0_t31
  let c16_i32_192 : BitVec 32 := 16#32
  let v475 : BitVec 32 := Scalar.muli arg9 c16_i32_192
  let v476 : BitVec 32 := Scalar.addi v448 v475
  v476
def k0_mult62 (v446 : BitVec 32) (v450 : BitVec 32) (k0_t31 : Fin (k0_t31_loop v450).trips) : BitVec 32 :=
  let c0_i32_187 : BitVec 32 := 0#32
  let c1_i32_190 : BitVec 32 := 1#32
  let arg9 : BitVec 32 := Scf.iv c0_i32_187 c1_i32_190 k0_t31
  let c16_i32_193 : BitVec 32 := 16#32
  let v478 : BitVec 32 := Scalar.muli arg9 c16_i32_193
  let v479 : BitVec 32 := Scalar.addi v446 v478
  v479
def k0_off143 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off144 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off145 (v446 : BitVec 32) (v450 : BitVec 32) (k0_t31 : Fin (k0_t31_loop v450).trips) : Fin 2 → Nat :=
  let c0_i32_187 : BitVec 32 := 0#32
  let c1_i32_190 : BitVec 32 := 1#32
  let arg9 : BitVec 32 := Scf.iv c0_i32_187 c1_i32_190 k0_t31
  let c16_i32_193 : BitVec 32 := 16#32
  let v478 : BitVec 32 := Scalar.muli arg9 c16_i32_193
  let v479 : BitVec 32 := Scalar.addi v446 v478
  let v480 : BitVec 32 := v479
  let c0_i32_196 : BitVec 32 := 0#32
  ![v480.toNat, 0]
def k0_off146 (v448 : BitVec 32) (v450 : BitVec 32) (k0_t31 : Fin (k0_t31_loop v450).trips) : Fin 2 → Nat :=
  let c0_i32_187 : BitVec 32 := 0#32
  let c1_i32_190 : BitVec 32 := 1#32
  let arg9 : BitVec 32 := Scf.iv c0_i32_187 c1_i32_190 k0_t31
  let c16_i32_192 : BitVec 32 := 16#32
  let v475 : BitVec 32 := Scalar.muli arg9 c16_i32_192
  let v476 : BitVec 32 := Scalar.addi v448 v475
  let v477 : BitVec 32 := v476
  let c0_i32_197 : BitVec 32 := 0#32
  ![v477.toNat, 0]
def k0_off147 (i : grid0.Coords) (v446 : BitVec 32) (v450 : BitVec 32) (k0_t31 : Fin (k0_t31_loop v450).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_187 : BitVec 32 := 0#32
  let c1_i32_190 : BitVec 32 := 1#32
  let arg9 : BitVec 32 := Scf.iv c0_i32_187 c1_i32_190 k0_t31
  let c16_i32_193 : BitVec 32 := 16#32
  let v478 : BitVec 32 := Scalar.muli arg9 c16_i32_193
  let v479 : BitVec 32 := Scalar.addi v446 v478
  let v480 : BitVec 32 := v479
  let c0_i32_195 : BitVec 32 := 0#32
  ![v234.toNat, v480.toNat, 0]
@[reducible] def k0_t32_loop (v450 : BitVec 32) : Scf.Loop 32 :=
  let c0_i32_187 : BitVec 32 := 0#32
  let c0_i32_181 : BitVec 32 := 0#32
  let v452 : BitVec 1 := Scalar.cmpi .sgt v450 c0_i32_181
  let v453 : BitVec 32 := Scalar.extui v452
  let c0_i32_182 : BitVec 32 := 0#32
  let v454 : BitVec 1 := Scalar.cmpi .slt v450 c0_i32_182
  let v455 : BitVec 32 := Scalar.extui v454
  let v456 : BitVec 32 := Scalar.subi v453 v455
  let c16_i32_180 : BitVec 32 := 16#32
  let c0_i32_183 : BitVec 32 := 0#32
  let v457 : BitVec 1 := Scalar.cmpi .sgt c16_i32_180 c0_i32_183
  let v458 : BitVec 32 := Scalar.extui v457
  let c0_i32_184 : BitVec 32 := 0#32
  let v459 : BitVec 1 := Scalar.cmpi .slt c16_i32_180 c0_i32_184
  let v460 : BitVec 32 := Scalar.extui v459
  let v461 : BitVec 32 := Scalar.subi v458 v460
  let v462 : BitVec 1 := Scalar.cmpi .ne v456 v461
  let v463 : BitVec 32 := Scalar.remsi v450 c16_i32_180
  let c0_i32_185 : BitVec 32 := 0#32
  let v464 : BitVec 1 := Scalar.cmpi .ne v463 c0_i32_185
  let v465 : BitVec 1 := Scalar.andi v462 v464
  let v451 : BitVec 32 := Scalar.divsi v450 c16_i32_180
  let c1_i32_186 : BitVec 32 := 1#32
  let v466 : BitVec 32 := Scalar.subi v451 c1_i32_186
  let v467 : BitVec 32 := Scalar.select v465 v466 v451
  let v468 : BitVec 32 := Scalar.subi v467 c0_i32_187
  let c1_i32_189 : BitVec 32 := 1#32
  let v470 : BitVec 32 := Scalar.divsi v468 c1_i32_189
  let v471 : BitVec 32 := Scalar.muli v470 c1_i32_189
  let v472 : BitVec 32 := Scalar.addi c0_i32_187 v471
  let v469 : BitVec 32 := Scalar.addi c0_i32_187 v468
  let c1_i32_191 : BitVec 32 := 1#32
  ⟨v472, v469, c1_i32_191⟩
def k0_mult63 (v448 : BitVec 32) (v450 : BitVec 32) (k0_t32 : Fin (k0_t32_loop v450).trips) : BitVec 32 :=
  let c0_i32_187 : BitVec 32 := 0#32
  let c0_i32_181 : BitVec 32 := 0#32
  let v452 : BitVec 1 := Scalar.cmpi .sgt v450 c0_i32_181
  let v453 : BitVec 32 := Scalar.extui v452
  let c0_i32_182 : BitVec 32 := 0#32
  let v454 : BitVec 1 := Scalar.cmpi .slt v450 c0_i32_182
  let v455 : BitVec 32 := Scalar.extui v454
  let v456 : BitVec 32 := Scalar.subi v453 v455
  let c16_i32_180 : BitVec 32 := 16#32
  let c0_i32_183 : BitVec 32 := 0#32
  let v457 : BitVec 1 := Scalar.cmpi .sgt c16_i32_180 c0_i32_183
  let v458 : BitVec 32 := Scalar.extui v457
  let c0_i32_184 : BitVec 32 := 0#32
  let v459 : BitVec 1 := Scalar.cmpi .slt c16_i32_180 c0_i32_184
  let v460 : BitVec 32 := Scalar.extui v459
  let v461 : BitVec 32 := Scalar.subi v458 v460
  let v462 : BitVec 1 := Scalar.cmpi .ne v456 v461
  let v463 : BitVec 32 := Scalar.remsi v450 c16_i32_180
  let c0_i32_185 : BitVec 32 := 0#32
  let v464 : BitVec 1 := Scalar.cmpi .ne v463 c0_i32_185
  let v465 : BitVec 1 := Scalar.andi v462 v464
  let v451 : BitVec 32 := Scalar.divsi v450 c16_i32_180
  let c1_i32_186 : BitVec 32 := 1#32
  let v466 : BitVec 32 := Scalar.subi v451 c1_i32_186
  let v467 : BitVec 32 := Scalar.select v465 v466 v451
  let v468 : BitVec 32 := Scalar.subi v467 c0_i32_187
  let c1_i32_189 : BitVec 32 := 1#32
  let v470 : BitVec 32 := Scalar.divsi v468 c1_i32_189
  let v471 : BitVec 32 := Scalar.muli v470 c1_i32_189
  let v472 : BitVec 32 := Scalar.addi c0_i32_187 v471
  let c1_i32_191 : BitVec 32 := 1#32
  let arg9 : BitVec 32 := Scf.iv v472 c1_i32_191 k0_t32
  let c16_i32_192 : BitVec 32 := 16#32
  let v475 : BitVec 32 := Scalar.muli arg9 c16_i32_192
  let v476 : BitVec 32 := Scalar.addi v448 v475
  v476
def k0_mult64 (v446 : BitVec 32) (v450 : BitVec 32) (k0_t32 : Fin (k0_t32_loop v450).trips) : BitVec 32 :=
  let c0_i32_187 : BitVec 32 := 0#32
  let c0_i32_181 : BitVec 32 := 0#32
  let v452 : BitVec 1 := Scalar.cmpi .sgt v450 c0_i32_181
  let v453 : BitVec 32 := Scalar.extui v452
  let c0_i32_182 : BitVec 32 := 0#32
  let v454 : BitVec 1 := Scalar.cmpi .slt v450 c0_i32_182
  let v455 : BitVec 32 := Scalar.extui v454
  let v456 : BitVec 32 := Scalar.subi v453 v455
  let c16_i32_180 : BitVec 32 := 16#32
  let c0_i32_183 : BitVec 32 := 0#32
  let v457 : BitVec 1 := Scalar.cmpi .sgt c16_i32_180 c0_i32_183
  let v458 : BitVec 32 := Scalar.extui v457
  let c0_i32_184 : BitVec 32 := 0#32
  let v459 : BitVec 1 := Scalar.cmpi .slt c16_i32_180 c0_i32_184
  let v460 : BitVec 32 := Scalar.extui v459
  let v461 : BitVec 32 := Scalar.subi v458 v460
  let v462 : BitVec 1 := Scalar.cmpi .ne v456 v461
  let v463 : BitVec 32 := Scalar.remsi v450 c16_i32_180
  let c0_i32_185 : BitVec 32 := 0#32
  let v464 : BitVec 1 := Scalar.cmpi .ne v463 c0_i32_185
  let v465 : BitVec 1 := Scalar.andi v462 v464
  let v451 : BitVec 32 := Scalar.divsi v450 c16_i32_180
  let c1_i32_186 : BitVec 32 := 1#32
  let v466 : BitVec 32 := Scalar.subi v451 c1_i32_186
  let v467 : BitVec 32 := Scalar.select v465 v466 v451
  let v468 : BitVec 32 := Scalar.subi v467 c0_i32_187
  let c1_i32_189 : BitVec 32 := 1#32
  let v470 : BitVec 32 := Scalar.divsi v468 c1_i32_189
  let v471 : BitVec 32 := Scalar.muli v470 c1_i32_189
  let v472 : BitVec 32 := Scalar.addi c0_i32_187 v471
  let c1_i32_191 : BitVec 32 := 1#32
  let arg9 : BitVec 32 := Scf.iv v472 c1_i32_191 k0_t32
  let c16_i32_193 : BitVec 32 := 16#32
  let v478 : BitVec 32 := Scalar.muli arg9 c16_i32_193
  let v479 : BitVec 32 := Scalar.addi v446 v478
  v479
def k0_off148 (i : grid0.Coords) : Fin 1 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  ![v234.toNat]
def k0_off149 (i : grid0.Coords) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_194 : BitVec 32 := 0#32
  let c0_i32_195 : BitVec 32 := 0#32
  ![v234.toNat, 0, 0]
def k0_off150 (v446 : BitVec 32) (v450 : BitVec 32) (k0_t32 : Fin (k0_t32_loop v450).trips) : Fin 2 → Nat :=
  let c0_i32_187 : BitVec 32 := 0#32
  let c0_i32_181 : BitVec 32 := 0#32
  let v452 : BitVec 1 := Scalar.cmpi .sgt v450 c0_i32_181
  let v453 : BitVec 32 := Scalar.extui v452
  let c0_i32_182 : BitVec 32 := 0#32
  let v454 : BitVec 1 := Scalar.cmpi .slt v450 c0_i32_182
  let v455 : BitVec 32 := Scalar.extui v454
  let v456 : BitVec 32 := Scalar.subi v453 v455
  let c16_i32_180 : BitVec 32 := 16#32
  let c0_i32_183 : BitVec 32 := 0#32
  let v457 : BitVec 1 := Scalar.cmpi .sgt c16_i32_180 c0_i32_183
  let v458 : BitVec 32 := Scalar.extui v457
  let c0_i32_184 : BitVec 32 := 0#32
  let v459 : BitVec 1 := Scalar.cmpi .slt c16_i32_180 c0_i32_184
  let v460 : BitVec 32 := Scalar.extui v459
  let v461 : BitVec 32 := Scalar.subi v458 v460
  let v462 : BitVec 1 := Scalar.cmpi .ne v456 v461
  let v463 : BitVec 32 := Scalar.remsi v450 c16_i32_180
  let c0_i32_185 : BitVec 32 := 0#32
  let v464 : BitVec 1 := Scalar.cmpi .ne v463 c0_i32_185
  let v465 : BitVec 1 := Scalar.andi v462 v464
  let v451 : BitVec 32 := Scalar.divsi v450 c16_i32_180
  let c1_i32_186 : BitVec 32 := 1#32
  let v466 : BitVec 32 := Scalar.subi v451 c1_i32_186
  let v467 : BitVec 32 := Scalar.select v465 v466 v451
  let v468 : BitVec 32 := Scalar.subi v467 c0_i32_187
  let c1_i32_189 : BitVec 32 := 1#32
  let v470 : BitVec 32 := Scalar.divsi v468 c1_i32_189
  let v471 : BitVec 32 := Scalar.muli v470 c1_i32_189
  let v472 : BitVec 32 := Scalar.addi c0_i32_187 v471
  let c1_i32_191 : BitVec 32 := 1#32
  let arg9 : BitVec 32 := Scf.iv v472 c1_i32_191 k0_t32
  let c16_i32_193 : BitVec 32 := 16#32
  let v478 : BitVec 32 := Scalar.muli arg9 c16_i32_193
  let v479 : BitVec 32 := Scalar.addi v446 v478
  let v480 : BitVec 32 := v479
  let c0_i32_196 : BitVec 32 := 0#32
  ![v480.toNat, 0]
def k0_off151 (v448 : BitVec 32) (v450 : BitVec 32) (k0_t32 : Fin (k0_t32_loop v450).trips) : Fin 2 → Nat :=
  let c0_i32_187 : BitVec 32 := 0#32
  let c0_i32_181 : BitVec 32 := 0#32
  let v452 : BitVec 1 := Scalar.cmpi .sgt v450 c0_i32_181
  let v453 : BitVec 32 := Scalar.extui v452
  let c0_i32_182 : BitVec 32 := 0#32
  let v454 : BitVec 1 := Scalar.cmpi .slt v450 c0_i32_182
  let v455 : BitVec 32 := Scalar.extui v454
  let v456 : BitVec 32 := Scalar.subi v453 v455
  let c16_i32_180 : BitVec 32 := 16#32
  let c0_i32_183 : BitVec 32 := 0#32
  let v457 : BitVec 1 := Scalar.cmpi .sgt c16_i32_180 c0_i32_183
  let v458 : BitVec 32 := Scalar.extui v457
  let c0_i32_184 : BitVec 32 := 0#32
  let v459 : BitVec 1 := Scalar.cmpi .slt c16_i32_180 c0_i32_184
  let v460 : BitVec 32 := Scalar.extui v459
  let v461 : BitVec 32 := Scalar.subi v458 v460
  let v462 : BitVec 1 := Scalar.cmpi .ne v456 v461
  let v463 : BitVec 32 := Scalar.remsi v450 c16_i32_180
  let c0_i32_185 : BitVec 32 := 0#32
  let v464 : BitVec 1 := Scalar.cmpi .ne v463 c0_i32_185
  let v465 : BitVec 1 := Scalar.andi v462 v464
  let v451 : BitVec 32 := Scalar.divsi v450 c16_i32_180
  let c1_i32_186 : BitVec 32 := 1#32
  let v466 : BitVec 32 := Scalar.subi v451 c1_i32_186
  let v467 : BitVec 32 := Scalar.select v465 v466 v451
  let v468 : BitVec 32 := Scalar.subi v467 c0_i32_187
  let c1_i32_189 : BitVec 32 := 1#32
  let v470 : BitVec 32 := Scalar.divsi v468 c1_i32_189
  let v471 : BitVec 32 := Scalar.muli v470 c1_i32_189
  let v472 : BitVec 32 := Scalar.addi c0_i32_187 v471
  let c1_i32_191 : BitVec 32 := 1#32
  let arg9 : BitVec 32 := Scf.iv v472 c1_i32_191 k0_t32
  let c16_i32_192 : BitVec 32 := 16#32
  let v475 : BitVec 32 := Scalar.muli arg9 c16_i32_192
  let v476 : BitVec 32 := Scalar.addi v448 v475
  let v477 : BitVec 32 := v476
  let c0_i32_197 : BitVec 32 := 0#32
  ![v477.toNat, 0]
def k0_off152 (i : grid0.Coords) (v446 : BitVec 32) (v450 : BitVec 32) (k0_t32 : Fin (k0_t32_loop v450).trips) : Fin 3 → Nat :=
  let c1_i32_86 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v234 : BitVec 32 := Scalar.subi c1_i32_86 v9
  let c0_i32_187 : BitVec 32 := 0#32
  let c0_i32_181 : BitVec 32 := 0#32
  let v452 : BitVec 1 := Scalar.cmpi .sgt v450 c0_i32_181
  let v453 : BitVec 32 := Scalar.extui v452
  let c0_i32_182 : BitVec 32 := 0#32
  let v454 : BitVec 1 := Scalar.cmpi .slt v450 c0_i32_182
  let v455 : BitVec 32 := Scalar.extui v454
  let v456 : BitVec 32 := Scalar.subi v453 v455
  let c16_i32_180 : BitVec 32 := 16#32
  let c0_i32_183 : BitVec 32 := 0#32
  let v457 : BitVec 1 := Scalar.cmpi .sgt c16_i32_180 c0_i32_183
  let v458 : BitVec 32 := Scalar.extui v457
  let c0_i32_184 : BitVec 32 := 0#32
  let v459 : BitVec 1 := Scalar.cmpi .slt c16_i32_180 c0_i32_184
  let v460 : BitVec 32 := Scalar.extui v459
  let v461 : BitVec 32 := Scalar.subi v458 v460
  let v462 : BitVec 1 := Scalar.cmpi .ne v456 v461
  let v463 : BitVec 32 := Scalar.remsi v450 c16_i32_180
  let c0_i32_185 : BitVec 32 := 0#32
  let v464 : BitVec 1 := Scalar.cmpi .ne v463 c0_i32_185
  let v465 : BitVec 1 := Scalar.andi v462 v464
  let v451 : BitVec 32 := Scalar.divsi v450 c16_i32_180
  let c1_i32_186 : BitVec 32 := 1#32
  let v466 : BitVec 32 := Scalar.subi v451 c1_i32_186
  let v467 : BitVec 32 := Scalar.select v465 v466 v451
  let v468 : BitVec 32 := Scalar.subi v467 c0_i32_187
  let c1_i32_189 : BitVec 32 := 1#32
  let v470 : BitVec 32 := Scalar.divsi v468 c1_i32_189
  let v471 : BitVec 32 := Scalar.muli v470 c1_i32_189
  let v472 : BitVec 32 := Scalar.addi c0_i32_187 v471
  let c1_i32_191 : BitVec 32 := 1#32
  let arg9 : BitVec 32 := Scf.iv v472 c1_i32_191 k0_t32
  let c16_i32_193 : BitVec 32 := 16#32
  let v478 : BitVec 32 := Scalar.muli arg9 c16_i32_193
  let v479 : BitVec 32 := Scalar.addi v446 v478
  let v480 : BitVec 32 := v479
  let c0_i32_195 : BitVec 32 := 0#32
  ![v234.toNat, v480.toNat, 0]

def k0_chk16 (i : grid0.Coords) (v446 : BitVec 32) (v448 : BitVec 32) (v450 : BitVec 32) : Prop :=
  (∀ (k0_h2 : k0_cond2 i = 1#1), (k0_t31_loop v450).OK) ∧
  (∀ k0_t31 : Fin (k0_t31_loop v450).trips, ∀ (k0_h2 : k0_cond2 i = 1#1), 16 ∣ (k0_mult61 v448 v450 k0_t31).toNat) ∧
  (∀ k0_t31 : Fin (k0_t31_loop v450).trips, ∀ (k0_h2 : k0_cond2 i = 1#1), 16 ∣ (k0_mult62 v446 v450 k0_t31).toNat) ∧
  (∀ k0_t31 : Fin (k0_t31_loop v450).trips, ∀ (k0_h2 : k0_cond2 i = 1#1), ∀ a, (k0_off145 v446 v450 k0_t31) a + S16x1024.size a ≤ S1152x1024.size a) ∧
  (∀ k0_t31 : Fin (k0_t31_loop v450).trips, ∀ (k0_h2 : k0_cond2 i = 1#1), ∀ a, (k0_off146 v448 v450 k0_t31) a + S16x1024.size a ≤ S44032x1024.size a) ∧
  (∀ k0_t31 : Fin (k0_t31_loop v450).trips, ∀ (k0_h2 : k0_cond2 i = 1#1), ∀ (hinb : ∀ a, (k0_off146 v448 v450 k0_t31) a + S16x1024.size a ≤ S44032x1024.size a), (Rect.unit (s := S44032x1024) (k0_off146 v448 v450 k0_t31) S16x1024.size hinb).WholeWords (EltTy.packing .bf16)) ∧
  (∀ k0_t31 : Fin (k0_t31_loop v450).trips, ∀ (k0_h2 : k0_cond2 i = 1#1), ∀ a, (k0_off147 i v446 v450 k0_t31) a + S1x16x1024.size a ≤ S2x1152x1024.size a) ∧
  (∀ k0_t31 : Fin (k0_t31_loop v450).trips, ∀ (k0_h2 : k0_cond2 i = 1#1), ∀ (hinb : ∀ a, (k0_off147 i v446 v450 k0_t31) a + S1x16x1024.size a ≤ S2x1152x1024.size a), (Rect.unit (s := S2x1152x1024) (k0_off147 i v446 v450 k0_t31) S1x16x1024.size hinb).WholeWords (EltTy.packing .bf16)) ∧
  (∀ (k0_h2 : k0_cond2 i = 1#1), (k0_t32_loop v450).OK) ∧
  (∀ k0_t32 : Fin (k0_t32_loop v450).trips, ∀ (k0_h2 : k0_cond2 i = 1#1), 16 ∣ (k0_mult63 v448 v450 k0_t32).toNat) ∧
  (∀ k0_t32 : Fin (k0_t32_loop v450).trips, ∀ (k0_h2 : k0_cond2 i = 1#1), 16 ∣ (k0_mult64 v446 v450 k0_t32).toNat) ∧
  (∀ k0_t32 : Fin (k0_t32_loop v450).trips, ∀ (k0_h2 : k0_cond2 i = 1#1), ∀ a, (k0_off150 v446 v450 k0_t32) a + S16x1024.size a ≤ S1152x1024.size a) ∧
  (∀ k0_t32 : Fin (k0_t32_loop v450).trips, ∀ (k0_h2 : k0_cond2 i = 1#1), ∀ a, (k0_off151 v448 v450 k0_t32) a + S16x1024.size a ≤ S44032x1024.size a) ∧
  (∀ k0_t32 : Fin (k0_t32_loop v450).trips, ∀ (k0_h2 : k0_cond2 i = 1#1), ∀ (hinb : ∀ a, (k0_off151 v448 v450 k0_t32) a + S16x1024.size a ≤ S44032x1024.size a), (Rect.unit (s := S44032x1024) (k0_off151 v448 v450 k0_t32) S16x1024.size hinb).WholeWords (EltTy.packing .bf16)) ∧
  (∀ k0_t32 : Fin (k0_t32_loop v450).trips, ∀ (k0_h2 : k0_cond2 i = 1#1), ∀ a, (k0_off152 i v446 v450 k0_t32) a + S1x16x1024.size a ≤ S2x1152x1024.size a) ∧
  (∀ k0_t32 : Fin (k0_t32_loop v450).trips, ∀ (k0_h2 : k0_cond2 i = 1#1), ∀ (hinb : ∀ a, (k0_off152 i v446 v450 k0_t32) a + S1x16x1024.size a ≤ S2x1152x1024.size a), (Rect.unit (s := S2x1152x1024) (k0_off152 i v446 v450 k0_t32) S1x16x1024.size hinb).WholeWords (EltTy.packing .bf16))
theorem k0_t31_ok : ∀ (i : grid0.Coords) (v446 : BitVec 32) (v448 : BitVec 32) (v450 : BitVec 32) (k0_hw16 : k0_chk16 i v446 v448 v450), ∀ (k0_h2 : k0_cond2 i = 1#1), (k0_t31_loop v450).OK := fun i v446 v448 v450 k0_hw16 k0_h2 => k0_hw16.1 k0_h2
theorem k0_mult61_dvd : ∀ (i : grid0.Coords) (v446 : BitVec 32) (v448 : BitVec 32) (v450 : BitVec 32) (k0_hw16 : k0_chk16 i v446 v448 v450) (k0_t31 : Fin (k0_t31_loop v450).trips), ∀ (k0_h2 : k0_cond2 i = 1#1), 16 ∣ (k0_mult61 v448 v450 k0_t31).toNat := fun i v446 v448 v450 k0_hw16 k0_t31 k0_h2 => k0_hw16.2.1 k0_t31 k0_h2
theorem k0_mult62_dvd : ∀ (i : grid0.Coords) (v446 : BitVec 32) (v448 : BitVec 32) (v450 : BitVec 32) (k0_hw16 : k0_chk16 i v446 v448 v450) (k0_t31 : Fin (k0_t31_loop v450).trips), ∀ (k0_h2 : k0_cond2 i = 1#1), 16 ∣ (k0_mult62 v446 v450 k0_t31).toNat := fun i v446 v448 v450 k0_hw16 k0_t31 k0_h2 => k0_hw16.2.2.1 k0_t31 k0_h2
theorem k0_off145_inb : ∀ (i : grid0.Coords) (v446 : BitVec 32) (v448 : BitVec 32) (v450 : BitVec 32) (k0_hw16 : k0_chk16 i v446 v448 v450) (k0_t31 : Fin (k0_t31_loop v450).trips), ∀ (k0_h2 : k0_cond2 i = 1#1), ∀ a, (k0_off145 v446 v450 k0_t31) a + S16x1024.size a ≤ S1152x1024.size a := fun i v446 v448 v450 k0_hw16 k0_t31 k0_h2 => k0_hw16.2.2.2.1 k0_t31 k0_h2
theorem k0_off146_inb : ∀ (i : grid0.Coords) (v446 : BitVec 32) (v448 : BitVec 32) (v450 : BitVec 32) (k0_hw16 : k0_chk16 i v446 v448 v450) (k0_t31 : Fin (k0_t31_loop v450).trips), ∀ (k0_h2 : k0_cond2 i = 1#1), ∀ a, (k0_off146 v448 v450 k0_t31) a + S16x1024.size a ≤ S44032x1024.size a := fun i v446 v448 v450 k0_hw16 k0_t31 k0_h2 => k0_hw16.2.2.2.2.1 k0_t31 k0_h2
theorem k0_off146_wordsbf16 : ∀ (i : grid0.Coords) (v446 : BitVec 32) (v448 : BitVec 32) (v450 : BitVec 32) (k0_hw16 : k0_chk16 i v446 v448 v450) (k0_t31 : Fin (k0_t31_loop v450).trips), ∀ (k0_h2 : k0_cond2 i = 1#1), (Rect.unit (s := S44032x1024) (k0_off146 v448 v450 k0_t31) S16x1024.size (k0_off146_inb i v446 v448 v450 k0_hw16 k0_t31 k0_h2)).WholeWords (EltTy.packing .bf16) := fun i v446 v448 v450 k0_hw16 k0_t31 k0_h2 => k0_hw16.2.2.2.2.2.1 k0_t31 k0_h2 (k0_off146_inb i v446 v448 v450 k0_hw16 k0_t31 k0_h2)
theorem k0_off147_inb : ∀ (i : grid0.Coords) (v446 : BitVec 32) (v448 : BitVec 32) (v450 : BitVec 32) (k0_hw16 : k0_chk16 i v446 v448 v450) (k0_t31 : Fin (k0_t31_loop v450).trips), ∀ (k0_h2 : k0_cond2 i = 1#1), ∀ a, (k0_off147 i v446 v450 k0_t31) a + S1x16x1024.size a ≤ S2x1152x1024.size a := fun i v446 v448 v450 k0_hw16 k0_t31 k0_h2 => k0_hw16.2.2.2.2.2.2.1 k0_t31 k0_h2
theorem k0_off147_wordsbf16 : ∀ (i : grid0.Coords) (v446 : BitVec 32) (v448 : BitVec 32) (v450 : BitVec 32) (k0_hw16 : k0_chk16 i v446 v448 v450) (k0_t31 : Fin (k0_t31_loop v450).trips), ∀ (k0_h2 : k0_cond2 i = 1#1), (Rect.unit (s := S2x1152x1024) (k0_off147 i v446 v450 k0_t31) S1x16x1024.size (k0_off147_inb i v446 v448 v450 k0_hw16 k0_t31 k0_h2)).WholeWords (EltTy.packing .bf16) := fun i v446 v448 v450 k0_hw16 k0_t31 k0_h2 => k0_hw16.2.2.2.2.2.2.2.1 k0_t31 k0_h2 (k0_off147_inb i v446 v448 v450 k0_hw16 k0_t31 k0_h2)
theorem k0_t32_ok : ∀ (i : grid0.Coords) (v446 : BitVec 32) (v448 : BitVec 32) (v450 : BitVec 32) (k0_hw16 : k0_chk16 i v446 v448 v450), ∀ (k0_h2 : k0_cond2 i = 1#1), (k0_t32_loop v450).OK := fun i v446 v448 v450 k0_hw16 k0_h2 => k0_hw16.2.2.2.2.2.2.2.2.1 k0_h2
theorem k0_mult63_dvd : ∀ (i : grid0.Coords) (v446 : BitVec 32) (v448 : BitVec 32) (v450 : BitVec 32) (k0_hw16 : k0_chk16 i v446 v448 v450) (k0_t32 : Fin (k0_t32_loop v450).trips), ∀ (k0_h2 : k0_cond2 i = 1#1), 16 ∣ (k0_mult63 v448 v450 k0_t32).toNat := fun i v446 v448 v450 k0_hw16 k0_t32 k0_h2 => k0_hw16.2.2.2.2.2.2.2.2.2.1 k0_t32 k0_h2
theorem k0_mult64_dvd : ∀ (i : grid0.Coords) (v446 : BitVec 32) (v448 : BitVec 32) (v450 : BitVec 32) (k0_hw16 : k0_chk16 i v446 v448 v450) (k0_t32 : Fin (k0_t32_loop v450).trips), ∀ (k0_h2 : k0_cond2 i = 1#1), 16 ∣ (k0_mult64 v446 v450 k0_t32).toNat := fun i v446 v448 v450 k0_hw16 k0_t32 k0_h2 => k0_hw16.2.2.2.2.2.2.2.2.2.2.1 k0_t32 k0_h2
theorem k0_off150_inb : ∀ (i : grid0.Coords) (v446 : BitVec 32) (v448 : BitVec 32) (v450 : BitVec 32) (k0_hw16 : k0_chk16 i v446 v448 v450) (k0_t32 : Fin (k0_t32_loop v450).trips), ∀ (k0_h2 : k0_cond2 i = 1#1), ∀ a, (k0_off150 v446 v450 k0_t32) a + S16x1024.size a ≤ S1152x1024.size a := fun i v446 v448 v450 k0_hw16 k0_t32 k0_h2 => k0_hw16.2.2.2.2.2.2.2.2.2.2.2.1 k0_t32 k0_h2
theorem k0_off151_inb : ∀ (i : grid0.Coords) (v446 : BitVec 32) (v448 : BitVec 32) (v450 : BitVec 32) (k0_hw16 : k0_chk16 i v446 v448 v450) (k0_t32 : Fin (k0_t32_loop v450).trips), ∀ (k0_h2 : k0_cond2 i = 1#1), ∀ a, (k0_off151 v448 v450 k0_t32) a + S16x1024.size a ≤ S44032x1024.size a := fun i v446 v448 v450 k0_hw16 k0_t32 k0_h2 => k0_hw16.2.2.2.2.2.2.2.2.2.2.2.2.1 k0_t32 k0_h2
theorem k0_off151_wordsbf16 : ∀ (i : grid0.Coords) (v446 : BitVec 32) (v448 : BitVec 32) (v450 : BitVec 32) (k0_hw16 : k0_chk16 i v446 v448 v450) (k0_t32 : Fin (k0_t32_loop v450).trips), ∀ (k0_h2 : k0_cond2 i = 1#1), (Rect.unit (s := S44032x1024) (k0_off151 v448 v450 k0_t32) S16x1024.size (k0_off151_inb i v446 v448 v450 k0_hw16 k0_t32 k0_h2)).WholeWords (EltTy.packing .bf16) := fun i v446 v448 v450 k0_hw16 k0_t32 k0_h2 => k0_hw16.2.2.2.2.2.2.2.2.2.2.2.2.2.1 k0_t32 k0_h2 (k0_off151_inb i v446 v448 v450 k0_hw16 k0_t32 k0_h2)
theorem k0_off152_inb : ∀ (i : grid0.Coords) (v446 : BitVec 32) (v448 : BitVec 32) (v450 : BitVec 32) (k0_hw16 : k0_chk16 i v446 v448 v450) (k0_t32 : Fin (k0_t32_loop v450).trips), ∀ (k0_h2 : k0_cond2 i = 1#1), ∀ a, (k0_off152 i v446 v450 k0_t32) a + S1x16x1024.size a ≤ S2x1152x1024.size a := fun i v446 v448 v450 k0_hw16 k0_t32 k0_h2 => k0_hw16.2.2.2.2.2.2.2.2.2.2.2.2.2.2.1 k0_t32 k0_h2
theorem k0_off152_wordsbf16 : ∀ (i : grid0.Coords) (v446 : BitVec 32) (v448 : BitVec 32) (v450 : BitVec 32) (k0_hw16 : k0_chk16 i v446 v448 v450) (k0_t32 : Fin (k0_t32_loop v450).trips), ∀ (k0_h2 : k0_cond2 i = 1#1), (Rect.unit (s := S2x1152x1024) (k0_off152 i v446 v450 k0_t32) S1x16x1024.size (k0_off152_inb i v446 v448 v450 k0_hw16 k0_t32 k0_h2)).WholeWords (EltTy.packing .bf16) := fun i v446 v448 v450 k0_hw16 k0_t32 k0_h2 => k0_hw16.2.2.2.2.2.2.2.2.2.2.2.2.2.2.2 k0_t32 k0_h2 (k0_off152_inb i v446 v448 v450 k0_hw16 k0_t32 k0_h2)

def k0_off153 (i : grid0.Coords) : Fin 2 → Nat :=
  let arg0 : BitVec 32 := BitVec.ofNat 32 (i 0).val
  let v17 : Index := Scalar.indexCast arg0
  let c8 : Index := 8#32
  ![v17.toNat, 8]
def k0_off154 (i : grid0.Coords) : Fin 2 → Nat :=
  let arg0 : BitVec 32 := BitVec.ofNat 32 (i 0).val
  let v37 : Index := Scalar.indexCast arg0
  let c9 : Index := 9#32
  ![v37.toNat, 9]
def k0_off155 (i : grid0.Coords) : Fin 2 → Nat :=
  let arg0 : BitVec 32 := BitVec.ofNat 32 (i 0).val
  let v57 : Index := Scalar.indexCast arg0
  let c10 : Index := 10#32
  ![v57.toNat, 10]
def k0_off156 (i : grid0.Coords) : Fin 2 → Nat :=
  let arg0 : BitVec 32 := BitVec.ofNat 32 (i 0).val
  let v77 : Index := Scalar.indexCast arg0
  let c11 : Index := 11#32
  ![v77.toNat, 11]
def k0_off157 (i : grid0.Coords) : Fin 2 → Nat :=
  let arg0 : BitVec 32 := BitVec.ofNat 32 (i 0).val
  let v97 : Index := Scalar.indexCast arg0
  let c12 : Index := 12#32
  ![v97.toNat, 12]
def k0_off158 (i : grid0.Coords) : Fin 2 → Nat :=
  let arg0 : BitVec 32 := BitVec.ofNat 32 (i 0).val
  let v117 : Index := Scalar.indexCast arg0
  let c13 : Index := 13#32
  ![v117.toNat, 13]
def k0_off159 (i : grid0.Coords) : Fin 2 → Nat :=
  let arg0 : BitVec 32 := BitVec.ofNat 32 (i 0).val
  let v137 : Index := Scalar.indexCast arg0
  let c14 : Index := 14#32
  ![v137.toNat, 14]
def k0_off160 (i : grid0.Coords) : Fin 2 → Nat :=
  let arg0 : BitVec 32 := BitVec.ofNat 32 (i 0).val
  let v157 : Index := Scalar.indexCast arg0
  let c15 : Index := 15#32
  ![v157.toNat, 15]
@[reducible] def k0_t33_loop (v18 : BitVec 32) (v38 : BitVec 32) (v58 : BitVec 32) (v78 : BitVec 32) (v98 : BitVec 32) (v118 : BitVec 32) (v138 : BitVec 32) (v158 : BitVec 32) : Scf.Loop 32 :=
  let c0_i32_63 : BitVec 32 := 0#32
  let c0_i32_13 : BitVec 32 := 0#32
  let c0_i32_7 : BitVec 32 := 0#32
  let v20 : BitVec 1 := Scalar.cmpi .sgt v18 c0_i32_7
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c16_i32 : BitVec 32 := 16#32
  let c0_i32_9 : BitVec 32 := 0#32
  let v25 : BitVec 1 := Scalar.cmpi .sgt c16_i32 c0_i32_9
  let v26 : BitVec 32 := Scalar.extui v25
  let c0_i32_10 : BitVec 32 := 0#32
  let v27 : BitVec 1 := Scalar.cmpi .slt c16_i32 c0_i32_10
  let v28 : BitVec 32 := Scalar.extui v27
  let v29 : BitVec 32 := Scalar.subi v26 v28
  let v30 : BitVec 1 := Scalar.cmpi .ne v24 v29
  let v31 : BitVec 32 := Scalar.remsi v18 c16_i32
  let c0_i32_11 : BitVec 32 := 0#32
  let v32 : BitVec 1 := Scalar.cmpi .ne v31 c0_i32_11
  let v33 : BitVec 1 := Scalar.andi v30 v32
  let v19 : BitVec 32 := Scalar.divsi v18 c16_i32
  let c1_i32_12 : BitVec 32 := 1#32
  let v34 : BitVec 32 := Scalar.subi v19 c1_i32_12
  let v35 : BitVec 32 := Scalar.select v33 v34 v19
  let v36 : BitVec 32 := Scalar.addi c0_i32_13 v35
  let c0_i32_15 : BitVec 32 := 0#32
  let v40 : BitVec 1 := Scalar.cmpi .sgt v38 c0_i32_15
  let v41 : BitVec 32 := Scalar.extui v40
  let c0_i32_16 : BitVec 32 := 0#32
  let v42 : BitVec 1 := Scalar.cmpi .slt v38 c0_i32_16
  let v43 : BitVec 32 := Scalar.extui v42
  let v44 : BitVec 32 := Scalar.subi v41 v43
  let c16_i32_14 : BitVec 32 := 16#32
  let c0_i32_17 : BitVec 32 := 0#32
  let v45 : BitVec 1 := Scalar.cmpi .sgt c16_i32_14 c0_i32_17
  let v46 : BitVec 32 := Scalar.extui v45
  let c0_i32_18 : BitVec 32 := 0#32
  let v47 : BitVec 1 := Scalar.cmpi .slt c16_i32_14 c0_i32_18
  let v48 : BitVec 32 := Scalar.extui v47
  let v49 : BitVec 32 := Scalar.subi v46 v48
  let v50 : BitVec 1 := Scalar.cmpi .ne v44 v49
  let v51 : BitVec 32 := Scalar.remsi v38 c16_i32_14
  let c0_i32_19 : BitVec 32 := 0#32
  let v52 : BitVec 1 := Scalar.cmpi .ne v51 c0_i32_19
  let v53 : BitVec 1 := Scalar.andi v50 v52
  let v39 : BitVec 32 := Scalar.divsi v38 c16_i32_14
  let c1_i32_20 : BitVec 32 := 1#32
  let v54 : BitVec 32 := Scalar.subi v39 c1_i32_20
  let v55 : BitVec 32 := Scalar.select v53 v54 v39
  let v56 : BitVec 32 := Scalar.addi v36 v55
  let c0_i32_22 : BitVec 32 := 0#32
  let v60 : BitVec 1 := Scalar.cmpi .sgt v58 c0_i32_22
  let v61 : BitVec 32 := Scalar.extui v60
  let c0_i32_23 : BitVec 32 := 0#32
  let v62 : BitVec 1 := Scalar.cmpi .slt v58 c0_i32_23
  let v63 : BitVec 32 := Scalar.extui v62
  let v64 : BitVec 32 := Scalar.subi v61 v63
  let c16_i32_21 : BitVec 32 := 16#32
  let c0_i32_24 : BitVec 32 := 0#32
  let v65 : BitVec 1 := Scalar.cmpi .sgt c16_i32_21 c0_i32_24
  let v66 : BitVec 32 := Scalar.extui v65
  let c0_i32_25 : BitVec 32 := 0#32
  let v67 : BitVec 1 := Scalar.cmpi .slt c16_i32_21 c0_i32_25
  let v68 : BitVec 32 := Scalar.extui v67
  let v69 : BitVec 32 := Scalar.subi v66 v68
  let v70 : BitVec 1 := Scalar.cmpi .ne v64 v69
  let v71 : BitVec 32 := Scalar.remsi v58 c16_i32_21
  let c0_i32_26 : BitVec 32 := 0#32
  let v72 : BitVec 1 := Scalar.cmpi .ne v71 c0_i32_26
  let v73 : BitVec 1 := Scalar.andi v70 v72
  let v59 : BitVec 32 := Scalar.divsi v58 c16_i32_21
  let c1_i32_27 : BitVec 32 := 1#32
  let v74 : BitVec 32 := Scalar.subi v59 c1_i32_27
  let v75 : BitVec 32 := Scalar.select v73 v74 v59
  let v76 : BitVec 32 := Scalar.addi v56 v75
  let c0_i32_29 : BitVec 32 := 0#32
  let v80 : BitVec 1 := Scalar.cmpi .sgt v78 c0_i32_29
  let v81 : BitVec 32 := Scalar.extui v80
  let c0_i32_30 : BitVec 32 := 0#32
  let v82 : BitVec 1 := Scalar.cmpi .slt v78 c0_i32_30
  let v83 : BitVec 32 := Scalar.extui v82
  let v84 : BitVec 32 := Scalar.subi v81 v83
  let c16_i32_28 : BitVec 32 := 16#32
  let c0_i32_31 : BitVec 32 := 0#32
  let v85 : BitVec 1 := Scalar.cmpi .sgt c16_i32_28 c0_i32_31
  let v86 : BitVec 32 := Scalar.extui v85
  let c0_i32_32 : BitVec 32 := 0#32
  let v87 : BitVec 1 := Scalar.cmpi .slt c16_i32_28 c0_i32_32
  let v88 : BitVec 32 := Scalar.extui v87
  let v89 : BitVec 32 := Scalar.subi v86 v88
  let v90 : BitVec 1 := Scalar.cmpi .ne v84 v89
  let v91 : BitVec 32 := Scalar.remsi v78 c16_i32_28
  let c0_i32_33 : BitVec 32 := 0#32
  let v92 : BitVec 1 := Scalar.cmpi .ne v91 c0_i32_33
  let v93 : BitVec 1 := Scalar.andi v90 v92
  let v79 : BitVec 32 := Scalar.divsi v78 c16_i32_28
  let c1_i32_34 : BitVec 32 := 1#32
  let v94 : BitVec 32 := Scalar.subi v79 c1_i32_34
  let v95 : BitVec 32 := Scalar.select v93 v94 v79
  let v96 : BitVec 32 := Scalar.addi v76 v95
  let c0_i32_36 : BitVec 32 := 0#32
  let v100 : BitVec 1 := Scalar.cmpi .sgt v98 c0_i32_36
  let v101 : BitVec 32 := Scalar.extui v100
  let c0_i32_37 : BitVec 32 := 0#32
  let v102 : BitVec 1 := Scalar.cmpi .slt v98 c0_i32_37
  let v103 : BitVec 32 := Scalar.extui v102
  let v104 : BitVec 32 := Scalar.subi v101 v103
  let c16_i32_35 : BitVec 32 := 16#32
  let c0_i32_38 : BitVec 32 := 0#32
  let v105 : BitVec 1 := Scalar.cmpi .sgt c16_i32_35 c0_i32_38
  let v106 : BitVec 32 := Scalar.extui v105
  let c0_i32_39 : BitVec 32 := 0#32
  let v107 : BitVec 1 := Scalar.cmpi .slt c16_i32_35 c0_i32_39
  let v108 : BitVec 32 := Scalar.extui v107
  let v109 : BitVec 32 := Scalar.subi v106 v108
  let v110 : BitVec 1 := Scalar.cmpi .ne v104 v109
  let v111 : BitVec 32 := Scalar.remsi v98 c16_i32_35
  let c0_i32_40 : BitVec 32 := 0#32
  let v112 : BitVec 1 := Scalar.cmpi .ne v111 c0_i32_40
  let v113 : BitVec 1 := Scalar.andi v110 v112
  let v99 : BitVec 32 := Scalar.divsi v98 c16_i32_35
  let c1_i32_41 : BitVec 32 := 1#32
  let v114 : BitVec 32 := Scalar.subi v99 c1_i32_41
  let v115 : BitVec 32 := Scalar.select v113 v114 v99
  let v116 : BitVec 32 := Scalar.addi v96 v115
  let c0_i32_43 : BitVec 32 := 0#32
  let v120 : BitVec 1 := Scalar.cmpi .sgt v118 c0_i32_43
  let v121 : BitVec 32 := Scalar.extui v120
  let c0_i32_44 : BitVec 32 := 0#32
  let v122 : BitVec 1 := Scalar.cmpi .slt v118 c0_i32_44
  let v123 : BitVec 32 := Scalar.extui v122
  let v124 : BitVec 32 := Scalar.subi v121 v123
  let c16_i32_42 : BitVec 32 := 16#32
  let c0_i32_45 : BitVec 32 := 0#32
  let v125 : BitVec 1 := Scalar.cmpi .sgt c16_i32_42 c0_i32_45
  let v126 : BitVec 32 := Scalar.extui v125
  let c0_i32_46 : BitVec 32 := 0#32
  let v127 : BitVec 1 := Scalar.cmpi .slt c16_i32_42 c0_i32_46
  let v128 : BitVec 32 := Scalar.extui v127
  let v129 : BitVec 32 := Scalar.subi v126 v128
  let v130 : BitVec 1 := Scalar.cmpi .ne v124 v129
  let v131 : BitVec 32 := Scalar.remsi v118 c16_i32_42
  let c0_i32_47 : BitVec 32 := 0#32
  let v132 : BitVec 1 := Scalar.cmpi .ne v131 c0_i32_47
  let v133 : BitVec 1 := Scalar.andi v130 v132
  let v119 : BitVec 32 := Scalar.divsi v118 c16_i32_42
  let c1_i32_48 : BitVec 32 := 1#32
  let v134 : BitVec 32 := Scalar.subi v119 c1_i32_48
  let v135 : BitVec 32 := Scalar.select v133 v134 v119
  let v136 : BitVec 32 := Scalar.addi v116 v135
  let c0_i32_50 : BitVec 32 := 0#32
  let v140 : BitVec 1 := Scalar.cmpi .sgt v138 c0_i32_50
  let v141 : BitVec 32 := Scalar.extui v140
  let c0_i32_51 : BitVec 32 := 0#32
  let v142 : BitVec 1 := Scalar.cmpi .slt v138 c0_i32_51
  let v143 : BitVec 32 := Scalar.extui v142
  let v144 : BitVec 32 := Scalar.subi v141 v143
  let c16_i32_49 : BitVec 32 := 16#32
  let c0_i32_52 : BitVec 32 := 0#32
  let v145 : BitVec 1 := Scalar.cmpi .sgt c16_i32_49 c0_i32_52
  let v146 : BitVec 32 := Scalar.extui v145
  let c0_i32_53 : BitVec 32 := 0#32
  let v147 : BitVec 1 := Scalar.cmpi .slt c16_i32_49 c0_i32_53
  let v148 : BitVec 32 := Scalar.extui v147
  let v149 : BitVec 32 := Scalar.subi v146 v148
  let v150 : BitVec 1 := Scalar.cmpi .ne v144 v149
  let v151 : BitVec 32 := Scalar.remsi v138 c16_i32_49
  let c0_i32_54 : BitVec 32 := 0#32
  let v152 : BitVec 1 := Scalar.cmpi .ne v151 c0_i32_54
  let v153 : BitVec 1 := Scalar.andi v150 v152
  let v139 : BitVec 32 := Scalar.divsi v138 c16_i32_49
  let c1_i32_55 : BitVec 32 := 1#32
  let v154 : BitVec 32 := Scalar.subi v139 c1_i32_55
  let v155 : BitVec 32 := Scalar.select v153 v154 v139
  let v156 : BitVec 32 := Scalar.addi v136 v155
  let c0_i32_57 : BitVec 32 := 0#32
  let v160 : BitVec 1 := Scalar.cmpi .sgt v158 c0_i32_57
  let v161 : BitVec 32 := Scalar.extui v160
  let c0_i32_58 : BitVec 32 := 0#32
  let v162 : BitVec 1 := Scalar.cmpi .slt v158 c0_i32_58
  let v163 : BitVec 32 := Scalar.extui v162
  let v164 : BitVec 32 := Scalar.subi v161 v163
  let c16_i32_56 : BitVec 32 := 16#32
  let c0_i32_59 : BitVec 32 := 0#32
  let v165 : BitVec 1 := Scalar.cmpi .sgt c16_i32_56 c0_i32_59
  let v166 : BitVec 32 := Scalar.extui v165
  let c0_i32_60 : BitVec 32 := 0#32
  let v167 : BitVec 1 := Scalar.cmpi .slt c16_i32_56 c0_i32_60
  let v168 : BitVec 32 := Scalar.extui v167
  let v169 : BitVec 32 := Scalar.subi v166 v168
  let v170 : BitVec 1 := Scalar.cmpi .ne v164 v169
  let v171 : BitVec 32 := Scalar.remsi v158 c16_i32_56
  let c0_i32_61 : BitVec 32 := 0#32
  let v172 : BitVec 1 := Scalar.cmpi .ne v171 c0_i32_61
  let v173 : BitVec 1 := Scalar.andi v170 v172
  let v159 : BitVec 32 := Scalar.divsi v158 c16_i32_56
  let c1_i32_62 : BitVec 32 := 1#32
  let v174 : BitVec 32 := Scalar.subi v159 c1_i32_62
  let v175 : BitVec 32 := Scalar.select v173 v174 v159
  let v176 : BitVec 32 := Scalar.addi v156 v175
  let v177 : BitVec 32 := Scalar.subi v176 c0_i32_63
  let c1_i32_65 : BitVec 32 := 1#32
  let v179 : BitVec 32 := Scalar.divsi v177 c1_i32_65
  let v180 : BitVec 32 := Scalar.muli v179 c1_i32_65
  let v181 : BitVec 32 := Scalar.addi c0_i32_63 v180
  let c1_i32_66 : BitVec 32 := 1#32
  ⟨c0_i32_63, v181, c1_i32_66⟩

def k0_mult65 : BitVec 32 :=
  let c0_i32_85 : BitVec 32 := 0#32
  c0_i32_85
def k0_mult66 : BitVec 32 :=
  let c0_i32_86 : BitVec 32 := 0#32
  c0_i32_86
def k0_off161 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off162 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_87 : BitVec 32 := 0#32
  let c0_i32_88 : BitVec 32 := 0#32
  ![v9.toNat, 0, 0]
def k0_off163 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_87 : BitVec 32 := 0#32
  let c0_i32_88 : BitVec 32 := 0#32
  ![v9.toNat, 0, 0]
@[reducible] def k0_t34_loop (v18 : BitVec 32) (v38 : BitVec 32) (v58 : BitVec 32) (v78 : BitVec 32) (v98 : BitVec 32) (v118 : BitVec 32) (v138 : BitVec 32) (v158 : BitVec 32) : Scf.Loop 32 :=
  let c0_i32_63 : BitVec 32 := 0#32
  let c0_i32_13 : BitVec 32 := 0#32
  let c0_i32_7 : BitVec 32 := 0#32
  let v20 : BitVec 1 := Scalar.cmpi .sgt v18 c0_i32_7
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c16_i32 : BitVec 32 := 16#32
  let c0_i32_9 : BitVec 32 := 0#32
  let v25 : BitVec 1 := Scalar.cmpi .sgt c16_i32 c0_i32_9
  let v26 : BitVec 32 := Scalar.extui v25
  let c0_i32_10 : BitVec 32 := 0#32
  let v27 : BitVec 1 := Scalar.cmpi .slt c16_i32 c0_i32_10
  let v28 : BitVec 32 := Scalar.extui v27
  let v29 : BitVec 32 := Scalar.subi v26 v28
  let v30 : BitVec 1 := Scalar.cmpi .ne v24 v29
  let v31 : BitVec 32 := Scalar.remsi v18 c16_i32
  let c0_i32_11 : BitVec 32 := 0#32
  let v32 : BitVec 1 := Scalar.cmpi .ne v31 c0_i32_11
  let v33 : BitVec 1 := Scalar.andi v30 v32
  let v19 : BitVec 32 := Scalar.divsi v18 c16_i32
  let c1_i32_12 : BitVec 32 := 1#32
  let v34 : BitVec 32 := Scalar.subi v19 c1_i32_12
  let v35 : BitVec 32 := Scalar.select v33 v34 v19
  let v36 : BitVec 32 := Scalar.addi c0_i32_13 v35
  let c0_i32_15 : BitVec 32 := 0#32
  let v40 : BitVec 1 := Scalar.cmpi .sgt v38 c0_i32_15
  let v41 : BitVec 32 := Scalar.extui v40
  let c0_i32_16 : BitVec 32 := 0#32
  let v42 : BitVec 1 := Scalar.cmpi .slt v38 c0_i32_16
  let v43 : BitVec 32 := Scalar.extui v42
  let v44 : BitVec 32 := Scalar.subi v41 v43
  let c16_i32_14 : BitVec 32 := 16#32
  let c0_i32_17 : BitVec 32 := 0#32
  let v45 : BitVec 1 := Scalar.cmpi .sgt c16_i32_14 c0_i32_17
  let v46 : BitVec 32 := Scalar.extui v45
  let c0_i32_18 : BitVec 32 := 0#32
  let v47 : BitVec 1 := Scalar.cmpi .slt c16_i32_14 c0_i32_18
  let v48 : BitVec 32 := Scalar.extui v47
  let v49 : BitVec 32 := Scalar.subi v46 v48
  let v50 : BitVec 1 := Scalar.cmpi .ne v44 v49
  let v51 : BitVec 32 := Scalar.remsi v38 c16_i32_14
  let c0_i32_19 : BitVec 32 := 0#32
  let v52 : BitVec 1 := Scalar.cmpi .ne v51 c0_i32_19
  let v53 : BitVec 1 := Scalar.andi v50 v52
  let v39 : BitVec 32 := Scalar.divsi v38 c16_i32_14
  let c1_i32_20 : BitVec 32 := 1#32
  let v54 : BitVec 32 := Scalar.subi v39 c1_i32_20
  let v55 : BitVec 32 := Scalar.select v53 v54 v39
  let v56 : BitVec 32 := Scalar.addi v36 v55
  let c0_i32_22 : BitVec 32 := 0#32
  let v60 : BitVec 1 := Scalar.cmpi .sgt v58 c0_i32_22
  let v61 : BitVec 32 := Scalar.extui v60
  let c0_i32_23 : BitVec 32 := 0#32
  let v62 : BitVec 1 := Scalar.cmpi .slt v58 c0_i32_23
  let v63 : BitVec 32 := Scalar.extui v62
  let v64 : BitVec 32 := Scalar.subi v61 v63
  let c16_i32_21 : BitVec 32 := 16#32
  let c0_i32_24 : BitVec 32 := 0#32
  let v65 : BitVec 1 := Scalar.cmpi .sgt c16_i32_21 c0_i32_24
  let v66 : BitVec 32 := Scalar.extui v65
  let c0_i32_25 : BitVec 32 := 0#32
  let v67 : BitVec 1 := Scalar.cmpi .slt c16_i32_21 c0_i32_25
  let v68 : BitVec 32 := Scalar.extui v67
  let v69 : BitVec 32 := Scalar.subi v66 v68
  let v70 : BitVec 1 := Scalar.cmpi .ne v64 v69
  let v71 : BitVec 32 := Scalar.remsi v58 c16_i32_21
  let c0_i32_26 : BitVec 32 := 0#32
  let v72 : BitVec 1 := Scalar.cmpi .ne v71 c0_i32_26
  let v73 : BitVec 1 := Scalar.andi v70 v72
  let v59 : BitVec 32 := Scalar.divsi v58 c16_i32_21
  let c1_i32_27 : BitVec 32 := 1#32
  let v74 : BitVec 32 := Scalar.subi v59 c1_i32_27
  let v75 : BitVec 32 := Scalar.select v73 v74 v59
  let v76 : BitVec 32 := Scalar.addi v56 v75
  let c0_i32_29 : BitVec 32 := 0#32
  let v80 : BitVec 1 := Scalar.cmpi .sgt v78 c0_i32_29
  let v81 : BitVec 32 := Scalar.extui v80
  let c0_i32_30 : BitVec 32 := 0#32
  let v82 : BitVec 1 := Scalar.cmpi .slt v78 c0_i32_30
  let v83 : BitVec 32 := Scalar.extui v82
  let v84 : BitVec 32 := Scalar.subi v81 v83
  let c16_i32_28 : BitVec 32 := 16#32
  let c0_i32_31 : BitVec 32 := 0#32
  let v85 : BitVec 1 := Scalar.cmpi .sgt c16_i32_28 c0_i32_31
  let v86 : BitVec 32 := Scalar.extui v85
  let c0_i32_32 : BitVec 32 := 0#32
  let v87 : BitVec 1 := Scalar.cmpi .slt c16_i32_28 c0_i32_32
  let v88 : BitVec 32 := Scalar.extui v87
  let v89 : BitVec 32 := Scalar.subi v86 v88
  let v90 : BitVec 1 := Scalar.cmpi .ne v84 v89
  let v91 : BitVec 32 := Scalar.remsi v78 c16_i32_28
  let c0_i32_33 : BitVec 32 := 0#32
  let v92 : BitVec 1 := Scalar.cmpi .ne v91 c0_i32_33
  let v93 : BitVec 1 := Scalar.andi v90 v92
  let v79 : BitVec 32 := Scalar.divsi v78 c16_i32_28
  let c1_i32_34 : BitVec 32 := 1#32
  let v94 : BitVec 32 := Scalar.subi v79 c1_i32_34
  let v95 : BitVec 32 := Scalar.select v93 v94 v79
  let v96 : BitVec 32 := Scalar.addi v76 v95
  let c0_i32_36 : BitVec 32 := 0#32
  let v100 : BitVec 1 := Scalar.cmpi .sgt v98 c0_i32_36
  let v101 : BitVec 32 := Scalar.extui v100
  let c0_i32_37 : BitVec 32 := 0#32
  let v102 : BitVec 1 := Scalar.cmpi .slt v98 c0_i32_37
  let v103 : BitVec 32 := Scalar.extui v102
  let v104 : BitVec 32 := Scalar.subi v101 v103
  let c16_i32_35 : BitVec 32 := 16#32
  let c0_i32_38 : BitVec 32 := 0#32
  let v105 : BitVec 1 := Scalar.cmpi .sgt c16_i32_35 c0_i32_38
  let v106 : BitVec 32 := Scalar.extui v105
  let c0_i32_39 : BitVec 32 := 0#32
  let v107 : BitVec 1 := Scalar.cmpi .slt c16_i32_35 c0_i32_39
  let v108 : BitVec 32 := Scalar.extui v107
  let v109 : BitVec 32 := Scalar.subi v106 v108
  let v110 : BitVec 1 := Scalar.cmpi .ne v104 v109
  let v111 : BitVec 32 := Scalar.remsi v98 c16_i32_35
  let c0_i32_40 : BitVec 32 := 0#32
  let v112 : BitVec 1 := Scalar.cmpi .ne v111 c0_i32_40
  let v113 : BitVec 1 := Scalar.andi v110 v112
  let v99 : BitVec 32 := Scalar.divsi v98 c16_i32_35
  let c1_i32_41 : BitVec 32 := 1#32
  let v114 : BitVec 32 := Scalar.subi v99 c1_i32_41
  let v115 : BitVec 32 := Scalar.select v113 v114 v99
  let v116 : BitVec 32 := Scalar.addi v96 v115
  let c0_i32_43 : BitVec 32 := 0#32
  let v120 : BitVec 1 := Scalar.cmpi .sgt v118 c0_i32_43
  let v121 : BitVec 32 := Scalar.extui v120
  let c0_i32_44 : BitVec 32 := 0#32
  let v122 : BitVec 1 := Scalar.cmpi .slt v118 c0_i32_44
  let v123 : BitVec 32 := Scalar.extui v122
  let v124 : BitVec 32 := Scalar.subi v121 v123
  let c16_i32_42 : BitVec 32 := 16#32
  let c0_i32_45 : BitVec 32 := 0#32
  let v125 : BitVec 1 := Scalar.cmpi .sgt c16_i32_42 c0_i32_45
  let v126 : BitVec 32 := Scalar.extui v125
  let c0_i32_46 : BitVec 32 := 0#32
  let v127 : BitVec 1 := Scalar.cmpi .slt c16_i32_42 c0_i32_46
  let v128 : BitVec 32 := Scalar.extui v127
  let v129 : BitVec 32 := Scalar.subi v126 v128
  let v130 : BitVec 1 := Scalar.cmpi .ne v124 v129
  let v131 : BitVec 32 := Scalar.remsi v118 c16_i32_42
  let c0_i32_47 : BitVec 32 := 0#32
  let v132 : BitVec 1 := Scalar.cmpi .ne v131 c0_i32_47
  let v133 : BitVec 1 := Scalar.andi v130 v132
  let v119 : BitVec 32 := Scalar.divsi v118 c16_i32_42
  let c1_i32_48 : BitVec 32 := 1#32
  let v134 : BitVec 32 := Scalar.subi v119 c1_i32_48
  let v135 : BitVec 32 := Scalar.select v133 v134 v119
  let v136 : BitVec 32 := Scalar.addi v116 v135
  let c0_i32_50 : BitVec 32 := 0#32
  let v140 : BitVec 1 := Scalar.cmpi .sgt v138 c0_i32_50
  let v141 : BitVec 32 := Scalar.extui v140
  let c0_i32_51 : BitVec 32 := 0#32
  let v142 : BitVec 1 := Scalar.cmpi .slt v138 c0_i32_51
  let v143 : BitVec 32 := Scalar.extui v142
  let v144 : BitVec 32 := Scalar.subi v141 v143
  let c16_i32_49 : BitVec 32 := 16#32
  let c0_i32_52 : BitVec 32 := 0#32
  let v145 : BitVec 1 := Scalar.cmpi .sgt c16_i32_49 c0_i32_52
  let v146 : BitVec 32 := Scalar.extui v145
  let c0_i32_53 : BitVec 32 := 0#32
  let v147 : BitVec 1 := Scalar.cmpi .slt c16_i32_49 c0_i32_53
  let v148 : BitVec 32 := Scalar.extui v147
  let v149 : BitVec 32 := Scalar.subi v146 v148
  let v150 : BitVec 1 := Scalar.cmpi .ne v144 v149
  let v151 : BitVec 32 := Scalar.remsi v138 c16_i32_49
  let c0_i32_54 : BitVec 32 := 0#32
  let v152 : BitVec 1 := Scalar.cmpi .ne v151 c0_i32_54
  let v153 : BitVec 1 := Scalar.andi v150 v152
  let v139 : BitVec 32 := Scalar.divsi v138 c16_i32_49
  let c1_i32_55 : BitVec 32 := 1#32
  let v154 : BitVec 32 := Scalar.subi v139 c1_i32_55
  let v155 : BitVec 32 := Scalar.select v153 v154 v139
  let v156 : BitVec 32 := Scalar.addi v136 v155
  let c0_i32_57 : BitVec 32 := 0#32
  let v160 : BitVec 1 := Scalar.cmpi .sgt v158 c0_i32_57
  let v161 : BitVec 32 := Scalar.extui v160
  let c0_i32_58 : BitVec 32 := 0#32
  let v162 : BitVec 1 := Scalar.cmpi .slt v158 c0_i32_58
  let v163 : BitVec 32 := Scalar.extui v162
  let v164 : BitVec 32 := Scalar.subi v161 v163
  let c16_i32_56 : BitVec 32 := 16#32
  let c0_i32_59 : BitVec 32 := 0#32
  let v165 : BitVec 1 := Scalar.cmpi .sgt c16_i32_56 c0_i32_59
  let v166 : BitVec 32 := Scalar.extui v165
  let c0_i32_60 : BitVec 32 := 0#32
  let v167 : BitVec 1 := Scalar.cmpi .slt c16_i32_56 c0_i32_60
  let v168 : BitVec 32 := Scalar.extui v167
  let v169 : BitVec 32 := Scalar.subi v166 v168
  let v170 : BitVec 1 := Scalar.cmpi .ne v164 v169
  let v171 : BitVec 32 := Scalar.remsi v158 c16_i32_56
  let c0_i32_61 : BitVec 32 := 0#32
  let v172 : BitVec 1 := Scalar.cmpi .ne v171 c0_i32_61
  let v173 : BitVec 1 := Scalar.andi v170 v172
  let v159 : BitVec 32 := Scalar.divsi v158 c16_i32_56
  let c1_i32_62 : BitVec 32 := 1#32
  let v174 : BitVec 32 := Scalar.subi v159 c1_i32_62
  let v175 : BitVec 32 := Scalar.select v173 v174 v159
  let v176 : BitVec 32 := Scalar.addi v156 v175
  let v177 : BitVec 32 := Scalar.subi v176 c0_i32_63
  let c1_i32_65 : BitVec 32 := 1#32
  let v179 : BitVec 32 := Scalar.divsi v177 c1_i32_65
  let v180 : BitVec 32 := Scalar.muli v179 c1_i32_65
  let v181 : BitVec 32 := Scalar.addi c0_i32_63 v180
  let v178 : BitVec 32 := Scalar.addi c0_i32_63 v177
  let c1_i32_67 : BitVec 32 := 1#32
  ⟨v181, v178, c1_i32_67⟩

def k0_chk17 (v18 : BitVec 32) (v38 : BitVec 32) (v58 : BitVec 32) (v78 : BitVec 32) (v98 : BitVec 32) (v118 : BitVec 32) (v138 : BitVec 32) (v158 : BitVec 32) : Prop :=
  ((k0_t33_loop v18 v38 v58 v78 v98 v118 v138 v158).OK) ∧
  ((k0_t34_loop v18 v38 v58 v78 v98 v118 v138 v158).OK)
theorem k0_t33_ok : ∀ (v18 : BitVec 32) (v38 : BitVec 32) (v58 : BitVec 32) (v78 : BitVec 32) (v98 : BitVec 32) (v118 : BitVec 32) (v138 : BitVec 32) (v158 : BitVec 32) (k0_hw17 : k0_chk17 v18 v38 v58 v78 v98 v118 v138 v158), (k0_t33_loop v18 v38 v58 v78 v98 v118 v138 v158).OK := fun v18 v38 v58 v78 v98 v118 v138 v158 k0_hw17 => k0_hw17.1
theorem k0_t34_ok : ∀ (v18 : BitVec 32) (v38 : BitVec 32) (v58 : BitVec 32) (v78 : BitVec 32) (v98 : BitVec 32) (v118 : BitVec 32) (v138 : BitVec 32) (v158 : BitVec 32) (k0_hw17 : k0_chk17 v18 v38 v58 v78 v98 v118 v138 v158), (k0_t34_loop v18 v38 v58 v78 v98 v118 v138 v158).OK := fun v18 v38 v58 v78 v98 v118 v138 v158 k0_hw17 => k0_hw17.2

def k0_mult67 : BitVec 32 :=
  let c0_i32_85 : BitVec 32 := 0#32
  c0_i32_85
def k0_mult68 : BitVec 32 :=
  let c0_i32_86 : BitVec 32 := 0#32
  c0_i32_86
def k0_off164 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off165 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_87 : BitVec 32 := 0#32
  let c0_i32_88 : BitVec 32 := 0#32
  ![v9.toNat, 0, 0]
def k0_off166 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_87 : BitVec 32 := 0#32
  let c0_i32_88 : BitVec 32 := 0#32
  ![v9.toNat, 0, 0]
def k0_off167 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v202 : Index := Scalar.indexCast v9
  let c0_72 : Index := 0#32
  let c0_73 : Index := 0#32
  ![v202.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineRefIdeal.lean ====
abbrev S32x24 : Shape := ⟨2, ![32, 24]⟩
abbrev S8x2048x1024 : Shape := ⟨3, ![8, 2048, 1024]⟩
abbrev S8x16384 : Shape := ⟨2, ![8, 16384]⟩
abbrev S44032x1024 : Shape := ⟨2, ![44032, 1024]⟩
abbrev S1024 : Shape := ⟨1, ![1024]⟩
abbrev S32x512x24 : Shape := ⟨3, ![32, 512, 24]⟩
abbrev S16384x24 : Shape := ⟨2, ![16384, 24]⟩
abbrev S16384x8 : Shape := ⟨2, ![16384, 8]⟩
abbrev S1x16384 : Shape := ⟨2, ![1, 16384]⟩
abbrev S16384 : Shape := ⟨1, ![16384]⟩
abbrev S16384x1 : Shape := ⟨2, ![16384, 1]⟩
abbrev S_ : Shape := ⟨0, ![]⟩
abbrev S16384x1024 : Shape := ⟨2, ![16384, 1024]⟩
abbrev S1x1024 : Shape := ⟨2, ![1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S32x24, .i32⟩
  | .hbm, ⟨1, _⟩ => ⟨S8x2048x1024, .f32⟩
  | .hbm, ⟨2, _⟩ => ⟨S8x16384, .f32⟩
  | .hbm, ⟨3, _⟩ => ⟨S44032x1024, .bf16⟩
  | .hbm, ⟨4, _⟩ => ⟨S1024, .f32⟩
  | .hbm, ⟨5, _⟩ => ⟨S32x512x24, .i32⟩
  | .hbm, ⟨6, _⟩ => ⟨S16384x24, .i32⟩
  | .hbm, ⟨7, _⟩ => ⟨S16384x8, .i32⟩
  | .hbm, ⟨8, _⟩ => ⟨S16384x8, .i32⟩
  | .hbm, ⟨9, _⟩ => ⟨S16384x8, .i32⟩
  | .hbm, ⟨10, _⟩ => ⟨S44032x1024, .f32⟩
  | .hbm, ⟨11, _⟩ => ⟨S1x16384, .f32⟩
  | .hbm, ⟨12, _⟩ => ⟨S16384, .f32⟩
  | .hbm, ⟨13, _⟩ => ⟨S16384x1, .f32⟩
  | .hbm, ⟨14, _⟩ => ⟨S1x16384, .f32⟩
  | .hbm, ⟨15, _⟩ => ⟨S16384, .f32⟩
  | .hbm, ⟨16, _⟩ => ⟨S16384, .i32⟩
  | .hbm, ⟨17, _⟩ => ⟨S16384x1, .i32⟩
  | .hbm, ⟨18, _⟩ => ⟨S16384x8, .i32⟩
  | .hbm, ⟨19, _⟩ => ⟨S16384x8, .i1⟩
  | .hbm, ⟨20, _⟩ => ⟨S16384x8, .i32⟩
  | .hbm, ⟨21, _⟩ => ⟨S16384x8, .i32⟩
  | .hbm, ⟨22, _⟩ => ⟨S16384x8, .i1⟩
  | .hbm, ⟨23, _⟩ => ⟨S16384x8, .i1⟩
  | .hbm, ⟨24, _⟩ => ⟨S16384x8, .i32⟩
  | .hbm, ⟨25, _⟩ => ⟨S16384x8, .i32⟩
  | .hbm, ⟨26, _⟩ => ⟨S16384x8, .i32⟩
  | .hbm, ⟨27, _⟩ => ⟨S_, .i32⟩
  | .hbm, ⟨28, _⟩ => ⟨S_, .i32⟩
  | .hbm, ⟨29, _⟩ => ⟨S16384x8, .i32⟩
  | .hbm, ⟨30, _⟩ => ⟨S16384x8, .i32⟩
  | .hbm, ⟨31, _⟩ => ⟨S_, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S1x16384, .f32⟩
  | .hbm, ⟨45, _⟩ => ⟨S16384, .f32⟩
  | .hbm, ⟨46, _⟩ => ⟨S16384x1, .f32⟩
  | .hbm, ⟨47, _⟩ => ⟨S1x16384, .f32⟩
  | .hbm, ⟨48, _⟩ => ⟨S16384, .f32⟩
  | .hbm, ⟨49, _⟩ => ⟨S16384, .i32⟩
  | .hbm, ⟨50, _⟩ => ⟨S16384x1, .i32⟩
  | .hbm, ⟨51, _⟩ => ⟨S16384x8, .i32⟩
  | .hbm, ⟨52, _⟩ => ⟨S16384x8, .i1⟩
  | .hbm, ⟨53, _⟩ => ⟨S16384x8, .i32⟩
  | .hbm, ⟨54, _⟩ => ⟨S16384x8, .i32⟩
  | .hbm, ⟨55, _⟩ => ⟨S16384x8, .i1⟩
  | .hbm, ⟨56, _⟩ => ⟨S16384x8, .i1⟩
  | .hbm, ⟨57, _⟩ => ⟨S16384x8, .i32⟩
  | .hbm, ⟨58, _⟩ => ⟨S16384x8, .i32⟩
  | .hbm, ⟨59, _⟩ => ⟨S16384x8, .i32⟩
  | .hbm, ⟨60, _⟩ => ⟨S_, .i32⟩
  | .hbm, ⟨61, _⟩ => ⟨S_, .i32⟩
  | .hbm, ⟨62, _⟩ => ⟨S16384x8, .i32⟩
  | .hbm, ⟨63, _⟩ => ⟨S16384x8, .i32⟩
  | .hbm, ⟨64, _⟩ => ⟨S_, .i32⟩
  | .hbm, ⟨65, _⟩ => ⟨S16384, .i32⟩
  | .hbm, ⟨66, _⟩ => ⟨S_, .i32⟩
  | .hbm, ⟨67, _⟩ => ⟨S16384, .i32⟩
  | .hbm, ⟨68, _⟩ => ⟨S16384, .i1⟩
  | .hbm, ⟨69, _⟩ => ⟨S_, .i32⟩
  | .hbm, ⟨70, _⟩ => ⟨S16384, .i32⟩
  | .hbm, ⟨71, _⟩ => ⟨S16384, .i32⟩
  | .hbm, ⟨72, _⟩ => ⟨S16384, .i32⟩
  | .hbm, ⟨73, _⟩ => ⟨S16384x1, .i32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384x1, .f32⟩
  | .hbm, ⟨91, _⟩ => ⟨S16384x1024, .f32⟩
  | .hbm, ⟨92, _⟩ => ⟨S16384x1024, .f32⟩
  | .hbm, ⟨93, _⟩ => ⟨S1x1024, .f32⟩
  | .hbm, ⟨94, _⟩ => ⟨S16384x1024, .f32⟩
  | .hbm, ⟨95, _⟩ => ⟨S16384x1024, .f32⟩
  | _, _ => ⟨S32x24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_v22 : Ref sig .tc := ⟨.hbm, 30, rfl⟩
abbrev main_c_0 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_3 : Ref sig .tc := ⟨.hbm, 60, rfl⟩
abbrev main_call1_v0 : Ref sig .tc := ⟨.hbm, 61, rfl⟩
abbrev main_call1_v1 : Ref sig .tc := ⟨.hbm, 62, rfl⟩
abbrev main_v49 : Ref sig .tc := ⟨.hbm, 63, rfl⟩
abbrev main_c_4 : Ref sig .tc := ⟨.hbm, 64, rfl⟩
abbrev main_v50 : Ref sig .tc := ⟨.hbm, 65, rfl⟩
abbrev main_c_5 : Ref sig .tc := ⟨.hbm, 66, rfl⟩
abbrev main_v51 : Ref sig .tc := ⟨.hbm, 67, rfl⟩
abbrev main_v52 : Ref sig .tc := ⟨.hbm, 68, rfl⟩
abbrev main_c_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Gmlp.lean ====
abbrev S8x2048x1024 : Shape := ⟨3, ![8, 2048, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S16384x1024 : Shape := ⟨2, ![16384, 1024]⟩
abbrev S1024 : Shape := ⟨1, ![1024]⟩
abbrev S1024x2048 : Shape := ⟨2, ![1024, 2048]⟩
abbrev S8x128x128 : Shape := ⟨3, ![8, 128, 128]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 24
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2048, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x1024x1024, .f32⟩
  | .hbm, ⟨8, _⟩ => ⟨S8x128, .f32⟩
  | .hbm, ⟨9, _⟩ => ⟨S128x8, .f32⟩
  | .hbm, ⟨10, _⟩ => ⟨S128x8x128, .f32⟩
  | .hbm, ⟨11, _⟩ => ⟨S128x1024, .f32⟩
  | .hbm, ⟨12, _⟩ => ⟨S16384x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024x2048, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8x128x128, .f32⟩
  | .hbm, ⟨22, _⟩ => ⟨S1024x1024, .f32⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x1024, .f32⟩
  | .local _ .vmem, ⟨8, _⟩ => ⟨S1024x1024, .f32⟩
  | .local _ .vmem, ⟨9, _⟩ => ⟨S512x1024, .f32⟩
  | .local _ .vmem, ⟨10, _⟩ => ⟨S512x1024, .f32⟩
  | .local _ .vmem, ⟨11, _⟩ => ⟨S1024x2048, .bf16⟩
  | .local _ .vmem, ⟨12, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GmlpRefIdeal.lean ====
abbrev S8x2048x1024 : Shape := ⟨3, ![8, 2048, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S8x2048x2048 : Shape := ⟨3, ![8, 2048, 2048]⟩
abbrev S8x16x128x8x128 : Shape := ⟨5, ![8, 16, 128, 8, 128]⟩
abbrev S128x128 : Shape := ⟨2, ![128, 128]⟩
abbrev S1x128x128 : Shape := ⟨3, ![1, 128, 128]⟩
abbrev S8x8x16x128x128 : Shape := ⟨5, ![8, 8, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S16384x1024 : Shape := ⟨2, ![16384, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2048, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x1024x1024, .f32⟩
  | .hbm, ⟨8, _⟩ => ⟨S1x1024, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S1024x2048, .f32⟩
  | .hbm, ⟨27, _⟩ => ⟨S1024, .f32⟩
  | .hbm, ⟨28, _⟩ => ⟨S1024, .f32⟩
  | .hbm, ⟨29, _⟩ => ⟨S8x128x128, .f32⟩
  | .hbm, ⟨30, _⟩ => ⟨S8x128, .f32⟩
  | .hbm, ⟨31, _⟩ => ⟨S1024x1024, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x1, .f32⟩
  | .hbm, ⟨73, _⟩ => ⟨S8x2048x1024, .f32⟩
  | .hbm, ⟨74, _⟩ => ⟨S8x2048x1024, .f32⟩
  | .hbm, ⟨75, _⟩ => ⟨S1x1x1024, .f32⟩
  | .hbm, ⟨76, _⟩ => ⟨S8x2048x1024, .f32⟩
  | .hbm, ⟨77, _⟩ => ⟨S8x2048x1024, .f32⟩
  | .hbm, ⟨78, _⟩ => ⟨S1x1x1024, .f32⟩
  | .hbm, ⟨79, _⟩ => ⟨S8x2048x1024, .f32⟩
  | .hbm, ⟨80, _⟩ => ⟨S8x2048x1024, .f32⟩
  | .hbm, ⟨81, _⟩ => ⟨S8x16x128x8x128, .f32⟩
  | .hbm, ⟨82, _⟩ => ⟨S_, .i1⟩
  | .hbm, ⟨83, _⟩ => ⟨S128x128, .i1⟩
  | .hbm, ⟨84, _⟩ => ⟨S128x128, .i32⟩
  | .hbm, ⟨85, _⟩ => ⟨S_, .i32⟩
  | .hbm, ⟨86, _⟩ => ⟨S128x128, .i32⟩
  | .hbm, ⟨87, _⟩ => ⟨S128x128, .i32⟩
  | .hbm, ⟨88, _⟩ => ⟨S128x128, .i32⟩
  | .hbm, ⟨89, _⟩ => ⟨S128x128, .i1⟩
  | .hbm, ⟨90, _⟩ => ⟨S_, .i1⟩
  | .hbm, ⟨91, _⟩ => ⟨S128x128, .i1⟩
  | .hbm, ⟨92, _⟩ => ⟨S128x128, .i1⟩
  | .hbm, ⟨93, _⟩ => ⟨S1x128x128, .i1⟩
  | .hbm, ⟨94, _⟩ => ⟨S_, .f32⟩
  | .hbm, ⟨95, _⟩ => ⟨S8x128x128, .i1⟩
  | .hbm, ⟨96, _⟩ => ⟨S8x128x128, .f32⟩
  | .hbm, ⟨97, _⟩ => ⟨S8x128x128, .f32⟩
  | .hbm, ⟨98, _⟩ => ⟨S8x8x16x128x128, .f32⟩
  | .hbm, ⟨99, _⟩ => ⟨S8x16x128x8x128, .f32⟩
  | .hbm, ⟨100, _⟩ => ⟨S128x8, .f32⟩
  | .hbm, ⟨101, _⟩ => ⟨S128x8x1, .f32⟩
  | .hbm, ⟨102, _⟩ => ⟨S1x1x128x8x1, .f32⟩
  | .hbm, ⟨103, _⟩ => ⟨S8x16x128x8x128, .f32⟩
  | .hbm, ⟨104, _⟩ => ⟨S8x16x128x8x128, .f32⟩
  | .hbm, ⟨105, _⟩ => ⟨S8x2048x1024, .f32⟩
  | .hbm, ⟨106, _⟩ => ⟨S8x2048x1024, .f32⟩
  | .hbm, ⟨107, _⟩ => ⟨S8x2048x1024, .f32⟩
  | .hbm, ⟨108, _⟩ => ⟨S8x2048x1024, .f32⟩
  | .hbm, ⟨109, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c : Ref sig .tc := ⟨.hbm, 82, rfl⟩
abbrev main_v62 : Ref sig .tc := ⟨.hbm, 83, rfl⟩
abbrev main_call0_v0 : Ref sig .tc := ⟨.hbm, 84, rfl⟩
abbrev main_call0_c : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_c_0 : Ref sig .tc := ⟨.hbm, 90, rfl⟩
abbrev main_call0_v5 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_call1_v0 : Ref sig .tc := ⟨.hbm, 95, rfl⟩
abbrev main_call1_v1 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]
-- ==== OutProj.lean ====
abbrev S8x2048x1024 : Shape := ⟨3, ![8, 2048, 1024]⟩
abbrev S8x16384x128 : Shape := ⟨3, ![8, 16384, 128]⟩
abbrev S1x1024x1024 : Shape := ⟨3, ![1, 1024, 1024]⟩
abbrev S16384x1024 : Shape := ⟨2, ![16384, 1024]⟩
abbrev S1024x1024 : Shape := ⟨2, ![1024, 1024]⟩
abbrev S8x1024x128 : Shape := ⟨3, ![8, 1024, 128]⟩
abbrev S1x1024x128 : Shape := ⟨3, ![1, 1024, 128]⟩
abbrev S1024x128 : Shape := ⟨2, ![1024, 128]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x16384x128, .bf16⟩
  | .hbm, ⟨2, _⟩ => ⟨S1x1024x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024x128, .bf16⟩
  | .local _ .vmem, ⟨3, _⟩ => ⟨S8x1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S8x2048x1024 : Shape := ⟨3, ![8, 2048, 1024]⟩
abbrev S8x16384x128 : Shape := ⟨3, ![8, 16384, 128]⟩
abbrev S1x1024x1024 : Shape := ⟨3, ![1, 1024, 1024]⟩
abbrev S8x8x2048x128 : Shape := ⟨4, ![8, 8, 2048, 128]⟩
abbrev S8x2048x8x128 : Shape := ⟨4, ![8, 2048, 8, 128]⟩
abbrev S1024x1024 : Shape := ⟨2, ![1024, 1024]⟩
abbrev S16384x1024 : Shape := ⟨2, ![16384, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x16384x128, .bf16⟩
  | .hbm, ⟨2, _⟩ => ⟨S1x1024x1024, .f32⟩
  | .hbm, ⟨3, _⟩ => ⟨S8x16384x128, .f32⟩
  | .hbm, ⟨4, _⟩ => ⟨S8x8x2048x128, .f32⟩
  | .hbm, ⟨5, _⟩ => ⟨S8x2048x8x128, .f32⟩
  | .hbm, ⟨6, _⟩ => ⟨S8x2048x1024, .f32⟩
  | .hbm, ⟨7, _⟩ => ⟨S1024x1024, .f32⟩
  | .hbm, ⟨8, _⟩ => ⟨S8x2048x1024, .f32⟩
  | .hbm, ⟨9, _⟩ => ⟨S8x2048x1024, .f32⟩
  | .hbm, ⟨10, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.FfnPay.lean ====
/- What a point of the SwiGLU kernel stores: the stored terms of each case, and the four payloads read at an index. -/
module

public import proofs.«01_k».proof.Proof.Gen.FfnIdeal.Frame
public import Idealize.ShloMosaic.Lib.Pipeline.Value
public import Idealize.ShloMosaic.Lib.Pointwise
public import Idealize.ShloMosaic.Lib.ValueIdx
public import Idealize.ShloMosaic.Lib.Tactic

@[expose] public section

noncomputable section

namespace Cert.FfnIdeal.Hand

open Cert.FfnIdeal Cert.FfnIdeal.Gen Idealize.ShloMosaic Idealize.ShloMosaic.TcCoe Idealize.SL.Sem

theorem hz : (![0, 0] : Fin 2 → Nat) = fun _ => 0 := funext fun a => by fin_cases a <;> rfl

section Cases

variable {F : FTy → Type} [FloatOps F]

/-- The first point of a row block leaves the scaled rows in the hidden scratch. -/
theorem hid_A (c : Dev nD) (i : grid0.Coords) (a2 : Memref sig .tc .vmem S1024x1024 .f32) (h2 : a2.IsWhole) (a3 : Memref sig .tc .vmem S1x1024 .f32) (h3 : a3.IsWhole) (a4 : Memref sig .tc .vmem S1024x512 .f32) (h4 : a4.IsWhole) (a5 : Memref sig .tc .vmem S1024x512 .f32) (h5 : a5.IsWhole) (a6 : Memref sig .tc .vmem S512x1024 .f32) (h6 : a6.IsWhole) (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole) (hc0 : cond0_0 i) (hc1 : ¬cond0_1 i)
    (x0 : Vec F S1024x1024 .f32) (x1 : Vec F S1x1024 .f32) (x2 x3 : Vec F S1024x512 .f32) (x4 : Vec F S512x1024 .f32) :
    sout0_A_0 c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  try sl_unfold_words
  rw [View.canon_unit_zero hz]
  simp only [View.readAt_eq_ld, h2.read_unread, h3.read_unread, h4.read_unread, h5.read_unread, h6.read_unread, h8.read_unread, h9.read_unread, View.ld_unit_zero (S := S1024x1024) hz, View.ld_unit_zero (S := S1x1024) hz, View.ld_unit_zero (S := S1024x512) hz, View.ld_unit_zero (S := S512x1024) hz]

/-- The first point of a row block starts the running sum from zero. -/
theorem acc_A (c : Dev nD) (i : grid0.Coords) (a2 : Memref sig .tc .vmem S1024x1024 .f32) (h2 : a2.IsWhole) (a3 : Memref sig .tc .vmem S1x1024 .f32) (h3 : a3.IsWhole) (a4 : Memref sig .tc .vmem S1024x512 .f32) (h4 : a4.IsWhole) (a5 : Memref sig .tc .vmem S1024x512 .f32) (h5 : a5.IsWhole) (a6 : Memref sig .tc .vmem S512x1024 .f32) (h6 : a6.IsWhole) (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole) (hc0 : cond0_0 i) (hc1 : ¬cond0_1 i)
    (x0 : Vec F S1024x1024 .f32) (x1 : Vec F S1x1024 .f32) (x2 x3 : Vec F S1024x512 .f32) (x4 : Vec F S512x1024 .f32) :
    sout0_A_1 c i a2 h2 a3 h3 a4 h4 a5 h5 a6 h6 a7 h7 a8 h8 a9 h9 hc0 hc1 x0 x1 x2 x3 x4 = k0_pay3 (k0_pay1 x0 x1) x2 x3 k0_pay2 x4 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz, View.readCov_unit_zero (S := S1024x1024) _ hz]
  simp only [View.readAt_eq_ld, h2.read_unread, h3.read_unread, h4.read_unread, h5.read_unread, h6.read_unread, h8.read_unread, h9.read_unread, View.ld_unit_zero (S := S1024x1024) hz, View.ld_unit_zero (S := S1x1024) hz, View.ld_unit_zero (S := S1024x512) hz, View.ld_unit_zero (S := S512x1024) hz]

/-- A middle point adds its share to the running sum. -/
theorem acc_B (c : Dev nD) (i : grid0.Coords) (a2 : Memref sig .tc .vmem S1024x1024 .f32) (h2 : a2.IsWhole) (a3 : Memref sig .tc .vmem S1x1024 .f32) (h3 : a3.IsWhole) (a4 : Memref sig .tc .vmem S1024x512 .f32) (h4 : a4.IsWhole) (a5 : Memref sig .tc .vmem S1024x512 .f32) (h5 : a5.IsWhole) (a6 : Memref sig .tc .vmem S512x1024 .f32) (h6 : a6.IsWhole) (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole) (hc0 : ¬cond0_0 i) (hc1 : ¬cond0_1 i)
    (x0 : Vec F S1024x1024 .f32) (x1 : Vec F S1x1024 .f32) (x2 x3 : Vec F S1024x512 .f32) (x4 : Vec F S512x1024 .f32) (s0 : Vec F S1024x1024 .bf16) (s1 : Vec F S1024x1024 .f32) :
    sout0_B_1 c i a2 h2 a3 h3 a4 h4 a5 h5 a6 h6 a7 h7 a8 h8 a9 h9 hc0 hc1 x0 x1 x2 x3 x4 s0 s1 = k0_pay3 s0 x2 x3 s1 x4 := by
  unfold sout0_B_1
  rw [View.read_writes_eq_canon _ _ _ (scover0_B_1 c i a2 h2 a3 h3 a4 h4 a5 h5 a6 h6 a7 h7 a8 h8 a9 h9 hc0 hc1 x0 x1 x2 x3 x4 s0 s1)]
  unfold kernelRun0_B
  dsimp only
  try sl_unfold_words
  rw [View.canon_unit_zero hz]
  simp only [View.readAt_eq_ld, h2.read_unread, h3.read_unread, h4.read_unread, h5.read_unread, h6.read_unread, h8.read_unread, h9.read_unread, View.ld_unit_zero (S := S1024x1024) hz, View.ld_unit_zero (S := S1x1024) hz, View.ld_unit_zero (S := S1024x512) hz, View.ld_unit_zero (S := S512x1024) hz]

/-- The last point adds its share to the running sum. -/
theorem acc_C (c : Dev nD) (i : grid0.Coords) (a2 : Memref sig .tc .vmem S1024x1024 .f32) (h2 : a2.IsWhole) (a3 : Memref sig .tc .vmem S1x1024 .f32) (h3 : a3.IsWhole) (a4 : Memref sig .tc .vmem S1024x512 .f32) (h4 : a4.IsWhole) (a5 : Memref sig .tc .vmem S1024x512 .f32) (h5 : a5.IsWhole) (a6 : Memref sig .tc .vmem S512x1024 .f32) (h6 : a6.IsWhole) (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole) (hc0 : ¬cond0_0 i) (hc1 : cond0_1 i)
    (x0 : Vec F S1024x1024 .f32) (x1 : Vec F S1x1024 .f32) (x2 x3 : Vec F S1024x512 .f32) (x4 : Vec F S512x1024 .f32) (s0 : Vec F S1024x1024 .bf16) (s1 : Vec F S1024x1024 .f32) :
    sout0_C_1 c i a2 h2 a3 h3 a4 h4 a5 h5 a6 h6 a7 h7 a8 h8 a9 h9 hc0 hc1 x0 x1 x2 x3 x4 s0 s1 = k0_pay3 s0 x2 x3 s1 x4 := by
  unfold sout0_C_1
  rw [View.read_writes_eq_canon _ _ _ (scover0_C_1 c i a2 h2 a3 h3 a4 h4 a5 h5 a6 h6 a7 h7 a8 h8 a9 h9 hc0 hc1 x0 x1 x2 x3 x4 s0 s1)]
  unfold kernelRun0_C
  dsimp only
  try sl_unfold_words
  rw [View.canon_unit_zero hz]
  simp only [View.readAt_eq_ld, h2.read_unread, h3.read_unread, h4.read_unread, h5.read_unread, h6.read_unread, h8.read_unread, h9.read_unread, View.ld_unit_zero (S := S1024x1024) hz, View.ld_unit_zero (S := S1x1024) hz, View.ld_unit_zero (S := S1024x512) hz, View.ld_unit_zero (S := S512x1024) hz]

/-- The last point writes the rows plus the running sum. -/
theorem out_C (c : Dev nD) (i : grid0.Coords) (a2 : Memref sig .tc .vmem S1024x1024 .f32) (h2 : a2.IsWhole) (a3 : Memref sig .tc .vmem S1x1024 .f32) (h3 : a3.IsWhole) (a4 : Memref sig .tc .vmem S1024x512 .f32) (h4 : a4.IsWhole) (a5 : Memref sig .tc .vmem S1024x512 .f32) (h5 : a5.IsWhole) (a6 : Memref sig .tc .vmem S512x1024 .f32) (h6 : a6.IsWhole) (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole) (hc0 : ¬cond0_0 i) (hc1 : cond0_1 i)
    (x0 : Vec F S1024x1024 .f32) (x1 : Vec F S1x1024 .f32) (x2 x3 : Vec F S1024x512 .f32) (x4 : Vec F S512x1024 .f32) (s0 : Vec F S1024x1024 .bf16) (s1 : Vec F S1024x1024 .f32) :
    out0_C_5 c i a2 h2 a3 h3 a4 h4 a5 h5 a6 h6 a7 h7 a8 h8 a9 h9 hc0 hc1 x0 x1 x2 x3 x4 s0 s1 = k0_pay4 x0 (k0_pay3 s0 x2 x3 s1 x4) := by
  unfold out0_C_5
  rw [View.read_writes_eq_canon _ _ _ (cover0_C_5 c i a2 h2 a3 h3 a4 h4 a5 h5 a6 h6 a7 h7 a8 h8 a9 h9 hc0 hc1 x0 x1 x2 x3 x4 s0 s1)]
  unfold kernelRun0_C
  dsimp only
  sl_unfold_words
  rw [View.canon_unit_zero hz, View.readCov_unit_zero (S := S1024x1024) _ hz]
  simp only [View.readAt_eq_ld, h2.read_unread, h3.read_unread, h4.read_unread, h5.read_unread, h6.read_unread, h8.read_unread, h9.read_unread, View.ld_unit_zero (S := S1024x1024) hz, View.ld_unit_zero (S := S1x1024) hz, View.ld_unit_zero (S := S1024x512) hz, View.ld_unit_zero (S := S512x1024) hz]

end Cases

/-! ## The payloads at an index -/

theorem pay1_apply (x : Vec Ideal S1024x1024 .f32) (g : Vec Ideal S1x1024 .f32) (i : S1024x1024.Idx) :
    k0_pay1 (F := Ideal) x g i = x i * Ideal.rsqrt (Ideal.div (∑ q, x (ix2 (i 0) q) * x (ix2 (i 0) q)) (Ideal.ofBits .f32 0x44800000#32)
      + Ideal.ofBits .f32 0x358637BD#32) * g (ix2 0 (i 1)) := by
  unfold k0_pay1
  pointwise
  first | done | rfl

theorem pay2_apply (i : S1024x1024.Idx) : k0_pay2 (F := Ideal) i = 0 := by
  unfold k0_pay2
  pointwise

theorem pay3_apply (h : Vec Ideal S1024x1024 .bf16) (wg wu : Vec Ideal S1024x512 .f32) (acc : Vec Ideal S1024x1024 .f32)
    (wd : Vec Ideal S512x1024 .f32) (i : S1024x1024.Idx) :
    k0_pay3 (F := Ideal) h wg wu acc wd i = acc i + ∑ q, ((∑ k, h (ix2 (i 0) k) * wg (ix2 k q))
      * Ideal.logistic (∑ k, h (ix2 (i 0) k) * wg (ix2 k q)) * ∑ k, h (ix2 (i 0) k) * wu (ix2 k q)) * wd (ix2 q (i 1)) := by
  unfold k0_pay3
  pointwise
  first | done | rfl

theorem pay4_apply (x acc : Vec Ideal S1024x1024 .f32) (i : S1024x1024.Idx) : k0_pay4 (F := Ideal) x acc i = x i + acc i := by
  unfold k0_pay4
  pointwise

end Cert.FfnIdeal.Hand

end
-- ==== Proof.Spec.lean ====
/- The mathematics the layers share, over the extended reals and natural-number indices: the scaled row, the gated
   hidden unit, the output of a gated two-layer network, and the sum over the hidden units taken 512 at a time. -/
module

public import Idealize.ShloMosaic.Lib.Pointwise
public import Idealize.ShloMosaic.Lib.ValueIdx

@[expose] public section

noncomputable section

namespace Cert.Spec

open Idealize.ShloMosaic

/-- A row scaled by the reciprocal root of its mean square and by the gain. -/
def scaled (X : ℕ → ℕ → EReal) (g : ℕ → EReal) (r k : ℕ) : EReal :=
  X r k * Ideal.rsqrt (Ideal.div (∑ q : Fin 1024, X r q * X r q) (Ideal.ofBits .f32 0x44800000#32)
    + Ideal.ofBits .f32 0x358637BD#32) * g k

/-- Column `f` of the first product. -/
def lin (H W : ℕ → ℕ → EReal) (r f : ℕ) : EReal := ∑ k : Fin 1024, H r k * W k f

/-- Hidden unit `f`: the gate, its logistic and the second half of the first product, multiplied. -/
def unit (H W : ℕ → ℕ → EReal) (r f : ℕ) : EReal :=
  lin H W r f * Ideal.logistic (lin H W r f) * lin H W r (3584 + f)

/-- The network's output. -/
def net (H W D : ℕ → ℕ → EReal) (r j : ℕ) : EReal := ∑ f : Fin 3584, unit H W r f * D f j

/-- The share of the hidden units `512·s … 512·s + 511` in the output. -/
def share (H W D : ℕ → ℕ → EReal) (r j s : ℕ) : EReal :=
  ∑ q : Fin 512, unit H W r (512 * s + q) * D (512 * s + q) j

/-- The first `n` shares. -/
def upto (H W D : ℕ → ℕ → EReal) (r j n : ℕ) : EReal := ∑ s ∈ Finset.range n, share H W D r j s

theorem upto_succ (H W D : ℕ → ℕ → EReal) (r j n : ℕ) : upto H W D r j (n + 1) = upto H W D r j n + share H W D r j n :=
  Finset.sum_range_succ _ _

theorem upto_one (H W D : ℕ → ℕ → EReal) (r j : ℕ) : upto H W D r j 1 = 0 + share H W D r j 0 := by
  rw [upto_succ]; rfl

/-- A sum over the first `w * n` numbers, taken `w` at a time. -/
theorem sum_chunks (g : ℕ → EReal) (w n : ℕ) :
    ∑ s ∈ Finset.range n, ∑ q ∈ Finset.range w, g (w * s + q) = ∑ f ∈ Finset.range (w * n), g f := by
  induction n with
  | zero => rfl
  | succ n ih => rw [Finset.sum_range_succ, ih, Nat.mul_succ, Finset.sum_range_add]

/-- All seven shares together are the output. -/
theorem upto_seven (H W D : ℕ → ℕ → EReal) (r j : ℕ) : upto H W D r j 7 = net H W D r j := by
  unfold upto net share
  rw [Fin.sum_univ_eq_sum_range (fun f => unit H W r f * D f j) 3584]
  have h := sum_chunks (fun f => unit H W r f * D f j) 512 7
  refine Eq.trans (Finset.sum_congr rfl fun s _ => ?_) h
  exact Fin.sum_univ_eq_sum_range (fun q => unit H W r (512 * s + q) * D (512 * s + q) j) 512

/-- A zero row gives nothing. -/
theorem lin_zero (H W : ℕ → ℕ → EReal) (r f : ℕ) (h : ∀ k, k < 1024 → H r k = 0) : lin H W r f = 0 :=
  Finset.sum_eq_zero fun k _ => by rw [h k.val k.isLt, zero_mul]

theorem unit_zero (H W : ℕ → ℕ → EReal) (r f : ℕ) (h : ∀ k, k < 1024 → H r k = 0) : unit H W r f = 0 := by
  unfold unit
  rw [lin_zero H W r f h, zero_mul, zero_mul]

theorem share_zero (H W D : ℕ → ℕ → EReal) (r j s : ℕ) (h : ∀ k, k < 1024 → H r k = 0) : share H W D r j s = 0 :=
  Finset.sum_eq_zero fun q _ => by rw [unit_zero H W r _ h, zero_mul]

end Cert.Spec

end
-- ==== Proof.FfnFold.lean ====
/- What the SwiGLU kernel's array ends holding: the running sum through the seven points of a row block, from the
   stored terms of each case, and the array read at an index. -/
module

public import proofs.«01_k».proof.Proof.FfnPay
public import proofs.«01_k».proof.Proof.Spec
public import proofs.«01_k».proof.Proof.Gen.FfnIdeal.Value
public import Idealize.ShloMosaic.Lib.StableHlo.Run

@[expose] public section

noncomputable section

namespace Cert.FfnIdeal.Hand

open Cert.FfnIdeal Cert.FfnIdeal.Gen Cert.FfnIdeal.Value Idealize.ShloMosaic Idealize.ShloMosaic.TcCoe Idealize.SL.Sem

variable (m : (ℓ : Loc nD τ sig) → Buf (Elt Ideal) ℓ)

/-! ## The arguments over natural-number indices -/

/-- Row `r` of `x`, its two leading axes taken as one. -/
def X (c : Dev nD) (r k : ℕ) : EReal :=
  (m ((c : Thread nD τ).loc main_arg0) : S8x2048x1024.Idx → EReal) (ix3 (Fin.ofNat 8 (r / 2048)) (Fin.ofNat 2048 r) (Fin.ofNat 1024 k))
/-- The layer's gain. -/
def gain (c : Dev nD) (k : ℕ) : EReal :=
  (m ((c : Thread nD τ).loc main_arg1) : S2x1024.Idx → EReal) (ix2 0 (Fin.ofNat 1024 k))
/-- The first weight. -/
def W (c : Dev nD) (k f : ℕ) : EReal :=
  (m ((c : Thread nD τ).loc main_arg2) : S1x1024x7168.Idx → EReal) (ix3 0 (Fin.ofNat 1024 k) (Fin.ofNat 7168 f))
/-- The second weight. -/
def D (c : Dev nD) (f j : ℕ) : EReal :=
  (m ((c : Thread nD τ).loc main_arg3) : S1x3584x1024.Idx → EReal) (ix3 0 (Fin.ofNat 3584 f) (Fin.ofNat 1024 j))

/-- The scaled rows. -/
abbrev H (c : Dev nD) : ℕ → ℕ → EReal := Spec.scaled (X m c) (gain m c)

/-! ## The arrays the windows read -/

theorem V0 (c : Dev nD) : (V m c main_v0 : S16384x1024.Idx → EReal)
    = shapeCast S16384x1024 (m ((c : Thread nD τ).loc main_arg0) : Vec Ideal S8x2048x1024 .f32) shapeCasts_S8x2048x1024_S16384x1024 := by
  show StableHlo.after hostOps0 _ _ = _
  after_results_simp <;> rfl

theorem V3 (c : Dev nD) : (V m c main_v3 : S1x1024.Idx → EReal)
    = shapeCast S1x1024 (shapeCast S1024 (extractStridedSlice S1x1024 ![0, 0] (m ((c : Thread nD τ).loc main_arg1) : Vec Ideal S2x1024 .f32) slices_S2x1024_S1x1024_0_0) shapeCasts_S1x1024_S1024) shapeCasts_S1024_S1x1024 := by
  show StableHlo.after hostOps0 _ _ = _
  after_results_simp <;> rfl

theorem V4 (c : Dev nD) : (V m c main_v4 : S1024x7168.Idx → EReal)
    = shapeCast S1024x7168 (m ((c : Thread nD τ).loc main_arg2) : Vec Ideal S1x1024x7168 .f32) shapeCasts_S1x1024x7168_S1024x7168 := by
  show StableHlo.after hostOps0 _ _ = _
  after_results_simp <;> rfl

theorem V5 (c : Dev nD) : (V m c main_v5 : S3584x1024.Idx → EReal)
    = shapeCast S3584x1024 (m ((c : Thread nD τ).loc main_arg3) : Vec Ideal S1x3584x1024 .f32) shapeCasts_S1x3584x1024_S3584x1024 := by
  show StableHlo.after hostOps0 _ _ = _
  after_results_simp <;> rfl

theorem V0_apply (c : Dev nD) (i : S16384x1024.Idx) : (V m c main_v0 : S16384x1024.Idx → EReal) i = X m c (i 0).val (i 1).val := by
  rw [V0]
  exact shapeCast_apply (m ((c : Thread nD τ).loc main_arg0) : S8x2048x1024.Idx → EReal) shapeCasts_S8x2048x1024_S16384x1024 i
    (ix3 (Fin.ofNat 8 ((i 0).val / 2048)) (Fin.ofNat 2048 (i 0).val) (Fin.ofNat 1024 (i 1).val)) (by
      show (Shape.rowMajor (s := S8x2048x1024) (ix3 (Fin.ofNat 8 ((i 0).val / 2048)) (Fin.ofNat 2048 (i 0).val) (Fin.ofNat 1024 (i 1).val))).val = (Shape.rowMajor (s := S16384x1024) i).val
      rw [Shape.rowMajor_val_three, Shape.rowMajor_val_two]
      have h0 : (i 0).val < 16384 := (i 0).isLt
      have h1 : (i 1).val < 1024 := (i 1).isLt
      show (((i 0).val / 2048 % 8) * 2048 + (i 0).val % 2048) * 1024 + (i 1).val % 1024 = (i 0).val * 1024 + (i 1).val
      omega)

theorem V3_apply (c : Dev nD) (i : S1x1024.Idx) : (V m c main_v3 : S1x1024.Idx → EReal) i = gain m c (i 1).val := by
  have h0 : (i 0).val < 1 := (i 0).isLt
  have h1 : (i 1).val < 1024 := (i 1).isLt
  rw [V3]
  rw [shapeCast_apply _ shapeCasts_S1024_S1x1024 i (ix1 (i 1)) (by
      rw [Shape.rowMajor_val_one, Shape.rowMajor_val_two]
      show (i 1).val = (i 0).val * 1024 + (i 1).val
      omega)]
  rw [shapeCast_apply _ shapeCasts_S1x1024_S1024 (ix1 (i 1)) (ix2 0 (i 1)) (by
      rw [Shape.rowMajor_val_one, Shape.rowMajor_val_two]
      show 0 * 1024 + (i 1).val = (i 1).val
      omega)]
  show (m ((c : Thread nD τ).loc main_arg1) : S2x1024.Idx → EReal) _ = (m ((c : Thread nD τ).loc main_arg1) : S2x1024.Idx → EReal) _
  congr 1
  funext a
  apply Fin.ext
  match a with
  | ⟨0, _⟩ => rfl
  | ⟨1, _⟩ => show 0 + (i 1).val = (i 1).val % 1024; omega

theorem V4_apply (c : Dev nD) (i : S1024x7168.Idx) : (V m c main_v4 : S1024x7168.Idx → EReal) i = W m c (i 0).val (i 1).val := by
  rw [V4]
  exact shapeCast_apply (m ((c : Thread nD τ).loc main_arg2) : S1x1024x7168.Idx → EReal) shapeCasts_S1x1024x7168_S1024x7168 i
    (ix3 0 (Fin.ofNat 1024 (i 0).val) (Fin.ofNat 7168 (i 1).val)) (by
      show (Shape.rowMajor (s := S1x1024x7168) (ix3 0 (Fin.ofNat 1024 (i 0).val) (Fin.ofNat 7168 (i 1).val))).val = (Shape.rowMajor (s := S1024x7168) i).val
      rw [Shape.rowMajor_val_three, Shape.rowMajor_val_two]
      have h0 : (i 0).val < 1024 := (i 0).isLt
      have h1 : (i 1).val < 7168 := (i 1).isLt
      show (0 * 1024 + (i 0).val % 1024) * 7168 + (i 1).val % 7168 = (i 0).val * 7168 + (i 1).val
      omega)

theorem V5_apply (c : Dev nD) (i : S3584x1024.Idx) : (V m c main_v5 : S3584x1024.Idx → EReal) i = D m c (i 0).val (i 1).val := by
  rw [V5]
  exact shapeCast_apply (m ((c : Thread nD τ).loc main_arg3) : S1x3584x1024.Idx → EReal) shapeCasts_S1x3584x1024_S3584x1024 i
    (ix3 0 (Fin.ofNat 3584 (i 0).val) (Fin.ofNat 1024 (i 1).val)) (by
      show (Shape.rowMajor (s := S1x3584x1024) (ix3 0 (Fin.ofNat 3584 (i 0).val) (Fin.ofNat 1024 (i 1).val))).val = (Shape.rowMajor (s := S3584x1024) i).val
      rw [Shape.rowMajor_val_three, Shape.rowMajor_val_two]
      have h0 : (i 0).val < 3584 := (i 0).isLt
      have h1 : (i 1).val < 1024 := (i 1).isLt
      show (0 * 3584 + (i 0).val % 3584) * 1024 + (i 1).val % 1024 = (i 0).val * 1024 + (i 1).val
      omega)

/-! ## The windows' blocks -/

/-- The block each window is on at point `t`. -/
theorem index_facts : ∀ t : Fin cfg0.N, win0_0.index t 0 = t.val / 7 ∧ win0_0.index t 1 = 0 ∧ win0_1.index t 0 = 0 ∧ win0_1.index t 1 = 0
    ∧ win0_2.index t 0 = 0 ∧ win0_2.index t 1 = t.val % 7 ∧ win0_3.index t 0 = 0 ∧ win0_3.index t 1 = 7 + t.val % 7
    ∧ win0_4.index t 0 = t.val % 7 ∧ win0_4.index t 1 = 0 :=
  (by decide +kernel : ∀ t : Fin grid0.N, _)

theorem blk0 (c : Dev nD) (t : Fin cfg0.N) (i : S1024x1024.Idx) :
    (iblk m c 0 t : S1024x1024.Idx → EReal) i = X m c (1024 * (t.val / 7) + (i 0).val) (i 1).val := by
  obtain ⟨e0, e1, -⟩ := index_facts t
  unfold iblk
  rw [View.read_apply]
  refine (V0_apply m c _).trans ?_
  congr 1
  · show win0_0.index t 0 * 1024 + 1 * (i 0).val = _; rw [e0]; omega
  · show win0_0.index t 1 * 1024 + 1 * (i 1).val = _; rw [e1]; omega

theorem blk1 (c : Dev nD) (t : Fin cfg0.N) (i : S1x1024.Idx) : (iblk m c 1 t : S1x1024.Idx → EReal) i = gain m c (i 1).val := by
  obtain ⟨-, -, -, e1, -⟩ := index_facts t
  unfold iblk
  rw [View.read_apply]
  refine (V3_apply m c _).trans ?_
  congr 1
  show win0_1.index t 1 * 1024 + 1 * (i 1).val = _; rw [e1]; omega

theorem blk2 (c : Dev nD) (t : Fin cfg0.N) (i : S1024x512.Idx) :
    (iblk m c 2 t : S1024x512.Idx → EReal) i = W m c (i 0).val (512 * (t.val % 7) + (i 1).val) := by
  obtain ⟨-, -, -, -, e0, e1, -⟩ := index_facts t
  unfold iblk
  rw [View.read_apply]
  refine (V4_apply m c _).trans ?_
  congr 1
  · show win0_2.index t 0 * 1024 + 1 * (i 0).val = _; rw [e0]; omega
  · show win0_2.index t 1 * 512 + 1 * (i 1).val = _; rw [e1]; omega

theorem blk3 (c : Dev nD) (t : Fin cfg0.N) (i : S1024x512.Idx) :
    (iblk m c 3 t : S1024x512.Idx → EReal) i = W m c (i 0).val (3584 + (512 * (t.val % 7) + (i 1).val)) := by
  obtain ⟨-, -, -, -, -, -, e0, e1, -⟩ := index_facts t
  unfold iblk
  rw [View.read_apply]
  refine (V4_apply m c _).trans ?_
  congr 1
  · show win0_3.index t 0 * 1024 + 1 * (i 0).val = _; rw [e0]; omega
  · show win0_3.index t 1 * 512 + 1 * (i 1).val = _; rw [e1]; omega

theorem blk4 (c : Dev nD) (t : Fin cfg0.N) (i : S512x1024.Idx) :
    (iblk m c 4 t : S512x1024.Idx → EReal) i = D m c (512 * (t.val % 7) + (i 0).val) (i 1).val := by
  obtain ⟨-, -, -, -, -, -, -, -, e0, e1⟩ := index_facts t
  unfold iblk
  rw [View.read_apply]
  refine (V5_apply m c _).trans ?_
  congr 1
  · show win0_4.index t 0 * 512 + 1 * (i 0).val = _; rw [e0]; omega
  · show win0_4.index t 1 * 1024 + 1 * (i 1).val = _; rw [e1]; omega

/-! ## One point -/

/-- The scaled rows of the point's row block. -/
theorem hid_apply (c : Dev nD) (t : Fin cfg0.N) (i : S1024x1024.Idx) :
    k0_pay1 (F := Ideal) (iblk m c 0 t) (iblk m c 1 t) i = H m c (1024 * (t.val / 7) + (i 0).val) (i 1).val := by
  rw [pay1_apply]
  simp only [blk0, blk1]
  rfl

/-- The point's share, added to what the running sum held. -/
theorem acc_apply (c : Dev nD) (t : Fin cfg0.N) (h : Vec Ideal S1024x1024 .bf16)
    (hh : ∀ i : S1024x1024.Idx, h i = H m c (1024 * (t.val / 7) + (i 0).val) (i 1).val) (s : Vec Ideal S1024x1024 .f32) (i : S1024x1024.Idx) :
    k0_pay3 (F := Ideal) h (iblk m c 2 t) (iblk m c 3 t) s (iblk m c 4 t) i
      = s i + Spec.share (H m c) (W m c) (D m c) (1024 * (t.val / 7) + (i 0).val) (i 1).val (t.val % 7) := by
  rw [pay3_apply]
  simp only [blk2, blk3, blk4, hh]
  rfl

/-! ## The fold -/

/-- What the carried buffers and the output's buffer hold after point `n`. -/
structure Holds (c : Dev nD) (n : ℕ) (s : Vec Ideal S1024x1024 .f32 × Vec Ideal S1024x1024 .bf16 × Vec Ideal S1024x1024 .f32) : Prop where
  hid : ∀ i : S1024x1024.Idx, s.2.1 i = H m c (1024 * (n / 7) + (i 0).val) (i 1).val
  acc : ∀ i : S1024x1024.Idx, s.2.2 i = Spec.upto (H m c) (W m c) (D m c) (1024 * (n / 7) + (i 0).val) (i 1).val (n % 7 + 1)
  out : n % 7 = 6 → ∀ i : S1024x1024.Idx, s.1 i = X m c (1024 * (n / 7) + (i 0).val) (i 1).val
    + Spec.net (H m c) (W m c) (D m c) (1024 * (n / 7) + (i 0).val) (i 1).val

theorem holds_A (c : Dev nD) (t : Fin cfg0.N) (s) (h0 : t.val % 7 = 0) (h1 : ¬t.val % 7 = 6) : Holds m c t.val (stAt0 m c t.val t.isLt s) := by
  rw [stAt0_A m c t s h0 h1]
  refine ⟨fun i => ?_, fun i => ?_, fun h => absurd h h1⟩
  · dsimp only
    rw [hid_A]
    exact hid_apply m c t i
  · dsimp only
    rw [acc_A, acc_apply m c t _ (hid_apply m c t), pay2_apply, h0, Spec.upto_one]

theorem holds_step (c : Dev nD) (n : ℕ) (hn : n + 1 < cfg0.N) (s) (h0 : ¬(n + 1) % 7 = 0) (hs : Holds m c n s) :
    Holds m c (n + 1) (stAt0 m c (n + 1) hn s) := by
  have hd : (n + 1) / 7 = n / 7 := by omega
  have hm : (n + 1) % 7 = n % 7 + 1 := by omega
  have hh : ∀ i : S1024x1024.Idx, s.2.1 i = H m c (1024 * ((n + 1) / 7) + (i 0).val) (i 1).val := fun i => by rw [hd]; exact hs.hid i
  have ha : ∀ i : S1024x1024.Idx, k0_pay3 (F := Ideal) s.2.1 (iblk m c 2 ⟨n + 1, hn⟩) (iblk m c 3 ⟨n + 1, hn⟩) s.2.2 (iblk m c 4 ⟨n + 1, hn⟩) i
      = Spec.upto (H m c) (W m c) (D m c) (1024 * ((n + 1) / 7) + (i 0).val) (i 1).val ((n + 1) % 7 + 1) := fun i => by
    rw [acc_apply m c ⟨n + 1, hn⟩ _ hh, hs.acc]
    show _ + Spec.share (H m c) (W m c) (D m c) (1024 * ((n + 1) / 7) + (i 0).val) (i 1).val ((n + 1) % 7) = _
    rw [hm, hd, ← Spec.upto_succ]
  by_cases h1 : (n + 1) % 7 = 6
  · rw [stAt0_C m c ⟨n + 1, hn⟩ s h0 h1]
    refine ⟨fun i => hh i, fun i => ?_, fun _ i => ?_⟩
    · dsimp only
      rw [acc_C]
      exact ha i
    · dsimp only
      rw [out_C, pay4_apply, ha, blk0, h1, Spec.upto_seven]
  · rw [stAt0_B m c ⟨n + 1, hn⟩ s h0 h1]
    refine ⟨fun i => hh i, fun i => ?_, fun h => absurd h h1⟩
    dsimp only
    rw [acc_B]
    exact ha i

theorem holds (c : Dev nD) : ∀ (n : ℕ) (hn : n < cfg0.N), Holds m c n (outsAt0 m c n hn)
  | 0, hn => by rw [outsAt0_zero]; exact holds_A m c ⟨0, hn⟩ _ rfl (by show ¬0 % 7 = 6; decide)
  | n + 1, hn => by
    rw [outsAt0_succ]
    by_cases h0 : (n + 1) % 7 = 0
    · exact holds_A m c ⟨n + 1, hn⟩ _ h0 (by show ¬(n + 1) % 7 = 6; omega)
    · exact holds_step m c n hn _ h0 (holds c n _)

/-- The array after the run, at an index. -/
theorem G5_apply (c : Dev nD) (i : S16384x1024.Idx) : (G5 m c : S16384x1024.Idx → EReal) i
    = X m c (i 0).val (i 1).val + Spec.net (H m c) (W m c) (D m c) (i 0).val (i 1).val := by
  have h0 : (i 0).val < 16384 := (i 0).isLt
  have h1 : (i 1).val < 1024 := (i 1).isLt
  have hN : cfg0.N = 112 := N_0
  have hp : pt5Of i = 7 * ((i 0).val / 1024) + 6 := by
    show 7 * (1 * ((i 0).val / 1024 - 0) + 1 * ((i 1).val / 1024 - 0)) + 6 = _
    omega
  have hlt : pt5Of i < cfg0.N := by omega
  have hq : pt5Of i / 7 = (i 0).val / 1024 := by omega
  unfold G5
  rw [dif_pos hlt, ← outsAt0_sweep m c (pt5Of i) hlt, (holds m c (pt5Of i) hlt).out (by omega), hq]
  show X m c (1024 * ((i 0).val / 1024) + (i 0).val % 1024) ((i 1).val % 1024) + Spec.net (H m c) (W m c) (D m c) (1024 * ((i 0).val / 1024) + (i 0).val % 1024) ((i 1).val % 1024) = _
  rw [Nat.div_add_mod, Nat.mod_eq_of_lt h1]

end Cert.FfnIdeal.Hand

end
-- ==== Proof.FfnValue.lean ====
/- The SwiGLU reference read at an index, and the kernel's array beside it. -/
module

public import proofs.«01_k».proof.Proof.FfnFold
public import proofs.«01_k».proof.Proof.Gen.FfnRefIdeal.Run
public import proofs.«01_k».proof.Proof.Gen.FfnRefIdeal.Read

@[expose] public section

noncomputable section

namespace Cert.FfnIdeal.Hand

open Cert.FfnRefIdeal Cert.FfnRefIdeal.Read Idealize.ShloMosaic Idealize.ShloMosaic.TcCoe Idealize.SL.Sem

variable (x0 : S8x2048x1024.Idx → EReal) (x1 : S2x1024.Idx → EReal) (x2 : S1x1024x7168.Idx → EReal) (x3 : S1x3584x1024.Idx → EReal)

/-- The reference's arguments over natural-number indices. -/
def X' (r k : ℕ) : EReal := x0 (ix3 (Fin.ofNat 8 (r / 2048)) (Fin.ofNat 2048 r) (Fin.ofNat 1024 k))
def gain' (k : ℕ) : EReal := x1 (ix2 0 (Fin.ofNat 1024 k))
def W' (k f : ℕ) : EReal := x2 (ix3 0 (Fin.ofNat 1024 k) (Fin.ofNat 7168 f))
def D' (f j : ℕ) : EReal := x3 (ix3 0 (Fin.ofNat 3584 f) (Fin.ofNat 1024 j))

/-- The row a batch and a position name. -/
abbrev row {n : Nat} (b : Fin 8) (l : Fin n) : ℕ := 2048 * b.val + l.val

theorem x_at (b : Fin 8) (l : Fin 2048) (k : Fin 1024) : x0 (ix3 b l k) = X' x0 (row b l) k.val := by
  unfold X'
  congr 1
  have := b.isLt; have := l.isLt; have := k.isLt
  funext a
  apply Fin.ext
  match a with
  | ⟨0, _⟩ => show b.val = (2048 * b.val + l.val) / 2048 % 8; omega
  | ⟨1, _⟩ => show l.val = (2048 * b.val + l.val) % 2048; omega
  | ⟨2, _⟩ => show k.val = k.val % 1024; omega

theorem hid_at (b : Fin 8) (l : Fin 2048) (k : Fin 1024) :
    val_main_v14 (F := Ideal) x0 x1 (ix3 b l k) = Spec.scaled (X' x0) (gain' x1) (row b l) k.val := by
  have hk := k.isLt
  have hg : val_main_v13 (F := Ideal) x1 (ix3 b l k) = gain' x1 k.val := by
    rw [val_main_v13_apply, val_main_v12_apply, val_main_v1_apply, val_main_v0_apply]
    unfold gain'
    congr 1
    funext a
    apply Fin.ext
    match a with
    | ⟨0, _⟩ => rfl
    | ⟨1, _⟩ => rfl
  have hx : ∀ q : Fin 1024, x0 (idx_main_v3 (idx_main_v4 (idx_main_v10 (ix3 b l k))) q) = X' x0 (row b l) q.val := fun q => by
    rw [← x_at]
    congr 1
    funext a
    match a with
    | ⟨0, _⟩ => rfl
    | ⟨1, _⟩ => rfl
    | ⟨2, _⟩ => rfl
  rw [val_main_v14_apply, val_main_v11_apply, val_main_v10_apply, val_main_v9_apply, val_main_v8_apply, val_main_v7_apply,
    val_main_v6_apply, val_main_v5_apply, val_main_v4_apply, val_main_v3_apply, hg]
  simp only [val_main_v2_apply, hx, val_main_cst_apply, val_main_cst_0_apply, val_main_cst_1_apply]
  unfold Spec.scaled
  rw [x_at x0]
  simp only [Ideal.mulf_def, Ideal.addf_def, Ideal.hostDivf_def, Ideal.hostUnary_rsqrt_def, Ideal.ofBits_def, Ideal.ofBits_zero_f32, zero_add]

theorem lin_at (b : Fin 8) (l : Fin 2048) (f : Fin 7168) :
    val_main_v17 (F := Ideal) x0 x1 x2 (ix3 b l f) = Spec.lin (Spec.scaled (X' x0) (gain' x1)) (W' x2) (row b l) f.val := by
  have hf := f.isLt
  rw [val_main_v17_apply]
  unfold Spec.lin
  refine Finset.sum_congr rfl fun k _ => ?_
  have hk := k.isLt
  rw [val_main_v15_apply]
  congr 1
  · rw [← hid_at]
    congr 1
    funext a
    match a with
    | ⟨0, _⟩ => rfl
    | ⟨1, _⟩ => rfl
    | ⟨2, _⟩ => rfl
  · unfold W'
    congr 1
    funext a
    apply Fin.ext
    match a with
    | ⟨0, _⟩ => rfl
    | ⟨1, _⟩ => show (k.val * 7168 + f.val) / 7168 % 1024 = k.val % 1024; omega
    | ⟨2, _⟩ => show (k.val * 7168 + f.val) % 7168 = f.val % 7168; omega

theorem unit_at (b : Fin 8) (l : Fin 2048) (f : Fin 3584) :
    val_main_v21 (F := Ideal) x0 x1 x2 (ix3 b l f) = Spec.unit (Spec.scaled (X' x0) (gain' x1)) (W' x2) (row b l) f.val := by
  have hf := f.isLt
  have e18 : val_main_v18 (F := Ideal) x0 x1 x2 (ix3 b l f) = Spec.lin (Spec.scaled (X' x0) (gain' x1)) (W' x2) (row b l) f.val := by
    rw [val_main_v18_apply, ← lin_at x0 x1 x2 b l ⟨f.val, by omega⟩]
    congr 1
    funext a
    apply Fin.ext
    match a with
    | ⟨0, _⟩ => rfl
    | ⟨1, _⟩ => rfl
    | ⟨2, _⟩ => rfl
  have e19 : val_main_v19 (F := Ideal) x0 x1 x2 (ix3 b l f) = Spec.lin (Spec.scaled (X' x0) (gain' x1)) (W' x2) (row b l) (3584 + f.val) := by
    rw [val_main_v19_apply, ← lin_at x0 x1 x2 b l ⟨3584 + f.val, by omega⟩]
    congr 1
    funext a
    apply Fin.ext
    match a with
    | ⟨0, _⟩ => rfl
    | ⟨1, _⟩ => rfl
    | ⟨2, _⟩ => rfl
  rw [val_main_v21_apply, val_main_v20_apply, val_main_call0_v5_apply, val_main_call0_v3_apply, val_main_call0_v4_apply,
    val_main_call0_v2_apply, val_main_call0_v1_apply, val_main_call0_v0_apply, e18, e19]
  simp only [val_main_call0_cst_apply, val_main_call0_cst_0_apply]
  unfold Spec.unit Ideal.logistic
  simp only [Ideal.mulf_def, Ideal.addf_def, Ideal.hostDivf_def, Ideal.hostUnary_exp_def, Ideal.ofBits_def, Ideal.ofBits_one_f32, Ideal.hostNegf_def, Ideal.negf_def]

theorem ref_apply (i : S16384x1024.Idx) : val_main_v24 (F := Ideal) x0 x1 x2 x3 i
    = X' x0 (i 0).val (i 1).val + Spec.net (Spec.scaled (X' x0) (gain' x1)) (W' x2) (D' x3) (i 0).val (i 1).val := by
  have h0 : (i 0).val < 16384 := (i 0).isLt
  have h1 : (i 1).val < 1024 := (i 1).isLt
  have hr : row (⟨(i 0).val / 2048, by omega⟩ : Fin 8) (⟨(i 0).val % 2048, by omega⟩ : Fin 2048) = (i 0).val := by
    show 2048 * ((i 0).val / 2048) + (i 0).val % 2048 = (i 0).val; omega
  have hi : idx_main_v24 i = ix3 (⟨(i 0).val / 2048, by omega⟩ : Fin 8) (⟨(i 0).val % 2048, by omega⟩ : Fin 2048) (⟨(i 1).val, h1⟩ : Fin 1024) := by
    funext a
    apply Fin.ext
    match a with
    | ⟨0, _⟩ => show ((i 0).val * 1024 + (i 1).val) / 2097152 = (i 0).val / 2048; omega
    | ⟨1, _⟩ => show ((i 0).val * 1024 + (i 1).val) / 1024 % 2048 = (i 0).val % 2048; omega
    | ⟨2, _⟩ => show ((i 0).val * 1024 + (i 1).val) % 1024 = (i 1).val; omega
  rw [val_main_v24_apply, hi, val_main_v23_apply, val_main_v22_apply, x_at x0, hr]
  show _ + _ = _
  congr 1
  unfold Spec.net
  refine Finset.sum_congr rfl fun f _ => ?_
  have hf := f.isLt
  rw [val_main_v16_apply]
  congr 1
  · refine Eq.trans ?_ ((unit_at x0 x1 x2 (⟨(i 0).val / 2048, by omega⟩ : Fin 8) (⟨(i 0).val % 2048, by omega⟩ : Fin 2048) f).trans (by rw [hr]))
    congr 1
    funext a
    match a with
    | ⟨0, _⟩ => rfl
    | ⟨1, _⟩ => rfl
    | ⟨2, _⟩ => rfl
  · unfold D'
    congr 1
    funext a
    apply Fin.ext
    match a with
    | ⟨0, _⟩ => rfl
    | ⟨1, _⟩ => show (f.val * 1024 + (i 1).val) / 1024 % 3584 = f.val % 3584; omega
    | ⟨2, _⟩ => show (f.val * 1024 + (i 1).val) % 1024 = (i 1).val % 1024; omega

/-- What the kernel's array ends holding is the reference's result of the same arguments. -/
theorem value (m : (ℓ : Loc Cert.FfnIdeal.nD Cert.FfnIdeal.τ Cert.FfnIdeal.sig) → Buf (Elt Ideal) ℓ) (c : Dev Cert.FfnIdeal.nD) :
    val_main_v24 (F := Ideal) (m ((c : Thread Cert.FfnIdeal.nD Cert.FfnIdeal.τ).loc Cert.FfnIdeal.main_arg0)) (m ((c : Thread Cert.FfnIdeal.nD Cert.FfnIdeal.τ).loc Cert.FfnIdeal.main_arg1))
      (m ((c : Thread Cert.FfnIdeal.nD Cert.FfnIdeal.τ).loc Cert.FfnIdeal.main_arg2)) (m ((c : Thread Cert.FfnIdeal.nD Cert.FfnIdeal.τ).loc Cert.FfnIdeal.main_arg3))
      = (Cert.FfnIdeal.Value.G5 m c : S16384x1024.Idx → EReal) := by
  funext i
  rw [ref_apply]
  exact (G5_apply m c i).symm

end Cert.FfnIdeal.Hand

end
-- ==== Proof.ExpertsKit.lean ====
/- The experts' kernel at its launch: the host operations before it, the table it is handed, its windows' blocks and
   buffers, and the conditions its body tests, each in terms of the tile and the chunk. Everything here and in the
   modules over it is stated at any reading of the floats, so that the kernel's own frame and its idealization's come
   from one run. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- What each buffer of core `c` holds when the region is entered: the two weights have been reshaped by then. -/
abbrev V (c : Dev nD) (b : Ref sig .tc) : Buf (Elt F) ((c : Thread nD τ).loc b) :=
  StableHlo.after hostOps0 (fun b => m (c, b)) b

theorem fresh_ops : (hostOps0 : List (HloOp τ sig (Elt F))).Forall fun op => op.fresh = ∅ := by
  simp only [List.Forall]; repeat' constructor

theorem enter (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh_ops main_chain

/-- A buffer that is neither of the reshaped weights enters the region as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The table -/

/-- The table at the region's entry. -/
def tab : pre0.Contents (Elt F) := fun j => V m (0 : Dev nD) (pre0.ref j)

theorem V_tab (c : Dev nD) (j : Fin 1) : V m c (pre0.ref j) = tab m j := by
  obtain rfl : c = 0 := Subsingleton.elim _ _; rfl

/-- Every block the table makes a window read lies inside its array. -/
abbrev Ok : Prop := ok0 (F := F) (tab m)
abbrev adm (hO : Ok m) : (pcfg0 (F := F)).Adm := ⟨tab m, hO⟩
abbrev cfgM (hO : Ok m) : Pipeline.Cfg sig Λ₀ := cfg0 (adm m hO)

abbrev tabM : Memref sig .tc .smem S3x43 .i32 := Memref.whole main_arg0
abbrev tabM_whole : tabM.IsWhole := Memref.isWhole_whole _

abbrev TabBuf (c : Dev nD) {S : Shape} {e : EltTy} (M : Memref sig .tc .smem S e) : Type := Buf (Elt F) (M.view.loc (c : Thread nD τ))
/-- The half of the table the body reads it through. -/
abbrev tabHalf (c : Dev nD) {S : Shape} {e : EltTy} (M : Memref sig .tc .smem S e) (f : TabBuf (F := F) c M) : sProp 𝕄 :=
  M.view.loc (c : Thread nD τ) ↦{fullShare.right} f

theorem tabHalf_eq (c : Dev nD) : (Pipeline.ΦT pre0 (tab m) c : sProp 𝕄) = iprop(tabHalf c tabM (tab m 0)) := by
  unfold Pipeline.ΦT Pipeline.prefHeld
  rw [show (Finset.univ : Finset (Fin 1)) = {(0 : Fin 1)} from by decide, bigSep_singleton]
  rfl

/-- The count of tiles in use, as the body loads it, -/
abbrev countWord (c : Dev nD) (f : TabBuf (F := F) c tabM) : BitVec 32 :=
  tabM.view.readAt (Elt F) (Rect.unit (s := S3x43) ![1, 0] S1x1.size inb_S3x43_S1x1_1_0).toLoadRect f (Shape.Idx.first (numel1_S1x1.symm ▸ Nat.one_pos))
/-- and the count of rows in use of the tile at `i`. -/
abbrev rowsWord (c : Dev nD) (i : grid0.Coords) (f : TabBuf (F := F) c tabM) : BitVec 32 :=
  tabM.view.readAt (Elt F) (Rect.unit (s := S3x43) (k0_off2 i) S1x1.size (k0_off2_inb i)).toLoadRect f (Shape.Idx.first (numel1_S1x1.symm ▸ Nat.one_pos))

/-! ## The body's conditions -/

abbrev startC (i : grid0.Coords) : Prop :=
  (Scalar.cmpi .ne (Scalar.extui (Scalar.cmpi .eq (BitVec.ofNat 32 (i 1).val) 0#32)) 0#32) = 1#1
abbrev halfC (w : BitVec 32) : Prop := (Scalar.cmpi .ne (Scalar.extui (Scalar.cmpi .sle w 512#32)) 0#32) = 1#1
abbrev fullC (w : BitVec 32) : Prop := (Scalar.cmpi .ne (Scalar.extui (Scalar.xori (Scalar.cmpi .sle w 512#32) 1#1)) 0#32) = 1#1

theorem tile_val (t : Fin grid0.N) : (grid0.coords t 0).val = t.val / 7 := by
  have ht : t.val < 301 := Nat.lt_of_lt_of_eq t.isLt N_0
  have e0 : (grid0.coords t 0).val = t.val / 7 % 43 := Pipeline.Grid.coords_val t 0 (by decide) rfl
  omega
theorem chunk_val (t : Fin grid0.N) : (grid0.coords t 1).val = t.val % 7 := by
  have e1 : (grid0.coords t 1).val = t.val / 1 % 7 := Pipeline.Grid.coords_val t 1 (by decide) rfl
  omega

theorem startC_iff (t : Fin grid0.N) : startC (grid0.coords t) ↔ t.val % 7 = 0 := by
  have ht : t.val < 301 := Nat.lt_of_lt_of_eq t.isLt N_0
  simp only [startC, chunk_val]
  word_cmp

theorem lastC_iff (t : Fin grid0.N) : k0_cond6 (grid0.coords t) = 1#1 ↔ t.val % 7 = 6 := by
  have ht : t.val < 301 := Nat.lt_of_lt_of_eq t.isLt N_0
  simp only [k0_cond6, chunk_val]
  word_cmp

/-- The tile at point `n` is in use: its number is below the count. -/
def active (w : BitVec 32) (n : ℕ) : Prop := (BitVec.ofNat 32 (n / 7)).slt w = true

instance (w : BitVec 32) (n : ℕ) : Decidable (active w n) := by unfold active; infer_instance

theorem slt_cases (a w : BitVec 32) : (Scalar.cmpi .slt a w : BitVec 1) = if a.slt w = true then 1#1 else 0#1 := by
  show BitVec.ofBool (a.slt w) = _
  cases a.slt w <;> rfl

theorem cond2_iff (t : Fin grid0.N) (w : BitVec 32) : k0_cond2 (grid0.coords t) w = 1#1 ↔ active w t.val := by
  unfold active k0_cond2
  simp only [tile_val, slt_cases]
  split <;> rename_i h <;> simp [h] <;> decide

theorem cond1_iff (t : Fin grid0.N) (w : BitVec 32) : k0_cond1 (grid0.coords t) w = 1#1 ↔ ¬ active w t.val ∧ t.val % 7 = 0 := by
  have hs := startC_iff t
  unfold startC at hs
  unfold active k0_cond1
  simp only [tile_val, slt_cases]
  rw [← hs]
  generalize (Scalar.cmpi .eq (BitVec.ofNat 32 (grid0.coords t 1).val) 0#32 : BitVec 1) = b
  split <;> rename_i h <;> simp only [h] <;> revert b <;> decide

theorem fullC_iff (w : BitVec 32) : fullC w ↔ ¬ halfC w := by
  unfold fullC halfC
  generalize (Scalar.cmpi .sle w 512#32 : BitVec 1) = b
  revert b; decide

theorem halfC_iff (w : BitVec 32) : halfC w ↔ w.sle 512#32 = true := by
  unfold halfC
  show _ ↔ _
  have : (Scalar.cmpi .sle w 512#32 : BitVec 1) = if w.sle 512#32 = true then 1#1 else 0#1 := by
    show BitVec.ofBool (w.sle 512#32) = _
    cases w.sle 512#32 <;> rfl
  rw [this]
  split <;> rename_i h <;> simp [h] <;> decide

/-! ## The windows' blocks -/

/-- Window `w`'s block at point `t` of its array at the region's entry. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The current buffer of each window and its wholeness. -/
abbrev b0 (hO : Ok m) (t : Fin (cfgM m hO).N) : Memref sig .tc .vmem S1024x1024 .bf16 := spec0_0.stage ((cfgM m hO).slots t 0)
abbrev b0w (hO : Ok m) (t : Fin (cfgM m hO).N) : (b0 m hO t).IsWhole := hstage0_0 (((cfgM m hO).slots t 0).cast nbuf0_0)
abbrev b1 (hO : Ok m) (t : Fin (cfgM m hO).N) : Memref sig .tc .vmem S1x1024x512 .f32 := spec0_1.stage ((cfgM m hO).slots t 1)
abbrev b1w (hO : Ok m) (t : Fin (cfgM m hO).N) : (b1 m hO t).IsWhole := hstage0_1 (((cfgM m hO).slots t 1).cast nbuf0_1)
abbrev b2 (hO : Ok m) (t : Fin (cfgM m hO).N) : Memref sig .tc .vmem S1x1024x512 .f32 := spec0_2.stage ((cfgM m hO).slots t 2)
abbrev b2w (hO : Ok m) (t : Fin (cfgM m hO).N) : (b2 m hO t).IsWhole := hstage0_2 (((cfgM m hO).slots t 2).cast nbuf0_2)
abbrev b3 (hO : Ok m) (t : Fin (cfgM m hO).N) : Memref sig .tc .vmem S1x512x1024 .f32 := spec0_3.stage ((cfgM m hO).slots t 3)
abbrev b3w (hO : Ok m) (t : Fin (cfgM m hO).N) : (b3 m hO t).IsWhole := hstage0_3 (((cfgM m hO).slots t 3).cast nbuf0_3)
abbrev b4 (hO : Ok m) (t : Fin (cfgM m hO).N) : Memref sig .tc .vmem S1024x1024 .bf16 := spec0_4.stage ((cfgM m hO).slots t 4)
abbrev b4w (hO : Ok m) (t : Fin (cfgM m hO).N) : (b4 m hO t).IsWhole := hstage0_4 (((cfgM m hO).slots t 4).cast nbuf0_4)
/-- The accumulator the kernel carries through a tile's chunks. -/
abbrev accM : Memref sig .tc .vmem S1024x1024 .f32 := Memref.whole cc0_scratch0

theorem rest_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-- The kernel's body at point `t`, on what the pipeline calls it with. -/
abbrev bodyAt (hO : Ok m) (t : Fin (cfgM m hO).N) : Prog (TpuEff nD τ sig (Elt F) Λ₀ .tc) PUnit :=
  cc0_moe_experts (grid0.coords t) tabM tabM_whole (b0 m hO t) (b0w m hO t) (b1 m hO t) (b1w m hO t) (b2 m hO t) (b2w m hO t)
    (b3 m hO t) (b3w m hO t) (b4 m hO t) (b4w m hO t) accM (Memref.isWhole_whole _)

end Cert.KernelIdeal.Hand

end
-- ==== Proof.ExpertsRun.lean ====
/- One run of the experts' body, in each of its cases: a tile not in use, at its first chunk or later; and a tile in
   use, at its first chunk, a middle one or its last, with all of its rows or the upper half of them. -/
module

public import proofs.«01_k».proof.Proof.ExpertsKit
public import Idealize.ShloMosaic.Lib.WritesUnit
public import Idealize.ShloMosaic.Lib.VecWindow
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one chunk adds -/

/-- The upper half of a block's rows. -/
def top {e : EltTy} (v : Vec F S1024x1024 e) : Vec F S512x1024 e :=
  fun y => v (ix2 (⟨(y 0).val, Nat.lt_of_lt_of_le (y 0).isLt (by decide)⟩ : Fin 1024) (y 1))

/-- A block with its upper half replaced. -/
def withTop (old : Vec F S1024x1024 .f32) (new : Vec F S512x1024 .f32) : Vec F S1024x1024 .f32 :=
  fun y => if h : (y 0).val < 512 then new (ix2 (⟨(y 0).val, h⟩ : Fin 512) (y 1)) else old y

/-- The accumulator after a chunk over the upper half of the rows, -/
def stepHalf (x : Vec F S1024x1024 .bf16) (g u : Vec F S1x1024x512 .f32) (d : Vec F S1x512x1024 .f32) (a : Vec F S1024x1024 .f32) : Vec F S1024x1024 .f32 :=
  withTop a (k0_pay3 (top x) g u (top a) d)
/-- and over all of them. -/
def stepFull (x : Vec F S1024x1024 .bf16) (g u : Vec F S1x1024x512 .f32) (d : Vec F S1x512x1024 .f32) (a : Vec F S1024x1024 .f32) : Vec F S1024x1024 .f32 :=
  k0_pay4 x g u a d

/-! ## Stores and loads of the whole block and of its upper half -/

theorem zero2 : (![0, 0] : Fin 2 → ℕ) = 0 := by funext a; match a with | ⟨0, _⟩ => rfl | ⟨1, _⟩ => rfl
theorem zero3 : (![0, 0, 0] : Fin 3 → ℕ) = 0 := by funext a; match a with | ⟨0, _⟩ => rfl | ⟨1, _⟩ => rfl | ⟨2, _⟩ => rfl

theorem read_store {e : EltTy} (v : View sig .tc .vmem S1024x1024 e) (f : v.ty.Contents (Elt F)) (h) (w : Vec F S1024x1024 e) (L) :
    v.read (Elt F) (v.writes (Elt F) f ((⟨Rect.unit (s := S1024x1024) ![0, 0] ![1024, 1024] h, w⟩ : View.Piece (Elt F) S1024x1024 e) :: L)) = w := by
  funext y
  exact View.read_writes_cons_unit_of_mem v f h w L y y zero2 (fun a => (Nat.zero_add _).symm)

theorem read_store_top (v : View sig .tc .vmem S1024x1024 .f32) (f : v.ty.Contents (Elt F)) (h) (w : Vec F S512x1024 .f32) (L) :
    v.read (Elt F) (v.writes (Elt F) f ((⟨Rect.unit (s := S1024x1024) ![0, 0] ![512, 1024] h, w⟩ : View.Piece (Elt F) S1024x1024 .f32) :: L))
      = withTop (v.read (Elt F) (v.writes (Elt F) f L)) w := by
  funext y
  unfold withTop
  split
  · rename_i hy
    exact View.read_writes_cons_rows_of_mem v f h w L y (ix2 (⟨(y 0).val, hy⟩ : Fin 512) (y 1)) rfl (Nat.zero_add _).symm rfl
  · rename_i hy
    exact View.read_writes_cons_rows_of_not_mem (W := 512) v f h w L y rfl rfl (.inr (by omega))

/-- A load of the whole block, or of its upper half. -/
theorem readAt_whole {e : EltTy} (v : View sig .tc .vmem S1024x1024 e) (f : v.ty.Contents (Elt F)) (h) :
    v.readAt (Elt F) (Rect.unit (s := S1024x1024) ![0, 0] ![1024, 1024] h).toLoadRect f = v.read (Elt F) f := View.readAt_full v f h
theorem readAt_cols {e : EltTy} (v : View sig .tc .vmem S1x1024x512 e) (f : v.ty.Contents (Elt F)) (h) :
    v.readAt (Elt F) (Rect.unit (s := S1x1024x512) ![0, 0, 0] ![1, 1024, 512] h).toLoadRect f = v.read (Elt F) f := View.readAt_full v f h
theorem readAt_rows {e : EltTy} (v : View sig .tc .vmem S1x512x1024 e) (f : v.ty.Contents (Elt F)) (h) :
    v.readAt (Elt F) (Rect.unit (s := S1x512x1024) ![0, 0, 0] ![1, 512, 1024] h).toLoadRect f = v.read (Elt F) f := View.readAt_full v f h

/-- A load of what was just stored is a load of the contents the stores leave. -/
theorem readCov_top {e : EltTy} (v : View sig .tc .vmem S1024x1024 e) (L) (h) :
    v.readCov L (Rect.unit (s := S1024x1024) ![0, 0] ![512, 1024] h).toLoadRect = v.readAt (Elt F) (Rect.unit (s := S1024x1024) ![0, 0] ![512, 1024] h).toLoadRect (v.writes (Elt F) v.junk L) := rfl
theorem readCov_whole {e : EltTy} (v : View sig .tc .vmem S1024x1024 e) (L) (h) :
    v.readCov L (Rect.unit (s := S1024x1024) ![0, 0] ![1024, 1024] h).toLoadRect = v.readAt (Elt F) (Rect.unit (s := S1024x1024) ![0, 0] ![1024, 1024] h).toLoadRect (v.writes (Elt F) v.junk L) := rfl

theorem readAt_top {e : EltTy} (v : View sig .tc .vmem S1024x1024 e) (f : v.ty.Contents (Elt F)) (h) :
    v.readAt (Elt F) (Rect.unit (s := S1024x1024) ![0, 0] ![512, 1024] h).toLoadRect f = top (v.read (Elt F) f) := by
  funext y
  refine congrArg (v.read (Elt F) f) (funext fun a => Fin.ext ?_)
  match a with
  | ⟨0, _⟩ => show 0 + 1 * (y 0).val = (y 0).val; omega
  | ⟨1, _⟩ => show 0 + 1 * (y 1).val = (y 1).val; omega

set_option maxHeartbeats 1000000 in
/-- A later chunk of a tile not in use: nothing is stored. -/
theorem run_skip (c : Dev nD) (i : grid0.Coords) (arg3 : Memref sig .tc .vmem S1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .f32) (harg8 : arg8.IsWhole)
    (x : Vec F S1024x1024 .bf16) (g u : Vec F S1x1024x512 .f32) (d : Vec F S1x512x1024 .f32) (y : Vec F S1024x1024 .bf16) (a : Vec F S1024x1024 .f32) (f : TabBuf (F := F) c tabM)
    (h1 : ¬ k0_cond1 i (countWord c f) = 1#1) (h2 : ¬ k0_cond2 i (countWord c f) = 1#1) (E : Set ℕ) (K : PUnit → sProp 𝕄) :
    iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare a ∗ tabHalf c tabM f
        ∗ (iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare a ∗ tabHalf c tabM f) -∗ K ⟨⟩))
      ⊢ wp frame (wpE (defs₀ (F := F)) Variants.none c none) E (cc0_moe_experts i tabM tabM_whole arg3 harg3 arg4 harg4 arg5 harg5 arg6 harg6 arg7 harg7 arg8 harg8) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; exact harg7.read_unread _
  isplitl [HS]
  · iexists _; isplitr
    swap; · iexact HS
    ipureintro; exact harg8.read_unread _
  iexact HT

set_option maxHeartbeats 1000000 in
/-- The first chunk of a tile not in use: the output block is zeroed. -/
theorem run_clear (c : Dev nD) (i : grid0.Coords) (arg3 : Memref sig .tc .vmem S1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .f32) (harg8 : arg8.IsWhole)
    (x : Vec F S1024x1024 .bf16) (g u : Vec F S1x1024x512 .f32) (d : Vec F S1x512x1024 .f32) (y : Vec F S1024x1024 .bf16) (a : Vec F S1024x1024 .f32) (f : TabBuf (F := F) c tabM)
    (h1 : k0_cond1 i (countWord c f) = 1#1) (h2 : ¬ k0_cond2 i (countWord c f) = 1#1) (E : Set ℕ) (K : PUnit → sProp 𝕄) :
    iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare a ∗ tabHalf c tabM f
        ∗ (iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare k0_pay1 ∗ owns (c : Thread nD τ) arg8 fullShare a ∗ tabHalf c tabM f) -∗ K ⟨⟩))
      ⊢ wp frame (wpE (defs₀ (F := F)) Variants.none c none) E (cc0_moe_experts i tabM tabM_whole arg3 harg3 arg4 harg4 arg5 harg5 arg6 harg6 arg7 harg7 arg8 harg8) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; exact read_store _ _ _ _ _
  isplitl [HS]
  · iexists _; isplitr
    swap; · iexact HS
    ipureintro; exact harg8.read_unread _
  iexact HT

set_option maxHeartbeats 1000000 in
/-- The first chunk of a tile in use, over the upper half of its rows. -/
theorem run_first_half (c : Dev nD) (i : grid0.Coords) (arg3 : Memref sig .tc .vmem S1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .f32) (harg8 : arg8.IsWhole)
    (x : Vec F S1024x1024 .bf16) (g u : Vec F S1x1024x512 .f32) (d : Vec F S1x512x1024 .f32) (y : Vec F S1024x1024 .bf16) (a : Vec F S1024x1024 .f32) (f : TabBuf (F := F) c tabM)
    (h1 : ¬ k0_cond1 i (countWord c f) = 1#1) (h2 : k0_cond2 i (countWord c f) = 1#1) (h3 : startC i) (h6 : ¬ k0_cond6 i = 1#1)
    (h4 : halfC (rowsWord c i f)) (h5 : ¬ fullC (rowsWord c i f)) (E : Set ℕ) (K : PUnit → sProp 𝕄) :
    iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare a ∗ tabHalf c tabM f
        ∗ (iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare (stepHalf x g u d k0_pay2) ∗ tabHalf c tabM f) -∗ K ⟨⟩))
      ⊢ wp frame (wpE (defs₀ (F := F)) Variants.none c none) E (cc0_moe_experts i tabM tabM_whole arg3 harg3 arg4 harg4 arg5 harg5 arg6 harg6 arg7 harg7 arg8 harg8) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs
  sl_exec (disch := first | sl_exact h1 | sl_exact h2 | sl_exact h3 | sl_exact h4 | sl_exact h5 | sl_exact h6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; exact harg7.read_unread _
  isplitl [HS]
  · iexists _; isplitr
    swap; · iexact HS
    ipureintro; sl_unfold_words; simp only [read_store, read_store_top, readCov_whole, readCov_top, readAt_whole, readAt_top, readAt_cols, readAt_rows,  View.writes_nil, harg3.read_unread, harg4.read_unread, harg5.read_unread, harg6.read_unread, harg7.read_unread, harg8.read_unread]; rfl
  iexact HT

set_option maxHeartbeats 1000000 in
/-- A middle chunk of a tile in use, over the upper half of its rows. -/
theorem run_mid_half (c : Dev nD) (i : grid0.Coords) (arg3 : Memref sig .tc .vmem S1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .f32) (harg8 : arg8.IsWhole)
    (x : Vec F S1024x1024 .bf16) (g u : Vec F S1x1024x512 .f32) (d : Vec F S1x512x1024 .f32) (y : Vec F S1024x1024 .bf16) (a : Vec F S1024x1024 .f32) (f : TabBuf (F := F) c tabM)
    (h1 : ¬ k0_cond1 i (countWord c f) = 1#1) (h2 : k0_cond2 i (countWord c f) = 1#1) (h3 : ¬ startC i) (h6 : ¬ k0_cond6 i = 1#1)
    (h4 : halfC (rowsWord c i f)) (h5 : ¬ fullC (rowsWord c i f)) (E : Set ℕ) (K : PUnit → sProp 𝕄) :
    iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare a ∗ tabHalf c tabM f
        ∗ (iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare (stepHalf x g u d a) ∗ tabHalf c tabM f) -∗ K ⟨⟩))
      ⊢ wp frame (wpE (defs₀ (F := F)) Variants.none c none) E (cc0_moe_experts i tabM tabM_whole arg3 harg3 arg4 harg4 arg5 harg5 arg6 harg6 arg7 harg7 arg8 harg8) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs
  sl_exec (disch := first | sl_exact h1 | sl_exact h2 | sl_exact h3 | sl_exact h4 | sl_exact h5 | sl_exact h6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; exact harg7.read_unread _
  isplitl [HS]
  · iexists _; isplitr
    swap; · iexact HS
    ipureintro; sl_unfold_words; simp only [read_store, read_store_top, readCov_whole, readCov_top, readAt_whole, readAt_top, readAt_cols, readAt_rows,  View.writes_nil, harg3.read_unread, harg4.read_unread, harg5.read_unread, harg6.read_unread, harg7.read_unread, harg8.read_unread]; rfl
  iexact HT

set_option maxHeartbeats 1000000 in
/-- The last chunk of a tile in use, over the upper half of its rows. -/
theorem run_last_half (c : Dev nD) (i : grid0.Coords) (arg3 : Memref sig .tc .vmem S1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .f32) (harg8 : arg8.IsWhole)
    (x : Vec F S1024x1024 .bf16) (g u : Vec F S1x1024x512 .f32) (d : Vec F S1x512x1024 .f32) (y : Vec F S1024x1024 .bf16) (a : Vec F S1024x1024 .f32) (f : TabBuf (F := F) c tabM)
    (h1 : ¬ k0_cond1 i (countWord c f) = 1#1) (h2 : k0_cond2 i (countWord c f) = 1#1) (h3 : ¬ startC i) (h6 : k0_cond6 i = 1#1)
    (h4 : halfC (rowsWord c i f)) (h5 : ¬ fullC (rowsWord c i f)) (E : Set ℕ) (K : PUnit → sProp 𝕄) :
    iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare a ∗ tabHalf c tabM f
        ∗ (iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare (k0_pay5 (stepHalf x g u d a)) ∗ owns (c : Thread nD τ) arg8 fullShare (stepHalf x g u d a) ∗ tabHalf c tabM f) -∗ K ⟨⟩))
      ⊢ wp frame (wpE (defs₀ (F := F)) Variants.none c none) E (cc0_moe_experts i tabM tabM_whole arg3 harg3 arg4 harg4 arg5 harg5 arg6 harg6 arg7 harg7 arg8 harg8) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs
  sl_exec (disch := first | sl_exact h1 | sl_exact h2 | sl_exact h3 | sl_exact h4 | sl_exact h5 | sl_exact h6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; sl_unfold_words; simp only [read_store, read_store_top, readCov_whole, readCov_top, readAt_whole, readAt_top, readAt_cols, readAt_rows,  View.writes_nil, harg3.read_unread, harg4.read_unread, harg5.read_unread, harg6.read_unread, harg7.read_unread, harg8.read_unread]; rfl
  isplitl [HS]
  · iexists _; isplitr
    swap; · iexact HS
    ipureintro; sl_unfold_words; simp only [read_store, read_store_top, readCov_whole, readCov_top, readAt_whole, readAt_top, readAt_cols, readAt_rows,  View.writes_nil, harg3.read_unread, harg4.read_unread, harg5.read_unread, harg6.read_unread, harg7.read_unread, harg8.read_unread]; rfl
  iexact HT

set_option maxHeartbeats 1000000 in
/-- The first chunk of a tile in use, over all of its rows. -/
theorem run_first_full (c : Dev nD) (i : grid0.Coords) (arg3 : Memref sig .tc .vmem S1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .f32) (harg8 : arg8.IsWhole)
    (x : Vec F S1024x1024 .bf16) (g u : Vec F S1x1024x512 .f32) (d : Vec F S1x512x1024 .f32) (y : Vec F S1024x1024 .bf16) (a : Vec F S1024x1024 .f32) (f : TabBuf (F := F) c tabM)
    (h1 : ¬ k0_cond1 i (countWord c f) = 1#1) (h2 : k0_cond2 i (countWord c f) = 1#1) (h3 : startC i) (h6 : ¬ k0_cond6 i = 1#1)
    (h4 : ¬ halfC (rowsWord c i f)) (h5 : fullC (rowsWord c i f)) (E : Set ℕ) (K : PUnit → sProp 𝕄) :
    iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare a ∗ tabHalf c tabM f
        ∗ (iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare (stepFull x g u d k0_pay2) ∗ tabHalf c tabM f) -∗ K ⟨⟩))
      ⊢ wp frame (wpE (defs₀ (F := F)) Variants.none c none) E (cc0_moe_experts i tabM tabM_whole arg3 harg3 arg4 harg4 arg5 harg5 arg6 harg6 arg7 harg7 arg8 harg8) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs
  sl_exec (disch := first | sl_exact h1 | sl_exact h2 | sl_exact h3 | sl_exact h4 | sl_exact h5 | sl_exact h6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; exact harg7.read_unread _
  isplitl [HS]
  · iexists _; isplitr
    swap; · iexact HS
    ipureintro; sl_unfold_words; simp only [read_store, read_store_top, readCov_whole, readCov_top, readAt_whole, readAt_top, readAt_cols, readAt_rows,  View.writes_nil, harg3.read_unread, harg4.read_unread, harg5.read_unread, harg6.read_unread, harg7.read_unread, harg8.read_unread]; rfl
  iexact HT

set_option maxHeartbeats 1000000 in
/-- A middle chunk of a tile in use, over all of its rows. -/
theorem run_mid_full (c : Dev nD) (i : grid0.Coords) (arg3 : Memref sig .tc .vmem S1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .f32) (harg8 : arg8.IsWhole)
    (x : Vec F S1024x1024 .bf16) (g u : Vec F S1x1024x512 .f32) (d : Vec F S1x512x1024 .f32) (y : Vec F S1024x1024 .bf16) (a : Vec F S1024x1024 .f32) (f : TabBuf (F := F) c tabM)
    (h1 : ¬ k0_cond1 i (countWord c f) = 1#1) (h2 : k0_cond2 i (countWord c f) = 1#1) (h3 : ¬ startC i) (h6 : ¬ k0_cond6 i = 1#1)
    (h4 : ¬ halfC (rowsWord c i f)) (h5 : fullC (rowsWord c i f)) (E : Set ℕ) (K : PUnit → sProp 𝕄) :
    iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare a ∗ tabHalf c tabM f
        ∗ (iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare (stepFull x g u d a) ∗ tabHalf c tabM f) -∗ K ⟨⟩))
      ⊢ wp frame (wpE (defs₀ (F := F)) Variants.none c none) E (cc0_moe_experts i tabM tabM_whole arg3 harg3 arg4 harg4 arg5 harg5 arg6 harg6 arg7 harg7 arg8 harg8) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs
  sl_exec (disch := first | sl_exact h1 | sl_exact h2 | sl_exact h3 | sl_exact h4 | sl_exact h5 | sl_exact h6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; exact harg7.read_unread _
  isplitl [HS]
  · iexists _; isplitr
    swap; · iexact HS
    ipureintro; sl_unfold_words; simp only [read_store, read_store_top, readCov_whole, readCov_top, readAt_whole, readAt_top, readAt_cols, readAt_rows,  View.writes_nil, harg3.read_unread, harg4.read_unread, harg5.read_unread, harg6.read_unread, harg7.read_unread, harg8.read_unread]; rfl
  iexact HT

set_option maxHeartbeats 1000000 in
/-- The last chunk of a tile in use, over all of its rows. -/
theorem run_last_full (c : Dev nD) (i : grid0.Coords) (arg3 : Memref sig .tc .vmem S1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1024x1024 .f32) (harg8 : arg8.IsWhole)
    (x : Vec F S1024x1024 .bf16) (g u : Vec F S1x1024x512 .f32) (d : Vec F S1x512x1024 .f32) (y : Vec F S1024x1024 .bf16) (a : Vec F S1024x1024 .f32) (f : TabBuf (F := F) c tabM)
    (h1 : ¬ k0_cond1 i (countWord c f) = 1#1) (h2 : k0_cond2 i (countWord c f) = 1#1) (h3 : ¬ startC i) (h6 : k0_cond6 i = 1#1)
    (h4 : ¬ halfC (rowsWord c i f)) (h5 : fullC (rowsWord c i f)) (E : Set ℕ) (K : PUnit → sProp 𝕄) :
    iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare y ∗ owns (c : Thread nD τ) arg8 fullShare a ∗ tabHalf c tabM f
        ∗ (iprop(owns (c : Thread nD τ) arg3 fullShare x ∗ owns (c : Thread nD τ) arg4 fullShare g ∗ owns (c : Thread nD τ) arg5 fullShare u ∗ owns (c : Thread nD τ) arg6 fullShare d ∗ owns (c : Thread nD τ) arg7 fullShare (k0_pay5 (stepFull x g u d a)) ∗ owns (c : Thread nD τ) arg8 fullShare (stepFull x g u d a) ∗ tabHalf c tabM f) -∗ K ⟨⟩))
      ⊢ wp frame (wpE (defs₀ (F := F)) Variants.none c none) E (cc0_moe_experts i tabM tabM_whole arg3 harg3 arg4 harg4 arg5 harg5 arg6 harg6 arg7 harg7 arg8 harg8) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfs
  sl_exec (disch := first | sl_exact h1 | sl_exact h2 | sl_exact h3 | sl_exact h4 | sl_exact h5 | sl_exact h6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro; sl_unfold_words; simp only [read_store, read_store_top, readCov_whole, readCov_top, readAt_whole, readAt_top, readAt_cols, readAt_rows,  View.writes_nil, harg3.read_unread, harg4.read_unread, harg5.read_unread, harg6.read_unread, harg7.read_unread, harg8.read_unread]; rfl
  isplitl [HS]
  · iexists _; isplitr
    swap; · iexact HS
    ipureintro; sl_unfold_words; simp only [read_store, read_store_top, readCov_whole, readCov_top, readAt_whole, readAt_top, readAt_cols, readAt_rows,  View.writes_nil, harg3.read_unread, harg4.read_unread, harg5.read_unread, harg6.read_unread, harg7.read_unread, harg8.read_unread]; rfl
  iexact HT

end Cert.KernelIdeal.Hand

end
-- ==== Proof.ExpertsFrame.lean ====
/- The experts' kernel from launch to end: what the accumulator holds after each grid point, what the output block
   holds when it is written back, and that the run leaves the arguments as they were. -/
module

public import proofs.«01_k».proof.Proof.ExpertsRun
public import Idealize.ShloMosaic.Lib.WritesUnit
public import Idealize.ShloMosaic.Lib.VecWindow
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds -/

/-- The accumulator after the body at point `t` of a tile in use, from what it held before. -/
def stepAt (hO : Ok m) (c : Dev nD) (t : Fin (cfgM m hO).N) (a : Vec F S1024x1024 .f32) : Vec F S1024x1024 .f32 :=
  open Classical in
  if halfC (rowsWord c (grid0.coords t) (tab m 0)) then stepHalf (iblk m hO c 0 t) (iblk m hO c 1 t) (iblk m hO c 2 t) (iblk m hO c 3 t) a
  else stepFull (iblk m hO c 0 t) (iblk m hO c 1 t) (iblk m hO c 2 t) (iblk m hO c 3 t) a

/-- The accumulator before point `n` inside a tile in use: zeroed at the tile's first chunk, a step further at each. -/
def accAt (hO : Ok m) (c : Dev nD) : ℕ → Vec F S1024x1024 .f32
  | 0 => k0_pay2
  | n + 1 => if h : n < (cfgM m hO).N then stepAt m hO c ⟨n, h⟩ (if n % 7 = 0 then k0_pay2 else accAt hO c n) else k0_pay2

theorem accAt_succ (hO : Ok m) (c : Dev nD) (t : Fin (cfgM m hO).N) :
    accAt m hO c (t.val + 1) = stepAt m hO c t (if t.val % 7 = 0 then k0_pay2 else accAt m hO c t.val) := dif_pos t.isLt

/-- The tile at point `n` is in use, by the table's count. -/
abbrev inUse (c : Dev nD) (n : ℕ) : Prop := active (countWord c (tab m 0)) n

theorem inUse_succ (c : Dev nD) (n : ℕ) (h : (n + 1) % 7 ≠ 0) : inUse m c (n + 1) ↔ inUse m c n := by
  unfold inUse active
  rw [show (n + 1) / 7 = n / 7 from by omega]

/-- What the output's buffer is left holding at point `t` where it is stored. -/
def outAt (hO : Ok m) (c : Dev nD) (t : Fin (cfgM m hO).N) : Vec F S1024x1024 .bf16 :=
  if inUse m c t.val then k0_pay5 (accAt m hO c (t.val + 1)) else k0_pay1

/-! ## The pipeline's proof data -/

/-- Before point `n`: the accumulator, known inside a tile in use, at anything elsewhere; the generator register; the table. -/
def Phi (hO : Ok m) (c : Dev nD) (n : ℕ) : sProp 𝕄 :=
  iprop(iprop(iprop(∃ a, ⌜(n % 7 ≠ 0 ∧ inUse m c n) → a = accAt m hO c n⌝ ∗ owns (c : Thread nD τ) accM fullShare a) ∗ (∃ r, prngReg c r)) ∗ Pipeline.ΦT pre0 (tab m) c)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := Phi m hO c t.val
  q w := Pipeline.shareOf spec0 w
  owed _ := 0

theorem A_eq (hO : Ok m) (c : Dev nD) (w : Fin (cfgM m hO).W) : (dats m hO 0 c).A w = V m c (Pipeline.arrRef spec0 w) := by
  dsimp only [dats]
theorem Phi_at (hO : Ok m) (c : Dev nD) (t : Fin (cfgM m hO).N) : (dats m hO 0 c).Φ t.castSucc = Phi m hO c t.val := by
  dsimp only [dats]; try rfl
theorem Phi_next (hO : Ok m) (c : Dev nD) (t : Fin (cfgM m hO).N) : (dats m hO 0 c).Φ t.succ = Phi m hO c (t.val + 1) := by
  dsimp only [dats]; try rfl

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

/-- An input's buffer holds its block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## Where the output is stored and written back -/

theorem flush_4 (hO : Ok m) (t : Fin (cfgM m hO).N) : ((cfgM m hO).win 4).flush t = true ↔ t.val % 7 = 6 :=
  (fun t => Pipeline.Window.flushOf_reads cc0_transform_4 reads0_4 hreads0_4 0 (by decide) (by decide) (Pipeline.Window.sep_of_coord cc0_transform_4 0 0 (fun _ => rfl) (by decide)) (P := 7) (m := 6) (by decide) rfl t : ∀ t : Fin grid0.N, Pipeline.Window.flushOf grid0 true cc0_transform_4 t = true ↔ t.val % 7 = 6) t

theorem flush_4_false (hO : Ok m) (t : Fin (cfgM m hO).N) (h : t.val % 7 ≠ 6) : ((cfgM m hO).win 4).flush t = false := by
  cases hf : ((cfgM m hO).win 4).flush t
  · rfl
  · exact absurd ((flush_4 m hO t).mp hf) h

/-- The table's word the configuration reads is the one the body loads. -/
theorem count_eq (c : Dev nD) : (tab m).atD 0 ![1, 0] = countWord c (tab m 0) := by
  unfold Pipeline.Prefetch.Contents.atD
  rw [dif_pos (by decide)]
  rfl

theorem live_4 (hO : Ok m) (c : Dev nD) (t : Fin (cfgM m hO).N) (h : (¬ inUse m c t.val ∧ t.val % 7 = 0) ∨ (inUse m c t.val ∧ t.val % 7 = 6)) :
    (cfgM m hO).idle 4 (grid0.coords t) = false := by
  show (!(k0_cond1 (grid0.coords t) ((tab m).atD 0 ![1, 0]) == 1#1) && !(k0_cond2 (grid0.coords t) ((tab m).atD 0 ![1, 0]) == 1#1 && k0_cond6 (grid0.coords t) == 1#1)) = false
  rw [count_eq m c]
  rcases h with h | h
  · rw [(cond1_iff t _).mpr h]; rfl
  · rw [(cond2_iff t _).mpr h.1, (lastC_iff t).mpr h.2, Bool.and_comm]; rfl

theorem idle_4 (hO : Ok m) (c : Dev nD) (t : Fin (cfgM m hO).N) (h : ¬ ((¬ inUse m c t.val ∧ t.val % 7 = 0) ∨ (inUse m c t.val ∧ t.val % 7 = 6))) :
    (cfgM m hO).idle 4 (grid0.coords t) = true := by
  show (!(k0_cond1 (grid0.coords t) ((tab m).atD 0 ![1, 0]) == 1#1) && !(k0_cond2 (grid0.coords t) ((tab m).atD 0 ![1, 0]) == 1#1 && k0_cond6 (grid0.coords t) == 1#1)) = true
  rw [count_eq m c]
  have e1 : (k0_cond1 (grid0.coords t) (countWord c (tab m 0)) == 1#1) = false :=
    beq_eq_false_iff_ne.mpr fun e => h (.inl ((cond1_iff t _).mp e))
  have e2 : (k0_cond2 (grid0.coords t) (countWord c (tab m 0)) == 1#1 && k0_cond6 (grid0.coords t) == 1#1) = false := by
    by_cases hu : inUse m c t.val
    · rw [Bool.and_comm, show (k0_cond6 (grid0.coords t) == 1#1) = false from beq_eq_false_iff_ne.mpr fun e => h (.inr ⟨hu, (lastC_iff t).mp e⟩)]; rfl
    · rw [show (k0_cond2 (grid0.coords t) (countWord c (tab m 0)) == 1#1) = false from beq_eq_false_iff_ne.mpr fun e => hu ((cond2_iff t _).mp e)]; rfl
  rw [e1, e2]; rfl

/-- A tile not in use leaves its output block zeroed through its chunks. -/
theorem before_4_zero (hO : Ok m) (c : Dev nD) (d : ((cfgM m hO).win 4).block.Idx → Elt F ((cfgM m hO).win 4).elt) :
    ∀ (k : ℕ) (t : Fin (cfgM m hO).N), t.val % 7 = k + 1 → ¬ inUse m c t.val → (dats m hO 0 c).before 4 t d = k0_pay1
  | 0, t, hk, hu => by
    have ht : t.val ≠ 0 := by omega
    have hu' : ¬ inUse m c (t.val - 1) := by
      rwa [← inUse_succ m c (t.val - 1) (by omega), show t.val - 1 + 1 = t.val from by omega]
    rw [(dats m hO 0 c).before_of_pos 4 t ht (((cfgM m hO).win 4).fetch_out rfl t) d,
      if_neg (by rw [flush_4_false m hO _ (by show (t.val - 1) % 7 ≠ 6; omega)]; exact Bool.false_ne_true)]
    unfold Dat.left
    rw [live_4 m hO c ⟨t.val - 1, _⟩ (.inl ⟨hu', by show (t.val - 1) % 7 = 0; omega⟩)]
    dsimp only
    unfold Dat.kept
    rw [after_4]
    unfold outAt
    rw [if_neg (show ¬ inUse m c (t.val - 1) from hu')]
    exact ((cfgM m hO).win 4).fill_cut _ _
  | k + 1, t, hk, hu => by
    have ht : t.val ≠ 0 := by omega
    have hu' : ¬ inUse m c (t.val - 1) := by
      rwa [← inUse_succ m c (t.val - 1) (by omega), show t.val - 1 + 1 = t.val from by omega]
    have h7 : t.val % 7 < 7 := Nat.mod_lt _ (by decide)
    rw [(dats m hO 0 c).before_of_pos 4 t ht (((cfgM m hO).win 4).fetch_out rfl t) d,
      if_neg (by rw [flush_4_false m hO _ (by show (t.val - 1) % 7 ≠ 6; omega)]; exact Bool.false_ne_true)]
    unfold Dat.left
    rw [idle_4 m hO c ⟨t.val - 1, _⟩ (by show ¬ ((_ ∧ (t.val - 1) % 7 = 0) ∨ (inUse m c (t.val - 1) ∧ _)); intro h; rcases h with h | h; (· omega); exact hu' h.1)]
    exact before_4_zero hO c d k _ (by show (t.val - 1) % 7 = k + 1; omega) hu'

/-! ## The body at a point -/

set_option maxHeartbeats 1000000 in
/-- The body at a point of a tile in use: the accumulator a step further, and the output stored at the last chunk. -/
theorem run_inUse (hO : Ok m) (c : Dev nD) (t : Fin (cfgM m hO).N) (hu : inUse m c t.val) (y y' : Vec F S1024x1024 .bf16) (a : Vec F S1024x1024 .f32)
    (ha : t.val % 7 ≠ 0 → a = accAt m hO c t.val) (hy : t.val % 7 = 6 → y' = k0_pay5 (accAt m hO c (t.val + 1))) (hy' : t.val % 7 ≠ 6 → y' = y) (E : Set ℕ) (K : PUnit → sProp 𝕄) :
    iprop(owns (c : Thread nD τ) (b0 m hO t) fullShare (iblk m hO c 0 t) ∗ owns (c : Thread nD τ) (b1 m hO t) fullShare (iblk m hO c 1 t) ∗ owns (c : Thread nD τ) (b2 m hO t) fullShare (iblk m hO c 2 t) ∗ owns (c : Thread nD τ) (b3 m hO t) fullShare (iblk m hO c 3 t) ∗ owns (c : Thread nD τ) (b4 m hO t) fullShare y ∗ owns (c : Thread nD τ) accM fullShare a ∗ tabHalf c tabM (tab m 0)
        ∗ (iprop(owns (c : Thread nD τ) (b0 m hO t) fullShare (iblk m hO c 0 t) ∗ owns (c : Thread nD τ) (b1 m hO t) fullShare (iblk m hO c 1 t) ∗ owns (c : Thread nD τ) (b2 m hO t) fullShare (iblk m hO c 2 t) ∗ owns (c : Thread nD τ) (b3 m hO t) fullShare (iblk m hO c 3 t) ∗ owns (c : Thread nD τ) (b4 m hO t) fullShare y' ∗ owns (c : Thread nD τ) accM fullShare (accAt m hO c (t.val + 1)) ∗ tabHalf c tabM (tab m 0)) -∗ K ⟨⟩))
      ⊢ wp frame (wpE (defs₀ (F := F)) Variants.none c none) E (bodyAt m hO t) K := by
  have h2 := (cond2_iff t (countWord c (tab m 0))).mpr hu
  have h1 : ¬ k0_cond1 (grid0.coords t) (countWord c (tab m 0)) = 1#1 := fun h => ((cond1_iff t _).mp h).1 hu
  by_cases h4 : halfC (rowsWord c (grid0.coords t) (tab m 0))
  · have h5 : ¬ fullC (rowsWord c (grid0.coords t) (tab m 0)) := fun h => (fullC_iff _).mp h h4
    by_cases h0 : t.val % 7 = 0
    · have e : accAt m hO c (t.val + 1) = stepHalf (iblk m hO c 0 t) (iblk m hO c 1 t) (iblk m hO c 2 t) (iblk m hO c 3 t) k0_pay2 := by
        rw [accAt_succ, if_pos h0]; unfold stepAt; rw [if_pos h4]
      rw [hy' (by omega), e]
      exact run_first_half c (grid0.coords t) _ _ _ _ _ _ _ _ _ _ _ _ (iblk m hO c 0 t) (iblk m hO c 1 t) (iblk m hO c 2 t) (iblk m hO c 3 t) y a (tab m 0) h1 h2 ((startC_iff t).mpr h0) (fun h => by have := (lastC_iff t).mp h; omega) h4 h5 E K
    · obtain rfl := ha h0
      have e : accAt m hO c (t.val + 1) = stepHalf (iblk m hO c 0 t) (iblk m hO c 1 t) (iblk m hO c 2 t) (iblk m hO c 3 t) (accAt m hO c t.val) := by
        rw [accAt_succ, if_neg h0]; unfold stepAt; rw [if_pos h4]
      by_cases h6 : t.val % 7 = 6
      · rw [hy h6, e]
        exact run_last_half c (grid0.coords t) _ _ _ _ _ _ _ _ _ _ _ _ (iblk m hO c 0 t) (iblk m hO c 1 t) (iblk m hO c 2 t) (iblk m hO c 3 t) y _ (tab m 0) h1 h2 (fun h => h0 ((startC_iff t).mp h)) ((lastC_iff t).mpr h6) h4 h5 E K
      · rw [hy' h6, e]
        exact run_mid_half c (grid0.coords t) _ _ _ _ _ _ _ _ _ _ _ _ (iblk m hO c 0 t) (iblk m hO c 1 t) (iblk m hO c 2 t) (iblk m hO c 3 t) y _ (tab m 0) h1 h2 (fun h => h0 ((startC_iff t).mp h)) (fun h => h6 ((lastC_iff t).mp h)) h4 h5 E K
  · have h5 : fullC (rowsWord c (grid0.coords t) (tab m 0)) := (fullC_iff _).mpr h4
    by_cases h0 : t.val % 7 = 0
    · have e : accAt m hO c (t.val + 1) = stepFull (iblk m hO c 0 t) (iblk m hO c 1 t) (iblk m hO c 2 t) (iblk m hO c 3 t) k0_pay2 := by
        rw [accAt_succ, if_pos h0]; unfold stepAt; rw [if_neg h4]
      rw [hy' (by omega), e]
      exact run_first_full c (grid0.coords t) _ _ _ _ _ _ _ _ _ _ _ _ (iblk m hO c 0 t) (iblk m hO c 1 t) (iblk m hO c 2 t) (iblk m hO c 3 t) y a (tab m 0) h1 h2 ((startC_iff t).mpr h0) (fun h => by have := (lastC_iff t).mp h; omega) h4 h5 E K
    · obtain rfl := ha h0
      have e : accAt m hO c (t.val + 1) = stepFull (iblk m hO c 0 t) (iblk m hO c 1 t) (iblk m hO c 2 t) (iblk m hO c 3 t) (accAt m hO c t.val) := by
        rw [accAt_succ, if_neg h0]; unfold stepAt; rw [if_neg h4]
      by_cases h6 : t.val % 7 = 6
      · rw [hy h6, e]
        exact run_last_full c (grid0.coords t) _ _ _ _ _ _ _ _ _ _ _ _ (iblk m hO c 0 t) (iblk m hO c 1 t) (iblk m hO c 2 t) (iblk m hO c 3 t) y _ (tab m 0) h1 h2 (fun h => h0 ((startC_iff t).mp h)) ((lastC_iff t).mpr h6) h4 h5 E K
      · rw [hy' h6, e]
        exact run_mid_full c (grid0.coords t) _ _ _ _ _ _ _ _ _ _ _ _ (iblk m hO c 0 t) (iblk m hO c 1 t) (iblk m hO c 2 t) (iblk m hO c 3 t) y _ (tab m 0) h1 h2 (fun h => h0 ((startC_iff t).mp h)) (fun h => h6 ((lastC_iff t).mp h)) h4 h5 E K

/-- What the pipeline calls the body with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (b0 m hO t) fullShare ((dats m hO 0 c).before 0 t d))
    ∗ (∃ d, owns (c : Thread nD τ) (b1 m hO t) fullShare ((dats m hO 0 c).before 1 t d))
    ∗ (∃ d, owns (c : Thread nD τ) (b2 m hO t) fullShare ((dats m hO 0 c).before 2 t d))
    ∗ (∃ d, owns (c : Thread nD τ) (b3 m hO t) fullShare ((dats m hO 0 c).before 3 t d))
    ∗ (∃ d, owns (c : Thread nD τ) (b4 m hO t) fullShare ((dats m hO 0 c).before 4 t d)))
/-- and what it takes back. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t)

theorem leaves_0 (hO : Ok m) (c : Dev nD) (t : Fin (cfgM m hO).N) : (dats m hO 0 c).leavesExact 0 t = owns (c : Thread nD τ) (b0 m hO t) fullShare (iblk m hO c 0 t) := by
  unfold Dat.leavesExact; rw [show (cfgM m hO).idle 0 (grid0.coords t) = false from rfl, after_0]; try rfl
theorem leaves_1 (hO : Ok m) (c : Dev nD) (t : Fin (cfgM m hO).N) : (dats m hO 0 c).leavesExact 1 t = owns (c : Thread nD τ) (b1 m hO t) fullShare (iblk m hO c 1 t) := by
  unfold Dat.leavesExact; rw [show (cfgM m hO).idle 1 (grid0.coords t) = false from rfl, after_1]; try rfl
theorem leaves_2 (hO : Ok m) (c : Dev nD) (t : Fin (cfgM m hO).N) : (dats m hO 0 c).leavesExact 2 t = owns (c : Thread nD τ) (b2 m hO t) fullShare (iblk m hO c 2 t) := by
  unfold Dat.leavesExact; rw [show (cfgM m hO).idle 2 (grid0.coords t) = false from rfl, after_2]; try rfl
theorem leaves_3 (hO : Ok m) (c : Dev nD) (t : Fin (cfgM m hO).N) : (dats m hO 0 c).leavesExact 3 t = owns (c : Thread nD τ) (b3 m hO t) fullShare (iblk m hO c 3 t) := by
  unfold Dat.leavesExact; rw [show (cfgM m hO).idle 3 (grid0.coords t) = false from rfl, after_3]; try rfl

/-- The output's buffer, where it is stored: what was stored. -/
theorem leaves_4_live (hO : Ok m) (c : Dev nD) (t : Fin (cfgM m hO).N) (h : (¬ inUse m c t.val ∧ t.val % 7 = 0) ∨ (inUse m c t.val ∧ t.val % 7 = 6)) :
    (dats m hO 0 c).leavesExact 4 t = owns (c : Thread nD τ) (b4 m hO t) fullShare (outAt m hO c t) := by
  unfold Dat.leavesExact; rw [live_4 m hO c t h, after_4]; try rfl
/-- Where it is not, and not written back: what the body found there, -/
theorem leaves_4_idle (hO : Ok m) (c : Dev nD) (t : Fin (cfgM m hO).N) (h : ¬ ((¬ inUse m c t.val ∧ t.val % 7 = 0) ∨ (inUse m c t.val ∧ t.val % 7 = 6))) (h6 : t.val % 7 ≠ 6) :
    (dats m hO 0 c).leavesExact 4 t = iprop(∃ d, owns (c : Thread nD τ) (b4 m hO t) fullShare ((dats m hO 0 c).before 4 t d)) :=
  (dats m hO 0 c).leavesExact_idle 4 t (idle_4 m hO c t h) (flush_4_false m hO t h6)
/-- and at a write-back, the block's zeros. -/
theorem leaves_4_back (hO : Ok m) (c : Dev nD) (t : Fin (cfgM m hO).N) (h : ¬ ((¬ inUse m c t.val ∧ t.val % 7 = 0) ∨ (inUse m c t.val ∧ t.val % 7 = 6))) (h6 : t.val % 7 = 6) :
    (dats m hO 0 c).leavesExact 4 t = owns (c : Thread nD τ) (b4 m hO t) fullShare (outAt m hO c t) := by
  unfold Dat.leavesExact; rw [idle_4 m hO c t h, (flush_4 m hO t).mpr h6, after_4]; try rfl

set_option maxHeartbeats 1000000 in
theorem body_sound (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2, before_3]
  rw [leaves_0 m hO c t, leaves_1 m hO c t, leaves_2 m hO c t, leaves_3 m hO c t]
  rw [show (dats m hO 0 c).owesAt () t.succ = (dats m hO 0 c).owesAt () t.castSucc from rfl, Phi_at, Phi_next]
  unfold Phi
  rw [tabHalf_eq]
  by_cases hu : inUse m c t.val
  · by_cases h6 : t.val % 7 = 6
    · iintro ⟨⟨⟨⟨%a, %ha, HS⟩, Hg⟩, HT⟩, Ho, ⟨%d0, H0⟩, ⟨%d1, H1⟩, ⟨%d2, H2⟩, ⟨%d3, H3⟩, ⟨%d4, H4⟩⟩
      iapply (run_inUse m hO c t hu _ (k0_pay5 (accAt m hO c (t.val + 1))) a (fun h => ha ⟨h, hu⟩) (fun _ => rfl) (fun h => absurd h6 h) Set.univ _)
      isplitl [H0]; · iexact H0
      isplitl [H1]; · iexact H1
      isplitl [H2]; · iexact H2
      isplitl [H3]; · iexact H3
      isplitl [H4]; · iexact H4
      isplitl [HS]; · iexact HS
      isplitl [HT]; · iexact HT
      iintro ⟨H0, H1, H2, H3, H4, HS, HT⟩
      isplitl [HS Hg HT]
      · isplitl [HS Hg]
        · isplitl [HS]
          · iexists _; isplitr
            swap; · iexact HS
            ipureintro; exact fun _ => rfl
          iexact Hg
        iexact HT
      isplitl [Ho]; · iexact Ho
      isplitl [H0]; · iexact H0
      isplitl [H1]; · iexact H1
      isplitl [H2]; · iexact H2
      isplitl [H3]; · iexact H3
      rw [leaves_4_live m hO c t (.inr ⟨hu, h6⟩)]; unfold outAt; rw [if_pos hu]; iexact H4
    · iintro ⟨⟨⟨⟨%a, %ha, HS⟩, Hg⟩, HT⟩, Ho, ⟨%d0, H0⟩, ⟨%d1, H1⟩, ⟨%d2, H2⟩, ⟨%d3, H3⟩, ⟨%d4, H4⟩⟩
      iapply (run_inUse m hO c t hu _ _ a (fun h => ha ⟨h, hu⟩) (fun h => absurd h h6) (fun _ => rfl) Set.univ _)
      isplitl [H0]; · iexact H0
      isplitl [H1]; · iexact H1
      isplitl [H2]; · iexact H2
      isplitl [H3]; · iexact H3
      isplitl [H4]; · iexact H4
      isplitl [HS]; · iexact HS
      isplitl [HT]; · iexact HT
      iintro ⟨H0, H1, H2, H3, H4, HS, HT⟩
      isplitl [HS Hg HT]
      · isplitl [HS Hg]
        · isplitl [HS]
          · iexists _; isplitr
            swap; · iexact HS
            ipureintro; exact fun _ => rfl
          iexact Hg
        iexact HT
      isplitl [Ho]; · iexact Ho
      isplitl [H0]; · iexact H0
      isplitl [H1]; · iexact H1
      isplitl [H2]; · iexact H2
      isplitl [H3]; · iexact H3
      rw [leaves_4_idle m hO c t (fun h => h.elim (fun h => h.1 hu) (fun h => h6 h.2)) h6]; iexists d4; iexact H4
  · have h2 : ¬ k0_cond2 (grid0.coords t) (countWord c (tab m 0)) = 1#1 := fun h => hu ((cond2_iff t _).mp h)
    have hn : ∀ a : Vec F S1024x1024 .f32, ((t.val + 1) % 7 ≠ 0 ∧ inUse m c (t.val + 1)) → a = accAt m hO c (t.val + 1) :=
      fun a h => absurd ((inUse_succ m c t.val h.1).mp h.2) hu
    by_cases h0 : t.val % 7 = 0
    · iintro ⟨⟨⟨⟨%a, %ha, HS⟩, Hg⟩, HT⟩, Ho, ⟨%d0, H0⟩, ⟨%d1, H1⟩, ⟨%d2, H2⟩, ⟨%d3, H3⟩, ⟨%d4, H4⟩⟩
      iapply (run_clear c (grid0.coords t) _ (b0w m hO t) _ (b1w m hO t) _ (b2w m hO t) _ (b3w m hO t) _ (b4w m hO t) _ (Memref.isWhole_whole _) (iblk m hO c 0 t) (iblk m hO c 1 t) (iblk m hO c 2 t) (iblk m hO c 3 t) _ a (tab m 0) ((cond1_iff t _).mpr ⟨hu, h0⟩) h2 Set.univ _)
      isplitl [H0]; · iexact H0
      isplitl [H1]; · iexact H1
      isplitl [H2]; · iexact H2
      isplitl [H3]; · iexact H3
      isplitl [H4]; · iexact H4
      isplitl [HS]; · iexact HS
      isplitl [HT]; · iexact HT
      iintro ⟨H0, H1, H2, H3, H4, HS, HT⟩
      isplitl [HS Hg HT]
      · isplitl [HS Hg]
        · isplitl [HS]
          · iexists _; isplitr
            swap; · iexact HS
            ipureintro; exact hn _
          iexact Hg
        iexact HT
      isplitl [Ho]; · iexact Ho
      isplitl [H0]; · iexact H0
      isplitl [H1]; · iexact H1
      isplitl [H2]; · iexact H2
      isplitl [H3]; · iexact H3
      rw [leaves_4_live m hO c t (.inl ⟨hu, h0⟩)]; unfold outAt; rw [if_neg hu]; iexact H4
    · have h1 : ¬ k0_cond1 (grid0.coords t) (countWord c (tab m 0)) = 1#1 := fun h => h0 ((cond1_iff t _).mp h).2
      have hni : ¬ ((¬ inUse m c t.val ∧ t.val % 7 = 0) ∨ (inUse m c t.val ∧ t.val % 7 = 6)) := fun h => h.elim (fun h => h0 h.2) (fun h => hu h.1)
      iintro ⟨⟨⟨⟨%a, %ha, HS⟩, Hg⟩, HT⟩, Ho, ⟨%d0, H0⟩, ⟨%d1, H1⟩, ⟨%d2, H2⟩, ⟨%d3, H3⟩, ⟨%d4, H4⟩⟩
      iapply (run_skip c (grid0.coords t) _ (b0w m hO t) _ (b1w m hO t) _ (b2w m hO t) _ (b3w m hO t) _ (b4w m hO t) _ (Memref.isWhole_whole _) (iblk m hO c 0 t) (iblk m hO c 1 t) (iblk m hO c 2 t) (iblk m hO c 3 t) _ a (tab m 0) h1 h2 Set.univ _)
      isplitl [H0]; · iexact H0
      isplitl [H1]; · iexact H1
      isplitl [H2]; · iexact H2
      isplitl [H3]; · iexact H3
      isplitl [H4]; · iexact H4
      isplitl [HS]; · iexact HS
      isplitl [HT]; · iexact HT
      iintro ⟨H0, H1, H2, H3, H4, HS, HT⟩
      isplitl [HS Hg HT]
      · isplitl [HS Hg]
        · isplitl [HS]
          · iexists _; isplitr
            swap; · iexact HS
            ipureintro; exact hn _
          iexact Hg
        iexact HT
      isplitl [Ho]; · iexact Ho
      isplitl [H0]; · iexact H0
      isplitl [H1]; · iexact H1
      isplitl [H2]; · iexact H2
      isplitl [H3]; · iexact H3
      by_cases h6 : t.val % 7 = 6
      · rw [leaves_4_back m hO c t hni h6, before_4_zero m hO c d4 5 t h6 hu]; unfold outAt; rw [if_neg hu]; iexact H4
      · rw [leaves_4_idle m hO c t hni h6]; iexists d4; iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (body_sound m hO c t) rfl .rfl fun _ => .rfl

theorem hin (hO : Ok m) (c : Dev nD) : iprop(Pipeline.ΦA spec0 c ∗ Pipeline.ΦT pre0 (tab m) c) ⊢ (dats m hO 0 c).Φ 0 := by
  rw [show (dats m hO 0 c).Φ 0 = Phi m hO c 0 from rfl, rest_eq]
  unfold Phi
  iintro ⟨⟨⟨%a, HS⟩, Hg⟩, HT⟩
  isplitl [HS Hg]
  · isplitl [HS]
    · iexists a; isplitr
      · ipureintro; exact fun h => absurd rfl h.1
      iexact HS
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = Phi m hO c (cfgM m hO).N from rfl, rest_eq]
  unfold Phi
  iintro ⟨⟨⟨%a, %ha, HS⟩, Hg⟩, -⟩
  isplitl [HS]
  · iexists a; iexact HS
  iexact Hg

/-! ## The run -/

set_option backward.isDefEq.respectTransparency.types false in
/-- Every execution ends, with the arrays as the pipeline's data say and every semaphore at zero. -/
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := enter m Variants.none) (hA := A_eq m hO) (hpf := V_tab m) (hin := hin m hO) (hout := hout m hO)

/-- The arguments end as they were, and every semaphore at zero. -/
theorem run_frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
    ((h.1 c).2 main_arg0 (by decide : main_arg0 ∈ Pipeline.restRefs sig spec0)).trans (V_of_ne m c main_arg0 (by decide) (by decide)),
    ((h.1 c).1 0).trans (((dats m hO 0 c).arrAt_in 0 rfl _).trans ((A_eq m hO c 0).trans (V_of_ne m c main_arg1 (by decide) (by decide)))),
    ((h.1 c).2 main_arg2 (by decide : main_arg2 ∈ Pipeline.restRefs sig spec0)).trans (V_of_ne m c main_arg2 (by decide) (by decide)),
    ((h.1 c).2 main_arg3 (by decide : main_arg3 ∈ Pipeline.restRefs sig spec0)).trans (V_of_ne m c main_arg3 (by decide) (by decide))⟩, h.2⟩) (run_main m ρ hO)

end Cert.KernelIdeal.Hand

end
-- ==== Proof.ExpertsOk.lean ====
/- The words of the table: what the index maps and the body read of it; and that a table naming the eight experts keeps
   every block inside its array. -/
module

public import proofs.«01_k».proof.Proof.ExpertsKit
public import proofs.«01_k».proof.Proof.Gen.Pre_tile_experts
public import proofs.«01_k».proof.Proof.Gen.Pre_tiles_filled
public import Idealize.ShloMosaic.Lib.Affine
public import Idealize.ShloMosaic.Lib.Pointwise
public import Idealize.ShloMosaic.Lib.StableHlo.Predicate

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- The table as the launch finds it. -/
abbrev words (m : (ℓ : Loc nD τ sig) → Buf (Elt F) ℓ) : IVec S3x43 32 := m ((0 : Dev nD), main_arg0)

theorem tab_words : tab m 0 = words m := V_of_ne m 0 main_arg0 (by decide) (by decide)

/-- The expert of tile `t`, the count of tiles, and the rows tile `t` fills. -/
def expertOf (m : (ℓ : Loc nD τ sig) → Buf (Elt F) ℓ) (t : Fin 43) : BitVec 32 := words m (ix2 (0 : Fin 3) t)
def tileCount (m : (ℓ : Loc nD τ sig) → Buf (Elt F) ℓ) : BitVec 32 := words m (ix2 (1 : Fin 3) (0 : Fin 43))
def rowsOf (m : (ℓ : Loc nD τ sig) → Buf (Elt F) ℓ) (t : Fin 43) : BitVec 32 := words m (ix2 (2 : Fin 3) t)

theorem countWord_eq (c : Dev nD) : countWord c (tab m 0) = tileCount m := by
  rw [tab_words]
  refine congrArg (words m) (funext fun a => Fin.ext ?_)
  match a with
  | ⟨0, _⟩ => rfl
  | ⟨1, _⟩ => rfl

theorem rowsWord_eq (c : Dev nD) (i : grid0.Coords) : rowsWord c i (tab m 0) = rowsOf m (i 0) := by
  rw [tab_words]
  refine congrArg (words m) (funext fun a => Fin.ext ?_)
  match a with
  | ⟨0, _⟩ => rfl
  | ⟨1, _⟩ =>
    have : (i 0).val < 43 := (i 0).isLt
    show (BitVec.ofNat 32 (i 0).val).toNat + 1 * 0 = (i 0).val
    rw [BitVec.toNat_ofNat]; omega

/-- The table's word an index map reads at `(0, t)`, and the one it reads at `(1, 0)`. -/
theorem expertAt_eq (i : grid0.Coords) :
    (tab m).at 0 (Rect.unit (s := S3x43) ![0, (Scalar.indexCast (BitVec.ofNat 32 (i 0).val) : Index).toNat] S1x1.size (k0_off1_inb i)) numel1_S1x1 = expertOf m (i 0) := by
  refine (congrFun (tab_words m) _).trans (congrArg (words m) (funext fun a => Fin.ext ?_))
  match a with
  | ⟨0, _⟩ => rfl
  | ⟨1, _⟩ =>
    have : (i 0).val < 43 := (i 0).isLt
    show (BitVec.ofNat 32 (i 0).val).toNat + 1 * 0 = (i 0).val
    rw [BitVec.toNat_ofNat]; omega

theorem countAt_eq :
    (tab m).at 0 (Rect.unit (s := S3x43) ![1, 0] S1x1.size inb_S3x43_S1x1_1_0) numel1_S1x1 = tileCount m := by
  refine (congrFun (tab_words m) _).trans (congrArg (words m) (funext fun a => Fin.ext ?_))
  match a with
  | ⟨0, _⟩ => rfl
  | ⟨1, _⟩ => rfl

/-! ## The index maps -/

/-- The tile whose rows are fetched: the last one in use where the tile is not in use. -/
def rowTile (m : (ℓ : Loc nD τ sig) → Buf (Elt F) ℓ) (n : ℕ) : BitVec 32 := Scalar.maxsi (Scalar.minsi (BitVec.ofNat 32 n) (Scalar.subi (tileCount m) 1#32)) 0#32
/-- The hidden chunk whose weights are fetched: the last one where the tile is not in use. -/
def wChunk (m : (ℓ : Loc nD τ sig) → Buf (Elt F) ℓ) (n k : ℕ) : BitVec 32 := Scalar.select (Scalar.cmpi .slt (BitVec.ofNat 32 n) (tileCount m)) (BitVec.ofNat 32 k) 6#32

theorem map_0 (i : grid0.Coords) : cc0_transform_0 inb_S3x43_S1x1_1_0 numel1_S1x1 (tab m) i = ![(rowTile m (i 0).val).toNat, 0] := by
  show ![(Scalar.maxsi (Scalar.minsi (BitVec.ofNat 32 (i 0).val) (Scalar.subi ((tab m).at 0 (Rect.unit (s := S3x43) ![1, 0] S1x1.size inb_S3x43_S1x1_1_0) numel1_S1x1) 1#32)) 0#32).toNat, 0] = _
  rw [countAt_eq]; rfl
theorem map_1 (i : grid0.Coords) : cc0_transform_1 k0_off1_inb numel1_S1x1 inb_S3x43_S1x1_1_0 (tab m) i = ![(expertOf m (i 0)).toNat, 0, (wChunk m (i 0).val (i 1).val).toNat] := by
  show ![((tab m).at 0 (Rect.unit (s := S3x43) ![0, (Scalar.indexCast (BitVec.ofNat 32 (i 0).val) : Index).toNat] S1x1.size (k0_off1_inb i)) numel1_S1x1).toNat, 0,
    (Scalar.select (Scalar.cmpi .slt (BitVec.ofNat 32 (i 0).val) ((tab m).at 0 (Rect.unit (s := S3x43) ![1, 0] S1x1.size inb_S3x43_S1x1_1_0) numel1_S1x1)) (BitVec.ofNat 32 (i 1).val) 6#32).toNat] = _
  rw [countAt_eq, expertAt_eq]; rfl
theorem map_2 (i : grid0.Coords) : cc0_transform_2 k0_off1_inb numel1_S1x1 inb_S3x43_S1x1_1_0 (tab m) i = ![(expertOf m (i 0)).toNat, 0, (Scalar.addi (wChunk m (i 0).val (i 1).val) 7#32).toNat] := by
  show ![((tab m).at 0 (Rect.unit (s := S3x43) ![0, (Scalar.indexCast (BitVec.ofNat 32 (i 0).val) : Index).toNat] S1x1.size (k0_off1_inb i)) numel1_S1x1).toNat, 0,
    (Scalar.addi (Scalar.select (Scalar.cmpi .slt (BitVec.ofNat 32 (i 0).val) ((tab m).at 0 (Rect.unit (s := S3x43) ![1, 0] S1x1.size inb_S3x43_S1x1_1_0) numel1_S1x1)) (BitVec.ofNat 32 (i 1).val) 6#32) 7#32).toNat] = _
  rw [countAt_eq, expertAt_eq]; rfl
theorem map_3 (i : grid0.Coords) : cc0_transform_3 k0_off1_inb numel1_S1x1 inb_S3x43_S1x1_1_0 (tab m) i = ![(expertOf m (i 0)).toNat, (wChunk m (i 0).val (i 1).val).toNat, 0] := by
  show ![((tab m).at 0 (Rect.unit (s := S3x43) ![0, (Scalar.indexCast (BitVec.ofNat 32 (i 0).val) : Index).toNat] S1x1.size (k0_off1_inb i)) numel1_S1x1).toNat,
    (Scalar.select (Scalar.cmpi .slt (BitVec.ofNat 32 (i 0).val) ((tab m).at 0 (Rect.unit (s := S3x43) ![1, 0] S1x1.size inb_S3x43_S1x1_1_0) numel1_S1x1)) (BitVec.ofNat 32 (i 1).val) 6#32).toNat, 0] = _
  rw [countAt_eq, expertAt_eq]; rfl

theorem toInt_small (n : ℕ) (h : n < 2 ^ 31) : (BitVec.ofNat 32 n).toInt = n := by
  rw [BitVec.toInt_eq_toNat_of_lt (by rw [BitVec.toNat_ofNat]; omega), BitVec.toNat_ofNat]
  omega

theorem rowTile_lt (n : ℕ) (h : n < 43) : (rowTile m n).toNat < 43 := by
  have h0 : (BitVec.ofNat 32 n).toNat < 43 := by rw [BitVec.toNat_ofNat]; omega
  unfold rowTile
  generalize BitVec.ofNat 32 n = a at h0 ⊢
  generalize Scalar.subi (tileCount m) 1#32 = b
  simp only [Scalar.maxsi, Scalar.minsi, IntOp.maxsi, IntOp.minsi, BitVec.slt_eq_decide, decide_eq_true_eq, BitVec.reduceToInt]
  have e0 : (0#32 : BitVec 32).toNat = 0 := rfl
  have ea := BitVec.toInt_eq_toNat_cond a
  have eb := BitVec.toInt_eq_toNat_cond b
  have lb := b.isLt
  split at ea <;> split at eb <;> split <;> split <;> omega

/-- Where the tile is in use its own rows are fetched. -/
theorem rowTile_inUse (n : ℕ) (h : n < 43) (hu : (BitVec.ofNat 32 n).slt (tileCount m) = true) : (rowTile m n).toNat = n := by
  have h0 : (BitVec.ofNat 32 n).toNat = n := by rw [BitVec.toNat_ofNat]; omega
  unfold rowTile
  generalize BitVec.ofNat 32 n = a at h0 hu ⊢
  generalize tileCount m = b at hu ⊢
  simp only [Scalar.maxsi, Scalar.minsi, Scalar.subi, IntOp.subi, IntOp.maxsi, IntOp.minsi, BitVec.slt_eq_decide, decide_eq_true_eq, BitVec.reduceToInt] at hu ⊢
  have e0 : (0#32 : BitVec 32).toNat = 0 := rfl
  have ea := BitVec.toInt_eq_toNat_cond a
  have eb := BitVec.toInt_eq_toNat_cond b
  have ec := BitVec.toInt_eq_toNat_cond (b - 1#32)
  have ed := BitVec.toNat_sub b 1#32
  have e1 : (1#32 : BitVec 32).toNat = 1 := rfl
  have lb := b.isLt
  rw [e1] at ed
  have hb : b.toNat < 2 ^ 31 ∧ n < b.toNat := by split at ea <;> split at eb <;> omega
  have ed' : (b - 1#32).toNat = b.toNat - 1 := by omega
  split at ea <;> split at ec <;> split <;> split <;> omega

theorem wChunk_lt (n k : ℕ) (h : k < 7) : (wChunk m n k).toNat < 7 := by
  unfold wChunk Scalar.select
  split
  · rw [BitVec.toNat_ofNat]; omega
  · decide

/-- A table that names the eight experts keeps every block inside its array. -/
theorem ok_of (h : ∀ t, (expertOf m t).toNat < 8) : Ok m := by
  refine ⟨fun i => ?_, fun i => ?_, fun i => ?_, fun i => ?_⟩
  · have h1 := rowTile_lt m (i 0).val (i 0).isLt
    rw [map_0]
    refine ⟨fun a => ?_, .inr (Affine.block_words_dvd (of_decide_eq_true rfl) (by decide))⟩
    match a with
    | ⟨0, _⟩ => show ((rowTile m (i 0).val).toNat + 1) * 1024 ≤ 44032; omega
    | ⟨1, _⟩ => exact Nat.le_refl _
  · have h0 := h (i 0)
    have h1 := wChunk_lt m (i 0).val (i 1).val (i 1).isLt
    rw [map_1]
    refine ⟨fun a => ?_, .inl rfl⟩
    match a with
    | ⟨0, _⟩ => show ((expertOf m (i 0)).toNat + 1) * 1 ≤ 8; omega
    | ⟨1, _⟩ => exact Nat.le_refl _
    | ⟨2, _⟩ => show ((wChunk m (i 0).val (i 1).val).toNat + 1) * 512 ≤ 7168; omega
  · have h0 := h (i 0)
    have h1 := wChunk_lt m (i 0).val (i 1).val (i 1).isLt
    have h2 : (Scalar.addi (wChunk m (i 0).val (i 1).val) 7#32).toNat = (wChunk m (i 0).val (i 1).val).toNat + 7 := by
      show (wChunk m (i 0).val (i 1).val + 7#32).toNat = _
      rw [BitVec.toNat_add]; show (_ + 7) % 2 ^ 32 = _; omega
    rw [map_2, h2]
    refine ⟨fun a => ?_, .inl rfl⟩
    match a with
    | ⟨0, _⟩ => show ((expertOf m (i 0)).toNat + 1) * 1 ≤ 8; omega
    | ⟨1, _⟩ => exact Nat.le_refl _
    | ⟨2, _⟩ => show ((wChunk m (i 0).val (i 1).val).toNat + 7 + 1) * 512 ≤ 7168; omega
  · have h0 := h (i 0)
    have h1 := wChunk_lt m (i 0).val (i 1).val (i 1).isLt
    rw [map_3]
    refine ⟨fun a => ?_, .inl rfl⟩
    match a with
    | ⟨0, _⟩ => show ((expertOf m (i 0)).toNat + 1) * 1 ≤ 8; omega
    | ⟨1, _⟩ => show ((wChunk m (i 0).val (i 1).val).toNat + 1) * 512 ≤ 3584; omega
    | ⟨2, _⟩ => exact Nat.le_refl _

/-! ## The preconditions -/

theorem and_one (a b : BitVec 1) : a &&& b = 1#1 ↔ a = 1#1 ∧ b = 1#1 := by revert a b; decide
theorem or_one (a b : BitVec 1) : a ||| b = 1#1 ↔ a = 1#1 ∨ b = 1#1 := by revert a b; decide

/-- A word from 0 to 7, by its two comparisons. -/
theorem word_lt (w : BitVec 32) (h : IntOp.cmpi .sge w 0#32 = 1#1 ∧ IntOp.cmpi .slt w 8#32 = 1#1) : w.toNat < 8 := by
  obtain ⟨h1, h2⟩ := h
  simp only [IntOp.cmpi, StableHlo.Predicate.ofBool_eq_one_iff, BitVec.sle_eq_decide, BitVec.slt_eq_decide, decide_eq_true_eq, BitVec.reduceToInt] at h1 h2
  have ew := BitVec.toInt_eq_toNat_cond w
  have lw := w.isLt
  split at ew <;> omega

theorem experts_named (w : IVec S3x43 32) (x : FVec F S44032x1024 .bf16) (g : FVec F S1x8x1024x7168 .f32) (d : FVec F S1x8x3584x1024 .f32)
    (h : Cert.Pre_tile_experts.fn w x g d = fun _ => 1#1) (t : Fin 43) : (w (ix2 (0 : Fin 3) t)).toNat < 8 := by
  have h0 := congrFun h (ix1 t)
  unfold Cert.Pre_tile_experts.fn at h0
  pointwise at h0
  exact word_lt _ ((and_one _ _).mp h0)

theorem tiles_named (w : IVec S3x43 32) (x : FVec F S44032x1024 .bf16) (g : FVec F S1x8x1024x7168 .f32) (d : FVec F S1x8x3584x1024 .f32)
    (h : Cert.Pre_tiles_filled.fn w x g d = fun _ => 1#1) (t : Fin 43) : (w (ix2 (0 : Fin 3) t)).toNat < 8 := by
  have h0 := congrFun h (ix3 t (0 : Fin 1024) (0 : Fin 1024))
  unfold Cert.Pre_tiles_filled.fn at h0
  pointwise at h0
  exact word_lt _ ((and_one _ _).mp ((and_one _ _).mp h0).1)

/-- A row past the rows its tile uses is zero. -/
theorem tiles_zero (w : IVec S3x43 32) (x : FVec Ideal S44032x1024 .bf16) (g : FVec Ideal S1x8x1024x7168 .f32) (d : FVec Ideal S1x8x3584x1024 .f32)
    (h : Cert.Pre_tiles_filled.fn (F := Ideal) w x g d = fun _ => 1#1) (t : Fin 43) (r k : Fin 1024)
    (hr : (BitVec.ofNat 32 r.val).slt (w (ix2 (2 : Fin 3) t)) = false) :
    (x : S44032x1024.Idx → EReal) (ix2 (⟨t.val * 1024 + r.val, by omega⟩ : Fin 44032) k) = 0 := by
  have h0 := congrFun h (ix3 t r k)
  unfold Cert.Pre_tiles_filled.fn at h0
  pointwise at h0
  rcases (or_one _ _).mp ((and_one _ _).mp h0).2 with h1 | h1
  · simp only [IntOp.cmpi, StableHlo.Predicate.ofBool_eq_one_iff] at h1
    rw [hr] at h1; cases h1
  · simpa only [StableHlo.Predicate.ofBool_eq_one_iff, decide_eq_true_eq] using h1

/-- Where every row past the last one in use is zero and the rows in use number at most 512, so are rows 512 and on. -/
theorem slt_of_half (w : BitVec 32) (h : w.sle 512#32 = true) (r : ℕ) (hr : 512 ≤ r) (hr' : r < 1024) : (BitVec.ofNat 32 r).slt w = false := by
  have h0 := StableHlo.Predicate.toInt_ofNat_small r (by omega)
  simp only [BitVec.sle_eq_decide, BitVec.slt_eq_decide, decide_eq_true_eq, decide_eq_false_iff_not, h0] at h ⊢
  have : (512#32 : BitVec 32).toInt = 512 := by decide
  omega

end Cert.KernelIdeal.Hand

end
-- ==== Proof.ExpertsFold.lean ====
/- What the experts' kernel computes: each chunk's share of the gated network, the accumulator as the shares so far, and
   the result array element by element. -/
module

public import proofs.«01_k».proof.Proof.ExpertsFrame
public import proofs.«01_k».proof.Proof.ExpertsOk
public import proofs.«01_k».proof.Proof.Spec
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

/-! ## The payloads at an index -/

theorem pay1_apply (i : S1024x1024.Idx) : k0_pay1 (F := Ideal) i = 0 := by
  unfold k0_pay1
  pointwise

theorem pay2_apply (i : S1024x1024.Idx) : k0_pay2 (F := Ideal) i = 0 := by
  unfold k0_pay2
  pointwise

theorem pay3_apply (x : Vec Ideal S512x1024 .bf16) (g u : Vec Ideal S1x1024x512 .f32) (a : Vec Ideal S512x1024 .f32) (d : Vec Ideal S1x512x1024 .f32) (i : S512x1024.Idx) :
    k0_pay3 (F := Ideal) x g u a d i = a i + ∑ q, ((∑ k, x (ix2 (i 0) k) * g (ix3 0 k q))
      * Ideal.logistic (∑ k, x (ix2 (i 0) k) * g (ix3 0 k q)) * ∑ k, x (ix2 (i 0) k) * u (ix3 0 k q)) * d (ix3 0 q (i 1)) := by
  unfold k0_pay3
  pointwise
  first | done | rfl

theorem pay4_apply (x : Vec Ideal S1024x1024 .bf16) (g u : Vec Ideal S1x1024x512 .f32) (a : Vec Ideal S1024x1024 .f32) (d : Vec Ideal S1x512x1024 .f32) (i : S1024x1024.Idx) :
    k0_pay4 (F := Ideal) x g u a d i = a i + ∑ q, ((∑ k, x (ix2 (i 0) k) * g (ix3 0 k q))
      * Ideal.logistic (∑ k, x (ix2 (i 0) k) * g (ix3 0 k q)) * ∑ k, x (ix2 (i 0) k) * u (ix3 0 k q)) * d (ix3 0 q (i 1)) := by
  unfold k0_pay4
  pointwise
  first | done | rfl

theorem pay5_apply (v : Vec Ideal S1024x1024 .f32) (i : S1024x1024.Idx) : k0_pay5 (F := Ideal) v i = v i := by
  unfold k0_pay5
  pointwise

variable (m : (ℓ : Loc nD τ sig) → Buf (Elt Ideal) ℓ)

/-! ## The arrays over natural-number indices -/

/-- The sorted rows, and expert `e`'s two weight matrices. -/
def X (c : Dev nD) (r k : ℕ) : EReal := (m ((c : Thread nD τ).loc main_arg1) : S44032x1024.Idx → EReal) (ix2 (Fin.ofNat 44032 r) (Fin.ofNat 1024 k))
def W (c : Dev nD) (e k f : ℕ) : EReal := (m ((c : Thread nD τ).loc main_arg2) : S1x8x1024x7168.Idx → EReal) (ix4 0 (Fin.ofNat 8 e) (Fin.ofNat 1024 k) (Fin.ofNat 7168 f))
def D (c : Dev nD) (e f j : ℕ) : EReal := (m ((c : Thread nD τ).loc main_arg3) : S1x8x3584x1024.Idx → EReal) (ix4 0 (Fin.ofNat 8 e) (Fin.ofNat 3584 f) (Fin.ofNat 1024 j))

theorem V1 (c : Dev nD) (i : S44032x1024.Idx) : (V m c main_arg1 : S44032x1024.Idx → EReal) i = X m c (i 0).val (i 1).val := by
  have h0 : (i 0).val < 44032 := (i 0).isLt
  have h1 : (i 1).val < 1024 := (i 1).isLt
  rw [V_of_ne m c main_arg1 (by decide) (by decide)]
  unfold X
  congr 1
  funext a
  apply Fin.ext
  match a with
  | ⟨0, _⟩ => show (i 0).val = (i 0).val % 44032; omega
  | ⟨1, _⟩ => show (i 1).val = (i 1).val % 1024; omega

theorem V2 (c : Dev nD) : (V m c main_v0 : S8x1024x7168.Idx → EReal)
    = shapeCast S8x1024x7168 (m ((c : Thread nD τ).loc main_arg2) : Vec Ideal S1x8x1024x7168 .f32) shapeCasts_S1x8x1024x7168_S8x1024x7168 := by
  show StableHlo.after hostOps0 _ _ = _
  after_results_simp <;> rfl

theorem V3 (c : Dev nD) : (V m c main_v1 : S8x3584x1024.Idx → EReal)
    = shapeCast S8x3584x1024 (m ((c : Thread nD τ).loc main_arg3) : Vec Ideal S1x8x3584x1024 .f32) shapeCasts_S1x8x3584x1024_S8x3584x1024 := by
  show StableHlo.after hostOps0 _ _ = _
  after_results_simp <;> rfl

theorem V2_apply (c : Dev nD) (i : S8x1024x7168.Idx) : (V m c main_v0 : S8x1024x7168.Idx → EReal) i = W m c (i 0).val (i 1).val (i 2).val := by
  have h0 : (i 0).val < 8 := (i 0).isLt
  have h1 : (i 1).val < 1024 := (i 1).isLt
  have h2 : (i 2).val < 7168 := (i 2).isLt
  rw [V2]
  exact shapeCast_apply (m ((c : Thread nD τ).loc main_arg2) : S1x8x1024x7168.Idx → EReal) shapeCasts_S1x8x1024x7168_S8x1024x7168 i
    (ix4 0 (Fin.ofNat 8 (i 0).val) (Fin.ofNat 1024 (i 1).val) (Fin.ofNat 7168 (i 2).val)) (by
      show (Shape.rowMajor (s := S1x8x1024x7168) (ix4 0 (Fin.ofNat 8 (i 0).val) (Fin.ofNat 1024 (i 1).val) (Fin.ofNat 7168 (i 2).val))).val = (Shape.rowMajor (s := S8x1024x7168) i).val
      rw [Shape.rowMajor_val_four, Shape.rowMajor_val_three]
      show ((0 * 8 + (i 0).val % 8) * 1024 + (i 1).val % 1024) * 7168 + (i 2).val % 7168 = ((i 0).val * 1024 + (i 1).val) * 7168 + (i 2).val
      omega)

theorem V3_apply (c : Dev nD) (i : S8x3584x1024.Idx) : (V m c main_v1 : S8x3584x1024.Idx → EReal) i = D m c (i 0).val (i 1).val (i 2).val := by
  have h0 : (i 0).val < 8 := (i 0).isLt
  have h1 : (i 1).val < 3584 := (i 1).isLt
  have h2 : (i 2).val < 1024 := (i 2).isLt
  rw [V3]
  exact shapeCast_apply (m ((c : Thread nD τ).loc main_arg3) : S1x8x3584x1024.Idx → EReal) shapeCasts_S1x8x3584x1024_S8x3584x1024 i
    (ix4 0 (Fin.ofNat 8 (i 0).val) (Fin.ofNat 3584 (i 1).val) (Fin.ofNat 1024 (i 2).val)) (by
      show (Shape.rowMajor (s := S1x8x3584x1024) (ix4 0 (Fin.ofNat 8 (i 0).val) (Fin.ofNat 3584 (i 1).val) (Fin.ofNat 1024 (i 2).val))).val = (Shape.rowMajor (s := S8x3584x1024) i).val
      rw [Shape.rowMajor_val_four, Shape.rowMajor_val_three]
      show ((0 * 8 + (i 0).val % 8) * 3584 + (i 1).val % 3584) * 1024 + (i 2).val % 1024 = ((i 0).val * 3584 + (i 1).val) * 1024 + (i 2).val
      omega)

/-! ## The windows' blocks at a point of a tile in use -/

/-- The tile of a point, and its expert. -/
def tileOf (n : ℕ) : Fin 43 := Fin.ofNat 43 (n / 7)
abbrev expertAt (n : ℕ) : ℕ := (expertOf m (tileOf n)).toNat

theorem coords_tile (hO : Ok m) (t : Fin (cfgM m hO).N) : grid0.coords t 0 = tileOf t.val := by
  have h := tile_val t
  have h' : (grid0.coords t 0).val < 43 := (grid0.coords t 0).isLt
  apply Fin.ext
  show (grid0.coords t 0).val = t.val / 7 % 43
  omega

theorem chunk_inUse (c : Dev nD) (n k : ℕ) (hn : n / 7 < 43) (hk : k < 7) (hu : inUse m c n) : (wChunk m (n / 7) k).toNat = k := by
  have h : (BitVec.ofNat 32 (n / 7)).slt (tileCount m) = true := by
    have := hu; unfold inUse active at this; rwa [countWord_eq] at this
  unfold wChunk Scalar.select Scalar.cmpi IntOp.cmpi
  rw [h, if_pos (by rfl), BitVec.toNat_ofNat]
  omega

set_option maxHeartbeats 1000000 in
/-- Window 0's block reads its array at the place its index map names. -/
theorem iblk0_eq (hO : Ok m) (c : Dev nD) (t : Fin (cfgM m hO).N) (i : S1024x1024.Idx) : ∃ k : S44032x1024.Idx,
    ((k 0).val = (cc0_transform_0 inb_S3x43_S1x1_1_0 numel1_S1x1 (tab m) (grid0.coords t)) 0 * 1024 + 1 * (i 0).val ∧ (k 1).val = (cc0_transform_0 inb_S3x43_S1x1_1_0 numel1_S1x1 (tab m) (grid0.coords t)) 1 * 1024 + 1 * (i 1).val)
    ∧ (iblk m hO c 0 t : S1024x1024.Idx → EReal) i = (V m c main_arg1 : S44032x1024.Idx → EReal) k :=
  ⟨(((cfgM m hO).win 0).blk t).view.emb i, ⟨rfl, rfl⟩, rfl⟩

set_option maxHeartbeats 1000000 in
/-- Window 1's block reads its array at the place its index map names. -/
theorem iblk1_eq (hO : Ok m) (c : Dev nD) (t : Fin (cfgM m hO).N) (i : S1x1024x512.Idx) : ∃ k : S8x1024x7168.Idx,
    ((k 0).val = (cc0_transform_1 k0_off1_inb numel1_S1x1 inb_S3x43_S1x1_1_0 (tab m) (grid0.coords t)) 0 * 1 + 1 * (i 0).val ∧ (k 1).val = (cc0_transform_1 k0_off1_inb numel1_S1x1 inb_S3x43_S1x1_1_0 (tab m) (grid0.coords t)) 1 * 1024 + 1 * (i 1).val ∧ (k 2).val = (cc0_transform_1 k0_off1_inb numel1_S1x1 inb_S3x43_S1x1_1_0 (tab m) (grid0.coords t)) 2 * 512 + 1 * (i 2).val)
    ∧ (iblk m hO c 1 t : S1x1024x512.Idx → EReal) i = (V m c main_v0 : S8x1024x7168.Idx → EReal) k :=
  ⟨(((cfgM m hO).win 1).blk t).view.emb i, ⟨rfl, rfl, rfl⟩, rfl⟩

set_option maxHeartbeats 1000000 in
/-- Window 2's block reads its array at the place its index map names. -/
theorem iblk2_eq (hO : Ok m) (c : Dev nD) (t : Fin (cfgM m hO).N) (i : S1x1024x512.Idx) : ∃ k : S8x1024x7168.Idx,
    ((k 0).val = (cc0_transform_2 k0_off1_inb numel1_S1x1 inb_S3x43_S1x1_1_0 (tab m) (grid0.coords t)) 0 * 1 + 1 * (i 0).val ∧ (k 1).val = (cc0_transform_2 k0_off1_inb numel1_S1x1 inb_S3x43_S1x1_1_0 (tab m) (grid0.coords t)) 1 * 1024 + 1 * (i 1).val ∧ (k 2).val = (cc0_transform_2 k0_off1_inb numel1_S1x1 inb_S3x43_S1x1_1_0 (tab m) (grid0.coords t)) 2 * 512 + 1 * (i 2).val)
    ∧ (iblk m hO c 2 t : S1x1024x512.Idx → EReal) i = (V m c main_v0 : S8x1024x7168.Idx → EReal) k :=
  ⟨(((cfgM m hO).win 2).blk t).view.emb i, ⟨rfl, rfl, rfl⟩, rfl⟩

set_option maxHeartbeats 1000000 in
/-- Window 3's block reads its array at the place its index map names. -/
theorem iblk3_eq (hO : Ok m) (c : Dev nD) (t : Fin (cfgM m hO).N) (i : S1x512x1024.Idx) : ∃ k : S8x3584x1024.Idx,
    ((k 0).val = (cc0_transform_3 k0_off1_inb numel1_S1x1 inb_S3x43_S1x1_1_0 (tab m) (grid0.coords t)) 0 * 1 + 1 * (i 0).val ∧ (k 1).val = (cc0_transform_3 k0_off1_inb numel1_S1x1 inb_S3x43_S1x1_1_0 (tab m) (grid0.coords t)) 1 * 512 + 1 * (i 1).val ∧ (k 2).val = (cc0_transform_3 k0_off1_inb numel1_S1x1 inb_S3x43_S1x1_1_0 (tab m) (grid0.coords t)) 2 * 1024 + 1 * (i 2).val)
    ∧ (iblk m hO c 3 t : S1x512x1024.Idx → EReal) i = (V m c main_v1 : S8x3584x1024.Idx → EReal) k :=
  ⟨(((cfgM m hO).win 3).blk t).view.emb i, ⟨rfl, rfl, rfl⟩, rfl⟩

theorem blk0 (hO : Ok m) (c : Dev nD) (t : Fin (cfgM m hO).N) (hu : inUse m c t.val) (i : S1024x1024.Idx) :
    (iblk m hO c 0 t : S1024x1024.Idx → EReal) i = X m c (1024 * (t.val / 7) + (i 0).val) (i 1).val := by
  have ht := tile_val t
  have h43 : (grid0.coords t 0).val < 43 := (grid0.coords t 0).isLt
  have hu' : (BitVec.ofNat 32 (t.val / 7)).slt (tileCount m) = true := by
    have := hu; unfold inUse active at this; rwa [countWord_eq] at this
  have e := map_0 m (grid0.coords t)
  rw [ht, rowTile_inUse m (t.val / 7) (by omega) hu'] at e
  obtain ⟨k, ⟨e0, e1⟩, hr⟩ := iblk0_eq m hO c t i
  rw [e] at e0 e1
  replace e0 : (k 0).val = t.val / 7 * 1024 + 1 * (i 0).val := e0
  replace e1 : (k 1).val = 0 * 1024 + 1 * (i 1).val := e1
  rw [hr, V1, e0, e1]
  congr 1 <;> omega

theorem blk1 (hO : Ok m) (c : Dev nD) (t : Fin (cfgM m hO).N) (hu : inUse m c t.val) (i : S1x1024x512.Idx) :
    (iblk m hO c 1 t : S1x1024x512.Idx → EReal) i = W m c (expertAt m t.val) (i 1).val (512 * (t.val % 7) + (i 2).val) := by
  have ht := tile_val t
  have h43 : (grid0.coords t 0).val < 43 := (grid0.coords t 0).isLt
  have hk := chunk_val t
  have hi : (i 0).val < 1 := (i 0).isLt
  have e := map_1 m (grid0.coords t)
  rw [ht, hk, chunk_inUse m c t.val _ (by omega) (Nat.mod_lt _ (by decide)) hu, coords_tile m hO] at e
  obtain ⟨k, ⟨e0, e1, e2⟩, hr⟩ := iblk1_eq m hO c t i
  rw [e] at e0 e1 e2
  replace e0 : (k 0).val = expertAt m t.val * 1 + 1 * (i 0).val := e0
  replace e1 : (k 1).val = 0 * 1024 + 1 * (i 1).val := e1
  replace e2 : (k 2).val = t.val % 7 * 512 + 1 * (i 2).val := e2
  rw [hr, V2_apply, e0, e1, e2]
  congr 1 <;> omega

theorem blk2 (hO : Ok m) (c : Dev nD) (t : Fin (cfgM m hO).N) (hu : inUse m c t.val) (i : S1x1024x512.Idx) :
    (iblk m hO c 2 t : S1x1024x512.Idx → EReal) i = W m c (expertAt m t.val) (i 1).val (3584 + (512 * (t.val % 7) + (i 2).val)) := by
  have ht := tile_val t
  have h43 : (grid0.coords t 0).val < 43 := (grid0.coords t 0).isLt
  have hk := chunk_val t
  have hi : (i 0).val < 1 := (i 0).isLt
  have e := map_2 m (grid0.coords t)
  have e7 : (Scalar.addi (wChunk m (t.val / 7) (t.val % 7)) 7#32).toNat = t.val % 7 + 7 := by
    show (wChunk m (t.val / 7) (t.val % 7) + 7#32).toNat = _
    rw [BitVec.toNat_add, chunk_inUse m c t.val _ (by omega) (Nat.mod_lt _ (by decide)) hu]
    show (_ + 7) % 2 ^ 32 = _
    omega
  rw [ht, hk, coords_tile m hO, e7] at e
  obtain ⟨k, ⟨e0, e1, e2⟩, hr⟩ := iblk2_eq m hO c t i
  rw [e] at e0 e1 e2
  replace e0 : (k 0).val = expertAt m t.val * 1 + 1 * (i 0).val := e0
  replace e1 : (k 1).val = 0 * 1024 + 1 * (i 1).val := e1
  replace e2 : (k 2).val = (t.val % 7 + 7) * 512 + 1 * (i 2).val := e2
  rw [hr, V2_apply, e0, e1, e2]
  congr 1 <;> omega

theorem blk3 (hO : Ok m) (c : Dev nD) (t : Fin (cfgM m hO).N) (hu : inUse m c t.val) (i : S1x512x1024.Idx) :
    (iblk m hO c 3 t : S1x512x1024.Idx → EReal) i = D m c (expertAt m t.val) (512 * (t.val % 7) + (i 1).val) (i 2).val := by
  have ht := tile_val t
  have h43 : (grid0.coords t 0).val < 43 := (grid0.coords t 0).isLt
  have hk := chunk_val t
  have hi : (i 0).val < 1 := (i 0).isLt
  have e := map_3 m (grid0.coords t)
  rw [ht, hk, chunk_inUse m c t.val _ (by omega) (Nat.mod_lt _ (by decide)) hu, coords_tile m hO] at e
  obtain ⟨k, ⟨e0, e1, e2⟩, hr⟩ := iblk3_eq m hO c t i
  rw [e] at e0 e1 e2
  replace e0 : (k 0).val = expertAt m t.val * 1 + 1 * (i 0).val := e0
  replace e1 : (k 1).val = t.val % 7 * 512 + 1 * (i 1).val := e1
  replace e2 : (k 2).val = 0 * 1024 + 1 * (i 2).val := e2
  rw [hr, V3_apply, e0, e1, e2]
  congr 1 <;> omega

/-! ## One chunk -/

theorem half_upper (x : Vec Ideal S1024x1024 .bf16) (g u : Vec Ideal S1x1024x512 .f32) (d : Vec Ideal S1x512x1024 .f32) (a : Vec Ideal S1024x1024 .f32) (i : S1024x1024.Idx)
    (h : (i 0).val < 512) : stepHalf (F := Ideal) x g u d a i = stepFull (F := Ideal) x g u d a i := by
  unfold stepHalf withTop stepFull
  rw [dif_pos h, pay3_apply, pay4_apply]
  unfold top
  have e : ∀ k : Fin 1024, (ix2 (⟨(i 0).val, Nat.lt_of_lt_of_le h (by decide)⟩ : Fin 1024) k : S1024x1024.Idx) = ix2 (i 0) k := fun k => rfl
  have e' : (ix2 (⟨(i 0).val, Nat.lt_of_lt_of_le h (by decide)⟩ : Fin 1024) (i 1) : S1024x1024.Idx) = i := by
    funext a
    match a with
    | ⟨0, _⟩ => rfl
    | ⟨1, _⟩ => rfl
  show a (ix2 (⟨(i 0).val, _⟩ : Fin 1024) (i 1)) + _ = _
  rw [e']
  rfl

theorem half_lower (x : Vec Ideal S1024x1024 .bf16) (g u : Vec Ideal S1x1024x512 .f32) (d : Vec Ideal S1x512x1024 .f32) (a : Vec Ideal S1024x1024 .f32) (i : S1024x1024.Idx)
    (h : ¬ (i 0).val < 512) : stepHalf (F := Ideal) x g u d a i = a i := by
  unfold stepHalf withTop
  rw [dif_neg h]

/-- The chunk's share in an element of the tile. -/
abbrev shareAt (c : Dev nD) (n : ℕ) (r j : ℕ) : EReal :=
  Spec.share (X m c) (W m c (expertAt m n)) (D m c (expertAt m n)) (1024 * (n / 7) + r) j (n % 7)

/-- A chunk over all rows adds the chunk's share, whatever arrays its blocks are cut from. -/
theorem full_of (x : Vec Ideal S1024x1024 .bf16) (g u : Vec Ideal S1x1024x512 .f32) (d : Vec Ideal S1x512x1024 .f32) (a : Vec Ideal S1024x1024 .f32) (i : S1024x1024.Idx)
    (H W D : ℕ → ℕ → EReal) (r0 s : ℕ)
    (hx : ∀ i : S1024x1024.Idx, (x : S1024x1024.Idx → EReal) i = H (r0 + (i 0).val) (i 1).val)
    (hg : ∀ i : S1x1024x512.Idx, (g : S1x1024x512.Idx → EReal) i = W (i 1).val (512 * s + (i 2).val))
    (hu : ∀ i : S1x1024x512.Idx, (u : S1x1024x512.Idx → EReal) i = W (i 1).val (3584 + (512 * s + (i 2).val)))
    (hd : ∀ i : S1x512x1024.Idx, (d : S1x512x1024.Idx → EReal) i = D (512 * s + (i 1).val) (i 2).val) :
    stepFull (F := Ideal) x g u d a i = a i + Spec.share H W D (r0 + (i 0).val) (i 1).val s := by
  unfold stepFull
  rw [pay4_apply]
  simp only [hx, hg, hu, hd]
  rfl

theorem full_apply (hO : Ok m) (c : Dev nD) (t : Fin (cfgM m hO).N) (hu : inUse m c t.val) (a : Vec Ideal S1024x1024 .f32) (i : S1024x1024.Idx) :
    stepFull (F := Ideal) (iblk m hO c 0 t) (iblk m hO c 1 t) (iblk m hO c 2 t) (iblk m hO c 3 t) a i = a i + shareAt m c t.val (i 0).val (i 1).val := by
  exact full_of _ _ _ _ a i _ _ _ _ _ (blk0 m hO c t hu) (blk1 m hO c t hu) (blk2 m hO c t hu) (blk3 m hO c t hu)

/-- The rows past the ones in use are zero. -/
def Filled (c : Dev nD) : Prop := ∀ (t : Fin 43) (r k : Fin 1024), (BitVec.ofNat 32 r.val).slt (rowsOf m t) = false → X m c (1024 * t.val + r.val) k.val = 0

theorem half_apply (hO : Ok m) (c : Dev nD) (hF : Filled m c) (t : Fin (cfgM m hO).N) (hu : inUse m c t.val) (hh : halfC (rowsWord c (grid0.coords t) (tab m 0)))
    (a : Vec Ideal S1024x1024 .f32) (i : S1024x1024.Idx) :
    stepHalf (F := Ideal) (iblk m hO c 0 t) (iblk m hO c 1 t) (iblk m hO c 2 t) (iblk m hO c 3 t) a i = a i + shareAt m c t.val (i 0).val (i 1).val := by
  have h43 : (grid0.coords t 0).val < 43 := (grid0.coords t 0).isLt
  have ht := tile_val t
  by_cases hi : (i 0).val < 512
  · exact (half_upper _ _ _ _ a i hi).trans (full_apply m hO c t hu a i)
  · refine (half_lower _ _ _ _ a i hi).trans ?_
    have hi' : (i 0).val < 1024 := (i 0).isLt
    have hw := (halfC_iff _).mp hh
    rw [rowsWord_eq m c (grid0.coords t), coords_tile m hO] at hw
    have hz := slt_of_half _ hw (i 0).val (by omega) hi'
    have ht' : (tileOf t.val).val = t.val / 7 := by show t.val / 7 % 43 = _; omega
    have : shareAt m c t.val (i 0).val (i 1).val = 0 := Spec.share_zero _ _ _ _ _ _ fun k hk => by
      have := hF (tileOf t.val) ⟨(i 0).val, hi'⟩ ⟨k, hk⟩ hz
      rwa [ht'] at this
    rw [this, add_zero]

theorem step_apply (hO : Ok m) (c : Dev nD) (hF : Filled m c) (t : Fin (cfgM m hO).N) (hu : inUse m c t.val) (a : Vec Ideal S1024x1024 .f32) (i : S1024x1024.Idx) :
    stepAt m hO c t a i = a i + shareAt m c t.val (i 0).val (i 1).val := by
  unfold stepAt
  split
  · rename_i hh; exact half_apply m hO c hF t hu hh a i
  · exact full_apply m hO c t hu a i

/-! ## The fold -/

theorem acc_apply (hO : Ok m) (c : Dev nD) (hF : Filled m c) : ∀ (n : ℕ) (hn : n < (cfgM m hO).N) (hu : inUse m c n) (i : S1024x1024.Idx),
    accAt m hO c (n + 1) i = Spec.upto (X m c) (W m c (expertAt m n)) (D m c (expertAt m n)) (1024 * (n / 7) + (i 0).val) (i 1).val (n % 7 + 1) := by
  intro n
  induction n with
  | zero =>
    intro hn hu i
    rw [accAt_succ m hO c ⟨0, hn⟩, if_pos (show (0 : ℕ) % 7 = 0 from rfl), step_apply m hO c hF ⟨0, hn⟩ hu, pay2_apply]
    exact (Spec.upto_one ..).symm
  | succ n ih =>
    intro hn hu i
    rw [accAt_succ m hO c ⟨n + 1, hn⟩, step_apply m hO c hF ⟨n + 1, hn⟩ hu]
    by_cases h0 : (n + 1) % 7 = 0
    · rw [if_pos h0, pay2_apply]
      show 0 + Spec.share _ _ _ _ _ ((n + 1) % 7) = _
      rw [h0]
      exact (Spec.upto_one ..).symm
    · have hd : (n + 1) / 7 = n / 7 := by omega
      have hm : (n + 1) % 7 = n % 7 + 1 := by omega
      have he : expertAt m (n + 1) = expertAt m n := by unfold expertAt tileOf; rw [hd]
      rw [if_neg h0, ih (by omega) ((inUse_succ m c n h0).mp hu)]
      show _ + Spec.share _ _ _ (1024 * ((n + 1) / 7) + (i 0).val) (i 1).val ((n + 1) % 7) = _
      rw [he, hd, hm, ← Spec.upto_succ]

/-- Element `(r, j)` of the result: the network of the row's expert where the row's tile is in use, zero elsewhere. -/
def outOf (c : Dev nD) (r j : ℕ) : EReal :=
  if (BitVec.ofNat 32 (r / 1024)).slt (tileCount m) = true then
    Spec.net (X m c) (W m c (expertOf m (Fin.ofNat 43 (r / 1024))).toNat) (D m c (expertOf m (Fin.ofNat 43 (r / 1024))).toNat) r j
  else 0

/-- The result array. -/
def G (c : Dev nD) : Buf (Elt Ideal) ((c : Thread nD τ).loc main_v2) := fun i : S44032x1024.Idx => outOf m c (i 0).val (i 1).val

theorem out_apply (hO : Ok m) (c : Dev nD) (hF : Filled m c) (t : Fin (cfgM m hO).N) (h6 : t.val % 7 = 6) (i : S1024x1024.Idx) :
    outAt m hO c t i = outOf m c (1024 * (t.val / 7) + (i 0).val) (i 1).val := by
  have hi : (i 0).val < 1024 := (i 0).isLt
  have hr : (1024 * (t.val / 7) + (i 0).val) / 1024 = t.val / 7 := by omega
  have hu : inUse m c t.val ↔ (BitVec.ofNat 32 (t.val / 7)).slt (tileCount m) = true := by
    unfold inUse active; rw [countWord_eq]
  unfold outAt outOf
  rw [hr]
  by_cases h : inUse m c t.val
  · rw [if_pos h, if_pos (hu.mp h), pay5_apply, acc_apply m hO c hF t.val t.isLt h, h6, Spec.upto_seven]
    rfl
  · rw [if_neg h, if_neg (fun h' => h (hu.mpr h')), pay1_apply]

theorem out_place (c : Dev nD) (t : Fin grid0.N) (y : S1024x1024.Idx) (hw : (BitVec.ofNat 32 (grid0.coords t 0).val).toNat = t.val / 7) :
    outOf m c (1024 * (t.val / 7) + (y 0).val) (y 1).val = outOf m c ((BitVec.ofNat 32 (grid0.coords t 0).val).toNat * 1024 + 1 * (y 0).val) (0 * 1024 + 1 * (y 1).val) := by
  rw [hw]
  congr 1 <;> omega

theorem flushed (hO : Ok m) (c : Dev nD) (hF : Filled m c) (t : Fin (cfgM m hO).N) (hf : ((cfgM m hO).win 4).flush t = true) :
    (dats m hO 0 c).flushed 4 t = (((cfgM m hO).win 4).blk t).view.read (Elt Ideal) (G m c) := by
  have h6 := (flush_4 m hO t).mp hf
  have ht := tile_val t
  have h43 : (grid0.coords t 0).val < 43 := (grid0.coords t 0).isLt
  have hw : (BitVec.ofNat 32 (grid0.coords t 0).val).toNat = t.val / 7 := by rw [BitVec.toNat_ofNat]; omega
  show ((cfgM m hO).win 4).cut (grid0.coords t) ((dats m hO 0 c).after 4 t) = _
  rw [after_4]
  funext y
  refine (out_apply m hO c hF t h6 y).trans ?_
  exact out_place m c t y hw

theorem final (hO : Ok m) (c : Dev nD) (hF : Filled m c) : (dats m hO 0 c).arrAt 4 (cfgM m hO).N = G m c :=
  (dats m hO 0 c).arrAt_eq_of_cover 4 _ (fun t hf => flushed m hO c hF t hf) (fun (i : S44032x1024.Idx) => by
    have h0 : (i 0).val < 44032 := (i 0).isLt
    have h1 : (i 1).val < 1024 := (i 1).isLt
    have hN : (cfgM m hO).N = 301 := Gen.N_0
    obtain ⟨t, ht⟩ : ∃ t : Fin (cfgM m hO).N, t.val = 7 * ((i 0).val / 1024) + 6 := ⟨⟨7 * ((i 0).val / 1024) + 6, by omega⟩, rfl⟩
    have hc := tile_val t
    have hw : (BitVec.ofNat 32 (grid0.coords t 0).val).toNat = (i 0).val / 1024 := by rw [BitVec.toNat_ofNat]; omega
    refine ⟨t, (flush_4 m hO t).mpr (by omega), ?_⟩
    have e : (((cfgM m hO).win 4).blk t).view.emb (ix2 (⟨(i 0).val % 1024, Nat.mod_lt _ (by decide)⟩ : Fin 1024) (i 1) : S1024x1024.Idx) = i := by
      funext a
      apply Fin.ext
      match a with
      | ⟨0, _⟩ =>
        show (BitVec.ofNat 32 (grid0.coords t 0).val).toNat * 1024 + 1 * ((i 0).val % 1024) = (i 0).val
        omega
      | ⟨1, _⟩ =>
        show 0 * 1024 + 1 * (i 1).val = (i 1).val
        omega
    exact e ▸ (((cfgM m hO).win 4).blk t).view.emb_mem_set _)

/-- The run, with the result named and the arguments unchanged. -/
theorem run_value (ρ : Dev nD → PrngReg) (hO : Ok m) (hF : ∀ c, Filled m c) : θ_run defs (onTc (τ := τ) (main (F := Ideal))) ⟨m, fun _ => 0, ρ⟩ (fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final m hO c (hF c)),
    ((h.1 c).2 main_arg0 (by decide : main_arg0 ∈ Pipeline.restRefs sig spec0)).trans (V_of_ne m c main_arg0 (by decide) (by decide)),
    ((h.1 c).1 0).trans (((dats m hO 0 c).arrAt_in 0 rfl _).trans ((A_eq m hO c 0).trans (V_of_ne m c main_arg1 (by decide) (by decide)))),
    ((h.1 c).2 main_arg2 (by decide : main_arg2 ∈ Pipeline.restRefs sig spec0)).trans (V_of_ne m c main_arg2 (by decide) (by decide)),
    ((h.1 c).2 main_arg3 (by decide : main_arg3 ∈ Pipeline.restRefs sig spec0)).trans (V_of_ne m c main_arg3 (by decide) (by decide))⟩) (run_main m ρ hO)

/-! ## From the preconditions -/

theorem filled_of (c : Dev nD) (h : Cert.Pre_tiles_filled.fn (F := Ideal) (m ((c : Thread nD τ).loc main_arg0)) (m ((c : Thread nD τ).loc main_arg1))
    (m ((c : Thread nD τ).loc main_arg2)) (m ((c : Thread nD τ).loc main_arg3)) = fun _ => 1#1) : Filled m c := by
  intro t r k hr
  have hc : c = 0 := Subsingleton.elim _ _
  subst hc
  have h0 := tiles_zero _ _ _ _ h t r k hr
  have := t.isLt; have := r.isLt; have := k.isLt
  unfold X
  refine Eq.trans ?_ h0
  congr 1
  funext a
  apply Fin.ext
  match a with
  | ⟨0, _⟩ => show (1024 * t.val + r.val) % 44032 = t.val * 1024 + r.val; omega
  | ⟨1, _⟩ => show k.val % 1024 = k.val; omega

end Cert.KernelIdeal.Hand

end
-- ==== Proof.ExpertsValue.lean ====
/- The dense reference of the expert networks read at an index, and the kernel's array beside it. -/
module

public import proofs.«01_k».proof.Proof.ExpertsFold
public import proofs.«01_k».proof.Proof.Gen.ReferenceIdeal.Run
public import proofs.«01_k».proof.Proof.Gen.ReferenceIdeal.Read

@[expose] public section

noncomputable section

namespace Cert.KernelIdeal.Hand

open Cert.ReferenceIdeal Cert.ReferenceIdeal.Read Idealize.ShloMosaic Idealize.ShloMosaic.TcCoe Idealize.SL.Sem

variable (x0 : S3x43.Idx → BitVec 32) (x1 : S44032x1024.Idx → EReal) (x2 : S1x8x1024x7168.Idx → EReal) (x3 : S1x8x3584x1024.Idx → EReal)

/-- The reference's arguments over natural-number indices. -/
def X' (r k : ℕ) : EReal := x1 (ix2 (Fin.ofNat 44032 r) (Fin.ofNat 1024 k))
def W' (e k f : ℕ) : EReal := x2 (ix4 0 (Fin.ofNat 8 e) (Fin.ofNat 1024 k) (Fin.ofNat 7168 f))
def D' (e f j : ℕ) : EReal := x3 (ix4 0 (Fin.ofNat 8 e) (Fin.ofNat 3584 f) (Fin.ofNat 1024 j))

theorem lin_at (e : Fin 8) (r : Fin 44032) (f : Fin 7168) :
    val_main_v22 (F := Ideal) x1 x2 (ix3 e r f) = Spec.lin (X' x1) (W' x2 e.val) r.val f.val := by
  have hf := f.isLt; have hr := r.isLt; have he := e.isLt
  rw [val_main_v22_apply, val_main_v21_apply]
  unfold Spec.lin
  refine Finset.sum_congr rfl fun k _ => ?_
  have hk := k.isLt
  rw [val_main_v20_apply, val_main_v19_apply, mul_comm]
  show x1 _ * x2 _ = _
  congr 1
  · unfold X'
    congr 1
    funext a
    apply Fin.ext
    match a with
    | ⟨0, _⟩ => show r.val = r.val % 44032; omega
    | ⟨1, _⟩ => show k.val = k.val % 1024; omega
  · unfold W'
    congr 1
    funext a
    apply Fin.ext
    match a with
    | ⟨0, _⟩ => rfl
    | ⟨1, _⟩ => show ((e.val * 1024 + k.val) * 7168 + f.val) / 7340032 % 8 = e.val % 8; omega
    | ⟨2, _⟩ => show ((e.val * 1024 + k.val) * 7168 + f.val) / 7168 % 1024 = k.val % 1024; omega
    | ⟨3, _⟩ => show ((e.val * 1024 + k.val) * 7168 + f.val) % 7168 = f.val % 7168; omega

theorem unit_at (e : Fin 8) (r : Fin 44032) (f : Fin 3584) :
    val_main_v26 (F := Ideal) x1 x2 (ix3 e r f) = Spec.unit (X' x1) (W' x2 e.val) r.val f.val := by
  have hf := f.isLt
  have eg : val_main_v23 (F := Ideal) x1 x2 (ix3 e r f) = Spec.lin (X' x1) (W' x2 e.val) r.val f.val := by
    rw [val_main_v23_apply, ← lin_at x1 x2 e r ⟨f.val, by omega⟩]
    congr 1
    funext a
    apply Fin.ext
    match a with
    | ⟨0, _⟩ => rfl
    | ⟨1, _⟩ => rfl
    | ⟨2, _⟩ => rfl
  have eu : val_main_v24 (F := Ideal) x1 x2 (ix3 e r f) = Spec.lin (X' x1) (W' x2 e.val) r.val (3584 + f.val) := by
    rw [val_main_v24_apply, ← lin_at x1 x2 e r ⟨3584 + f.val, by omega⟩]
    congr 1
    funext a
    apply Fin.ext
    match a with
    | ⟨0, _⟩ => rfl
    | ⟨1, _⟩ => rfl
    | ⟨2, _⟩ => rfl
  rw [val_main_v26_apply, val_main_v25_apply, val_main_call0_v5_apply, val_main_call0_v3_apply, val_main_call0_v4_apply,
    val_main_call0_v2_apply, val_main_call0_v1_apply, val_main_call0_v0_apply, eg, eu]
  simp only [val_main_call0_cst_apply, val_main_call0_cst_0_apply]
  unfold Spec.unit Ideal.logistic
  simp only [Ideal.mulf_def, Ideal.addf_def, Ideal.hostDivf_def, Ideal.hostUnary_exp_def, Ideal.ofBits_def, Ideal.ofBits_one_f32, Ideal.hostNegf_def, Ideal.negf_def]

/-- Every expert's network of every row. -/
theorem net_at (e : Fin 8) (r : Fin 44032) (j : Fin 1024) :
    val_main_v28 (F := Ideal) x1 x2 x3 (ix3 e r j) = Spec.net (X' x1) (W' x2 e.val) (D' x3 e.val) r.val j.val := by
  have hj := j.isLt; have he := e.isLt
  rw [val_main_v28_apply]
  unfold Spec.net
  refine Finset.sum_congr rfl fun f _ => ?_
  have hf := f.isLt
  rw [val_main_v27_apply]
  congr 1
  · rw [← unit_at]
    congr 1
    funext a
    match a with
    | ⟨0, _⟩ => rfl
    | ⟨1, _⟩ => rfl
    | ⟨2, _⟩ => rfl
  · unfold D'
    congr 1
    funext a
    apply Fin.ext
    match a with
    | ⟨0, _⟩ => rfl
    | ⟨1, _⟩ => show ((e.val * 3584 + f.val) * 1024 + j.val) / 3670016 % 8 = e.val % 8; omega
    | ⟨2, _⟩ => show ((e.val * 3584 + f.val) * 1024 + j.val) / 1024 % 3584 = f.val % 3584; omega
    | ⟨3, _⟩ => show ((e.val * 3584 + f.val) * 1024 + j.val) % 1024 = j.val % 1024; omega

/-- The expert the table names for a row's tile. -/
theorem named_at (t : Fin 43) (e : Fin 8) :
    val_main_v13 (F := Ideal) x0 (ix2 t e) = IntOp.cmpi .eq (x0 (ix2 0 t)) (BitVec.ofNat 32 e.val) := by
  have ht := t.isLt
  rw [val_main_v13_apply, val_main_v12_apply, val_main_v10_apply, val_main_v9_apply, val_main_v11_apply, val_main_v8_apply, val_main_v1_apply, val_main_v0_apply]
  have hi : idx_main_v0 (idx_main_v1 (idx_main_v8 (idx_main_v11 (ix2 t e)))) = ix2 0 t := by
    funext a
    apply Fin.ext
    match a with
    | ⟨0, _⟩ => rfl
    | ⟨1, _⟩ => show t.val % 43 = t.val; omega
  rw [hi]
  rfl

/-- Whether a tile is in use. -/
theorem used_at (t : Fin 43) (e : Fin 8) :
    val_main_v14 (F := Ideal) x0 (ix2 t e) = IntOp.cmpi .slt (BitVec.ofNat 32 t.val) (x0 (ix2 1 0)) := by
  rw [val_main_v14_apply, val_main_v7_apply, val_main_v6_apply, val_main_v4_apply, val_main_v5_apply]
  have h3 : ∀ q : S_.Idx, val_main_v3 (F := Ideal) x0 q = x0 (ix2 1 0) := fun q => by
    unfold val_main_v3
    rw [shapeCast_apply (val_main_v2 (F := Ideal) x0) Cert.ReferenceIdeal.Gen.shapeCasts_S1x1_S_ q (ix2 0 0) (by rfl), val_main_v2_apply]
    congr 1
    funext a
    match a with
    | ⟨0, _⟩ => rfl
    | ⟨1, _⟩ => rfl
  rw [h3]
  rfl

/-- The weight of an expert at a row: one at the row's own expert, zero elsewhere. -/
theorem weight_at (r : Fin 44032) (e : Fin 8) (t : Fin 43) (ht : r.val / 1024 = t.val) :
    val_main_v18 (F := Ideal) x0 (ix2 r e)
      = if (BitVec.ofNat 32 t.val).slt (x0 (ix2 1 0)) = true ∧ x0 (ix2 0 t) = BitVec.ofNat 32 e.val then (1 : EReal) else 0 := by
  have he := e.isLt; have hr := r.isLt
  have hi : idx_main_v17 (idx_main_v18 (ix2 r e)) = ix2 t e := by
    funext a
    apply Fin.ext
    match a with
    | ⟨0, _⟩ => show (r.val * 8 + e.val) / 8192 = t.val; omega
    | ⟨1, _⟩ => show (r.val * 8 + e.val) % 8 = e.val; omega
  rw [val_main_v18_apply, val_main_v17_apply, hi, val_main_v16_apply, val_main_v15_apply, named_at, used_at]
  have hb : ∀ b : BitVec 1, FloatOps.uitofp (F := Ideal) .f32 b = if b = 1#1 then (1 : EReal) else 0 := fun b => by
    rcases (show b = 0#1 ∨ b = 1#1 by revert b; decide) with rfl | rfl
    · rw [if_neg (by decide)]
      show (((0#1 : BitVec 1).toNat : ℝ) : EReal) = 0
      simp
    · rw [if_pos rfl]
      show (((1#1 : BitVec 1).toNat : ℝ) : EReal) = 1
      simp
  rw [hb]
  refine if_congr ?_ rfl rfl
  show _ &&& _ = 1#1 ↔ _
  rw [and_one]
  simp only [IntOp.cmpi, StableHlo.Predicate.ofBool_eq_one_iff, beq_iff_eq]

/-- The reference's result: the row's own expert's network where the row's tile is in use, zero elsewhere. -/
theorem ref_apply (hx : ∀ t : Fin 43, (x0 (ix2 0 t)).toNat < 8) (r : Fin 44032) (j : Fin 1024) (t : Fin 43) (ht : r.val / 1024 = t.val) :
    val_main_v30 (F := Ideal) x0 x1 x2 x3 (ix2 r j)
      = if (BitVec.ofNat 32 t.val).slt (x0 (ix2 1 0)) = true then
          Spec.net (X' x1) (W' x2 (x0 (ix2 0 t)).toNat) (D' x3 (x0 (ix2 0 t)).toNat) r.val j.val else 0 := by
  rw [val_main_v30_apply]
  show val_main_v29 (F := Ideal) x0 x1 x2 x3 (ix2 r j) = _
  rw [val_main_v29_apply]
  have term : ∀ e : Fin 8, val_main_v18 (F := Ideal) x0 (lidx_main_v29 (ix2 r j) e) * val_main_v28 (F := Ideal) x1 x2 x3 (ridx_main_v29 (ix2 r j) e)
      = (if (BitVec.ofNat 32 t.val).slt (x0 (ix2 1 0)) = true ∧ x0 (ix2 0 t) = BitVec.ofNat 32 e.val then (1 : EReal) else 0)
        * Spec.net (X' x1) (W' x2 e.val) (D' x3 e.val) r.val j.val := fun e => by
    have hl : lidx_main_v29 (ix2 r j) e = ix2 r e := by
      funext a
      match a with
      | ⟨0, _⟩ => rfl
      | ⟨1, _⟩ => rfl
    have hr : ridx_main_v29 (ix2 r j) e = ix3 e r j := by
      funext a
      match a with
      | ⟨0, _⟩ => rfl
      | ⟨1, _⟩ => rfl
      | ⟨2, _⟩ => rfl
    rw [hl, hr, weight_at x0 r e t ht, net_at]
  rw [Finset.sum_congr rfl fun e _ => term e]
  by_cases hu : (BitVec.ofNat 32 t.val).slt (x0 (ix2 1 0)) = true
  · rw [if_pos hu, Finset.sum_eq_single (⟨(x0 (ix2 0 t)).toNat, hx t⟩ : Fin 8)]
    · rw [if_pos ⟨hu, by simp⟩, one_mul]
    · intro e _ hne
      rw [if_neg (fun h => hne (Fin.ext ?_)), zero_mul]
      have he := e.isLt
      show e.val = (x0 (ix2 0 t)).toNat
      rw [h.2, BitVec.toNat_ofNat]; omega
    · exact fun h => absurd (Finset.mem_univ _) h
  · rw [if_neg hu]
    exact Finset.sum_eq_zero fun e _ => by rw [if_neg (fun h => hu h.1), zero_mul]

/-- What the kernel's array ends holding is the reference's result of the same arguments. -/
theorem value (m : (ℓ : Loc Cert.KernelIdeal.nD Cert.KernelIdeal.τ Cert.KernelIdeal.sig) → Buf (Elt Ideal) ℓ) (c : Dev Cert.KernelIdeal.nD)
    (hx : ∀ t : Fin 43, (expertOf m t).toNat < 8) :
    val_main_v30 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      = (G m c : S44032x1024.Idx → EReal) := by
  have hc : c = 0 := Subsingleton.elim _ _
  subst hc
  funext i
  have h0 : (i 0).val < 44032 := (i 0).isLt
  have hi : i = ix2 (i 0) (i 1) := by
    funext a
    match a with
    | ⟨0, _⟩ => rfl
    | ⟨1, _⟩ => rfl
  have ht : (i 0).val / 1024 = (Fin.ofNat 43 ((i 0).val / 1024)).val := by
    show (i 0).val / 1024 = (i 0).val / 1024 % 43; omega
  refine (congrArg _ hi).trans ((ref_apply _ _ _ _ hx (i 0) (i 1) _ ht).trans ?_)
  rw [← ht]
  rfl

end Cert.KernelIdeal.Hand

end
-- ==== Proof.CombineKit.lean ====
/- The combine kernel's words: what its table's entries make of the counts of the loops, of the rows a transfer reads
   and writes, and of the conditions the body assumes, for entries that are multiples of sixteen. -/
module

public import proofs.«01_k».proof.Proof.Gen.CombineIdeal.Launch
public import proofs.«01_k».proof.Proof.Gen.CombineIdeal.Skeleton
public import proofs.«01_k».proof.Proof.Gen.CombineIdeal.Loops
public import Idealize.ShloMosaic.Lib.Batch
public import Idealize.ShloMosaic.Lib.LoopRemainder
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The loops' counts -/

theorem trips_word : ∀ n : Fin 73, (k0_t1_loop (BitVec.ofNat 32 (16 * n.val))).trips = n.val ∧ (k0_t1_loop (BitVec.ofNat 32 (16 * n.val))).OK := by
  decide +kernel

/-- The word `w` counts `n` groups of sixteen rows, no more than a slot has. -/
structure Groups (w : BitVec 32) (n : ℕ) : Prop where
  eq : w.toNat = 16 * n
  le : n ≤ 72

theorem Groups.word {w : BitVec 32} {n : ℕ} (h : Groups w n) : w = BitVec.ofNat 32 (16 * n) := by
  apply BitVec.eq_of_toNat_eq
  rw [h.eq, BitVec.toNat_ofNat, Nat.mod_eq_of_lt (by have := h.le; omega)]

theorem Groups.trips {w : BitVec 32} {n : ℕ} (h : Groups w n) : (k0_t1_loop w).trips = n := by
  rw [h.word]; exact (trips_word ⟨n, by have := h.le; omega⟩).1

theorem Groups.ok {w : BitVec 32} {n : ℕ} (h : Groups w n) : (k0_t1_loop w).OK := by
  rw [h.word]; exact (trips_word ⟨n, by have := h.le; omega⟩).2

theorem rem_word : ∀ n : Fin 73, (k0_t2_loop (BitVec.ofNat 32 (16 * n.val))).trips = 0 ∧ (k0_t2_loop (BitVec.ofNat 32 (16 * n.val))).OK := by
  decide +kernel

theorem Groups.rem {w : BitVec 32} {n : ℕ} (h : Groups w n) : (k0_t2_loop w).trips = 0 := by
  rw [h.word]; exact (rem_word ⟨n, by have := h.le; omega⟩).1

theorem Groups.remOk {w : BitVec 32} {n : ℕ} (h : Groups w n) : (k0_t2_loop w).OK := by
  rw [h.word]; exact (rem_word ⟨n, by have := h.le; omega⟩).2

/-! ## A transfer's rows -/

/-- The word `w` with sixteen times trip `k` on it. -/
theorem word_add (w : BitVec 32) (k a b : ℕ) (hw : w.toNat = 16 * a) (hk : k < b) (hb : a + b ≤ 2752) :
    (Scalar.addi w (Scalar.muli (Scf.iv 0#32 1#32 k) 16#32)).toNat = 16 * (a + k) := by
  have e : (Scalar.addi w (Scalar.muli (Scf.iv 0#32 1#32 k) 16#32)) = w + (0#32 + BitVec.ofNat 32 k * 1#32) * 16#32 := rfl
  rw [e]
  simp only [BitVec.toNat_add, BitVec.toNat_mul, BitVec.toNat_ofNat, hw]
  omega

theorem off2_eq (go pc : BitVec 32) (n g : ℕ) (hn : Groups pc n) (hg : go.toNat = 16 * g) (hb : g + n ≤ 2752)
    (k : Fin (k0_t1_loop pc).trips) : k0_off2 go pc k = ![16 * (g + k.val), 0] := by
  have hk : k.val < n := lt_of_lt_of_eq k.isLt hn.trips
  have := word_add go k.val g n hg hk hb
  show ![_, 0] = ![_, 0]
  rw [← this]

theorem off3_eq (lo pc : BitVec 32) (n a : ℕ) (hn : Groups pc n) (ha : lo.toNat = 16 * a) (hb : a + n ≤ 72)
    (k : Fin (k0_t1_loop pc).trips) : k0_off3 lo pc k = ![0, 16 * (a + k.val), 0] := by
  have hk : k.val < n := lt_of_lt_of_eq k.isLt hn.trips
  have := word_add lo k.val a n ha hk (by omega)
  show ![0, _, 0] = ![0, _, 0]
  rw [← this]

theorem off1_eq (lo pc : BitVec 32) (n a : ℕ) (hn : Groups pc n) (ha : lo.toNat = 16 * a) (hb : a + n ≤ 72)
    (k : Fin (k0_t1_loop pc).trips) : k0_off1 lo pc k = ![16 * (a + k.val), 0] := by
  have hk : k.val < n := lt_of_lt_of_eq k.isLt hn.trips
  have := word_add lo k.val a n ha hk (by omega)
  show ![_, 0] = ![_, 0]
  rw [← this]

/-- The slot the block after `i`'s goes to, as the body computes it. -/
def nextSlot (i : grid0.Coords) : ℕ := k0_off52 i 0

theorem off56_eq (i : grid0.Coords) (lo pc : BitVec 32) (n a : ℕ) (hn : Groups pc n) (ha : lo.toNat = 16 * a) (hb : a + n ≤ 72)
    (k : Fin (k0_t17_loop pc).trips) : k0_off56 i lo pc k = ![nextSlot i, 16 * (a + k.val), 0] := by
  have h := off1_eq lo pc n a hn ha hb k
  have h' : k0_off1 lo pc k 0 = 16 * (a + k.val) := by rw [h]; rfl
  show ![nextSlot i, k0_off1 lo pc k 0, 0] = _
  rw [h']

theorem off55_eq (go pc : BitVec 32) (n g : ℕ) (hn : Groups pc n) (hg : go.toNat = 16 * g) (hb : g + n ≤ 2752)
    (k : Fin (k0_t17_loop pc).trips) : k0_off55 go pc k = ![16 * (g + k.val), 0] := off2_eq go pc n g hn hg hb k

theorem nextSlot_eq (i : grid0.Coords) : nextSlot i = 1 - (i 0).val % 2 := by
  have h : (i 0).val < 32 := (i 0).isLt
  unfold nextSlot k0_off52
  generalize (i 0).val = v at *
  revert v
  decide +kernel

theorem off52_eq (i : grid0.Coords) : k0_off52 i = ![nextSlot i] := rfl

/-- The slot the block `i` was brought to, as the body computes it. -/
def thisSlot (i : grid0.Coords) : ℕ := k0_off161 i 0

theorem thisSlot_eq (i : grid0.Coords) : thisSlot i = (i 0).val % 2 := by
  have h : (i 0).val < 32 := (i 0).isLt
  unfold thisSlot k0_off161
  generalize (i 0).val = v at *
  revert v
  decide +kernel

theorem off161_eq (i : grid0.Coords) : k0_off161 i = ![thisSlot i] := rfl
theorem off163_eq (i : grid0.Coords) : k0_off163 i = ![thisSlot i, 0, 0] := rfl
theorem off167_eq (i : grid0.Coords) : k0_off167 i = ![thisSlot i, 0, 0] := rfl

/-! ## The conditions the body assumes -/

theorem words_src {r : ℕ} {off : Fin 2 → ℕ} (h : off = ![16 * r, 0]) (hinb : ∀ a, off a + S16x1024.size a ≤ S44032x1024.size a) :
    (Rect.unit (s := S44032x1024) off S16x1024.size hinb).WholeWords (EltTy.packing .bf16) := by
  subst h
  exact Affine.words_of_packed (Affine.packed_dvd (by decide) ⟨8 * r, by show 16 * r = 2 * (8 * r); omega⟩ ⟨8, rfl⟩)

theorem words_dst {s r : ℕ} {off : Fin 3 → ℕ} (h : off = ![s, 16 * r, 0]) (hinb : ∀ a, off a + S1x16x1024.size a ≤ S2x1152x1024.size a) :
    (Rect.unit (s := S2x1152x1024) off S1x16x1024.size hinb).WholeWords (EltTy.packing .bf16) := by
  subst h
  exact Affine.words_of_packed (Affine.packed_dvd (by decide) ⟨8 * r, by show 16 * r = 2 * (8 * r); omega⟩ ⟨8, rfl⟩)

theorem chk1_of (i : grid0.Coords) (lo go pc : BitVec 32) (n a g : ℕ) (hn : Groups pc n) (ha : lo.toNat = 16 * a) (hb : a + n ≤ 72)
    (hg : go.toNat = 16 * g) (hgb : g + n ≤ 2752) : k0_chk1 i lo go pc := by
  have no2 : ∀ k : Fin (k0_t2_loop pc).trips, False := fun k => absurd (lt_of_lt_of_eq k.isLt hn.rem) (Nat.not_lt_zero _)
  have hk : ∀ k : Fin (k0_t1_loop pc).trips, k.val < n := fun k => lt_of_lt_of_eq k.isLt hn.trips
  refine ⟨fun _ => hn.ok, fun k _ => ?_, fun k _ => ?_, fun k _ => ?_, fun k _ => ?_, fun k _ hi => words_src (off2_eq go pc n g hn hg hgb k) hi,
    fun k _ => ?_, fun k _ hi => words_dst (off3_eq lo pc n a hn ha hb k) hi, fun _ => hn.remOk, fun k => (no2 k).elim, fun k => (no2 k).elim,
    fun k => (no2 k).elim, fun k => (no2 k).elim, fun k => (no2 k).elim, fun k => (no2 k).elim, fun k => (no2 k).elim⟩
  · exact ⟨_, word_add go k.val g n hg (hk k) hgb⟩
  · exact ⟨_, word_add lo k.val a n ha (hk k) (by omega)⟩
  · have := hk k
    rw [off1_eq lo pc n a hn ha hb k]
    intro x; match x with
    | ⟨0, _⟩ => show 16 * (a + k.val) + 16 ≤ 1152; omega
    | ⟨1, _⟩ => show 0 + 1024 ≤ 1024; omega
  · have := hk k
    rw [off2_eq go pc n g hn hg hgb k]
    intro x; match x with
    | ⟨0, _⟩ => show 16 * (g + k.val) + 16 ≤ 44032; omega
    | ⟨1, _⟩ => show 0 + 1024 ≤ 1024; omega
  · have := hk k
    rw [off3_eq lo pc n a hn ha hb k]
    intro x; match x with
    | ⟨0, _⟩ => show 0 + 1 ≤ 2; omega
    | ⟨1, _⟩ => show 16 * (a + k.val) + 16 ≤ 1152; omega
    | ⟨2, _⟩ => show 0 + 1024 ≤ 1024; omega

theorem nextSlot_le (i : grid0.Coords) : nextSlot i ≤ 1 := by
  rw [nextSlot_eq]; omega

theorem chk9_of (i : grid0.Coords) (lo go pc : BitVec 32) (n a g : ℕ) (hn : Groups pc n) (ha : lo.toNat = 16 * a) (hb : a + n ≤ 72)
    (hg : go.toNat = 16 * g) (hgb : g + n ≤ 2752) : k0_chk9 i lo go pc := by
  have no2 : ∀ k : Fin (k0_t18_loop pc).trips, False := fun k => absurd (lt_of_lt_of_eq k.isLt hn.rem) (Nat.not_lt_zero _)
  have hk : ∀ k : Fin (k0_t17_loop pc).trips, k.val < n := fun k => lt_of_lt_of_eq k.isLt hn.trips
  have hs := nextSlot_le i
  refine ⟨fun _ => hn.ok, fun k _ => ?_, fun k _ => ?_, fun k _ => ?_, fun k _ => ?_, fun k _ hi => words_src (off55_eq go pc n g hn hg hgb k) hi,
    fun k _ => ?_, fun k _ hi => words_dst (off56_eq i lo pc n a hn ha hb k) hi, fun _ => hn.remOk, fun k => (no2 k).elim, fun k => (no2 k).elim,
    fun k => (no2 k).elim, fun k => (no2 k).elim, fun k => (no2 k).elim, fun k => (no2 k).elim, fun k => (no2 k).elim⟩
  · exact ⟨_, word_add go k.val g n hg (hk k) hgb⟩
  · exact ⟨_, word_add lo k.val a n ha (hk k) (by omega)⟩
  · have := hk k
    rw [show k0_off54 lo pc k = ![16 * (a + k.val), 0] from off1_eq lo pc n a hn ha hb k]
    intro x; match x with
    | ⟨0, _⟩ => show 16 * (a + k.val) + 16 ≤ 1152; omega
    | ⟨1, _⟩ => show 0 + 1024 ≤ 1024; omega
  · have := hk k
    rw [off55_eq go pc n g hn hg hgb k]
    intro x; match x with
    | ⟨0, _⟩ => show 16 * (g + k.val) + 16 ≤ 44032; omega
    | ⟨1, _⟩ => show 0 + 1024 ≤ 1024; omega
  · have := hk k
    rw [off56_eq i lo pc n a hn ha hb k]
    intro x; match x with
    | ⟨0, _⟩ => show nextSlot i + 1 ≤ 2; omega
    | ⟨1, _⟩ => show 16 * (a + k.val) + 16 ≤ 1152; omega
    | ⟨2, _⟩ => show 0 + 1024 ≤ 1024; omega

/-! ## The count of the transfers the drain awaits -/

/-- The groups a count holds, as the body divides it. -/
def quot (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt (16#32 : BitVec 32) 0#32)) (Scalar.extui (Scalar.cmpi .slt (16#32 : BitVec 32) 0#32))))
    (Scalar.cmpi .ne (Scalar.remsi w 16#32) 0#32)) (Scalar.subi (Scalar.divsi w 16#32) 1#32) (Scalar.divsi w 16#32)

theorem quot_word : ∀ n : Fin 73, quot (BitVec.ofNat 32 (16 * n.val)) = BitVec.ofNat 32 n.val := by decide +kernel

theorem Groups.quot {w : BitVec 32} {n : ℕ} (h : Groups w n) : quot w = BitVec.ofNat 32 n := by
  rw [h.word]; exact quot_word ⟨n, by have := h.le; omega⟩

abbrev qsum (a b c d e f g h : BitVec 32) : BitVec 32 :=
  Scalar.addi (Scalar.addi (Scalar.addi (Scalar.addi (Scalar.addi (Scalar.addi (Scalar.addi (Scalar.addi 0#32 (quot a)) (quot b)) (quot c)) (quot d)) (quot e)) (quot f)) (quot g)) (quot h)

abbrev drainLoop (w : BitVec 32) : Scf.Loop 32 := ⟨0#32, Scalar.addi 0#32 (Scalar.muli (Scalar.divsi (Scalar.subi w 0#32) 1#32) 1#32), 1#32⟩
abbrev restLoop (w : BitVec 32) : Scf.Loop 32 := ⟨Scalar.addi 0#32 (Scalar.muli (Scalar.divsi (Scalar.subi w 0#32) 1#32) 1#32), Scalar.addi 0#32 (Scalar.subi w 0#32), 1#32⟩

theorem t33_loop_eq (a b c d e f g h : BitVec 32) : k0_t33_loop a b c d e f g h = drainLoop (qsum a b c d e f g h) := rfl
theorem t34_loop_eq (a b c d e f g h : BitVec 32) : k0_t34_loop a b c d e f g h = restLoop (qsum a b c d e f g h) := rfl

theorem drain_word : ∀ n : Fin 73, ((drainLoop (BitVec.ofNat 32 n.val)).trips = n.val ∧ (drainLoop (BitVec.ofNat 32 n.val)).OK)
    ∧ ((restLoop (BitVec.ofNat 32 n.val)).trips = 0 ∧ (restLoop (BitVec.ofNat 32 n.val)).OK) := by decide +kernel

theorem qsum_eq {a b c d e f g h : BitVec 32} {na nb nc nd ne nf ng nh : ℕ} (ha : Groups a na) (hb : Groups b nb) (hc : Groups c nc) (hd : Groups d nd)
    (he : Groups e ne) (hf : Groups f nf) (hg : Groups g ng) (hh : Groups h nh) :
    qsum a b c d e f g h = BitVec.ofNat 32 (na + nb + nc + nd + ne + nf + ng + nh) := by
  show 0#32 + quot a + quot b + quot c + quot d + quot e + quot f + quot g + quot h = _
  rw [ha.quot, hb.quot, hc.quot, hd.quot, he.quot, hf.quot, hg.quot, hh.quot]
  simp only [← BitVec.ofNat_add, Nat.zero_add]

end Cert.CombineIdeal.Hand

end
-- ==== Proof.CombineDma.lean ====
/- One slot's transfers. The rows of a block are brought into a slot sixteen at a time: the sets the transfers read and
   write, what each delivers, the state between two of them, and the step and the loops that issue them. -/
module

public import proofs.«01_k».proof.Proof.CombineKit

@[expose] public section

set_option maxRecDepth 16384

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The sets -/

/-- The rows group `g` of the sorted rows takes, -/
def srcSet (g : ℕ) : Finset S44032x1024.Idx := Finset.univ.filter fun z => 16 * g ≤ (z 0).val ∧ (z 0).val < 16 * g + 16
/-- the rows group `j` of slot `s` takes, -/
def gran (s j : ℕ) : Finset S2x1152x1024.Idx := Finset.univ.filter fun z => (z 0).val = s ∧ 16 * j ≤ (z 1).val ∧ (z 1).val < 16 * j + 16
/-- a slot, -/
def slot (s : ℕ) : Finset S2x1152x1024.Idx := Finset.univ.filter fun z => (z 0).val = s
/-- and the rows of a slot from group `n` on. -/
def slotFrom (s n : ℕ) : Finset S2x1152x1024.Idx := Finset.univ.filter fun z => (z 0).val = s ∧ 16 * n ≤ (z 1).val

theorem mem_srcSet (g : ℕ) (z : S44032x1024.Idx) : z ∈ srcSet g ↔ 16 * g ≤ (z 0).val ∧ (z 0).val < 16 * g + 16 := by simp [srcSet]
theorem mem_gran (s j : ℕ) (z : S2x1152x1024.Idx) : z ∈ gran s j ↔ (z 0).val = s ∧ 16 * j ≤ (z 1).val ∧ (z 1).val < 16 * j + 16 := by simp [gran]
theorem mem_slot (s : ℕ) (z : S2x1152x1024.Idx) : z ∈ slot s ↔ (z 0).val = s := by simp [slot]
theorem mem_slotFrom (s n : ℕ) (z : S2x1152x1024.Idx) : z ∈ slotFrom s n ↔ (z 0).val = s ∧ 16 * n ≤ (z 1).val := by simp [slotFrom]

/-! ## The transfer's two ends -/

abbrev rowsM : Memref sig .tc .hbm S44032x1024 .bf16 := Memref.whole main_arg3
abbrev slotsM : Memref sig .tc .vmem S2x1152x1024 .bf16 := Memref.whole cc0_scratch0

abbrev srcM (off : Fin 2 → ℕ) (h : ∀ a, off a + S16x1024.size a ≤ S44032x1024.size a) : Memref sig .tc .hbm S16x1024 .bf16 :=
  rowsM.slice (Rect.unit (s := S44032x1024) off S16x1024.size h) (fun _ => rfl)
abbrev dstM (off : Fin 3 → ℕ) (h : ∀ a, off a + S1x16x1024.size a ≤ S2x1152x1024.size a) : Memref sig .tc .vmem S16x1024 .bf16 :=
  (slotsM.slice (Rect.unit (s := S2x1152x1024) off S1x16x1024.size h) (fun _ => rfl)).squeeze S16x1024 squeezes_S1x16x1024_S16x1024
abbrev semM (off : Fin 1 → ℕ) (h : ∀ a, off a + S1.size a ≤ S2.size a) : DmaSem sig :=
  ((cc0_scratch1.slice (Rect.unit (s := S2) off S1.size h)).squeeze S_ squeezes_S1_S_).sem

abbrev toSlot (off : Fin 3 → ℕ) (h : ∀ a, off a + S1x16x1024.size a ≤ S2x1152x1024.size a) : DmaTarget nD τ sig (.tc : Proc τ) .vmem S16x1024 .bf16 :=
  .here (dstM off h)

/-- A slot's semaphore. -/
def slotSem (s : ℕ) : DmaSem sig := if s = 0 then 7 else 8

theorem semM_eq {off : Fin 1 → ℕ} {s : ℕ} (e : off = ![s]) (h : ∀ a, off a + S1.size a ≤ S2.size a) : semM off h = slotSem s := by
  subst e
  have hs : s + 1 ≤ 2 := h 0
  show cc0_scratch1.ix _ = _
  have hx : ∀ x : S2.Idx, (x 0).val = s → cc0_scratch1.ix x = slotSem s := by
    intro x hx
    have hd : ∀ s : Fin 2, cc0_scratch1.ix (fun | ⟨0, _⟩ => s) = slotSem s.val := by decide +kernel
    have e : x = fun | ⟨0, _⟩ => (⟨s, by clear hx; omega⟩ : Fin 2) := by
      funext a; match a with
      | ⟨0, _⟩ => exact Fin.ext hx
    rw [e]; exact hd ⟨s, by omega⟩
  refine hx _ ?_
  show s + 1 * _ = s
  have : ∀ j : Fin 1, s + 1 * j.val = s := fun j => by omega
  exact this _

/-- What one transfer credits its semaphore. -/
def credit : ℕ := (dstM ![0, 0, 0] (by decide)).view.dmaCredit

theorem credit_pos : 0 < credit := View.dmaCredit_pos _ (by decide)
theorem dst_credit (off : Fin 3 → ℕ) (h : ∀ a, off a + S1x16x1024.size a ≤ S2x1152x1024.size a) : (dstM off h).view.dmaCredit = credit := rfl

theorem src_set {off : Fin 2 → ℕ} {g : ℕ} (e : off = ![16 * g, 0]) (h : ∀ a, off a + S16x1024.size a ≤ S44032x1024.size a) :
    (srcM off h).view.set = srcSet g := by
  subst e
  refine (View.set_slice_whole _ _).trans ?_
  ext z
  rw [Rect.mem_set_unit, mem_srcSet]
  have h1 : (z 1).val < 1024 := (z 1).isLt
  constructor
  · intro H; exact H 0
  · intro H a; match a with
    | ⟨0, _⟩ => exact H
    | ⟨1, _⟩ => exact ⟨Nat.zero_le _, by show (z 1).val < 0 + 1024; omega⟩

theorem dst_set {off : Fin 3 → ℕ} {s j : ℕ} (e : off = ![s, 16 * j, 0]) (h : ∀ a, off a + S1x16x1024.size a ≤ S2x1152x1024.size a) :
    (dstM off h).view.set = gran s j := by
  subst e
  refine ((View.set_reshape _ _).trans (View.set_slice_whole _ _)).trans ?_
  ext z
  rw [Rect.mem_set_unit, mem_gran]
  have h2 : (z 2).val < 1024 := (z 2).isLt
  constructor
  · intro H
    have a0 : s ≤ (z 0).val ∧ (z 0).val < s + 1 := H 0
    have a1 : 16 * j ≤ (z 1).val ∧ (z 1).val < 16 * j + 16 := H 1
    exact ⟨by omega, a1⟩
  · intro H a; match a with
    | ⟨0, _⟩ => show s ≤ (z 0).val ∧ (z 0).val < s + 1; omega
    | ⟨1, _⟩ => exact H.2
    | ⟨2, _⟩ => exact ⟨Nat.zero_le _, by show (z 2).val < 0 + 1024; omega⟩

/-- Row `16g + (z₁ - 16j)` of the sorted rows at `z`'s column: what group `g`'s rows put at `z` of group `j`. -/
def srcIdx (r : ℕ) (h : r < 44032) (k : Fin 1024) : S44032x1024.Idx := fun | ⟨0, _⟩ => ⟨r, h⟩ | ⟨1, _⟩ => k

theorem dst_write {off4 : Fin 2 → ℕ} {off7 : Fin 3 → ℕ} {g s j : ℕ} (e4 : off4 = ![16 * g, 0]) (e7 : off7 = ![s, 16 * j, 0])
    (h4 : ∀ a, off4 a + S16x1024.size a ≤ S44032x1024.size a) (h7 : ∀ a, off7 a + S1x16x1024.size a ≤ S2x1152x1024.size a)
    (y : S44032x1024.Idx → Elt F .bf16) (old : S2x1152x1024.Idx → Elt F .bf16) (z : S2x1152x1024.Idx) (hz : z ∈ gran s j)
    (hr : 16 * g + ((z 1).val - 16 * j) < 44032) :
    (dstM off7 h7).view.write (Elt F) old (ReadAs.same.apply ((srcM off4 h4).view.read (Elt F) y)) Finset.univ z
      = y (srcIdx _ hr (z 2)) := by
  subst e4 e7
  rw [mem_gran] at hz
  have hx : (dstM ![s, 16 * j, 0] h7).view.emb (fun | ⟨0, _⟩ => ⟨(z 1).val - 16 * j, by show _ < 16; omega⟩ | ⟨1, _⟩ => z 2) = z := by
    show (Rect.unit (s := S2x1152x1024) ![s, 16 * j, 0] S1x16x1024.size h7).emb (Shape.reshapeEquiv _ _) = z
    rw [Shape.reshapeEquiv_cons_one]
    funext a
    apply Fin.ext
    match a with
    | ⟨0, _⟩ => show s + 1 * 0 = (z 0).val; omega
    | ⟨1, _⟩ => show 16 * j + 1 * ((z 1).val - 16 * j) = (z 1).val; omega
    | ⟨2, _⟩ => show 0 + 1 * (z 2).val = (z 2).val; omega
  conv_lhs => rw [← hx]
  rw [View.write_emb_of_mem _ _ (Finset.mem_univ _)]
  show y ((Rect.unit (s := S44032x1024) ![16 * g, 0] S16x1024.size h4).emb _) = _
  congr 1
  funext a
  apply Fin.ext
  match a with
  | ⟨0, _⟩ => show 16 * g + 1 * ((z 1).val - 16 * j) = 16 * g + ((z 1).val - 16 * j); omega
  | ⟨1, _⟩ => show 0 + 1 * (z 2).val = (z 2).val; omega

/-! ## The transfers of a slot -/

section Slot

variable (c : Dev nD) (s n : ℕ) (sg : ℕ → ℕ) (q : PosShare TreeShare) (y : S44032x1024.Idx → Elt F .bf16) (old new : S2x1152x1024.Idx → Elt F .bf16)

abbrev rowsAt (S : Finset S44032x1024.Idx) (q : PosShare TreeShare) (y : S44032x1024.Idx → Elt F .bf16) : sProp 𝕄 :=
  rowsM.view.loc (c : Thread nD τ) ↦[S]{q} y
abbrev slotAt (S : Finset S2x1152x1024.Idx) (f : S2x1152x1024.Idx → Elt F .bf16) : sProp 𝕄 :=
  slotsM.view.loc (c : Thread nD τ) ↦[S]{fullShare} f

/-- What transfer `j` delivers: its group of the slot at the new contents, and its share of the rows it read. -/
def deliv (j : Fin n) : sProp 𝕄 :=
  iprop(slotAt c (gran s j.val) new ∗ rowsAt c (srcSet (sg j.val)) (Transfers.shareTokN q j.val) y)

instance deliv_storable (j : Fin n) : BI.Storable (upEmb : UEmb _ 𝕄) (deliv c s n sg q y new j) := by
  unfold deliv; infer_instance

/-- What is held of transfer `j` before it is issued, -/
def pre (j : Fin n) : sProp 𝕄 :=
  iprop(slotAt c (gran s j.val) old ∗ rowsAt c Finset.univ (Transfers.shareTokN q j.val) y)
/-- and after. -/
def post (j : Fin n) : sProp 𝕄 := rowsAt c (Finset.univ \ srcSet (sg j.val)) (Transfers.shareTokN q j.val) y

/-- The slot's transfers, `j` of them issued and `u` credits awaited. -/
abbrev batch (j u : ℕ) : sProp 𝕄 :=
  Transfers.Batch (countersEmb (U := Pipeline.UD sig nD τ)) (c : Thread nD τ) (.dma (slotSem s)) () credit (deliv c s n sg q y new) j u

/-- The state with `a` transfers issued. -/
def issued (a : ℕ) : sProp 𝕄 :=
  iprop(batch c s n sg q y new a 0 ∗ bigSep (Ring.rangeSet n a n) (pre c s n q y old) ∗ bigSep (Ring.rangeSet n 0 a) (post c n sg q y))

/-- The new contents of a group are the rows its transfer reads. -/
def Brings : Prop := ∀ j < n, ∀ z ∈ gran s j, ∃ h : 16 * sg j + ((z 1).val - 16 * j) < 44032, new z = y (srcIdx _ h (z 2))

variable {s n sg q y old new}

/-- One transfer. -/
theorem wp_issue {α : Type} {Q : α → sProp 𝕄} (𝒱₀ : Variants) (defs : Defs nD τ sig (Elt F) Λ₀) {bd : Option 𝒱₀.V} (hb : Brings s n sg y new) {a : ℕ} (ha : a < n) {off4 : Fin 2 → ℕ} {off7 : Fin 3 → ℕ} {off8 : Fin 1 → ℕ}
    (e4 : off4 = ![16 * sg a, 0]) (e7 : off7 = ![s, 16 * a, 0]) (e8 : off8 = ![s])
    (h4 : ∀ a, off4 a + S16x1024.size a ≤ S44032x1024.size a) (h7 : ∀ a, off7 a + S1x16x1024.size a ≤ S2x1152x1024.size a)
    (h8 : ∀ a, off8 a + S1.size a ≤ S2.size a) (w4 : (srcM off4 h4).view.WordExact) (w7 : (dstM off7 h7).view.WordExact)
    (hT : (toSlot off7 h7).Typed .hbm (.dma (semM off8 h8)))
    (k : PUnit → Prog (TpuEff nD τ sig (Elt F) Λ₀ .tc) α) :
    issued c s n sg q y old new a
      ⊢ iprop((issued c s n sg q y old new (a + 1) -∗ wp frame (wpE defs 𝒱₀ (c : Thread nD τ) bd) Set.univ (k ⟨⟩) Q)
        -∗ wp frame (wpE defs 𝒱₀ (c : Thread nD τ) bd) Set.univ
            (.op (.enqueueDma (srcM off4 h4) (toSlot off7 h7) (.dma (semM off8 h8)) w4 w7 hT) k) Q) := by
  have hsem := semM_eq e8 h8
  have hsrc := src_set e4 h4
  have hdst := dst_set e7 h7
  unfold issued
  rw [Ring.bigSep_rangeSet_head (Φ := pre c s n q y old) ha ha]
  rw [Ring.bigSep_rangeSet_last (Φ := post c n sg q y) (lo := 0) (hi := a + 1) (by omega) (by omega)]
  have hD : iprop(((dstM off7 h7).view.loc (c : Thread nD τ) ↦[gran s a]{fullShare} ((dstM off7 h7).view.write (Elt F) old (ReadAs.same.apply ((srcM off4 h4).view.read (Elt F) y)) Finset.univ))
        ∗ ((srcM off4 h4).view.loc (c : Thread nD τ) ↦[(srcM off4 h4).view.set]{Transfers.shareTokN q a} y)) ⊢ deliv c s n sg q y new ⟨a, ha⟩ := by
    unfold deliv
    rw [hsrc]
    have : ∀ z ∈ gran s a, (dstM off7 h7).view.write (Elt F) old (ReadAs.same.apply ((srcM off4 h4).view.read (Elt F) y)) Finset.univ z = new z := by
      intro z hz
      obtain ⟨hr, hn⟩ := hb a ha z hz
      rw [hn]; subst e4 e7
      exact dst_write rfl rfl h4 h7 y old z hz hr
    exact Entails.of_eq (congrArg (fun P : sProp 𝕄 => iprop(P ∗ _)) (pointsTo_congr this))
  generalize semM off8 h8 = m at hsem hT ⊢
  subst hsem
  have key := Transfers.wp_dmaBatch (countersEmb (U := Pipeline.UD sig nD τ)) 𝒱₀ (c : Thread nD τ) bd (defs := defs) (src := srcM off4 h4) (dst := dstM off7 h7) (via := .same) (sm := .dma (slotSem s))
    (hsrc := w4) (hdst := w7) (hsem := hT) (k := k) (Q := Q)
    (D := deliv c s n sg q y new) (Sd := gran s a) (q := Transfers.shareTokN q a) (fs := y) (fd := old) () credit rfl (Eq.subset hdst) ha (u := 0) (Nat.zero_le _) hD
  rw [hsrc] at key
  iintro ⟨HB, ⟨Hp, Hps⟩, Hq⟩ Hk
  unfold pre
  icases Hp with ⟨Hd, Hs⟩
  ihave Hs' := (pointsTo_split_subset (Finset.subset_univ (srcSet (sg a)))).1 $$ Hs
  icases Hs' with ⟨Hs, Hr⟩
  iapply key $$ [Hs Hd HB]
  · isplitl [Hs]; · iexact Hs
    isplitl [Hd]; · iexact Hd
    iexact HB
  iintro HB
  iapply Hk
  isplitl [HB]; · iexact HB
  isplitl [Hps]; · iexact Hps
  isplitl [Hr]
  · unfold post; iexact Hr
  iexact Hq

/-- A loop of them. -/
theorem wp_issues {α : Type} {Q : α → sProp 𝕄} (𝒱₀ : Variants) (defs : Defs nD τ sig (Elt F) Λ₀) {bd : Option 𝒱₀.V} (hb : Brings s n sg y new) (L : Scf.Loop 32) (hok : L.OK) {a m : ℕ} (hm : L.trips = m) (ham : a + m ≤ n)
    (body : Fin L.trips → BitVec 32 → Prog (TpuEff nD τ sig (Elt F) Λ₀ .tc) (BitVec 32))
    {off4 : Fin L.trips → Fin 2 → ℕ} {off7 : Fin L.trips → Fin 3 → ℕ} {off8 : Fin 1 → ℕ}
    (e4 : ∀ k, off4 k = ![16 * sg (a + k.val), 0]) (e7 : ∀ k, off7 k = ![s, 16 * (a + k.val), 0]) (e8 : off8 = ![s])
    (h4 : ∀ k a, off4 k a + S16x1024.size a ≤ S44032x1024.size a) (h7 : ∀ k a, off7 k a + S1x16x1024.size a ≤ S2x1152x1024.size a)
    (h8 : ∀ a, off8 a + S1.size a ≤ S2.size a) (w4 : ∀ k, (srcM (off4 k) (h4 k)).view.WordExact) (w7 : ∀ k, (dstM (off7 k) (h7 k)).view.WordExact)
    (hT : ∀ k, (toSlot (off7 k) (h7 k)).Typed .hbm (.dma (semM off8 h8)))
    (hbody : ∀ k acc, body k acc = .op (.enqueueDma (srcM (off4 k) (h4 k)) (toSlot (off7 k) (h7 k)) (.dma (semM off8 h8)) (w4 k) (w7 k) (hT k)) (fun _ => .ret 0#32))
    (kk : BitVec 32 → Prog (TpuEff nD τ sig (Elt F) Λ₀ .tc) α) :
    issued c s n sg q y old new a
      ⊢ iprop((∀ r, issued c s n sg q y old new (a + m) -∗ wp frame (wpE defs 𝒱₀ (c : Thread nD τ) bd) Set.univ (kk r) Q)
        -∗ wp frame (wpE defs 𝒱₀ (c : Thread nD τ) bd) Set.univ (Scf.Loop.for L hok 0#32 body >>= kk) Q) := by
  subst hm
  refine Scf.wp_for_bind frame (wpE defs 𝒱₀ (c : Thread nD τ) bd) Set.univ L.lb L.ub L.st hok 0#32 body (fun k _ => issued c s n sg q y old new (a + k)) ?_
  intro k acc
  rw [hbody k acc]
  have hk : k.val < L.trips := k.isLt
  iintro H
  iapply (wp_issue c 𝒱₀ defs hb (a := a + k.val) (by omega) (e4 k) (e7 k) e8 (h4 k) (h7 k) h8 (w4 k) (w7 k) (hT k)) $$ H
  iintro H
  rw [wp_ret]
  imodintro
  iexact H

end Slot

/-- A loop of no trips. -/
theorem wp_none {α : Type} {Q : α → sProp 𝕄} (c : Dev nD) (𝒱₀ : Variants) (defs : Defs nD τ sig (Elt F) Λ₀) {bd : Option 𝒱₀.V} (L : Scf.Loop 32) (hok : L.OK) (hm : L.trips = 0)
    (init : BitVec 32) (body : Fin L.trips → BitVec 32 → Prog (TpuEff nD τ sig (Elt F) Λ₀ .tc) (BitVec 32))
    (kk : BitVec 32 → Prog (TpuEff nD τ sig (Elt F) Λ₀ .tc) α) :
    wp frame (wpE defs 𝒱₀ (c : Thread nD τ) bd) Set.univ (kk init) Q
      ⊢ wp frame (wpE defs 𝒱₀ (c : Thread nD τ) bd) Set.univ (Scf.Loop.for L hok init body >>= kk) Q :=
  Scf.wp_for0_bind' frame (wpE defs 𝒱₀ (c : Thread nD τ) bd) Set.univ L.lb L.ub L.st hok init body hm kk Q _ .rfl

/-! ## The waits -/

section Wait

variable (c : Dev nD) {s n : ℕ} {sg : ℕ → ℕ} {q : PosShare TreeShare} {y : S44032x1024.Idx → Elt F .bf16} {old new : S2x1152x1024.Idx → Elt F .bf16}

/-- One wait. -/
theorem wp_await {α : Type} {Q : α → sProp 𝕄} (𝒱₀ : Variants) (defs : Defs nD τ sig (Elt F) Λ₀) {bd : Option 𝒱₀.V} {W : Waits sig Unit} {u : ℕ} (hu : u < n) {off7 : Fin 3 → ℕ} {off4 : Fin 2 → ℕ} {off8 : Fin 1 → ℕ}
    (e8 : off8 = ![s]) (h4 : ∀ a, off4 a + S16x1024.size a ≤ S44032x1024.size a) (h7 : ∀ a, off7 a + S1x16x1024.size a ≤ S2x1152x1024.size a)
    (h8 : ∀ a, off8 a + S1.size a ≤ S2.size a) (w4 : (srcM off4 h4).view.WordExact) (w7 : (dstM off7 h7).view.WordExact)
    (k : PUnit → Prog (TpuEff nD τ sig (Elt F) Λ₀ .tc) α) :
    iprop(batch c s n sg q y new n (credit * u) ∗ owes (c : Thread nD τ) 0 W)
      ⊢ iprop((iprop(batch c s n sg q y new n (credit * (u + 1)) ∗ owes (c : Thread nD τ) 0 (insert (SemLoc.dma (slotSem s), ()) W)) -∗ wp frame (wpE defs 𝒱₀ (c : Thread nD τ) bd) Set.univ (k ⟨⟩) Q)
        -∗ wp frame (wpE defs 𝒱₀ (c : Thread nD τ) bd) Set.univ
            (.op (.waitDma2 (semM off8 h8) (srcM off4 h4) (dstM off7 h7) w4 w7) k) Q) := by
  have hsem := semM_eq e8 h8
  generalize semM off8 h8 = m at hsem ⊢
  subst hsem
  have key := Transfers.wp_waitBatchMul (countersEmb (U := Pipeline.UD sig nD τ)) 𝒱₀ (c : Thread nD τ) bd (defs := defs) (sem := slotSem s) (srcw := srcM off4 h4) (dstw := dstM off7 h7)
    (hsrc := w4) (hdst := w7) (k := k) (Q := Q) (N := credit) () 1 (Nat.one_mul _).symm
    (D := deliv c s n sg q y new) (j := n) (u := credit * u) (by rw [Nat.one_mul, ← Nat.mul_succ]; exact Nat.mul_le_mul_left _ hu) (W := W)
  rw [Nat.one_mul, ← Nat.mul_succ] at key
  exact key

/-- The loop of them. -/
theorem wp_awaits {α : Type} {Q : α → sProp 𝕄} (𝒱₀ : Variants) (defs : Defs nD τ sig (Elt F) Λ₀) {bd : Option 𝒱₀.V} {W : Waits sig Unit} (L : Scf.Loop 32) (hok : L.OK) (hm : L.trips = n)
    (body : Fin L.trips → BitVec 32 → Prog (TpuEff nD τ sig (Elt F) Λ₀ .tc) (BitVec 32)) {off7 : Fin 3 → ℕ} {off4 : Fin 2 → ℕ} {off8 : Fin 1 → ℕ}
    (e8 : off8 = ![s]) (h4 : ∀ a, off4 a + S16x1024.size a ≤ S44032x1024.size a) (h7 : ∀ a, off7 a + S1x16x1024.size a ≤ S2x1152x1024.size a)
    (h8 : ∀ a, off8 a + S1.size a ≤ S2.size a) (w4 : (srcM off4 h4).view.WordExact) (w7 : (dstM off7 h7).view.WordExact)
    (hbody : ∀ k acc, body k acc = .op (.waitDma2 (semM off8 h8) (srcM off4 h4) (dstM off7 h7) w4 w7) (fun _ => .ret 0#32))
    (kk : BitVec 32 → Prog (TpuEff nD τ sig (Elt F) Λ₀ .tc) α) :
    iprop(batch c s n sg q y new n 0 ∗ owes (c : Thread nD τ) 0 W)
      ⊢ iprop((∀ r, iprop(bigSep Finset.univ (deliv c s n sg q y new) ∗ semVal ((c : Thread nD τ), SemLoc.dma (slotSem s)) 0 ∗ ∃ W, owes (c : Thread nD τ) 0 W) -∗ wp frame (wpE defs 𝒱₀ (c : Thread nD τ) bd) Set.univ (kk r) Q)
        -∗ wp frame (wpE defs 𝒱₀ (c : Thread nD τ) bd) Set.univ (Scf.Loop.for L hok 0#32 body >>= kk) Q) := by
  subst hm
  have key := Scf.wp_for_bind frame (wpE defs 𝒱₀ (c : Thread nD τ) bd) Set.univ L.lb L.ub L.st hok 0#32 body
    (fun u _ => iprop(batch c s L.trips sg q y new L.trips (credit * u) ∗ ∃ W, owes (c : Thread nD τ) 0 W)) ?_ (kk := kk) (Q := Q)
  · iintro ⟨HB, HO⟩ Hk
    iapply key $$ [HB HO]
    · isplitl [HB]; · iexact HB
      iexists W; iexact HO
    iintro %r ⟨HB, HO⟩
    imod (Transfers.batch_collect' (countersEmb (U := Pipeline.UD sig nD τ)) (c : Thread nD τ) credit_pos) $$ HB with ⟨HD, HS⟩
    iapply Hk $$ %r
    isplitl [HD]; · iexact HD
    isplitl [HS]; · iexact HS
    iexact HO
  · intro k acc
    rw [hbody k acc]
    iintro ⟨HB, ⟨%W, HO⟩⟩
    iapply (wp_await c 𝒱₀ defs (u := k.val) k.isLt e8 h4 h7 h8 w4 w7) $$ [HB HO]
    · isplitl [HB]; · iexact HB
      iexact HO
    iintro ⟨HB, HO⟩
    rw [wp_ret]
    imodintro
    isplitl [HB]; · iexact HB
    iexists _; iexact HO

end Wait

/-! ## A slot at rest, and one whose transfers are under way -/

section Rest

variable (c : Dev nD) (s n : ℕ) (sg : ℕ → ℕ) (q : PosShare TreeShare) (y : S44032x1024.Idx → Elt F .bf16) (old new : S2x1152x1024.Idx → Elt F .bf16)

theorem gran_disjoint {i j : ℕ} (h : i ≠ j) : Disjoint (gran s i) (gran s j) := by
  rw [Finset.disjoint_left]
  intro z hi hj
  rw [mem_gran] at hi hj; omega

theorem slot_split (f : S2x1152x1024.Idx → Elt F .bf16) :
    (slotAt c (slot s) f : sProp 𝕄) ⊣⊢ iprop((bigSep Finset.univ fun j : Fin n => slotAt c (gran s j.val) f) ∗ slotAt c (slotFrom s n) f) := by
  obtain ⟨B, hB, e⟩ : ∃ B : Finset (Idx (slotsM.view.loc (c : Thread nD τ))), (∀ z : S2x1152x1024.Idx, z ∈ B ↔ ∃ j : Fin n, z ∈ gran s j.val)
      ∧ (slotAt c B f : sProp 𝕄) = bigSep Finset.univ fun j : Fin n => slotAt c (gran s j.val) f := by
    refine ⟨_, ?_, pointsTo_biUnion (ℓ := slotsM.view.loc (c : Thread nD τ)) (q := fullShare) (f := f) Finset.univ (fun j : Fin n => gran s j.val) (fun i _ j _ h => gran_disjoint s (fun e => h (Fin.ext e)))⟩
    intro z
    rw [Finset.mem_biUnion]
    exact ⟨fun ⟨j, _, h⟩ => ⟨j, h⟩, fun ⟨j, h⟩ => ⟨j, Finset.mem_univ _, h⟩⟩
  have hd : Disjoint B (slotFrom s n) := by
    rw [Finset.disjoint_left]
    intro z hi hj
    obtain ⟨j, h⟩ := (hB z).mp hi
    rw [mem_gran] at h; rw [mem_slotFrom] at hj
    have := j.isLt
    omega
  have hs : slot s = B ∪ slotFrom s n := by
    ext z
    rw [mem_slot, Finset.mem_union, mem_slotFrom, hB]
    constructor
    · intro h
      by_cases hz : (z 1).val < 16 * n
      · exact .inl ⟨⟨(z 1).val / 16, by omega⟩, (mem_gran _ _ _).mpr ⟨h, by show 16 * ((z 1).val / 16) ≤ _; omega, by show _ < 16 * ((z 1).val / 16) + 16; omega⟩⟩
      · exact .inr ⟨h, by omega⟩
    · rintro (⟨j, h⟩ | h)
      · exact ((mem_gran _ _ _).mp h).1
      · exact h.1
  rw [← e, hs]
  exact pointsTo_union hd

/-- What stays with the core of a slot under way: the rows past its groups, and the rest of its share of the sorted rows. -/
def kept : sProp 𝕄 := iprop(slotAt c (slotFrom s n) old ∗ rowsAt c Finset.univ (Transfers.shareDrop q n) y)

/-- A slot at rest. -/
def idle : sProp 𝕄 := iprop(slotAt c (slot s) old ∗ rowsAt c Finset.univ q y ∗ semVal ((c : Thread nD τ), SemLoc.dma (slotSem s)) 0)
/-- A slot whose transfers are all issued. -/
def busy : sProp 𝕄 := iprop(issued c s n sg q y old new n ∗ kept c s n q y old)

variable {s n sg q y old new}

theorem idle_open :
    idle c s q y old ⊢ (|={Set.univ}=> iprop(issued c s n sg q y old new 0 ∗ kept c s n q y old) : sProp 𝕄) := by
  unfold idle issued kept
  iintro ⟨HD, HY, HS⟩
  imod (Transfers.batch_alloc' (countersEmb (U := Pipeline.UD sig nD τ)) (c : Thread nD τ) () credit (deliv c s n sg q y new)) $$ HS with HB
  imodintro
  ihave HD := (slot_split c s n old).1 $$ HD
  icases HD with ⟨HG, HF⟩
  ihave HY := (Transfers.pointsTo_toks q n).1 $$ HY
  icases HY with ⟨HK, HT⟩
  isplitr [HF HK]
  · isplitl [HB]; · iexact HB
    rw [Ring.rangeSet_univ, Ring.bigSep_rangeSet_empty (le_refl 0)]
    isplitl
    · iapply (Entails.of_eq (bigSep_sep' Finset.univ (fun j : Fin n => slotAt c (gran s j.val) old) (fun j : Fin n => rowsAt c Finset.univ (Transfers.shareTokN q j.val) y)).symm)
      isplitl [HG]; · iexact HG
      iexact HT
    · exact .rfl
  · isplitl [HF]; · iexact HF
    iexact HK

theorem idle_close (hb : ∀ z ∈ slotFrom s n, old z = new z) :
    iprop((bigSep Finset.univ (deliv c s n sg q y new)) ∗ semVal ((c : Thread nD τ), SemLoc.dma (slotSem s)) 0 ∗ (bigSep (Ring.rangeSet n 0 n) (post c n sg q y)) ∗ kept c s n q y old)
      ⊢ idle c s q y new := by
  unfold idle kept
  rw [show (slotAt c (slotFrom s n) old : sProp 𝕄) = slotAt c (slotFrom s n) new from pointsTo_congr hb]
  rw [Ring.rangeSet_univ]
  have e : iprop((bigSep Finset.univ (deliv c s n sg q y new)) ∗ bigSep Finset.univ (post c n sg q y))
      ⊢ iprop((bigSep Finset.univ fun j : Fin n => slotAt c (gran s j.val) new) ∗ bigSep Finset.univ fun j : Fin n => rowsAt c Finset.univ (Transfers.shareTokN q j.val) y) := by
    have hj : ∀ j : Fin n, iprop(deliv c s n sg q y new j ∗ post c n sg q y j) ⊢ iprop(slotAt c (gran s j.val) new ∗ rowsAt c Finset.univ (Transfers.shareTokN q j.val) y) := by
      intro j
      unfold deliv post
      iintro ⟨⟨HG, HI⟩, HR⟩
      isplitl [HG]; · iexact HG
      iapply (pointsTo_split_subset (Finset.subset_univ (srcSet (sg j.val)))).2
      isplitl [HI]; · iexact HI
      iexact HR
    exact (Entails.of_eq (bigSep_sep' Finset.univ _ _).symm).trans ((bigSep_mono fun j _ => hj j).trans (Entails.of_eq (bigSep_sep' Finset.univ (fun j : Fin n => slotAt c (gran s j.val) new) (fun j : Fin n => rowsAt c Finset.univ (Transfers.shareTokN q j.val) y))))
  iintro ⟨HD, HS, HP, ⟨HF, HK⟩⟩
  ihave H := e $$ [HD HP]
  · isplitl [HD]; · iexact HD
    iexact HP
  icases H with ⟨HG, HT⟩
  isplitl [HG HF]
  · iapply (slot_split c s n new).2
    isplitl [HG]; · iexact HG
    iexact HF
  isplitl [HK HT]
  · iapply (Transfers.pointsTo_toks q n).2
    isplitl [HK]; · iexact HK
    iexact HT
  iexact HS

end Rest

end Cert.CombineIdeal.Hand

end
-- ==== Proof.CombineRun.lean ====
/- One run of the combine kernel's body: at the first block, which fills both slots with zeros and issues its own
   transfers before the next block's; at a middle one, which issues the next block's; and at the last one. -/
module

public import proofs.«01_k».proof.Proof.CombineDma
public import Idealize.ShloMosaic.Lib.WritesUnit
public import Idealize.ShloMosaic.Lib.VecWindow
public import Idealize.ShloMosaic.Lib.Pointwise

@[expose] public section

set_option maxRecDepth 16384

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The table's words -/

abbrev tabM : Memref sig .tc .smem S32x24 .i32 := Memref.whole main_arg0
abbrev tabM_whole : tabM.IsWhole := Memref.isWhole_whole _
abbrev rowsM_whole : rowsM.IsWhole := Memref.isWhole_whole _
abbrev slotsM_whole : slotsM.IsWhole := Memref.isWhole_whole _

/-- The half of the table the body reads it through. -/
abbrev tabHalf (c : Dev nD) (f : S32x24.Idx → BitVec 32) : sProp 𝕄 := tabM.view.loc (c : Thread nD τ) ↦{fullShare.right} f

/-- A word of the table, as the body loads it, -/
abbrev wordAt (F : FTy → Type) (f : S32x24.Idx → BitVec 32) (off : Fin 2 → ℕ) (h : ∀ a, off a + S1x1.size a ≤ S32x24.size a) : BitVec 32 :=
  tabM.view.readAt (Elt F) (Rect.unit (s := S32x24) off S1x1.size h).toLoadRect f (Shape.Idx.first (numel1_S1x1.symm ▸ Nat.one_pos))
/-- and as the table's entry. -/
theorem wordAt_eq (f : S32x24.Idx → BitVec 32) {off : Fin 2 → ℕ} {r : Fin 32} {k : Fin 24} (e : off = ![r.val, k.val]) (h : ∀ a, off a + S1x1.size a ≤ S32x24.size a) :
    wordAt F f off h = f (ix2 r k) := by
  subst e
  refine congrArg f (funext fun a => Fin.ext ?_)
  match a with
  | ⟨0, _⟩ => show r.val + 1 * _ = r.val; exact Nat.add_zero _
  | ⟨1, _⟩ => show k.val + 1 * _ = k.val; exact Nat.add_zero _

/-- An expert's run of groups in a block: where it lies in the slot and in the sorted rows. -/
structure Seg (sg : ℕ → ℕ) (lo go pc : BitVec 32) (a n : ℕ) : Prop where
  cnt : Groups pc n
  loAt : lo.toNat = 16 * a
  fits : a + n ≤ 72
  rows : ∃ g, go.toNat = 16 * g ∧ g + n ≤ 2752 ∧ ∀ k < n, sg (a + k) = g + k

/-- The eight of them. -/
structure Blk (f : S32x24.Idx → BitVec 32) (r : Fin 32) (sg cut ns : ℕ → ℕ) : Prop where
  zero : cut 0 = 0
  step : ∀ e : ℕ, cut (e + 1) = cut e + ns e
  seg : ∀ e : Fin 8, Seg sg (f (ix2 r (⟨e.val, by omega⟩ : Fin 24))) (f (ix2 r (⟨16 + e.val, by omega⟩ : Fin 24))) (f (ix2 r (⟨8 + e.val, by omega⟩ : Fin 24))) (cut e.val) (ns e.val)

theorem Seg.chk1 {sg : ℕ → ℕ} {lo go pc : BitVec 32} {a n : ℕ} (h : Seg sg lo go pc a n) (i : grid0.Coords) : k0_chk1 i lo go pc := by
  obtain ⟨g, hg, hgb, -⟩ := h.rows
  exact chk1_of i lo go pc n a g h.cnt h.loAt h.fits hg hgb
theorem Seg.chk9 {sg : ℕ → ℕ} {lo go pc : BitVec 32} {a n : ℕ} (h : Seg sg lo go pc a n) (i : grid0.Coords) : k0_chk9 i lo go pc := by
  obtain ⟨g, hg, hgb, -⟩ := h.rows
  exact chk9_of i lo go pc n a g h.cnt h.loAt h.fits hg hgb

/-! ## Loads and stores -/

theorem zero2 : (![0, 0] : Fin 2 → ℕ) = 0 := by funext a; match a with | ⟨0, _⟩ => rfl | ⟨1, _⟩ => rfl
theorem zero3 : (![0, 0, 0] : Fin 3 → ℕ) = 0 := by funext a; match a with | ⟨0, _⟩ => rfl | ⟨1, _⟩ => rfl | ⟨2, _⟩ => rfl

theorem read_store2 {n0 n1 : ℕ} {e : EltTy} (v : View sig .tc .vmem (⟨2, ![n0, n1]⟩ : Shape) e) (f : v.ty.Contents (Elt F)) (h) (w : Vec F (⟨2, ![n0, n1]⟩ : Shape) e) (L) :
    v.read (Elt F) (v.writes (Elt F) f ((⟨Rect.unit (s := (⟨2, ![n0, n1]⟩ : Shape)) ![0, 0] ![n0, n1] h, w⟩ : View.Piece (Elt F) (⟨2, ![n0, n1]⟩ : Shape) e) :: L)) = w := by
  funext y
  exact View.read_writes_cons_unit_of_mem v f h w L y y zero2 (fun a => (Nat.zero_add _).symm)

theorem readAt_whole2 {n0 n1 : ℕ} {e : EltTy} (v : View sig .tc .vmem (⟨2, ![n0, n1]⟩ : Shape) e) (f : v.ty.Contents (Elt F)) (h) :
    v.readAt (Elt F) (Rect.unit (s := (⟨2, ![n0, n1]⟩ : Shape)) ![0, 0] ![n0, n1] h).toLoadRect f = v.read (Elt F) f := View.readAt_full v f h

/-- A slot's rows as the body loads them. -/
abbrev slotVec (g : S2x1152x1024.Idx → Elt F .bf16) (s : ℕ) (hs : s < 2) : Vec F S1x1152x1024 .bf16 := fun k => g (ix3 (⟨s, hs⟩ : Fin 2) (k 1) (k 2))

/-- The slot's load. -/
theorem wp_slot {α : Type} {Q : α → sProp 𝕄} (c : Dev nD) (𝒱₀ : Variants) (defs : Defs nD τ sig (Elt F) Λ₀) {bd : Option 𝒱₀.V} {s : ℕ} (hs : s < 2) {off : Fin 3 → ℕ} (e : off = ![s, 0, 0])
    (h : ∀ a, off a + S1x1152x1024.size a ≤ S2x1152x1024.size a) (hl : slotsM.view.LoadsAt (Rect.unit (s := S2x1152x1024) off S1x1152x1024.size h).toLoadRect)
    (g : S2x1152x1024.Idx → Elt F .bf16) (kk : Vec F S1x1152x1024 .bf16 → Prog (TpuEff nD τ sig (Elt F) Λ₀ .tc) α) :
    (slotAt c (slot s) g : sProp 𝕄)
      ⊢ iprop((slotAt c (slot s) g -∗ wp frame (wpE defs 𝒱₀ (c : Thread nD τ) bd) Set.univ (kk (slotVec g s hs)) Q)
        -∗ wp frame (wpE defs 𝒱₀ (c : Thread nD τ) bd) Set.univ (.op (.load slotsM (Rect.unit (s := S2x1152x1024) off S1x1152x1024.size h).toLoadRect hl) kk) Q) := by
  subst e
  have hr : slotsM.view.readAt (Elt F) (Rect.unit (s := S2x1152x1024) ![s, 0, 0] S1x1152x1024.size h).toLoadRect g = slotVec g s hs := by
    funext k
    refine congrArg g (funext fun a => Fin.ext ?_)
    match a with
    | ⟨0, _⟩ =>
      have h0 : (k 0).val < 1 := (k 0).isLt
      show s + 1 * (k 0).val = s; omega
    | ⟨1, _⟩ => show 0 + 1 * (k 1).val = (k 1).val; omega
    | ⟨2, _⟩ => show 0 + 1 * (k 2).val = (k 2).val; omega
  rw [← hr]
  refine wp_load (m := slotsM) 𝒱₀ (c : Thread nD τ) bd Set.univ ?_
  intro z hz
  obtain ⟨z', hz', rfl⟩ := Finset.mem_map.mp hz
  rw [mem_slot]
  have := (Rect.mem_set_unit (s := S2x1152x1024) (off := ![s, 0, 0]) (size := S1x1152x1024.size) (inb := h)).mp hz' 0
  obtain ⟨u, v⟩ := this
  have u' : s ≤ (z' 0).val := u
  have v' : (z' 0).val < s + 1 := v
  show (z' 0).val = s
  omega

/-- The block's result. -/
def combined (x : Vec F S512x1024 .f32) (r : Vec F S8x512 .f32) (w : Vec F S1x1024 .f32) (g : Vec F S1x1152x1024 .bf16) : Vec F S512x1024 .f32 :=
  k0_pay1 (k0_pay3 r) (k0_pay5 r) (k0_pay6 r) (k0_pay7 g) (k0_pay8 r) (constant S512x1024 .f32 0x00000000#32) x w

theorem thisSlot_lt (i : grid0.Coords) : thisSlot i < 2 := by rw [thisSlot_eq]; omega

/-- The words of the eight counts of the block `i`, as the body's drain loads them. -/
theorem drain_ok {f : S32x24.Idx → BitVec 32} {i : grid0.Coords} {sg cut ns : ℕ → ℕ} (hB : Blk f (i 0) sg cut ns) :
    qsum (wordAt F f (k0_off153 i) (k0_off153_inb i)) (wordAt F f (k0_off154 i) (k0_off154_inb i)) (wordAt F f (k0_off155 i) (k0_off155_inb i)) (wordAt F f (k0_off156 i) (k0_off156_inb i))
      (wordAt F f (k0_off157 i) (k0_off157_inb i)) (wordAt F f (k0_off158 i) (k0_off158_inb i)) (wordAt F f (k0_off159 i) (k0_off159_inb i)) (wordAt F f (k0_off160 i) (k0_off160_inb i)) = BitVec.ofNat 32 (cut 8) ∧ cut 8 ≤ 72 := by
  constructor
  · rw [wordAt_eq f (r := i 0) (k := 8) (k0_off153_eq i), wordAt_eq f (r := i 0) (k := 9) (k0_off154_eq i), wordAt_eq f (r := i 0) (k := 10) (k0_off155_eq i), wordAt_eq f (r := i 0) (k := 11) (k0_off156_eq i),
      wordAt_eq f (r := i 0) (k := 12) (k0_off157_eq i), wordAt_eq f (r := i 0) (k := 13) (k0_off158_eq i), wordAt_eq f (r := i 0) (k := 14) (k0_off159_eq i), wordAt_eq f (r := i 0) (k := 15) (k0_off160_eq i)]
    rw [hB.step 7, hB.step 6, hB.step 5, hB.step 4, hB.step 3, hB.step 2, hB.step 1, hB.step 0, hB.zero, Nat.zero_add]
    exact qsum_eq (hB.seg 0).cnt (hB.seg 1).cnt (hB.seg 2).cnt (hB.seg 3).cnt (hB.seg 4).cnt (hB.seg 5).cnt (hB.seg 6).cnt (hB.seg 7).cnt
  · rw [hB.step 7]; exact (hB.seg 7).fits

theorem chk17_of {a b c d e f g h : BitVec 32} {n : ℕ} (hn : n ≤ 72) (hq : qsum a b c d e f g h = BitVec.ofNat 32 n) : k0_chk17 a b c d e f g h := by
  have h := drain_word ⟨n, by omega⟩
  refine ⟨?_, ?_⟩
  · rw [t33_loop_eq, hq]; exact h.1.2
  · rw [t34_loop_eq, hq]; exact h.2.2

theorem t33_loop_trips {a b c d e f g h : BitVec 32} {n : ℕ} (hn : n ≤ 72) (hq : qsum a b c d e f g h = BitVec.ofNat 32 n) :
    (k0_t33_loop a b c d e f g h).trips = n ∧ (k0_t34_loop a b c d e f g h).trips = 0 := by
  have h := drain_word ⟨n, by omega⟩
  exact ⟨by rw [t33_loop_eq, hq]; exact h.1.1, by rw [t34_loop_eq, hq]; exact h.2.1⟩

/-! ## One expert's transfers -/

/-- Into the next block's slot. -/
theorem wp_segB {α : Type} {Q : α → sProp 𝕄} (c : Dev nD) (i : grid0.Coords) {n : ℕ} {sg : ℕ → ℕ} {q : PosShare TreeShare} {y : S44032x1024.Idx → Elt F .bf16} {old new : S2x1152x1024.Idx → Elt F .bf16}
    (hb : Brings (nextSlot i) n sg y new) {lo go pc : BitVec 32} {a m a' : ℕ} (hS : Seg sg lo go pc a m) (ha' : a' = a + m) (ham : a' ≤ n) (hok : (k0_t17_loop pc).OK)
    (body : Fin (k0_t17_loop pc).trips → BitVec 32 → Prog (TpuEff nD τ sig (Elt F) Λ₀ .tc) (BitVec 32))
    (h4 : ∀ k a, k0_off55 go pc k a + S16x1024.size a ≤ S44032x1024.size a) (h7 : ∀ k a, k0_off56 i lo pc k a + S1x16x1024.size a ≤ S2x1152x1024.size a)
    (h8 : ∀ a, k0_off52 i a + S1.size a ≤ S2.size a) (w4 : ∀ k, (srcM (k0_off55 go pc k) (h4 k)).view.WordExact) (w7 : ∀ k, (dstM (k0_off56 i lo pc k) (h7 k)).view.WordExact)
    (hT : ∀ k, (toSlot (k0_off56 i lo pc k) (h7 k)).Typed .hbm (.dma (semM (k0_off52 i) h8)))
    (hbody : ∀ k acc, body k acc = .op (.enqueueDma (srcM (k0_off55 go pc k) (h4 k)) (toSlot (k0_off56 i lo pc k) (h7 k)) (.dma (semM (k0_off52 i) h8)) (w4 k) (w7 k) (hT k)) (fun _ => .ret 0#32))
    (kk : BitVec 32 → Prog (TpuEff nD τ sig (Elt F) Λ₀ .tc) α) :
    issued c (nextSlot i) n sg q y old new a
      ⊢ iprop((∀ r, issued c (nextSlot i) n sg q y old new a' -∗ wp frame (wpE (defs₀ (F := F)) Variants.none (c : Thread nD τ) none) Set.univ (kk r) Q)
        -∗ wp frame (wpE (defs₀ (F := F)) Variants.none (c : Thread nD τ) none) Set.univ (Scf.Loop.for (k0_t17_loop pc) hok 0#32 body >>= kk) Q) := by
  subst ha'
  obtain ⟨g, hg, hgb, hsg⟩ := hS.rows
  have tr : (k0_t17_loop pc).trips = m := hS.cnt.trips
  refine wp_issues c Variants.none (defs₀ (F := F)) hb _ hok tr ham body (fun k => ?_) (fun k => off56_eq i lo pc m a hS.cnt hS.loAt hS.fits k) (off52_eq i) h4 h7 h8 w4 w7 hT hbody kk
  rw [off55_eq go pc m g hS.cnt hg hgb k, hsg k.val (lt_of_lt_of_eq k.isLt tr)]

/-- Into the first block's slot. -/
theorem wp_segA {α : Type} {Q : α → sProp 𝕄} (c : Dev nD) {n : ℕ} {sg : ℕ → ℕ} {q : PosShare TreeShare} {y : S44032x1024.Idx → Elt F .bf16} {old new : S2x1152x1024.Idx → Elt F .bf16}
    (hb : Brings 0 n sg y new) {lo go pc : BitVec 32} {a m a' : ℕ} (hS : Seg sg lo go pc a m) (ha' : a' = a + m) (ham : a' ≤ n) (hok : (k0_t1_loop pc).OK)
    (body : Fin (k0_t1_loop pc).trips → BitVec 32 → Prog (TpuEff nD τ sig (Elt F) Λ₀ .tc) (BitVec 32))
    (h4 : ∀ k a, k0_off2 go pc k a + S16x1024.size a ≤ S44032x1024.size a) (h7 : ∀ k a, k0_off3 lo pc k a + S1x16x1024.size a ≤ S2x1152x1024.size a)
    (h8 : ∀ a, (![0] : Fin 1 → ℕ) a + S1.size a ≤ S2.size a) (w4 : ∀ k, (srcM (k0_off2 go pc k) (h4 k)).view.WordExact) (w7 : ∀ k, (dstM (k0_off3 lo pc k) (h7 k)).view.WordExact)
    (hT : ∀ k, (toSlot (k0_off3 lo pc k) (h7 k)).Typed .hbm (.dma (semM ![0] h8)))
    (hbody : ∀ k acc, body k acc = .op (.enqueueDma (srcM (k0_off2 go pc k) (h4 k)) (toSlot (k0_off3 lo pc k) (h7 k)) (.dma (semM ![0] h8)) (w4 k) (w7 k) (hT k)) (fun _ => .ret 0#32))
    (kk : BitVec 32 → Prog (TpuEff nD τ sig (Elt F) Λ₀ .tc) α) :
    issued c 0 n sg q y old new a
      ⊢ iprop((∀ r, issued c 0 n sg q y old new a' -∗ wp frame (wpE (defs₀ (F := F)) Variants.none (c : Thread nD τ) none) Set.univ (kk r) Q)
        -∗ wp frame (wpE (defs₀ (F := F)) Variants.none (c : Thread nD τ) none) Set.univ (Scf.Loop.for (k0_t1_loop pc) hok 0#32 body >>= kk) Q) := by
  subst ha'
  obtain ⟨g, hg, hgb, hsg⟩ := hS.rows
  have tr : (k0_t1_loop pc).trips = m := hS.cnt.trips
  refine wp_issues c Variants.none (defs₀ (F := F)) hb _ hok tr ham body (fun k => ?_) (fun k => off3_eq lo pc m a hS.cnt hS.loAt hS.fits k) rfl h4 h7 h8 w4 w7 hT hbody kk
  rw [off2_eq go pc m g hS.cnt hg hgb k, hsg k.val (lt_of_lt_of_eq k.isLt tr)]

/-- A slot at rest, opened for a block's transfers. -/
theorem idle_start (c : Dev nD) {s n : ℕ} {sg : ℕ → ℕ} {q : PosShare TreeShare} {y : S44032x1024.Idx → Elt F .bf16} {old new : S2x1152x1024.Idx → Elt F .bf16} {a s' : ℕ} (hs : s' = s) (ha : a = 0) :
    idle c s' q y old ⊢ (|={Set.univ}=> iprop(issued c s n sg q y old new a ∗ kept c s n q y old) : sProp 𝕄) := by
  subst ha; subst hs; exact idle_open c

/-- A slot whose transfers are all issued. -/
theorem busy_open (c : Dev nD) {s n : ℕ} {sg : ℕ → ℕ} {q : PosShare TreeShare} {y : S44032x1024.Idx → Elt F .bf16} {old new : S2x1152x1024.Idx → Elt F .bf16} :
    busy c s n sg q y old new ⊢ (iprop(batch c s n sg q y new n 0 ∗ bigSep (Ring.rangeSet n 0 n) (post c n sg q y) ∗ kept c s n q y old) : sProp 𝕄) := by
  unfold busy issued
  iintro ⟨⟨HB, HE, HP⟩, HK⟩
  isplitl [HB]; · iexact HB
  isplitl [HP]; · iexact HP
  iexact HK

/-- The first block's transfers, once all are issued. -/
theorem busy_first (c : Dev nD) {s s' n a : ℕ} (hs : s' = s) (ha : a = n) {sg : ℕ → ℕ} {q : PosShare TreeShare} {y : S44032x1024.Idx → Elt F .bf16} {old new : S2x1152x1024.Idx → Elt F .bf16} :
    (iprop(issued c s' n sg q y old new a ∗ kept c s' n q y old) : sProp 𝕄) ⊢ (iprop(batch c s n sg q y new n 0 ∗ bigSep (Ring.rangeSet n 0 n) (post c n sg q y) ∗ kept c s n q y old) : sProp 𝕄) := by
  subst ha; subst hs; exact busy_open c

theorem idle_parts (c : Dev nD) {s : ℕ} {q : PosShare TreeShare} {y : S44032x1024.Idx → Elt F .bf16} {old : S2x1152x1024.Idx → Elt F .bf16} :
    idle c s q y old ⊣⊢ (iprop(slotAt c (slot s) old ∗ rowsAt c Finset.univ q y ∗ semVal ((c : Thread nD τ), SemLoc.dma (slotSem s)) 0) : sProp 𝕄) := .rfl

/-- What the slots hold before the first transfer. -/
def zeros : S2x1152x1024.Idx → Elt F .bf16 := k0_pay2

theorem slots_store (c : Dev nD) (f w w' : S2x1152x1024.Idx → Elt F .bf16) (hw : w = w') (h) (L) :
    (slotsM.view.loc (c : Thread nD τ) ↦{fullShare} slotsM.view.writes (Elt F) f ((⟨Rect.unit (s := S2x1152x1024) ![0, 0, 0] S2x1152x1024.size h, w⟩ : View.Piece (Elt F) S2x1152x1024 .bf16) :: L) : sProp 𝕄)
      ⊢ slotAt c Finset.univ w' := by
  subst hw
  have key : ∀ G : S2x1152x1024.Idx → Elt F .bf16, View.read (Elt F) slotsM.view G = w → G = w := fun G e => e
  have e : slotsM.view.writes (Elt F) f ((⟨Rect.unit (s := S2x1152x1024) ![0, 0, 0] S2x1152x1024.size h, w⟩ : View.Piece (Elt F) S2x1152x1024 .bf16) :: L) = w :=
    key _ (funext fun y => View.read_writes_cons_unit_of_mem slotsM.view f h w L y y zero3 (fun a => (Nat.zero_add _).symm))
  rw [e]

/-- The slots, filled with zeros, one by one. -/
theorem slots_split (c : Dev nD) (g : S2x1152x1024.Idx → Elt F .bf16) :
    (slotAt c Finset.univ g : sProp 𝕄) ⊣⊢ iprop(slotAt c (slot 0) g ∗ slotAt c (slot 1) g) := by
  have hd : Disjoint (slot 0) (slot 1) := by
    rw [Finset.disjoint_left]; intro z h0 h1
    rw [mem_slot] at h0 h1; omega
  have hu : (Finset.univ : Finset S2x1152x1024.Idx) = slot 0 ∪ slot 1 := by
    ext z
    have hz : (z 0).val < 2 := (z 0).isLt
    simp only [Finset.mem_univ, Finset.mem_union, mem_slot, true_iff]
    omega
  rw [hu]
  exact pointsTo_union hd

theorem Blk.cut_le {f : S32x24.Idx → BitVec 32} {r : Fin 32} {sg cut ns : ℕ → ℕ} (hB : Blk f r sg cut ns) (e : Fin 8) : cut (e.val + 1) ≤ cut 8 := by
  have h1 : cut 2 = cut 1 + ns 1 := hB.step 1
  have h2 : cut 3 = cut 2 + ns 2 := hB.step 2
  have h3 : cut 4 = cut 3 + ns 3 := hB.step 3
  have h4 : cut 5 = cut 4 + ns 4 := hB.step 4
  have h5 : cut 6 = cut 5 + ns 5 := hB.step 5
  have h6 : cut 7 = cut 6 + ns 6 := hB.step 6
  have h7 : cut 8 = cut 7 + ns 7 := hB.step 7
  match e with
  | ⟨0, _⟩ => show cut 1 ≤ cut 8; omega
  | ⟨1, _⟩ => show cut 2 ≤ cut 8; omega
  | ⟨2, _⟩ => show cut 3 ≤ cut 8; omega
  | ⟨3, _⟩ => show cut 4 ≤ cut 8; omega
  | ⟨4, _⟩ => show cut 5 ≤ cut 8; omega
  | ⟨5, _⟩ => show cut 6 ≤ cut 8; omega
  | ⟨6, _⟩ => show cut 7 ≤ cut 8; omega
  | ⟨7, _⟩ => show cut 8 ≤ cut 8; omega

set_option maxHeartbeats 1000000 in
/-- The last block: the transfers into its slot are waited for, and the block is combined. -/
theorem run_last (c : Dev nD) (i : grid0.Coords) (arg2 : Memref sig .tc .vmem S512x1024 .f32) (harg2 : arg2.IsWhole) (arg3 : Memref sig .tc .vmem S8x512 .f32) (harg3 : arg3.IsWhole) (arg5 : Memref sig .tc .vmem S1x1024 .f32) (harg5 : arg5.IsWhole) (arg6 : Memref sig .tc .vmem S512x1024 .f32) (harg6 : arg6.IsWhole)
    (x : Vec F S512x1024 .f32) (r : Vec F S8x512 .f32) (w : Vec F S1x1024 .f32) (o : Vec F S512x1024 .f32) (f : S32x24.Idx → BitVec 32)
    {sg cut ns : ℕ → ℕ} (hB : Blk f (i 0) sg cut ns) {q : PosShare TreeShare} {y : S44032x1024.Idx → Elt F .bf16} {old new : S2x1152x1024.Idx → Elt F .bf16}
    (hn : ∀ z ∈ slotFrom (thisSlot i) (cut 8), old z = new z) {W : Waits sig Unit}
    (h1 : ¬ k0_cond1 i = 1#1) (h2 : ¬ k0_cond2 i = 1#1) (K : PUnit → sProp 𝕄) :
    iprop(owns (c : Thread nD τ) arg2 fullShare x ∗ owns (c : Thread nD τ) arg3 fullShare r ∗ owns (c : Thread nD τ) arg5 fullShare w ∗ owns (c : Thread nD τ) arg6 fullShare o ∗ tabHalf c f ∗ busy c (thisSlot i) (cut 8) sg q y old new ∗ owes (c : Thread nD τ) 0 W
        ∗ (iprop(owns (c : Thread nD τ) arg2 fullShare x ∗ owns (c : Thread nD τ) arg3 fullShare r ∗ owns (c : Thread nD τ) arg5 fullShare w ∗ owns (c : Thread nD τ) arg6 fullShare (combined x r w (slotVec new (thisSlot i) (thisSlot_lt i))) ∗ tabHalf c f ∗ idle c (thisSlot i) q y new ∗ ∃ W, owes (c : Thread nD τ) 0 W) -∗ K ⟨⟩))
      ⊢ wp frame (wpE (defs₀ (F := F)) Variants.none c none) Set.univ (cc0_moe_combine i tabM tabM_whole arg2 harg2 arg3 harg3 rowsM rowsM_whole arg5 harg5 arg6 harg6 slotsM slotsM_whole cc0_scratch1) K := by
  simp only [cc0_moe_combine_eq_skeleton]; unfold cc0_moe_combine_skel
  obtain ⟨hq, hq72⟩ := drain_ok (F := F) hB
  have h17 := chk17_of hq72 hq
  have hm33 := (t33_loop_trips hq72 hq).1
  have hm34 := (t33_loop_trips hq72 hq).2
  unfold owns busy issued
  iintro ⟨⟨%f0, %hf0, H0⟩, ⟨%f1, %hf1, H1⟩, ⟨%f2, %hf2, H2⟩, ⟨%f3, %hf3, H3⟩, HT, ⟨⟨HB, HE, HP⟩, HK⟩, HO, Hk⟩
  obtain rfl := harg2.eq_unread hf0; obtain rfl := harg3.eq_unread hf1; obtain rfl := harg5.eq_unread hf2; obtain rfl := harg6.eq_unread hf3
  sl_exec (disch := first | sl_exact h1 | sl_exact h2 | sl_exact h17)
  iapply (wp_awaits (s := thisSlot i) (n := cut 8) (sg := sg) (q := q) (y := y) (new := new) c Variants.none (defs₀ (F := F)) _ _ hm33 _ (off161_eq i) inb_S44032x1024_S16x1024_0_0 (k0_off163_inb i) (k0_off161_inb i) _ _ (fun _ _ => rfl) _) $$ [HB HO]
  · isplitl [HB]; · iexact HB
    iexact HO
  iintro %r33 ⟨HD, HS, %W', HO⟩
  iapply (wp_none c Variants.none (defs₀ (F := F)) _ _ hm34)
  ihave HI := (idle_close c hn) $$ [HD HS HP HK]
  · isplitl [HD]; · iexact HD
    isplitl [HS]; · iexact HS
    isplitl [HP]; · iexact HP
    iexact HK
  unfold idle
  icases HI with ⟨HSl, HR, HSm⟩
  sl_exec
  iapply (wp_slot c Variants.none (defs₀ (F := F)) (thisSlot_lt i) (off167_eq i)) $$ HSl
  iintro HSl
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg5.read_unread _
    iexact H2
  isplitl [H3]
  · iexists _; isplitr
    swap; · iexact H3
    ipureintro; sl_unfold_words; simp only [S512x1024, S8x512, S1x1024, read_store2, readAt_whole2, View.writes_nil, harg2.read_unread, harg3.read_unread, harg5.read_unread, harg6.read_unread]; rfl
  isplitl [HT]; · iexact HT
  isplitl [HSl HR HSm]
  · isplitl [HSl]; · iexact HSl
    isplitl [HR]; · iexact HR
    iexact HSm
  iexists _; iexact HO

set_option maxHeartbeats 4000000 in
/-- A middle block: the next block's transfers are issued into the other slot; then as at the last block. -/
theorem run_mid (c : Dev nD) (i : grid0.Coords) (arg2 : Memref sig .tc .vmem S512x1024 .f32) (harg2 : arg2.IsWhole) (arg3 : Memref sig .tc .vmem S8x512 .f32) (harg3 : arg3.IsWhole) (arg5 : Memref sig .tc .vmem S1x1024 .f32) (harg5 : arg5.IsWhole) (arg6 : Memref sig .tc .vmem S512x1024 .f32) (harg6 : arg6.IsWhole)
    (x : Vec F S512x1024 .f32) (r : Vec F S8x512 .f32) (w : Vec F S1x1024 .f32) (o : Vec F S512x1024 .f32) (f : S32x24.Idx → BitVec 32)
    {sg cut ns : ℕ → ℕ} (hB : Blk f (i 0) sg cut ns) {q : PosShare TreeShare} {y : S44032x1024.Idx → Elt F .bf16} {old new : S2x1152x1024.Idx → Elt F .bf16}
    (hn : ∀ z ∈ slotFrom (thisSlot i) (cut 8), old z = new z)
    {r' : Fin 32} (hr : min ((i 0).val + 1) 31 = r'.val) {sg' cut' ns' : ℕ → ℕ} (hB' : Blk f r' sg' cut' ns') {q' : PosShare TreeShare} {old' new' : S2x1152x1024.Idx → Elt F .bf16}
    (hb' : Brings (nextSlot i) (cut' 8) sg' y new') {W : Waits sig Unit}
    (h1 : ¬ k0_cond1 i = 1#1) (h2 : k0_cond2 i = 1#1) (K : PUnit → sProp 𝕄) :
    iprop(owns (c : Thread nD τ) arg2 fullShare x ∗ owns (c : Thread nD τ) arg3 fullShare r ∗ owns (c : Thread nD τ) arg5 fullShare w ∗ owns (c : Thread nD τ) arg6 fullShare o ∗ tabHalf c f ∗ busy c (thisSlot i) (cut 8) sg q y old new ∗ idle c (nextSlot i) q' y old' ∗ owes (c : Thread nD τ) 0 W
        ∗ (iprop(owns (c : Thread nD τ) arg2 fullShare x ∗ owns (c : Thread nD τ) arg3 fullShare r ∗ owns (c : Thread nD τ) arg5 fullShare w ∗ owns (c : Thread nD τ) arg6 fullShare (combined x r w (slotVec new (thisSlot i) (thisSlot_lt i))) ∗ tabHalf c f ∗ idle c (thisSlot i) q y new ∗ busy c (nextSlot i) (cut' 8) sg' q' y old' new' ∗ ∃ W, owes (c : Thread nD τ) 0 W) -∗ K ⟨⟩))
      ⊢ wp frame (wpE (defs₀ (F := F)) Variants.none c none) Set.univ (cc0_moe_combine i tabM tabM_whole arg2 harg2 arg3 harg3 rowsM rowsM_whole arg5 harg5 arg6 harg6 slotsM slotsM_whole cc0_scratch1) K := by
  simp only [cc0_moe_combine_eq_skeleton]; unfold cc0_moe_combine_skel
  obtain ⟨hq, hq72⟩ := drain_ok (F := F) hB
  have h17 := chk17_of hq72 hq
  have hm33 := (t33_loop_trips hq72 hq).1
  have hm34 := (t33_loop_trips hq72 hq).2
  have s0 : Seg sg' (wordAt F f (k0_off49 i) (k0_off49_inb i h2)) (wordAt F f (k0_off50 i) (k0_off50_inb i h2)) (wordAt F f (k0_off51 i) (k0_off51_inb i h2)) (cut' 0) (ns' 0) := by
    rw [wordAt_eq f (r := r') (k := 0) ((k0_off49_eq i).trans (by rw [hr]; rfl)), wordAt_eq f (r := r') (k := 16) ((k0_off50_eq i).trans (by rw [hr]; rfl)), wordAt_eq f (r := r') (k := 8) ((k0_off51_eq i).trans (by rw [hr]; rfl))]
    exact hB'.seg 0
  have s1 : Seg sg' (wordAt F f (k0_off62 i) (k0_off62_inb i h2)) (wordAt F f (k0_off63 i) (k0_off63_inb i h2)) (wordAt F f (k0_off64 i) (k0_off64_inb i h2)) (cut' 1) (ns' 1) := by
    rw [wordAt_eq f (r := r') (k := 1) ((k0_off62_eq i).trans (by rw [hr]; rfl)), wordAt_eq f (r := r') (k := 17) ((k0_off63_eq i).trans (by rw [hr]; rfl)), wordAt_eq f (r := r') (k := 9) ((k0_off64_eq i).trans (by rw [hr]; rfl))]
    exact hB'.seg 1
  have s2 : Seg sg' (wordAt F f (k0_off75 i) (k0_off75_inb i h2)) (wordAt F f (k0_off76 i) (k0_off76_inb i h2)) (wordAt F f (k0_off77 i) (k0_off77_inb i h2)) (cut' 2) (ns' 2) := by
    rw [wordAt_eq f (r := r') (k := 2) ((k0_off75_eq i).trans (by rw [hr]; rfl)), wordAt_eq f (r := r') (k := 18) ((k0_off76_eq i).trans (by rw [hr]; rfl)), wordAt_eq f (r := r') (k := 10) ((k0_off77_eq i).trans (by rw [hr]; rfl))]
    exact hB'.seg 2
  have s3 : Seg sg' (wordAt F f (k0_off88 i) (k0_off88_inb i h2)) (wordAt F f (k0_off89 i) (k0_off89_inb i h2)) (wordAt F f (k0_off90 i) (k0_off90_inb i h2)) (cut' 3) (ns' 3) := by
    rw [wordAt_eq f (r := r') (k := 3) ((k0_off88_eq i).trans (by rw [hr]; rfl)), wordAt_eq f (r := r') (k := 19) ((k0_off89_eq i).trans (by rw [hr]; rfl)), wordAt_eq f (r := r') (k := 11) ((k0_off90_eq i).trans (by rw [hr]; rfl))]
    exact hB'.seg 3
  have s4 : Seg sg' (wordAt F f (k0_off101 i) (k0_off101_inb i h2)) (wordAt F f (k0_off102 i) (k0_off102_inb i h2)) (wordAt F f (k0_off103 i) (k0_off103_inb i h2)) (cut' 4) (ns' 4) := by
    rw [wordAt_eq f (r := r') (k := 4) ((k0_off101_eq i).trans (by rw [hr]; rfl)), wordAt_eq f (r := r') (k := 20) ((k0_off102_eq i).trans (by rw [hr]; rfl)), wordAt_eq f (r := r') (k := 12) ((k0_off103_eq i).trans (by rw [hr]; rfl))]
    exact hB'.seg 4
  have s5 : Seg sg' (wordAt F f (k0_off114 i) (k0_off114_inb i h2)) (wordAt F f (k0_off115 i) (k0_off115_inb i h2)) (wordAt F f (k0_off116 i) (k0_off116_inb i h2)) (cut' 5) (ns' 5) := by
    rw [wordAt_eq f (r := r') (k := 5) ((k0_off114_eq i).trans (by rw [hr]; rfl)), wordAt_eq f (r := r') (k := 21) ((k0_off115_eq i).trans (by rw [hr]; rfl)), wordAt_eq f (r := r') (k := 13) ((k0_off116_eq i).trans (by rw [hr]; rfl))]
    exact hB'.seg 5
  have s6 : Seg sg' (wordAt F f (k0_off127 i) (k0_off127_inb i h2)) (wordAt F f (k0_off128 i) (k0_off128_inb i h2)) (wordAt F f (k0_off129 i) (k0_off129_inb i h2)) (cut' 6) (ns' 6) := by
    rw [wordAt_eq f (r := r') (k := 6) ((k0_off127_eq i).trans (by rw [hr]; rfl)), wordAt_eq f (r := r') (k := 22) ((k0_off128_eq i).trans (by rw [hr]; rfl)), wordAt_eq f (r := r') (k := 14) ((k0_off129_eq i).trans (by rw [hr]; rfl))]
    exact hB'.seg 6
  have s7 : Seg sg' (wordAt F f (k0_off140 i) (k0_off140_inb i h2)) (wordAt F f (k0_off141 i) (k0_off141_inb i h2)) (wordAt F f (k0_off142 i) (k0_off142_inb i h2)) (cut' 7) (ns' 7) := by
    rw [wordAt_eq f (r := r') (k := 7) ((k0_off140_eq i).trans (by rw [hr]; rfl)), wordAt_eq f (r := r') (k := 23) ((k0_off141_eq i).trans (by rw [hr]; rfl)), wordAt_eq f (r := r') (k := 15) ((k0_off142_eq i).trans (by rw [hr]; rfl))]
    exact hB'.seg 7
  have b0 : k0_chk9 i (wordAt F f (k0_off49 i) (k0_off49_inb i h2)) (wordAt F f (k0_off50 i) (k0_off50_inb i h2)) (wordAt F f (k0_off51 i) (k0_off51_inb i h2)) := s0.chk9 i
  have b1 : k0_chk10 i (wordAt F f (k0_off62 i) (k0_off62_inb i h2)) (wordAt F f (k0_off63 i) (k0_off63_inb i h2)) (wordAt F f (k0_off64 i) (k0_off64_inb i h2)) := s1.chk9 i
  have b2 : k0_chk11 i (wordAt F f (k0_off75 i) (k0_off75_inb i h2)) (wordAt F f (k0_off76 i) (k0_off76_inb i h2)) (wordAt F f (k0_off77 i) (k0_off77_inb i h2)) := s2.chk9 i
  have b3 : k0_chk12 i (wordAt F f (k0_off88 i) (k0_off88_inb i h2)) (wordAt F f (k0_off89 i) (k0_off89_inb i h2)) (wordAt F f (k0_off90 i) (k0_off90_inb i h2)) := s3.chk9 i
  have b4 : k0_chk13 i (wordAt F f (k0_off101 i) (k0_off101_inb i h2)) (wordAt F f (k0_off102 i) (k0_off102_inb i h2)) (wordAt F f (k0_off103 i) (k0_off103_inb i h2)) := s4.chk9 i
  have b5 : k0_chk14 i (wordAt F f (k0_off114 i) (k0_off114_inb i h2)) (wordAt F f (k0_off115 i) (k0_off115_inb i h2)) (wordAt F f (k0_off116 i) (k0_off116_inb i h2)) := s5.chk9 i
  have b6 : k0_chk15 i (wordAt F f (k0_off127 i) (k0_off127_inb i h2)) (wordAt F f (k0_off128 i) (k0_off128_inb i h2)) (wordAt F f (k0_off129 i) (k0_off129_inb i h2)) := s6.chk9 i
  have b7 : k0_chk16 i (wordAt F f (k0_off140 i) (k0_off140_inb i h2)) (wordAt F f (k0_off141 i) (k0_off141_inb i h2)) (wordAt F f (k0_off142 i) (k0_off142_inb i h2)) := s7.chk9 i
  iintro ⟨H0, H1, H2, H3, HT, HBu, HN, HO, Hk⟩
  imod (idle_start c (n := cut' 8) (sg := sg') (new := new') rfl hB'.zero) $$ HN with ⟨HI, HKn⟩
  unfold owns
  ihave HBu := (busy_open c (n := cut 8)) $$ HBu
  icases H0 with ⟨%f0, %hf0, H0⟩
  icases H1 with ⟨%f1, %hf1, H1⟩
  icases H2 with ⟨%f2, %hf2, H2⟩
  icases H3 with ⟨%f3, %hf3, H3⟩
  icases HBu with ⟨HB, HP, HK⟩
  obtain rfl := harg2.eq_unread hf0; obtain rfl := harg3.eq_unread hf1; obtain rfl := harg5.eq_unread hf2; obtain rfl := harg6.eq_unread hf3
  sl_exec (disch := first | sl_exact h1 | sl_exact h2 | sl_exact h17 | sl_exact b0 | sl_exact b1 | sl_exact b2 | sl_exact b3 | sl_exact b4 | sl_exact b5 | sl_exact b6 | sl_exact b7)
  iapply (wp_segB c i hb' s0 (hB'.step 0) (hB'.cut_le 0) _ _ _ _ _ _ _ _ (fun _ _ => rfl) _) $$ HI
  iintro %r0 HI
  iapply (wp_none c Variants.none (defs₀ (F := F)) _ _ s0.cnt.rem)
  sl_exec (disch := first | sl_exact h1 | sl_exact h2 | sl_exact h17 | sl_exact b0 | sl_exact b1 | sl_exact b2 | sl_exact b3 | sl_exact b4 | sl_exact b5 | sl_exact b6 | sl_exact b7)
  iapply (wp_segB c i hb' s1 (hB'.step 1) (hB'.cut_le 1) _ _ _ _ _ _ _ _ (fun _ _ => rfl) _) $$ HI
  iintro %r1 HI
  iapply (wp_none c Variants.none (defs₀ (F := F)) _ _ s1.cnt.rem)
  sl_exec (disch := first | sl_exact h1 | sl_exact h2 | sl_exact h17 | sl_exact b0 | sl_exact b1 | sl_exact b2 | sl_exact b3 | sl_exact b4 | sl_exact b5 | sl_exact b6 | sl_exact b7)
  iapply (wp_segB c i hb' s2 (hB'.step 2) (hB'.cut_le 2) _ _ _ _ _ _ _ _ (fun _ _ => rfl) _) $$ HI
  iintro %r2 HI
  iapply (wp_none c Variants.none (defs₀ (F := F)) _ _ s2.cnt.rem)
  sl_exec (disch := first | sl_exact h1 | sl_exact h2 | sl_exact h17 | sl_exact b0 | sl_exact b1 | sl_exact b2 | sl_exact b3 | sl_exact b4 | sl_exact b5 | sl_exact b6 | sl_exact b7)
  iapply (wp_segB c i hb' s3 (hB'.step 3) (hB'.cut_le 3) _ _ _ _ _ _ _ _ (fun _ _ => rfl) _) $$ HI
  iintro %r3 HI
  iapply (wp_none c Variants.none (defs₀ (F := F)) _ _ s3.cnt.rem)
  sl_exec (disch := first | sl_exact h1 | sl_exact h2 | sl_exact h17 | sl_exact b0 | sl_exact b1 | sl_exact b2 | sl_exact b3 | sl_exact b4 | sl_exact b5 | sl_exact b6 | sl_exact b7)
  iapply (wp_segB c i hb' s4 (hB'.step 4) (hB'.cut_le 4) _ _ _ _ _ _ _ _ (fun _ _ => rfl) _) $$ HI
  iintro %r4 HI
  iapply (wp_none c Variants.none (defs₀ (F := F)) _ _ s4.cnt.rem)
  sl_exec (disch := first | sl_exact h1 | sl_exact h2 | sl_exact h17 | sl_exact b0 | sl_exact b1 | sl_exact b2 | sl_exact b3 | sl_exact b4 | sl_exact b5 | sl_exact b6 | sl_exact b7)
  iapply (wp_segB c i hb' s5 (hB'.step 5) (hB'.cut_le 5) _ _ _ _ _ _ _ _ (fun _ _ => rfl) _) $$ HI
  iintro %r5 HI
  iapply (wp_none c Variants.none (defs₀ (F := F)) _ _ s5.cnt.rem)
  sl_exec (disch := first | sl_exact h1 | sl_exact h2 | sl_exact h17 | sl_exact b0 | sl_exact b1 | sl_exact b2 | sl_exact b3 | sl_exact b4 | sl_exact b5 | sl_exact b6 | sl_exact b7)
  iapply (wp_segB c i hb' s6 (hB'.step 6) (hB'.cut_le 6) _ _ _ _ _ _ _ _ (fun _ _ => rfl) _) $$ HI
  iintro %r6 HI
  iapply (wp_none c Variants.none (defs₀ (F := F)) _ _ s6.cnt.rem)
  sl_exec (disch := first | sl_exact h1 | sl_exact h2 | sl_exact h17 | sl_exact b0 | sl_exact b1 | sl_exact b2 | sl_exact b3 | sl_exact b4 | sl_exact b5 | sl_exact b6 | sl_exact b7)
  iapply (wp_segB c i hb' s7 (hB'.step 7) (hB'.cut_le 7) _ _ _ _ _ _ _ _ (fun _ _ => rfl) _) $$ HI
  iintro %r7 HI
  iapply (wp_none c Variants.none (defs₀ (F := F)) _ _ s7.cnt.rem)
  sl_exec (disch := first | sl_exact h1 | sl_exact h2 | sl_exact h17)
  iapply (wp_awaits (s := thisSlot i) (n := cut 8) (sg := sg) (q := q) (y := y) (new := new) c Variants.none (defs₀ (F := F)) _ _ hm33 _ (off161_eq i) inb_S44032x1024_S16x1024_0_0 (k0_off163_inb i) (k0_off161_inb i) _ _ (fun _ _ => rfl) _) $$ [HB HO]
  · isplitl [HB]; · iexact HB
    iexact HO
  iintro %r33 ⟨HD, HS, %W', HO⟩
  iapply (wp_none c Variants.none (defs₀ (F := F)) _ _ hm34)
  ihave HI := (idle_close c hn) $$ [HD HS HP HK]
  · isplitl [HD]; · iexact HD
    isplitl [HS]; · iexact HS
    isplitl [HP]; · iexact HP
    iexact HK
  unfold idle
  icases HI with ⟨HSl, HR, HSm⟩
  sl_exec
  iapply (wp_slot c Variants.none (defs₀ (F := F)) (thisSlot_lt i) (off167_eq i)) $$ HSl
  iintro HSl
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg5.read_unread _
    iexact H2
  isplitl [H3]
  · iexists _; isplitr
    swap; · iexact H3
    ipureintro; sl_unfold_words; simp only [S512x1024, S8x512, S1x1024, read_store2, readAt_whole2, View.writes_nil, harg2.read_unread, harg3.read_unread, harg5.read_unread, harg6.read_unread]; rfl
  isplitl [HT]; · iexact HT
  isplitl [HSl HR HSm]
  · isplitl [HSl]; · iexact HSl
    isplitl [HR]; · iexact HR
    iexact HSm
  isplitl [HI HKn]
  · unfold busy; isplitl [HI]; · iexact HI
    iexact HKn
  iexists _; iexact HO

set_option maxHeartbeats 4000000 in
/-- The first block: both slots are filled with zeros and its own transfers are issued; then as at a middle block. -/
theorem run_first (c : Dev nD) (i : grid0.Coords) (arg2 : Memref sig .tc .vmem S512x1024 .f32) (harg2 : arg2.IsWhole) (arg3 : Memref sig .tc .vmem S8x512 .f32) (harg3 : arg3.IsWhole) (arg5 : Memref sig .tc .vmem S1x1024 .f32) (harg5 : arg5.IsWhole) (arg6 : Memref sig .tc .vmem S512x1024 .f32) (harg6 : arg6.IsWhole)
    (x : Vec F S512x1024 .f32) (r : Vec F S8x512 .f32) (w : Vec F S1x1024 .f32) (o : Vec F S512x1024 .f32) (f : S32x24.Idx → BitVec 32)
    {sg cut ns : ℕ → ℕ} (hB : Blk f (i 0) sg cut ns) {q : PosShare TreeShare} {y : S44032x1024.Idx → Elt F .bf16} {new : S2x1152x1024.Idx → Elt F .bf16}
    (hb : Brings 0 (cut 8) sg y new) (hn : ∀ z ∈ slotFrom (thisSlot i) (cut 8), zeros (F := F) z = new z)
    {r' : Fin 32} (hr : min ((i 0).val + 1) 31 = r'.val) {sg' cut' ns' : ℕ → ℕ} (hB' : Blk f r' sg' cut' ns') {q' : PosShare TreeShare} {new' : S2x1152x1024.Idx → Elt F .bf16}
    (hb' : Brings (nextSlot i) (cut' 8) sg' y new') {W : Waits sig Unit}
    (h0 : (i 0).val = 0) (h1 : k0_cond1 i = 1#1) (h2 : k0_cond2 i = 1#1) (z0 : S2x1152x1024.Idx → Elt F .bf16) (K : PUnit → sProp 𝕄) :
    iprop(owns (c : Thread nD τ) arg2 fullShare x ∗ owns (c : Thread nD τ) arg3 fullShare r ∗ owns (c : Thread nD τ) arg5 fullShare w ∗ owns (c : Thread nD τ) arg6 fullShare o ∗ tabHalf c f ∗ idle c 0 q y z0 ∗ idle c 1 q' y z0 ∗ owes (c : Thread nD τ) 0 W
        ∗ (iprop(owns (c : Thread nD τ) arg2 fullShare x ∗ owns (c : Thread nD τ) arg3 fullShare r ∗ owns (c : Thread nD τ) arg5 fullShare w ∗ owns (c : Thread nD τ) arg6 fullShare (combined x r w (slotVec new (thisSlot i) (thisSlot_lt i))) ∗ tabHalf c f ∗ idle c (thisSlot i) q y new ∗ busy c (nextSlot i) (cut' 8) sg' q' y (zeros (F := F)) new' ∗ ∃ W, owes (c : Thread nD τ) 0 W) -∗ K ⟨⟩))
      ⊢ wp frame (wpE (defs₀ (F := F)) Variants.none c none) Set.univ (cc0_moe_combine i tabM tabM_whole arg2 harg2 arg3 harg3 rowsM rowsM_whole arg5 harg5 arg6 harg6 slotsM slotsM_whole cc0_scratch1) K := by
  simp only [cc0_moe_combine_eq_skeleton]; unfold cc0_moe_combine_skel
  have hs : thisSlot i = 0 := by rw [thisSlot_eq, h0]
  have hs' : nextSlot i = 1 := by rw [nextSlot_eq, h0]
  obtain ⟨hq, hq72⟩ := drain_ok (F := F) hB
  have h17 := chk17_of hq72 hq
  have hm33 := (t33_loop_trips hq72 hq).1
  have hm34 := (t33_loop_trips hq72 hq).2
  have t0 : Seg sg (wordAt F f ![0, 0] inb_S32x24_S1x1_0_0) (wordAt F f ![0, 16] inb_S32x24_S1x1_0_16) (wordAt F f ![0, 8] inb_S32x24_S1x1_0_8) (cut 0) (ns 0) := by
    rw [wordAt_eq f (r := i 0) (k := 0) (by rw [h0]; rfl), wordAt_eq f (r := i 0) (k := 16) (by rw [h0]; rfl), wordAt_eq f (r := i 0) (k := 8) (by rw [h0]; rfl)]
    exact hB.seg 0
  have t1 : Seg sg (wordAt F f ![0, 1] inb_S32x24_S1x1_0_1) (wordAt F f ![0, 17] inb_S32x24_S1x1_0_17) (wordAt F f ![0, 9] inb_S32x24_S1x1_0_9) (cut 1) (ns 1) := by
    rw [wordAt_eq f (r := i 0) (k := 1) (by rw [h0]; rfl), wordAt_eq f (r := i 0) (k := 17) (by rw [h0]; rfl), wordAt_eq f (r := i 0) (k := 9) (by rw [h0]; rfl)]
    exact hB.seg 1
  have t2 : Seg sg (wordAt F f ![0, 2] inb_S32x24_S1x1_0_2) (wordAt F f ![0, 18] inb_S32x24_S1x1_0_18) (wordAt F f ![0, 10] inb_S32x24_S1x1_0_10) (cut 2) (ns 2) := by
    rw [wordAt_eq f (r := i 0) (k := 2) (by rw [h0]; rfl), wordAt_eq f (r := i 0) (k := 18) (by rw [h0]; rfl), wordAt_eq f (r := i 0) (k := 10) (by rw [h0]; rfl)]
    exact hB.seg 2
  have t3 : Seg sg (wordAt F f ![0, 3] inb_S32x24_S1x1_0_3) (wordAt F f ![0, 19] inb_S32x24_S1x1_0_19) (wordAt F f ![0, 11] inb_S32x24_S1x1_0_11) (cut 3) (ns 3) := by
    rw [wordAt_eq f (r := i 0) (k := 3) (by rw [h0]; rfl), wordAt_eq f (r := i 0) (k := 19) (by rw [h0]; rfl), wordAt_eq f (r := i 0) (k := 11) (by rw [h0]; rfl)]
    exact hB.seg 3
  have t4 : Seg sg (wordAt F f ![0, 4] inb_S32x24_S1x1_0_4) (wordAt F f ![0, 20] inb_S32x24_S1x1_0_20) (wordAt F f ![0, 12] inb_S32x24_S1x1_0_12) (cut 4) (ns 4) := by
    rw [wordAt_eq f (r := i 0) (k := 4) (by rw [h0]; rfl), wordAt_eq f (r := i 0) (k := 20) (by rw [h0]; rfl), wordAt_eq f (r := i 0) (k := 12) (by rw [h0]; rfl)]
    exact hB.seg 4
  have t5 : Seg sg (wordAt F f ![0, 5] inb_S32x24_S1x1_0_5) (wordAt F f ![0, 21] inb_S32x24_S1x1_0_21) (wordAt F f ![0, 13] inb_S32x24_S1x1_0_13) (cut 5) (ns 5) := by
    rw [wordAt_eq f (r := i 0) (k := 5) (by rw [h0]; rfl), wordAt_eq f (r := i 0) (k := 21) (by rw [h0]; rfl), wordAt_eq f (r := i 0) (k := 13) (by rw [h0]; rfl)]
    exact hB.seg 5
  have t6 : Seg sg (wordAt F f ![0, 6] inb_S32x24_S1x1_0_6) (wordAt F f ![0, 22] inb_S32x24_S1x1_0_22) (wordAt F f ![0, 14] inb_S32x24_S1x1_0_14) (cut 6) (ns 6) := by
    rw [wordAt_eq f (r := i 0) (k := 6) (by rw [h0]; rfl), wordAt_eq f (r := i 0) (k := 22) (by rw [h0]; rfl), wordAt_eq f (r := i 0) (k := 14) (by rw [h0]; rfl)]
    exact hB.seg 6
  have t7 : Seg sg (wordAt F f ![0, 7] inb_S32x24_S1x1_0_7) (wordAt F f ![0, 23] inb_S32x24_S1x1_0_23) (wordAt F f ![0, 15] inb_S32x24_S1x1_0_15) (cut 7) (ns 7) := by
    rw [wordAt_eq f (r := i 0) (k := 7) (by rw [h0]; rfl), wordAt_eq f (r := i 0) (k := 23) (by rw [h0]; rfl), wordAt_eq f (r := i 0) (k := 15) (by rw [h0]; rfl)]
    exact hB.seg 7
  have a0 : k0_chk1 i (wordAt F f ![0, 0] inb_S32x24_S1x1_0_0) (wordAt F f ![0, 16] inb_S32x24_S1x1_0_16) (wordAt F f ![0, 8] inb_S32x24_S1x1_0_8) := t0.chk1 i
  have a1 : k0_chk2 i (wordAt F f ![0, 1] inb_S32x24_S1x1_0_1) (wordAt F f ![0, 17] inb_S32x24_S1x1_0_17) (wordAt F f ![0, 9] inb_S32x24_S1x1_0_9) := t1.chk1 i
  have a2 : k0_chk3 i (wordAt F f ![0, 2] inb_S32x24_S1x1_0_2) (wordAt F f ![0, 18] inb_S32x24_S1x1_0_18) (wordAt F f ![0, 10] inb_S32x24_S1x1_0_10) := t2.chk1 i
  have a3 : k0_chk4 i (wordAt F f ![0, 3] inb_S32x24_S1x1_0_3) (wordAt F f ![0, 19] inb_S32x24_S1x1_0_19) (wordAt F f ![0, 11] inb_S32x24_S1x1_0_11) := t3.chk1 i
  have a4 : k0_chk5 i (wordAt F f ![0, 4] inb_S32x24_S1x1_0_4) (wordAt F f ![0, 20] inb_S32x24_S1x1_0_20) (wordAt F f ![0, 12] inb_S32x24_S1x1_0_12) := t4.chk1 i
  have a5 : k0_chk6 i (wordAt F f ![0, 5] inb_S32x24_S1x1_0_5) (wordAt F f ![0, 21] inb_S32x24_S1x1_0_21) (wordAt F f ![0, 13] inb_S32x24_S1x1_0_13) := t5.chk1 i
  have a6 : k0_chk7 i (wordAt F f ![0, 6] inb_S32x24_S1x1_0_6) (wordAt F f ![0, 22] inb_S32x24_S1x1_0_22) (wordAt F f ![0, 14] inb_S32x24_S1x1_0_14) := t6.chk1 i
  have a7 : k0_chk8 i (wordAt F f ![0, 7] inb_S32x24_S1x1_0_7) (wordAt F f ![0, 23] inb_S32x24_S1x1_0_23) (wordAt F f ![0, 15] inb_S32x24_S1x1_0_15) := t7.chk1 i
  have s0 : Seg sg' (wordAt F f (k0_off49 i) (k0_off49_inb i h2)) (wordAt F f (k0_off50 i) (k0_off50_inb i h2)) (wordAt F f (k0_off51 i) (k0_off51_inb i h2)) (cut' 0) (ns' 0) := by
    rw [wordAt_eq f (r := r') (k := 0) ((k0_off49_eq i).trans (by rw [hr]; rfl)), wordAt_eq f (r := r') (k := 16) ((k0_off50_eq i).trans (by rw [hr]; rfl)), wordAt_eq f (r := r') (k := 8) ((k0_off51_eq i).trans (by rw [hr]; rfl))]
    exact hB'.seg 0
  have s1 : Seg sg' (wordAt F f (k0_off62 i) (k0_off62_inb i h2)) (wordAt F f (k0_off63 i) (k0_off63_inb i h2)) (wordAt F f (k0_off64 i) (k0_off64_inb i h2)) (cut' 1) (ns' 1) := by
    rw [wordAt_eq f (r := r') (k := 1) ((k0_off62_eq i).trans (by rw [hr]; rfl)), wordAt_eq f (r := r') (k := 17) ((k0_off63_eq i).trans (by rw [hr]; rfl)), wordAt_eq f (r := r') (k := 9) ((k0_off64_eq i).trans (by rw [hr]; rfl))]
    exact hB'.seg 1
  have s2 : Seg sg' (wordAt F f (k0_off75 i) (k0_off75_inb i h2)) (wordAt F f (k0_off76 i) (k0_off76_inb i h2)) (wordAt F f (k0_off77 i) (k0_off77_inb i h2)) (cut' 2) (ns' 2) := by
    rw [wordAt_eq f (r := r') (k := 2) ((k0_off75_eq i).trans (by rw [hr]; rfl)), wordAt_eq f (r := r') (k := 18) ((k0_off76_eq i).trans (by rw [hr]; rfl)), wordAt_eq f (r := r') (k := 10) ((k0_off77_eq i).trans (by rw [hr]; rfl))]
    exact hB'.seg 2
  have s3 : Seg sg' (wordAt F f (k0_off88 i) (k0_off88_inb i h2)) (wordAt F f (k0_off89 i) (k0_off89_inb i h2)) (wordAt F f (k0_off90 i) (k0_off90_inb i h2)) (cut' 3) (ns' 3) := by
    rw [wordAt_eq f (r := r') (k := 3) ((k0_off88_eq i).trans (by rw [hr]; rfl)), wordAt_eq f (r := r') (k := 19) ((k0_off89_eq i).trans (by rw [hr]; rfl)), wordAt_eq f (r := r') (k := 11) ((k0_off90_eq i).trans (by rw [hr]; rfl))]
    exact hB'.seg 3
  have s4 : Seg sg' (wordAt F f (k0_off101 i) (k0_off101_inb i h2)) (wordAt F f (k0_off102 i) (k0_off102_inb i h2)) (wordAt F f (k0_off103 i) (k0_off103_inb i h2)) (cut' 4) (ns' 4) := by
    rw [wordAt_eq f (r := r') (k := 4) ((k0_off101_eq i).trans (by rw [hr]; rfl)), wordAt_eq f (r := r') (k := 20) ((k0_off102_eq i).trans (by rw [hr]; rfl)), wordAt_eq f (r := r') (k := 12) ((k0_off103_eq i).trans (by rw [hr]; rfl))]
    exact hB'.seg 4
  have s5 : Seg sg' (wordAt F f (k0_off114 i) (k0_off114_inb i h2)) (wordAt F f (k0_off115 i) (k0_off115_inb i h2)) (wordAt F f (k0_off116 i) (k0_off116_inb i h2)) (cut' 5) (ns' 5) := by
    rw [wordAt_eq f (r := r') (k := 5) ((k0_off114_eq i).trans (by rw [hr]; rfl)), wordAt_eq f (r := r') (k := 21) ((k0_off115_eq i).trans (by rw [hr]; rfl)), wordAt_eq f (r := r') (k := 13) ((k0_off116_eq i).trans (by rw [hr]; rfl))]
    exact hB'.seg 5
  have s6 : Seg sg' (wordAt F f (k0_off127 i) (k0_off127_inb i h2)) (wordAt F f (k0_off128 i) (k0_off128_inb i h2)) (wordAt F f (k0_off129 i) (k0_off129_inb i h2)) (cut' 6) (ns' 6) := by
    rw [wordAt_eq f (r := r') (k := 6) ((k0_off127_eq i).trans (by rw [hr]; rfl)), wordAt_eq f (r := r') (k := 22) ((k0_off128_eq i).trans (by rw [hr]; rfl)), wordAt_eq f (r := r') (k := 14) ((k0_off129_eq i).trans (by rw [hr]; rfl))]
    exact hB'.seg 6
  have s7 : Seg sg' (wordAt F f (k0_off140 i) (k0_off140_inb i h2)) (wordAt F f (k0_off141 i) (k0_off141_inb i h2)) (wordAt F f (k0_off142 i) (k0_off142_inb i h2)) (cut' 7) (ns' 7) := by
    rw [wordAt_eq f (r := r') (k := 7) ((k0_off140_eq i).trans (by rw [hr]; rfl)), wordAt_eq f (r := r') (k := 23) ((k0_off141_eq i).trans (by rw [hr]; rfl)), wordAt_eq f (r := r') (k := 15) ((k0_off142_eq i).trans (by rw [hr]; rfl))]
    exact hB'.seg 7
  have b0 : k0_chk9 i (wordAt F f (k0_off49 i) (k0_off49_inb i h2)) (wordAt F f (k0_off50 i) (k0_off50_inb i h2)) (wordAt F f (k0_off51 i) (k0_off51_inb i h2)) := s0.chk9 i
  have b1 : k0_chk10 i (wordAt F f (k0_off62 i) (k0_off62_inb i h2)) (wordAt F f (k0_off63 i) (k0_off63_inb i h2)) (wordAt F f (k0_off64 i) (k0_off64_inb i h2)) := s1.chk9 i
  have b2 : k0_chk11 i (wordAt F f (k0_off75 i) (k0_off75_inb i h2)) (wordAt F f (k0_off76 i) (k0_off76_inb i h2)) (wordAt F f (k0_off77 i) (k0_off77_inb i h2)) := s2.chk9 i
  have b3 : k0_chk12 i (wordAt F f (k0_off88 i) (k0_off88_inb i h2)) (wordAt F f (k0_off89 i) (k0_off89_inb i h2)) (wordAt F f (k0_off90 i) (k0_off90_inb i h2)) := s3.chk9 i
  have b4 : k0_chk13 i (wordAt F f (k0_off101 i) (k0_off101_inb i h2)) (wordAt F f (k0_off102 i) (k0_off102_inb i h2)) (wordAt F f (k0_off103 i) (k0_off103_inb i h2)) := s4.chk9 i
  have b5 : k0_chk14 i (wordAt F f (k0_off114 i) (k0_off114_inb i h2)) (wordAt F f (k0_off115 i) (k0_off115_inb i h2)) (wordAt F f (k0_off116 i) (k0_off116_inb i h2)) := s5.chk9 i
  have b6 : k0_chk15 i (wordAt F f (k0_off127 i) (k0_off127_inb i h2)) (wordAt F f (k0_off128 i) (k0_off128_inb i h2)) (wordAt F f (k0_off129 i) (k0_off129_inb i h2)) := s6.chk9 i
  have b7 : k0_chk16 i (wordAt F f (k0_off140 i) (k0_off140_inb i h2)) (wordAt F f (k0_off141 i) (k0_off141_inb i h2)) (wordAt F f (k0_off142 i) (k0_off142_inb i h2)) := s7.chk9 i
  iintro ⟨H0, H1, H2, H3, HT, HI0, HI1, HO, Hk⟩
  ihave ⟨HS0, HR0, HM0⟩ := (idle_parts c).1 $$ HI0
  ihave ⟨HS1, HR1, HM1⟩ := (idle_parts c).1 $$ HI1
  ihave HS := (slots_split c z0).2 $$ [HS0 HS1]
  · isplitl [HS0]; · iexact HS0
    iexact HS1
  unfold owns
  icases H0 with ⟨%f0, %hf0, H0⟩
  icases H1 with ⟨%f1, %hf1, H1⟩
  icases H2 with ⟨%f2, %hf2, H2⟩
  icases H3 with ⟨%f3, %hf3, H3⟩
  obtain rfl := harg2.eq_unread hf0; obtain rfl := harg3.eq_unread hf1; obtain rfl := harg5.eq_unread hf2; obtain rfl := harg6.eq_unread hf3
  sl_exec (disch := first | sl_exact h1)
  sl_unfold_words
  ihave HS := (slots_store c _ k0_pay2 (zeros (F := F)) rfl _ _) $$ HS
  ihave ⟨HS0, HS1⟩ := (slots_split c (zeros (F := F))).1 $$ HS
  imod (idle_start c (s := 0) (n := cut 8) (sg := sg) (q := q) (y := y) (old := zeros (F := F)) (new := new) rfl hB.zero) $$ [HS0 HR0 HM0] with ⟨HA, HKa⟩
  · iapply (idle_parts c).2
    isplitl [HS0]; · iexact HS0
    isplitl [HR0]; · iexact HR0
    iexact HM0
  imod (idle_start c (s := nextSlot i) (n := cut' 8) (sg := sg') (q := q') (y := y) (old := zeros (F := F)) (new := new') hs'.symm hB'.zero) $$ [HS1 HR1 HM1] with ⟨HI, HKn⟩
  · iapply (idle_parts c).2
    isplitl [HS1]; · iexact HS1
    isplitl [HR1]; · iexact HR1
    iexact HM1
  sl_exec (disch := first | sl_exact h1 | sl_exact h2 | sl_exact a0 | sl_exact a1 | sl_exact a2 | sl_exact a3 | sl_exact a4 | sl_exact a5 | sl_exact a6 | sl_exact a7)
  iapply (wp_segA c hb t0 (hB.step 0) (hB.cut_le 0) _ _ _ _ _ _ _ _ (fun _ _ => rfl) _) $$ HA
  iintro %u0 HA
  iapply (wp_none c Variants.none (defs₀ (F := F)) _ _ t0.cnt.rem)
  sl_exec (disch := first | sl_exact h1 | sl_exact h2 | sl_exact a0 | sl_exact a1 | sl_exact a2 | sl_exact a3 | sl_exact a4 | sl_exact a5 | sl_exact a6 | sl_exact a7)
  iapply (wp_segA c hb t1 (hB.step 1) (hB.cut_le 1) _ _ _ _ _ _ _ _ (fun _ _ => rfl) _) $$ HA
  iintro %u1 HA
  iapply (wp_none c Variants.none (defs₀ (F := F)) _ _ t1.cnt.rem)
  sl_exec (disch := first | sl_exact h1 | sl_exact h2 | sl_exact a0 | sl_exact a1 | sl_exact a2 | sl_exact a3 | sl_exact a4 | sl_exact a5 | sl_exact a6 | sl_exact a7)
  iapply (wp_segA c hb t2 (hB.step 2) (hB.cut_le 2) _ _ _ _ _ _ _ _ (fun _ _ => rfl) _) $$ HA
  iintro %u2 HA
  iapply (wp_none c Variants.none (defs₀ (F := F)) _ _ t2.cnt.rem)
  sl_exec (disch := first | sl_exact h1 | sl_exact h2 | sl_exact a0 | sl_exact a1 | sl_exact a2 | sl_exact a3 | sl_exact a4 | sl_exact a5 | sl_exact a6 | sl_exact a7)
  iapply (wp_segA c hb t3 (hB.step 3) (hB.cut_le 3) _ _ _ _ _ _ _ _ (fun _ _ => rfl) _) $$ HA
  iintro %u3 HA
  iapply (wp_none c Variants.none (defs₀ (F := F)) _ _ t3.cnt.rem)
  sl_exec (disch := first | sl_exact h1 | sl_exact h2 | sl_exact a0 | sl_exact a1 | sl_exact a2 | sl_exact a3 | sl_exact a4 | sl_exact a5 | sl_exact a6 | sl_exact a7)
  iapply (wp_segA c hb t4 (hB.step 4) (hB.cut_le 4) _ _ _ _ _ _ _ _ (fun _ _ => rfl) _) $$ HA
  iintro %u4 HA
  iapply (wp_none c Variants.none (defs₀ (F := F)) _ _ t4.cnt.rem)
  sl_exec (disch := first | sl_exact h1 | sl_exact h2 | sl_exact a0 | sl_exact a1 | sl_exact a2 | sl_exact a3 | sl_exact a4 | sl_exact a5 | sl_exact a6 | sl_exact a7)
  iapply (wp_segA c hb t5 (hB.step 5) (hB.cut_le 5) _ _ _ _ _ _ _ _ (fun _ _ => rfl) _) $$ HA
  iintro %u5 HA
  iapply (wp_none c Variants.none (defs₀ (F := F)) _ _ t5.cnt.rem)
  sl_exec (disch := first | sl_exact h1 | sl_exact h2 | sl_exact a0 | sl_exact a1 | sl_exact a2 | sl_exact a3 | sl_exact a4 | sl_exact a5 | sl_exact a6 | sl_exact a7)
  iapply (wp_segA c hb t6 (hB.step 6) (hB.cut_le 6) _ _ _ _ _ _ _ _ (fun _ _ => rfl) _) $$ HA
  iintro %u6 HA
  iapply (wp_none c Variants.none (defs₀ (F := F)) _ _ t6.cnt.rem)
  sl_exec (disch := first | sl_exact h1 | sl_exact h2 | sl_exact a0 | sl_exact a1 | sl_exact a2 | sl_exact a3 | sl_exact a4 | sl_exact a5 | sl_exact a6 | sl_exact a7)
  iapply (wp_segA c hb t7 (hB.step 7) (hB.cut_le 7) _ _ _ _ _ _ _ _ (fun _ _ => rfl) _) $$ HA
  iintro %u7 HA
  iapply (wp_none c Variants.none (defs₀ (F := F)) _ _ t7.cnt.rem)
  sl_exec (disch := first | sl_exact h1 | sl_exact h2 | sl_exact h17 | sl_exact b0 | sl_exact b1 | sl_exact b2 | sl_exact b3 | sl_exact b4 | sl_exact b5 | sl_exact b6 | sl_exact b7 | sl_exact a0 | sl_exact a1 | sl_exact a2 | sl_exact a3 | sl_exact a4 | sl_exact a5 | sl_exact a6 | sl_exact a7)
  iapply (wp_segB c i hb' s0 (hB'.step 0) (hB'.cut_le 0) _ _ _ _ _ _ _ _ (fun _ _ => rfl) _) $$ HI
  iintro %r0 HI
  iapply (wp_none c Variants.none (defs₀ (F := F)) _ _ s0.cnt.rem)
  sl_exec (disch := first | sl_exact h1 | sl_exact h2 | sl_exact h17 | sl_exact b0 | sl_exact b1 | sl_exact b2 | sl_exact b3 | sl_exact b4 | sl_exact b5 | sl_exact b6 | sl_exact b7 | sl_exact a0 | sl_exact a1 | sl_exact a2 | sl_exact a3 | sl_exact a4 | sl_exact a5 | sl_exact a6 | sl_exact a7)
  iapply (wp_segB c i hb' s1 (hB'.step 1) (hB'.cut_le 1) _ _ _ _ _ _ _ _ (fun _ _ => rfl) _) $$ HI
  iintro %r1 HI
  iapply (wp_none c Variants.none (defs₀ (F := F)) _ _ s1.cnt.rem)
  sl_exec (disch := first | sl_exact h1 | sl_exact h2 | sl_exact h17 | sl_exact b0 | sl_exact b1 | sl_exact b2 | sl_exact b3 | sl_exact b4 | sl_exact b5 | sl_exact b6 | sl_exact b7 | sl_exact a0 | sl_exact a1 | sl_exact a2 | sl_exact a3 | sl_exact a4 | sl_exact a5 | sl_exact a6 | sl_exact a7)
  iapply (wp_segB c i hb' s2 (hB'.step 2) (hB'.cut_le 2) _ _ _ _ _ _ _ _ (fun _ _ => rfl) _) $$ HI
  iintro %r2 HI
  iapply (wp_none c Variants.none (defs₀ (F := F)) _ _ s2.cnt.rem)
  sl_exec (disch := first | sl_exact h1 | sl_exact h2 | sl_exact h17 | sl_exact b0 | sl_exact b1 | sl_exact b2 | sl_exact b3 | sl_exact b4 | sl_exact b5 | sl_exact b6 | sl_exact b7 | sl_exact a0 | sl_exact a1 | sl_exact a2 | sl_exact a3 | sl_exact a4 | sl_exact a5 | sl_exact a6 | sl_exact a7)
  iapply (wp_segB c i hb' s3 (hB'.step 3) (hB'.cut_le 3) _ _ _ _ _ _ _ _ (fun _ _ => rfl) _) $$ HI
  iintro %r3 HI
  iapply (wp_none c Variants.none (defs₀ (F := F)) _ _ s3.cnt.rem)
  sl_exec (disch := first | sl_exact h1 | sl_exact h2 | sl_exact h17 | sl_exact b0 | sl_exact b1 | sl_exact b2 | sl_exact b3 | sl_exact b4 | sl_exact b5 | sl_exact b6 | sl_exact b7 | sl_exact a0 | sl_exact a1 | sl_exact a2 | sl_exact a3 | sl_exact a4 | sl_exact a5 | sl_exact a6 | sl_exact a7)
  iapply (wp_segB c i hb' s4 (hB'.step 4) (hB'.cut_le 4) _ _ _ _ _ _ _ _ (fun _ _ => rfl) _) $$ HI
  iintro %r4 HI
  iapply (wp_none c Variants.none (defs₀ (F := F)) _ _ s4.cnt.rem)
  sl_exec (disch := first | sl_exact h1 | sl_exact h2 | sl_exact h17 | sl_exact b0 | sl_exact b1 | sl_exact b2 | sl_exact b3 | sl_exact b4 | sl_exact b5 | sl_exact b6 | sl_exact b7 | sl_exact a0 | sl_exact a1 | sl_exact a2 | sl_exact a3 | sl_exact a4 | sl_exact a5 | sl_exact a6 | sl_exact a7)
  iapply (wp_segB c i hb' s5 (hB'.step 5) (hB'.cut_le 5) _ _ _ _ _ _ _ _ (fun _ _ => rfl) _) $$ HI
  iintro %r5 HI
  iapply (wp_none c Variants.none (defs₀ (F := F)) _ _ s5.cnt.rem)
  sl_exec (disch := first | sl_exact h1 | sl_exact h2 | sl_exact h17 | sl_exact b0 | sl_exact b1 | sl_exact b2 | sl_exact b3 | sl_exact b4 | sl_exact b5 | sl_exact b6 | sl_exact b7 | sl_exact a0 | sl_exact a1 | sl_exact a2 | sl_exact a3 | sl_exact a4 | sl_exact a5 | sl_exact a6 | sl_exact a7)
  iapply (wp_segB c i hb' s6 (hB'.step 6) (hB'.cut_le 6) _ _ _ _ _ _ _ _ (fun _ _ => rfl) _) $$ HI
  iintro %r6 HI
  iapply (wp_none c Variants.none (defs₀ (F := F)) _ _ s6.cnt.rem)
  sl_exec (disch := first | sl_exact h1 | sl_exact h2 | sl_exact h17 | sl_exact b0 | sl_exact b1 | sl_exact b2 | sl_exact b3 | sl_exact b4 | sl_exact b5 | sl_exact b6 | sl_exact b7 | sl_exact a0 | sl_exact a1 | sl_exact a2 | sl_exact a3 | sl_exact a4 | sl_exact a5 | sl_exact a6 | sl_exact a7)
  iapply (wp_segB c i hb' s7 (hB'.step 7) (hB'.cut_le 7) _ _ _ _ _ _ _ _ (fun _ _ => rfl) _) $$ HI
  iintro %r7 HI
  iapply (wp_none c Variants.none (defs₀ (F := F)) _ _ s7.cnt.rem)
  ihave ⟨HB, HP, HK⟩ := (busy_first c hs.symm rfl) $$ [HA HKa]
  · isplitl [HA]; · iexact HA
    iexact HKa
  sl_exec (disch := first | sl_exact h1 | sl_exact h2 | sl_exact h17)
  iapply (wp_awaits (s := thisSlot i) (n := cut 8) (sg := sg) (q := q) (y := y) (new := new) c Variants.none (defs₀ (F := F)) _ _ hm33 _ (off161_eq i) inb_S44032x1024_S16x1024_0_0 (k0_off163_inb i) (k0_off161_inb i) _ _ (fun _ _ => rfl) _) $$ [HB HO]
  · isplitl [HB]; · iexact HB
    iexact HO
  iintro %r33 ⟨HD, HS, %W', HO⟩
  iapply (wp_none c Variants.none (defs₀ (F := F)) _ _ hm34)
  ihave HI := (idle_close c hn) $$ [HD HS HP HK]
  · isplitl [HD]; · iexact HD
    isplitl [HS]; · iexact HS
    isplitl [HP]; · iexact HP
    iexact HK
  unfold idle
  icases HI with ⟨HSl, HR, HSm⟩
  sl_exec
  iapply (wp_slot c Variants.none (defs₀ (F := F)) (thisSlot_lt i) (off167_eq i)) $$ HSl
  iintro HSl
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg5.read_unread _
    iexact H2
  isplitl [H3]
  · iexists _; isplitr
    swap; · iexact H3
    ipureintro; sl_unfold_words; simp only [S512x1024, S8x512, S1x1024, read_store2, readAt_whole2, View.writes_nil, harg2.read_unread, harg3.read_unread, harg5.read_unread, harg6.read_unread]; rfl
  isplitl [HT]; · iexact HT
  isplitl [HSl HR HSm]
  · isplitl [HSl]; · iexact HSl
    isplitl [HR]; · iexact HR
    iexact HSm
  isplitl [HI HKn]
  · unfold busy; isplitl [HI]; · iexact HI
    iexact HKn
  iexists _; iexact HO

end Cert.CombineIdeal.Hand

end
-- ==== Proof.CombineFrame.lean ====
/- The combine kernel from launch to end: what the two slots hold before each block, what a block's result is, and
   that the run leaves the arguments as they were. -/
module

public import proofs.«01_k».proof.Proof.CombineRun
public import Idealize.ShloMosaic.Lib.Pipeline.Frame

@[expose] public section

set_option maxRecDepth 16384

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The table's groups -/

/-- How many groups of sixteen rows expert `e` has in the block `r`, -/
def nsOf (f : S32x24.Idx → BitVec 32) (r : Fin 32) (e : ℕ) : ℕ := if h : e < 8 then (f (ix2 r (⟨8 + e, by omega⟩ : Fin 24))).toNat / 16 else 0
/-- the group of the slot they begin at, -/
def cutOf (f : S32x24.Idx → BitVec 32) (r : Fin 32) : ℕ → ℕ
  | 0 => 0
  | e + 1 => cutOf f r e + nsOf f r e
/-- and the group of the sorted rows that group `j` of the slot is. -/
def sgOf (f : S32x24.Idx → BitVec 32) (r : Fin 32) (j : ℕ) : ℕ :=
  ∑ e : Fin 8, if cutOf f r e.val ≤ j ∧ j < cutOf f r e.val + nsOf f r e.val then (f (ix2 r (⟨16 + e.val, by omega⟩ : Fin 24))).toNat / 16 + (j - cutOf f r e.val) else 0

/-- The table names runs of whole groups, one behind the other. -/
def Named (f : S32x24.Idx → BitVec 32) : Prop := ∀ r : Fin 32, Blk f r (sgOf f r) (cutOf f r) (nsOf f r)

theorem cut_mono (f : S32x24.Idx → BitVec 32) (r : Fin 32) (a b : ℕ) : cutOf f r a ≤ cutOf f r (a + b) := by
  induction b with
  | zero => exact le_refl _
  | succ b ih => exact ih.trans (Nat.le_add_right _ _)

/-- A group below the cut of the last expert is one expert's. -/
theorem cut_find (f : S32x24.Idx → BitVec 32) (r : Fin 32) (j : ℕ) : ∀ n, j < cutOf f r n → ∃ e < n, cutOf f r e ≤ j ∧ j < cutOf f r e + nsOf f r e
  | 0, h => absurd h (Nat.not_lt_zero _)
  | n + 1, h => by
    by_cases h' : j < cutOf f r n
    · obtain ⟨e, he, h1⟩ := cut_find f r j n h'
      exact ⟨e, by omega, h1⟩
    · exact ⟨n, by omega, by omega, h⟩

/-- Every group that is brought lies in the sorted rows. -/
theorem sg_lt {f : S32x24.Idx → BitVec 32} (hN : Named f) (r : Fin 32) {j : ℕ} (hj : j < cutOf f r 8) : sgOf f r j < 2752 := by
  obtain ⟨e, he, h1, h2⟩ := cut_find f r j 8 hj
  obtain ⟨g, -, hgb, hs⟩ := ((hN r).seg ⟨e, he⟩).rows
  have := hs (j - cutOf f r e) (show j - cutOf f r e < nsOf f r e by omega)
  rw [show cutOf f r (⟨e, he⟩ : Fin 8).val + (j - cutOf f r e) = j from by show cutOf f r e + _ = _; omega] at this
  have hgb' : g + nsOf f r e ≤ 2752 := hgb
  omega

/-! ## What the slots hold -/

/-- The block before point `t`, -/
def row (t : ℕ) : Fin 32 := ⟨min t 31, by omega⟩
/-- and the slots once its rows are there. -/
def G (f : S32x24.Idx → BitVec 32) (y : S44032x1024.Idx → Elt F .bf16) : ℕ → S2x1152x1024.Idx → Elt F .bf16
  | 0 => zeros
  | t + 1 => fun z => if (z 0).val = t % 2 ∧ (z 1).val < 16 * cutOf f (row t) 8 then y (srcIdx ((16 * sgOf f (row t) ((z 1).val / 16) + (z 1).val % 16) % 44032) (Nat.mod_lt _ (by decide)) (z 2)) else G f y t z

theorem brings {f : S32x24.Idx → BitVec 32} (hN : Named f) (y : S44032x1024.Idx → Elt F .bf16) {t s : ℕ} (hs : s = t % 2) :
    Brings s (cutOf f (row t) 8) (sgOf f (row t)) y (G f y (t + 1)) := by
  intro j hj z hz
  rw [mem_gran] at hz
  obtain ⟨h0, h1, h2⟩ := hz
  have hg := sg_lt hN (row t) hj
  refine ⟨by omega, ?_⟩
  show (if _ then _ else _) = _
  rw [if_pos ⟨h0.trans hs, by omega⟩]
  refine congrArg y (funext fun a => Fin.ext ?_)
  match a with
  | ⟨0, _⟩ =>
    show (16 * sgOf f (row t) ((z 1).val / 16) + (z 1).val % 16) % 44032 = 16 * sgOf f (row t) j + ((z 1).val - 16 * j)
    have e1 : (z 1).val / 16 = j := by omega
    have e2 : (z 1).val % 16 = (z 1).val - 16 * j := by omega
    rw [e1, e2, Nat.mod_eq_of_lt (by omega)]
  | ⟨1, _⟩ => rfl

/-- Beyond what is brought, a slot holds what it did. -/
theorem beyond (f : S32x24.Idx → BitVec 32) (y : S44032x1024.Idx → Elt F .bf16) (t s : ℕ) (z : S2x1152x1024.Idx) (hz : z ∈ slotFrom s (cutOf f (row t) 8)) :
    G f y t z = G f y (t + 1) z := by
  rw [mem_slotFrom] at hz
  show _ = (if _ then _ else _)
  rw [if_neg (by omega)]

/-- The other slot is not touched. -/
theorem other (f : S32x24.Idx → BitVec 32) (y : S44032x1024.Idx → Elt F .bf16) (t s : ℕ) (hs : s = (t + 1) % 2) (z : S2x1152x1024.Idx) (hz : z ∈ slotFrom s (cutOf f (row (t + 1)) 8)) :
    G f y t z = G f y (t + 2) z := by
  rw [← beyond f y (t + 1) s z hz]
  rw [mem_slotFrom] at hz
  show _ = (if _ then _ else _)
  rw [if_neg (by omega)]

/-- The half of the rows slot `s`'s transfers read through. -/
def qOf (s : ℕ) : PosShare TreeShare := if s = 0 then fullShare.left else fullShare.right

/-- The slots before point `t`. -/
def Slots (f : S32x24.Idx → BitVec 32) (y : S44032x1024.Idx → Elt F .bf16) (c : Dev nD) (t : ℕ) : sProp 𝕄 :=
  if t = 0 then iprop(∃ z, idle c 0 (qOf 0) y z ∗ idle c 1 (qOf 1) y z)
  else if t < 32 then iprop(∃ old, ⌜∀ z ∈ slotFrom (t % 2) (cutOf f (row t) 8), old z = G f y (t + 1) z⌝
    ∗ busy c (t % 2) (cutOf f (row t) 8) (sgOf f (row t)) (qOf (t % 2)) y old (G f y (t + 1)) ∗ idle c ((t + 1) % 2) (qOf ((t + 1) % 2)) y (G f y t))
  else iprop(∃ z z', idle c 0 (qOf 0) y z ∗ idle c 1 (qOf 1) y z')

variable (m : (ℓ : Loc nD τ sig) → Buf (Elt F) ℓ) (ρ : Dev nD → PrngReg)

/-! ## Up to the region -/

/-- What each buffer of core `c` holds when the region is entered: the two reshaped arguments are written by then. -/
abbrev V (c : Dev nD) (b : Ref sig .tc) : Buf (Elt F) ((c : Thread nD τ).loc b) :=
  StableHlo.after hostOps0 (fun b => m (c, b)) b

theorem fresh_ops : (hostOps0 : List (HloOp τ sig (Elt F))).Forall fun op => op.fresh = ∅ := by
  simp only [List.Forall]; repeat' constructor

theorem enter (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub fresh_ops main_chain

theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

def tab : pre0.Contents (Elt F) := fun j => V m (0 : Dev nD) (pre0.ref j)
theorem V_tab (c : Dev nD) (j : Fin 1) : V m c (pre0.ref j) = tab m j := by
  obtain rfl : c = 0 := Subsingleton.elim _ _; rfl

/-- The table's entries and the sorted rows at the region's entry. -/
abbrev T : S32x24.Idx → BitVec 32 := tab m 0
abbrev Y (c : Dev nD) : S44032x1024.Idx → Elt F .bf16 := V m c main_arg3

abbrev adm : (pcfg0 (F := F)).Adm := ⟨tab m, trivial⟩
abbrev cfgM : Pipeline.Cfg sig Λ₀ := cfg0 (adm m)

theorem tabHalf_eq (c : Dev nD) : (Pipeline.ΦT pre0 (tab m) c : sProp 𝕄) = iprop(tabHalf c (T m)) := by
  unfold Pipeline.ΦT Pipeline.prefHeld
  rw [show (Finset.univ : Finset (Fin 1)) = {(0 : Fin 1)} from by decide, bigSep_singleton]
  rfl

/-! ## The points -/

theorem block_val (t : Fin grid0.N) : (grid0.coords t 0).val = t.val := by
  have ht : t.val < 32 := Nat.lt_of_lt_of_eq t.isLt N_0
  have e0 : (grid0.coords t 0).val = t.val / 1 % 32 := Pipeline.Grid.coords_val t 0 (by decide) rfl
  omega

theorem cond1_iff (t : Fin grid0.N) : k0_cond1 (grid0.coords t) = 1#1 ↔ t.val = 0 := by
  have ht : t.val < 32 := Nat.lt_of_lt_of_eq t.isLt N_0
  simp only [k0_cond1, block_val]
  word_cmp
theorem cond2_iff (t : Fin grid0.N) : k0_cond2 (grid0.coords t) = 1#1 ↔ t.val + 1 < 32 := by
  have ht : t.val < 32 := Nat.lt_of_lt_of_eq t.isLt N_0
  simp only [k0_cond2, block_val]
  exact (by decide +kernel : ∀ v : Fin 32, Scalar.cmpi .ne (Scalar.extui (Scalar.cmpi .slt (Scalar.addi (BitVec.ofNat 32 v.val) 1#32) 32#32)) 0#32 = 1#1 ↔ v.val + 1 < 32) ⟨t.val, ht⟩

theorem row_coords (t : Fin grid0.N) : grid0.coords t 0 = row t.val := by
  have ht : t.val < 32 := Nat.lt_of_lt_of_eq t.isLt N_0
  refine Fin.ext ?_
  rw [block_val]; show t.val = min t.val 31; omega

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev b0 (t : Fin (cfgM m).N) : Memref sig .tc .vmem S512x1024 .f32 := spec0_0.stage ((cfgM m).slots t 0)
abbrev b0w (t : Fin (cfgM m).N) : (b0 m t).IsWhole := hstage0_0 (((cfgM m).slots t 0).cast nbuf0_0)
abbrev b1 (t : Fin (cfgM m).N) : Memref sig .tc .vmem S8x512 .f32 := spec0_1.stage ((cfgM m).slots t 1)
abbrev b1w (t : Fin (cfgM m).N) : (b1 m t).IsWhole := hstage0_1 (((cfgM m).slots t 1).cast nbuf0_1)
abbrev b2 (t : Fin (cfgM m).N) : Memref sig .tc .vmem S1x1024 .f32 := spec0_2.stage ((cfgM m).slots t 2)
abbrev b2w (t : Fin (cfgM m).N) : (b2 m t).IsWhole := hstage0_2 (((cfgM m).slots t 2).cast nbuf0_2)
abbrev b3 (t : Fin (cfgM m).N) : Memref sig .tc .vmem S512x1024 .f32 := spec0_3.stage ((cfgM m).slots t 3)
abbrev b3w (t : Fin (cfgM m).N) : (b3 m t).IsWhole := hstage0_3 (((cfgM m).slots t 3).cast nbuf0_3)

/-- The kernel's body at point `t`, on what the pipeline calls it with. -/
abbrev bodyAt (t : Fin (cfgM m).N) : Prog (TpuEff nD τ sig (Elt F) Λ₀ .tc) PUnit :=
  cc0_moe_combine (grid0.coords t) tabM tabM_whole (b0 m t) (b0w m t) (b1 m t) (b1w m t) rowsM rowsM_whole (b2 m t) (b2w m t) (b3 m t) (b3w m t) slotsM slotsM_whole cc0_scratch1

/-- The block's result at point `t`. -/
def outAt (c : Dev nD) (t : Fin (cfgM m).N) : Vec F S512x1024 .f32 :=
  combined (iblk m c 0 t) (iblk m c 1 t) (iblk m c 2 t) (slotVec (G (T m) (Y m c) (t.val + 1)) (thisSlot (grid0.coords t)) (thisSlot_lt _))

/-! ## The pipeline's proof data -/

def Phi (c : Dev nD) (n : ℕ) : sProp 𝕄 :=
  iprop(Slots (T m) (Y m c) c n ∗ (∃ r, prngReg c r) ∗ tabHalf c (T m))

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Phi m c t.val
  q _ := fullShare
  owed _ := 0

theorem A_eq (c : Dev nD) (w : Fin (cfgM m).W) : (dats m 0 c).A w = V m c (Pipeline.arrRef spec0 w) := by
  dsimp only [dats]
theorem Phi_at (c : Dev nD) (t : Fin (cfgM m).N) : (dats m 0 c).Φ t.castSucc = Phi m c t.val := by
  dsimp only [dats]; try rfl
theorem Phi_next (c : Dev nD) (t : Fin (cfgM m).N) : (dats m 0 c).Φ t.succ = Phi m c (t.val + 1) := by
  dsimp only [dats]; try rfl

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = outAt m c t := by dsimp only [dats]; try rfl

theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem leaves_0 (c : Dev nD) (t : Fin (cfgM m).N) : (dats m 0 c).leavesExact 0 t = owns (c : Thread nD τ) (b0 m t) fullShare (iblk m c 0 t) := by
  unfold Dat.leavesExact; rw [show (cfgM m).idle 0 (grid0.coords t) = false from rfl, after_0]; try rfl
theorem leaves_1 (c : Dev nD) (t : Fin (cfgM m).N) : (dats m 0 c).leavesExact 1 t = owns (c : Thread nD τ) (b1 m t) fullShare (iblk m c 1 t) := by
  unfold Dat.leavesExact; rw [show (cfgM m).idle 1 (grid0.coords t) = false from rfl, after_1]; try rfl
theorem leaves_2 (c : Dev nD) (t : Fin (cfgM m).N) : (dats m 0 c).leavesExact 2 t = owns (c : Thread nD τ) (b2 m t) fullShare (iblk m c 2 t) := by
  unfold Dat.leavesExact; rw [show (cfgM m).idle 2 (grid0.coords t) = false from rfl, after_2]; try rfl
theorem leaves_3 (c : Dev nD) (t : Fin (cfgM m).N) : (dats m 0 c).leavesExact 3 t = owns (c : Thread nD τ) (b3 m t) fullShare (outAt m c t) := by
  unfold Dat.leavesExact; rw [show (cfgM m).idle 3 (grid0.coords t) = false from rfl, after_3]; try rfl

theorem slots_zero (c : Dev nD) : (Slots (T m) (Y m c) c 0 : sProp 𝕄) = iprop(∃ z, idle c 0 (qOf 0) (Y m c) z ∗ idle c 1 (qOf 1) (Y m c) z) := rfl
theorem slots_mid (c : Dev nD) {t : ℕ} (h0 : t ≠ 0) (h1 : t < 32) {s s' : ℕ} (hs : t % 2 = s) (hs' : (t + 1) % 2 = s') :
    (Slots (T m) (Y m c) c t : sProp 𝕄) = iprop(∃ old, ⌜∀ z ∈ slotFrom s (cutOf (T m) (row t) 8), old z = G (T m) (Y m c) (t + 1) z⌝
      ∗ busy c s (cutOf (T m) (row t) 8) (sgOf (T m) (row t)) (qOf s) (Y m c) old (G (T m) (Y m c) (t + 1)) ∗ idle c s' (qOf s') (Y m c) (G (T m) (Y m c) t)) := by
  subst hs; subst hs'
  unfold Slots; rw [if_neg h0, if_pos h1]
theorem slots_end (c : Dev nD) {t : ℕ} (h1 : 32 ≤ t) :
    (Slots (T m) (Y m c) c t : sProp 𝕄) = iprop(∃ z z', idle c 0 (qOf 0) (Y m c) z ∗ idle c 1 (qOf 1) (Y m c) z') := by
  unfold Slots; rw [if_neg (by omega), if_neg (by omega)]

/-! ## The body at each point -/

def bodyPre (c : Dev nD) (t : Fin (cfgM m).N) : sProp 𝕄 :=
  iprop((dats m 0 c).Φ t.castSucc ∗ (dats m 0 c).owesAt () t.castSucc
    ∗ (∃ d, owns (c : Thread nD τ) (b0 m t) fullShare ((dats m 0 c).before 0 t d))
    ∗ (∃ d, owns (c : Thread nD τ) (b1 m t) fullShare ((dats m 0 c).before 1 t d))
    ∗ (∃ d, owns (c : Thread nD τ) (b2 m t) fullShare ((dats m 0 c).before 2 t d))
    ∗ (∃ d, owns (c : Thread nD τ) (b3 m t) fullShare ((dats m 0 c).before 3 t d)))
def bodyPost (c : Dev nD) (t : Fin (cfgM m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1000000 in
theorem body_sound (hN : Named (T m)) (c : Dev nD) (t : Fin (cfgM m).N) :
    bodyPre m c t ⊢ wp frame (wpE (defs₀ (F := F)) Variants.none c none) Set.univ (bodyAt m t) (fun _ => bodyPost m c t) := by
  unfold bodyPre bodyPost
  simp only [before_0, before_1, before_2]
  rw [leaves_0 m c t, leaves_1 m c t, leaves_2 m c t, leaves_3 m c t]
  rw [Phi_at, Phi_next]
  unfold Phi outAt
  have ht : t.val < 32 := Nat.lt_of_lt_of_eq t.isLt N_0
  have hv := block_val t
  have hs : t.val % 2 = thisSlot (grid0.coords t) := by rw [thisSlot_eq, hv]
  have hs' : (t.val + 1) % 2 = nextSlot (grid0.coords t) := by rw [nextSlot_eq, hv]; omega
  have hs2 : (t.val + 1 + 1) % 2 = thisSlot (grid0.coords t) := by rw [thisSlot_eq, hv]; omega
  have hB : Blk (T m) (grid0.coords t 0) (sgOf (T m) (row t.val)) (cutOf (T m) (row t.val)) (nsOf (T m) (row t.val)) := by rw [row_coords]; exact hN _
  have hr : min ((grid0.coords t 0).val + 1) 31 = (row (t.val + 1)).val := by rw [hv]; rfl
  have hB' := hN (row (t.val + 1))
  have hb' := brings hN (Y m c) (t := t.val + 1) hs'.symm
  by_cases h0 : t.val = 0
  · have h1 := (cond1_iff t).mpr h0
    have h2 := (cond2_iff t).mpr (by omega)
    rw [slots_mid m c (t := t.val + 1) (by omega) (by omega) hs' hs2, show (Slots (T m) (Y m c) c t.val : sProp 𝕄) = _ from (congrArg _ h0).trans (slots_zero m c)]
    have e0 : (0 : ℕ) = thisSlot (grid0.coords t) := by rw [← hs, h0]
    have e1 : (1 : ℕ) = nextSlot (grid0.coords t) := by rw [← hs', h0]
    have hq0 : qOf (thisSlot (grid0.coords t)) = qOf 0 := by rw [← e0]
    have hq1 : qOf (nextSlot (grid0.coords t)) = qOf 1 := by rw [← e1]
    rw [hq0, hq1]
    unfold Dat.owesAt Pipeline.owesWithin
    iintro ⟨⟨⟨%z, HA, HB⟩, Hg, HT⟩, ⟨%W, %hW, HO⟩, ⟨%d0, H0⟩, ⟨%d1, H1⟩, ⟨%d2, H2⟩, ⟨%d3, H3⟩⟩
    iapply (run_first c (grid0.coords t) (b0 m t) (b0w m t) (b1 m t) (b1w m t) (b2 m t) (b2w m t) (b3 m t) (b3w m t) (iblk m c 0 t) (iblk m c 1 t) (iblk m c 2 t) ((dats m 0 c).before 3 t d3) (T m) hB (q := qOf 0) (y := Y m c) (new := G (T m) (Y m c) (t.val + 1)) (brings hN (Y m c) (by rw [h0])) (fun z hz => (congrFun (show zeros = G (T m) (Y m c) t.val by rw [h0]; rfl) z).trans (beyond (T m) (Y m c) t.val _ z hz)) hr hB' (q' := qOf 1) hb' (W := W) (hv.trans h0) h1 h2 z _)
    isplitl [H0]; · iexact H0
    isplitl [H1]; · iexact H1
    isplitl [H2]; · iexact H2
    isplitl [H3]; · iexact H3
    isplitl [HT]; · iexact HT
    isplitl [HA]; · iexact HA
    isplitl [HB]; · iexact HB
    isplitl [HO]; · iexact HO
    iintro ⟨H0, H1, H2, H3, HT, HI, HU, %W2, HO⟩
    isplitl [HI HU Hg HT]
    · isplitl [HI HU]
      · iexists zeros; isplitr
        · ipureintro; exact fun z hz => (congrFun (show zeros = G (T m) (Y m c) t.val by rw [h0]; rfl) z).trans (other (T m) (Y m c) t.val _ hs'.symm z hz)
        isplitl [HU]; · iexact HU
        iexact HI
      isplitl [Hg]; · iexact Hg
      iexact HT
    isplitl [HO]
    · iexists W2; isplitr
      · ipureintro; exact fun _ _ => Or.inl trivial
      iexact HO
    isplitl [H0]; · iexact H0
    isplitl [H1]; · iexact H1
    isplitl [H2]; · iexact H2
    iexact H3
  · have h1 : ¬ k0_cond1 (grid0.coords t) = 1#1 := fun h => h0 ((cond1_iff t).mp h)
    rw [slots_mid m c h0 ht hs hs']
    unfold Dat.owesAt Pipeline.owesWithin
    iintro ⟨⟨⟨%old, %ho, HU, HI⟩, Hg, HT⟩, ⟨%W, %hW, HO⟩, ⟨%d0, H0⟩, ⟨%d1, H1⟩, ⟨%d2, H2⟩, ⟨%d3, H3⟩⟩
    by_cases h31 : t.val + 1 < 32
    · have h2 := (cond2_iff t).mpr h31
      rw [slots_mid m c (t := t.val + 1) (by omega) h31 hs' hs2]
      iapply (run_mid c (grid0.coords t) (b0 m t) (b0w m t) (b1 m t) (b1w m t) (b2 m t) (b2w m t) (b3 m t) (b3w m t) (iblk m c 0 t) (iblk m c 1 t) (iblk m c 2 t) ((dats m 0 c).before 3 t d3) (T m) hB (old := old) (new := G (T m) (Y m c) (t.val + 1)) ho hr hB' (old' := G (T m) (Y m c) t.val) (new' := G (T m) (Y m c) (t.val + 1 + 1)) hb' (W := W) h1 h2 _)
      isplitl [H0]; · iexact H0
      isplitl [H1]; · iexact H1
      isplitl [H2]; · iexact H2
      isplitl [H3]; · iexact H3
      isplitl [HT]; · iexact HT
      isplitl [HU]; · iexact HU
      isplitl [HI]; · iexact HI
      isplitl [HO]; · iexact HO
      iintro ⟨H0, H1, H2, H3, HT, HI, HU, %W2, HO⟩
      isplitl [HI HU Hg HT]
      · isplitl [HI HU]
        · iexists (G (T m) (Y m c) t.val); isplitr
          · ipureintro; exact fun z hz => other (T m) (Y m c) t.val _ hs'.symm z hz
          isplitl [HU]; · iexact HU
          iexact HI
        isplitl [Hg]; · iexact Hg
        iexact HT
      isplitl [HO]
      · iexists W2; isplitr
        · ipureintro; exact fun _ _ => Or.inl trivial
        iexact HO
      isplitl [H0]; · iexact H0
      isplitl [H1]; · iexact H1
      isplitl [H2]; · iexact H2
      iexact H3
    · have h2 : ¬ k0_cond2 (grid0.coords t) = 1#1 := fun h => h31 ((cond2_iff t).mp h)
      have h31' : t.val = 31 := by omega
      rw [slots_end m c (t := t.val + 1) (by omega)]
      have e1 : thisSlot (grid0.coords t) = 1 := by rw [← hs, h31']
      have e0 : nextSlot (grid0.coords t) = 0 := by rw [← hs', h31']
      iapply (run_last c (grid0.coords t) (b0 m t) (b0w m t) (b1 m t) (b1w m t) (b2 m t) (b2w m t) (b3 m t) (b3w m t) (iblk m c 0 t) (iblk m c 1 t) (iblk m c 2 t) ((dats m 0 c).before 3 t d3) (T m) hB (old := old) (new := G (T m) (Y m c) (t.val + 1)) ho (W := W) h1 h2 _)
      isplitl [H0]; · iexact H0
      isplitl [H1]; · iexact H1
      isplitl [H2]; · iexact H2
      isplitl [H3]; · iexact H3
      isplitl [HT]; · iexact HT
      isplitl [HU]; · iexact HU
      isplitl [HO]; · iexact HO
      rw [e0]
      iintro ⟨H0, H1, H2, H3, HT, HU, %W2, HO⟩
      isplitl [HI HU Hg HT]
      · isplitl [HI HU]
        · iexists (G (T m) (Y m c) t.val), (G (T m) (Y m c) (t.val + 1))
          isplitl [HI]; · iexact HI
          irevert HU; rw [e1]; iintro HU; iexact HU
        isplitl [Hg]; · iexact Hg
        iexact HT
      isplitl [HO]
      · iexists W2; isplitr
        · ipureintro; exact fun _ _ => Or.inl trivial
        iexact HO
      isplitl [H0]; · iexact H0
      isplitl [H1]; · iexact H1
      isplitl [H2]; · iexact H2
      iexact H3

theorem defs₀_row (t : Fin (cfgM m).N) :
    defs₀ (F := F) .tc (cfgM m).body ((cfgM m).bodyArgs t ((cfgM m).slots t)) = bodyAt m t := by
  unfold defs₀; rw [Defs.onTc_tc]

theorem body_obligation (hN : Named (T m)) (c : Dev nD) : BodyObligation (dats (F := F) m 0 c) (defs₀ (F := F)) Variants.none () Set.univ := fun t => by
  rw [bigSep_W0, bigSep_W0, defs₀_row m]
  exact triple_restated (body_sound m hN c t) rfl .rfl fun _ => .rfl

/-! ## The run -/

abbrev osem : Fin 2 → SemLoc sig := fun k => .dma (slotSem k.val)

theorem ownSems_eq (c : Dev nD) : (Pipeline.ownSems0 osem c : sProp 𝕄)
    = iprop(semVal ((c : Thread nD τ), SemLoc.dma (slotSem 0)) 0 ∗ semVal ((c : Thread nD τ), SemLoc.dma (slotSem 1)) 0) := by
  unfold Pipeline.ownSems0
  rw [show (Finset.univ : Finset (Fin 2)) = insert (0 : Fin 2) {(1 : Fin 2)} from by decide, bigSep_insert (by decide), bigSep_singleton]
  rfl

theorem hin (c : Dev nD) : iprop(Pipeline.ΦD osem spec0 {main_arg3} (V m) c ∗ Pipeline.ΦT pre0 (tab m) c) ⊢ (dats m 0 c).Φ 0 := by
  rw [show (dats m 0 c).Φ 0 = Phi m c 0 from rfl, tabHalf_eq]
  unfold Phi Pipeline.ΦD
  rw [scopedRest0_eq, ownSems_eq, bigSep_singleton, slots_zero]
  iintro ⟨⟨⟨%z, HS⟩, Hg, ⟨H7, H8⟩, HY⟩, HT⟩
  ihave ⟨HA, HB⟩ := (slots_split c z).1 $$ HS
  ihave ⟨HYA, HYB⟩ := (pointsTo_share (PosShare.mem_left_op_right fullShare)).1 $$ HY
  isplitl [HA HB H7 H8 HYA HYB]
  · iexists z
    isplitl [HA H7 HYA]
    · iapply (idle_parts c).2
      isplitl [HA]; · iexact HA
      isplitl [HYA]; · iexact HYA
      iexact H7
    · iapply (idle_parts c).2
      isplitl [HB]; · iexact HB
      isplitl [HYB]; · iexact HYB
      iexact H8
  isplitl [Hg]; · iexact Hg
  iexact HT

/-- The two slots, whatever each holds, are the whole of the scratch. -/
theorem slots_join (c : Dev nD) (g g' : S2x1152x1024.Idx → Elt F .bf16) :
    (iprop(slotAt c (slot 0) g ∗ slotAt c (slot 1) g') : sProp 𝕄) ⊢ slotAt c Finset.univ (fun z => if (z 0).val = 0 then g z else g' z) := by
  refine .trans ?_ (slots_split c _).2
  rw [show (slotAt c (slot 0) (fun z => if (z 0).val = 0 then g z else g' z) : sProp 𝕄) = slotAt c (slot 0) g from
      pointsTo_congr fun z hz => if_pos (by rw [mem_slot] at hz; exact hz),
    show (slotAt c (slot 1) (fun z => if (z 0).val = 0 then g z else g' z) : sProp 𝕄) = slotAt c (slot 1) g' from
      pointsTo_congr fun z hz => if_neg (by rw [mem_slot] at hz; omega)]

theorem hout (c : Dev nD) : (dats m 0 c).Φ (Fin.last (cfgM m).N) ⊢ Pipeline.ΦD osem spec0 {main_arg3} (V m) c := by
  rw [show (dats m 0 c).Φ (Fin.last (cfgM m).N) = Phi m c (cfgM m).N from rfl]
  unfold Phi Pipeline.ΦD
  rw [scopedRest0_eq, ownSems_eq, bigSep_singleton, slots_end m c (le_of_eq N_0.symm)]
  iintro ⟨⟨%z, %z', HA, HB⟩, Hg, -⟩
  ihave ⟨HA, HYA, H7⟩ := (idle_parts c).1 $$ HA
  ihave ⟨HB, HYB, H8⟩ := (idle_parts c).1 $$ HB
  ihave HS := (slots_join c z z') $$ [HA HB]
  · isplitl [HA]; · iexact HA
    iexact HB
  ihave HY := (pointsTo_share (PosShare.mem_left_op_right fullShare)).2 $$ [HYA HYB]
  · isplitl [HYA]; · iexact HYA
    iexact HYB
  isplitl [HS]
  · iexists _; iexact HS
  isplitl [Hg]; · iexact Hg
  isplitl [H7 H8]
  · isplitl [H7]; · iexact H7
    iexact H8
  iexact HY

set_option backward.isDefEq.respectTransparency.types false in
/-- Every execution ends, with the arrays as the pipeline's data say and every semaphore at zero. -/
theorem run_main (hN : Named (T m)) : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_dma (Q' := _) pcfgs (fun _ => adm m) (dats m) (0 : Fin 1) launch0 osem defs₀ Variants.none (by decide : Pipeline.OwnSemFacts spec0 osem) {main_arg3} (by decide : ({main_arg3} : Finset (Ref sig .tc)) ⊆ Pipeline.restRefsP sig pre0 spec0) m ρ main
    (hbody := fun c => (body_obligation m hN c).loose) (hshare := fun c w => by unfold Dat.share; split <;> rfl)
    (howed := fun _ _ => rfl) (V := V m) (hmain := enter m Variants.none) (hA := A_eq m) (hpf := V_tab m) (hin := hin m) (hout := hout m)

/-- The arguments end as they were, and every semaphore at zero. -/
theorem run_frame (hN : Named (T m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
    ((h.1 c).2 main_arg0 (by decide : main_arg0 ∈ Pipeline.restRefs sig spec0)).trans (V_of_ne m c main_arg0 (by decide) (by decide)),
    ((h.1 c).2 main_arg1 (by decide : main_arg1 ∈ Pipeline.restRefs sig spec0)).trans (V_of_ne m c main_arg1 (by decide) (by decide)),
    ((h.1 c).1 1).trans (((dats m 0 c).arrAt_in 1 rfl _).trans ((A_eq m c 1).trans (V_of_ne m c main_arg2 (by decide) (by decide)))),
    ((h.1 c).2 main_arg3 (by decide : main_arg3 ∈ Pipeline.restRefs sig spec0)).trans (V_of_ne m c main_arg3 (by decide) (by decide)),
    ((h.1 c).2 main_arg4 (by decide : main_arg4 ∈ Pipeline.restRefs sig spec0)).trans (V_of_ne m c main_arg4 (by decide) (by decide))⟩, h.2⟩) (run_main m ρ hN)

end Cert.CombineIdeal.Hand

end
-- ==== Proof.CombineOk.lean ====
/- What the two conditions on the arguments say: the table's runs are whole groups that follow one another, and a token's
   two places lie in its block. -/
module

public import proofs.«01_k».proof.Proof.CombineFrame
public import proofs.«01_k».proof.Proof.Gen.Pre_segments_named
public import proofs.«01_k».proof.Proof.Gen.Pre_places_named
public import Idealize.ShloMosaic.Lib.Pointwise
public import Idealize.ShloMosaic.Lib.StableHlo.Predicate

@[expose] public section

set_option maxRecDepth 16384

noncomputable section

namespace Cert.CombineIdeal.Hand

open Cert.CombineIdeal Cert.CombineIdeal.Gen
open Idealize.ShloMosaic Idealize.ShloMosaic.TcCoe Idealize.ShloMosaic.Tactic

variable {F : FTy → Type} [FloatOps F]

/-! ## Comparisons of words -/

theorem and_one (a b : BitVec 1) : IntOp.andi a b = 1#1 ↔ a = 1#1 ∧ b = 1#1 := by revert a b; decide

theorem sge_one (a b : BitVec 32) : IntOp.cmpi .sge a b = 1#1 ↔ b.toInt ≤ a.toInt := by
  simp only [IntOp.cmpi, StableHlo.Predicate.ofBool_eq_one_iff, BitVec.sle_eq_decide, decide_eq_true_eq]
theorem sle_one (a b : BitVec 32) : IntOp.cmpi .sle a b = 1#1 ↔ a.toInt ≤ b.toInt := by
  simp only [IntOp.cmpi, StableHlo.Predicate.ofBool_eq_one_iff, BitVec.sle_eq_decide, decide_eq_true_eq]
theorem slt_one (a b : BitVec 32) : IntOp.cmpi .slt a b = 1#1 ↔ a.toInt < b.toInt := by
  simp only [IntOp.cmpi, StableHlo.Predicate.ofBool_eq_one_iff, BitVec.slt_eq_decide, decide_eq_true_eq]
theorem eq_one {w : ℕ} (a b : BitVec w) : IntOp.cmpi .eq a b = 1#1 ↔ a = b := by
  simp only [IntOp.cmpi, StableHlo.Predicate.ofBool_eq_one_iff, beq_iff_eq]

/-- A word from 0 to `n`, by its two comparisons. -/
theorem word_le (v : BitVec 32) (n : ℕ) (h0 : (0 : ℤ) ≤ v.toInt) (h1 : v.toInt ≤ n) : v.toNat ≤ n := by
  have e := BitVec.toInt_eq_toNat_cond v
  have l := v.isLt
  split at e <;> omega

/-- The remainder by sixteen as it prints, of a word that is not negative. -/
theorem rem_sixteen (v d : BitVec 32) (hd : d = 16#32) (h0 : (0 : ℤ) ≤ v.toInt)
    (h : Scalar.select (IntOp.andi (IntOp.cmpi .ne (IntOp.cmpi .slt (IntOp.remsi .host v d) 0#32) (IntOp.cmpi .slt d 0#32)) (IntOp.cmpi .ne (IntOp.remsi .host v d) 0#32))
      (IntOp.addi (IntOp.remsi .host v d) d) (IntOp.remsi .host v d) = 0#32) : v.toNat % 16 = 0 := by
  subst hd
  have er : IntOp.remsi .host v 16#32 = v.srem 16#32 := by
    unfold IntOp.remsi
    refine if_neg ?_
    unfold IntOp.SDivCorner
    rintro (h | h)
    · exact absurd h (by decide)
    · exact absurd h.2 (by decide)
  have ei : (v.srem 16#32).toInt = v.toInt % 16 := by
    rw [BitVec.toInt_srem, Int.tmod_eq_emod_of_nonneg h0]; rfl
  have hs : IntOp.cmpi .slt (v.srem 16#32) 0#32 = 0#1 := by
    rcases (by decide : ∀ b : BitVec 1, b = 0#1 ∨ b = 1#1) (IntOp.cmpi .slt (v.srem 16#32) 0#32) with e | e
    · exact e
    · have := (slt_one _ _).mp e; rw [ei] at this; have h16 : (0#32).toInt = 0 := rfl; omega
  rw [er, hs, show IntOp.andi (IntOp.cmpi .ne (0#1) (IntOp.cmpi .slt 16#32 0#32)) (IntOp.cmpi .ne (v.srem 16#32) 0#32) = 0#1 from
    (by decide : ∀ b : BitVec 1, IntOp.andi (IntOp.cmpi .ne (0#1) (IntOp.cmpi .slt 16#32 0#32)) b = 0#1) _] at h
  have h' : v.srem 16#32 = 0#32 := h
  rw [h'] at ei
  have e := BitVec.toInt_eq_toNat_cond v
  have l := v.isLt
  have h16 : (0#32).toInt = 0 := rfl
  split at e <;> omega

/-! ## The table's entries -/

/-- What expert `e`'s three entries of the block `r` are. -/
structure Entry (f : S32x24.Idx → BitVec 32) (r : Fin 32) (e : Fin 8) : Prop where
  cntLe : (f (ix2 r (⟨8 + e.val, by omega⟩ : Fin 24))).toNat ≤ 1152
  cntMod : (f (ix2 r (⟨8 + e.val, by omega⟩ : Fin 24))).toNat % 16 = 0
  goMod : (f (ix2 r (⟨16 + e.val, by omega⟩ : Fin 24))).toNat % 16 = 0
  goLe : (f (ix2 r (⟨16 + e.val, by omega⟩ : Fin 24))).toNat + (f (ix2 r (⟨8 + e.val, by omega⟩ : Fin 24))).toNat ≤ 44032
  next : ∀ h : e.val < 7, f (ix2 r (⟨1 + e.val, by omega⟩ : Fin 24)) = f (ix2 r (⟨e.val, by omega⟩ : Fin 24)) + f (ix2 r (⟨8 + e.val, by omega⟩ : Fin 24))
  last : e.val = 7 → (f (ix2 r (7 : Fin 24)) + f (ix2 r (15 : Fin 24))).toInt ≤ 1152
  first : e.val = 0 → f (ix2 r (0 : Fin 24)) = 0#32

theorem entry_of (f : S32x24.Idx → BitVec 32) (r : Fin 32) (e : Fin 8) {pc go d : BitVec 32} (hd : d = 16#32)
    (hpc : pc = f (ix2 r (⟨8 + e.val, by omega⟩ : Fin 24))) (hgo : go = f (ix2 r (⟨16 + e.val, by omega⟩ : Fin 24)))
    (h0 : IntOp.cmpi .sge pc 0#32 = 1#1) (h1 : IntOp.cmpi .sle pc 1152#32 = 1#1)
    (h2 : IntOp.cmpi .sge go 0#32 = 1#1) (h3 : IntOp.cmpi .sle go (IntOp.subi 44032#32 pc) = 1#1)
    (h4 : IntOp.cmpi .eq (Scalar.select (IntOp.andi (IntOp.cmpi .ne (IntOp.cmpi .slt (IntOp.remsi .host pc d) 0#32) (IntOp.cmpi .slt d 0#32)) (IntOp.cmpi .ne (IntOp.remsi .host pc d) 0#32))
      (IntOp.addi (IntOp.remsi .host pc d) d) (IntOp.remsi .host pc d)) 0#32 = 1#1)
    (h5 : IntOp.cmpi .eq (Scalar.select (IntOp.andi (IntOp.cmpi .ne (IntOp.cmpi .slt (IntOp.remsi .host go d) 0#32) (IntOp.cmpi .slt d 0#32)) (IntOp.cmpi .ne (IntOp.remsi .host go d) 0#32))
      (IntOp.addi (IntOp.remsi .host go d) d) (IntOp.remsi .host go d)) 0#32 = 1#1)
    (hn : ∀ h : e.val < 7, f (ix2 r (⟨1 + e.val, by omega⟩ : Fin 24)) = f (ix2 r (⟨e.val, by omega⟩ : Fin 24)) + f (ix2 r (⟨8 + e.val, by omega⟩ : Fin 24)))
    (hl : e.val = 7 → (f (ix2 r (7 : Fin 24)) + f (ix2 r (15 : Fin 24))).toInt ≤ 1152)
    (hf : e.val = 0 → f (ix2 r (0 : Fin 24)) = 0#32) : Entry f r e := by
  subst hpc; subst hgo
  have z : (0#32).toInt = 0 := rfl
  rw [sge_one, z] at h0 h2
  rw [sle_one] at h1 h3
  rw [eq_one] at h4 h5
  have p := word_le _ 1152 h0 h1
  have s : (IntOp.subi 44032#32 (f (ix2 r (⟨8 + e.val, by omega⟩ : Fin 24)))).toInt = 44032 - (f (ix2 r (⟨8 + e.val, by omega⟩ : Fin 24))).toNat := by
    show (44032#32 - _).toInt = _
    rw [BitVec.toInt_eq_toNat_cond, BitVec.toNat_sub]
    have c : (44032#32).toNat = 44032 := rfl
    rw [c]
    split <;> omega
  rw [s] at h3
  have q := word_le _ (44032 - (f (ix2 r (⟨8 + e.val, by omega⟩ : Fin 24))).toNat) h2 (by omega)
  exact ⟨p, rem_sixteen _ d hd h0 h4, rem_sixteen _ d hd h2 h5, by omega, hn, hl, hf⟩

theorem segments_entry (w : IVec S32x24 32) (x : FVec F S8x2048x1024 .f32) (r : FVec F S8x16384 .f32) (y : FVec F S44032x1024 .bf16) (g : FVec F S1024 .f32)
    (h : Cert.Pre_segments_named.fn w x r y g = fun _ => 1#1) (b : Fin 32) (e : Fin 8) : Entry w b e := by
  have h0 := congrFun h (ix2 b e)
  unfold Cert.Pre_segments_named.fn Cert.Pre_segments_named.fn_part1 Cert.Pre_segments_named.fn_part2 Cert.Pre_segments_named.fn_remainder Cert.Pre_segments_named.fn_where at h0
  pointwise at h0
  simp only [and_one] at h0
  obtain ⟨⟨⟨⟨h0, h1⟩, h2, h3⟩, h4, h5⟩, hn, hf⟩ := h0
  refine entry_of w b e rfl rfl rfl h0 h1 h2 h3 h4 h5 (fun h => ?_) (fun h => ?_) (fun h => ?_)
  · rw [dif_pos h, eq_one] at hn; exact hn
  · rw [dif_neg (by omega), sle_one] at hn
    have e1 : (⟨7 + (e.val - 7), by omega⟩ : Fin 24) = 7 := Fin.ext (by show 7 + (e.val - 7) = 7; omega)
    have e2 : (⟨8 + (7 + (e.val - 7)), by omega⟩ : Fin 24) = 15 := Fin.ext (by show 8 + (7 + (e.val - 7)) = 15; omega)
    rw [e1, e2] at hn; exact hn
  · rw [dif_pos (by omega), eq_one] at hf
    have e1 : (⟨e.val, by omega⟩ : Fin 24) = 0 := Fin.ext h
    rw [e1] at hf; exact hf

/-- The place of a token, as the kernel and the reference read it. -/
abbrev placeAt (r : FVec F S8x16384 .f32) (a : Fin 2) (b : Fin 32) (n : Fin 512) : F .f32 := r (ix2 (⟨a.val, by omega⟩ : Fin 8) (⟨b.val * 512 + n.val, by omega⟩ : Fin 16384))

theorem places_entry (w : IVec S32x24 32) (x : FVec F S8x2048x1024 .f32) (r : FVec F S8x16384 .f32) (y : FVec F S44032x1024 .bf16) (g : FVec F S1024 .f32)
    (h : Cert.Pre_places_named.fn w x r y g = fun _ => 1#1) (a : Fin 2) (b : Fin 32) (n : Fin 512) (e : Fin 8) :
    Entry w b e ∧ FloatOps.cmpf .oeq (FloatOps.sitofp .f32 (FloatOps.fptosi 32 (placeAt r a b n))) (placeAt r a b n) = 1#1
      ∧ 0 ≤ (FloatOps.fptosi 32 (placeAt r a b n) : BitVec 32).toInt ∧ (FloatOps.fptosi 32 (placeAt r a b n) : BitVec 32).toInt < (w (ix2 b (7 : Fin 24)) + w (ix2 b (15 : Fin 24))).toInt := by
  have h0 := congrFun h (ix4 a b n e)
  unfold Cert.Pre_places_named.fn Cert.Pre_places_named.fn_part1 Cert.Pre_places_named.fn_part2 Cert.Pre_places_named.fn_remainder Cert.Pre_places_named.fn_where at h0
  pointwise at h0
  simp only [and_one] at h0
  obtain ⟨⟨⟨⟨⟨h0, h1⟩, h2, h3⟩, h4, h5⟩, hn, hf⟩, hp, hq, hr⟩ := h0
  refine ⟨entry_of w b e rfl rfl rfl h0 h1 h2 h3 h4 h5 (fun h => ?_) (fun h => ?_) (fun h => ?_), hp, (sge_one _ _).mp hq, (slt_one _ _).mp hr⟩
  · rw [dif_pos h, eq_one] at hn; exact hn
  · rw [dif_neg (by omega), sle_one] at hn
    have e1 : (⟨7 + (e.val - 7), by omega⟩ : Fin 24) = 7 := Fin.ext (by show 7 + (e.val - 7) = 7; omega)
    have e2 : (⟨8 + (7 + (e.val - 7)), by omega⟩ : Fin 24) = 15 := Fin.ext (by show 8 + (7 + (e.val - 7)) = 15; omega)
    rw [e1, e2] at hn; exact hn
  · rw [dif_pos (by omega), eq_one] at hf
    have e1 : (⟨e.val, by omega⟩ : Fin 24) = 0 := Fin.ext h
    rw [e1] at hf; exact hf

/-! ## The runs -/

section
variable {f : S32x24.Idx → BitVec 32} {r : Fin 32} (hE : ∀ e : Fin 8, Entry f r e)
include hE

theorem ns_eq (e : Fin 8) : (f (ix2 r (⟨8 + e.val, by omega⟩ : Fin 24))).toNat = 16 * nsOf f r e.val := by
  unfold nsOf; rw [dif_pos e.isLt]
  have := (hE e).cntMod; omega

theorem cut_le' : ∀ e : ℕ, e ≤ 8 → cutOf f r e ≤ 72 * e
  | 0, _ => le_refl _
  | e + 1, h => by
    have h1 := cut_le' e (by omega)
    have h2 := ns_eq hE ⟨e, by omega⟩
    have h3 := (hE ⟨e, by omega⟩).cntLe
    have h4 : cutOf f r (e + 1) = cutOf f r e + nsOf f r e := rfl
    have h2' : (f (ix2 r (⟨8 + e, by omega⟩ : Fin 24))).toNat = 16 * nsOf f r e := h2
    have h3' : (f (ix2 r (⟨8 + e, by omega⟩ : Fin 24))).toNat ≤ 1152 := h3
    omega

/-- Expert `e`'s run begins at its cut, -/
theorem lo_eq : ∀ (e : ℕ) (h : e < 8), (f (ix2 r (⟨e, by omega⟩ : Fin 24))).toNat = 16 * cutOf f r e
  | 0, _ => by
    have := (hE 0).first rfl
    rw [show (⟨0, by omega⟩ : Fin 24) = 0 from rfl, this]; rfl
  | e + 1, h => by
    have h1 := lo_eq e (by omega)
    have h2 : (f (ix2 r (⟨8 + e, by omega⟩ : Fin 24))).toNat = 16 * nsOf f r e := ns_eq hE ⟨e, by omega⟩
    have h3 : f (ix2 r (⟨1 + e, by omega⟩ : Fin 24)) = f (ix2 r (⟨e, by omega⟩ : Fin 24)) + f (ix2 r (⟨8 + e, by omega⟩ : Fin 24)) := (hE ⟨e, by omega⟩).next (by show e < 7; omega)
    have h4 := cut_le' hE e (by omega)
    have h5 : (f (ix2 r (⟨8 + e, by omega⟩ : Fin 24))).toNat ≤ 1152 := (hE ⟨e, by omega⟩).cntLe
    have e1 : (⟨e + 1, by omega⟩ : Fin 24) = ⟨1 + e, by omega⟩ := Fin.ext (Nat.add_comm _ _)
    have h6 : cutOf f r (e + 1) = cutOf f r e + nsOf f r e := rfl
    rw [e1, h3, BitVec.toNat_add, h1, h2, Nat.mod_eq_of_lt (by omega), h6]; omega

/-- and the last one ends inside the slot. -/
theorem rows_eq : (f (ix2 r (7 : Fin 24)) + f (ix2 r (15 : Fin 24))).toNat = 16 * cutOf f r 8 ∧ cutOf f r 8 ≤ 72 := by
  have h1 : (f (ix2 r (7 : Fin 24))).toNat = 16 * cutOf f r 7 := lo_eq hE 7 (by omega)
  have h2 : (f (ix2 r (15 : Fin 24))).toNat = 16 * nsOf f r 7 := ns_eq hE 7
  have h4 := cut_le' hE 7 (by omega)
  have h5 : (f (ix2 r (15 : Fin 24))).toNat ≤ 1152 := (hE 7).cntLe
  have h6 : cutOf f r 8 = cutOf f r 7 + nsOf f r 7 := rfl
  have h7 := (hE 7).last rfl
  have e : (f (ix2 r (7 : Fin 24)) + f (ix2 r (15 : Fin 24))).toNat = 16 * cutOf f r 8 := by
    rw [BitVec.toNat_add, h1, h2, Nat.mod_eq_of_lt (by omega), h6]; omega
  refine ⟨e, ?_⟩
  rw [BitVec.toInt_eq_toNat_cond, e] at h7
  split at h7 <;> omega

theorem cut_lt (a b : ℕ) (h : a < b) : cutOf f r a + nsOf f r a ≤ cutOf f r b := by
  obtain ⟨k, rfl⟩ := Nat.exists_eq_add_of_lt h
  have := cut_mono f r (a + 1) k
  rw [show a + 1 + k = a + k + 1 by omega] at this
  exact this

theorem sg_eq (e : Fin 8) (k : ℕ) (hk : k < nsOf f r e.val) :
    sgOf f r (cutOf f r e.val + k) = (f (ix2 r (⟨16 + e.val, by omega⟩ : Fin 24))).toNat / 16 + k := by
  unfold sgOf
  rw [Finset.sum_eq_single e]
  · rw [if_pos (by omega)]; omega
  · intro e' _ hne
    refine if_neg ?_
    rcases Nat.lt_or_gt_of_ne (fun h => hne (Fin.ext h)) with h | h
    · have := cut_lt hE _ _ h; omega
    · have := cut_lt hE _ _ h; omega
  · intro h; exact absurd (Finset.mem_univ _) h

theorem blk_of : Blk f r (sgOf f r) (cutOf f r) (nsOf f r) where
  zero := rfl
  step _ := rfl
  seg e := by
    have hn := ns_eq hE e
    have hg := (hE e).goMod
    have hb := (hE e).goLe
    have hc := (hE e).cntLe
    have hcut : cutOf f r e.val + nsOf f r e.val ≤ 72 := by
      have h8 : cutOf f r e.val + nsOf f r e.val ≤ cutOf f r 8 := cut_lt hE e.val 8 e.isLt
      have := (rows_eq hE).2; omega
    exact ⟨⟨hn, by omega⟩, lo_eq hE e.val e.isLt, hcut, (f (ix2 r (⟨16 + e.val, by omega⟩ : Fin 24))).toNat / 16, by omega, by omega, fun k hk => sg_eq hE e k hk⟩

end

theorem named_of {f : S32x24.Idx → BitVec 32} (hE : ∀ r e, Entry f r e) : Named f := fun r => blk_of (hE r)

end Cert.CombineIdeal.Hand

end
-- ==== Proof.CombineFold.lean ====
/- What the combine kernel computes: a token's two rows picked out of the block's slot, weighted, added to the token and
   scaled, and the result array element by element. -/
module

public import proofs.«01_k».proof.Proof.CombineOk
public import proofs.«01_k».proof.Proof.Spec
public import Idealize.ShloMosaic.Lib.Pipeline.Value
public import Idealize.ShloMosaic.Lib.Tactic

@[expose] public section

set_option maxRecDepth 16384

noncomputable section

namespace Cert.CombineIdeal.Hand

open Cert.CombineIdeal Cert.CombineIdeal.Gen
open Idealize.ShloMosaic Idealize.ShloMosaic.TcCoe Idealize.ShloMosaic.Tactic Idealize.SL.Sem
open Idealize.ShloMosaic.Pipeline (Dat)

/-! ## The payloads at an index -/

theorem pick1_apply (r : Vec Ideal S8x512 .f32) (i : S512x1152.Idx) :
    k0_pay5 (F := Ideal) r i = if FloatOps.sitofp (F := Ideal) .f32 (BitVec.ofNat 32 (i 1).val) = r (ix2 0 (i 0)) then 1 else 0 := by
  unfold k0_pay5 k0_pay4 k0_pay3
  pointwise
  first | done | rfl

theorem pick2_apply (r : Vec Ideal S8x512 .f32) (i : S512x1152.Idx) :
    k0_pay6 (F := Ideal) r i = if FloatOps.sitofp (F := Ideal) .f32 (BitVec.ofNat 32 (i 1).val) = r (ix2 1 (i 0)) then 1 else 0 := by
  unfold k0_pay6 k0_pay4 k0_pay3
  pointwise
  first | done | rfl

/-- A token with its two weighted rows added. -/
def mixedOf (x : Vec Ideal S512x1024 .f32) (r : Vec Ideal S8x512 .f32) (g : Vec Ideal S1x1152x1024 .bf16) (p : Fin 512) (k : Fin 1024) : EReal :=
  x (ix2 p k) + (r (ix2 2 p) * ∑ q, k0_pay5 (F := Ideal) r (ix2 p q) * g (ix3 0 q k) + r (ix2 3 p) * ∑ q, k0_pay6 (F := Ideal) r (ix2 p q) * g (ix3 0 q k))

theorem combined_apply (x : Vec Ideal S512x1024 .f32) (r : Vec Ideal S8x512 .f32) (w : Vec Ideal S1x1024 .f32) (g : Vec Ideal S1x1152x1024 .bf16) (i : S512x1024.Idx) :
    combined (F := Ideal) x r w g i = mixedOf x r g (i 0) (i 1) * Ideal.rsqrt (Ideal.div (∑ k, mixedOf x r g (i 0) k * mixedOf x r g (i 0) k) (Ideal.ofBits .f32 0x44800000#32)
      + Ideal.ofBits .f32 0x358637BD#32) * w (ix2 0 (i 1)) := by
  unfold mixedOf combined k0_pay1 k0_pay8 k0_pay3 k0_pay7
  generalize k0_pay5 r = p5
  generalize k0_pay6 r = p6
  pointwise

/-! ## The arguments over natural-number indices -/

/-- Token `n`'s features, its two places and weights, the sorted rows and the gain. -/
def inp (x1 : S8x2048x1024.Idx → EReal) (n k : ℕ) : EReal := x1 (ix3 (Fin.ofNat 8 (n / 2048)) (Fin.ofNat 2048 n) (Fin.ofNat 1024 k))
def rt (x2 : S8x16384.Idx → EReal) (a n : ℕ) : EReal := x2 (ix2 (Fin.ofNat 8 a) (Fin.ofNat 16384 n))
def rows (x3 : S44032x1024.Idx → EReal) (r k : ℕ) : EReal := x3 (ix2 (Fin.ofNat 44032 r) (Fin.ofNat 1024 k))
def gain (x4 : S1024.Idx → EReal) (k : ℕ) : EReal := x4 (ix1 (Fin.ofNat 1024 k))
/-- Token `n`'s place in its block, by the `a`-th of its experts, as a word. -/
def word (x2 : S8x16384.Idx → EReal) (a n : ℕ) : BitVec 32 := FloatOps.fptosi (F := Ideal) (φ := .f32) 32 (rt x2 a n)
/-- The block of token `n`, and the sorted row at place `i` of it. -/
abbrev blockOf (n : ℕ) : Fin 32 := Fin.ofNat 32 (n / 512)
def srcOf (w : S32x24.Idx → BitVec 32) (n i : ℕ) : ℕ := 16 * sgOf w (blockOf n) (i / 16) + i % 16

/-- The places are whole numbers inside the block's rows. -/
structure Placed (w : S32x24.Idx → BitVec 32) (x2 : S8x16384.Idx → EReal) : Prop where
  named : Named w
  entry : ∀ b e, Entry w b e
  whole : ∀ a n : ℕ, a < 2 → n < 16384 → rt x2 a n = (((word x2 a n).toNat : ℝ) : EReal)
  inside : ∀ a n : ℕ, a < 2 → n < 16384 → (word x2 a n).toNat < 16 * cutOf w (blockOf n) 8

/-- The experts' share and the token itself. -/
def mixed (w : S32x24.Idx → BitVec 32) (x1 : S8x2048x1024.Idx → EReal) (x2 : S8x16384.Idx → EReal) (x3 : S44032x1024.Idx → EReal) (n k : ℕ) : EReal :=
  inp x1 n k + (rt x2 2 n * rows x3 (srcOf w n (word x2 0 n).toNat) k + rt x2 3 n * rows x3 (srcOf w n (word x2 1 n).toNat) k)
/-- The result. -/
def resOf (w : S32x24.Idx → BitVec 32) (x1 : S8x2048x1024.Idx → EReal) (x2 : S8x16384.Idx → EReal) (x3 : S44032x1024.Idx → EReal) (x4 : S1024.Idx → EReal) : ℕ → ℕ → EReal :=
  Spec.scaled (mixed w x1 x2 x3) (gain x4)

/-- A whole number of a slot's rows as the kernel counts them. -/
theorem sitofp_nat (n : ℕ) (h : n < 2 ^ 31) : FloatOps.sitofp (F := Ideal) .f32 (BitVec.ofNat 32 n) = ((n : ℝ) : EReal) := by
  have e : (BitVec.ofNat 32 n).toInt = n := by
    rw [BitVec.toInt_eq_toNat_cond, BitVec.toNat_ofNat, Nat.mod_eq_of_lt (by omega), if_pos (by omega)]
  show (((BitVec.ofNat 32 n).toInt : ℝ) : EReal) = _
  rw [e, Int.cast_natCast]

/-- One of the slot's rows, picked by a sum. -/
theorem pick_sum (v : EReal) (n : ℕ) (hv : v = ((n : ℝ) : EReal)) (hn : n < 1152) (g : Fin 1152 → EReal) :
    ∑ q : Fin 1152, (if FloatOps.sitofp (F := Ideal) .f32 (BitVec.ofNat 32 q.val) = v then (1 : EReal) else 0) * g q = g ⟨n, hn⟩ := by
  rw [Finset.sum_eq_single (⟨n, hn⟩ : Fin 1152)]
  · rw [if_pos (by rw [sitofp_nat n (by omega), hv]), one_mul]
  · intro q _ hq
    have hq' := q.isLt
    rw [if_neg, zero_mul]
    rw [sitofp_nat q.val (by omega), hv]
    intro h
    exact hq (Fin.ext (Nat.cast_injective (EReal.coe_injective h)))
  · exact fun h => absurd (Finset.mem_univ _) h

variable (m : (ℓ : Loc nD τ sig) → Buf (Elt Ideal) ℓ)

abbrev a0 (c : Dev nD) : S32x24.Idx → BitVec 32 := m ((c : Thread nD τ).loc main_arg0)
abbrev a1 (c : Dev nD) : S8x2048x1024.Idx → EReal := m ((c : Thread nD τ).loc main_arg1)
abbrev a2 (c : Dev nD) : S8x16384.Idx → EReal := m ((c : Thread nD τ).loc main_arg2)
abbrev a3 (c : Dev nD) : S44032x1024.Idx → EReal := m ((c : Thread nD τ).loc main_arg3)
abbrev a4 (c : Dev nD) : S1024.Idx → EReal := m ((c : Thread nD τ).loc main_arg4)

/-! ## The arrays the windows read -/

theorem T_eq (c : Dev nD) : T m = a0 m c := by
  obtain rfl : c = 0 := Subsingleton.elim _ _
  exact V_of_ne m 0 main_arg0 (by decide) (by decide)
theorem Y_eq (c : Dev nD) : Y m c = a3 m c := V_of_ne m c main_arg3 (by decide) (by decide)

theorem V0 (c : Dev nD) : (V m c main_v0 : S16384x1024.Idx → EReal)
    = shapeCast S16384x1024 (m ((c : Thread nD τ).loc main_arg1) : Vec Ideal S8x2048x1024 .f32) shapeCasts_S8x2048x1024_S16384x1024 := by
  show StableHlo.after hostOps0 _ _ = _
  after_results_simp <;> rfl

theorem V1 (c : Dev nD) : (V m c main_v1 : S1x1024.Idx → EReal)
    = shapeCast S1x1024 (m ((c : Thread nD τ).loc main_arg4) : Vec Ideal S1024 .f32) shapeCasts_S1024_S1x1024 := by
  show StableHlo.after hostOps0 _ _ = _
  after_results_simp <;> rfl

theorem V0_apply (c : Dev nD) (i : S16384x1024.Idx) : (V m c main_v0 : S16384x1024.Idx → EReal) i = inp (a1 m c) (i 0).val (i 1).val := by
  have h0 : (i 0).val < 16384 := (i 0).isLt
  have h1 : (i 1).val < 1024 := (i 1).isLt
  rw [V0]
  exact shapeCast_apply (a1 m c) shapeCasts_S8x2048x1024_S16384x1024 i
    (ix3 (Fin.ofNat 8 ((i 0).val / 2048)) (Fin.ofNat 2048 (i 0).val) (Fin.ofNat 1024 (i 1).val)) (by
      show (Shape.rowMajor (s := S8x2048x1024) (ix3 (Fin.ofNat 8 ((i 0).val / 2048)) (Fin.ofNat 2048 (i 0).val) (Fin.ofNat 1024 (i 1).val))).val = (Shape.rowMajor (s := S16384x1024) i).val
      rw [Shape.rowMajor_val_three, Shape.rowMajor_val_two]
      show (((i 0).val / 2048 % 8) * 2048 + (i 0).val % 2048) * 1024 + (i 1).val % 1024 = (i 0).val * 1024 + (i 1).val
      omega)

theorem V1_apply (c : Dev nD) (i : S1x1024.Idx) : (V m c main_v1 : S1x1024.Idx → EReal) i = gain (a4 m c) (i 1).val := by
  have h0 : (i 0).val < 1 := (i 0).isLt
  have h1 : (i 1).val < 1024 := (i 1).isLt
  rw [V1]
  exact shapeCast_apply (a4 m c) shapeCasts_S1024_S1x1024 i (ix1 (Fin.ofNat 1024 (i 1).val)) (by
      show (Shape.rowMajor (s := S1024) (ix1 (Fin.ofNat 1024 (i 1).val))).val = (Shape.rowMajor (s := S1x1024) i).val
      rw [Shape.rowMajor_val_one, Shape.rowMajor_val_two]
      show (i 1).val % 1024 = (i 0).val * 1024 + (i 1).val
      omega)

theorem V2_apply (c : Dev nD) (i : S8x16384.Idx) : (V m c main_arg2 : S8x16384.Idx → EReal) i = rt (a2 m c) (i 0).val (i 1).val := by
  have h0 : (i 0).val < 8 := (i 0).isLt
  have h1 : (i 1).val < 16384 := (i 1).isLt
  rw [V_of_ne m c main_arg2 (by decide) (by decide)]
  unfold rt
  congr 1
  funext a
  apply Fin.ext
  match a with
  | ⟨0, _⟩ => show (i 0).val = (i 0).val % 8; omega
  | ⟨1, _⟩ => show (i 1).val = (i 1).val % 16384; omega

/-! ## The windows' blocks -/

theorem map0 (t : Fin grid0.N) : (BitVec.ofNat 32 (grid0.coords t 0).val).toNat = t.val := by
  have ht : t.val < 32 := Nat.lt_of_lt_of_eq t.isLt N_0
  rw [block_val, BitVec.toNat_ofNat]; omega

set_option maxHeartbeats 1000000 in
theorem iblk0_eq (c : Dev nD) (t : Fin (cfgM m).N) (i : S512x1024.Idx) : ∃ k : S16384x1024.Idx,
    ((k 0).val = (BitVec.ofNat 32 (grid0.coords t 0).val).toNat * 512 + 1 * (i 0).val ∧ (k 1).val = 0 * 1024 + 1 * (i 1).val)
    ∧ (iblk m c 0 t : S512x1024.Idx → EReal) i = (V m c main_v0 : S16384x1024.Idx → EReal) k :=
  ⟨(((cfgM m).win 0).blk t).view.emb i, ⟨rfl, rfl⟩, rfl⟩

set_option maxHeartbeats 1000000 in
theorem iblk1_eq (c : Dev nD) (t : Fin (cfgM m).N) (i : S8x512.Idx) : ∃ k : S8x16384.Idx,
    ((k 0).val = 0 * 8 + 1 * (i 0).val ∧ (k 1).val = (BitVec.ofNat 32 (grid0.coords t 0).val).toNat * 512 + 1 * (i 1).val)
    ∧ (iblk m c 1 t : S8x512.Idx → EReal) i = (V m c main_arg2 : S8x16384.Idx → EReal) k :=
  ⟨(((cfgM m).win 1).blk t).view.emb i, ⟨rfl, rfl⟩, rfl⟩

set_option maxHeartbeats 1000000 in
theorem iblk2_eq (c : Dev nD) (t : Fin (cfgM m).N) (i : S1x1024.Idx) : ∃ k : S1x1024.Idx,
    ((k 0).val = 0 * 1 + 1 * (i 0).val ∧ (k 1).val = 0 * 1024 + 1 * (i 1).val)
    ∧ (iblk m c 2 t : S1x1024.Idx → EReal) i = (V m c main_v1 : S1x1024.Idx → EReal) k :=
  ⟨(((cfgM m).win 2).blk t).view.emb i, ⟨rfl, rfl⟩, rfl⟩

theorem blk0 (c : Dev nD) (t : Fin (cfgM m).N) (i : S512x1024.Idx) :
    (iblk m c 0 t : S512x1024.Idx → EReal) i = inp (a1 m c) (512 * t.val + (i 0).val) (i 1).val := by
  obtain ⟨k, ⟨e0, e1⟩, hr⟩ := iblk0_eq m c t i
  rw [map0] at e0
  rw [hr, V0_apply, e0, e1]
  congr 1 <;> omega

theorem blk1 (c : Dev nD) (t : Fin (cfgM m).N) (i : S8x512.Idx) :
    (iblk m c 1 t : S8x512.Idx → EReal) i = rt (a2 m c) (i 0).val (512 * t.val + (i 1).val) := by
  obtain ⟨k, ⟨e0, e1⟩, hr⟩ := iblk1_eq m c t i
  rw [map0] at e1
  rw [hr, V2_apply, e0, e1]
  congr 1 <;> omega

theorem blk2 (c : Dev nD) (t : Fin (cfgM m).N) (i : S1x1024.Idx) :
    (iblk m c 2 t : S1x1024.Idx → EReal) i = gain (a4 m c) (i 1).val := by
  obtain ⟨k, ⟨-, e1⟩, hr⟩ := iblk2_eq m c t i
  rw [hr, V1_apply, e1]
  congr 1; omega

/-! ## The slot's rows and the block's result -/

theorem block_row (t : ℕ) (ht : t < 32) (p : Fin 512) : blockOf (512 * t + p.val) = row t := by
  have hp := p.isLt
  refine Fin.ext ?_
  show (512 * t + p.val) / 512 % 32 = min t 31
  omega

theorem slot_row (f : S32x24.Idx → BitVec 32) (hN : Named f) (y : S44032x1024.Idx → EReal) (t : Fin grid0.N) (q : Fin 1152) (j : Fin 1024) (p : Fin 512)
    (hq : q.val < 16 * cutOf f (row t.val) 8) :
    slotVec (F := Ideal) (G (F := Ideal) f y (t.val + 1)) (thisSlot (grid0.coords t)) (thisSlot_lt _) (ix3 0 q j) = rows y (srcOf f (512 * t.val + p.val) q.val) j.val := by
  have ht : t.val < 32 := Nat.lt_of_lt_of_eq t.isLt N_0
  have hj := j.isLt
  show (if _ then _ else _) = _
  rw [if_pos ⟨by show thisSlot (grid0.coords t) = t.val % 2; rw [thisSlot_eq, block_val], hq⟩]
  unfold rows srcOf
  rw [block_row t.val ht p]
  refine congrArg y (funext fun a => Fin.ext ?_)
  match a with
  | ⟨0, _⟩ => rfl
  | ⟨1, _⟩ => show j.val = j.val % 1024; omega

theorem mixed_apply (c : Dev nD) (hP : Placed (a0 m c) (a2 m c)) (t : Fin grid0.N) (x : Vec Ideal S512x1024 .f32) (r : Vec Ideal S8x512 .f32)
    (hx : ∀ i : S512x1024.Idx, x i = inp (a1 m c) (512 * t.val + (i 0).val) (i 1).val) (hr : ∀ i : S8x512.Idx, r i = rt (a2 m c) (i 0).val (512 * t.val + (i 1).val))
    (p : Fin 512) (k : Fin 1024) :
    mixedOf x r (slotVec (F := Ideal) (G (F := Ideal) (T m) (Y m c) (t.val + 1)) (thisSlot (grid0.coords t)) (thisSlot_lt _)) p k
      = mixed (a0 m c) (a1 m c) (a2 m c) (a3 m c) (512 * t.val + p.val) k.val := by
  have ht : t.val < 32 := Nat.lt_of_lt_of_eq t.isLt N_0
  have hp := p.isLt
  rw [T_eq m c, Y_eq m c]
  unfold mixedOf mixed
  simp only [pick1_apply, pick2_apply]
  have hb := block_row t.val ht p
  have hc : cutOf (a0 m c) (row t.val) 8 ≤ 72 := by
    have e : cutOf (a0 m c) (row t.val) 8 = cutOf (a0 m c) (row t.val) 7 + nsOf (a0 m c) (row t.val) 7 := rfl
    have f := ((hP.named (row t.val)).seg 7).fits
    have f' : cutOf (a0 m c) (row t.val) 7 + nsOf (a0 m c) (row t.val) 7 ≤ 72 := f
    omega
  have hw : ∀ a, a < 2 → (word (a2 m c) a (512 * t.val + p.val)).toNat < 16 * cutOf (a0 m c) (row t.val) 8 := fun a ha => by
    have := hP.inside a (512 * t.val + p.val) ha (by omega)
    rwa [hb] at this
  have h0 := hw 0 (by omega)
  have h1 := hw 1 (by omega)
  have e0 : r (ix2 0 p) = _ := (hr (ix2 0 p)).trans (hP.whole 0 (512 * t.val + p.val) (by omega) (by omega))
  have e1 : r (ix2 1 p) = _ := (hr (ix2 1 p)).trans (hP.whole 1 (512 * t.val + p.val) (by omega) (by omega))
  refine congrArg₂ (· + ·) (hx (ix2 p k)) (congrArg₂ (· + ·) (congrArg₂ (· * ·) (hr (ix2 2 p)) ?_) (congrArg₂ (· * ·) (hr (ix2 3 p)) ?_))
  · refine (pick_sum _ _ e0 (by omega) _).trans ?_
    exact slot_row _ hP.named _ t ⟨_, _⟩ k p h0
  · refine (pick_sum _ _ e1 (by omega) _).trans ?_
    exact slot_row _ hP.named _ t ⟨_, _⟩ k p h1

/-- The result array. -/
def resM (c : Dev nD) : ℕ → ℕ → EReal := resOf (a0 m c) (a1 m c) (a2 m c) (a3 m c) (a4 m c)
def Res (c : Dev nD) : Buf (Elt Ideal) ((c : Thread nD τ).loc main_v2) := fun i : S16384x1024.Idx => resM m c (i 0).val (i 1).val

theorem out_of (c : Dev nD) (hP : Placed (a0 m c) (a2 m c)) (t : Fin grid0.N) (x : Vec Ideal S512x1024 .f32) (r : Vec Ideal S8x512 .f32) (w : Vec Ideal S1x1024 .f32)
    (hx : ∀ i : S512x1024.Idx, x i = inp (a1 m c) (512 * t.val + (i 0).val) (i 1).val) (hr : ∀ i : S8x512.Idx, r i = rt (a2 m c) (i 0).val (512 * t.val + (i 1).val))
    (hw : ∀ i : S1x1024.Idx, w i = gain (a4 m c) (i 1).val) (i : S512x1024.Idx) :
    combined (F := Ideal) x r w (slotVec (F := Ideal) (G (F := Ideal) (T m) (Y m c) (t.val + 1)) (thisSlot (grid0.coords t)) (thisSlot_lt _)) i
      = resM m c (512 * t.val + (i 0).val) (i 1).val := by
  have hm := mixed_apply m c hP t x r hx hr
  generalize slotVec (F := Ideal) (G (F := Ideal) (T m) (Y m c) (t.val + 1)) (thisSlot (grid0.coords t)) (thisSlot_lt _) = g at hm ⊢
  rw [combined_apply]
  obtain ⟨p, hp⟩ : ∃ p : Fin 512, i 0 = p := ⟨_, rfl⟩
  obtain ⟨j, hj⟩ : ∃ j : Fin 1024, i 1 = j := ⟨_, rfl⟩
  rw [hp, hj, hw]
  simp only [hm]
  rfl

theorem out_apply (c : Dev nD) (hP : Placed (a0 m c) (a2 m c)) (t : Fin (cfgM m).N) (i : S512x1024.Idx) :
    outAt m c t i = resM m c (512 * t.val + (i 0).val) (i 1).val :=
  out_of m c hP t _ _ _ (blk0 m c t) (blk1 m c t) (blk2 m c t) i

theorem out_place (c : Dev nD) (t : Fin grid0.N) (y : S512x1024.Idx) :
    resM m c (512 * t.val + (y 0).val) (y 1).val = resM m c ((BitVec.ofNat 32 (grid0.coords t 0).val).toNat * 512 + 1 * (y 0).val) (0 * 1024 + 1 * (y 1).val) := by
  rw [map0]
  congr 1 <;> omega

theorem flushed (c : Dev nD) (hP : Placed (a0 m c) (a2 m c)) (t : Fin (cfgM m).N) :
    (dats m 0 c).flushed 3 t = (((cfgM m).win 3).blk t).view.read (Elt Ideal) (Res m c) := by
  show ((cfgM m).win 3).cut (grid0.coords t) ((dats m 0 c).after 3 t) = _
  rw [after_3]
  funext y
  refine (out_apply m c hP t y).trans ?_
  exact out_place m c t y

theorem flush_3 (t : Fin (cfgM m).N) : ((cfgM m).win 3).flush t = true :=
  (by decide +kernel : ∀ t : Fin grid0.N, Pipeline.Window.flushOf grid0 true cc0_transform_4 t = true) t

theorem final (c : Dev nD) (hP : Placed (a0 m c) (a2 m c)) : (dats m 0 c).arrAt 3 (cfgM m).N = Res m c :=
  (dats m 0 c).arrAt_eq_of_cover 3 _ (fun t _ => flushed m c hP t) (fun (i : S16384x1024.Idx) => by
    have h0 : (i 0).val < 16384 := (i 0).isLt
    have h1 : (i 1).val < 1024 := (i 1).isLt
    have hN : (cfgM m).N = 32 := Gen.N_0
    obtain ⟨t, ht⟩ : ∃ t : Fin (cfgM m).N, t.val = (i 0).val / 512 := ⟨⟨(i 0).val / 512, by omega⟩, rfl⟩
    refine ⟨t, flush_3 m t, ?_⟩
    have hw := map0 t
    have e : (((cfgM m).win 3).blk t).view.emb (ix2 (⟨(i 0).val % 512, Nat.mod_lt _ (by decide)⟩ : Fin 512) (i 1) : S512x1024.Idx) = i := by
      funext a
      apply Fin.ext
      match a with
      | ⟨0, _⟩ =>
        show (BitVec.ofNat 32 (grid0.coords t 0).val).toNat * 512 + 1 * ((i 0).val % 512) = (i 0).val
        omega
      | ⟨1, _⟩ =>
        show 0 * 1024 + 1 * (i 1).val = (i 1).val
        omega
    exact e ▸ (((cfgM m).win 3).blk t).view.emb_mem_set _)

/-- The run, with the result named and the arguments unchanged. -/
theorem run_value (ρ : Dev nD → PrngReg) (hP : ∀ c, Placed (a0 m c) (a2 m c)) : θ_run defs (onTc (τ := τ) (main (F := Ideal))) ⟨m, fun _ => 0, ρ⟩ (fun r => ∀ c : Dev nD,
      r.2.mem ((c.tc : Thread nD τ).loc main_v2) = Res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 3).trans (final m c (hP c)),
    ((h.1 c).2 main_arg0 (by decide : main_arg0 ∈ Pipeline.restRefs sig spec0)).trans (V_of_ne m c main_arg0 (by decide) (by decide)),
    ((h.1 c).2 main_arg1 (by decide : main_arg1 ∈ Pipeline.restRefs sig spec0)).trans (V_of_ne m c main_arg1 (by decide) (by decide)),
    ((h.1 c).1 1).trans (((dats m 0 c).arrAt_in 1 rfl _).trans ((A_eq m c 1).trans (V_of_ne m c main_arg2 (by decide) (by decide)))),
    ((h.1 c).2 main_arg3 (by decide : main_arg3 ∈ Pipeline.restRefs sig spec0)).trans (V_of_ne m c main_arg3 (by decide) (by decide)),
    ((h.1 c).2 main_arg4 (by decide : main_arg4 ∈ Pipeline.restRefs sig spec0)).trans (V_of_ne m c main_arg4 (by decide) (by decide))⟩)
    (run_main m ρ ((T_eq m 0).symm ▸ (hP 0).named))

/-! ## From the condition on the arguments -/

theorem placed_of (w : S32x24.Idx → BitVec 32) (x1 : S8x2048x1024.Idx → EReal) (x2 : S8x16384.Idx → EReal) (x3 : S44032x1024.Idx → EReal) (x4 : S1024.Idx → EReal)
    (h : Cert.Pre_places_named.fn (F := Ideal) w x1 x2 x3 x4 = fun _ => 1#1) : Placed w x2 := by
  have hE : ∀ b e, Entry w b e := fun b e => (places_entry (F := Ideal) w x1 x2 x3 x4 h 0 b 0 e).1
  have key : ∀ a n : ℕ, a < 2 → n < 16384 → rt x2 a n = (((word x2 a n).toNat : ℝ) : EReal) ∧ (word x2 a n).toNat < 16 * cutOf w (blockOf n) 8 := fun a n ha hn => by
    obtain ⟨-, h1, h2, h3⟩ := places_entry (F := Ideal) w x1 x2 x3 x4 h ⟨a, ha⟩ (blockOf n) (Fin.ofNat 512 n) 0
    have hp : placeAt (F := Ideal) x2 ⟨a, ha⟩ (blockOf n) (Fin.ofNat 512 n) = rt x2 a n := by
      unfold placeAt rt
      refine congrArg x2 (funext fun d => Fin.ext ?_)
      match d with
      | ⟨0, _⟩ => show a = a % 8; omega
      | ⟨1, _⟩ => show n / 512 % 32 * 512 + n % 512 = n % 16384; omega
    rw [hp] at h1 h2 h3
    replace h2 : 0 ≤ (word x2 a n).toInt := h2
    replace h3 : (word x2 a n).toInt < (w (ix2 (blockOf n) (7 : Fin 24)) + w (ix2 (blockOf n) (15 : Fin 24))).toInt := h3
    have hr := rows_eq (hE (blockOf n))
    have e := BitVec.toInt_eq_toNat_cond (word x2 a n)
    have l := (word x2 a n).isLt
    have ei : (word x2 a n).toInt = (word x2 a n).toNat := by split at e <;> omega
    have er := BitVec.toInt_eq_toNat_cond (w (ix2 (blockOf n) (7 : Fin 24)) + w (ix2 (blockOf n) (15 : Fin 24)))
    rw [hr.1] at er
    constructor
    · have h1' : (((word x2 a n).toInt : ℝ) : EReal) = rt x2 a n := by
        have h1c : Ideal.cmp .oeq (((word x2 a n).toInt : ℝ) : EReal) (rt x2 a n) = 1#1 := h1
        simpa only [Ideal.cmp, StableHlo.Predicate.ofBool_eq_one_iff, decide_eq_true_eq] using h1c
      rw [← h1', ei, Int.cast_natCast]
    · split at er <;> omega
  exact ⟨named_of hE, hE, fun a n ha hn => (key a n ha hn).1, fun a n ha hn => (key a n ha hn).2⟩

end Cert.CombineIdeal.Hand

end
-- ==== Proof.CombineValue.lean ====
/- The combine reference read at an index, and the kernel's array beside it. -/
module

public import proofs.«01_k».proof.Proof.CombineFold
public import proofs.«01_k».proof.Proof.Gen.CombineRefIdeal.Run
public import proofs.«01_k».proof.Proof.Gen.CombineRefIdeal.Read
public import Idealize.ShloMosaic.Lib.Routing.Ops

@[expose] public section

set_option maxRecDepth 16384

noncomputable section

namespace Cert.CombineIdeal.Hand

open Cert.CombineRefIdeal Cert.CombineRefIdeal.Read Idealize.ShloMosaic Idealize.ShloMosaic.TcCoe Idealize.ShloMosaic.Tactic Idealize.SL.Sem

variable (x0 : S32x24.Idx → BitVec 32) (x1 : S8x2048x1024.Idx → EReal) (x2 : S8x16384.Idx → EReal) (x3 : S44032x1024.Idx → EReal) (x4 : S1024.Idx → EReal)

/-! ## The table's rows repeated, token by token -/

theorem table_at (n : Fin 16384) (k : Fin 24) : val_main_v1 (F := Ideal) x0 (ix2 n k) = x0 (ix2 (blockOf n.val) k) := by
  have hn := n.isLt; have hk := k.isLt
  rw [val_main_v1_apply, val_main_v0_apply]
  refine congrArg x0 (funext fun a => Fin.ext ?_)
  match a with
  | ⟨0, _⟩ => show (n.val * 24 + k.val) / 12288 = n.val / 512 % 32; omega
  | ⟨1, _⟩ => show (n.val * 24 + k.val) % 24 = k.val; omega

theorem lo_at (n : Fin 16384) (e : Fin 8) : val_main_v2 (F := Ideal) x0 (ix2 n e) = x0 (ix2 (blockOf n.val) (⟨e.val, by omega⟩ : Fin 24)) := by
  rw [val_main_v2_apply, ← table_at x0]
  exact congrArg _ (funext fun a => match a with | ⟨0, _⟩ => rfl | ⟨1, _⟩ => rfl)
theorem cnt_at (n : Fin 16384) (e : Fin 8) : val_main_v3 (F := Ideal) x0 (ix2 n e) = x0 (ix2 (blockOf n.val) (⟨8 + e.val, by omega⟩ : Fin 24)) := by
  rw [val_main_v3_apply, ← table_at x0]
  exact congrArg _ (funext fun a => match a with | ⟨0, _⟩ => rfl | ⟨1, _⟩ => rfl)
theorem go_at (n : Fin 16384) (e : Fin 8) : val_main_v4 (F := Ideal) x0 (ix2 n e) = x0 (ix2 (blockOf n.val) (⟨16 + e.val, by omega⟩ : Fin 24)) := by
  rw [val_main_v4_apply, ← table_at x0]
  exact congrArg _ (funext fun a => match a with | ⟨0, _⟩ => rfl | ⟨1, _⟩ => rfl)

/-! ## A token's places and weights -/

theorem rt_at (a n : ℕ) (ha : a < 8) (hn : n < 16384) (i : S8x16384.Idx) (h0 : (i 0).val = a) (h1 : (i 1).val = n) : x2 i = rt x2 a n := by
  unfold rt
  refine congrArg x2 (funext fun d => Fin.ext ?_)
  match d with
  | ⟨0, _⟩ => show (i 0).val = a % 8; omega
  | ⟨1, _⟩ => show (i 1).val = n % 16384; omega

theorem w1_at (n : Fin 16384) (j : Fin 1024) : val_main_v31 (F := Ideal) x2 (ix2 n j) = rt x2 2 n.val := by
  rw [val_main_v31_apply, val_main_v8_apply, val_main_v7_apply, val_main_v6_apply]
  have hn := n.isLt
  exact rt_at x2 2 n.val (by omega) n.isLt _ rfl (by show n.val % 16384 = n.val; omega)
theorem w2_at (n : Fin 16384) (j : Fin 1024) : val_main_v58 (F := Ideal) x2 (ix2 n j) = rt x2 3 n.val := by
  rw [val_main_v58_apply, val_main_v35_apply, val_main_v34_apply, val_main_v33_apply]
  have hn := n.isLt
  exact rt_at x2 3 n.val (by omega) n.isLt _ rfl (by show n.val % 16384 = n.val; omega)
theorem p1_at (n : Fin 16384) (k : Fin 1) : val_main_v12 (F := Ideal) x2 (ix2 n k) = word x2 0 n.val := by
  rw [val_main_v12_apply, val_main_v11_apply, val_main_v10_apply, val_main_v9_apply]
  unfold word
  have hn := n.isLt
  exact congrArg _ (rt_at x2 0 n.val (by omega) n.isLt _ rfl (by show n.val % 16384 = n.val; omega))
theorem p2_at (n : Fin 16384) (k : Fin 1) : val_main_v39 (F := Ideal) x2 (ix2 n k) = word x2 1 n.val := by
  rw [val_main_v39_apply, val_main_v38_apply, val_main_v37_apply, val_main_v36_apply]
  unfold word
  have hn := n.isLt
  exact congrArg _ (rt_at x2 1 n.val (by omega) n.isLt _ rfl (by show n.val % 16384 = n.val; omega))

/-! ## The sorted row of a place -/

/-- What the sum over the experts adds for expert `e`. -/
def term (i lo pc go : BitVec 32) : BitVec 32 :=
  Scalar.select (IntOp.andi (IntOp.cmpi .sge i lo) (IntOp.cmpi .slt i (IntOp.addi lo pc))) (IntOp.addi go (IntOp.subi i lo)) 0#32

theorem t1_at (n : Fin 16384) (e : Fin 8) : val_main_v22 (F := Ideal) x0 x2 (ix2 n e) = term (word x2 0 n.val)
    (x0 (ix2 (blockOf n.val) (⟨e.val, by omega⟩ : Fin 24))) (x0 (ix2 (blockOf n.val) (⟨8 + e.val, by omega⟩ : Fin 24))) (x0 (ix2 (blockOf n.val) (⟨16 + e.val, by omega⟩ : Fin 24))) := by
  have h13 : val_main_v13 (F := Ideal) x2 (ix2 n e) = word x2 0 n.val := by
    rw [val_main_v13_apply, ← p1_at x2 n 0]; exact congrArg _ (funext fun a => match a with | ⟨0, _⟩ => rfl | ⟨1, _⟩ => rfl)
  have h16 : val_main_v16 (F := Ideal) x2 (ix2 n e) = word x2 0 n.val := by
    rw [val_main_v16_apply, ← p1_at x2 n 0]; exact congrArg _ (funext fun a => match a with | ⟨0, _⟩ => rfl | ⟨1, _⟩ => rfl)
  have h19 : val_main_v19 (F := Ideal) x2 (ix2 n e) = word x2 0 n.val := by
    rw [val_main_v19_apply, ← p1_at x2 n 0]; exact congrArg _ (funext fun a => match a with | ⟨0, _⟩ => rfl | ⟨1, _⟩ => rfl)
  rw [val_main_v22_apply, val_main_v18_apply, val_main_v14_apply, val_main_v17_apply, val_main_v15_apply, val_main_v21_apply, val_main_v20_apply,
    h13, h16, h19, lo_at, cnt_at, go_at, val_main_call0_v1_apply]
  rfl

theorem t2_at (n : Fin 16384) (e : Fin 8) : val_main_v49 (F := Ideal) x0 x2 (ix2 n e) = term (word x2 1 n.val)
    (x0 (ix2 (blockOf n.val) (⟨e.val, by omega⟩ : Fin 24))) (x0 (ix2 (blockOf n.val) (⟨8 + e.val, by omega⟩ : Fin 24))) (x0 (ix2 (blockOf n.val) (⟨16 + e.val, by omega⟩ : Fin 24))) := by
  have h13 : val_main_v40 (F := Ideal) x2 (ix2 n e) = word x2 1 n.val := by
    rw [val_main_v40_apply, ← p2_at x2 n 0]; exact congrArg _ (funext fun a => match a with | ⟨0, _⟩ => rfl | ⟨1, _⟩ => rfl)
  have h16 : val_main_v43 (F := Ideal) x2 (ix2 n e) = word x2 1 n.val := by
    rw [val_main_v43_apply, ← p2_at x2 n 0]; exact congrArg _ (funext fun a => match a with | ⟨0, _⟩ => rfl | ⟨1, _⟩ => rfl)
  have h19 : val_main_v46 (F := Ideal) x2 (ix2 n e) = word x2 1 n.val := by
    rw [val_main_v46_apply, ← p2_at x2 n 0]; exact congrArg _ (funext fun a => match a with | ⟨0, _⟩ => rfl | ⟨1, _⟩ => rfl)
  rw [val_main_v49_apply, val_main_v45_apply, val_main_v41_apply, val_main_v44_apply, val_main_v42_apply, val_main_v48_apply, val_main_v47_apply,
    h13, h16, h19, lo_at, cnt_at, go_at, val_main_call1_v1_apply]
  rfl

theorem fold_zero (v : Fin 8 → BitVec 32) (s : Finset (Fin 8)) (h : ∀ x ∈ s, v x = 0#32) : Finset.fold IntOp.addi 0#32 v s = 0#32 := by
  rw [Finset.fold_congr (g := fun _ => 0#32) h]
  induction s using Finset.induction_on with
  | empty => rfl
  | insert a s ha ih => rw [Finset.fold_insert ha, ih fun x hx => h x (Finset.mem_insert_of_mem hx)]; rfl

theorem fold_one (v : Fin 8 → BitVec 32) (e : Fin 8) (h : ∀ x : Fin 8, x ≠ e → v x = 0#32) : Finset.fold IntOp.addi 0#32 v Finset.univ = v e := by
  rw [← Finset.insert_erase (Finset.mem_univ e), Finset.fold_insert (Finset.notMem_erase e _), fold_zero v _ fun x hx => h x (Finset.ne_of_mem_erase hx)]
  exact BitVec.add_zero _

theorem nonneg_int (w : BitVec 32) (h : w.toNat < 2 ^ 31) : w.toInt = w.toNat := by
  rw [BitVec.toInt_eq_toNat_cond, if_pos (by omega)]

theorem reduce_at (v : IVec S16384x8 32) (z : IVec S_ 32) (hz : ∀ i, z i = 0#32) (n : Fin 16384) (e : Fin 8) (h : ∀ x : Fin 8, x ≠ e → v (ix2 n x) = 0#32) :
    Host.reduce IntOp.addi v z Cert.CombineRefIdeal.Gen.reducesTo_S16384x8_S16384_d1 Cert.CombineRefIdeal.Gen.h_S_ (ix1 n) = v (ix2 n e) := by
  pointwise
  rw [hz]
  exact fold_one (fun x => v (ix2 n x)) e h

/-- An expert whose rows hold the place gives the sorted row, the others nothing. -/
theorem term_in (i lo pc go : BitVec 32) (hl : lo.toNat ≤ 1152) (hp : pc.toNat ≤ 1152) (hi : i.toNat < 2 ^ 31) (h0 : lo.toNat ≤ i.toNat) (h1 : i.toNat < lo.toNat + pc.toNat) :
    term i lo pc go = go + (i - lo) := by
  have e : (lo + pc).toNat = lo.toNat + pc.toNat := by rw [BitVec.toNat_add]; omega
  have b0 : IntOp.cmpi .sge i lo = 1#1 := by rw [sge_one, nonneg_int i hi, nonneg_int lo (by omega)]; omega
  have b1 : IntOp.cmpi .slt i (IntOp.addi lo pc) = 1#1 := by
    show IntOp.cmpi .slt i (lo + pc) = 1#1
    rw [slt_one, nonneg_int i hi, nonneg_int (lo + pc) (by omega)]; omega
  unfold term
  rw [b0, b1]
  rfl

theorem term_out (i lo pc go : BitVec 32) (hl : lo.toNat ≤ 1152) (hp : pc.toNat ≤ 1152) (hi : i.toNat < 2 ^ 31) (h : ¬ (lo.toNat ≤ i.toNat ∧ i.toNat < lo.toNat + pc.toNat)) :
    term i lo pc go = 0#32 := by
  have e : (lo + pc).toNat = lo.toNat + pc.toNat := by rw [BitVec.toNat_add]; omega
  have b : ¬ IntOp.andi (IntOp.cmpi .sge i lo) (IntOp.cmpi .slt i (IntOp.addi lo pc)) = 1#1 := by
    intro hb
    obtain ⟨h0, h1⟩ := (and_one _ _).1 hb
    replace h1 : IntOp.cmpi .slt i (lo + pc) = 1#1 := h1
    rw [sge_one, nonneg_int i hi, nonneg_int lo (by omega)] at h0
    rw [slt_one, nonneg_int i hi, nonneg_int (lo + pc) (by omega)] at h1
    omega
  unfold term Scalar.select
  exact if_neg b

variable {x0 x2}

/-- The sum over the experts is the sorted row of the place. -/
theorem row_at (hE : ∀ b e, Entry x0 b e) (hN : Named x0) (v : IVec S16384x8 32) (z : IVec S_ 32) (hz : ∀ i, z i = 0#32) (n : Fin 16384) (i : BitVec 32) (hi : i.toNat < 16 * cutOf x0 (blockOf n.val) 8)
    (hv : ∀ e : Fin 8, v (ix2 n e) = term i (x0 (ix2 (blockOf n.val) (⟨e.val, by omega⟩ : Fin 24))) (x0 (ix2 (blockOf n.val) (⟨8 + e.val, by omega⟩ : Fin 24))) (x0 (ix2 (blockOf n.val) (⟨16 + e.val, by omega⟩ : Fin 24)))) :
    Host.reduce IntOp.addi v z Cert.CombineRefIdeal.Gen.reducesTo_S16384x8_S16384_d1 Cert.CombineRefIdeal.Gen.h_S_ (ix1 n) = BitVec.ofNat 32 (srcOf x0 n.val i.toNat)
      ∧ srcOf x0 n.val i.toNat < 44032 := by
  generalize hr : blockOf n.val = r at *
  have hE' : ∀ e, Entry x0 r e := hE r
  have h72 := (rows_eq hE').2
  have hlo : ∀ e : Fin 8, (x0 (ix2 r (⟨e.val, by omega⟩ : Fin 24))).toNat = 16 * cutOf x0 r e.val := fun e => lo_eq hE' e.val e.isLt
  have hns : ∀ e : Fin 8, (x0 (ix2 r (⟨8 + e.val, by omega⟩ : Fin 24))).toNat = 16 * nsOf x0 r e.val := fun e => ns_eq hE' e
  have hle : ∀ e : Fin 8, cutOf x0 r e.val + nsOf x0 r e.val ≤ 72 := fun e => le_trans (cut_lt hE' e.val 8 e.isLt) h72
  obtain ⟨e, he, h1, h2⟩ := cut_find x0 r (i.toNat / 16) 8 (by omega)
  have hs := sg_eq hE' ⟨e, he⟩ (i.toNat / 16 - cutOf x0 r e) (by show _ < nsOf x0 r e; omega)
  have hc : cutOf x0 r e + (i.toNat / 16 - cutOf x0 r e) = i.toNat / 16 := by omega
  rw [show cutOf x0 r (⟨e, he⟩ : Fin 8).val + (i.toNat / 16 - cutOf x0 r e) = i.toNat / 16 from hc] at hs
  have hlt := sg_lt hN r (j := i.toNat / 16) (by omega)
  have hsrc : srcOf x0 n.val i.toNat = 16 * sgOf x0 r (i.toNat / 16) + i.toNat % 16 := by unfold srcOf; rw [hr]
  have hle' : cutOf x0 r e + nsOf x0 r e ≤ 72 := hle ⟨e, he⟩
  have hlo' : (x0 (ix2 r (⟨e, by omega⟩ : Fin 24))).toNat = 16 * cutOf x0 r e := hlo ⟨e, he⟩
  have hns' : (x0 (ix2 r (⟨8 + e, by omega⟩ : Fin 24))).toNat = 16 * nsOf x0 r e := hns ⟨e, he⟩
  refine ⟨?_, by omega⟩
  rw [reduce_at v z hz n ⟨e, he⟩ fun x hx => ?_, hv]
  · have hgm := (hE' ⟨e, he⟩).goMod
    rw [term_in _ _ _ _ (by show (x0 (ix2 r (⟨e, by omega⟩ : Fin 24))).toNat ≤ 1152; omega) (by show (x0 (ix2 r (⟨8 + e, by omega⟩ : Fin 24))).toNat ≤ 1152; omega) (by omega)
      (by show (x0 (ix2 r (⟨e, by omega⟩ : Fin 24))).toNat ≤ _; omega) (by show _ < (x0 (ix2 r (⟨e, by omega⟩ : Fin 24))).toNat + (x0 (ix2 r (⟨8 + e, by omega⟩ : Fin 24))).toNat; omega)]
    apply BitVec.eq_of_toNat_eq
    rw [BitVec.toNat_add, BitVec.toNat_sub, BitVec.toNat_ofNat, hsrc, hs]
    show ((x0 (ix2 r (⟨16 + e, by omega⟩ : Fin 24))).toNat + (2 ^ 32 - (x0 (ix2 r (⟨e, by omega⟩ : Fin 24))).toNat + i.toNat) % 2 ^ 32) % 2 ^ 32 = (16 * ((x0 (ix2 r (⟨16 + e, by omega⟩ : Fin 24))).toNat / 16 + (i.toNat / 16 - cutOf x0 r e)) + i.toNat % 16) % 2 ^ 32
    replace hgm : (x0 (ix2 r (⟨16 + e, by omega⟩ : Fin 24))).toNat % 16 = 0 := hgm
    replace hs : sgOf x0 r (i.toNat / 16) = (x0 (ix2 r (⟨16 + e, by omega⟩ : Fin 24))).toNat / 16 + (i.toNat / 16 - cutOf x0 r e) := hs
    omega
  · rw [hv]
    have a1 := hlo x
    have a2 := hns x
    have a3 := hle x
    refine term_out _ _ _ _ (by omega) (by omega) (by omega) ?_
    rintro ⟨b1, b2⟩
    rcases Nat.lt_trichotomy x.val e with hx' | hx' | hx'
    · have := cut_lt hE' x.val e hx'
      omega
    · exact hx (Fin.ext hx')
    · have := cut_lt hE' e x.val hx'
      omega

/-! ## The gathered rows, their weighted sum, and the scaled result -/

theorem not_neg (s : ℕ) (h : s < 44032) (z t : BitVec 32) (hz : z = 0#32) : Scalar.select (IntOp.cmpi .slt (BitVec.ofNat 32 s) z) t (BitVec.ofNat 32 s) = BitVec.ofNat 32 s := by
  subst hz
  have e : (BitVec.ofNat 32 s).toNat = s := by rw [BitVec.toNat_ofNat]; omega
  have b : ¬ IntOp.cmpi .slt (BitVec.ofNat 32 s) 0#32 = 1#1 := by
    rw [slt_one, nonneg_int _ (by omega), show (0#32).toInt = 0 from rfl]; omega
  exact if_neg b

theorem y_at (r : Fin 44032) (j : Fin 1024) : val_main_v5 (F := Ideal) x3 (ix2 r j) = rows x3 r.val j.val := by
  have hr := r.isLt; have hj := j.isLt
  rw [val_main_v5_apply]
  unfold rows
  show x3 _ = x3 _
  refine congrArg x3 (funext fun d => Fin.ext ?_)
  match d with
  | ⟨0, _⟩ => show r.val = r.val % 44032; omega
  | ⟨1, _⟩ => show j.val = j.val % 1024; omega

variable (hP : Placed x0 x2)
include hP

theorem g1_at (n : Fin 16384) (j : Fin 1024) : val_main_v30 (F := Ideal) x0 x2 x3 (ix2 n j) = rows x3 (srcOf x0 n.val (word x2 0 n.val).toNat) j.val := by
  obtain ⟨h1, h2⟩ := row_at hP.entry hP.named (val_main_v22 (F := Ideal) x0 x2) (val_main_c_0 (F := Ideal)) (fun i => rfl) n (word x2 0 n.val) (hP.inside 0 n.val (by omega) n.isLt) (t1_at x0 x2 n)
  have h3 : val_main_v29 (F := Ideal) x0 x2 (ix2 n (0 : Fin 1)) = BitVec.ofNat 32 (srcOf x0 n.val (word x2 0 n.val).toNat) := by
    rw [val_main_v29_apply, show idx_main_v29 (ix2 n (0 : Fin 1)) = ix1 n from funext fun a => match a with | ⟨0, _⟩ => rfl,
      val_main_v28_apply, val_main_v25_apply, show val_main_v23 (F := Ideal) x0 x2 (ix1 n) = _ from h1]
    exact not_neg _ h2 _ _ rfl
  unfold val_main_v30
  rw [← y_at x3 ⟨_, h2⟩ j]
  exact Routing.gather_row _ rfl rfl rfl rfl rfl _ _ n j ⟨_, h2⟩ h3 (by decide)

theorem g2_at (n : Fin 16384) (j : Fin 1024) : val_main_v57 (F := Ideal) x0 x2 x3 (ix2 n j) = rows x3 (srcOf x0 n.val (word x2 1 n.val).toNat) j.val := by
  obtain ⟨h1, h2⟩ := row_at hP.entry hP.named (val_main_v49 (F := Ideal) x0 x2) (val_main_c_4 (F := Ideal)) (fun i => rfl) n (word x2 1 n.val) (hP.inside 1 n.val (by omega) n.isLt) (t2_at x0 x2 n)
  have h3 : val_main_v56 (F := Ideal) x0 x2 (ix2 n (0 : Fin 1)) = BitVec.ofNat 32 (srcOf x0 n.val (word x2 1 n.val).toNat) := by
    rw [val_main_v56_apply, show idx_main_v56 (ix2 n (0 : Fin 1)) = ix1 n from funext fun a => match a with | ⟨0, _⟩ => rfl,
      val_main_v55_apply, val_main_v52_apply, show val_main_v50 (F := Ideal) x0 x2 (ix1 n) = _ from h1]
    exact not_neg _ h2 _ _ rfl
  unfold val_main_v57
  rw [← y_at x3 ⟨_, h2⟩ j]
  exact Routing.gather_row _ rfl rfl rfl rfl rfl _ _ n j ⟨_, h2⟩ h3 (by decide)

theorem mixed_at (n : Fin 16384) (j : Fin 1024) : val_main_v62 (F := Ideal) x0 x1 x2 x3 (ix2 n j) = mixed x0 x1 x2 x3 n.val j.val := by
  have hx : val_main_v61 (F := Ideal) x1 (ix2 n j) = inp x1 n.val j.val := by
    have hn := n.isLt; have hj := j.isLt
    rw [val_main_v61_apply]
    unfold inp
    refine congrArg x1 (funext fun d => Fin.ext ?_)
    match d with
    | ⟨0, _⟩ => show (n.val * 1024 + j.val) / 2097152 = n.val / 2048 % 8; omega
    | ⟨1, _⟩ => show (n.val * 1024 + j.val) / 1024 % 2048 = n.val % 2048; omega
    | ⟨2, _⟩ => show (n.val * 1024 + j.val) % 1024 = j.val % 1024; omega
  rw [val_main_v62_apply, val_main_v60_apply, val_main_v32_apply, val_main_v59_apply, hx, w1_at, w2_at, g1_at x3 hP, g2_at x3 hP]
  rfl

theorem res_at (n : Fin 16384) (j : Fin 1024) : val_main_v75 (F := Ideal) x0 x1 x2 x3 x4 (ix2 n j) = resOf x0 x1 x2 x3 x4 n.val j.val := by
  have hj := j.isLt
  have hg : val_main_v74 (F := Ideal) x4 (ix2 n j) = gain x4 j.val := by
    rw [val_main_v74_apply, val_main_v73_apply]
    unfold gain
    refine congrArg x4 (funext fun d => Fin.ext ?_)
    match d with
    | ⟨0, _⟩ => show j.val = j.val % 1024; omega
  have hx : ∀ q : Fin 1024, val_main_v62 (F := Ideal) x0 x1 x2 x3 (idx_main_v64 (idx_main_v65 (idx_main_v71 (ix2 n j))) q) = mixed x0 x1 x2 x3 n.val q.val := fun q => by
    rw [← mixed_at x1 x3 hP]
    exact congrArg _ (funext fun a => match a with | ⟨0, _⟩ => rfl | ⟨1, _⟩ => rfl)
  rw [val_main_v75_apply, val_main_v72_apply, val_main_v71_apply, val_main_v70_apply, val_main_v69_apply, val_main_v67_apply, val_main_v65_apply, val_main_v64_apply,
    val_main_v66_apply, val_main_v68_apply, hg, mixed_at x1 x3 hP]
  simp only [val_main_v63_apply, hx, val_main_cst_apply, val_main_cst_7_apply, val_main_cst_8_apply]
  unfold resOf Spec.scaled
  simp only [Ideal.mulf_def, Ideal.addf_def, Ideal.hostDivf_def, Ideal.hostUnary_rsqrt_def, Ideal.ofBits_def, Ideal.ofBits_zero_f32, zero_add]

omit hP

/-- The kernel's array is the reference's. -/
theorem value (m : (ℓ : Loc Cert.CombineIdeal.nD Cert.CombineIdeal.τ Cert.CombineIdeal.sig) → Buf (Elt Ideal) ℓ) (c : Dev Cert.CombineIdeal.nD) (hP : Placed (a0 m c) (a2 m c)) :
    val_main_v75 (F := Ideal) (a0 m c) (a1 m c) (a2 m c) (a3 m c) (a4 m c) = fun i : S16384x1024.Idx => resM m c (i 0).val (i 1).val := by
  funext i
  obtain ⟨n, hn⟩ : ∃ n : Fin 16384, i 0 = n := ⟨_, rfl⟩
  obtain ⟨j, hj⟩ : ∃ j : Fin 1024, i 1 = j := ⟨_, rfl⟩
  have hi : i = ix2 n j := funext fun a => match a with | ⟨0, _⟩ => hn | ⟨1, _⟩ => hj
  rw [hi]
  exact res_at _ _ _ hP n j

end Cert.CombineIdeal.Hand

end
-- ==== Proof.GmlpPay.lean ====
/- What a point of the chunked gMLP kernel stores: the stored terms of both cases, and the payloads read at an index. -/
module

public import proofs.«01_k».proof.Proof.Gen.GmlpIdeal.Frame
public import Idealize.ShloMosaic.Lib.Pipeline.Value
public import Idealize.ShloMosaic.Lib.Pointwise
public import Idealize.ShloMosaic.Lib.ValueIdx
public import Idealize.ShloMosaic.Lib.Tactic

@[expose] public section

noncomputable section

namespace Cert.GmlpIdeal.Hand

open Cert.GmlpIdeal Cert.GmlpIdeal.Gen Idealize.ShloMosaic Idealize.ShloMosaic.TcCoe Idealize.SL.Sem

theorem hz : (![0, 0] : Fin 2 → Nat) = fun _ => 0 := funext fun a => by fin_cases a <;> rfl

section Cases

variable {F : FTy → Type} [FloatOps F]

/-- The row and the column of each entry of a square of 128. -/
def rowNo : IVec S128x128 32 := iota .tc S128x128 32 [0] iota_S128x128_d0_w32
def colNo : IVec S128x128 32 := iota .tc S128x128 32 [1] iota_S128x128_d1_w32

/-- The normed gate of a block, from the columns that make it. -/
def gate (x0 : Vec F S512x1024 .f32) (x1 : Vec F S1x1024 .f32) (wv : Vec F S1024x1024 .bf16) (x3 x4 : Vec F S1x1024 .f32) :
    FVec F S512x1024 .bf16 := k0_pay9 (k0_pay7 x0 x1 wv) x3 x4

/-- Group `0, …, 7`'s masked square. -/
def sq0 (w : Vec F S1x128x128 .f32) : FVec F S128x128 .bf16 := k0_pay11 k0_pay10 w
def sq1 (w : Vec F S1x128x128 .f32) : FVec F S128x128 .bf16 := k0_pay12 rowNo colNo w
def sq2 (w : Vec F S1x128x128 .f32) : FVec F S128x128 .bf16 := k0_pay13 rowNo colNo w
def sq3 (w : Vec F S1x128x128 .f32) : FVec F S128x128 .bf16 := k0_pay14 rowNo colNo w
def sq4 (w : Vec F S1x128x128 .f32) : FVec F S128x128 .bf16 := k0_pay15 rowNo colNo w
def sq5 (w : Vec F S1x128x128 .f32) : FVec F S128x128 .bf16 := k0_pay16 rowNo colNo w
def sq6 (w : Vec F S1x128x128 .f32) : FVec F S128x128 .bf16 := k0_pay18 (k0_pay17 rowNo colNo) w
def sq7 (w : Vec F S1x128x128 .f32) : FVec F S128x128 .bf16 := k0_pay19 rowNo colNo w

/-- The four chunks of a block, each mixed along its rows; the first three with the bias. -/
def chunk0 (vb : FVec F S512x1024 .bf16) (w0 w1 w2 w3 w4 w5 w6 w7 : Vec F S1x128x128 .f32) (bs : Vec F S128x1024 .f32) : FVec F S128x1024 .f32 :=
  k0_pay20 vb rowNo colNo (sq0 w0) (sq1 w1) (sq2 w2) (sq3 w3) (sq4 w4) (sq5 w5) (k0_pay17 rowNo colNo) w6 w7 bs
def chunk1 (vb : FVec F S512x1024 .bf16) (w0 w1 w2 w3 w4 w5 w6 w7 : Vec F S1x128x128 .f32) (bs : Vec F S128x1024 .f32) : FVec F S128x1024 .f32 :=
  k0_pay26 vb (sq4 w4) (sq5 w5) (sq6 w6) (sq7 w7) (k0_pay21 vb (sq0 w0)) (k0_pay22 vb (sq1 w1)) (k0_pay23 vb (sq2 w2)) (k0_pay24 vb (sq3 w3)) (k0_pay25 vb) bs
def chunk2 (vb : FVec F S512x1024 .bf16) (w0 w1 w2 w3 w4 w5 w6 w7 : Vec F S1x128x128 .f32) (bs : Vec F S128x1024 .f32) : FVec F S128x1024 .f32 :=
  k0_pay27 vb (sq0 w0) (sq1 w1) (sq2 w2) (sq3 w3) (sq4 w4) (sq5 w5) (sq6 w6) (sq7 w7) bs
def chunk3 (vb : FVec F S512x1024 .bf16) (w0 w1 w2 w3 w4 w5 w6 w7 : Vec F S1x128x128 .f32) : FVec F S128x1024 .f32 :=
  k0_pay1 vb (sq4 w4) (sq5 w5) (sq6 w6) (sq7 w7) (k0_pay28 vb (sq0 w0)) (k0_pay29 vb (sq1 w1)) (k0_pay30 vb (sq2 w2)) (k0_pay31 vb (sq3 w3)) (k0_pay32 vb)

/-- The two halves of the columns of the wide weights, and a group's square of the spatial weights. -/
def right (w : Vec F S1024x2048 .bf16) : Vec F S1024x1024 .bf16 := View.ld (S := S1024x2048) w (Rect.unit (s := S1024x2048) ![0, 1024] S1024x1024.size inb_S1024x2048_S1024x1024_0_1024)
def left (w : Vec F S1024x2048 .bf16) : Vec F S1024x1024 .bf16 := View.ld (S := S1024x2048) w (Rect.unit (s := S1024x2048) ![0, 0] S1024x1024.size inb_S1024x2048_S1024x1024_0_0)
def gr0 (w : Vec F S8x128x128 .f32) : Vec F S1x128x128 .f32 := View.ld (S := S8x128x128) w (Rect.unit (s := S8x128x128) ![0, 0, 0] S1x128x128.size inb_S8x128x128_S1x128x128_0_0_0)
def gr1 (w : Vec F S8x128x128 .f32) : Vec F S1x128x128 .f32 := View.ld (S := S8x128x128) w (Rect.unit (s := S8x128x128) ![1, 0, 0] S1x128x128.size inb_S8x128x128_S1x128x128_1_0_0)
def gr2 (w : Vec F S8x128x128 .f32) : Vec F S1x128x128 .f32 := View.ld (S := S8x128x128) w (Rect.unit (s := S8x128x128) ![2, 0, 0] S1x128x128.size inb_S8x128x128_S1x128x128_2_0_0)
def gr3 (w : Vec F S8x128x128 .f32) : Vec F S1x128x128 .f32 := View.ld (S := S8x128x128) w (Rect.unit (s := S8x128x128) ![3, 0, 0] S1x128x128.size inb_S8x128x128_S1x128x128_3_0_0)
def gr4 (w : Vec F S8x128x128 .f32) : Vec F S1x128x128 .f32 := View.ld (S := S8x128x128) w (Rect.unit (s := S8x128x128) ![4, 0, 0] S1x128x128.size inb_S8x128x128_S1x128x128_4_0_0)
def gr5 (w : Vec F S8x128x128 .f32) : Vec F S1x128x128 .f32 := View.ld (S := S8x128x128) w (Rect.unit (s := S8x128x128) ![5, 0, 0] S1x128x128.size inb_S8x128x128_S1x128x128_5_0_0)
def gr6 (w : Vec F S8x128x128 .f32) : Vec F S1x128x128 .f32 := View.ld (S := S8x128x128) w (Rect.unit (s := S8x128x128) ![6, 0, 0] S1x128x128.size inb_S8x128x128_S1x128x128_6_0_0)
def gr7 (w : Vec F S8x128x128 .f32) : Vec F S1x128x128 .f32 := View.ld (S := S8x128x128) w (Rect.unit (s := S8x128x128) ![7, 0, 0] S1x128x128.size inb_S8x128x128_S1x128x128_7_0_0)

/-- A load of any part of the wide scratch after one store of the whole reads the stored array there. -/
theorem cov_read {κ : Kind} {sp : Space} (v : View sig κ sp S1024x2048 .bf16) (inb : ∀ a, (![0, 0] : Fin 2 → Nat) a + S1024x2048.size a ≤ S1024x2048.size a)
    (W : S1024x2048.Idx → Elt F .bf16) (r : Rect S1024x2048) :
    v.readCov [(⟨Rect.unit ![0, 0] S1024x2048.size inb, W⟩ : View.Piece (Elt F) S1024x2048 .bf16)] r.toLoadRect = View.ld W r := by
  rw [View.readCov_eq_canon_ld _ _ _ (fun y => ⟨_, List.mem_singleton_self _, View.mem_set_unit_zero hz inb y⟩), View.canon_unit_zero hz]

/-- What a point writes, from its block, the two weights in the scratch, and the rest of its windows. -/
def point (x0 : Vec F S512x1024 .f32) (x1 : Vec F S1x1024 .f32) (x3 x4 : Vec F S1x1024 .f32) (x5 : Vec F S8x128x128 .f32) (x6 : Vec F S128x1024 .f32)
    (s0 : Vec F S1024x2048 .bf16) (s1 : Vec F S1024x1024 .bf16) : FVec F S512x1024 .f32 :=
  k0_pay2 (k0_pay5 x0) (k0_pay8 (k0_pay6 x0 x1) (left s0))
    (chunk0 (gate x0 x1 (right s0) x3 x4) (gr0 x5) (gr1 x5) (gr2 x5) (gr3 x5) (gr4 x5) (gr5 x5) (gr6 x5) (gr7 x5) x6)
    (chunk1 (gate x0 x1 (right s0) x3 x4) (gr0 x5) (gr1 x5) (gr2 x5) (gr3 x5) (gr4 x5) (gr5 x5) (gr6 x5) (gr7 x5) x6)
    (chunk2 (gate x0 x1 (right s0) x3 x4) (gr0 x5) (gr1 x5) (gr2 x5) (gr3 x5) (gr4 x5) (gr5 x5) (gr6 x5) (gr7 x5) x6)
    (chunk3 (gate x0 x1 (right s0) x3 x4) (gr0 x5) (gr1 x5) (gr2 x5) (gr3 x5) (gr4 x5) (gr5 x5) (gr6 x5) (gr7 x5)) x6 s1

/-- The first point leaves the wide weights in the first scratch. -/
theorem wide_A (c : Dev nD) (i : grid0.Coords) (a1 : Memref sig .tc .vmem S512x1024 .f32) (h1 : a1.IsWhole) (a2 : Memref sig .tc .vmem S1x1024 .f32) (h2 : a2.IsWhole) (a3 : Memref sig .tc .vmem S1024x2048 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x1024 .f32) (h7 : a7.IsWhole) (a8 : Memref sig .tc .vmem S1024x1024 .f32) (h8 : a8.IsWhole) (a9 : Memref sig .tc .vmem S512x1024 .f32) (h9 : a9.IsWhole) (a10 : Memref sig .tc .vmem S1024x2048 .bf16) (h10 : a10.IsWhole) (a11 : Memref sig .tc .vmem S1024x1024 .bf16) (h11 : a11.IsWhole) (hc0 : cond0_0 i) (hc1 : cond0_1 i)
    (x0 : Vec F S512x1024 .f32) (x1 : Vec F S1x1024 .f32) (x2 : Vec F S1024x2048 .f32) (x3 x4 : Vec F S1x1024 .f32) (x5 : Vec F S8x128x128 .f32) (x6 : Vec F S128x1024 .f32) (x7 : Vec F S1024x1024 .f32) :
    sout0_A_0 c i a1 h1 a2 h2 a3 h3 a4 h4 a5 h5 a6 h6 a7 h7 a8 h8 a9 h9 a10 h10 a11 h11 hc0 hc1 x0 x1 x2 x3 x4 x5 x6 x7 = k0_pay3 x2 := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3 x4 x5 x6 x7)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, h8.read_unread, h10.read_unread, h11.read_unread, View.ld_unit_zero (S := S512x1024) hz, View.ld_unit_zero (S := S1x1024) hz, View.ld_unit_zero (S := S1024x2048) hz, View.ld_unit_zero (S := S128x1024) hz, View.ld_unit_zero (S := S1024x1024) hz]
/-- The first point leaves the last weights in the second scratch. -/
theorem last_A (c : Dev nD) (i : grid0.Coords) (a1 : Memref sig .tc .vmem S512x1024 .f32) (h1 : a1.IsWhole) (a2 : Memref sig .tc .vmem S1x1024 .f32) (h2 : a2.IsWhole) (a3 : Memref sig .tc .vmem S1024x2048 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x1024 .f32) (h7 : a7.IsWhole) (a8 : Memref sig .tc .vmem S1024x1024 .f32) (h8 : a8.IsWhole) (a9 : Memref sig .tc .vmem S512x1024 .f32) (h9 : a9.IsWhole) (a10 : Memref sig .tc .vmem S1024x2048 .bf16) (h10 : a10.IsWhole) (a11 : Memref sig .tc .vmem S1024x1024 .bf16) (h11 : a11.IsWhole) (hc0 : cond0_0 i) (hc1 : cond0_1 i)
    (x0 : Vec F S512x1024 .f32) (x1 : Vec F S1x1024 .f32) (x2 : Vec F S1024x2048 .f32) (x3 x4 : Vec F S1x1024 .f32) (x5 : Vec F S8x128x128 .f32) (x6 : Vec F S128x1024 .f32) (x7 : Vec F S1024x1024 .f32) :
    sout0_A_1 c i a1 h1 a2 h2 a3 h3 a4 h4 a5 h5 a6 h6 a7 h7 a8 h8 a9 h9 a10 h10 a11 h11 hc0 hc1 x0 x1 x2 x3 x4 x5 x6 x7 = k0_pay4 x7 := by
  unfold sout0_A_1
  rw [View.read_writes_eq_canon _ _ _ (scover0_A_1 c i a1 h1 a2 h2 a3 h3 a4 h4 a5 h5 a6 h6 a7 h7 a8 h8 a9 h9 a10 h10 a11 h11 hc0 hc1 x0 x1 x2 x3 x4 x5 x6 x7)]
  unfold kernelRun0_A
  dsimp only
  try sl_unfold_words
  rw [View.canon_unit_zero hz]
  simp only [View.readAt_eq_ld, h1.read_unread, h2.read_unread, h3.read_unread, h4.read_unread, h5.read_unread, h6.read_unread, h7.read_unread, h8.read_unread, h10.read_unread, h11.read_unread, View.ld_unit_zero (S := S512x1024) hz, View.ld_unit_zero (S := S1x1024) hz, View.ld_unit_zero (S := S1024x2048) hz, View.ld_unit_zero (S := S128x1024) hz, View.ld_unit_zero (S := S1024x1024) hz]
/-- The first point writes its block with the weights it has just laid down. -/
theorem out_A (c : Dev nD) (i : grid0.Coords) (a1 : Memref sig .tc .vmem S512x1024 .f32) (h1 : a1.IsWhole) (a2 : Memref sig .tc .vmem S1x1024 .f32) (h2 : a2.IsWhole) (a3 : Memref sig .tc .vmem S1024x2048 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x1024 .f32) (h7 : a7.IsWhole) (a8 : Memref sig .tc .vmem S1024x1024 .f32) (h8 : a8.IsWhole) (a9 : Memref sig .tc .vmem S512x1024 .f32) (h9 : a9.IsWhole) (a10 : Memref sig .tc .vmem S1024x2048 .bf16) (h10 : a10.IsWhole) (a11 : Memref sig .tc .vmem S1024x1024 .bf16) (h11 : a11.IsWhole) (hc0 : cond0_0 i) (hc1 : cond0_1 i)
    (x0 : Vec F S512x1024 .f32) (x1 : Vec F S1x1024 .f32) (x2 : Vec F S1024x2048 .f32) (x3 x4 : Vec F S1x1024 .f32) (x5 : Vec F S8x128x128 .f32) (x6 : Vec F S128x1024 .f32) (x7 : Vec F S1024x1024 .f32) :
    out0_A_8 c i a1 h1 a2 h2 a3 h3 a4 h4 a5 h5 a6 h6 a7 h7 a8 h8 a9 h9 a10 h10 a11 h11 hc0 hc1 x0 x1 x2 x3 x4 x5 x6 x7 = point x0 x1 x3 x4 x5 x6 (k0_pay3 x2) (k0_pay4 x7) := by
  unfold out0_A_8
  rw [View.read_writes_eq_canon _ _ _ (cover0_A_8 c i a1 h1 a2 h2 a3 h3 a4 h4 a5 h5 a6 h6 a7 h7 a8 h8 a9 h9 a10 h10 a11 h11 hc0 hc1 x0 x1 x2 x3 x4 x5 x6 x7)]
  unfold kernelRun0_A
  dsimp only
  try sl_unfold_words
  rw [View.canon_unit_zero hz]
  rw [View.readCov_unit_zero (S := S1024x1024) _ hz]
  rw [cov_read, cov_read]
  simp only [View.readAt_eq_ld, h1.read_unread, h2.read_unread, h3.read_unread, h4.read_unread, h5.read_unread, h6.read_unread, h7.read_unread, h8.read_unread, h10.read_unread, h11.read_unread, View.ld_unit_zero (S := S512x1024) hz, View.ld_unit_zero (S := S1x1024) hz, View.ld_unit_zero (S := S1024x2048) hz, View.ld_unit_zero (S := S128x1024) hz, View.ld_unit_zero (S := S1024x1024) hz]
  rfl
/-- Every other point writes its block with the weights it finds. -/
theorem out_B (c : Dev nD) (i : grid0.Coords) (a1 : Memref sig .tc .vmem S512x1024 .f32) (h1 : a1.IsWhole) (a2 : Memref sig .tc .vmem S1x1024 .f32) (h2 : a2.IsWhole) (a3 : Memref sig .tc .vmem S1024x2048 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S128x1024 .f32) (h7 : a7.IsWhole) (a8 : Memref sig .tc .vmem S1024x1024 .f32) (h8 : a8.IsWhole) (a9 : Memref sig .tc .vmem S512x1024 .f32) (h9 : a9.IsWhole) (a10 : Memref sig .tc .vmem S1024x2048 .bf16) (h10 : a10.IsWhole) (a11 : Memref sig .tc .vmem S1024x1024 .bf16) (h11 : a11.IsWhole) (hc0 : ¬cond0_0 i) (hc1 : ¬cond0_1 i)
    (x0 : Vec F S512x1024 .f32) (x1 : Vec F S1x1024 .f32) (x2 : Vec F S1024x2048 .f32) (x3 x4 : Vec F S1x1024 .f32) (x5 : Vec F S8x128x128 .f32) (x6 : Vec F S128x1024 .f32) (x7 : Vec F S1024x1024 .f32) (s0 : Vec F S1024x2048 .bf16) (s1 : Vec F S1024x1024 .bf16) :
    out0_B_8 c i a1 h1 a2 h2 a3 h3 a4 h4 a5 h5 a6 h6 a7 h7 a8 h8 a9 h9 a10 h10 a11 h11 hc0 hc1 x0 x1 x2 x3 x4 x5 x6 x7 s0 s1 = point x0 x1 x3 x4 x5 x6 s0 s1 := by
  unfold out0_B_8
  rw [View.read_writes_eq_canon _ _ _ (cover0_B_8 c i a1 h1 a2 h2 a3 h3 a4 h4 a5 h5 a6 h6 a7 h7 a8 h8 a9 h9 a10 h10 a11 h11 hc0 hc1 x0 x1 x2 x3 x4 x5 x6 x7 s0 s1)]
  unfold kernelRun0_B
  dsimp only
  try sl_unfold_words
  rw [View.canon_unit_zero hz]
  simp only [View.readAt_eq_ld, h1.read_unread, h2.read_unread, h3.read_unread, h4.read_unread, h5.read_unread, h6.read_unread, h7.read_unread, h8.read_unread, h10.read_unread, h11.read_unread, View.ld_unit_zero (S := S512x1024) hz, View.ld_unit_zero (S := S1x1024) hz, View.ld_unit_zero (S := S1024x2048) hz, View.ld_unit_zero (S := S128x1024) hz, View.ld_unit_zero (S := S1024x1024) hz]
  rfl
end Cases

/-! ## The payloads at an index -/

section Apply

/-- The tanh form of the gelu. -/
def gelu (z : EReal) : EReal :=
  Ideal.ofBits .f32 0x3F000000#32 * z * (Ideal.ofBits .f32 0x3F800000#32 + Ideal.tanh (Ideal.ofBits .f32 0x3F4C422A#32 * (z + Ideal.ofBits .f32 0x3D372713#32 * (z * z * z))))

theorem pay3_apply (w : Vec Ideal S1024x2048 .f32) (i : S1024x2048.Idx) : k0_pay3 (F := Ideal) w i = w i := by
  unfold k0_pay3
  pointwise
  first | done | rfl

theorem pay4_apply (w : Vec Ideal S1024x1024 .f32) (i : S1024x1024.Idx) : k0_pay4 (F := Ideal) w i = w i := by
  unfold k0_pay4
  pointwise
  first | done | rfl

theorem pay6_apply (x : Vec Ideal S512x1024 .f32) (g : Vec Ideal S1x1024 .f32) (i : S512x1024.Idx) :
    k0_pay6 (F := Ideal) x g i = x i * Ideal.rsqrt (Ideal.div (∑ q, x (ix2 (i 0) q) * x (ix2 (i 0) q)) (Ideal.ofBits .f32 0x44800000#32)
      + Ideal.ofBits .f32 0x358637BD#32) * g (ix2 0 (i 1)) := by
  unfold k0_pay6 k0_pay5
  pointwise
  first | done | rfl

theorem pay7_apply (x : Vec Ideal S512x1024 .f32) (g : Vec Ideal S1x1024 .f32) (w : Vec Ideal S1024x1024 .bf16) (i : S512x1024.Idx) :
    k0_pay7 (F := Ideal) x g w i = gelu (∑ k, k0_pay6 (F := Ideal) x g (ix2 (i 0) k) * w (ix2 k (i 1))) := by
  unfold k0_pay7 gelu
  pointwise
  first | done | rfl

theorem pay8_apply (h : Vec Ideal S512x1024 .bf16) (w : Vec Ideal S1024x1024 .bf16) (i : S512x1024.Idx) :
    k0_pay8 (F := Ideal) h w i = gelu (∑ k, h (ix2 (i 0) k) * w (ix2 k (i 1))) := by
  unfold k0_pay8 gelu
  pointwise
  first | done | rfl

theorem pay9_apply (v : Vec Ideal S512x1024 .f32) (a b : Vec Ideal S1x1024 .f32) (i : S512x1024.Idx) :
    k0_pay9 (F := Ideal) v a b i = (v i - Ideal.div (∑ q, v (ix2 (i 0) q)) (Ideal.ofBits .f32 0x44800000#32))
      * Ideal.rsqrt (Ideal.div (∑ p, (v (ix2 (i 0) p) - Ideal.div (∑ q, v (ix2 (i 0) q)) (Ideal.ofBits .f32 0x44800000#32))
        * (v (ix2 (i 0) p) - Ideal.div (∑ q, v (ix2 (i 0) q)) (Ideal.ofBits .f32 0x44800000#32))) (Ideal.ofBits .f32 0x44800000#32)
        + Ideal.ofBits .f32 0x358637BD#32) * a (ix2 0 (i 1)) + b (ix2 0 (i 1)) := by
  unfold k0_pay9
  pointwise
  first | done | rfl

theorem right_apply (w : Vec Ideal S1024x2048 .bf16) (i : S1024x1024.Idx) :
    right w i = w (ix2 (i 0) ⟨1024 + (i 1).val, by have : (i 1).val < 1024 := (i 1).isLt; omega⟩) := by
  unfold right
  pointwise
  first | done | rfl

theorem left_apply (w : Vec Ideal S1024x2048 .bf16) (i : S1024x1024.Idx) :
    left w i = w (ix2 (i 0) ⟨(i 1).val, by have : (i 1).val < 1024 := (i 1).isLt; omega⟩) := by
  unfold left
  pointwise
  first | done | rfl

/-- Whether row `a` may read row `b`: the two numbers compared as the program compares them. -/
def tri (a b : Nat) : BitVec 1 := IntOp.cmpi .sge (BitVec.ofNat 32 a) (BitVec.ofNat 32 b)

theorem sq0_apply (x5 : Vec Ideal S8x128x128 .f32) (i : S128x128.Idx) :
    sq0 (gr0 x5) i = Scalar.select (tri (i 0).val (i 1).val) (x5 (ix3 0 (i 0) (i 1))) (0 : EReal) := by
  unfold sq0 gr0 k0_pay11 k0_pay10 tri
  pointwise
  first | done | rfl

theorem sq1_apply (x5 : Vec Ideal S8x128x128 .f32) (i : S128x128.Idx) :
    sq1 (gr1 x5) i = Scalar.select (tri (i 0).val (i 1).val) (x5 (ix3 1 (i 0) (i 1))) (0 : EReal) := by
  unfold sq1 gr1 k0_pay12 rowNo colNo tri
  pointwise
  first | done | rfl

theorem sq2_apply (x5 : Vec Ideal S8x128x128 .f32) (i : S128x128.Idx) :
    sq2 (gr2 x5) i = Scalar.select (tri (i 0).val (i 1).val) (x5 (ix3 2 (i 0) (i 1))) (0 : EReal) := by
  unfold sq2 gr2 k0_pay13 rowNo colNo tri
  pointwise
  first | done | rfl

theorem sq3_apply (x5 : Vec Ideal S8x128x128 .f32) (i : S128x128.Idx) :
    sq3 (gr3 x5) i = Scalar.select (tri (i 0).val (i 1).val) (x5 (ix3 3 (i 0) (i 1))) (0 : EReal) := by
  unfold sq3 gr3 k0_pay14 rowNo colNo tri
  pointwise
  first | done | rfl

theorem sq4_apply (x5 : Vec Ideal S8x128x128 .f32) (i : S128x128.Idx) :
    sq4 (gr4 x5) i = Scalar.select (tri (i 0).val (i 1).val) (x5 (ix3 4 (i 0) (i 1))) (0 : EReal) := by
  unfold sq4 gr4 k0_pay15 rowNo colNo tri
  pointwise
  first | done | rfl

theorem sq5_apply (x5 : Vec Ideal S8x128x128 .f32) (i : S128x128.Idx) :
    sq5 (gr5 x5) i = Scalar.select (tri (i 0).val (i 1).val) (x5 (ix3 5 (i 0) (i 1))) (0 : EReal) := by
  unfold sq5 gr5 k0_pay16 rowNo colNo tri
  pointwise
  first | done | rfl

theorem sq6_apply (x5 : Vec Ideal S8x128x128 .f32) (i : S128x128.Idx) :
    sq6 (gr6 x5) i = Scalar.select (tri (i 0).val (i 1).val) (x5 (ix3 6 (i 0) (i 1))) (0 : EReal) := by
  unfold sq6 gr6 k0_pay18 k0_pay17 rowNo colNo tri
  pointwise
  first | done | rfl

theorem sq7_apply (x5 : Vec Ideal S8x128x128 .f32) (i : S128x128.Idx) :
    sq7 (gr7 x5) i = Scalar.select (tri (i 0).val (i 1).val) (x5 (ix3 7 (i 0) (i 1))) (0 : EReal) := by
  unfold sq7 gr7 k0_pay19 rowNo colNo tri
  pointwise
  first | done | rfl

theorem mm (a : FVec Ideal S128x128 .bf16) (vb : FVec Ideal S512x1024 .bf16) (o p : Nat) (hs : S512x1024.Slices ![o, p] S128x128)
    (ho : o + 128 ≤ 512) (hp : p + 128 ≤ 1024) (i : S128x128.Idx) :
    matmul dot_S128x128_S128x128_S128x128_1_0_0_1_n_n none a (extractStridedSlice S128x128 ![o, p] vb hs) (constant (F := Ideal) S128x128 .f32 0x00000000#32) i
      = ∑ k : Fin 128, a (ix2 (i 0) k) * vb (ix2 ⟨o + k.val, by omega⟩ ⟨p + (i 1).val, by have : (i 1).val < 128 := (i 1).isLt; omega⟩) := by
  pointwise
  first | done | rfl

theorem cat8 (y0 y1 y2 y3 y4 y5 y6 y7 : S128x128.Idx → EReal) (h) (j : S128x1024.Idx) :
    concatenate S128x1024 1 [⟨S128x128, y0⟩, ⟨S128x128, y1⟩, ⟨S128x128, y2⟩, ⟨S128x128, y3⟩, ⟨S128x128, y4⟩, ⟨S128x128, y5⟩, ⟨S128x128, y6⟩, ⟨S128x128, y7⟩] h j
      = (![y0, y1, y2, y3, y4, y5, y6, y7] : Fin 8 → S128x128.Idx → EReal) ⟨(j 1).val / 128, by have : (j 1).val < 1024 := (j 1).isLt; omega⟩
        (ix2 (j 0) ⟨(j 1).val % 128, Nat.mod_lt _ (by decide)⟩) :=
  concatenate_ofFn_apply (s₁ := S128x128) 1 (![y0, y1, y2, y3, y4, y5, y6, y7] : Fin 8 → S128x128.Idx → EReal) h rfl 128 rfl j _ rfl _ rfl
    (fun b hb => match b with
      | ⟨0, _⟩ => rfl
      | ⟨1, _⟩ => absurd rfl hb)

theorem cat4 (y0 y1 y2 y3 : S128x1024.Idx → EReal) (h) (j : S512x1024.Idx) :
    concatenate S512x1024 0 [⟨S128x1024, y0⟩, ⟨S128x1024, y1⟩, ⟨S128x1024, y2⟩, ⟨S128x1024, y3⟩] h j
      = (![y0, y1, y2, y3] : Fin 4 → S128x1024.Idx → EReal) ⟨(j 0).val / 128, by have : (j 0).val < 512 := (j 0).isLt; omega⟩
        (ix2 ⟨(j 0).val % 128, Nat.mod_lt _ (by decide)⟩ (j 1)) :=
  concatenate_ofFn_apply (s₁ := S128x1024) 0 (![y0, y1, y2, y3] : Fin 4 → S128x1024.Idx → EReal) h rfl 128 rfl j _ rfl _ rfl
    (fun b hb => match b with
      | ⟨0, _⟩ => absurd rfl hb
      | ⟨1, _⟩ => rfl)

/-- One entry of a group's square times the group's columns of the 128 rows from `o` on. -/
def part (x5 : Vec Ideal S8x128x128 .f32) (vb : FVec Ideal S512x1024 .bf16) (o : Nat) (ho : o + 128 ≤ 512) (g : Fin 8) (i : S128x128.Idx) : EReal :=
  ∑ k : Fin 128, Scalar.select (tri (i 0).val k.val) (x5 (ix3 g (i 0) k)) (0 : EReal)
    * vb (ix2 ⟨o + k.val, by omega⟩ ⟨128 * g.val + (i 1).val, by have : (i 1).val < 128 := (i 1).isLt; omega⟩)

theorem part0 (x5 : Vec Ideal S8x128x128 .f32) (vb : FVec Ideal S512x1024 .bf16) (o : Nat) (ho : o + 128 ≤ 512) (hs : S512x1024.Slices ![o, 0] S128x128) (i : S128x128.Idx) :
    matmul dot_S128x128_S128x128_S128x128_1_0_0_1_n_n none (sq0 (gr0 x5)) (extractStridedSlice S128x128 ![o, 0] vb hs) (constant (F := Ideal) S128x128 .f32 0x00000000#32) i
      = part x5 vb o ho 0 i :=
  (mm _ _ o 0 hs ho (by decide) i).trans (Finset.sum_congr rfl fun k _ => congrArg (· * _) (sq0_apply x5 (ix2 (i 0) k)))

theorem part1 (x5 : Vec Ideal S8x128x128 .f32) (vb : FVec Ideal S512x1024 .bf16) (o : Nat) (ho : o + 128 ≤ 512) (hs : S512x1024.Slices ![o, 128] S128x128) (i : S128x128.Idx) :
    matmul dot_S128x128_S128x128_S128x128_1_0_0_1_n_n none (sq1 (gr1 x5)) (extractStridedSlice S128x128 ![o, 128] vb hs) (constant (F := Ideal) S128x128 .f32 0x00000000#32) i
      = part x5 vb o ho 1 i :=
  (mm _ _ o 128 hs ho (by decide) i).trans (Finset.sum_congr rfl fun k _ => congrArg (· * _) (sq1_apply x5 (ix2 (i 0) k)))

theorem part2 (x5 : Vec Ideal S8x128x128 .f32) (vb : FVec Ideal S512x1024 .bf16) (o : Nat) (ho : o + 128 ≤ 512) (hs : S512x1024.Slices ![o, 256] S128x128) (i : S128x128.Idx) :
    matmul dot_S128x128_S128x128_S128x128_1_0_0_1_n_n none (sq2 (gr2 x5)) (extractStridedSlice S128x128 ![o, 256] vb hs) (constant (F := Ideal) S128x128 .f32 0x00000000#32) i
      = part x5 vb o ho 2 i :=
  (mm _ _ o 256 hs ho (by decide) i).trans (Finset.sum_congr rfl fun k _ => congrArg (· * _) (sq2_apply x5 (ix2 (i 0) k)))

theorem part3 (x5 : Vec Ideal S8x128x128 .f32) (vb : FVec Ideal S512x1024 .bf16) (o : Nat) (ho : o + 128 ≤ 512) (hs : S512x1024.Slices ![o, 384] S128x128) (i : S128x128.Idx) :
    matmul dot_S128x128_S128x128_S128x128_1_0_0_1_n_n none (sq3 (gr3 x5)) (extractStridedSlice S128x128 ![o, 384] vb hs) (constant (F := Ideal) S128x128 .f32 0x00000000#32) i
      = part x5 vb o ho 3 i :=
  (mm _ _ o 384 hs ho (by decide) i).trans (Finset.sum_congr rfl fun k _ => congrArg (· * _) (sq3_apply x5 (ix2 (i 0) k)))

theorem part4 (x5 : Vec Ideal S8x128x128 .f32) (vb : FVec Ideal S512x1024 .bf16) (o : Nat) (ho : o + 128 ≤ 512) (hs : S512x1024.Slices ![o, 512] S128x128) (i : S128x128.Idx) :
    matmul dot_S128x128_S128x128_S128x128_1_0_0_1_n_n none (sq4 (gr4 x5)) (extractStridedSlice S128x128 ![o, 512] vb hs) (constant (F := Ideal) S128x128 .f32 0x00000000#32) i
      = part x5 vb o ho 4 i :=
  (mm _ _ o 512 hs ho (by decide) i).trans (Finset.sum_congr rfl fun k _ => congrArg (· * _) (sq4_apply x5 (ix2 (i 0) k)))

theorem part5 (x5 : Vec Ideal S8x128x128 .f32) (vb : FVec Ideal S512x1024 .bf16) (o : Nat) (ho : o + 128 ≤ 512) (hs : S512x1024.Slices ![o, 640] S128x128) (i : S128x128.Idx) :
    matmul dot_S128x128_S128x128_S128x128_1_0_0_1_n_n none (sq5 (gr5 x5)) (extractStridedSlice S128x128 ![o, 640] vb hs) (constant (F := Ideal) S128x128 .f32 0x00000000#32) i
      = part x5 vb o ho 5 i :=
  (mm _ _ o 640 hs ho (by decide) i).trans (Finset.sum_congr rfl fun k _ => congrArg (· * _) (sq5_apply x5 (ix2 (i 0) k)))

theorem part6 (x5 : Vec Ideal S8x128x128 .f32) (vb : FVec Ideal S512x1024 .bf16) (o : Nat) (ho : o + 128 ≤ 512) (hs : S512x1024.Slices ![o, 768] S128x128) (i : S128x128.Idx) :
    matmul dot_S128x128_S128x128_S128x128_1_0_0_1_n_n none (sq6 (gr6 x5)) (extractStridedSlice S128x128 ![o, 768] vb hs) (constant (F := Ideal) S128x128 .f32 0x00000000#32) i
      = part x5 vb o ho 6 i :=
  (mm _ _ o 768 hs ho (by decide) i).trans (Finset.sum_congr rfl fun k _ => congrArg (· * _) (sq6_apply x5 (ix2 (i 0) k)))

theorem part7 (x5 : Vec Ideal S8x128x128 .f32) (vb : FVec Ideal S512x1024 .bf16) (o : Nat) (ho : o + 128 ≤ 512) (hs : S512x1024.Slices ![o, 896] S128x128) (i : S128x128.Idx) :
    matmul dot_S128x128_S128x128_S128x128_1_0_0_1_n_n none (sq7 (gr7 x5)) (extractStridedSlice S128x128 ![o, 896] vb hs) (constant (F := Ideal) S128x128 .f32 0x00000000#32) i
      = part x5 vb o ho 7 i :=
  (mm _ _ o 896 hs ho (by decide) i).trans (Finset.sum_congr rfl fun k _ => congrArg (· * _) (sq7_apply x5 (ix2 (i 0) k)))

/-- A row of 128-column parts side by side, read at an index. -/
def strip (x5 : Vec Ideal S8x128x128 .f32) (vb : FVec Ideal S512x1024 .bf16) (o : Nat) (ho : o + 128 ≤ 512) (j : S128x1024.Idx) : EReal :=
  ∑ k : Fin 128, Scalar.select (tri (j 0).val k.val) (x5 (ix3 ⟨(j 1).val / 128, by have : (j 1).val < 1024 := (j 1).isLt; omega⟩ (j 0) k)) (0 : EReal)
    * vb (ix2 ⟨o + k.val, by omega⟩ (j 1))

theorem side_by_side (x5 : Vec Ideal S8x128x128 .f32) (vb : FVec Ideal S512x1024 .bf16) (o : Nat) (ho : o + 128 ≤ 512) (y : Fin 8 → S128x128.Idx → EReal)
    (hy : ∀ g i, y g i = part x5 vb o ho g i) (j : S128x1024.Idx) :
    y ⟨(j 1).val / 128, by have : (j 1).val < 1024 := (j 1).isLt; omega⟩ (ix2 (j 0) ⟨(j 1).val % 128, Nat.mod_lt _ (by decide)⟩) = strip x5 vb o ho j := by
  rw [hy]
  unfold part strip
  refine Finset.sum_congr rfl fun k _ => congrArg (_ * ·) (congrArg vb (congrArg (ix2 _) (Fin.ext ?_)))
  exact Nat.div_add_mod (j 1).val 128

theorem chunk0_apply (x5 : Vec Ideal S8x128x128 .f32) (vb : FVec Ideal S512x1024 .bf16) (x6 : Vec Ideal S128x1024 .f32) (j : S128x1024.Idx) :
    chunk0 vb (gr0 x5) (gr1 x5) (gr2 x5) (gr3 x5) (gr4 x5) (gr5 x5) (gr6 x5) (gr7 x5) x6 j = strip x5 vb 0 (by decide) j + x6 j := by
  unfold chunk0 k0_pay20
  refine congrArg₂ (fun a b : EReal => a + b) ?_ (congrFun (shapeCast_self x6 _) j)
  refine (cat8 _ _ _ _ _ _ _ _ _ j).trans (side_by_side x5 vb 0 (by decide) _ (fun g i => ?_) j)
  exact match g with
    | ⟨0, _⟩ => part0 x5 vb 0 (by decide) slices_S512x1024_o0_0_S128x128 i
    | ⟨1, _⟩ => part1 x5 vb 0 (by decide) slices_S512x1024_o0_128_S128x128 i
    | ⟨2, _⟩ => part2 x5 vb 0 (by decide) slices_S512x1024_o0_256_S128x128 i
    | ⟨3, _⟩ => part3 x5 vb 0 (by decide) slices_S512x1024_o0_384_S128x128 i
    | ⟨4, _⟩ => part4 x5 vb 0 (by decide) slices_S512x1024_o0_512_S128x128 i
    | ⟨5, _⟩ => part5 x5 vb 0 (by decide) slices_S512x1024_o0_640_S128x128 i
    | ⟨6, _⟩ => part6 x5 vb 0 (by decide) slices_S512x1024_o0_768_S128x128 i
    | ⟨7, _⟩ => part7 x5 vb 0 (by decide) slices_S512x1024_o0_896_S128x128 i

theorem chunk1_apply (x5 : Vec Ideal S8x128x128 .f32) (vb : FVec Ideal S512x1024 .bf16) (x6 : Vec Ideal S128x1024 .f32) (j : S128x1024.Idx) :
    chunk1 vb (gr0 x5) (gr1 x5) (gr2 x5) (gr3 x5) (gr4 x5) (gr5 x5) (gr6 x5) (gr7 x5) x6 j = strip x5 vb 128 (by decide) j + x6 j := by
  unfold chunk1 k0_pay26
  refine congrArg₂ (fun a b : EReal => a + b) ?_ (congrFun (shapeCast_self x6 _) j)
  refine (cat8 _ _ _ _ _ _ _ _ _ j).trans (side_by_side x5 vb 128 (by decide) _ (fun g i => ?_) j)
  exact match g with
    | ⟨0, _⟩ => part0 x5 vb 128 (by decide) slices_S512x1024_o128_0_S128x128 i
    | ⟨1, _⟩ => part1 x5 vb 128 (by decide) slices_S512x1024_o128_128_S128x128 i
    | ⟨2, _⟩ => part2 x5 vb 128 (by decide) slices_S512x1024_o128_256_S128x128 i
    | ⟨3, _⟩ => part3 x5 vb 128 (by decide) slices_S512x1024_o128_384_S128x128 i
    | ⟨4, _⟩ => part4 x5 vb 128 (by decide) slices_S512x1024_o128_512_S128x128 i
    | ⟨5, _⟩ => part5 x5 vb 128 (by decide) slices_S512x1024_o128_640_S128x128 i
    | ⟨6, _⟩ => part6 x5 vb 128 (by decide) slices_S512x1024_o128_768_S128x128 i
    | ⟨7, _⟩ => part7 x5 vb 128 (by decide) slices_S512x1024_o128_896_S128x128 i

theorem chunk2_apply (x5 : Vec Ideal S8x128x128 .f32) (vb : FVec Ideal S512x1024 .bf16) (x6 : Vec Ideal S128x1024 .f32) (j : S128x1024.Idx) :
    chunk2 vb (gr0 x5) (gr1 x5) (gr2 x5) (gr3 x5) (gr4 x5) (gr5 x5) (gr6 x5) (gr7 x5) x6 j = strip x5 vb 256 (by decide) j + x6 j := by
  unfold chunk2 k0_pay27
  refine congrArg₂ (fun a b : EReal => a + b) ?_ (congrFun (shapeCast_self x6 _) j)
  refine (cat8 _ _ _ _ _ _ _ _ _ j).trans (side_by_side x5 vb 256 (by decide) _ (fun g i => ?_) j)
  exact match g with
    | ⟨0, _⟩ => part0 x5 vb 256 (by decide) slices_S512x1024_o256_0_S128x128 i
    | ⟨1, _⟩ => part1 x5 vb 256 (by decide) slices_S512x1024_o256_128_S128x128 i
    | ⟨2, _⟩ => part2 x5 vb 256 (by decide) slices_S512x1024_o256_256_S128x128 i
    | ⟨3, _⟩ => part3 x5 vb 256 (by decide) slices_S512x1024_o256_384_S128x128 i
    | ⟨4, _⟩ => part4 x5 vb 256 (by decide) slices_S512x1024_o256_512_S128x128 i
    | ⟨5, _⟩ => part5 x5 vb 256 (by decide) slices_S512x1024_o256_640_S128x128 i
    | ⟨6, _⟩ => part6 x5 vb 256 (by decide) slices_S512x1024_o256_768_S128x128 i
    | ⟨7, _⟩ => part7 x5 vb 256 (by decide) slices_S512x1024_o256_896_S128x128 i

theorem chunk3_apply (x5 : Vec Ideal S8x128x128 .f32) (vb : FVec Ideal S512x1024 .bf16) (j : S128x1024.Idx) :
    chunk3 vb (gr0 x5) (gr1 x5) (gr2 x5) (gr3 x5) (gr4 x5) (gr5 x5) (gr6 x5) (gr7 x5) j = strip x5 vb 384 (by decide) j := by
  unfold chunk3 k0_pay1
  refine (cat8 _ _ _ _ _ _ _ _ _ j).trans (side_by_side x5 vb 384 (by decide) _ (fun g i => ?_) j)
  exact match g with
    | ⟨0, _⟩ => part0 x5 vb 384 (by decide) slices_S512x1024_o384_0_S128x128 i
    | ⟨1, _⟩ => part1 x5 vb 384 (by decide) slices_S512x1024_o384_128_S128x128 i
    | ⟨2, _⟩ => part2 x5 vb 384 (by decide) slices_S512x1024_o384_256_S128x128 i
    | ⟨3, _⟩ => part3 x5 vb 384 (by decide) slices_S512x1024_o384_384_S128x128 i
    | ⟨4, _⟩ => part4 x5 vb 384 (by decide) slices_S512x1024_o384_512_S128x128 i
    | ⟨5, _⟩ => part5 x5 vb 384 (by decide) slices_S512x1024_o384_640_S128x128 i
    | ⟨6, _⟩ => part6 x5 vb 384 (by decide) slices_S512x1024_o384_768_S128x128 i
    | ⟨7, _⟩ => part7 x5 vb 384 (by decide) slices_S512x1024_o384_896_S128x128 i

/-- A block's normed gate mixed along the rows of each chunk, with the chunk's bias. -/
def mixed (x5 : Vec Ideal S8x128x128 .f32) (x6 : Vec Ideal S128x1024 .f32) (vb : FVec Ideal S512x1024 .bf16) (r : Fin 512) (q : Fin 1024) : EReal :=
  (∑ k : Fin 128, Scalar.select (tri (r.val % 128) k.val) (x5 (ix3 ⟨q.val / 128, by omega⟩ ⟨r.val % 128, Nat.mod_lt _ (by decide)⟩ k)) (0 : EReal)
    * vb (ix2 ⟨128 * (r.val / 128) + k.val, by omega⟩ q)) + x6 (ix2 ⟨r.val % 128, Nat.mod_lt _ (by decide)⟩ q)

theorem one_below_the_other (x5 : Vec Ideal S8x128x128 .f32) (x6 : Vec Ideal S128x1024 .f32) (vb : FVec Ideal S512x1024 .bf16) (y : Fin 4 → S128x1024.Idx → EReal)
    (hy : ∀ (n : Fin 4) j, y n j = strip x5 vb (128 * n.val) (by omega) j + x6 j) (i : S512x1024.Idx) :
    y ⟨(i 0).val / 128, by have : (i 0).val < 512 := (i 0).isLt; omega⟩ (ix2 ⟨(i 0).val % 128, Nat.mod_lt _ (by decide)⟩ (i 1)) = mixed x5 x6 vb (i 0) (i 1) := by
  rw [hy]
  rfl

theorem pay2_apply (x0 u : FVec Ideal S512x1024 .f32) (y0 y1 y2 y3 : FVec Ideal S128x1024 .f32) (x6 : Vec Ideal S128x1024 .f32) (w : Vec Ideal S1024x1024 .bf16)
    (x5 : Vec Ideal S8x128x128 .f32) (vb : FVec Ideal S512x1024 .bf16)
    (h0 : ∀ j, y0 j = strip x5 vb 0 (by decide) j + x6 j) (h1 : ∀ j, y1 j = strip x5 vb 128 (by decide) j + x6 j)
    (h2 : ∀ j, y2 j = strip x5 vb 256 (by decide) j + x6 j) (h3 : ∀ j, y3 j = strip x5 vb 384 (by decide) j) (i : S512x1024.Idx) :
    k0_pay2 (F := Ideal) x0 u y0 y1 y2 y3 x6 w i = x0 i + ∑ q, u (ix2 (i 0) q) * mixed x5 x6 vb (i 0) q * w (ix2 q (i 1)) := by
  have hs : ∀ j, concatenate S512x1024 0 [⟨S128x1024, y0⟩, ⟨S128x1024, y1⟩, ⟨S128x1024, y2⟩, ⟨S128x1024, addf y3 (shapeCast S128x1024 x6 shapeCasts_S128x1024_S128x1024)⟩]
      concatenates_S128x1024_S128x1024_S128x1024_S128x1024_S512x1024_d0 j = mixed x5 x6 vb (j 0) (j 1) := fun j => by
    refine (cat4 _ _ _ _ _ j).trans (one_below_the_other x5 x6 vb _ (fun n j => ?_) j)
    exact match n with
      | ⟨0, _⟩ => h0 j
      | ⟨1, _⟩ => h1 j
      | ⟨2, _⟩ => h2 j
      | ⟨3, _⟩ => congrArg₂ (fun a b : EReal => a + b) (h3 j) (congrFun (shapeCast_self x6 _) j)
  unfold k0_pay2
  generalize concatenate S512x1024 0 [⟨S128x1024, y0⟩, ⟨S128x1024, y1⟩, ⟨S128x1024, y2⟩, ⟨S128x1024, addf y3 (shapeCast S128x1024 x6 shapeCasts_S128x1024_S128x1024)⟩]
      concatenates_S128x1024_S128x1024_S128x1024_S128x1024_S512x1024_d0 = s at hs ⊢
  pointwise
  simp only [hs]
  first | done | rfl

theorem point_apply (x0 : Vec Ideal S512x1024 .f32) (x1 x3 x4 : Vec Ideal S1x1024 .f32) (x5 : Vec Ideal S8x128x128 .f32) (x6 : Vec Ideal S128x1024 .f32)
    (s0 : Vec Ideal S1024x2048 .bf16) (s1 : Vec Ideal S1024x1024 .bf16) (i : S512x1024.Idx) :
    point x0 x1 x3 x4 x5 x6 s0 s1 i = x0 i + ∑ q, gelu (∑ k, k0_pay6 (F := Ideal) x0 x1 (ix2 (i 0) k) * s0 (ix2 k ⟨q.val, by omega⟩))
      * mixed x5 x6 (gate x0 x1 (right s0) x3 x4) (i 0) q * s1 (ix2 q (i 1)) := by
  unfold point
  refine (pay2_apply _ _ _ _ _ _ _ _ x5 (gate x0 x1 (right s0) x3 x4) (chunk0_apply x5 _ x6) (chunk1_apply x5 _ x6) (chunk2_apply x5 _ x6) (chunk3_apply x5 _) i).trans ?_
  refine congrArg₂ (fun a b : EReal => a + b) (congrFun (shapeCast_self x0 _) i) (Finset.sum_congr rfl fun q _ => ?_)
  rw [pay8_apply]
  simp only [left_apply]
  first | done | rfl

/-- The gate's columns before the norm. -/
def gateRaw (x0 : Vec Ideal S512x1024 .f32) (x1 : Vec Ideal S1x1024 .f32) (s0 : Vec Ideal S1024x2048 .bf16) (r : Fin 512) (q : Fin 1024) : EReal :=
  gelu (∑ k, k0_pay6 (F := Ideal) x0 x1 (ix2 r k) * s0 (ix2 k ⟨1024 + q.val, by omega⟩))

theorem raw_apply (x0 : Vec Ideal S512x1024 .f32) (x1 : Vec Ideal S1x1024 .f32) (s0 : Vec Ideal S1024x2048 .bf16) (i : S512x1024.Idx) :
    k0_pay7 (F := Ideal) x0 x1 (right s0) i = gateRaw x0 x1 s0 (i 0) (i 1) := by
  rw [pay7_apply]
  simp only [right_apply]
  first | done | rfl

theorem gate_apply (x0 : Vec Ideal S512x1024 .f32) (x1 x3 x4 : Vec Ideal S1x1024 .f32) (s0 : Vec Ideal S1024x2048 .bf16) (i : S512x1024.Idx) :
    gate x0 x1 (right s0) x3 x4 i = (gateRaw x0 x1 s0 (i 0) (i 1) - Ideal.div (∑ q, gateRaw x0 x1 s0 (i 0) q) (Ideal.ofBits .f32 0x44800000#32))
      * Ideal.rsqrt (Ideal.div (∑ p, (gateRaw x0 x1 s0 (i 0) p - Ideal.div (∑ q, gateRaw x0 x1 s0 (i 0) q) (Ideal.ofBits .f32 0x44800000#32))
        * (gateRaw x0 x1 s0 (i 0) p - Ideal.div (∑ q, gateRaw x0 x1 s0 (i 0) q) (Ideal.ofBits .f32 0x44800000#32))) (Ideal.ofBits .f32 0x44800000#32)
        + Ideal.ofBits .f32 0x358637BD#32) * x3 (ix2 0 (i 1)) + x4 (ix2 0 (i 1)) := by
  unfold gate
  rw [pay9_apply]
  simp only [raw_apply]
  first | done | rfl

end Apply

end Cert.GmlpIdeal.Hand

end
-- ==== Proof.GmlpFold.lean ====
/- What the chunked gMLP kernel's array ends holding: the weights the scratch keeps from the first point on, the block
   each point writes, and the array read at an index. -/
module

public import proofs.«01_k».proof.Proof.GmlpPay
public import proofs.«01_k».proof.Proof.Spec
public import proofs.«01_k».proof.Proof.Gen.GmlpIdeal.Value
public import Idealize.ShloMosaic.Lib.StableHlo.Run

@[expose] public section

noncomputable section

namespace Cert.GmlpIdeal.Hand

open Cert.GmlpIdeal Cert.GmlpIdeal.Gen Cert.GmlpIdeal.Value Idealize.ShloMosaic Idealize.ShloMosaic.TcCoe Idealize.SL.Sem

/-! ## The layer over natural-number indices -/

/-- Column `q` of the gelu of the wide product. -/
def act (H W : ℕ → ℕ → EReal) (r q : ℕ) : EReal := gelu (Spec.lin H W r q)

/-- The mean of the gate's columns. -/
def mean (v : ℕ → ℕ → EReal) (r : ℕ) : EReal := Ideal.div (∑ q : Fin 1024, v r q) (Ideal.ofBits .f32 0x44800000#32)

/-- The gate's columns brought to mean zero and unit variance, with gain and bias. -/
def normed (v : ℕ → ℕ → EReal) (a b : ℕ → EReal) (r q : ℕ) : EReal :=
  (v r q - mean v r) * Ideal.rsqrt (Ideal.div (∑ p : Fin 1024, (v r p - mean v r) * (v r p - mean v r)) (Ideal.ofBits .f32 0x44800000#32)
    + Ideal.ofBits .f32 0x358637BD#32) * a q + b q

/-- Row `r` of column `q`, mixed with the earlier rows of its chunk of 128 by the column group's square, with the bias. -/
def mix (S : ℕ → ℕ → ℕ → EReal) (B : ℕ → ℕ → EReal) (v : ℕ → ℕ → EReal) (r q : ℕ) : EReal :=
  (∑ k : Fin 128, Scalar.select (tri (r % 128) k.val) (S (q / 128) (r % 128) k.val) (0 : EReal) * v (128 * (r / 128) + k.val) q) + B (q / 128) (r % 128)

/-- The layer's output. -/
def gmlp (H W : ℕ → ℕ → EReal) (a b : ℕ → EReal) (S : ℕ → ℕ → ℕ → EReal) (B D : ℕ → ℕ → EReal) (r j : ℕ) : EReal :=
  ∑ q : Fin 1024, act H W r q * mix S B (normed (fun r q => act H W r (1024 + q)) a b) r q * D q j

variable (m : (ℓ : Loc nD τ sig) → Buf (Elt Ideal) ℓ)

/-! ## The arguments over natural-number indices -/

/-- Row `r` of `x`, its two leading axes taken as one. -/
def X (c : Dev nD) (r k : ℕ) : EReal :=
  (m ((c : Thread nD τ).loc main_arg0) : S8x2048x1024.Idx → EReal) (ix3 (Fin.ofNat 8 (r / 2048)) (Fin.ofNat 2048 r) (Fin.ofNat 1024 k))
/-- The layer's gain. -/
def gain (c : Dev nD) (k : ℕ) : EReal :=
  (m ((c : Thread nD τ).loc main_arg1) : S2x1024.Idx → EReal) (ix2 1 (Fin.ofNat 1024 k))
/-- The wide weight. -/
def W (c : Dev nD) (k f : ℕ) : EReal :=
  (m ((c : Thread nD τ).loc main_arg2) : S1x1024x2048.Idx → EReal) (ix3 0 (Fin.ofNat 1024 k) (Fin.ofNat 2048 f))
/-- The gate norm's gain and bias. -/
def gA (c : Dev nD) (k : ℕ) : EReal := (m ((c : Thread nD τ).loc main_arg3) : S1x1024.Idx → EReal) (ix2 0 (Fin.ofNat 1024 k))
def gB (c : Dev nD) (k : ℕ) : EReal := (m ((c : Thread nD τ).loc main_arg4) : S1x1024.Idx → EReal) (ix2 0 (Fin.ofNat 1024 k))
/-- The spatial weights and biases. -/
def S (c : Dev nD) (g r k : ℕ) : EReal :=
  (m ((c : Thread nD τ).loc main_arg5) : S1x8x128x128.Idx → EReal) (ix4 0 (Fin.ofNat 8 g) (Fin.ofNat 128 r) (Fin.ofNat 128 k))
def B (c : Dev nD) (g r : ℕ) : EReal :=
  (m ((c : Thread nD τ).loc main_arg6) : S1x8x128.Idx → EReal) (ix3 0 (Fin.ofNat 8 g) (Fin.ofNat 128 r))
/-- The last weight. -/
def D (c : Dev nD) (f j : ℕ) : EReal :=
  (m ((c : Thread nD τ).loc main_arg7) : S1x1024x1024.Idx → EReal) (ix3 0 (Fin.ofNat 1024 f) (Fin.ofNat 1024 j))

/-- The scaled rows. -/
abbrev H (c : Dev nD) : ℕ → ℕ → EReal := Spec.scaled (X m c) (gain m c)

/-! ## The arrays the windows read -/

theorem V3_apply (c : Dev nD) (i : S128x1024.Idx) : (V m c main_v3 : S128x1024.Idx → EReal) i = B m c ((i 1).val / 128) (i 0).val := by
  have h0 : (i 0).val < 128 := (i 0).isLt
  have h1 : (i 1).val < 1024 := (i 1).isLt
  have hV : (V m c main_v3 : S128x1024.Idx → EReal)
      = shapeCast S128x1024 (broadcastInDim S128x8x128 ![0, 1] bcast_S128x8_S128x8x128_0_1 (transpose S128x8 [1, 0]
        (shapeCast S8x128 (m ((c : Thread nD τ).loc main_arg6) : Vec Ideal S1x8x128 .f32) shapeCasts_S1x8x128_S8x128) transposes_S8x128_S128x8_1_0))
        shapeCasts_S128x8x128_S128x1024 := by
    show StableHlo.after hostOps0 _ _ = _
    after_results_simp <;> rfl
  rw [hV]
  rw [shapeCast_apply _ shapeCasts_S128x8x128_S128x1024 i (ix3 (i 0) (Fin.ofNat 8 ((i 1).val / 128)) (Fin.ofNat 128 (i 1).val)) (by
      rw [Shape.rowMajor_val_three, Shape.rowMajor_val_two]
      show ((i 0).val * 8 + (i 1).val / 128 % 8) * 128 + (i 1).val % 128 = (i 0).val * 1024 + (i 1).val
      omega)]
  rw [broadcastInDim_apply _ bcast_S128x8_S128x8x128_0_1 _ _ (ix2 (i 0) (Fin.ofNat 8 ((i 1).val / 128))) (fun a => match a with
    | ⟨0, _⟩ => by show (i 0).val = if (128 : Nat) = 1 then 0 else (i 0).val; rw [if_neg (by decide)]
    | ⟨1, _⟩ => by show (i 1).val / 128 % 8 = if (8 : Nat) = 1 then 0 else (i 1).val / 128 % 8; rw [if_neg (by decide)])]
  rw [transpose_apply [1, 0] _ transposes_S8x128_S128x8_1_0 _ (ix2 (Fin.ofNat 8 ((i 1).val / 128)) (i 0)) (fun b => match b with
    | ⟨0, _⟩ => rfl
    | ⟨1, _⟩ => rfl)]
  exact shapeCast_apply (m ((c : Thread nD τ).loc main_arg6) : S1x8x128.Idx → EReal) shapeCasts_S1x8x128_S8x128 _
    (ix3 0 (Fin.ofNat 8 ((i 1).val / 128)) (Fin.ofNat 128 (i 0).val)) (by
      show (Shape.rowMajor (s := S1x8x128) (ix3 0 (Fin.ofNat 8 ((i 1).val / 128)) (Fin.ofNat 128 (i 0).val))).val
        = (Shape.rowMajor (s := S8x128) (ix2 (Fin.ofNat 8 ((i 1).val / 128)) (i 0))).val
      rw [Shape.rowMajor_val_three, Shape.rowMajor_val_two]
      show (0 * 8 + (i 1).val / 128 % 8) * 128 + (i 0).val % 128 = (i 1).val / 128 % 8 * 128 + (i 0).val
      omega)

theorem V4_apply (c : Dev nD) (i : S16384x1024.Idx) : (V m c main_v4 : S16384x1024.Idx → EReal) i = X m c (i 0).val (i 1).val := by
  have hV : (V m c main_v4 : S16384x1024.Idx → EReal)
      = shapeCast S16384x1024 (m ((c : Thread nD τ).loc main_arg0) : Vec Ideal S8x2048x1024 .f32) shapeCasts_S8x2048x1024_S16384x1024 := by
    show StableHlo.after hostOps0 _ _ = _
    after_results_simp <;> rfl
  rw [hV]
  exact shapeCast_apply (m ((c : Thread nD τ).loc main_arg0) : S8x2048x1024.Idx → EReal) shapeCasts_S8x2048x1024_S16384x1024 i
    (ix3 (Fin.ofNat 8 ((i 0).val / 2048)) (Fin.ofNat 2048 (i 0).val) (Fin.ofNat 1024 (i 1).val)) (by
      show (Shape.rowMajor (s := S8x2048x1024) (ix3 (Fin.ofNat 8 ((i 0).val / 2048)) (Fin.ofNat 2048 (i 0).val) (Fin.ofNat 1024 (i 1).val))).val = (Shape.rowMajor (s := S16384x1024) i).val
      rw [Shape.rowMajor_val_three, Shape.rowMajor_val_two]
      have h0 : (i 0).val < 16384 := (i 0).isLt
      have h1 : (i 1).val < 1024 := (i 1).isLt
      show (((i 0).val / 2048 % 8) * 2048 + (i 0).val % 2048) * 1024 + (i 1).val % 1024 = (i 0).val * 1024 + (i 1).val
      omega)

/-- A row taken to one axis and back is the row. -/
theorem row_back (x : S1x1024.Idx → EReal) (i : S1x1024.Idx) :
    shapeCast S1x1024 (shapeCast S1024 x shapeCasts_S1x1024_S1024) shapeCasts_S1024_S1x1024 i = x (ix2 0 (i 1)) := by
  have h0 : (i 0).val < 1 := (i 0).isLt
  rw [shapeCast_apply _ shapeCasts_S1024_S1x1024 i (ix1 (i 1)) (by
      rw [Shape.rowMajor_val_one, Shape.rowMajor_val_two]
      show (i 1).val = (i 0).val * 1024 + (i 1).val
      omega)]
  exact shapeCast_apply _ shapeCasts_S1x1024_S1024 (ix1 (i 1)) (ix2 0 (i 1)) (by
      rw [Shape.rowMajor_val_one, Shape.rowMajor_val_two]
      show 0 * 1024 + (i 1).val = (i 1).val
      omega)

theorem V7_apply (c : Dev nD) (i : S1x1024.Idx) : (V m c main_v7 : S1x1024.Idx → EReal) i = gain m c (i 1).val := by
  have h1 : (i 1).val < 1024 := (i 1).isLt
  have hV : (V m c main_v7 : S1x1024.Idx → EReal)
      = shapeCast S1x1024 (shapeCast S1024 (extractStridedSlice S1x1024 ![1, 0] (m ((c : Thread nD τ).loc main_arg1) : Vec Ideal S2x1024 .f32) slices_S2x1024_S1x1024_1_0) shapeCasts_S1x1024_S1024) shapeCasts_S1024_S1x1024 := by
    show StableHlo.after hostOps0 _ _ = _
    after_results_simp <;> rfl
  rw [hV, row_back]
  show (m ((c : Thread nD τ).loc main_arg1) : S2x1024.Idx → EReal) _ = (m ((c : Thread nD τ).loc main_arg1) : S2x1024.Idx → EReal) _
  congr 1
  funext a
  apply Fin.ext
  match a with
  | ⟨0, _⟩ => rfl
  | ⟨1, _⟩ => show 0 + (i 1).val = (i 1).val % 1024; omega

theorem V8_apply (c : Dev nD) (i : S1024x2048.Idx) : (V m c main_v8 : S1024x2048.Idx → EReal) i = W m c (i 0).val (i 1).val := by
  have hV : (V m c main_v8 : S1024x2048.Idx → EReal)
      = shapeCast S1024x2048 (m ((c : Thread nD τ).loc main_arg2) : Vec Ideal S1x1024x2048 .f32) shapeCasts_S1x1024x2048_S1024x2048 := by
    show StableHlo.after hostOps0 _ _ = _
    after_results_simp <;> rfl
  rw [hV]
  exact shapeCast_apply (m ((c : Thread nD τ).loc main_arg2) : S1x1024x2048.Idx → EReal) shapeCasts_S1x1024x2048_S1024x2048 i
    (ix3 0 (Fin.ofNat 1024 (i 0).val) (Fin.ofNat 2048 (i 1).val)) (by
      show (Shape.rowMajor (s := S1x1024x2048) (ix3 0 (Fin.ofNat 1024 (i 0).val) (Fin.ofNat 2048 (i 1).val))).val = (Shape.rowMajor (s := S1024x2048) i).val
      rw [Shape.rowMajor_val_three, Shape.rowMajor_val_two]
      have h0 : (i 0).val < 1024 := (i 0).isLt
      have h1 : (i 1).val < 2048 := (i 1).isLt
      show (0 * 1024 + (i 0).val % 1024) * 2048 + (i 1).val % 2048 = (i 0).val * 2048 + (i 1).val
      omega)

theorem V10_apply (c : Dev nD) (i : S1x1024.Idx) : (V m c main_v10 : S1x1024.Idx → EReal) i = gA m c (i 1).val := by
  have h1 : (i 1).val < 1024 := (i 1).isLt
  have hV : (V m c main_v10 : S1x1024.Idx → EReal)
      = shapeCast S1x1024 (shapeCast S1024 (m ((c : Thread nD τ).loc main_arg3) : Vec Ideal S1x1024 .f32) shapeCasts_S1x1024_S1024) shapeCasts_S1024_S1x1024 := by
    show StableHlo.after hostOps0 _ _ = _
    after_results_simp <;> rfl
  rw [hV, row_back]
  unfold gA
  congr 1
  exact congrArg (ix2 0) (Fin.ext (Nat.mod_eq_of_lt h1).symm)

theorem V12_apply (c : Dev nD) (i : S1x1024.Idx) : (V m c main_v12 : S1x1024.Idx → EReal) i = gB m c (i 1).val := by
  have h1 : (i 1).val < 1024 := (i 1).isLt
  have hV : (V m c main_v12 : S1x1024.Idx → EReal)
      = shapeCast S1x1024 (shapeCast S1024 (m ((c : Thread nD τ).loc main_arg4) : Vec Ideal S1x1024 .f32) shapeCasts_S1x1024_S1024) shapeCasts_S1024_S1x1024 := by
    show StableHlo.after hostOps0 _ _ = _
    after_results_simp <;> rfl
  rw [hV, row_back]
  unfold gB
  congr 1
  exact congrArg (ix2 0) (Fin.ext (Nat.mod_eq_of_lt h1).symm)

theorem V13_apply (c : Dev nD) (i : S8x128x128.Idx) : (V m c main_v13 : S8x128x128.Idx → EReal) i = S m c (i 0).val (i 1).val (i 2).val := by
  have hV : (V m c main_v13 : S8x128x128.Idx → EReal)
      = shapeCast S8x128x128 (m ((c : Thread nD τ).loc main_arg5) : Vec Ideal S1x8x128x128 .f32) shapeCasts_S1x8x128x128_S8x128x128 := by
    show StableHlo.after hostOps0 _ _ = _
    after_results_simp <;> rfl
  rw [hV]
  exact shapeCast_apply (m ((c : Thread nD τ).loc main_arg5) : S1x8x128x128.Idx → EReal) shapeCasts_S1x8x128x128_S8x128x128 i
    (ix4 0 (Fin.ofNat 8 (i 0).val) (Fin.ofNat 128 (i 1).val) (Fin.ofNat 128 (i 2).val)) (by
      show (Shape.rowMajor (s := S1x8x128x128) (ix4 0 (Fin.ofNat 8 (i 0).val) (Fin.ofNat 128 (i 1).val) (Fin.ofNat 128 (i 2).val))).val = (Shape.rowMajor (s := S8x128x128) i).val
      rw [Shape.rowMajor_val_four, Shape.rowMajor_val_three]
      have h0 : (i 0).val < 8 := (i 0).isLt
      have h1 : (i 1).val < 128 := (i 1).isLt
      have h2 : (i 2).val < 128 := (i 2).isLt
      show ((0 * 8 + (i 0).val % 8) * 128 + (i 1).val % 128) * 128 + (i 2).val % 128 = ((i 0).val * 128 + (i 1).val) * 128 + (i 2).val
      omega)

theorem V14_apply (c : Dev nD) (i : S1024x1024.Idx) : (V m c main_v14 : S1024x1024.Idx → EReal) i = D m c (i 0).val (i 1).val := by
  have hV : (V m c main_v14 : S1024x1024.Idx → EReal)
      = shapeCast S1024x1024 (m ((c : Thread nD τ).loc main_arg7) : Vec Ideal S1x1024x1024 .f32) shapeCasts_S1x1024x1024_S1024x1024 := by
    show StableHlo.after hostOps0 _ _ = _
    after_results_simp <;> rfl
  rw [hV]
  exact shapeCast_apply (m ((c : Thread nD τ).loc main_arg7) : S1x1024x1024.Idx → EReal) shapeCasts_S1x1024x1024_S1024x1024 i
    (ix3 0 (Fin.ofNat 1024 (i 0).val) (Fin.ofNat 1024 (i 1).val)) (by
      show (Shape.rowMajor (s := S1x1024x1024) (ix3 0 (Fin.ofNat 1024 (i 0).val) (Fin.ofNat 1024 (i 1).val))).val = (Shape.rowMajor (s := S1024x1024) i).val
      rw [Shape.rowMajor_val_three, Shape.rowMajor_val_two]
      have h0 : (i 0).val < 1024 := (i 0).isLt
      have h1 : (i 1).val < 1024 := (i 1).isLt
      show (0 * 1024 + (i 0).val % 1024) * 1024 + (i 1).val % 1024 = (i 0).val * 1024 + (i 1).val
      omega)

/-! ## The windows' blocks -/

/-- The block each window is on at point `t`. -/
theorem index_facts : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0 ∧ win0_5.index t 2 = 0) ∧ (win0_6.index t 0 = 0 ∧ win0_6.index t 1 = 0)
    ∧ (win0_7.index t 0 = 0 ∧ win0_7.index t 1 = 0) :=
  (by decide +kernel : ∀ t : Fin grid0.N, _)

theorem blk0 (c : Dev nD) (t : Fin cfg0.N) (i : S512x1024.Idx) :
    (iblk m c 0 t : S512x1024.Idx → EReal) i = X m c (512 * t.val + (i 0).val) (i 1).val := by
  obtain ⟨⟨e0, e1⟩, -⟩ := index_facts t
  unfold iblk
  rw [View.read_apply]
  refine (V4_apply m c _).trans ?_
  congr 1
  · show win0_0.index t 0 * 512 + 1 * (i 0).val = _; rw [e0]; omega
  · show win0_0.index t 1 * 1024 + 1 * (i 1).val = _; rw [e1]; omega

theorem blk1 (c : Dev nD) (t : Fin cfg0.N) (i : S1x1024.Idx) : (iblk m c 1 t : S1x1024.Idx → EReal) i = gain m c (i 1).val := by
  obtain ⟨-, ⟨-, e1⟩, -⟩ := index_facts t
  unfold iblk
  rw [View.read_apply]
  refine (V7_apply m c _).trans ?_
  congr 1
  show win0_1.index t 1 * 1024 + 1 * (i 1).val = _; rw [e1]; omega

theorem blk2 (c : Dev nD) (t : Fin cfg0.N) (i : S1024x2048.Idx) :
    (iblk m c 2 t : S1024x2048.Idx → EReal) i = W m c (i 0).val (i 1).val := by
  obtain ⟨-, -, ⟨e0, e1⟩, -⟩ := index_facts t
  unfold iblk
  rw [View.read_apply]
  refine (V8_apply m c _).trans ?_
  congr 1
  · show win0_2.index t 0 * 1024 + 1 * (i 0).val = _; rw [e0]; omega
  · show win0_2.index t 1 * 2048 + 1 * (i 1).val = _; rw [e1]; omega

theorem blk3 (c : Dev nD) (t : Fin cfg0.N) (i : S1x1024.Idx) : (iblk m c 3 t : S1x1024.Idx → EReal) i = gA m c (i 1).val := by
  obtain ⟨-, -, -, ⟨-, e1⟩, -⟩ := index_facts t
  unfold iblk
  rw [View.read_apply]
  refine (V10_apply m c _).trans ?_
  congr 1
  show win0_3.index t 1 * 1024 + 1 * (i 1).val = _; rw [e1]; omega

theorem blk4 (c : Dev nD) (t : Fin cfg0.N) (i : S1x1024.Idx) : (iblk m c 4 t : S1x1024.Idx → EReal) i = gB m c (i 1).val := by
  obtain ⟨-, -, -, -, ⟨-, e1⟩, -⟩ := index_facts t
  unfold iblk
  rw [View.read_apply]
  refine (V12_apply m c _).trans ?_
  congr 1
  show win0_4.index t 1 * 1024 + 1 * (i 1).val = _; rw [e1]; omega

theorem blk5 (c : Dev nD) (t : Fin cfg0.N) (i : S8x128x128.Idx) :
    (iblk m c 5 t : S8x128x128.Idx → EReal) i = S m c (i 0).val (i 1).val (i 2).val := by
  obtain ⟨-, -, -, -, -, ⟨e0, e1, e2⟩, -⟩ := index_facts t
  unfold iblk
  rw [View.read_apply]
  refine (V13_apply m c _).trans ?_
  congr 1
  · show win0_5.index t 0 * 8 + 1 * (i 0).val = _; rw [e0]; omega
  · show win0_5.index t 1 * 128 + 1 * (i 1).val = _; rw [e1]; omega
  · show win0_5.index t 2 * 128 + 1 * (i 2).val = _; rw [e2]; omega

theorem blk6 (c : Dev nD) (t : Fin cfg0.N) (i : S128x1024.Idx) :
    (iblk m c 6 t : S128x1024.Idx → EReal) i = B m c ((i 1).val / 128) (i 0).val := by
  obtain ⟨-, -, -, -, -, -, ⟨e0, e1⟩, -⟩ := index_facts t
  unfold iblk
  rw [View.read_apply]
  refine (V3_apply m c _).trans ?_
  congr 1
  · refine congrArg (· / 128) ?_
    show win0_6.index t 1 * 1024 + 1 * (i 1).val = _; rw [e1]; omega
  · show win0_6.index t 0 * 128 + 1 * (i 0).val = _; rw [e0]; omega

theorem blk7 (c : Dev nD) (t : Fin cfg0.N) (i : S1024x1024.Idx) :
    (iblk m c 7 t : S1024x1024.Idx → EReal) i = D m c (i 0).val (i 1).val := by
  obtain ⟨-, -, -, -, -, -, -, ⟨e0, e1⟩⟩ := index_facts t
  unfold iblk
  rw [View.read_apply]
  refine (V14_apply m c _).trans ?_
  congr 1
  · show win0_7.index t 0 * 1024 + 1 * (i 0).val = _; rw [e0]; omega
  · show win0_7.index t 1 * 1024 + 1 * (i 1).val = _; rw [e1]; omega

/-! ## One point -/

/-- The scaled rows of the point's block. -/
theorem hid_apply (c : Dev nD) (t : Fin cfg0.N) (i : S512x1024.Idx) :
    k0_pay6 (F := Ideal) (iblk m c 0 t) (iblk m c 1 t) i = H m c (512 * t.val + (i 0).val) (i 1).val := by
  rw [pay6_apply]
  simp only [blk0, blk1]
  rfl

/-- The gate's columns of the point's block. -/
theorem gateRaw_eq (c : Dev nD) (t : Fin cfg0.N) (s0 : Vec Ideal S1024x2048 .bf16) (h0 : ∀ i : S1024x2048.Idx, s0 i = W m c (i 0).val (i 1).val)
    (r : Fin 512) (q : Fin 1024) :
    gateRaw (iblk m c 0 t) (iblk m c 1 t) s0 r q = act (H m c) (W m c) (512 * t.val + r.val) (1024 + q.val) := by
  unfold gateRaw act Spec.lin
  simp only [hid_apply, h0]
  rfl

/-- The normed gate of the point's block. -/
theorem gate_eq (c : Dev nD) (t : Fin cfg0.N) (s0 : Vec Ideal S1024x2048 .bf16) (h0 : ∀ i : S1024x2048.Idx, s0 i = W m c (i 0).val (i 1).val)
    (i : S512x1024.Idx) :
    gate (iblk m c 0 t) (iblk m c 1 t) (right s0) (iblk m c 3 t) (iblk m c 4 t) i
      = normed (fun r q => act (H m c) (W m c) r (1024 + q)) (gA m c) (gB m c) (512 * t.val + (i 0).val) (i 1).val := by
  have e : ∀ q : Fin 1024, gateRaw (iblk m c 0 t) (iblk m c 1 t) s0 (i 0) q = act (H m c) (W m c) (512 * t.val + (i 0).val) (1024 + q.val) :=
    fun q => gateRaw_eq m c t s0 h0 (i 0) q
  rw [gate_apply, blk3, blk4, e (i 1)]
  simp only [e]
  unfold normed mean
  rfl

/-- The gate of the point's block mixed along the rows. -/
theorem mixed_eq (c : Dev nD) (t : Fin cfg0.N) (vb : FVec Ideal S512x1024 .bf16) (v : ℕ → ℕ → EReal)
    (hv : ∀ i : S512x1024.Idx, vb i = v (512 * t.val + (i 0).val) (i 1).val) (r : Fin 512) (q : Fin 1024) :
    mixed (iblk m c 5 t) (iblk m c 6 t) vb r q = mix (S m c) (B m c) v (512 * t.val + r.val) q.val := by
  have e1 : (512 * t.val + r.val) % 128 = r.val % 128 := by omega
  have e2 : 128 * ((512 * t.val + r.val) / 128) = 512 * t.val + 128 * (r.val / 128) := by omega
  unfold mixed mix
  rw [e1, e2]
  refine congrArg₂ (fun a b : EReal => a + b) (Finset.sum_congr rfl fun k _ => ?_) (blk6 m c t _)
  rw [hv, blk5]
  show _ * v (512 * t.val + (128 * (r.val / 128) + k.val)) q.val = _
  rw [← Nat.add_assoc]
  rfl

/-- What a point writes once the scratch holds the weights. -/
theorem point_eq (c : Dev nD) (t : Fin cfg0.N) (s0 : Vec Ideal S1024x2048 .bf16) (s1 : Vec Ideal S1024x1024 .bf16)
    (h0 : ∀ i : S1024x2048.Idx, s0 i = W m c (i 0).val (i 1).val) (h1 : ∀ i : S1024x1024.Idx, s1 i = D m c (i 0).val (i 1).val) (i : S512x1024.Idx) :
    point (iblk m c 0 t) (iblk m c 1 t) (iblk m c 3 t) (iblk m c 4 t) (iblk m c 5 t) (iblk m c 6 t) s0 s1 i
      = X m c (512 * t.val + (i 0).val) (i 1).val
        + gmlp (H m c) (W m c) (gA m c) (gB m c) (S m c) (B m c) (D m c) (512 * t.val + (i 0).val) (i 1).val := by
  rw [point_apply]
  unfold gmlp
  refine congrArg₂ (fun a b : EReal => a + b) (blk0 m c t i) (Finset.sum_congr rfl fun q _ => ?_)
  refine congrArg₂ (fun a b : EReal => a * b) (congrArg₂ (fun a b : EReal => a * b) ?_ ?_) (h1 _)
  · unfold act Spec.lin
    simp only [hid_apply, h0]
    rfl
  · exact mixed_eq m c t _ _ (gate_eq m c t s0 h0) (i 0) q

/-! ## The points in order -/

/-- What the scratch and the output's buffer hold after point `n`. -/
structure Holds (c : Dev nD) (n : ℕ) (s : Vec Ideal S512x1024 .f32 × Vec Ideal S1024x2048 .bf16 × Vec Ideal S1024x1024 .bf16) : Prop where
  wide : ∀ i : S1024x2048.Idx, s.2.1 i = W m c (i 0).val (i 1).val
  last : ∀ i : S1024x1024.Idx, s.2.2 i = D m c (i 0).val (i 1).val
  out : ∀ i : S512x1024.Idx, s.1 i = X m c (512 * n + (i 0).val) (i 1).val
    + gmlp (H m c) (W m c) (gA m c) (gB m c) (S m c) (B m c) (D m c) (512 * n + (i 0).val) (i 1).val

theorem wide_eq (c : Dev nD) (t : Fin cfg0.N) (i : S1024x2048.Idx) : k0_pay3 (F := Ideal) (iblk m c 2 t) i = W m c (i 0).val (i 1).val := by
  rw [pay3_apply, blk2]

theorem last_eq (c : Dev nD) (t : Fin cfg0.N) (i : S1024x1024.Idx) : k0_pay4 (F := Ideal) (iblk m c 7 t) i = D m c (i 0).val (i 1).val := by
  rw [pay4_apply, blk7]

theorem holds_A (c : Dev nD) (t : Fin cfg0.N) (s) (h0 : t.val % 32 = 0) : Holds m c t.val (stAt0 m c t.val t.isLt s) := by
  rw [stAt0_A m c t s h0 h0]
  refine ⟨fun i => ?_, fun i => ?_, fun i => ?_⟩
  · dsimp only
    rw [wide_A]
    exact wide_eq m c t i
  · dsimp only
    rw [last_A]
    exact last_eq m c t i
  · dsimp only
    rw [out_A]
    exact point_eq m c t _ _ (wide_eq m c t) (last_eq m c t) i

theorem holds_B (c : Dev nD) (n : ℕ) (t : Fin cfg0.N) (s) (h0 : ¬t.val % 32 = 0) (hs : Holds m c n s) :
    Holds m c t.val (stAt0 m c t.val t.isLt s) := by
  rw [stAt0_B m c t s h0 h0]
  refine ⟨fun i => hs.wide i, fun i => hs.last i, fun i => ?_⟩
  dsimp only
  rw [out_B]
  exact point_eq m c t _ _ hs.wide hs.last i

theorem holds (c : Dev nD) : ∀ (n : ℕ) (hn : n < cfg0.N), Holds m c n (outsAt0 m c n hn)
  | 0, hn => by rw [outsAt0_zero]; exact holds_A m c ⟨0, hn⟩ _ rfl
  | n + 1, hn => by
    have hN : cfg0.N = 32 := N_0
    rw [outsAt0_succ]
    exact holds_B m c n ⟨n + 1, hn⟩ _ (by show ¬(n + 1) % 32 = 0; omega) (holds c n _)

/-- The array after the run, at an index. -/
theorem G8_apply (c : Dev nD) (i : S16384x1024.Idx) : (G8 m c : S16384x1024.Idx → EReal) i
    = X m c (i 0).val (i 1).val + gmlp (H m c) (W m c) (gA m c) (gB m c) (S m c) (B m c) (D m c) (i 0).val (i 1).val := by
  have h0 : (i 0).val < 16384 := (i 0).isLt
  have h1 : (i 1).val < 1024 := (i 1).isLt
  have hN : cfg0.N = 32 := N_0
  have hp : pt8Of i = (i 0).val / 512 := by
    show 1 * ((i 0).val / 512 - 0) + 1 * ((i 1).val / 1024 - 0) = _
    omega
  have hlt : pt8Of i < cfg0.N := by omega
  unfold G8
  rw [dif_pos hlt, ← outsAt0_sweep m c (pt8Of i) hlt, (holds m c (pt8Of i) hlt).out, hp]
  show X m c (512 * ((i 0).val / 512) + (i 0).val % 512) ((i 1).val % 1024)
    + gmlp (H m c) (W m c) (gA m c) (gB m c) (S m c) (B m c) (D m c) (512 * ((i 0).val / 512) + (i 0).val % 512) ((i 1).val % 1024) = _
  rw [Nat.div_add_mod, Nat.mod_eq_of_lt h1]

end Cert.GmlpIdeal.Hand

end
-- ==== Proof.GmlpValue.lean ====
/- The chunked gMLP reference read at an index, and the kernel's array beside it. -/
module

public import proofs.«01_k».proof.Proof.GmlpFold
public import proofs.«01_k».proof.Proof.Gen.GmlpRefIdeal.Run
public import proofs.«01_k».proof.Proof.Gen.GmlpRefIdeal.Read

@[expose] public section

noncomputable section

namespace Cert.GmlpIdeal.Hand

open Cert.GmlpRefIdeal Cert.GmlpRefIdeal.Read Idealize.ShloMosaic Idealize.ShloMosaic.TcCoe Idealize.SL.Sem

variable (x0 : S8x2048x1024.Idx → EReal) (x1 : S2x1024.Idx → EReal) (x2 : S1x1024x2048.Idx → EReal) (x3 x4 : S1x1024.Idx → EReal)
  (x5 : S1x8x128x128.Idx → EReal) (x6 : S1x8x128.Idx → EReal) (x7 : S1x1024x1024.Idx → EReal)

/-! ## The reference's arguments over natural-number indices -/

def X' (r k : ℕ) : EReal := x0 (ix3 (Fin.ofNat 8 (r / 2048)) (Fin.ofNat 2048 r) (Fin.ofNat 1024 k))
def gain' (k : ℕ) : EReal := x1 (ix2 1 (Fin.ofNat 1024 k))
def W' (k f : ℕ) : EReal := x2 (ix3 0 (Fin.ofNat 1024 k) (Fin.ofNat 2048 f))
def gA' (k : ℕ) : EReal := x3 (ix2 0 (Fin.ofNat 1024 k))
def gB' (k : ℕ) : EReal := x4 (ix2 0 (Fin.ofNat 1024 k))
def S' (g r k : ℕ) : EReal := x5 (ix4 0 (Fin.ofNat 8 g) (Fin.ofNat 128 r) (Fin.ofNat 128 k))
def B' (g r : ℕ) : EReal := x6 (ix3 0 (Fin.ofNat 8 g) (Fin.ofNat 128 r))
def D' (f j : ℕ) : EReal := x7 (ix3 0 (Fin.ofNat 1024 f) (Fin.ofNat 1024 j))

/-- The scaled rows. -/
abbrev H' : ℕ → ℕ → EReal := Spec.scaled (X' x0) (gain' x1)

/-- The gate's columns before the norm. -/
abbrev raw' (r q : ℕ) : EReal := act (H' x0 x1) (W' x2) r (1024 + q)

/-- The row a batch and a position name. -/
abbrev row (b : Fin 8) (l : Fin 2048) : ℕ := 2048 * b.val + l.val

theorem x_at (b : Fin 8) (l : Fin 2048) (k : Fin 1024) : x0 (ix3 b l k) = X' x0 (row b l) k.val := by
  unfold X'
  congr 1
  have := b.isLt; have := l.isLt; have := k.isLt
  funext a
  apply Fin.ext
  match a with
  | ⟨0, _⟩ => show b.val = (2048 * b.val + l.val) / 2048 % 8; omega
  | ⟨1, _⟩ => show l.val = (2048 * b.val + l.val) % 2048; omega
  | ⟨2, _⟩ => show k.val = k.val % 1024; omega

/-! ## The first product and its gelu -/

theorem hid_at (b : Fin 8) (l : Fin 2048) (k : Fin 1024) :
    val_main_v14 (F := Ideal) x0 x1 (ix3 b l k) = H' x0 x1 (row b l) k.val := by
  have hk := k.isLt
  have hg : val_main_v13 (F := Ideal) x1 (ix3 b l k) = gain' x1 k.val := by
    rw [val_main_v13_apply, val_main_v12_apply, val_main_v1_apply, val_main_v0_apply]
    unfold gain'
    congr 1
    funext a
    apply Fin.ext
    match a with
    | ⟨0, _⟩ => rfl
    | ⟨1, _⟩ => rfl
  have hx : ∀ q : Fin 1024, x0 (idx_main_v3 (idx_main_v4 (idx_main_v10 (ix3 b l k))) q) = X' x0 (row b l) q.val := fun q => by
    rw [← x_at]
    congr 1
    funext a
    match a with
    | ⟨0, _⟩ => rfl
    | ⟨1, _⟩ => rfl
    | ⟨2, _⟩ => rfl
  rw [val_main_v14_apply, val_main_v11_apply, val_main_v10_apply, val_main_v9_apply, val_main_v8_apply, val_main_v7_apply,
    val_main_v6_apply, val_main_v5_apply, val_main_v4_apply, val_main_v3_apply, hg]
  simp only [val_main_v2_apply, hx, val_main_cst_apply, val_main_cst_0_apply, val_main_cst_1_apply]
  unfold H' Spec.scaled
  rw [x_at x0]
  simp only [Ideal.mulf_def, Ideal.addf_def, Ideal.hostDivf_def, Ideal.hostUnary_rsqrt_def, Ideal.ofBits_def, Ideal.ofBits_zero_f32, zero_add]

theorem lin_at (b : Fin 8) (l : Fin 2048) (f : Fin 2048) :
    val_main_v21 (F := Ideal) x0 x1 x2 (ix3 b l f) = Spec.lin (H' x0 x1) (W' x2) (row b l) f.val := by
  have hf := f.isLt
  rw [val_main_v21_apply]
  unfold Spec.lin
  refine Finset.sum_congr rfl fun k _ => ?_
  have hk := k.isLt
  rw [val_main_v15_apply]
  congr 1
  · rw [← hid_at]
    congr 1
    funext a
    match a with
    | ⟨0, _⟩ => rfl
    | ⟨1, _⟩ => rfl
    | ⟨2, _⟩ => rfl
  · unfold W'
    congr 1
    funext a
    apply Fin.ext
    match a with
    | ⟨0, _⟩ => rfl
    | ⟨1, _⟩ => show (k.val * 2048 + f.val) / 2048 % 1024 = k.val % 1024; omega
    | ⟨2, _⟩ => show (k.val * 2048 + f.val) % 2048 = f.val % 2048; omega

theorem act_at (b : Fin 8) (l : Fin 2048) (f : Fin 2048) :
    val_main_v34 (F := Ideal) x0 x1 x2 (ix3 b l f) = act (H' x0 x1) (W' x2) (row b l) f.val := by
  rw [val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, lin_at]
  simp only [val_main_cst_2_apply, val_main_cst_3_apply, val_main_cst_4_apply, val_main_cst_5_apply,
    Ideal.mulf_def, Ideal.addf_def, Ideal.hostUnary_tanh_def, Ideal.ofBits_def]
  unfold act gelu
  rw [mul_left_comm]
  exact (mul_assoc _ _ _).symm

theorem first_at (b : Fin 8) (l : Fin 2048) (q : Fin 1024) :
    val_main_v35 (F := Ideal) x0 x1 x2 (ix3 b l q) = act (H' x0 x1) (W' x2) (row b l) q.val := by
  have hq := q.isLt
  rw [val_main_v35_apply, ← act_at x0 x1 x2 b l ⟨q.val, by omega⟩]
  congr 1
  funext a
  match a with
  | ⟨0, _⟩ => rfl
  | ⟨1, _⟩ => rfl
  | ⟨2, _⟩ => rfl

theorem second_at (b : Fin 8) (l : Fin 2048) (q : Fin 1024) :
    val_main_v36 (F := Ideal) x0 x1 x2 (ix3 b l q) = raw' x0 x1 x2 (row b l) q.val := by
  have hq := q.isLt
  unfold raw'
  rw [val_main_v36_apply, ← act_at x0 x1 x2 b l ⟨1024 + q.val, by omega⟩]
  congr 1
  funext a
  match a with
  | ⟨0, _⟩ => rfl
  | ⟨1, _⟩ => rfl
  | ⟨2, _⟩ => rfl

/-! ## The gate's norm -/

theorem mean_at (b : Fin 8) (l : Fin 2048) :
    val_main_v40 (F := Ideal) x0 x1 x2 (ix3 b l 0) = mean (raw' x0 x1 x2) (row b l) := by
  have hs : ∀ q : Fin 1024, val_main_v36 (F := Ideal) x0 x1 x2 (idx_main_v37 (idx_main_v38 (ix3 b l 0)) q) = raw' x0 x1 x2 (row b l) q.val := fun q => by
    rw [← second_at]
    congr 1
    funext a
    match a with
    | ⟨0, _⟩ => rfl
    | ⟨1, _⟩ => rfl
    | ⟨2, _⟩ => rfl
  rw [val_main_v40_apply, val_main_v39_apply, val_main_v38_apply, val_main_v37_apply]
  simp only [hs, val_main_cst_6_apply, val_main_cst_7_apply, Ideal.hostDivf_def, Ideal.ofBits_def, Ideal.ofBits_zero_f32, zero_add]
  rfl

theorem away_at (b : Fin 8) (l : Fin 2048) (q : Fin 1024) :
    val_main_v42 (F := Ideal) x0 x1 x2 (ix3 b l q) = raw' x0 x1 x2 (row b l) q.val - mean (raw' x0 x1 x2) (row b l) := by
  rw [val_main_v42_apply, val_main_v41_apply, second_at, ← mean_at, Ideal.subf_def]
  congr 2
  funext a
  match a with
  | ⟨0, _⟩ => rfl
  | ⟨1, _⟩ => rfl
  | ⟨2, _⟩ => rfl

theorem centred_at (b : Fin 8) (l : Fin 2048) (q : Fin 1024) :
    val_main_v49 (F := Ideal) x0 x1 x2 (ix3 b l q) = raw' x0 x1 x2 (row b l) q.val - mean (raw' x0 x1 x2) (row b l) := by
  rw [val_main_v49_apply, val_main_v48_apply, second_at, ← mean_at, Ideal.subf_def]
  congr 2
  funext a
  match a with
  | ⟨0, _⟩ => rfl
  | ⟨1, _⟩ => rfl
  | ⟨2, _⟩ => rfl

theorem root_at (b : Fin 8) (l : Fin 2048) (q : Fin 1024) :
    val_main_v53 (F := Ideal) x0 x1 x2 (ix3 b l q) = Ideal.rsqrt (Ideal.div (∑ p : Fin 1024,
      (raw' x0 x1 x2 (row b l) p.val - mean (raw' x0 x1 x2) (row b l)) * (raw' x0 x1 x2 (row b l) p.val - mean (raw' x0 x1 x2) (row b l)))
      (Ideal.ofBits .f32 0x44800000#32) + Ideal.ofBits .f32 0x358637BD#32) := by
  have hs : ∀ p : Fin 1024, val_main_v42 (F := Ideal) x0 x1 x2 (idx_main_v44 (idx_main_v45 (idx_main_v53 (ix3 b l q))) p)
      = raw' x0 x1 x2 (row b l) p.val - mean (raw' x0 x1 x2) (row b l) := fun p => by
    rw [← away_at]
    congr 1
    funext a
    match a with
    | ⟨0, _⟩ => rfl
    | ⟨1, _⟩ => rfl
    | ⟨2, _⟩ => rfl
  rw [val_main_v53_apply, val_main_v52_apply, val_main_v51_apply, val_main_v50_apply, val_main_v47_apply, val_main_v46_apply,
    val_main_v45_apply, val_main_v44_apply]
  simp only [val_main_v43_apply, hs, val_main_cst_8_apply, val_main_cst_9_apply, val_main_cst_10_apply, Ideal.mulf_def, Ideal.addf_def,
    Ideal.hostDivf_def, Ideal.hostUnary_rsqrt_def, Ideal.ofBits_def, Ideal.ofBits_zero_f32, zero_add]

theorem normed_at (b : Fin 8) (l : Fin 2048) (q : Fin 1024) :
    val_main_v60 (F := Ideal) x0 x1 x2 x3 x4 (ix3 b l q) = normed (raw' x0 x1 x2) (gA' x3) (gB' x4) (row b l) q.val := by
  have hq := q.isLt
  have ha : val_main_v56 (F := Ideal) x3 (ix3 b l q) = gA' x3 q.val := by
    rw [val_main_v56_apply, val_main_v55_apply, val_main_v16_apply]
    unfold gA'
    congr 1
    funext a
    apply Fin.ext
    match a with
    | ⟨0, _⟩ => rfl
    | ⟨1, _⟩ => rfl
  have hb : val_main_v59 (F := Ideal) x4 (ix3 b l q) = gB' x4 q.val := by
    rw [val_main_v59_apply, val_main_v58_apply, val_main_v17_apply]
    unfold gB'
    congr 1
    funext a
    apply Fin.ext
    match a with
    | ⟨0, _⟩ => rfl
    | ⟨1, _⟩ => rfl
  rw [val_main_v60_apply, val_main_v57_apply, val_main_v54_apply, centred_at, root_at, ha, hb]
  simp only [Ideal.mulf_def, Ideal.addf_def]
  rfl

/-! ## The mixing along the rows of a chunk -/

/-- Choosing between one and zero by a bit is the bit. -/
theorem select_bit : ∀ b : BitVec 1, Scalar.select b (1#1) (0#1) = b := by decide

theorem mask_at (i : S8x128x128.Idx) : val_main_call1_v0 (F := Ideal) i = tri (i 1).val (i 2).val := by
  rw [val_main_call1_v0_apply, val_main_v64_apply, val_main_v63_apply, val_main_call0_v4_apply, val_main_call0_v3_apply, val_main_call0_v2_apply,
    val_main_call0_v1_apply, val_main_call0_v0_apply, val_main_v62_apply, val_main_call0_v5_apply, val_main_c_apply, val_main_call0_c_apply,
    val_main_call0_c_0_apply, select_bit]
  unfold tri IntOp.addi
  rw [BitVec.add_zero]

theorem square_at (g : Fin 8) (r k : Fin 128) :
    val_main_v65 (F := Ideal) x5 (ix3 g r k) = Scalar.select (tri r.val k.val) (S' x5 g.val r.val k.val) (0 : EReal) := by
  have hg := g.isLt; have hr := r.isLt; have hk := k.isLt
  have h5 : val_main_v18 (F := Ideal) x5 (ix3 g r k) = S' x5 g.val r.val k.val := by
    rw [val_main_v18_apply]
    unfold S'
    congr 1
    funext a
    apply Fin.ext
    match a with
    | ⟨0, _⟩ => rfl
    | ⟨1, _⟩ => show ((g.val * 128 + r.val) * 128 + k.val) / 16384 % 8 = g.val % 8; omega
    | ⟨2, _⟩ => show ((g.val * 128 + r.val) * 128 + k.val) / 128 % 128 = r.val % 128; omega
    | ⟨3, _⟩ => show ((g.val * 128 + r.val) * 128 + k.val) % 128 = k.val % 128; omega
  rw [val_main_v65_apply, mask_at, h5, val_main_call1_v1_apply, val_main_cst_11_apply, Ideal.ofBits_def, Ideal.ofBits_zero_f32]
  rfl

theorem chunk_at (b : Fin 8) (n : Fin 16) (k : Fin 128) (g : Fin 8) (e : Fin 128) (q : ℕ) (hq : q = 128 * g.val + e.val) :
    val_main_v61 (F := Ideal) x0 x1 x2 x3 x4 (ix5 b n k g e)
      = normed (raw' x0 x1 x2) (gA' x3) (gB' x4) (2048 * b.val + 128 * n.val + k.val) q := by
  have h0 := b.isLt; have h1 := n.isLt; have h2 := k.isLt; have h3 := g.isLt; have h4 := e.isLt
  refine Eq.trans ?_ ((normed_at x0 x1 x2 x3 x4 b ⟨128 * n.val + k.val, by omega⟩ ⟨128 * g.val + e.val, by omega⟩).trans ?_)
  · rw [val_main_v61_apply]
    congr 1
    funext a
    apply Fin.ext
    match a with
    | ⟨0, _⟩ => show ((((b.val * 16 + n.val) * 128 + k.val) * 8 + g.val) * 128 + e.val) / 2097152 = b.val; omega
    | ⟨1, _⟩ => show ((((b.val * 16 + n.val) * 128 + k.val) * 8 + g.val) * 128 + e.val) / 1024 % 2048 = 128 * n.val + k.val; omega
    | ⟨2, _⟩ => show ((((b.val * 16 + n.val) * 128 + k.val) * 8 + g.val) * 128 + e.val) % 1024 = 128 * g.val + e.val; omega
  · show normed _ _ _ (2048 * b.val + (128 * n.val + k.val)) (128 * g.val + e.val) = _
    rw [hq, Nat.add_assoc]

theorem bias_at (b : Fin 8) (n : Fin 16) (k : Fin 128) (g : Fin 8) (e : Fin 128) :
    val_main_v71 (F := Ideal) x6 (ix5 b n k g e) = B' x6 g.val k.val := by
  have h2 := k.isLt; have h3 := g.isLt
  rw [val_main_v71_apply, val_main_v70_apply, val_main_v69_apply, val_main_v68_apply, val_main_v19_apply]
  unfold B'
  congr 1
  funext a
  apply Fin.ext
  match a with
  | ⟨0, _⟩ => rfl
  | ⟨1, _⟩ => show (g.val * 128 + k.val) / 128 % 8 = g.val % 8; omega
  | ⟨2, _⟩ => show (g.val * 128 + k.val) % 128 = k.val % 128; omega

theorem mix_at (b : Fin 8) (l : Fin 2048) (q : Fin 1024) :
    val_main_v73 (F := Ideal) x0 x1 x2 x3 x4 x5 x6 (ix3 b l q)
      = mix (S' x5) (B' x6) (normed (raw' x0 x1 x2) (gA' x3) (gB' x4)) (row b l) q.val := by
  have hb := b.isLt; have hl := l.isLt; have hq := q.isLt
  have hi : idx_main_v73 (ix3 b l q) = ix5 b (⟨l.val / 128, by omega⟩ : Fin 16) (⟨l.val % 128, by omega⟩ : Fin 128)
      (⟨q.val / 128, by omega⟩ : Fin 8) (⟨q.val % 128, by omega⟩ : Fin 128) := by
    funext a
    apply Fin.ext
    match a with
    | ⟨0, _⟩ => show ((b.val * 2048 + l.val) * 1024 + q.val) / 2097152 = b.val; omega
    | ⟨1, _⟩ => show ((b.val * 2048 + l.val) * 1024 + q.val) / 131072 % 16 = l.val / 128; omega
    | ⟨2, _⟩ => show ((b.val * 2048 + l.val) * 1024 + q.val) / 1024 % 128 = l.val % 128; omega
    | ⟨3, _⟩ => show ((b.val * 2048 + l.val) * 1024 + q.val) / 128 % 8 = q.val / 128; omega
    | ⟨4, _⟩ => show ((b.val * 2048 + l.val) * 1024 + q.val) % 128 = q.val % 128; omega
  have e1 : row b l % 128 = l.val % 128 := by unfold row; omega
  have e2 : 128 * (row b l / 128) = 2048 * b.val + 128 * (l.val / 128) := by unfold row; omega
  rw [val_main_v73_apply, hi, val_main_v72_apply, bias_at, val_main_v67_apply, val_main_v66_apply, Ideal.addf_def]
  unfold mix
  rw [e1, e2]
  refine congrArg (· + B' x6 (q.val / 128) (l.val % 128)) (Finset.sum_congr rfl fun k _ => ?_)
  refine Eq.trans (congrArg₂ (fun a b : EReal => a * b)
    (Eq.trans (congrArg _ ?_) (chunk_at x0 x1 x2 x3 x4 b ⟨l.val / 128, by omega⟩ k ⟨q.val / 128, by omega⟩ ⟨q.val % 128, by omega⟩ q.val (Nat.div_add_mod _ _).symm))
    (Eq.trans (congrArg _ ?_) (square_at x5 ⟨q.val / 128, by omega⟩ ⟨l.val % 128, by omega⟩ k))) (mul_comm _ _)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl

/-! ## The result -/

theorem ref_apply (i : S16384x1024.Idx) : val_main_v77 (F := Ideal) x0 x1 x2 x3 x4 x5 x6 x7 i
    = X' x0 (i 0).val (i 1).val
      + gmlp (H' x0 x1) (W' x2) (gA' x3) (gB' x4) (S' x5) (B' x6) (D' x7) (i 0).val (i 1).val := by
  have h0 : (i 0).val < 16384 := (i 0).isLt
  have h1 : (i 1).val < 1024 := (i 1).isLt
  obtain ⟨b, hb⟩ : ∃ b : Fin 8, b.val = (i 0).val / 2048 := ⟨⟨_, by omega⟩, rfl⟩
  obtain ⟨l, hl⟩ : ∃ l : Fin 2048, l.val = (i 0).val % 2048 := ⟨⟨_, by omega⟩, rfl⟩
  have hr : row b l = (i 0).val := by unfold row; omega
  have hi : idx_main_v77 i = ix3 b l (⟨(i 1).val, h1⟩ : Fin 1024) := by
    funext a
    apply Fin.ext
    match a with
    | ⟨0, _⟩ => show ((i 0).val * 1024 + (i 1).val) / 2097152 = b.val; omega
    | ⟨1, _⟩ => show ((i 0).val * 1024 + (i 1).val) / 1024 % 2048 = l.val; omega
    | ⟨2, _⟩ => show ((i 0).val * 1024 + (i 1).val) % 1024 = (i 1).val; omega
  rw [val_main_v77_apply, hi, val_main_v76_apply, val_main_v75_apply, x_at x0, Ideal.addf_def, hr]
  refine congrArg (X' x0 (i 0).val (i 1).val + ·) ?_
  unfold gmlp
  refine Finset.sum_congr rfl fun q _ => ?_
  have hq := q.isLt
  refine congrArg₂ (fun a b : EReal => a * b) ?_ ?_
  · have e : lidx_main_v75 (ix3 b l (⟨(i 1).val, h1⟩ : Fin 1024)) q = ix3 b l q := by
      funext a
      match a with
      | ⟨0, _⟩ => rfl
      | ⟨1, _⟩ => rfl
      | ⟨2, _⟩ => rfl
    rw [e, val_main_v74_apply, first_at, mix_at, Ideal.mulf_def, hr]
  · rw [val_main_v20_apply]
    unfold D'
    congr 1
    funext a
    apply Fin.ext
    match a with
    | ⟨0, _⟩ => rfl
    | ⟨1, _⟩ => show (q.val * 1024 + (i 1).val) / 1024 % 1024 = q.val % 1024; omega
    | ⟨2, _⟩ => show (q.val * 1024 + (i 1).val) % 1024 = (i 1).val % 1024; omega

/-- What the kernel's array ends holding is the reference's result of the same arguments. -/
theorem value (m : (ℓ : Loc Cert.GmlpIdeal.nD Cert.GmlpIdeal.τ Cert.GmlpIdeal.sig) → Buf (Elt Ideal) ℓ) (c : Dev Cert.GmlpIdeal.nD) :
    val_main_v77 (F := Ideal) (m ((c : Thread Cert.GmlpIdeal.nD Cert.GmlpIdeal.τ).loc Cert.GmlpIdeal.main_arg0)) (m ((c : Thread Cert.GmlpIdeal.nD Cert.GmlpIdeal.τ).loc Cert.GmlpIdeal.main_arg1))
      (m ((c : Thread Cert.GmlpIdeal.nD Cert.GmlpIdeal.τ).loc Cert.GmlpIdeal.main_arg2)) (m ((c : Thread Cert.GmlpIdeal.nD Cert.GmlpIdeal.τ).loc Cert.GmlpIdeal.main_arg3))
      (m ((c : Thread Cert.GmlpIdeal.nD Cert.GmlpIdeal.τ).loc Cert.GmlpIdeal.main_arg4)) (m ((c : Thread Cert.GmlpIdeal.nD Cert.GmlpIdeal.τ).loc Cert.GmlpIdeal.main_arg5))
      (m ((c : Thread Cert.GmlpIdeal.nD Cert.GmlpIdeal.τ).loc Cert.GmlpIdeal.main_arg6)) (m ((c : Thread Cert.GmlpIdeal.nD Cert.GmlpIdeal.τ).loc Cert.GmlpIdeal.main_arg7))
      = (Cert.GmlpIdeal.Value.G8 m c : S16384x1024.Idx → EReal) := by
  funext i
  rw [ref_apply]
  exact (G8_apply m c i).symm

end Cert.GmlpIdeal.Hand

end
-- ==== Proof.OutProjFold.lean ====
/- What the attention's output projection's array ends holding: the terms a point stores, read at an index, the weights the
   scratch keeps from the first point on, and the array read at an index. -/
module

public import proofs.«01_k».proof.Proof.Spec
public import proofs.«01_k».proof.Proof.Gen.OutProjIdeal.Frame
public import proofs.«01_k».proof.Proof.Gen.OutProjIdeal.Value
public import Idealize.ShloMosaic.Lib.Pipeline.Value
public import Idealize.ShloMosaic.Lib.Pointwise
public import Idealize.ShloMosaic.Lib.ValueIdx
public import Idealize.ShloMosaic.Lib.Tactic
public import Idealize.ShloMosaic.Lib.StableHlo.Run

@[expose] public section

noncomputable section

namespace Cert.OutProjIdeal.Hand

open Cert.OutProjIdeal Cert.OutProjIdeal.Gen Cert.OutProjIdeal.Value Idealize.ShloMosaic Idealize.ShloMosaic.TcCoe Idealize.SL.Sem

theorem hz : (![0, 0] : Fin 2 → Nat) = fun _ => 0 := funext fun a => by fin_cases a <;> rfl

/-! ## What a point stores -/

section Cases

variable {F : FTy → Type} [FloatOps F]

/-- Head `h`'s rows of a block of eight heads. -/
def head (h : Nat) (inb : ∀ a, (![h, 0, 0] : Fin 3 → Nat) a + S1x1024x128.size a ≤ S8x1024x128.size a) (o : Vec F S8x1024x128 .bf16) : Vec F S1x1024x128 .bf16 :=
  View.ld (S := S8x1024x128) o (Rect.unit (s := S8x1024x128) ![h, 0, 0] S1x1024x128.size inb)

/-- The block a point writes: its rows of `x` plus the heads side by side against the weights in the scratch. -/
def point (x0 : Vec F S1024x1024 .f32) (x1 : Vec F S8x1024x128 .bf16) (w : Vec F S1024x1024 .bf16) : Vec F S1024x1024 .f32 :=
  k0_pay2 (head 0 inb_S8x1024x128_S1x1024x128_0_0_0 x1) (head 1 inb_S8x1024x128_S1x1024x128_1_0_0 x1) (head 2 inb_S8x1024x128_S1x1024x128_2_0_0 x1)
    (head 3 inb_S8x1024x128_S1x1024x128_3_0_0 x1) (head 4 inb_S8x1024x128_S1x1024x128_4_0_0 x1) (head 5 inb_S8x1024x128_S1x1024x128_5_0_0 x1)
    (head 6 inb_S8x1024x128_S1x1024x128_6_0_0 x1) (head 7 inb_S8x1024x128_S1x1024x128_7_0_0 x1) x0 w

variable (c : Dev nD) (i : grid0.Coords) (a1 : Memref sig .tc .vmem S1024x1024 .f32) (h1 : a1.IsWhole) (a2 : Memref sig .tc .vmem S8x1024x128 .bf16) (h2 : a2.IsWhole)
  (a3 : Memref sig .tc .vmem S1024x1024 .f32) (h3 : a3.IsWhole) (a4 : Memref sig .tc .vmem S1024x1024 .f32) (h4 : a4.IsWhole) (a5 : Memref sig .tc .vmem S1024x1024 .bf16) (h5 : a5.IsWhole)
  (x0 : Vec F S1024x1024 .f32) (x1 : Vec F S8x1024x128 .bf16) (x2 : Vec F S1024x1024 .f32)

/-- The first point leaves the weights in the scratch. -/
theorem kept_A (hc0 : cond0_0 i) : sout0_A_0 c i a1 h1 a2 h2 a3 h3 a4 h4 a5 h5 hc0 x0 x1 x2 = k0_pay1 x2 := by
  unfold sout0_A_0
  rw [View.read_writes_eq_canon _ _ _ (scover0_A_0 c i a1 h1 a2 h2 a3 h3 a4 h4 a5 h5 hc0 x0 x1 x2)]
  unfold kernelRun0_A
  dsimp only
  try sl_unfold_words
  rw [View.canon_unit_zero hz]
  simp only [View.readAt_eq_ld, h1.read_unread, h2.read_unread, h3.read_unread, h5.read_unread, View.ld_unit_zero (S := S1024x1024) hz]

/-- The first point writes its block with the weights it just cast. -/
theorem out_A (hc0 : cond0_0 i) : out0_A_3 c i a1 h1 a2 h2 a3 h3 a4 h4 a5 h5 hc0 x0 x1 x2 = point x0 x1 (k0_pay1 x2) := by
  unfold out0_A_3
  rw [View.read_writes_eq_canon _ _ _ (cover0_A_3 c i a1 h1 a2 h2 a3 h3 a4 h4 a5 h5 hc0 x0 x1 x2)]
  unfold kernelRun0_A
  dsimp only
  try sl_unfold_words
  rw [View.canon_unit_zero hz]
  rw [View.readCov_unit_zero (S := S1024x1024) _ hz]
  simp only [View.readAt_eq_ld, h1.read_unread, h2.read_unread, h3.read_unread, h5.read_unread, View.ld_unit_zero (S := S1024x1024) hz]
  rfl

/-- Every other point writes its block with the weights it finds. -/
theorem out_B (hc0 : ¬cond0_0 i) (w : Vec F S1024x1024 .bf16) : out0_B_3 c i a1 h1 a2 h2 a3 h3 a4 h4 a5 h5 hc0 x0 x1 x2 w = point x0 x1 w := by
  unfold out0_B_3
  rw [View.read_writes_eq_canon _ _ _ (cover0_B_3 c i a1 h1 a2 h2 a3 h3 a4 h4 a5 h5 hc0 x0 x1 x2 w)]
  unfold kernelRun0_B
  dsimp only
  try sl_unfold_words
  rw [View.canon_unit_zero hz]
  simp only [View.readAt_eq_ld, h1.read_unread, h2.read_unread, h3.read_unread, h5.read_unread, View.ld_unit_zero (S := S1024x1024) hz]
  rfl

end Cases

/-! ## The stored terms at an index -/

theorem pay1_apply (v : Vec Ideal S1024x1024 .f32) (i : S1024x1024.Idx) : k0_pay1 (F := Ideal) v i = v i := by
  unfold k0_pay1
  pointwise
  first | done | rfl

theorem head_apply (h : Nat) (hh : h < 8) (inb) (o : Vec Ideal S8x1024x128 .bf16) (i : S1024x128.Idx) :
    shapeCast S1024x128 (head h inb o : S1x1024x128.Idx → EReal) shapeCasts_S1x1024x128_S1024x128 i = o (ix3 ⟨h, hh⟩ (i 0) (i 1)) := by
  have h0 : (i 0).val < 1024 := (i 0).isLt
  have h1 : (i 1).val < 128 := (i 1).isLt
  rw [shapeCast_apply _ shapeCasts_S1x1024x128_S1024x128 i (ix3 0 (i 0) (i 1)) (by
      rw [Shape.rowMajor_val_three, Shape.rowMajor_val_two]
      show (0 * 1024 + (i 0).val) * 128 + (i 1).val = (i 0).val * 128 + (i 1).val
      omega)]
  show o _ = o _
  congr 1
  funext a
  apply Fin.ext
  match a with
  | ⟨0, _⟩ => show h + 1 * 0 = h; omega
  | ⟨1, _⟩ => show 0 + 1 * (i 0).val = (i 0).val; omega
  | ⟨2, _⟩ => show 0 + 1 * (i 1).val = (i 1).val; omega

theorem cat8 (y0 y1 y2 y3 y4 y5 y6 y7 : S1024x128.Idx → EReal) (h) (j : S1024x1024.Idx) :
    concatenate S1024x1024 1 [⟨S1024x128, y0⟩, ⟨S1024x128, y1⟩, ⟨S1024x128, y2⟩, ⟨S1024x128, y3⟩, ⟨S1024x128, y4⟩, ⟨S1024x128, y5⟩, ⟨S1024x128, y6⟩, ⟨S1024x128, y7⟩] h j
      = (![y0, y1, y2, y3, y4, y5, y6, y7] : Fin 8 → S1024x128.Idx → EReal) ⟨(j 1).val / 128, by have : (j 1).val < 1024 := (j 1).isLt; omega⟩
        (ix2 (j 0) ⟨(j 1).val % 128, Nat.mod_lt _ (by decide)⟩) :=
  concatenate_ofFn_apply (s₁ := S1024x128) 1 (![y0, y1, y2, y3, y4, y5, y6, y7] : Fin 8 → S1024x128.Idx → EReal) h rfl 128 rfl j _ rfl _ rfl
    (fun b hb => match b with
      | ⟨0, _⟩ => rfl
      | ⟨1, _⟩ => absurd rfl hb)

theorem mm (a w : FVec Ideal S1024x1024 .bf16) (i : S1024x1024.Idx) :
    matmul dot_S1024x1024_S1024x1024_S1024x1024_1_0_0_1_n_n none a w (constant (F := Ideal) S1024x1024 .f32 0x00000000#32) i
      = ∑ k : Fin 1024, a (ix2 (i 0) k) * w (ix2 k (i 1)) := by
  pointwise
  first | done | rfl

/-- Eight heads side by side, read at a row and a column. -/
theorem beside (o : Vec Ideal S8x1024x128 .bf16) (y : Fin 8 → S1024x128.Idx → EReal) (hy : ∀ g j, y g j = o (ix3 g (j 0) (j 1))) (r k : Fin 1024) :
    y ⟨k.val / 128, by omega⟩ (ix2 r ⟨k.val % 128, Nat.mod_lt _ (by decide)⟩) = o (ix3 ⟨k.val / 128, by omega⟩ r ⟨k.val % 128, Nat.mod_lt _ (by decide)⟩) :=
  hy _ _

theorem point_apply (x0 : Vec Ideal S1024x1024 .f32) (x1 : Vec Ideal S8x1024x128 .bf16) (w : Vec Ideal S1024x1024 .bf16) (i : S1024x1024.Idx) :
    point x0 x1 w i = x0 i + ∑ k : Fin 1024, x1 (ix3 ⟨k.val / 128, by omega⟩ (i 0) ⟨k.val % 128, Nat.mod_lt _ (by decide)⟩) * w (ix2 k (i 1)) := by
  unfold point k0_pay2
  refine congrArg₂ (fun a b : EReal => a + b) (congrFun (shapeCast_self x0 _) i) ?_
  refine (mm _ _ i).trans (Finset.sum_congr rfl fun k _ => congrArg (· * w (ix2 k (i 1))) ?_)
  refine (cat8 _ _ _ _ _ _ _ _ _ (ix2 (i 0) k)).trans ?_
  exact beside x1 _ (fun g j => match g with
    | ⟨0, _⟩ => head_apply 0 (by decide) inb_S8x1024x128_S1x1024x128_0_0_0 x1 j
    | ⟨1, _⟩ => head_apply 1 (by decide) inb_S8x1024x128_S1x1024x128_1_0_0 x1 j
    | ⟨2, _⟩ => head_apply 2 (by decide) inb_S8x1024x128_S1x1024x128_2_0_0 x1 j
    | ⟨3, _⟩ => head_apply 3 (by decide) inb_S8x1024x128_S1x1024x128_3_0_0 x1 j
    | ⟨4, _⟩ => head_apply 4 (by decide) inb_S8x1024x128_S1x1024x128_4_0_0 x1 j
    | ⟨5, _⟩ => head_apply 5 (by decide) inb_S8x1024x128_S1x1024x128_5_0_0 x1 j
    | ⟨6, _⟩ => head_apply 6 (by decide) inb_S8x1024x128_S1x1024x128_6_0_0 x1 j
    | ⟨7, _⟩ => head_apply 7 (by decide) inb_S8x1024x128_S1x1024x128_7_0_0 x1 j) (i 0) k

variable (m : (ℓ : Loc nD τ sig) → Buf (Elt Ideal) ℓ)

/-! ## The arguments over natural-number indices -/

/-- Row `r` of `x`, its two leading axes taken as one. -/
def X (c : Dev nD) (r k : ℕ) : EReal :=
  (m ((c : Thread nD τ).loc main_arg0) : S8x2048x1024.Idx → EReal) (ix3 (Fin.ofNat 8 (r / 2048)) (Fin.ofNat 2048 r) (Fin.ofNat 1024 k))
/-- Row `r` of the heads' outputs side by side, 128 columns a head. -/
def O (c : Dev nD) (r k : ℕ) : EReal :=
  (m ((c : Thread nD τ).loc main_arg1) : S8x16384x128.Idx → EReal) (ix3 (Fin.ofNat 8 (k / 128)) (Fin.ofNat 16384 r) (Fin.ofNat 128 k))
/-- The weight. -/
def W (c : Dev nD) (k j : ℕ) : EReal :=
  (m ((c : Thread nD τ).loc main_arg2) : S1x1024x1024.Idx → EReal) (ix3 0 (Fin.ofNat 1024 k) (Fin.ofNat 1024 j))

/-! ## The arrays the windows read -/

theorem V0_apply (c : Dev nD) (i : S16384x1024.Idx) : (V m c main_v0 : S16384x1024.Idx → EReal) i = X m c (i 0).val (i 1).val := by
  have hV : (V m c main_v0 : S16384x1024.Idx → EReal)
      = shapeCast S16384x1024 (m ((c : Thread nD τ).loc main_arg0) : Vec Ideal S8x2048x1024 .f32) shapeCasts_S8x2048x1024_S16384x1024 := by
    show StableHlo.after hostOps0 _ _ = _
    after_results_simp <;> rfl
  rw [hV]
  exact shapeCast_apply (m ((c : Thread nD τ).loc main_arg0) : S8x2048x1024.Idx → EReal) shapeCasts_S8x2048x1024_S16384x1024 i
    (ix3 (Fin.ofNat 8 ((i 0).val / 2048)) (Fin.ofNat 2048 (i 0).val) (Fin.ofNat 1024 (i 1).val)) (by
      show (Shape.rowMajor (s := S8x2048x1024) (ix3 (Fin.ofNat 8 ((i 0).val / 2048)) (Fin.ofNat 2048 (i 0).val) (Fin.ofNat 1024 (i 1).val))).val = (Shape.rowMajor (s := S16384x1024) i).val
      rw [Shape.rowMajor_val_three, Shape.rowMajor_val_two]
      have h0 : (i 0).val < 16384 := (i 0).isLt
      have h1 : (i 1).val < 1024 := (i 1).isLt
      show (((i 0).val / 2048 % 8) * 2048 + (i 0).val % 2048) * 1024 + (i 1).val % 1024 = (i 0).val * 1024 + (i 1).val
      omega)

theorem Varg1_apply (c : Dev nD) (i : S8x16384x128.Idx) :
    (V m c main_arg1 : S8x16384x128.Idx → EReal) i = O m c (i 1).val (128 * (i 0).val + (i 2).val) := by
  have h0 : (i 0).val < 8 := (i 0).isLt
  have h1 : (i 1).val < 16384 := (i 1).isLt
  have h2 : (i 2).val < 128 := (i 2).isLt
  rw [V_main_arg1 m c]
  unfold O
  congr 1
  funext a
  apply Fin.ext
  match a with
  | ⟨0, _⟩ => show (i 0).val = (128 * (i 0).val + (i 2).val) / 128 % 8; omega
  | ⟨1, _⟩ => show (i 1).val = (i 1).val % 16384; omega
  | ⟨2, _⟩ => show (i 2).val = (128 * (i 0).val + (i 2).val) % 128; omega

theorem V1_apply (c : Dev nD) (i : S1024x1024.Idx) : (V m c main_v1 : S1024x1024.Idx → EReal) i = W m c (i 0).val (i 1).val := by
  have hV : (V m c main_v1 : S1024x1024.Idx → EReal)
      = shapeCast S1024x1024 (m ((c : Thread nD τ).loc main_arg2) : Vec Ideal S1x1024x1024 .f32) shapeCasts_S1x1024x1024_S1024x1024 := by
    show StableHlo.after hostOps0 _ _ = _
    after_results_simp <;> rfl
  rw [hV]
  exact shapeCast_apply (m ((c : Thread nD τ).loc main_arg2) : S1x1024x1024.Idx → EReal) shapeCasts_S1x1024x1024_S1024x1024 i
    (ix3 0 (Fin.ofNat 1024 (i 0).val) (Fin.ofNat 1024 (i 1).val)) (by
      show (Shape.rowMajor (s := S1x1024x1024) (ix3 0 (Fin.ofNat 1024 (i 0).val) (Fin.ofNat 1024 (i 1).val))).val = (Shape.rowMajor (s := S1024x1024) i).val
      rw [Shape.rowMajor_val_three, Shape.rowMajor_val_two]
      have h0 : (i 0).val < 1024 := (i 0).isLt
      have h1 : (i 1).val < 1024 := (i 1).isLt
      show (0 * 1024 + (i 0).val % 1024) * 1024 + (i 1).val % 1024 = (i 0).val * 1024 + (i 1).val
      omega)

/-! ## The windows' blocks -/

/-- The block each window is on at point `t`. -/
theorem index_facts : ∀ t : Fin cfg0.N, (win0_0.index t 0 = t.val ∧ win0_0.index t 1 = 0)
    ∧ (win0_1.index t 0 = 0 ∧ win0_1.index t 1 = t.val ∧ win0_1.index t 2 = 0) ∧ (win0_2.index t 0 = 0 ∧ win0_2.index t 1 = 0) :=
  (by decide +kernel : ∀ t : Fin grid0.N, _)

theorem blk0 (c : Dev nD) (t : Fin cfg0.N) (i : S1024x1024.Idx) :
    (iblk m c 0 t : S1024x1024.Idx → EReal) i = X m c (1024 * t.val + (i 0).val) (i 1).val := by
  obtain ⟨⟨e0, e1⟩, -⟩ := index_facts t
  unfold iblk
  rw [View.read_apply]
  refine (V0_apply m c _).trans ?_
  congr 1
  · show win0_0.index t 0 * 1024 + 1 * (i 0).val = _; rw [e0]; omega
  · show win0_0.index t 1 * 1024 + 1 * (i 1).val = _; rw [e1]; omega

theorem blk1 (c : Dev nD) (t : Fin cfg0.N) (i : S8x1024x128.Idx) :
    (iblk m c 1 t : S8x1024x128.Idx → EReal) i = O m c (1024 * t.val + (i 1).val) (128 * (i 0).val + (i 2).val) := by
  obtain ⟨-, ⟨e0, e1, e2⟩, -⟩ := index_facts t
  unfold iblk
  rw [View.read_apply]
  refine (Varg1_apply m c _).trans ?_
  congr 1
  · show win0_1.index t 1 * 1024 + 1 * (i 1).val = _; rw [e1]; omega
  · show 128 * (win0_1.index t 0 * 8 + 1 * (i 0).val) + (win0_1.index t 2 * 128 + 1 * (i 2).val) = _; rw [e0, e2]; omega

theorem blk2 (c : Dev nD) (t : Fin cfg0.N) (i : S1024x1024.Idx) : (iblk m c 2 t : S1024x1024.Idx → EReal) i = W m c (i 0).val (i 1).val := by
  obtain ⟨-, -, ⟨e0, e1⟩⟩ := index_facts t
  unfold iblk
  rw [View.read_apply]
  refine (V1_apply m c _).trans ?_
  congr 1
  · show win0_2.index t 0 * 1024 + 1 * (i 0).val = _; rw [e0]; omega
  · show win0_2.index t 1 * 1024 + 1 * (i 1).val = _; rw [e1]; omega

/-! ## The points in order -/

/-- What a point writes once the scratch holds the weights. -/
theorem point_eq (c : Dev nD) (t : Fin cfg0.N) (w : Vec Ideal S1024x1024 .bf16) (hw : ∀ i : S1024x1024.Idx, w i = W m c (i 0).val (i 1).val) (i : S1024x1024.Idx) :
    point (iblk m c 0 t) (iblk m c 1 t) w i
      = X m c (1024 * t.val + (i 0).val) (i 1).val + ∑ k : Fin 1024, O m c (1024 * t.val + (i 0).val) k.val * W m c k.val (i 1).val := by
  rw [point_apply]
  refine congrArg₂ (fun a b : EReal => a + b) (blk0 m c t i) (Finset.sum_congr rfl fun k _ => congrArg₂ (fun a b : EReal => a * b) ?_ (hw _))
  refine (blk1 m c t _).trans ?_
  exact congrArg (O m c _) (Nat.div_add_mod k.val 128)

theorem kept_eq (c : Dev nD) (t : Fin cfg0.N) (i : S1024x1024.Idx) : k0_pay1 (F := Ideal) (iblk m c 2 t) i = W m c (i 0).val (i 1).val := by
  rw [pay1_apply, blk2]

/-- What the scratch and the output's buffer hold after point `n`. -/
structure Holds (c : Dev nD) (n : ℕ) (s : Vec Ideal S1024x1024 .f32 × Vec Ideal S1024x1024 .bf16) : Prop where
  kept : ∀ i : S1024x1024.Idx, s.2 i = W m c (i 0).val (i 1).val
  out : ∀ i : S1024x1024.Idx, s.1 i
    = X m c (1024 * n + (i 0).val) (i 1).val + ∑ k : Fin 1024, O m c (1024 * n + (i 0).val) k.val * W m c k.val (i 1).val

theorem holds_A (c : Dev nD) (t : Fin cfg0.N) (s) (h0 : t.val % 16 = 0) : Holds m c t.val (stAt0 m c t.val t.isLt s) := by
  rw [stAt0_A m c t s h0]
  refine ⟨fun i => ?_, fun i => ?_⟩
  · dsimp only
    rw [kept_A]
    exact kept_eq m c t i
  · dsimp only
    rw [out_A]
    exact point_eq m c t _ (kept_eq m c t) i

theorem holds_B (c : Dev nD) (n : ℕ) (t : Fin cfg0.N) (s) (h0 : ¬t.val % 16 = 0) (hs : Holds m c n s) :
    Holds m c t.val (stAt0 m c t.val t.isLt s) := by
  rw [stAt0_B m c t s h0]
  refine ⟨fun i => hs.kept i, fun i => ?_⟩
  dsimp only
  rw [out_B]
  exact point_eq m c t _ hs.kept i

theorem holds (c : Dev nD) : ∀ (n : ℕ) (hn : n < cfg0.N), Holds m c n (outsAt0 m c n hn)
  | 0, hn => by rw [outsAt0_zero]; exact holds_A m c ⟨0, hn⟩ _ rfl
  | n + 1, hn => by
    have hN : cfg0.N = 16 := N_0
    rw [outsAt0_succ]
    exact holds_B m c n ⟨n + 1, hn⟩ _ (by show ¬(n + 1) % 16 = 0; omega) (holds c n _)

/-- The array after the run, at an index. -/
theorem G3_apply (c : Dev nD) (i : S16384x1024.Idx) : (G3 m c : S16384x1024.Idx → EReal) i
    = X m c (i 0).val (i 1).val + ∑ k : Fin 1024, O m c (i 0).val k.val * W m c k.val (i 1).val := by
  have h0 : (i 0).val < 16384 := (i 0).isLt
  have h1 : (i 1).val < 1024 := (i 1).isLt
  have hN : cfg0.N = 16 := N_0
  have hp : pt3Of i = (i 0).val / 1024 := by
    show 1 * ((i 0).val / 1024 - 0) + 1 * ((i 1).val / 1024 - 0) = _
    omega
  have hlt : pt3Of i < cfg0.N := by omega
  unfold G3
  rw [dif_pos hlt, ← outsAt0_sweep m c (pt3Of i) hlt, (holds m c (pt3Of i) hlt).out, hp]
  show X m c (1024 * ((i 0).val / 1024) + (i 0).val % 1024) ((i 1).val % 1024)
    + ∑ k : Fin 1024, O m c (1024 * ((i 0).val / 1024) + (i 0).val % 1024) k.val * W m c k.val ((i 1).val % 1024) = _
  rw [Nat.div_add_mod, Nat.mod_eq_of_lt h1]

end Cert.OutProjIdeal.Hand

end
-- ==== Proof.OutProjValue.lean ====
/- The reference of the attention's output projection read at an index, and the kernel's array beside it. -/
module

public import proofs.«01_k».proof.Proof.OutProjFold
public import proofs.«01_k».proof.Proof.Gen.OutProjRefIdeal.Run
public import proofs.«01_k».proof.Proof.Gen.OutProjRefIdeal.Read

@[expose] public section

noncomputable section

namespace Cert.OutProjIdeal.Hand

open Cert.OutProjRefIdeal Cert.OutProjRefIdeal.Read Idealize.ShloMosaic Idealize.ShloMosaic.TcCoe Idealize.SL.Sem

variable (x0 : S8x2048x1024.Idx → EReal) (x1 : S8x16384x128.Idx → EReal) (x2 : S1x1024x1024.Idx → EReal)

/-! ## The reference's arguments over natural-number indices -/

def X' (r k : ℕ) : EReal := x0 (ix3 (Fin.ofNat 8 (r / 2048)) (Fin.ofNat 2048 r) (Fin.ofNat 1024 k))
def O' (r k : ℕ) : EReal := x1 (ix3 (Fin.ofNat 8 (k / 128)) (Fin.ofNat 16384 r) (Fin.ofNat 128 k))
def W' (k j : ℕ) : EReal := x2 (ix3 0 (Fin.ofNat 1024 k) (Fin.ofNat 1024 j))

/-- The number of an entry of the heads' array, taken apart again. -/
theorem entry (g a b q : ℕ) (hg : g < 8) (ha : a < 8) (hb : b < 2048) (hq : q < 128) :
    (((g * 8 + a) * 2048 + b) * 128 + q) / 2097152 = g ∧ (((g * 8 + a) * 2048 + b) * 128 + q) / 128 % 16384 = 2048 * a + b
      ∧ (((g * 8 + a) * 2048 + b) * 128 + q) % 128 = q := by
  refine ⟨?_, ?_, ?_⟩ <;> omega

/-- The heads' outputs side by side, read at a batch, a position and a column. -/
theorem rows_at (i : S8x2048x1024.Idx) :
    val_main_v3 (F := Ideal) x1 i = O' x1 (2048 * (i 0).val + (i 1).val) (i 2).val := by
  have h0 : (i 0).val < 8 := (i 0).isLt
  have h1 : (i 1).val < 2048 := (i 1).isLt
  have h2 : (i 2).val < 1024 := (i 2).isLt
  have e0 : (((i 0).val * 2048 + (i 1).val) * 1024 + (i 2).val) / 2097152 = (i 0).val := by omega
  have e1 : (((i 0).val * 2048 + (i 1).val) * 1024 + (i 2).val) / 1024 % 2048 = (i 1).val := by omega
  have e2 : (((i 0).val * 2048 + (i 1).val) * 1024 + (i 2).val) / 128 % 8 = (i 2).val / 128 := by omega
  have e3 : (((i 0).val * 2048 + (i 1).val) * 1024 + (i 2).val) % 128 = (i 2).val % 128 := by omega
  obtain ⟨f0, f1, f2⟩ := entry ((i 2).val / 128) (i 0).val (i 1).val ((i 2).val % 128) (by omega) h0 h1 (Nat.mod_lt _ (by decide))
  rw [val_main_v3_apply, val_main_v2_apply, val_main_v1_apply, val_main_v0_apply]
  show x1 _ = x1 _
  congr 1
  funext a
  apply Fin.ext
  match a with
  | ⟨0, _⟩ =>
    show ((((((i 0).val * 2048 + (i 1).val) * 1024 + (i 2).val) / 128 % 8 * 8 + (((i 0).val * 2048 + (i 1).val) * 1024 + (i 2).val) / 2097152) * 2048
      + (((i 0).val * 2048 + (i 1).val) * 1024 + (i 2).val) / 1024 % 2048) * 128 + (((i 0).val * 2048 + (i 1).val) * 1024 + (i 2).val) % 128) / 2097152 = (i 2).val / 128 % 8
    rw [e0, e1, e2, e3, f0]
    exact (Nat.mod_eq_of_lt (by omega)).symm
  | ⟨1, _⟩ =>
    show ((((((i 0).val * 2048 + (i 1).val) * 1024 + (i 2).val) / 128 % 8 * 8 + (((i 0).val * 2048 + (i 1).val) * 1024 + (i 2).val) / 2097152) * 2048
      + (((i 0).val * 2048 + (i 1).val) * 1024 + (i 2).val) / 1024 % 2048) * 128 + (((i 0).val * 2048 + (i 1).val) * 1024 + (i 2).val) % 128) / 128 % 16384 = (2048 * (i 0).val + (i 1).val) % 16384
    rw [e0, e1, e2, e3, f1]
    exact (Nat.mod_eq_of_lt (by omega)).symm
  | ⟨2, _⟩ =>
    show ((((((i 0).val * 2048 + (i 1).val) * 1024 + (i 2).val) / 128 % 8 * 8 + (((i 0).val * 2048 + (i 1).val) * 1024 + (i 2).val) / 2097152) * 2048
      + (((i 0).val * 2048 + (i 1).val) * 1024 + (i 2).val) / 1024 % 2048) * 128 + (((i 0).val * 2048 + (i 1).val) * 1024 + (i 2).val) % 128) % 128 = (i 2).val % 128
    rw [e0, e1, e2, e3, f2]

theorem weight_at (i : S1024x1024.Idx) : val_main_v4 (F := Ideal) x2 i = W' x2 (i 0).val (i 1).val := by
  have h0 : (i 0).val < 1024 := (i 0).isLt
  have h1 : (i 1).val < 1024 := (i 1).isLt
  rw [val_main_v4_apply]
  unfold W'
  congr 1
  funext a
  apply Fin.ext
  match a with
  | ⟨0, _⟩ => rfl
  | ⟨1, _⟩ => show ((i 0).val * 1024 + (i 1).val) / 1024 % 1024 = (i 0).val % 1024; omega
  | ⟨2, _⟩ => show ((i 0).val * 1024 + (i 1).val) % 1024 = (i 1).val % 1024; omega

/-- The reference's result at an index. -/
theorem ref_apply (i : S16384x1024.Idx) : val_main_v7 (F := Ideal) x0 x1 x2 i
    = X' x0 (i 0).val (i 1).val + ∑ k : Fin 1024, O' x1 (i 0).val k.val * W' x2 k.val (i 1).val := by
  have h0 : (i 0).val < 16384 := (i 0).isLt
  have h1 : (i 1).val < 1024 := (i 1).isLt
  rw [val_main_v7_apply, val_main_v6_apply, val_main_v5_apply]
  refine congrArg₂ (fun a b : EReal => a + b) ?_ (Finset.sum_congr rfl fun k _ => congrArg₂ (fun a b : EReal => a * b) ?_ ?_)
  · unfold X'
    congr 1
    funext a
    apply Fin.ext
    match a with
    | ⟨0, _⟩ => show ((i 0).val * 1024 + (i 1).val) / 2097152 = (i 0).val / 2048 % 8; omega
    | ⟨1, _⟩ => show ((i 0).val * 1024 + (i 1).val) / 1024 % 2048 = (i 0).val % 2048; omega
    | ⟨2, _⟩ => show ((i 0).val * 1024 + (i 1).val) % 1024 = (i 1).val % 1024; omega
  · refine (rows_at x1 _).trans (congrArg (O' x1 · k.val) ?_)
    show 2048 * (((i 0).val * 1024 + (i 1).val) / 2097152) + ((i 0).val * 1024 + (i 1).val) / 1024 % 2048 = (i 0).val
    omega
  · refine (weight_at x2 _).trans (congrArg (W' x2 k.val) ?_)
    show ((i 0).val * 1024 + (i 1).val) % 1024 = (i 1).val
    omega

/-- What the kernel's array ends holding is the reference's result of the same arguments. -/
theorem value (m : (ℓ : Loc Cert.OutProjIdeal.nD Cert.OutProjIdeal.τ Cert.OutProjIdeal.sig) → Buf (Elt Ideal) ℓ) (c : Dev Cert.OutProjIdeal.nD) :
    val_main_v7 (F := Ideal) (m ((c : Thread Cert.OutProjIdeal.nD Cert.OutProjIdeal.τ).loc Cert.OutProjIdeal.main_arg0)) (m ((c : Thread Cert.OutProjIdeal.nD Cert.OutProjIdeal.τ).loc Cert.OutProjIdeal.main_arg1))
      (m ((c : Thread Cert.OutProjIdeal.nD Cert.OutProjIdeal.τ).loc Cert.OutProjIdeal.main_arg2))
      = (Cert.OutProjIdeal.Value.G3 m c : S16384x1024.Idx → EReal) := by
  funext i
  rw [ref_apply]
  exact (G3_apply m c i).symm

end Cert.OutProjIdeal.Hand

end
-- ==== Proof.lean ====
/- The claims about the routed experts, the SwiGLU layer, the chunked gMLP, the attention's output projection and the last
   call, which combines the experts' rows. -/
module

public import proofs.«01_k».proof.Defs
public import proofs.«01_k».proof.Proof.Gen.Ffn.Frame
public import proofs.«01_k».proof.Proof.Gen.FfnIdeal.Value
public import proofs.«01_k».proof.Proof.FfnValue
public import proofs.«01_k».proof.Proof.Gen.FfnRefIdeal.Run
public import proofs.«01_k».proof.Proof.ExpertsFrame
public import proofs.«01_k».proof.Proof.ExpertsOk
public import proofs.«01_k».proof.Proof.ExpertsValue
public import proofs.«01_k».proof.Proof.Gen.Kernel
public import proofs.«01_k».proof.Proof.Gen.ReferenceIdeal.Run
public import proofs.«01_k».proof.Proof.Gen.ReferenceIdeal.Read
public import proofs.«01_k».proof.Proof.Gen.Combine
public import proofs.«01_k».proof.Proof.Gen.Pre_places_named
public import proofs.«01_k».proof.Proof.Gen.Pre_segments_named
public import proofs.«01_k».proof.Proof.Gen.CombineIdeal.Launch
public import proofs.«01_k».proof.Proof.Gen.CombineIdeal.Loops
public import proofs.«01_k».proof.Proof.CombineFrame
public import proofs.«01_k».proof.Proof.CombineOk
public import proofs.«01_k».proof.Proof.CombineValue
public import proofs.«01_k».proof.Proof.Gen.CombineRefIdeal.Run
public import proofs.«01_k».proof.Proof.Gen.CombineRefIdeal.Read
public import proofs.«01_k».proof.Proof.Gen.Gmlp.Frame
public import proofs.«01_k».proof.Proof.Gen.GmlpIdeal.Value
public import proofs.«01_k».proof.Proof.Gen.GmlpRefIdeal.Run
public import proofs.«01_k».proof.Proof.Gen.GmlpRefIdeal.Read
public import proofs.«01_k».proof.Proof.GmlpValue
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProjValue
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  simp only [hagree c]
  exact (Cert.FfnRefIdeal.Read.val_main_v24_eq ..).trans (Cert.FfnIdeal.Hand.value m c)

/-! ## The routed experts: the two programs have one text, so one run serves both frames -/

theorem bodies_eq : Cert.Kernel.defs₀ (F := Bits) = Cert.KernelIdeal.defs₀ (F := Bits) := by
  unfold Cert.Kernel.defs₀ Cert.KernelIdeal.defs₀
  refine congrArg Defs.onTc ?_
  funext l p
  match l, p with
  | ⟨0, _⟩, (t, s) => rfl

theorem defs_eq : Cert.Kernel.defs (F := Bits) = Cert.KernelIdeal.defs (F := Bits) :=
  congrArg (Pipeline.defs (Cert.KernelIdeal.pcfgs (F := Bits))) bodies_eq

theorem frame_kernel : quiescent_Kernel := by
  intro m ρ h
  rw [defs_eq]
  exact Cert.KernelIdeal.Hand.run_frame (F := Bits) m ρ (Cert.KernelIdeal.Hand.ok_of m fun t => Cert.KernelIdeal.Hand.experts_named _ _ _ _ (h 0) t)

theorem frame_kernel_ideal : quiescent_KernelIdeal := fun m ρ h =>
  Cert.KernelIdeal.Hand.run_frame (F := Ideal) m ρ (Cert.KernelIdeal.Hand.ok_of m fun t => Cert.KernelIdeal.Hand.experts_named _ _ _ _ (h 0) t)

theorem frame_kernel_ideal_filled : quiescent_KernelIdeal_pre_tiles_filled := fun m ρ h =>
  Cert.KernelIdeal.Hand.run_frame (F := Ideal) m ρ (Cert.KernelIdeal.Hand.ok_of m fun t => Cert.KernelIdeal.Hand.tiles_named _ _ _ _ (h 0) t)

theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_filled : quiescent_ReferenceIdeal_pre_tiles_filled := fun m ρ _ => frame_reference m ρ trivial

theorem algebraic_KernelIdeal_ReferenceIdeal : algebraic_KernelIdeal_ReferenceIdeal_pre_tiles_filled := by
  intro m ρ m' ρ' hpre hagree
  have hx : ∀ t : Fin 43, (Cert.KernelIdeal.Hand.expertOf m t).toNat < 8 := fun t => Cert.KernelIdeal.Hand.tiles_named _ _ _ _ (hpre 0) t
  refine ⟨_, Cert.KernelIdeal.Hand.run_value m ρ (Cert.KernelIdeal.Hand.ok_of m hx) (fun c => Cert.KernelIdeal.Hand.filled_of m c (hpre c)), ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v30_eq ..).trans (Cert.KernelIdeal.Hand.value m c hx)

/-! ## The combination: again one text and one run for both frames -/

theorem combine_bodies_eq : Cert.Combine.defs₀ (F := Bits) = Cert.CombineIdeal.defs₀ (F := Bits) := by
  unfold Cert.Combine.defs₀ Cert.CombineIdeal.defs₀
  refine congrArg Defs.onTc ?_
  funext l p
  match l, p with
  | ⟨0, _⟩, (t, s) => rfl

theorem combine_defs_eq : Cert.Combine.defs (F := Bits) = Cert.CombineIdeal.defs (F := Bits) :=
  congrArg (Pipeline.defs (Cert.CombineIdeal.pcfgs (F := Bits))) combine_bodies_eq

theorem frame_combine : quiescent_Combine := by
  intro m ρ h
  rw [combine_defs_eq]
  exact Cert.CombineIdeal.Hand.run_frame (F := Bits) m ρ (Cert.CombineIdeal.Hand.named_of fun b e => Cert.CombineIdeal.Hand.segments_entry _ _ _ _ _ (h 0) b e)

theorem frame_combine_ideal : quiescent_CombineIdeal := fun m ρ h =>
  Cert.CombineIdeal.Hand.run_frame (F := Ideal) m ρ (Cert.CombineIdeal.Hand.named_of fun b e => Cert.CombineIdeal.Hand.segments_entry _ _ _ _ _ (h 0) b e)

theorem frame_combine_ideal_places : quiescent_CombineIdeal_pre_places_named := fun m ρ h =>
  Cert.CombineIdeal.Hand.run_frame (F := Ideal) m ρ (Cert.CombineIdeal.Hand.placed_of _ _ _ _ _ (h 0)).named

theorem frame_combine_reference : quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)

theorem frame_combine_reference_places : quiescent_CombineRefIdeal_pre_places_named := fun m ρ _ => frame_combine_reference m ρ trivial

theorem algebraic_CombineIdeal_CombineRefIdeal : algebraic_CombineIdeal_CombineRefIdeal_pre_places_named := by
  intro m ρ m' ρ' hpre hagree
  have hP : ∀ c, Cert.CombineIdeal.Hand.Placed (Cert.CombineIdeal.Hand.a0 m c) (Cert.CombineIdeal.Hand.a2 m c) :=
    fun c => Cert.CombineIdeal.Hand.placed_of _ _ _ _ _ (hpre c)
  refine ⟨_, Cert.CombineIdeal.Hand.run_value m ρ hP, ?_⟩
  refine (θ_run Cert.CombineRefIdeal.defs _ _).mono (fun _ h c => ⟨?_, (h c).2⟩) (Cert.CombineRefIdeal.Value.run (F := Ideal) m' ρ')
  rw [(h c).1]
  refine (Cert.CombineRefIdeal.Read.val_main_v75_eq m' c).trans ?_
  obtain ⟨e0, e1, e2, e3, e4⟩ := hagree c
  rw [e0, e1, e2, e3, e4]
  exact Cert.CombineIdeal.Hand.value m c (hP c)

/-! ## The chunked gMLP -/

theorem frame_gmlp_reference : quiescent_GmlpRefIdeal := fun m ρ _ =>
  (θ_run Cert.GmlpRefIdeal.defs _ _).mono (fun r h => ⟨fun c => (h c).2, sem_eq_zero_of_no_sems (by decide) r.2⟩)
    (Cert.GmlpRefIdeal.Value.run (F := Ideal) m ρ)

theorem algebraic_GmlpIdeal_GmlpRefIdeal : algebraic_GmlpIdeal_GmlpRefIdeal := by
  intro m ρ m' ρ' _ hagree
  refine ⟨_, Cert.GmlpIdeal.Value.run (F := Ideal) m ρ, ?_⟩
  refine (θ_run Cert.GmlpRefIdeal.defs _ _).mono (fun _ h c => ⟨?_, (h c).2⟩) (Cert.GmlpRefIdeal.Value.run (F := Ideal) m' ρ')
  rw [(h c).1]
  refine (Cert.GmlpRefIdeal.Read.val_main_v77_eq m' c).trans ?_
  obtain ⟨e0, e1, e2, e3, e4, e5, e6, e7⟩ := hagree c
  rw [e0, e1, e2, e3, e4, e5, e6, e7]
  exact Cert.GmlpIdeal.Hand.value m c

/-! ## The attention's output projection -/

theorem frame_out_proj_reference : quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem algebraic_OutProjIdeal_OutProjRefIdeal : algebraic_OutProjIdeal_OutProjRefIdeal := by
  intro m ρ m' ρ' _ hagree
  refine ⟨_, Cert.OutProjIdeal.Value.run (F := Ideal) m ρ, ?_⟩
  refine (θ_run Cert.OutProjRefIdeal.defs _ _).mono (fun _ h c => ⟨?_, (h c).2⟩) (Cert.OutProjRefIdeal.Value.run (F := Ideal) m' ρ')
  rw [(h c).1]
  simp only [hagree c]
  exact (Cert.OutProjRefIdeal.Read.val_main_v7_eq ..).trans (Cert.OutProjIdeal.Hand.value m c)

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Combine.Gen.facts, Cert.CombineIdeal.Gen.facts, Cert.CombineRefIdeal.Gen.facts,
  Cert.Gmlp.Gen.facts, Cert.GmlpIdeal.Gen.facts, Cert.GmlpRefIdeal.Gen.facts,
  Cert.OutProj.Gen.facts, Cert.OutProjIdeal.Gen.facts, Cert.OutProjRefIdeal.Gen.facts, Cert.Pre_tile_experts.Gen.facts, Cert.Pre_tiles_filled.Gen.facts,
  Cert.Pre_segments_named.Gen.facts, Cert.Pre_places_named.Gen.facts,
  frame_kernel, frame_kernel_ideal, frame_kernel_ideal_filled, frame_reference, frame_reference_filled,
  fun m ρ _ => Cert.Ffn.Gen.frame m ρ, fun m ρ _ => Cert.FfnIdeal.Gen.frame m ρ, quiescent_FfnRefIdeal,
  frame_combine, frame_combine_ideal, frame_combine_ideal_places, frame_combine_reference, frame_combine_reference_places,
  fun m ρ _ => Cert.Gmlp.Gen.frame m ρ, fun m ρ _ => Cert.GmlpIdeal.Gen.frame m ρ, frame_gmlp_reference,
  fun m ρ _ => Cert.OutProj.Gen.frame m ρ, fun m ρ _ => Cert.OutProjIdeal.Gen.frame m ρ, frame_out_proj_reference,
  (trivial : preserves_Kernel_KernelIdeal), algebraic_KernelIdeal_ReferenceIdeal,
  (trivial : preserves_Ffn_FfnIdeal), algebraic_FfnIdeal_FfnRefIdeal,
  (trivial : preserves_Combine_CombineIdeal), algebraic_CombineIdeal_CombineRefIdeal,
  (trivial : preserves_Gmlp_GmlpIdeal), algebraic_GmlpIdeal_GmlpRefIdeal,
  (trivial : preserves_OutProj_OutProjIdeal), algebraic_OutProjIdeal_OutProjRefIdeal⟩

end Cert.Proof

end
